-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gains_finite [hPre_gains_finite : Cert.Pre_gains_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gains_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gains_finite [hPre_gains_finite : Cert.Pre_gains_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gains_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gains_and_history_finite [hPre_gains_and_history_finite : Cert.Pre_gains_and_history_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gains_and_history_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gains_and_history_finite [hPre_gains_and_history_finite : Cert.Pre_gains_and_history_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gains_and_history_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_gains_finite [hKernel2Ideal : Cert.Kernel2Ideal.Facts] [hPre_gains_finite : Cert.Pre_gains_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gains_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_gains_finite [hReference2Ideal : Cert.Reference2Ideal.Facts] [hPre_gains_finite : Cert.Pre_gains_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gains_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_gains_and_history_finite [hKernel3Ideal : Cert.Kernel3Ideal.Facts] [hPre_gains_and_history_finite : Cert.Pre_gains_and_history_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gains_and_history_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_gains_and_history_finite [hReference3Ideal : Cert.Reference3Ideal.Facts] [hPre_gains_and_history_finite : Cert.Pre_gains_and_history_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gains_and_history_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal_pre_gains_finite [hKernel2Ideal : Cert.Kernel2Ideal.Facts] [hReference2Ideal : Cert.Reference2Ideal.Facts] [hPre_gains_finite : Cert.Pre_gains_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gains_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v151) = v0 c
          ∧ r.2.mem ((c.tc : Thread Cert.Reference2Ideal.nD Cert.Reference2Ideal.τ).loc Cert.Reference2Ideal.main_v152) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal_pre_gains_and_history_finite [hKernel3Ideal : Cert.Kernel3Ideal.Facts] [hReference3Ideal : Cert.Reference3Ideal.Facts] [hPre_gains_and_history_finite : Cert.Pre_gains_and_history_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gains_and_history_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v151) = v0 c
          ∧ r.2.mem ((c.tc : Thread Cert.Reference3Ideal.nD Cert.Reference3Ideal.τ).loc Cert.Reference3Ideal.main_v152) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_gains_finite : Cert.Pre_gains_finite.Facts) (hPre_gains_and_history_finite : Cert.Pre_gains_and_history_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_gains_finite (hKernel2Ideal := hKernel2Ideal) (hPre_gains_finite := hPre_gains_finite)
    ∧ quiescent_Reference2Ideal (hReference2Ideal := hReference2Ideal)
    ∧ quiescent_Reference2Ideal_pre_gains_finite (hReference2Ideal := hReference2Ideal) (hPre_gains_finite := hPre_gains_finite)
    ∧ quiescent_Kernel3 (hKernel3 := hKernel3)
    ∧ quiescent_Kernel3Ideal (hKernel3Ideal := hKernel3Ideal)
    ∧ quiescent_Kernel3Ideal_pre_gains_and_history_finite (hKernel3Ideal := hKernel3Ideal) (hPre_gains_and_history_finite := hPre_gains_and_history_finite)
    ∧ quiescent_Reference3Ideal (hReference3Ideal := hReference3Ideal)
    ∧ quiescent_Reference3Ideal_pre_gains_and_history_finite (hReference3Ideal := hReference3Ideal) (hPre_gains_and_history_finite := hPre_gains_and_history_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_gains_finite (hKernel2Ideal := hKernel2Ideal) (hReference2Ideal := hReference2Ideal) (hPre_gains_finite := hPre_gains_finite)
    ∧ preserves_Kernel3_Kernel3Ideal
    ∧ algebraic_Kernel3Ideal_Reference3Ideal_pre_gains_and_history_finite (hKernel3Ideal := hKernel3Ideal) (hReference3Ideal := hReference3Ideal) (hPre_gains_and_history_finite := hPre_gains_and_history_finite)
-- ==== Pre_gains_and_history_finite.lean ====
abbrev S16x16x1024 : Shape := ⟨3, ![16, 16, 1024]⟩
abbrev S2x16x16x256 : Shape := ⟨4, ![2, 16, 16, 256]⟩
abbrev S1x16x15x1024 : Shape := ⟨4, ![1, 16, 15, 1024]⟩
abbrev S2x1024 : Shape := ⟨2, ![2, 1024]⟩
abbrev S1x4x256x256 : Shape := ⟨4, ![1, 4, 256, 256]⟩
abbrev S1x1024 : Shape := ⟨2, ![1, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x1024 : Shape := ⟨3, ![2, 1024, 1024]⟩
abbrev S240x1024 : Shape := ⟨2, ![240, 1024]⟩
abbrev S241x1024 : Shape := ⟨2, ![241, 1024]⟩
abbrev S_ : Shape := ⟨0, ![]⟩

class Facts : Prop where
  slices_S2x1024_S1x1024_0_0 : S2x1024.Slices ![0, 0] S1x1024
  shapeCasts_S1x16x15x1024_S240x1024 : S1x16x15x1024.ShapeCasts S240x1024
  concatenates_S1x1024_S240x1024_S241x1024_d0 : Shape.Concatenates [S1x1024, S240x1024] S241x1024 0
  bcast_S_S241x1024 : S_.BroadcastsInDim S241x1024 (![] : Fin 0 → Fin S241x1024.rank)

variable [Facts]

def fn {F : FTy → Type} [FloatOps F] (main_arg0 : FVec F S16x16x1024 .f32) (main_arg1 : FVec F S2x16x16x256 .f32) (main_arg2 : FVec F S1x16x15x1024 .f32) (main_arg3 : FVec F S2x1024 .f32) (main_arg4 : FVec F S2x1024 .f32) (main_arg5 : FVec F S2x1024 .f32) (main_arg6 : FVec F S1x4x256x256 .f32) (main_arg7 : FVec F S1x1024 .f32) (main_arg8 : FVec F S1x1024 .f32) (main_arg9 : FVec F S2x1024x2816 .f32) (main_arg10 : FVec F S2x1024x2816 .f32) (main_arg11 : FVec F S2x2816x1024 .f32) (main_arg12 : FVec F S2x256x1024 .f32) (main_arg13 : FVec F S2x1024x1024 .f32) : IVec S241x1024 1 :=
  let main_v0 : FVec F S1x1024 .f32 := (extractStridedSlice S1x1024 ![0, 0] · slices_S2x1024_S1x1024_0_0) main_arg3
  let main_v1 : FVec F S240x1024 .f32 := shapeCast S240x1024 main_arg2 shapeCasts_S1x16x15x1024_S240x1024
  let main_v2 : FVec F S241x1024 .f32 := (fun a b => concatenate S241x1024 0 [⟨S1x1024, a⟩, ⟨S240x1024, b⟩] concatenates_S1x1024_S240x1024_S241x1024_d0) main_v0 main_v1
  let main_v3 : FVec F S241x1024 .f32 := Host.absf main_v2
  let main_cst : FVec F S_ .f32 := constant S_ .f32 0x7F800000#32
  let main_v4 : FVec F S241x1024 .f32 := broadcastInDim S241x1024 ![] bcast_S_S241x1024 main_cst
  let main_v5 : IVec S241x1024 1 := cmpf .olt main_v3 main_v4
  main_v5
-- ==== Pre_gains_finite.lean ====
abbrev S4x4096x1024 : Shape := ⟨3, ![4, 4096, 1024]⟩
abbrev S2x4x4096x256 : Shape := ⟨4, ![2, 4, 4096, 256]⟩
abbrev S2x1024 : Shape := ⟨2, ![2, 1024]⟩
abbrev S1x4x256x256 : Shape := ⟨4, ![1, 4, 256, 256]⟩
abbrev S1x1024 : Shape := ⟨2, ![1, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x1024 : Shape := ⟨3, ![2, 1024, 1024]⟩
abbrev S1024 : Shape := ⟨1, ![1024]⟩
abbrev S_ : Shape := ⟨0, ![]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)

variable [Facts]

def fn {F : FTy → Type} [FloatOps F] (main_arg0 : FVec F S4x4096x1024 .f32) (main_arg1 : FVec F S2x4x4096x256 .f32) (main_arg2 : FVec F S2x1024 .f32) (main_arg3 : FVec F S2x1024 .f32) (main_arg4 : FVec F S2x1024 .f32) (main_arg5 : FVec F S1x4x256x256 .f32) (main_arg6 : FVec F S1x1024 .f32) (main_arg7 : FVec F S1x1024 .f32) (main_arg8 : FVec F S2x1024x2816 .f32) (main_arg9 : FVec F S2x1024x2816 .f32) (main_arg10 : FVec F S2x2816x1024 .f32) (main_arg11 : FVec F S2x256x1024 .f32) (main_arg12 : FVec F S2x1024x1024 .f32) : IVec S1024 1 :=
  let main_v0 : FVec F S1x1024 .f32 := (extractStridedSlice S1x1024 ![0, 0] · slices_S2x1024_S1x1024_0_0) main_arg2
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  main_v4
-- ==== Kernel.lean ====
abbrev S4x4096x1024 : Shape := ⟨3, ![4, 4096, 1024]⟩
abbrev S2x4x4096x256 : Shape := ⟨4, ![2, 4, 4096, 256]⟩
abbrev S2x1024 : Shape := ⟨2, ![2, 1024]⟩
abbrev S1024 : Shape := ⟨1, ![1024]⟩
abbrev S1x1024x3088 : Shape := ⟨3, ![1, 1024, 3088]⟩
abbrev S1x16x512 : Shape := ⟨3, ![1, 16, 512]⟩
abbrev S1x512 : Shape := ⟨2, ![1, 512]⟩
abbrev S1x256 : Shape := ⟨2, ![1, 256]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x1024 : Shape := ⟨3, ![2, 1024, 1024]⟩
abbrev S1x1024 : Shape := ⟨2, ![1, 1024]⟩
abbrev S512 : Shape := ⟨1, ![512]⟩
abbrev S256 : Shape := ⟨1, ![256]⟩
abbrev S_ : Shape := ⟨0, ![]⟩
abbrev S8x1024 : Shape := ⟨2, ![8, 1024]⟩
abbrev S1x8x1024 : Shape := ⟨3, ![1, 8, 1024]⟩
abbrev S1x1024x16 : Shape := ⟨3, ![1, 1024, 16]⟩
abbrev S1x1024x128 : Shape := ⟨3, ![1, 1024, 128]⟩
abbrev S1x128x512 : Shape := ⟨3, ![1, 128, 512]⟩
abbrev S1x4x4x128x256 : Shape := ⟨5, ![1, 4, 4, 128, 256]⟩
abbrev S1x1x4x128x256 : Shape := ⟨5, ![1, 1, 4, 128, 256]⟩
abbrev S1x512x1024 : Shape := ⟨3, ![1, 512, 1024]⟩
abbrev S1x1x512x256 : Shape := ⟨4, ![1, 1, 512, 256]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x4x128x256 : Shape := ⟨4, ![1, 4, 128, 256]⟩
abbrev S256x1024 : Shape := ⟨2, ![256, 1024]⟩
abbrev S1x1x1024 : Shape := ⟨3, ![1, 1, 1024]⟩
abbrev S256x1 : Shape := ⟨2, ![256, 1]⟩
abbrev S1024x128 : Shape := ⟨2, ![1024, 128]⟩
abbrev S256x128 : Shape := ⟨2, ![256, 128]⟩
abbrev S1x1024x512 : Shape := ⟨3, ![1, 1024, 512]⟩
abbrev S1024x512 : Shape := ⟨2, ![1024, 512]⟩
abbrev S256x512 : Shape := ⟨2, ![256, 512]⟩
abbrev S128x512 : Shape := ⟨2, ![128, 512]⟩
abbrev S1x1x512 : Shape := ⟨3, ![1, 1, 512]⟩
abbrev S256x256 : Shape := ⟨2, ![256, 256]⟩
abbrev S64x512 : Shape := ⟨2, ![64, 512]⟩
abbrev S128x128 : Shape := ⟨2, ![128, 128]⟩
abbrev S1x1x256 : Shape := ⟨3, ![1, 1, 256]⟩
abbrev S512x256 : Shape := ⟨2, ![512, 256]⟩
abbrev S1x1x1x128x256 : Shape := ⟨5, ![1, 1, 1, 128, 256]⟩
abbrev S128x256 : Shape := ⟨2, ![128, 256]⟩
abbrev S1x128 : Shape := ⟨2, ![1, 128]⟩
abbrev S128 : Shape := ⟨1, ![128]⟩
abbrev S128x1 : Shape := ⟨2, ![128, 1]⟩
abbrev S1x256x256 : Shape := ⟨3, ![1, 256, 256]⟩
abbrev S1024x1024 : Shape := ⟨2, ![1024, 1024]⟩
abbrev S1x1024x256 : Shape := ⟨3, ![1, 1024, 256]⟩
abbrev S1024x256 : Shape := ⟨2, ![1024, 256]⟩
abbrev S1x1x256x256 : Shape := ⟨4, ![1, 1, 256, 256]⟩

abbrev nBuf : Space → Nat
  | .hbm => 74
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S2x4x4096x256, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024, .f32⟩
  | .hbm, ⟨6, _⟩ => ⟨S1x1024x3088, .f32⟩
  | .hbm, ⟨7, _⟩ => ⟨S1x16x512, .f32⟩
  | .hbm, ⟨8, _⟩ => ⟨S1x512, .f32⟩
  | .hbm, ⟨9, _⟩ => ⟨S1x256, .f32⟩
  | .hbm, ⟨10, _⟩ => ⟨S1x1024x1024, .f32⟩
  | .hbm, ⟨11, _⟩ => ⟨S2x1024x2816, .f32⟩
  | .hbm, ⟨12, _⟩ => ⟨S2x1024x2816, .f32⟩
  | .hbm, ⟨13, _⟩ => ⟨S2x2816x1024, .f32⟩
  | .hbm, ⟨14, _⟩ => ⟨S2x256x1024, .f32⟩
  | .hbm, ⟨15, _⟩ => ⟨S2x1024x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S512, .f32⟩
  | .hbm, ⟨23, _⟩ => ⟨S256, .f32⟩
  | .hbm, ⟨24, _⟩ => ⟨S_, .i32⟩
  | .hbm, ⟨25, _⟩ => ⟨S_, .f32⟩
  | .hbm, ⟨26, _⟩ => ⟨S1024, .f32⟩
  | .hbm, ⟨27, _⟩ => ⟨S_, .i32⟩
  | .hbm, ⟨28, _⟩ => ⟨S_, .f32⟩
  | .hbm, ⟨29, _⟩ => ⟨S1024, .f32⟩
  | .hbm, ⟨30, _⟩ => ⟨S_, .i32⟩
  | .hbm, ⟨31, _⟩ => ⟨S_, .f32⟩
  | .hbm, ⟨32, _⟩ => ⟨S1024, .f32⟩
  | .hbm, ⟨33, _⟩ => ⟨S_, .i32⟩
  | .hbm, ⟨34, _⟩ => ⟨S_, .f32⟩
  | .hbm, ⟨35, _⟩ => ⟨S1024, .f32⟩
  | .hbm, ⟨36, _⟩ => ⟨S_, .i32⟩
  | .hbm, ⟨37, _⟩ => ⟨S_, .f32⟩
  | .hbm, ⟨38, _⟩ => ⟨S1024, .f32⟩
  | .hbm, ⟨39, _⟩ => ⟨S_, .i32⟩
  | .hbm, ⟨40, _⟩ => ⟨S_, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S8x1024, .f32⟩
  | .hbm, ⟨53, _⟩ => ⟨S1x8x1024, .f32⟩
  | .hbm, ⟨54, _⟩ => ⟨S2x1024x2816, .bf16⟩
  | .hbm, ⟨55, _⟩ => ⟨S2x1024x2816, .bf16⟩
  | .hbm, ⟨56, _⟩ => ⟨S2x2816x1024, .bf16⟩
  | .hbm, ⟨57, _⟩ => ⟨S2x1024x1024, .bf16⟩
  | .hbm, ⟨58, _⟩ => ⟨S2x256x1024, .bf16⟩
  | .hbm, ⟨59, _⟩ => ⟨S1x1024x3088, .bf16⟩
  | .hbm, ⟨60, _⟩ => ⟨S1x1024x16, .f32⟩
  | .hbm, ⟨61, _⟩ => ⟨S1x1024x16, .bf16⟩
  | .hbm, ⟨62, _⟩ => ⟨S_, .i32⟩
  | .hbm, ⟨63, _⟩ => ⟨S_, .bf16⟩
  | .hbm, ⟨64, _⟩ => ⟨S1x1024x128, .bf16⟩
  | .hbm, ⟨65, _⟩ => ⟨S1x16x512, .bf16⟩
  | .hbm, ⟨66, _⟩ => ⟨S_, .i32⟩
  | .hbm, ⟨67, _⟩ => ⟨S_, .bf16⟩
  | .hbm, ⟨68, _⟩ => ⟨S1x128x512, .bf16⟩
  | .hbm, ⟨69, _⟩ => ⟨S1x1024x1024, .bf16⟩
  | .hbm, ⟨70, _⟩ => ⟨S_, .f32⟩
  | .hbm, ⟨71, _⟩ => ⟨S1x4x4x128x256, .f32⟩
  | .hbm, ⟨72, _⟩ => ⟨S4x4096x1024, .f32⟩
  | .hbm, ⟨73, _⟩ => ⟨S1x4x4x128x256, .f32⟩
  | .local _ .vmem, ⟨0, _⟩ => ⟨S1x1x4x128x256, .f32⟩
  | .local _ .vmem, ⟨1, _⟩ => ⟨S1x512x1024, .f32⟩
  | .local _ .vmem, ⟨2, _⟩ => ⟨S1x512x1024, .f32⟩
  | .local _ .vmem, ⟨3, _⟩ => ⟨S1x1x512x256, .f32⟩
  | .local _ .vmem, ⟨4, _⟩ => ⟨S1x1x512x256, .f32⟩
  | .local _ .vmem, ⟨5, _⟩ => ⟨S1x8x1024, .f32⟩
  | .local _ .vmem, ⟨6, _⟩ => ⟨S1x1024x3088, .bf16⟩
  | .local _ .vmem, ⟨7, _⟩ => ⟨S1x1024x128, .bf16⟩
  | .local _ .vmem, ⟨8, _⟩ => ⟨S1x128x512, .bf16⟩
  | .local _ .vmem, ⟨9, _⟩ => ⟨S1x1024x1024, .bf16⟩
  | .local _ .vmem, ⟨10, _⟩ => ⟨S1x1024x2816, .bf16⟩
  | .local _ .vmem, ⟨11, _⟩ => ⟨S1x1024x2816, .bf16⟩
  | .local _ .vmem, ⟨12, _⟩ => ⟨S1x2816x1024, .bf16⟩
  | .local _ .vmem, ⟨13, _⟩ => ⟨S1x1024x1024, .bf16⟩
  | .local _ .vmem, ⟨14, _⟩ => ⟨S1x256x1024, .bf16⟩
  | .local _ .vmem, ⟨15, _⟩ => ⟨S1x512x1024, .f32⟩
  | .local _ .vmem, ⟨16, _⟩ => ⟨S1x512x1024, .f32⟩
  | .local _ .vmem, ⟨17, _⟩ => ⟨S1x1x4x128x256, .f32⟩
  | .local _ .vmem, ⟨18, _⟩ => ⟨S1x1x4x128x256, .f32⟩
  | .local _ .vmem, ⟨19, _⟩ => ⟨S1x512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_call0_v0 : Ref sig .tc := ⟨.hbm, 25, rfl⟩
abbrev main_v8 : Ref sig .tc := ⟨.hbm, 26, rfl⟩
abbrev main_c_0 : Ref sig .tc := ⟨.hbm, 27, rfl⟩
abbrev main_call1_v0 : Ref sig .tc := ⟨.hbm, 28, rfl⟩
abbrev main_v9 : Ref sig .tc := ⟨.hbm, 29, rfl⟩
abbrev main_c_1 : Ref sig .tc := ⟨.hbm, 30, rfl⟩
abbrev main_call2_v0 : Ref sig .tc := ⟨.hbm, 31, rfl⟩
abbrev main_v10 : Ref sig .tc := ⟨.hbm, 32, rfl⟩
abbrev main_c_2 : Ref sig .tc := ⟨.hbm, 33, rfl⟩
abbrev main_call3_v0 : Ref sig .tc := ⟨.hbm, 34, rfl⟩
abbrev main_v11 : Ref sig .tc := ⟨.hbm, 35, rfl⟩
abbrev main_c_3 : Ref sig .tc := ⟨.hbm, 36, rfl⟩
abbrev main_call4_v0 : Ref sig .tc := ⟨.hbm, 37, rfl⟩
abbrev main_v12 : Ref sig .tc := ⟨.hbm, 38, rfl⟩
abbrev main_c_4 : Ref sig .tc := ⟨.hbm, 39, rfl⟩
abbrev main_call5_v0 : Ref sig .tc := ⟨.hbm, 40, rfl⟩
abbrev main_v13 : Ref sig .tc := ⟨.hbm, 41, rfl⟩
abbrev main_cst : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_5 : Ref sig .tc := ⟨.hbm, 62, rfl⟩
abbrev main_call6_v0 : Ref sig .tc := ⟨.hbm, 63, rfl⟩
abbrev main_v33 : Ref sig .tc := ⟨.hbm, 64, rfl⟩
abbrev main_v34 : Ref sig .tc := ⟨.hbm, 65, rfl⟩
abbrev main_c_6 : Ref sig .tc := ⟨.hbm, 66, rfl⟩
abbrev main_call7_v0 : Ref sig .tc := ⟨.hbm, 67, rfl⟩
abbrev main_v35 : Ref sig .tc := ⟨.hbm, 68, rfl⟩
abbrev main_v36 : Ref sig .tc := ⟨.hbm, 69, rfl⟩
abbrev main_cst_7 : Ref sig .tc := ⟨.hbm, 70, rfl⟩
abbrev main_v37 : Ref sig .tc := ⟨.hbm, 71, rfl⟩
abbrev main_v38_0 : Ref sig .tc := ⟨.hbm, 72, rfl⟩
abbrev main_v38_1 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 1 → Memref sig .tc .vmem S1x1x4x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x3088 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x4x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S4x4096x1024 : Shape := ⟨3, ![4, 4096, 1024]⟩
abbrev S2x4x4096x256 : Shape := ⟨4, ![2, 4, 4096, 256]⟩
abbrev S2x1024 : Shape := ⟨2, ![2, 1024]⟩
abbrev S1024 : Shape := ⟨1, ![1024]⟩
abbrev S1x1024x3088 : Shape := ⟨3, ![1, 1024, 3088]⟩
abbrev S1x16x512 : Shape := ⟨3, ![1, 16, 512]⟩
abbrev S1x512 : Shape := ⟨2, ![1, 512]⟩
abbrev S1x256 : Shape := ⟨2, ![1, 256]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x1024 : Shape := ⟨3, ![2, 1024, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3088 : Shape := ⟨2, ![1024, 3088]⟩
abbrev S4x4096x3088 : Shape := ⟨3, ![4, 4096, 3088]⟩
abbrev S4x4096x512 : Shape := ⟨3, ![4, 4096, 512]⟩
abbrev S4x4096x16 : Shape := ⟨3, ![4, 4096, 16]⟩
abbrev S16x512 : Shape := ⟨2, ![16, 512]⟩
abbrev S512 : Shape := ⟨1, ![512]⟩
abbrev S1x1x512 : Shape := ⟨3, ![1, 1, 512]⟩
abbrev S4x4096x4x128 : Shape := ⟨4, ![4, 4096, 4, 128]⟩
abbrev S4x4096x4x256 : Shape := ⟨4, ![4, 4096, 4, 256]⟩
abbrev S4x4x128x256 : Shape := ⟨4, ![4, 4, 128, 256]⟩
abbrev S64x64 : Shape := ⟨2, ![64, 64]⟩
abbrev S4x64x64x4x128 : Shape := ⟨5, ![4, 64, 64, 4, 128]⟩
abbrev S64x4x64x4x128 : Shape := ⟨5, ![64, 4, 64, 4, 128]⟩
abbrev S4x64x64x4x256 : Shape := ⟨5, ![4, 64, 64, 4, 256]⟩
abbrev S64x4x64x4x256 : Shape := ⟨5, ![64, 4, 64, 4, 256]⟩
abbrev S1x4x64x4x128 : Shape := ⟨5, ![1, 4, 64, 4, 128]⟩
abbrev S4x64x4x128 : Shape := ⟨4, ![4, 64, 4, 128]⟩
abbrev S1x4x64x4x256 : Shape := ⟨5, ![1, 4, 64, 4, 256]⟩
abbrev S4x64x4x256 : Shape := ⟨4, ![4, 64, 4, 256]⟩
abbrev S4x4x64x64 : Shape := ⟨4, ![4, 4, 64, 64]⟩
abbrev S4x4x256x64 : Shape := ⟨4, ![4, 4, 256, 64]⟩
abbrev S4x1x4x128 : Shape := ⟨4, ![4, 1, 4, 128]⟩
abbrev S4x4x128 : Shape := ⟨3, ![4, 4, 128]⟩
abbrev S4x4x128x1 : Shape := ⟨4, ![4, 4, 128, 1]⟩
abbrev S4x4096x4 : Shape := ⟨3, ![4, 4096, 4]⟩
abbrev S4x4096x4x1 : Shape := ⟨4, ![4, 4096, 4, 1]⟩
abbrev S256 : Shape := ⟨1, ![256]⟩
abbrev S1x1x1x256 : Shape := ⟨4, ![1, 1, 1, 256]⟩
abbrev S1024x1024 : Shape := ⟨2, ![1024, 1024]⟩
abbrev S1x1024x2816 : Shape := ⟨3, ![1, 1024, 2816]⟩
abbrev S1024x2816 : Shape := ⟨2, ![1024, 2816]⟩
abbrev S4x4096x2816 : Shape := ⟨3, ![4, 4096, 2816]⟩
abbrev S1x2816x1024 : Shape := ⟨3, ![1, 2816, 1024]⟩
abbrev S2816x1024 : Shape := ⟨2, ![2816, 1024]⟩
abbrev S1x4x4096x256 : Shape := ⟨4, ![1, 4, 4096, 256]⟩
abbrev S4x4096x256 : Shape := ⟨3, ![4, 4096, 256]⟩
abbrev S1x256x1024 : Shape := ⟨3, ![1, 256, 1024]⟩
abbrev S256x1024 : Shape := ⟨2, ![256, 1024]⟩
abbrev S1x4x4x128x256 : Shape := ⟨5, ![1, 4, 4, 128, 256]⟩

abbrev nBuf : Space → Nat
  | .hbm => 295
  | .vmem => 0
  | .smem => 0
  | _ => 0

abbrev hbmTy0_0 (i : Nat) : BufTy := match i % 128 with
  | 0 => ⟨S4x4096x1024, .f32⟩
  | 1 => ⟨S2x4x4096x256, .f32⟩
  | 2 => ⟨S2x1024, .f32⟩
  | 3 => ⟨S2x1024, .f32⟩
  | 4 => ⟨S2x1024, .f32⟩
  | 5 => ⟨S1024, .f32⟩
  | 6 => ⟨S1x1024x3088, .f32⟩
  | 7 => ⟨S1x16x512, .f32⟩
  | 8 => ⟨S1x512, .f32⟩
  | 9 => ⟨S1x256, .f32⟩
  | 10 => ⟨S1x1024x1024, .f32⟩
  | 11 => ⟨S2x1024x2816, .f32⟩
  | 12 => ⟨S2x1024x2816, .f32⟩
  | 13 => ⟨S2x2816x1024, .f32⟩
  | 14 => ⟨S2x256x1024, .f32⟩
  | 15 => ⟨S2x1024x1024, .f32⟩
  | 16 => ⟨S1x1024, .f32⟩
  | 17 => ⟨S1024, .f32⟩
  | 18 => ⟨S4x4096x1024, .f32⟩
  | 19 => ⟨S_, .f32⟩
  | 20 => ⟨S4x4096, .f32⟩
  | 21 => ⟨S4x4096x1, .f32⟩
  | 22 => ⟨S_, .f32⟩
  | 23 => ⟨S4x4096x1, .f32⟩
  | 24 => ⟨S4x4096x1, .f32⟩
  | 25 => ⟨S_, .f32⟩
  | 26 => ⟨S4x4096x1, .f32⟩
  | 27 => ⟨S4x4096x1, .f32⟩
  | 28 => ⟨S4x4096x1, .f32⟩
  | 29 => ⟨S4x4096x1024, .f32⟩
  | 30 => ⟨S4x4096x1024, .f32⟩
  | 31 => ⟨S1x1x1024, .f32⟩
  | 32 => ⟨S4x4096x1024, .f32⟩
  | 33 => ⟨S4x4096x1024, .f32⟩
  | 34 => ⟨S1024x3088, .f32⟩
  | 35 => ⟨S4x4096x3088, .f32⟩
  | 36 => ⟨S4x4096x512, .f32⟩
  | 37 => ⟨S4x4096x512, .f32⟩
  | 38 => ⟨S4x4096x1024, .f32⟩
  | 39 => ⟨S4x4096x1024, .f32⟩
  | 40 => ⟨S4x4096x16, .f32⟩
  | 41 => ⟨S16x512, .f32⟩
  | 42 => ⟨S4x4096x512, .f32⟩
  | 43 => ⟨S512, .f32⟩
  | 44 => ⟨S1x1x512, .f32⟩
  | 45 => ⟨S4x4096x512, .f32⟩
  | 46 => ⟨S4x4096x512, .f32⟩
  | 47 => ⟨S4x4096x512, .f32⟩
  | 48 => ⟨S_, .f32⟩
  | 49 => ⟨S4x4096x512, .f32⟩
  | 50 => ⟨S4x4096x512, .f32⟩
  | 51 => ⟨S4x4096x512, .f32⟩
  | 52 => ⟨S4x4096x512, .f32⟩
  | 53 => ⟨S4x4096x512, .i1⟩
  | 54 => ⟨S4x4096x512, .f32⟩
  | 55 => ⟨S4x4096x512, .f32⟩
  | 56 => ⟨S4x4096x512, .f32⟩
  | 57 => ⟨S4x4096x512, .f32⟩
  | 58 => ⟨S4x4096x512, .f32⟩
  | 59 => ⟨S4x4096x512, .f32⟩
  | 60 => ⟨S4x4096x512, .f32⟩
  | 61 => ⟨S4x4096x512, .f32⟩
  | 62 => ⟨S4x4096x512, .f32⟩
  | 63 => ⟨S_, .f32⟩
  | 64 => ⟨S4x4096x512, .f32⟩
  | 65 => ⟨S4x4096x512, .f32⟩
  | 66 => ⟨S4x4096x4x128, .f32⟩
  | 67 => ⟨S_, .f32⟩
  | 68 => ⟨S4x4096x4x128, .f32⟩
  | 69 => ⟨S4x4096x4x128, .f32⟩
  | 70 => ⟨S4x4096x4x128, .f32⟩
  | 71 => ⟨S4x4096x4x256, .f32⟩
  | 72 => ⟨S4x4096x4x128, .f32⟩
  | 73 => ⟨S_, .f32⟩
  | 74 => ⟨S4x4x128x256, .f32⟩
  | 75 => ⟨S_, .i1⟩
  | 76 => ⟨S64x64, .i1⟩
  | 77 => ⟨S64x64, .i32⟩
  | 78 => ⟨S_, .i32⟩
  | 79 => ⟨S64x64, .i32⟩
  | 80 => ⟨S64x64, .i32⟩
  | 81 => ⟨S64x64, .i32⟩
  | 82 => ⟨S64x64, .i1⟩
  | 83 => ⟨S_, .i1⟩
  | 84 => ⟨S64x64, .i1⟩
  | 85 => ⟨S64x64, .i1⟩
  | 86 => ⟨S4x64x64x4x128, .f32⟩
  | 87 => ⟨S64x4x64x4x128, .f32⟩
  | 88 => ⟨S4x64x64x4x128, .f32⟩
  | 89 => ⟨S64x4x64x4x128, .f32⟩
  | 90 => ⟨S4x64x64x4x256, .f32⟩
  | 91 => ⟨S64x4x64x4x256, .f32⟩
  | 92 => ⟨S4x64x64x4x128, .f32⟩
  | 93 => ⟨S64x4x64x4x128, .f32⟩
  | 94 => ⟨S_, .f32⟩
  | 95 => ⟨S64x4x64x4x256, .f32⟩
  | 96 => ⟨S_, .i32⟩
  | 97 => ⟨S64x4x64x4x128, .f32⟩
  | 98 => ⟨S64x4x64x4x128, .f32⟩
  | 99 => ⟨S64x4x64x4x256, .f32⟩
  | 100 => ⟨S64x4x64x4x128, .f32⟩
  | 101 => ⟨S64x64, .i1⟩
  | 102 => ⟨S_, .i32⟩
  | 103 => ⟨S4x4x128x256, .f32⟩
  | 104 => ⟨S64x4x64x4x256, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S1x4x64x4x128, .f32⟩
  | 112 => ⟨S4x64x4x128, .f32⟩
  | 113 => ⟨S_, .i32⟩
  | 114 => ⟨S_, .i32⟩
  | 115 => ⟨S_, .i32⟩
  | 116 => ⟨S_, .i32⟩
  | 117 => ⟨S1x4x64x4x128, .f32⟩
  | 118 => ⟨S4x64x4x128, .f32⟩
  | 119 => ⟨S_, .i32⟩
  | 120 => ⟨S_, .i32⟩
  | 121 => ⟨S_, .i32⟩
  | 122 => ⟨S_, .i32⟩
  | 123 => ⟨S1x4x64x4x256, .f32⟩
  | 124 => ⟨S4x64x4x256, .f32⟩
  | 125 => ⟨S_, .i32⟩
  | 126 => ⟨S_, .i32⟩
  | 127 => ⟨S_, .i32⟩
  | _ => ⟨S4x4096x1024, .f32⟩

abbrev hbmTy0_1 (i : Nat) : BufTy := match i % 128 with
  | 0 => ⟨S_, .i32⟩
  | 1 => ⟨S1x4x64x4x128, .f32⟩
  | 2 => ⟨S4x64x4x128, .f32⟩
  | 3 => ⟨S_, .f32⟩
  | 4 => ⟨S_, .f32⟩
  | 5 => ⟨S4x64x4x128, .f32⟩
  | 6 => ⟨S4x64x4x128, .f32⟩
  | 7 => ⟨S4x64x4x128, .f32⟩
  | 8 => ⟨S4x64x4x128, .f32⟩
  | 9 => ⟨S4x64x4x128, .f32⟩
  | 10 => ⟨S4x64x4x128, .f32⟩
  | 11 => ⟨S4x4x64x64, .f32⟩
  | 12 => ⟨S_, .f32⟩
  | 13 => ⟨S_, .f32⟩
  | 14 => ⟨S4x4x64x64, .i1⟩
  | 15 => ⟨S4x4x64x64, .f32⟩
  | 16 => ⟨S4x4x64x64, .f32⟩
  | 17 => ⟨S4x4x256x64, .f32⟩
  | 18 => ⟨S4x64x4x256, .f32⟩
  | 19 => ⟨S4x4x256x64, .f32⟩
  | 20 => ⟨S4x64x4x256, .f32⟩
  | 21 => ⟨S4x64x4x256, .f32⟩
  | 22 => ⟨S4x1x4x128, .f32⟩
  | 23 => ⟨S4x4x128, .f32⟩
  | 24 => ⟨S4x1x4x128, .f32⟩
  | 25 => ⟨S4x64x4x128, .f32⟩
  | 26 => ⟨S4x64x4x128, .f32⟩
  | 27 => ⟨S4x64x4x128, .f32⟩
  | 28 => ⟨S4x64x4x128, .f32⟩
  | 29 => ⟨S4x4x128, .f32⟩
  | 30 => ⟨S4x4x128x1, .f32⟩
  | 31 => ⟨S4x4x128x256, .f32⟩
  | 32 => ⟨S4x4x128x256, .f32⟩
  | 33 => ⟨S4x4x128x256, .f32⟩
  | 34 => ⟨S4x4x128x256, .f32⟩
  | 35 => ⟨S1x4x64x4x256, .f32⟩
  | 36 => ⟨S_, .i32⟩
  | 37 => ⟨S_, .i32⟩
  | 38 => ⟨S_, .i32⟩
  | 39 => ⟨S_, .i32⟩
  | 40 => ⟨S64x4x64x4x256, .f32⟩
  | 41 => ⟨S_, .i32⟩
  | 42 => ⟨S_, .i32⟩
  | 43 => ⟨S4x64x64x4x256, .f32⟩
  | 44 => ⟨S4x4096x4x256, .f32⟩
  | 45 => ⟨S4x4096x4x256, .f32⟩
  | 46 => ⟨S_, .f32⟩
  | 47 => ⟨S4x4096x4, .f32⟩
  | 48 => ⟨S4x4096x4x1, .f32⟩
  | 49 => ⟨S_, .f32⟩
  | 50 => ⟨S4x4096x4x1, .f32⟩
  | 51 => ⟨S4x4096x4x1, .f32⟩
  | 52 => ⟨S_, .f32⟩
  | 53 => ⟨S4x4096x4x1, .f32⟩
  | 54 => ⟨S4x4096x4x1, .f32⟩
  | 55 => ⟨S4x4096x4x1, .f32⟩
  | 56 => ⟨S4x4096x4x256, .f32⟩
  | 57 => ⟨S4x4096x4x256, .f32⟩
  | 58 => ⟨S256, .f32⟩
  | 59 => ⟨S1x1x1x256, .f32⟩
  | 60 => ⟨S4x4096x4x256, .f32⟩
  | 61 => ⟨S4x4096x4x256, .f32⟩
  | 62 => ⟨S4x4096x1024, .f32⟩
  | 63 => ⟨S4x4096x1024, .f32⟩
  | 64 => ⟨S4x4096x1024, .f32⟩
  | 65 => ⟨S_, .f32⟩
  | 66 => ⟨S4x4096x1024, .f32⟩
  | 67 => ⟨S4x4096x1024, .f32⟩
  | 68 => ⟨S_, .f32⟩
  | 69 => ⟨S4x4096x1024, .f32⟩
  | 70 => ⟨S4x4096x1024, .f32⟩
  | 71 => ⟨S4x4096x1024, .f32⟩
  | 72 => ⟨S4x4096x1024, .f32⟩
  | 73 => ⟨S1024x1024, .f32⟩
  | 74 => ⟨S4x4096x1024, .f32⟩
  | 75 => ⟨S4x4096x1024, .f32⟩
  | 76 => ⟨S1x1024, .f32⟩
  | 77 => ⟨S1024, .f32⟩
  | 78 => ⟨S4x4096x1024, .f32⟩
  | 79 => ⟨S_, .f32⟩
  | 80 => ⟨S4x4096, .f32⟩
  | 81 => ⟨S4x4096x1, .f32⟩
  | 82 => ⟨S_, .f32⟩
  | 83 => ⟨S4x4096x1, .f32⟩
  | 84 => ⟨S4x4096x1, .f32⟩
  | 85 => ⟨S_, .f32⟩
  | 86 => ⟨S4x4096x1, .f32⟩
  | 87 => ⟨S4x4096x1, .f32⟩
  | 88 => ⟨S4x4096x1, .f32⟩
  | 89 => ⟨S4x4096x1024, .f32⟩
  | 90 => ⟨S4x4096x1024, .f32⟩
  | 91 => ⟨S1x1x1024, .f32⟩
  | 92 => ⟨S4x4096x1024, .f32⟩
  | 93 => ⟨S4x4096x1024, .f32⟩
  | 94 => ⟨S1x1024x2816, .f32⟩
  | 95 => ⟨S1024x2816, .f32⟩
  | 96 => ⟨S4x4096x2816, .f32⟩
  | 97 => ⟨S4x4096x2816, .f32⟩
  | 98 => ⟨S4x4096x2816, .f32⟩
  | 99 => ⟨S_, .f32⟩
  | 100 => ⟨S4x4096x2816, .f32⟩
  | 101 => ⟨S4x4096x2816, .f32⟩
  | 102 => ⟨S_, .f32⟩
  | 103 => ⟨S4x4096x2816, .f32⟩
  | 104 => ⟨S4x4096x2816, .f32⟩
  | 105 => ⟨S4x4096x2816, .f32⟩
  | 106 => ⟨S1x1024x2816, .f32⟩
  | 107 => ⟨S1024x2816, .f32⟩
  | 108 => ⟨S4x4096x2816, .f32⟩
  | 109 => ⟨S4x4096x2816, .f32⟩
  | 110 => ⟨S1x2816x1024, .f32⟩
  | 111 => ⟨S2816x1024, .f32⟩
  | 112 => ⟨S4x4096x1024, .f32⟩
  | 113 => ⟨S4x4096x1024, .f32⟩
  | 114 => ⟨S1x1024, .f32⟩
  | 115 => ⟨S1024, .f32⟩
  | 116 => ⟨S4x4096x1024, .f32⟩
  | 117 => ⟨S_, .f32⟩
  | 118 => ⟨S4x4096, .f32⟩
  | 119 => ⟨S4x4096x1, .f32⟩
  | 120 => ⟨S_, .f32⟩
  | 121 => ⟨S4x4096x1, .f32⟩
  | 122 => ⟨S4x4096x1, .f32⟩
  | 123 => ⟨S_, .f32⟩
  | 124 => ⟨S4x4096x1, .f32⟩
  | 125 => ⟨S4x4096x1, .f32⟩
  | 126 => ⟨S4x4096x1, .f32⟩
  | 127 => ⟨S4x4096x1024, .f32⟩
  | _ => ⟨S4x4096x1024, .f32⟩

abbrev hbmTy0_2 (i : Nat) : BufTy := match i % 128 with
  | 0 => ⟨S4x4096x1024, .f32⟩
  | 1 => ⟨S1x1x1024, .f32⟩
  | 2 => ⟨S4x4096x1024, .f32⟩
  | 3 => ⟨S4x4096x1024, .f32⟩
  | 4 => ⟨S1x1024x1024, .f32⟩
  | 5 => ⟨S1024x1024, .f32⟩
  | 6 => ⟨S4x4096x1024, .f32⟩
  | 7 => ⟨S4x4096x1024, .f32⟩
  | 8 => ⟨S4x4096x1024, .f32⟩
  | 9 => ⟨S_, .f32⟩
  | 10 => ⟨S4x4096x1024, .f32⟩
  | 11 => ⟨S4x4096x1024, .f32⟩
  | 12 => ⟨S_, .f32⟩
  | 13 => ⟨S4x4096x1024, .f32⟩
  | 14 => ⟨S4x4096x1024, .f32⟩
  | 15 => ⟨S1x4x4096x256, .f32⟩
  | 16 => ⟨S4x4096x256, .f32⟩
  | 17 => ⟨S1x256x1024, .f32⟩
  | 18 => ⟨S256x1024, .f32⟩
  | 19 => ⟨S4x4096x1024, .f32⟩
  | 20 => ⟨S4x4096x1024, .f32⟩
  | 21 => ⟨S4x4096x1024, .f32⟩
  | 22 => ⟨S4x4096x1024, .f32⟩
  | 23 => ⟨S_, .f32⟩
  | 24 => ⟨S4x4096, .f32⟩
  | 25 => ⟨S4x4096x1, .f32⟩
  | 26 => ⟨S_, .f32⟩
  | 27 => ⟨S4x4096x1, .f32⟩
  | 28 => ⟨S4x4096x1, .f32⟩
  | 29 => ⟨S_, .f32⟩
  | 30 => ⟨S4x4096x1, .f32⟩
  | 31 => ⟨S4x4096x1, .f32⟩
  | 32 => ⟨S4x4096x1, .f32⟩
  | 33 => ⟨S4x4096x1024, .f32⟩
  | 34 => ⟨S4x4096x1024, .f32⟩
  | 35 => ⟨S1x1x1024, .f32⟩
  | 36 => ⟨S4x4096x1024, .f32⟩
  | 37 => ⟨S4x4096x1024, .f32⟩
  | 38 => ⟨S1x4x4x128x256, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v28 : Ref sig .tc := ⟨.hbm, 62, rfl⟩
abbrev main_cst_2 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_3 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_4 : Ref sig .tc := ⟨.hbm, 73, rfl⟩
abbrev main_v37 : Ref sig .tc := ⟨.hbm, 74, rfl⟩
abbrev main_c : Ref sig .tc := ⟨.hbm, 75, rfl⟩
abbrev main_v38 : Ref sig .tc := ⟨.hbm, 76, rfl⟩
abbrev main_call1_v0 : Ref sig .tc := ⟨.hbm, 77, rfl⟩
abbrev main_call1_c : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_c_0 : Ref sig .tc := ⟨.hbm, 83, rfl⟩
abbrev main_call1_v5 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_5 : Ref sig .tc := ⟨.hbm, 94, rfl⟩
abbrev main_v48 : Ref sig .tc := ⟨.hbm, 95, rfl⟩
abbrev main_c_6 : Ref sig .tc := ⟨.hbm, 96, rfl⟩
abbrev main_v49_0 : Ref sig .tc := ⟨.hbm, 97, rfl⟩
abbrev main_v49_1 : Ref sig .tc := ⟨.hbm, 98, rfl⟩
abbrev main_v49_2 : Ref sig .tc := ⟨.hbm, 99, rfl⟩
abbrev main_v49_3 : Ref sig .tc := ⟨.hbm, 100, rfl⟩
abbrev main_v49_4 : Ref sig .tc := ⟨.hbm, 101, rfl⟩
abbrev main_v49_5 : Ref sig .tc := ⟨.hbm, 102, rfl⟩
abbrev main_v49_6 : Ref sig .tc := ⟨.hbm, 103, rfl⟩
abbrev main_v49_7 : Ref sig .tc := ⟨.hbm, 104, rfl⟩
abbrev main_while0c_c_28 : Ref sig .tc := ⟨.hbm, 105, rfl⟩
abbrev main_while0c_v144 : Ref sig .tc := ⟨.hbm, 106, rfl⟩
abbrev main_while0b_call2_c : Ref sig .tc := ⟨.hbm, 107, rfl⟩
abbrev main_while0b_call2_c_0 : Ref sig .tc := ⟨.hbm, 108, rfl⟩
abbrev main_while0b_call2_c_1 : Ref sig .tc := ⟨.hbm, 109, rfl⟩
abbrev main_while0b_call2_c_2 : Ref sig .tc := ⟨.hbm, 110, rfl⟩
abbrev main_while0b_call2_v0 : Ref sig .tc := ⟨.hbm, 111, rfl⟩
abbrev main_while0b_v144 : Ref sig .tc := ⟨.hbm, 112, rfl⟩
abbrev main_while0b_call3_c : Ref sig .tc := ⟨.hbm, 113, rfl⟩
abbrev main_while0b_call3_c_0 : Ref sig .tc := ⟨.hbm, 114, rfl⟩
abbrev main_while0b_call3_c_1 : Ref sig .tc := ⟨.hbm, 115, rfl⟩
abbrev main_while0b_call3_c_2 : Ref sig .tc := ⟨.hbm, 116, rfl⟩
abbrev main_while0b_call3_v0 : Ref sig .tc := ⟨.hbm, 117, rfl⟩
abbrev main_while0b_v145 : Ref sig .tc := ⟨.hbm, 118, rfl⟩
abbrev main_while0b_call4_c : Ref sig .tc := ⟨.hbm, 119, rfl⟩
abbrev main_while0b_call4_c_0 : Ref sig .tc := ⟨.hbm, 120, rfl⟩
abbrev main_while0b_call4_c_1 : Ref sig .tc := ⟨.hbm, 121, rfl⟩
abbrev main_while0b_call4_c_2 : Ref sig .tc := ⟨.hbm, 122, rfl⟩
abbrev main_while0b_call4_v0 : Ref sig .tc := ⟨.hbm, 123, rfl⟩
abbrev main_while0b_v146 : Ref sig .tc := ⟨.hbm, 124, rfl⟩
abbrev main_while0b_call5_c : Ref sig .tc := ⟨.hbm, 125, rfl⟩
abbrev main_while0b_call5_c_0 : Ref sig .tc := ⟨.hbm, 126, rfl⟩
abbrev main_while0b_call5_c_1 : Ref sig .tc := ⟨.hbm, 127, rfl⟩
abbrev main_while0b_call5_c_2 : Ref sig .tc := ⟨.hbm, 128, rfl⟩
abbrev main_while0b_call5_v0 : Ref sig .tc := ⟨.hbm, 129, rfl⟩
abbrev main_while0b_v147 : Ref sig .tc := ⟨.hbm, 130, rfl⟩
abbrev main_while0b_call6_call0_cst : Ref sig .tc := ⟨.hbm, 131, rfl⟩
abbrev main_while0b_call6_call0_v0 : Ref sig .tc := ⟨.hbm, 132, rfl⟩
abbrev main_while0b_v148 : Ref sig .tc := ⟨.hbm, 133, rfl⟩
abbrev main_while0b_v149 : Ref sig .tc := ⟨.hbm, 134, rfl⟩
abbrev main_while0b_v150 : Ref sig .tc := ⟨.hbm, 135, rfl⟩
abbrev main_while0b_v151 : Ref sig .tc := ⟨.hbm, 136, rfl⟩
abbrev main_while0b_v152 : Ref sig .tc := ⟨.hbm, 137, rfl⟩
abbrev main_while0b_v153 : Ref sig .tc := ⟨.hbm, 138, rfl⟩
abbrev main_while0b_v154 : Ref sig .tc := ⟨.hbm, 139, rfl⟩
abbrev main_while0b_cst_28 : Ref sig .tc := ⟨.hbm, 140, rfl⟩
abbrev main_while0b_call7_v0 : Ref sig .tc := ⟨.hbm, 141, rfl⟩
abbrev main_while0b_call7_v1 : Ref sig .tc := ⟨.hbm, 142, rfl⟩
abbrev main_while0b_call7_v2 : Ref sig .tc := ⟨.hbm, 143, rfl⟩
abbrev main_while0b_v155 : Ref sig .tc := ⟨.hbm, 144, rfl⟩
abbrev main_while0b_v156 : Ref sig .tc := ⟨.hbm, 145, rfl⟩
abbrev main_while0b_v157 : Ref sig .tc := ⟨.hbm, 146, rfl⟩
abbrev main_while0b_v158 : Ref sig .tc := ⟨.hbm, 147, rfl⟩
abbrev main_while0b_v159 : Ref sig .tc := ⟨.hbm, 148, rfl⟩
abbrev main_while0b_v160 : Ref sig .tc := ⟨.hbm, 149, rfl⟩
abbrev main_while0b_v161 : Ref sig .tc := ⟨.hbm, 150, rfl⟩
abbrev main_while0b_v162 : Ref sig .tc := ⟨.hbm, 151, rfl⟩
abbrev main_while0b_v163 : Ref sig .tc := ⟨.hbm, 152, rfl⟩
abbrev main_while0b_v164 : Ref sig .tc := ⟨.hbm, 153, rfl⟩
abbrev main_while0b_v165 : Ref sig .tc := ⟨.hbm, 154, rfl⟩
abbrev main_while0b_v166 : Ref sig .tc := ⟨.hbm, 155, rfl⟩
abbrev main_while0b_v167 : Ref sig .tc := ⟨.hbm, 156, rfl⟩
abbrev main_while0b_v168 : Ref sig .tc := ⟨.hbm, 157, rfl⟩
abbrev main_while0b_v169 : Ref sig .tc := ⟨.hbm, 158, rfl⟩
abbrev main_while0b_v170 : Ref sig .tc := ⟨.hbm, 159, rfl⟩
abbrev main_while0b_v171 : Ref sig .tc := ⟨.hbm, 160, rfl⟩
abbrev main_while0b_v172 : Ref sig .tc := ⟨.hbm, 161, rfl⟩
abbrev main_while0b_v173 : Ref sig .tc := ⟨.hbm, 162, rfl⟩
abbrev main_while0b_call8_v0 : Ref sig .tc := ⟨.hbm, 163, rfl⟩
abbrev main_while0b_call8_c : Ref sig .tc := ⟨.hbm, 164, rfl⟩
abbrev main_while0b_call8_c_0 : Ref sig .tc := ⟨.hbm, 165, rfl⟩
abbrev main_while0b_call8_c_1 : Ref sig .tc := ⟨.hbm, 166, rfl⟩
abbrev main_while0b_call8_c_2 : Ref sig .tc := ⟨.hbm, 167, rfl⟩
abbrev main_while0b_v174 : Ref sig .tc := ⟨.hbm, 168, rfl⟩
abbrev main_while0b_c_29 : Ref sig .tc := ⟨.hbm, 169, rfl⟩
abbrev main_while0b_v175 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_cst_7 : Ref sig .tc := ⟨.hbm, 174, rfl⟩
abbrev main_v53 : Ref sig .tc := ⟨.hbm, 175, rfl⟩
abbrev main_v54 : Ref sig .tc := ⟨.hbm, 176, rfl⟩
abbrev main_cst_8 : Ref sig .tc := ⟨.hbm, 177, rfl⟩
abbrev main_v55 : Ref sig .tc := ⟨.hbm, 178, rfl⟩
abbrev main_v56 : Ref sig .tc := ⟨.hbm, 179, rfl⟩
abbrev main_cst_9 : Ref sig .tc := ⟨.hbm, 180, rfl⟩
abbrev main_v57 : Ref sig .tc := ⟨.hbm, 181, rfl⟩
abbrev main_v58 : Ref sig .tc := ⟨.hbm, 182, rfl⟩
abbrev main_v59 : Ref sig .tc := ⟨.hbm, 183, rfl⟩
abbrev main_v60 : Ref sig .tc := ⟨.hbm, 184, rfl⟩
abbrev main_v61 : Ref sig .tc := ⟨.hbm, 185, rfl⟩
abbrev main_v62 : Ref sig .tc := ⟨.hbm, 186, rfl⟩
abbrev main_v63 : Ref sig .tc := ⟨.hbm, 187, rfl⟩
abbrev main_v64 : Ref sig .tc := ⟨.hbm, 188, rfl⟩
abbrev main_v65 : Ref sig .tc := ⟨.hbm, 189, rfl⟩
abbrev main_v66 : Ref sig .tc := ⟨.hbm, 190, rfl⟩
abbrev main_call9_v0 : Ref sig .tc := ⟨.hbm, 191, rfl⟩
abbrev main_call9_v1 : Ref sig .tc := ⟨.hbm, 192, rfl⟩
abbrev main_call9_cst : Ref sig .tc := ⟨.hbm, 193, rfl⟩
abbrev main_call9_v2 : Ref sig .tc := ⟨.hbm, 194, rfl⟩
abbrev main_call9_v3 : Ref sig .tc := ⟨.hbm, 195, rfl⟩
abbrev main_call9_cst_0 : Ref sig .tc := ⟨.hbm, 196, rfl⟩
abbrev main_call9_v4 : Ref sig .tc := ⟨.hbm, 197, rfl⟩
abbrev main_call9_v5 : Ref sig .tc := ⟨.hbm, 198, rfl⟩
abbrev main_v67 : Ref sig .tc := ⟨.hbm, 199, rfl⟩
abbrev main_v68 : Ref sig .tc := ⟨.hbm, 200, rfl⟩
abbrev main_v69 : Ref sig .tc := ⟨.hbm, 201, rfl⟩
abbrev main_v70 : Ref sig .tc := ⟨.hbm, 202, rfl⟩
abbrev main_v71 : Ref sig .tc := ⟨.hbm, 203, rfl⟩
abbrev main_v72 : Ref sig .tc := ⟨.hbm, 204, rfl⟩
abbrev main_v73 : Ref sig .tc := ⟨.hbm, 205, rfl⟩
abbrev main_v74 : Ref sig .tc := ⟨.hbm, 206, rfl⟩
abbrev main_cst_10 : Ref sig .tc := ⟨.hbm, 207, rfl⟩
abbrev main_v75 : Ref sig .tc := ⟨.hbm, 208, rfl⟩
abbrev main_v76 : Ref sig .tc := ⟨.hbm, 209, rfl⟩
abbrev main_cst_11 : Ref sig .tc := ⟨.hbm, 210, rfl⟩
abbrev main_v77 : Ref sig .tc := ⟨.hbm, 211, rfl⟩
abbrev main_v78 : Ref sig .tc := ⟨.hbm, 212, rfl⟩
abbrev main_cst_12 : Ref sig .tc := ⟨.hbm, 213, rfl⟩
abbrev main_v79 : Ref sig .tc := ⟨.hbm, 214, rfl⟩
abbrev main_v80 : Ref sig .tc := ⟨.hbm, 215, rfl⟩
abbrev main_v81 : Ref sig .tc := ⟨.hbm, 216, rfl⟩
abbrev main_v82 : Ref sig .tc := ⟨.hbm, 217, rfl⟩
abbrev main_v83 : Ref sig .tc := ⟨.hbm, 218, rfl⟩
abbrev main_v84 : Ref sig .tc := ⟨.hbm, 219, rfl⟩
abbrev main_v85 : Ref sig .tc := ⟨.hbm, 220, rfl⟩
abbrev main_v86 : Ref sig .tc := ⟨.hbm, 221, rfl⟩
abbrev main_v87 : Ref sig .tc := ⟨.hbm, 222, rfl⟩
abbrev main_v88 : Ref sig .tc := ⟨.hbm, 223, rfl⟩
abbrev main_v89 : Ref sig .tc := ⟨.hbm, 224, rfl⟩
abbrev main_call10_v0 : Ref sig .tc := ⟨.hbm, 225, rfl⟩
abbrev main_call10_v1 : Ref sig .tc := ⟨.hbm, 226, rfl⟩
abbrev main_call10_cst : Ref sig .tc := ⟨.hbm, 227, rfl⟩
abbrev main_call10_v2 : Ref sig .tc := ⟨.hbm, 228, rfl⟩
abbrev main_call10_v3 : Ref sig .tc := ⟨.hbm, 229, rfl⟩
abbrev main_call10_cst_0 : Ref sig .tc := ⟨.hbm, 230, rfl⟩
abbrev main_call10_v4 : Ref sig .tc := ⟨.hbm, 231, rfl⟩
abbrev main_call10_v5 : Ref sig .tc := ⟨.hbm, 232, rfl⟩
abbrev main_v90 : Ref sig .tc := ⟨.hbm, 233, rfl⟩
abbrev main_v91 : Ref sig .tc := ⟨.hbm, 234, rfl⟩
abbrev main_v92 : Ref sig .tc := ⟨.hbm, 235, rfl⟩
abbrev main_v93 : Ref sig .tc := ⟨.hbm, 236, rfl⟩
abbrev main_v94 : Ref sig .tc := ⟨.hbm, 237, rfl⟩
abbrev main_v95 : Ref sig .tc := ⟨.hbm, 238, rfl⟩
abbrev main_v96 : Ref sig .tc := ⟨.hbm, 239, rfl⟩
abbrev main_v97 : Ref sig .tc := ⟨.hbm, 240, rfl⟩
abbrev main_v98 : Ref sig .tc := ⟨.hbm, 241, rfl⟩
abbrev main_v99 : Ref sig .tc := ⟨.hbm, 242, rfl⟩
abbrev main_v100 : Ref sig .tc := ⟨.hbm, 243, rfl⟩
abbrev main_v101 : Ref sig .tc := ⟨.hbm, 244, rfl⟩
abbrev main_cst_13 : Ref sig .tc := ⟨.hbm, 245, rfl⟩
abbrev main_v102 : Ref sig .tc := ⟨.hbm, 246, rfl⟩
abbrev main_v103 : Ref sig .tc := ⟨.hbm, 247, rfl⟩
abbrev main_cst_14 : Ref sig .tc := ⟨.hbm, 248, rfl⟩
abbrev main_v104 : Ref sig .tc := ⟨.hbm, 249, rfl⟩
abbrev main_v105 : Ref sig .tc := ⟨.hbm, 250, rfl⟩
abbrev main_cst_15 : Ref sig .tc := ⟨.hbm, 251, rfl⟩
abbrev main_v106 : Ref sig .tc := ⟨.hbm, 252, rfl⟩
abbrev main_v107 : Ref sig .tc := ⟨.hbm, 253, rfl⟩
abbrev main_v108 : Ref sig .tc := ⟨.hbm, 254, rfl⟩
abbrev main_v109 : Ref sig .tc := ⟨.hbm, 255, rfl⟩
abbrev main_v110 : Ref sig .tc := ⟨.hbm, 256, rfl⟩
abbrev main_v111 : Ref sig .tc := ⟨.hbm, 257, rfl⟩
abbrev main_v112 : Ref sig .tc := ⟨.hbm, 258, rfl⟩
abbrev main_v113 : Ref sig .tc := ⟨.hbm, 259, rfl⟩
abbrev main_v114 : Ref sig .tc := ⟨.hbm, 260, rfl⟩
abbrev main_v115 : Ref sig .tc := ⟨.hbm, 261, rfl⟩
abbrev main_v116 : Ref sig .tc := ⟨.hbm, 262, rfl⟩
abbrev main_v117 : Ref sig .tc := ⟨.hbm, 263, rfl⟩
abbrev main_v118 : Ref sig .tc := ⟨.hbm, 264, rfl⟩
abbrev main_cst_16 : Ref sig .tc := ⟨.hbm, 265, rfl⟩
abbrev main_v119 : Ref sig .tc := ⟨.hbm, 266, rfl⟩
abbrev main_v120 : Ref sig .tc := ⟨.hbm, 267, rfl⟩
abbrev main_cst_17 : Ref sig .tc := ⟨.hbm, 268, rfl⟩
abbrev main_v121 : Ref sig .tc := ⟨.hbm, 269, rfl⟩
abbrev main_v122 : Ref sig .tc := ⟨.hbm, 270, rfl⟩
abbrev main_v123 : Ref sig .tc := ⟨.hbm, 271, rfl⟩
abbrev main_v124 : Ref sig .tc := ⟨.hbm, 272, rfl⟩
abbrev main_v125 : Ref sig .tc := ⟨.hbm, 273, rfl⟩
abbrev main_v126 : Ref sig .tc := ⟨.hbm, 274, rfl⟩
abbrev main_v127 : Ref sig .tc := ⟨.hbm, 275, rfl⟩
abbrev main_v128 : Ref sig .tc := ⟨.hbm, 276, rfl⟩
abbrev main_v129 : Ref sig .tc := ⟨.hbm, 277, rfl⟩
abbrev main_v130 : Ref sig .tc := ⟨.hbm, 278, rfl⟩
abbrev main_cst_18 : Ref sig .tc := ⟨.hbm, 279, rfl⟩
abbrev main_v131 : Ref sig .tc := ⟨.hbm, 280, rfl⟩
abbrev main_v132 : Ref sig .tc := ⟨.hbm, 281, rfl⟩
abbrev main_cst_19 : Ref sig .tc := ⟨.hbm, 282, rfl⟩
abbrev main_v133 : Ref sig .tc := ⟨.hbm, 283, rfl⟩
abbrev main_v134 : Ref sig .tc := ⟨.hbm, 284, rfl⟩
abbrev main_cst_20 : Ref sig .tc := ⟨.hbm, 285, rfl⟩
abbrev main_v135 : Ref sig .tc := ⟨.hbm, 286, rfl⟩
abbrev main_v136 : Ref sig .tc := ⟨.hbm, 287, rfl⟩
abbrev main_v137 : Ref sig .tc := ⟨.hbm, 288, rfl⟩
abbrev main_v138 : Ref sig .tc := ⟨.hbm, 289, rfl⟩
abbrev main_v139 : Ref sig .tc := ⟨.hbm, 290, rfl⟩
abbrev main_v140 : Ref sig .tc := ⟨.hbm, 291, rfl⟩
abbrev main_v141 : Ref sig .tc := ⟨.hbm, 292, rfl⟩
abbrev main_v142 : Ref sig .tc := ⟨.hbm, 293, rfl⟩
abbrev main_v143 : Ref sig .tc := ⟨.hbm, 294, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x1024 : Shape := ⟨3, ![4, 4096, 1024]⟩
abbrev S2x4x4096x256 : Shape := ⟨4, ![2, 4, 4096, 256]⟩
abbrev S2x1024 : Shape := ⟨2, ![2, 1024]⟩
abbrev S1x4x256x256 : Shape := ⟨4, ![1, 4, 256, 256]⟩
abbrev S1x1024 : Shape := ⟨2, ![1, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x1024 : Shape := ⟨3, ![2, 1024, 1024]⟩
abbrev S1024 : Shape := ⟨1, ![1024]⟩
abbrev S_ : Shape := ⟨0, ![]⟩
abbrev S8x1024 : Shape := ⟨2, ![8, 1024]⟩
abbrev S1x8x1024 : Shape := ⟨3, ![1, 8, 1024]⟩
abbrev S1x4x15x1024 : Shape := ⟨4, ![1, 4, 15, 1024]⟩
abbrev S1x1024x1024 : Shape := ⟨3, ![1, 1024, 1024]⟩
abbrev S1x1x1024x256 : Shape := ⟨4, ![1, 1, 1024, 256]⟩
abbrev S1x1x15x1024 : Shape := ⟨4, ![1, 1, 15, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x1040x1024 : Shape := ⟨3, ![1, 1040, 1024]⟩
abbrev S1024x1024 : Shape := ⟨2, ![1024, 1024]⟩
abbrev S1x1x1024 : Shape := ⟨3, ![1, 1, 1024]⟩
abbrev S1x15x1024 : Shape := ⟨3, ![1, 15, 1024]⟩
abbrev S256x1024 : Shape := ⟨2, ![256, 1024]⟩
abbrev S256 : Shape := ⟨1, ![256]⟩
abbrev S256x1 : Shape := ⟨2, ![256, 1]⟩
abbrev S1x272x256 : Shape := ⟨3, ![1, 272, 256]⟩
abbrev S272x256 : Shape := ⟨2, ![272, 256]⟩
abbrev S256x256 : Shape := ⟨2, ![256, 256]⟩
abbrev S1x1x256x256 : Shape := ⟨4, ![1, 1, 256, 256]⟩
abbrev S1x1024x256 : Shape := ⟨3, ![1, 1024, 256]⟩
abbrev S1024x256 : Shape := ⟨2, ![1024, 256]⟩
abbrev S1x256x256 : Shape := ⟨3, ![1, 256, 256]⟩
abbrev S1x16x1024 : Shape := ⟨3, ![1, 16, 1024]⟩

abbrev nBuf : Space → Nat
  | .hbm => 58
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S2x4x4096x256, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1x4x256x256, .f32⟩
  | .hbm, ⟨6, _⟩ => ⟨S1x1024, .f32⟩
  | .hbm, ⟨7, _⟩ => ⟨S1x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S2x256x1024, .f32⟩
  | .hbm, ⟨12, _⟩ => ⟨S2x1024x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S_, .i32⟩
  | .hbm, ⟨22, _⟩ => ⟨S_, .f32⟩
  | .hbm, ⟨23, _⟩ => ⟨S1024, .f32⟩
  | .hbm, ⟨24, _⟩ => ⟨S_, .i32⟩
  | .hbm, ⟨25, _⟩ => ⟨S_, .f32⟩
  | .hbm, ⟨26, _⟩ => ⟨S1024, .f32⟩
  | .hbm, ⟨27, _⟩ => ⟨S_, .i32⟩
  | .hbm, ⟨28, _⟩ => ⟨S_, .f32⟩
  | .hbm, ⟨29, _⟩ => ⟨S1024, .f32⟩
  | .hbm, ⟨30, _⟩ => ⟨S_, .i32⟩
  | .hbm, ⟨31, _⟩ => ⟨S_, .f32⟩
  | .hbm, ⟨32, _⟩ => ⟨S1024, .f32⟩
  | .hbm, ⟨33, _⟩ => ⟨S_, .i32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S8x1024, .f32⟩
  | .hbm, ⟨47, _⟩ => ⟨S1x8x1024, .f32⟩
  | .hbm, ⟨48, _⟩ => ⟨S1x4x256x256, .bf16⟩
  | .hbm, ⟨49, _⟩ => ⟨S2x1024x2816, .bf16⟩
  | .hbm, ⟨50, _⟩ => ⟨S2x1024x2816, .bf16⟩
  | .hbm, ⟨51, _⟩ => ⟨S2x2816x1024, .bf16⟩
  | .hbm, ⟨52, _⟩ => ⟨S2x1024x1024, .bf16⟩
  | .hbm, ⟨53, _⟩ => ⟨S2x256x1024, .bf16⟩
  | .hbm, ⟨54, _⟩ => ⟨S_, .f32⟩
  | .hbm, ⟨55, _⟩ => ⟨S1x4x15x1024, .f32⟩
  | .hbm, ⟨56, _⟩ => ⟨S4x4096x1024, .f32⟩
  | .hbm, ⟨57, _⟩ => ⟨S1x4x15x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x15x1024, .f32⟩
  | .local _ .vmem, ⟨5, _⟩ => ⟨S1x1x15x1024, .f32⟩
  | .local _ .vmem, ⟨6, _⟩ => ⟨S1x8x1024, .f32⟩
  | .local _ .vmem, ⟨7, _⟩ => ⟨S1x4x256x256, .bf16⟩
  | .local _ .vmem, ⟨8, _⟩ => ⟨S1x1024x2816, .bf16⟩
  | .local _ .vmem, ⟨9, _⟩ => ⟨S1x1024x2816, .bf16⟩
  | .local _ .vmem, ⟨10, _⟩ => ⟨S1x2816x1024, .bf16⟩
  | .local _ .vmem, ⟨11, _⟩ => ⟨S1x1024x1024, .bf16⟩
  | .local _ .vmem, ⟨12, _⟩ => ⟨S1x256x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S1x1x15x1024, .f32⟩
  | .local _ .vmem, ⟨16, _⟩ => ⟨S1x1x15x1024, .f32⟩
  | .local _ .vmem, ⟨17, _⟩ => ⟨S1x1040x1024, .f32⟩
  | .local _ .vmem, ⟨18, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_v0 : Ref sig .tc := ⟨.hbm, 22, rfl⟩
abbrev main_v8 : Ref sig .tc := ⟨.hbm, 23, rfl⟩
abbrev main_c_0 : Ref sig .tc := ⟨.hbm, 24, rfl⟩
abbrev main_call1_v0 : Ref sig .tc := ⟨.hbm, 25, rfl⟩
abbrev main_v9 : Ref sig .tc := ⟨.hbm, 26, rfl⟩
abbrev main_c_1 : Ref sig .tc := ⟨.hbm, 27, rfl⟩
abbrev main_call2_v0 : Ref sig .tc := ⟨.hbm, 28, rfl⟩
abbrev main_v10 : Ref sig .tc := ⟨.hbm, 29, rfl⟩
abbrev main_c_2 : Ref sig .tc := ⟨.hbm, 30, rfl⟩
abbrev main_call3_v0 : Ref sig .tc := ⟨.hbm, 31, rfl⟩
abbrev main_v11 : Ref sig .tc := ⟨.hbm, 32, rfl⟩
abbrev main_c_3 : Ref sig .tc := ⟨.hbm, 33, rfl⟩
abbrev main_call4_v0 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31_0 : Ref sig .tc := ⟨.hbm, 56, rfl⟩
abbrev main_v31_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v1375 : BitVec 1 := Scalar.cmpi .eq arg1 c3_i32
  let v1376 : BitVec 32 := Scalar.extui v1375
  let c0_i32_972 : BitVec 32 := 0#32
  let v1377 : BitVec 1 := Scalar.cmpi .ne v1376 c0_i32_972
  v1377

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x15x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x15x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S4x4096x1024 : Shape := ⟨3, ![4, 4096, 1024]⟩
abbrev S2x4x4096x256 : Shape := ⟨4, ![2, 4, 4096, 256]⟩
abbrev S2x1024 : Shape := ⟨2, ![2, 1024]⟩
abbrev S1x4x256x256 : Shape := ⟨4, ![1, 4, 256, 256]⟩
abbrev S1x1024 : Shape := ⟨2, ![1, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x1024 : Shape := ⟨3, ![2, 1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x15x1024 : Shape := ⟨3, ![4, 15, 1024]⟩
abbrev S4x256x256 : Shape := ⟨3, ![4, 256, 256]⟩
abbrev S4x4111x1024 : Shape := ⟨3, ![4, 4111, 1024]⟩
abbrev S4x1x1024 : Shape := ⟨3, ![4, 1, 1024]⟩
abbrev S4x4112x1024 : Shape := ⟨3, ![4, 4112, 1024]⟩
abbrev S4096 : Shape := ⟨1, ![4096]⟩
abbrev S4x4096x256 : Shape := ⟨3, ![4, 4096, 256]⟩
abbrev S1x4096x1 : Shape := ⟨3, ![1, 4096, 1]⟩
abbrev S4x4096x1x256 : Shape := ⟨4, ![4, 4096, 1, 256]⟩
abbrev S4x4096x4x256 : Shape := ⟨4, ![4, 4096, 4, 256]⟩
abbrev S4x256x4x4096 : Shape := ⟨4, ![4, 256, 4, 4096]⟩
abbrev S1x1024x2816 : Shape := ⟨3, ![1, 1024, 2816]⟩
abbrev S1024x2816 : Shape := ⟨2, ![1024, 2816]⟩
abbrev S4x4096x2816 : Shape := ⟨3, ![4, 4096, 2816]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩
abbrev S1x4x4096x256 : Shape := ⟨4, ![1, 4, 4096, 256]⟩
abbrev S1x256x1024 : Shape := ⟨3, ![1, 256, 1024]⟩
abbrev S256x1024 : Shape := ⟨2, ![256, 1024]⟩
abbrev S1x4x15x1024 : Shape := ⟨4, ![1, 4, 15, 1024]⟩

abbrev nBuf : Space → Nat
  | .hbm => 198
  | .vmem => 0
  | .smem => 0
  | _ => 0

abbrev hbmTy0_0 (i : Nat) : BufTy := match i % 128 with
  | 0 => ⟨S4x4096x1024, .f32⟩
  | 1 => ⟨S2x4x4096x256, .f32⟩
  | 2 => ⟨S2x1024, .f32⟩
  | 3 => ⟨S2x1024, .f32⟩
  | 4 => ⟨S2x1024, .f32⟩
  | 5 => ⟨S1x4x256x256, .f32⟩
  | 6 => ⟨S1x1024, .f32⟩
  | 7 => ⟨S1x1024, .f32⟩
  | 8 => ⟨S2x1024x2816, .f32⟩
  | 9 => ⟨S2x1024x2816, .f32⟩
  | 10 => ⟨S2x2816x1024, .f32⟩
  | 11 => ⟨S2x256x1024, .f32⟩
  | 12 => ⟨S2x1024x1024, .f32⟩
  | 13 => ⟨S1x1024, .f32⟩
  | 14 => ⟨S1024, .f32⟩
  | 15 => ⟨S4x4096x1024, .f32⟩
  | 16 => ⟨S_, .f32⟩
  | 17 => ⟨S4x4096, .f32⟩
  | 18 => ⟨S4x4096x1, .f32⟩
  | 19 => ⟨S_, .f32⟩
  | 20 => ⟨S4x4096x1, .f32⟩
  | 21 => ⟨S4x4096x1, .f32⟩
  | 22 => ⟨S_, .f32⟩
  | 23 => ⟨S4x4096x1, .f32⟩
  | 24 => ⟨S4x4096x1, .f32⟩
  | 25 => ⟨S4x4096x1, .f32⟩
  | 26 => ⟨S4x4096x1024, .f32⟩
  | 27 => ⟨S4x4096x1024, .f32⟩
  | 28 => ⟨S1x1x1024, .f32⟩
  | 29 => ⟨S4x4096x1024, .f32⟩
  | 30 => ⟨S4x4096x1024, .f32⟩
  | 31 => ⟨S_, .f32⟩
  | 32 => ⟨S4x15x1024, .f32⟩
  | 33 => ⟨S4x256x256, .f32⟩
  | 34 => ⟨S1024, .f32⟩
  | 35 => ⟨S1024, .f32⟩
  | 36 => ⟨S4x4111x1024, .f32⟩
  | 37 => ⟨S_, .f32⟩
  | 38 => ⟨S4x1x1024, .f32⟩
  | 39 => ⟨S_, .f32⟩
  | 40 => ⟨S_, .f32⟩
  | 41 => ⟨S4x4111x1024, .f32⟩
  | 42 => ⟨S4x4112x1024, .f32⟩
  | 43 => ⟨S4096, .i32⟩
  | 44 => ⟨S_, .i32⟩
  | 45 => ⟨S4096, .i32⟩
  | 46 => ⟨S4096, .i32⟩
  | 47 => ⟨S4x4096x256, .f32⟩
  | 48 => ⟨S4x4096x256, .f32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .f32⟩
  | 56 => ⟨S4x4096x256, .f32⟩
  | 57 => ⟨S1x4096x1, .f32⟩
  | 58 => ⟨S4x4096x256, .f32⟩
  | 59 => ⟨S4x4096x256, .f32⟩
  | 60 => ⟨S4x4096x256, .f32⟩
  | 61 => ⟨S4x4096x256, .f32⟩
  | 62 => ⟨S4x4096x256, .f32⟩
  | 63 => ⟨S4x4096x256, .f32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S4096, .f32⟩
  | 71 => ⟨S4x4096x256, .f32⟩
  | 72 => ⟨S1x4096x1, .f32⟩
  | 73 => ⟨S4x4096x256, .f32⟩
  | 74 => ⟨S4x4096x256, .f32⟩
  | 75 => ⟨S4x4096x256, .f32⟩
  | 76 => ⟨S4x4096x256, .f32⟩
  | 77 => ⟨S4x4096x256, .f32⟩
  | 78 => ⟨S4x4096x256, .f32⟩
  | 79 => ⟨S_, .i32⟩
  | 80 => ⟨S4096, .i32⟩
  | 81 => ⟨S4096, .i32⟩
  | 82 => ⟨S_, .i32⟩
  | 83 => ⟨S4096, .i32⟩
  | 84 => ⟨S4096, .i32⟩
  | 85 => ⟨S4096, .f32⟩
  | 86 => ⟨S4x4096x256, .f32⟩
  | 87 => ⟨S1x4096x1, .f32⟩
  | 88 => ⟨S4x4096x256, .f32⟩
  | 89 => ⟨S4x4096x256, .f32⟩
  | 90 => ⟨S4x4096x256, .f32⟩
  | 91 => ⟨S4x4096x256, .f32⟩
  | 92 => ⟨S4x4096x256, .f32⟩
  | 93 => ⟨S4x4096x256, .f32⟩
  | 94 => ⟨S_, .i32⟩
  | 95 => ⟨S4096, .i32⟩
  | 96 => ⟨S4096, .i32⟩
  | 97 => ⟨S_, .i32⟩
  | 98 => ⟨S4096, .i32⟩
  | 99 => ⟨S4096, .i32⟩
  | 100 => ⟨S4096, .f32⟩
  | 101 => ⟨S4x4096x256, .f32⟩
  | 102 => ⟨S1x4096x1, .f32⟩
  | 103 => ⟨S4x4096x256, .f32⟩
  | 104 => ⟨S4x4096x256, .f32⟩
  | 105 => ⟨S4x4096x256, .f32⟩
  | 106 => ⟨S4x4096x256, .f32⟩
  | 107 => ⟨S4x4096x1x256, .f32⟩
  | 108 => ⟨S4x4096x1x256, .f32⟩
  | 109 => ⟨S4x4096x1x256, .f32⟩
  | 110 => ⟨S4x4096x1x256, .f32⟩
  | 111 => ⟨S4x4096x4x256, .f32⟩
  | 112 => ⟨S4x256x4x4096, .f32⟩
  | 113 => ⟨S4x4096x4x256, .f32⟩
  | 114 => ⟨S4x4096x1024, .f32⟩
  | 115 => ⟨S1x1x1024, .f32⟩
  | 116 => ⟨S4x4096x1024, .f32⟩
  | 117 => ⟨S4x4096x1024, .f32⟩
  | 118 => ⟨S1x1x1024, .f32⟩
  | 119 => ⟨S4x4096x1024, .f32⟩
  | 120 => ⟨S4x4096x1024, .f32⟩
  | 121 => ⟨S4x15x1024, .f32⟩
  | 122 => ⟨S4x4096x1024, .f32⟩
  | 123 => ⟨S1x1024, .f32⟩
  | 124 => ⟨S1024, .f32⟩
  | 125 => ⟨S4x4096x1024, .f32⟩
  | 126 => ⟨S_, .f32⟩
  | 127 => ⟨S4x4096, .f32⟩
  | _ => ⟨S4x4096x1024, .f32⟩

abbrev hbmTy0_1 (i : Nat) : BufTy := match i % 128 with
  | 0 => ⟨S4x4096x1, .f32⟩
  | 1 => ⟨S_, .f32⟩
  | 2 => ⟨S4x4096x1, .f32⟩
  | 3 => ⟨S4x4096x1, .f32⟩
  | 4 => ⟨S_, .f32⟩
  | 5 => ⟨S4x4096x1, .f32⟩
  | 6 => ⟨S4x4096x1, .f32⟩
  | 7 => ⟨S4x4096x1, .f32⟩
  | 8 => ⟨S4x4096x1024, .f32⟩
  | 9 => ⟨S4x4096x1024, .f32⟩
  | 10 => ⟨S1x1x1024, .f32⟩
  | 11 => ⟨S4x4096x1024, .f32⟩
  | 12 => ⟨S4x4096x1024, .f32⟩
  | 13 => ⟨S1x1024x2816, .f32⟩
  | 14 => ⟨S1024x2816, .f32⟩
  | 15 => ⟨S4x4096x2816, .f32⟩
  | 16 => ⟨S4x4096x2816, .f32⟩
  | 17 => ⟨S4x4096x2816, .f32⟩
  | 18 => ⟨S_, .f32⟩
  | 19 => ⟨S4x4096x2816, .f32⟩
  | 20 => ⟨S4x4096x2816, .f32⟩
  | 21 => ⟨S_, .f32⟩
  | 22 => ⟨S4x4096x2816, .f32⟩
  | 23 => ⟨S4x4096x2816, .f32⟩
  | 24 => ⟨S4x4096x2816, .f32⟩
  | 25 => ⟨S1x1024x2816, .f32⟩
  | 26 => ⟨S1024x2816, .f32⟩
  | 27 => ⟨S4x4096x2816, .f32⟩
  | 28 => ⟨S4x4096x2816, .f32⟩
  | 29 => ⟨S1x2816x1024, .f32⟩
  | 30 => ⟨S2816x1024, .f32⟩
  | 31 => ⟨S4x4096x1024, .f32⟩
  | 32 => ⟨S4x4096x1024, .f32⟩
  | 33 => ⟨S1x1024, .f32⟩
  | 34 => ⟨S1024, .f32⟩
  | 35 => ⟨S4x4096x1024, .f32⟩
  | 36 => ⟨S_, .f32⟩
  | 37 => ⟨S4x4096, .f32⟩
  | 38 => ⟨S4x4096x1, .f32⟩
  | 39 => ⟨S_, .f32⟩
  | 40 => ⟨S4x4096x1, .f32⟩
  | 41 => ⟨S4x4096x1, .f32⟩
  | 42 => ⟨S_, .f32⟩
  | 43 => ⟨S4x4096x1, .f32⟩
  | 44 => ⟨S4x4096x1, .f32⟩
  | 45 => ⟨S4x4096x1, .f32⟩
  | 46 => ⟨S4x4096x1024, .f32⟩
  | 47 => ⟨S4x4096x1024, .f32⟩
  | 48 => ⟨S1x1x1024, .f32⟩
  | 49 => ⟨S4x4096x1024, .f32⟩
  | 50 => ⟨S4x4096x1024, .f32⟩
  | 51 => ⟨S1x1024x1024, .f32⟩
  | 52 => ⟨S1024x1024, .f32⟩
  | 53 => ⟨S4x4096x1024, .f32⟩
  | 54 => ⟨S4x4096x1024, .f32⟩
  | 55 => ⟨S4x4096x1024, .f32⟩
  | 56 => ⟨S_, .f32⟩
  | 57 => ⟨S4x4096x1024, .f32⟩
  | 58 => ⟨S4x4096x1024, .f32⟩
  | 59 => ⟨S_, .f32⟩
  | 60 => ⟨S4x4096x1024, .f32⟩
  | 61 => ⟨S4x4096x1024, .f32⟩
  | 62 => ⟨S1x4x4096x256, .f32⟩
  | 63 => ⟨S4x4096x256, .f32⟩
  | 64 => ⟨S1x256x1024, .f32⟩
  | 65 => ⟨S256x1024, .f32⟩
  | 66 => ⟨S4x4096x1024, .f32⟩
  | 67 => ⟨S4x4096x1024, .f32⟩
  | 68 => ⟨S4x4096x1024, .f32⟩
  | 69 => ⟨S1x4x15x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_call0_call0_cst : Ref sig .tc := ⟨.hbm, 39, rfl⟩
abbrev main_call0_call0_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_10 : Ref sig .tc := ⟨.hbm, 94, rfl⟩
abbrev main_v67 : Ref sig .tc := ⟨.hbm, 95, rfl⟩
abbrev main_v68 : Ref sig .tc := ⟨.hbm, 96, rfl⟩
abbrev main_c_11 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_12 : Ref sig .tc := ⟨.hbm, 126, rfl⟩
abbrev main_v97 : Ref sig .tc := ⟨.hbm, 127, rfl⟩
abbrev main_v98 : Ref sig .tc := ⟨.hbm, 128, rfl⟩
abbrev main_cst_13 : Ref sig .tc := ⟨.hbm, 129, rfl⟩
abbrev main_v99 : Ref sig .tc := ⟨.hbm, 130, rfl⟩
abbrev main_v100 : Ref sig .tc := ⟨.hbm, 131, rfl⟩
abbrev main_cst_14 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_call1_v0 : Ref sig .tc := ⟨.hbm, 144, rfl⟩
abbrev main_call1_v1 : Ref sig .tc := ⟨.hbm, 145, rfl⟩
abbrev main_call1_cst : Ref sig .tc := ⟨.hbm, 146, rfl⟩
abbrev main_call1_v2 : Ref sig .tc := ⟨.hbm, 147, rfl⟩
abbrev main_call1_v3 : Ref sig .tc := ⟨.hbm, 148, rfl⟩
abbrev main_call1_cst_0 : Ref sig .tc := ⟨.hbm, 149, rfl⟩
abbrev main_call1_v4 : Ref sig .tc := ⟨.hbm, 150, rfl⟩
abbrev main_call1_v5 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_15 : Ref sig .tc := ⟨.hbm, 164, rfl⟩
abbrev main_v124 : Ref sig .tc := ⟨.hbm, 165, rfl⟩
abbrev main_v125 : Ref sig .tc := ⟨.hbm, 166, rfl⟩
abbrev main_cst_16 : Ref sig .tc := ⟨.hbm, 167, rfl⟩
abbrev main_v126 : Ref sig .tc := ⟨.hbm, 168, rfl⟩
abbrev main_v127 : Ref sig .tc := ⟨.hbm, 169, rfl⟩
abbrev main_cst_17 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_18 : Ref sig .tc := ⟨.hbm, 184, rfl⟩
abbrev main_v141 : Ref sig .tc := ⟨.hbm, 185, rfl⟩
abbrev main_v142 : Ref sig .tc := ⟨.hbm, 186, rfl⟩
abbrev main_cst_19 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩

abbrev nD : Nat := 1
abbrev τ : Topo := Topo.v7x

variable {F : FTy → Type} [FloatOps F]
-- ==== Kernel3.lean ====
abbrev S16x16x1024 : Shape := ⟨3, ![16, 16, 1024]⟩
abbrev S2x16x16x256 : Shape := ⟨4, ![2, 16, 16, 256]⟩
abbrev S1x16x15x1024 : Shape := ⟨4, ![1, 16, 15, 1024]⟩
abbrev S2x1024 : Shape := ⟨2, ![2, 1024]⟩
abbrev S1x4x256x256 : Shape := ⟨4, ![1, 4, 256, 256]⟩
abbrev S1x1024 : Shape := ⟨2, ![1, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x1024 : Shape := ⟨3, ![2, 1024, 1024]⟩
abbrev S1024 : Shape := ⟨1, ![1024]⟩
abbrev S_ : Shape := ⟨0, ![]⟩
abbrev S8x1024 : Shape := ⟨2, ![8, 1024]⟩
abbrev S1x8x1024 : Shape := ⟨3, ![1, 8, 1024]⟩
abbrev S1x16x16x256 : Shape := ⟨4, ![1, 16, 16, 256]⟩
abbrev S1x1024x2816 : Shape := ⟨3, ![1, 1024, 2816]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S16x32x1024 : Shape := ⟨3, ![16, 32, 1024]⟩
abbrev S256x1024 : Shape := ⟨2, ![256, 1024]⟩
abbrev S16x1x1024 : Shape := ⟨3, ![16, 1, 1024]⟩
abbrev S16x15x1024 : Shape := ⟨3, ![16, 15, 1024]⟩
abbrev S1x1x1024 : Shape := ⟨3, ![1, 1, 1024]⟩
abbrev S256 : Shape := ⟨1, ![256]⟩
abbrev S256x1 : Shape := ⟨2, ![256, 1]⟩
abbrev S16x1 : Shape := ⟨2, ![16, 1]⟩
abbrev S1x32x256 : Shape := ⟨3, ![1, 32, 256]⟩
abbrev S32x256 : Shape := ⟨2, ![32, 256]⟩
abbrev S16x256 : Shape := ⟨2, ![16, 256]⟩
abbrev S256x256 : Shape := ⟨2, ![256, 256]⟩
abbrev S1x1x256x256 : Shape := ⟨4, ![1, 1, 256, 256]⟩
abbrev S1x1024x256 : Shape := ⟨3, ![1, 1024, 256]⟩
abbrev S1024x256 : Shape := ⟨2, ![1024, 256]⟩
abbrev S1024x1024 : Shape := ⟨2, ![1024, 1024]⟩
abbrev S16x16x256 : Shape := ⟨3, ![16, 16, 256]⟩

abbrev nBuf : Space → Nat
  | .hbm => 57
  | .vmem => 14
  | .smem => 0
  | _ => 0

abbrev bufTy : (tb : Table) → Fin (tcTables nBuf tb) → BufTy
  | .hbm, ⟨0, _⟩ => ⟨S16x16x1024, .f32⟩
  | .hbm, ⟨1, _⟩ => ⟨S2x16x16x256, .f32⟩
  | .hbm, ⟨2, _⟩ => ⟨S1x16x15x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S1x4x256x256, .f32⟩
  | .hbm, ⟨7, _⟩ => ⟨S1x1024, .f32⟩
  | .hbm, ⟨8, _⟩ => ⟨S1x1024, .f32⟩
  | .hbm, ⟨9, _⟩ => ⟨S2x1024x2816, .f32⟩
  | .hbm, ⟨10, _⟩ => ⟨S2x1024x2816, .f32⟩
  | .hbm, ⟨11, _⟩ => ⟨S2x2816x1024, .f32⟩
  | .hbm, ⟨12, _⟩ => ⟨S2x256x1024, .f32⟩
  | .hbm, ⟨13, _⟩ => ⟨S2x1024x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S_, .i32⟩
  | .hbm, ⟨23, _⟩ => ⟨S_, .f32⟩
  | .hbm, ⟨24, _⟩ => ⟨S1024, .f32⟩
  | .hbm, ⟨25, _⟩ => ⟨S_, .i32⟩
  | .hbm, ⟨26, _⟩ => ⟨S_, .f32⟩
  | .hbm, ⟨27, _⟩ => ⟨S1024, .f32⟩
  | .hbm, ⟨28, _⟩ => ⟨S_, .i32⟩
  | .hbm, ⟨29, _⟩ => ⟨S_, .f32⟩
  | .hbm, ⟨30, _⟩ => ⟨S1024, .f32⟩
  | .hbm, ⟨31, _⟩ => ⟨S_, .i32⟩
  | .hbm, ⟨32, _⟩ => ⟨S_, .f32⟩
  | .hbm, ⟨33, _⟩ => ⟨S1024, .f32⟩
  | .hbm, ⟨34, _⟩ => ⟨S_, .i32⟩
  | .hbm, ⟨35, _⟩ => ⟨S_, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S8x1024, .f32⟩
  | .hbm, ⟨48, _⟩ => ⟨S1x8x1024, .f32⟩
  | .hbm, ⟨49, _⟩ => ⟨S1x4x256x256, .bf16⟩
  | .hbm, ⟨50, _⟩ => ⟨S2x1024x2816, .bf16⟩
  | .hbm, ⟨51, _⟩ => ⟨S2x1024x2816, .bf16⟩
  | .hbm, ⟨52, _⟩ => ⟨S2x2816x1024, .bf16⟩
  | .hbm, ⟨53, _⟩ => ⟨S2x1024x1024, .bf16⟩
  | .hbm, ⟨54, _⟩ => ⟨S2x256x1024, .bf16⟩
  | .hbm, ⟨55, _⟩ => ⟨S16x16x1024, .f32⟩
  | .hbm, ⟨56, _⟩ => ⟨S1x16x15x1024, .f32⟩
  | .local _ .vmem, ⟨0, _⟩ => ⟨S16x16x1024, .f32⟩
  | .local _ .vmem, ⟨1, _⟩ => ⟨S1x16x16x256, .f32⟩
  | .local _ .vmem, ⟨2, _⟩ => ⟨S1x16x15x1024, .f32⟩
  | .local _ .vmem, ⟨3, _⟩ => ⟨S1x8x1024, .f32⟩
  | .local _ .vmem, ⟨4, _⟩ => ⟨S1x4x256x256, .bf16⟩
  | .local _ .vmem, ⟨5, _⟩ => ⟨S1x1024x2816, .bf16⟩
  | .local _ .vmem, ⟨6, _⟩ => ⟨S1x1024x2816, .bf16⟩
  | .local _ .vmem, ⟨7, _⟩ => ⟨S1x2816x1024, .bf16⟩
  | .local _ .vmem, ⟨8, _⟩ => ⟨S1x1024x1024, .bf16⟩
  | .local _ .vmem, ⟨9, _⟩ => ⟨S1x256x1024, .bf16⟩
  | .local _ .vmem, ⟨10, _⟩ => ⟨S16x16x1024, .f32⟩
  | .local _ .vmem, ⟨11, _⟩ => ⟨S1x16x15x1024, .f32⟩
  | .local _ .vmem, ⟨12, _⟩ => ⟨S16x32x1024, .f32⟩
  | .local _ .vmem, ⟨13, _⟩ => ⟨S256x1024, .bf16⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_call0_v0 : Ref sig .tc := ⟨.hbm, 23, rfl⟩
abbrev main_v8 : Ref sig .tc := ⟨.hbm, 24, rfl⟩
abbrev main_c_0 : Ref sig .tc := ⟨.hbm, 25, rfl⟩
abbrev main_call1_v0 : Ref sig .tc := ⟨.hbm, 26, rfl⟩
abbrev main_v9 : Ref sig .tc := ⟨.hbm, 27, rfl⟩
abbrev main_c_1 : Ref sig .tc := ⟨.hbm, 28, rfl⟩
abbrev main_call2_v0 : Ref sig .tc := ⟨.hbm, 29, rfl⟩
abbrev main_v10 : Ref sig .tc := ⟨.hbm, 30, rfl⟩
abbrev main_c_2 : Ref sig .tc := ⟨.hbm, 31, rfl⟩
abbrev main_call3_v0 : Ref sig .tc := ⟨.hbm, 32, rfl⟩
abbrev main_v11 : Ref sig .tc := ⟨.hbm, 33, rfl⟩
abbrev main_c_3 : Ref sig .tc := ⟨.hbm, 34, rfl⟩
abbrev main_call4_v0 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30_0 : Ref sig .tc := ⟨.hbm, 55, rfl⟩
abbrev main_v30_1 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_653 : BitVec 32 := 0#32
  let v1306 : BitVec 1 := Scalar.cmpi .eq arg1 c0_i32_653
  let v1307 : BitVec 32 := Scalar.extui v1306
  let c0_i32_654 : BitVec 32 := 0#32
  let v1308 : BitVec 1 := Scalar.cmpi .ne v1307 c0_i32_654
  v1308

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S16x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x15x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x16x15x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== Reference3Ideal.lean ====
abbrev S16x16x1024 : Shape := ⟨3, ![16, 16, 1024]⟩
abbrev S2x16x16x256 : Shape := ⟨4, ![2, 16, 16, 256]⟩
abbrev S1x16x15x1024 : Shape := ⟨4, ![1, 16, 15, 1024]⟩
abbrev S2x1024 : Shape := ⟨2, ![2, 1024]⟩
abbrev S1x4x256x256 : Shape := ⟨4, ![1, 4, 256, 256]⟩
abbrev S1x1024 : Shape := ⟨2, ![1, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x1024 : Shape := ⟨3, ![2, 1024, 1024]⟩
abbrev S1024 : Shape := ⟨1, ![1024]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16x15x1024 : Shape := ⟨3, ![16, 15, 1024]⟩
abbrev S4x256x256 : Shape := ⟨3, ![4, 256, 256]⟩
abbrev S16x31x1024 : Shape := ⟨3, ![16, 31, 1024]⟩
abbrev S16x1x1024 : Shape := ⟨3, ![16, 1, 1024]⟩
abbrev S16x32x1024 : Shape := ⟨3, ![16, 32, 1024]⟩
abbrev S16 : Shape := ⟨1, ![16]⟩
abbrev S16x16x256 : Shape := ⟨3, ![16, 16, 256]⟩
abbrev S1x16x1 : Shape := ⟨3, ![1, 16, 1]⟩
abbrev S16x16x1x256 : Shape := ⟨4, ![16, 16, 1, 256]⟩
abbrev S16x16x4x256 : Shape := ⟨4, ![16, 16, 4, 256]⟩
abbrev S4x256x16x16 : Shape := ⟨4, ![4, 256, 16, 16]⟩
abbrev S1x1024x2816 : Shape := ⟨3, ![1, 1024, 2816]⟩
abbrev S1024x2816 : Shape := ⟨2, ![1024, 2816]⟩
abbrev S16x16x2816 : Shape := ⟨3, ![16, 16, 2816]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩
abbrev S1x16x16x256 : Shape := ⟨4, ![1, 16, 16, 256]⟩
abbrev S1x256x1024 : Shape := ⟨3, ![1, 256, 1024]⟩
abbrev S256x1024 : Shape := ⟨2, ![256, 1024]⟩

abbrev nBuf : Space → Nat
  | .hbm => 198
  | .vmem => 0
  | .smem => 0
  | _ => 0

abbrev hbmTy0_0 (i : Nat) : BufTy := match i % 128 with
  | 0 => ⟨S16x16x1024, .f32⟩
  | 1 => ⟨S2x16x16x256, .f32⟩
  | 2 => ⟨S1x16x15x1024, .f32⟩
  | 3 => ⟨S2x1024, .f32⟩
  | 4 => ⟨S2x1024, .f32⟩
  | 5 => ⟨S2x1024, .f32⟩
  | 6 => ⟨S1x4x256x256, .f32⟩
  | 7 => ⟨S1x1024, .f32⟩
  | 8 => ⟨S1x1024, .f32⟩
  | 9 => ⟨S2x1024x2816, .f32⟩
  | 10 => ⟨S2x1024x2816, .f32⟩
  | 11 => ⟨S2x2816x1024, .f32⟩
  | 12 => ⟨S2x256x1024, .f32⟩
  | 13 => ⟨S2x1024x1024, .f32⟩
  | 14 => ⟨S1x1024, .f32⟩
  | 15 => ⟨S1024, .f32⟩
  | 16 => ⟨S16x16x1024, .f32⟩
  | 17 => ⟨S_, .f32⟩
  | 18 => ⟨S16x16, .f32⟩
  | 19 => ⟨S16x16x1, .f32⟩
  | 20 => ⟨S_, .f32⟩
  | 21 => ⟨S16x16x1, .f32⟩
  | 22 => ⟨S16x16x1, .f32⟩
  | 23 => ⟨S_, .f32⟩
  | 24 => ⟨S16x16x1, .f32⟩
  | 25 => ⟨S16x16x1, .f32⟩
  | 26 => ⟨S16x16x1, .f32⟩
  | 27 => ⟨S16x16x1024, .f32⟩
  | 28 => ⟨S16x16x1024, .f32⟩
  | 29 => ⟨S1x1x1024, .f32⟩
  | 30 => ⟨S16x16x1024, .f32⟩
  | 31 => ⟨S16x16x1024, .f32⟩
  | 32 => ⟨S16x15x1024, .f32⟩
  | 33 => ⟨S4x256x256, .f32⟩
  | 34 => ⟨S1024, .f32⟩
  | 35 => ⟨S1024, .f32⟩
  | 36 => ⟨S16x31x1024, .f32⟩
  | 37 => ⟨S_, .f32⟩
  | 38 => ⟨S16x1x1024, .f32⟩
  | 39 => ⟨S_, .f32⟩
  | 40 => ⟨S_, .f32⟩
  | 41 => ⟨S16x31x1024, .f32⟩
  | 42 => ⟨S16x32x1024, .f32⟩
  | 43 => ⟨S16, .i32⟩
  | 44 => ⟨S_, .i32⟩
  | 45 => ⟨S16, .i32⟩
  | 46 => ⟨S16, .i32⟩
  | 47 => ⟨S16x16x256, .f32⟩
  | 48 => ⟨S16x16x256, .f32⟩
  | 49 => ⟨S_, .i32⟩
  | 50 => ⟨S16, .i32⟩
  | 51 => ⟨S16, .i32⟩
  | 52 => ⟨S_, .i32⟩
  | 53 => ⟨S16, .i32⟩
  | 54 => ⟨S16, .i32⟩
  | 55 => ⟨S16, .f32⟩
  | 56 => ⟨S16x16x256, .f32⟩
  | 57 => ⟨S1x16x1, .f32⟩
  | 58 => ⟨S16x16x256, .f32⟩
  | 59 => ⟨S16x16x256, .f32⟩
  | 60 => ⟨S16x16x256, .f32⟩
  | 61 => ⟨S16x16x256, .f32⟩
  | 62 => ⟨S16x16x256, .f32⟩
  | 63 => ⟨S16x16x256, .f32⟩
  | 64 => ⟨S_, .i32⟩
  | 65 => ⟨S16, .i32⟩
  | 66 => ⟨S16, .i32⟩
  | 67 => ⟨S_, .i32⟩
  | 68 => ⟨S16, .i32⟩
  | 69 => ⟨S16, .i32⟩
  | 70 => ⟨S16, .f32⟩
  | 71 => ⟨S16x16x256, .f32⟩
  | 72 => ⟨S1x16x1, .f32⟩
  | 73 => ⟨S16x16x256, .f32⟩
  | 74 => ⟨S16x16x256, .f32⟩
  | 75 => ⟨S16x16x256, .f32⟩
  | 76 => ⟨S16x16x256, .f32⟩
  | 77 => ⟨S16x16x256, .f32⟩
  | 78 => ⟨S16x16x256, .f32⟩
  | 79 => ⟨S_, .i32⟩
  | 80 => ⟨S16, .i32⟩
  | 81 => ⟨S16, .i32⟩
  | 82 => ⟨S_, .i32⟩
  | 83 => ⟨S16, .i32⟩
  | 84 => ⟨S16, .i32⟩
  | 85 => ⟨S16, .f32⟩
  | 86 => ⟨S16x16x256, .f32⟩
  | 87 => ⟨S1x16x1, .f32⟩
  | 88 => ⟨S16x16x256, .f32⟩
  | 89 => ⟨S16x16x256, .f32⟩
  | 90 => ⟨S16x16x256, .f32⟩
  | 91 => ⟨S16x16x256, .f32⟩
  | 92 => ⟨S16x16x256, .f32⟩
  | 93 => ⟨S16x16x256, .f32⟩
  | 94 => ⟨S_, .i32⟩
  | 95 => ⟨S16, .i32⟩
  | 96 => ⟨S16, .i32⟩
  | 97 => ⟨S_, .i32⟩
  | 98 => ⟨S16, .i32⟩
  | 99 => ⟨S16, .i32⟩
  | 100 => ⟨S16, .f32⟩
  | 101 => ⟨S16x16x256, .f32⟩
  | 102 => ⟨S1x16x1, .f32⟩
  | 103 => ⟨S16x16x256, .f32⟩
  | 104 => ⟨S16x16x256, .f32⟩
  | 105 => ⟨S16x16x256, .f32⟩
  | 106 => ⟨S16x16x256, .f32⟩
  | 107 => ⟨S16x16x1x256, .f32⟩
  | 108 => ⟨S16x16x1x256, .f32⟩
  | 109 => ⟨S16x16x1x256, .f32⟩
  | 110 => ⟨S16x16x1x256, .f32⟩
  | 111 => ⟨S16x16x4x256, .f32⟩
  | 112 => ⟨S4x256x16x16, .f32⟩
  | 113 => ⟨S16x16x4x256, .f32⟩
  | 114 => ⟨S16x16x1024, .f32⟩
  | 115 => ⟨S1x1x1024, .f32⟩
  | 116 => ⟨S16x16x1024, .f32⟩
  | 117 => ⟨S16x16x1024, .f32⟩
  | 118 => ⟨S1x1x1024, .f32⟩
  | 119 => ⟨S16x16x1024, .f32⟩
  | 120 => ⟨S16x16x1024, .f32⟩
  | 121 => ⟨S16x15x1024, .f32⟩
  | 122 => ⟨S16x16x1024, .f32⟩
  | 123 => ⟨S1x1024, .f32⟩
  | 124 => ⟨S1024, .f32⟩
  | 125 => ⟨S16x16x1024, .f32⟩
  | 126 => ⟨S_, .f32⟩
  | 127 => ⟨S16x16, .f32⟩
  | _ => ⟨S16x16x1024, .f32⟩

abbrev hbmTy0_1 (i : Nat) : BufTy := match i % 128 with
  | 0 => ⟨S16x16x1, .f32⟩
  | 1 => ⟨S_, .f32⟩
  | 2 => ⟨S16x16x1, .f32⟩
  | 3 => ⟨S16x16x1, .f32⟩
  | 4 => ⟨S_, .f32⟩
  | 5 => ⟨S16x16x1, .f32⟩
  | 6 => ⟨S16x16x1, .f32⟩
  | 7 => ⟨S16x16x1, .f32⟩
  | 8 => ⟨S16x16x1024, .f32⟩
  | 9 => ⟨S16x16x1024, .f32⟩
  | 10 => ⟨S1x1x1024, .f32⟩
  | 11 => ⟨S16x16x1024, .f32⟩
  | 12 => ⟨S16x16x1024, .f32⟩
  | 13 => ⟨S1x1024x2816, .f32⟩
  | 14 => ⟨S1024x2816, .f32⟩
  | 15 => ⟨S16x16x2816, .f32⟩
  | 16 => ⟨S16x16x2816, .f32⟩
  | 17 => ⟨S16x16x2816, .f32⟩
  | 18 => ⟨S_, .f32⟩
  | 19 => ⟨S16x16x2816, .f32⟩
  | 20 => ⟨S16x16x2816, .f32⟩
  | 21 => ⟨S_, .f32⟩
  | 22 => ⟨S16x16x2816, .f32⟩
  | 23 => ⟨S16x16x2816, .f32⟩
  | 24 => ⟨S16x16x2816, .f32⟩
  | 25 => ⟨S1x1024x2816, .f32⟩
  | 26 => ⟨S1024x2816, .f32⟩
  | 27 => ⟨S16x16x2816, .f32⟩
  | 28 => ⟨S16x16x2816, .f32⟩
  | 29 => ⟨S1x2816x1024, .f32⟩
  | 30 => ⟨S2816x1024, .f32⟩
  | 31 => ⟨S16x16x1024, .f32⟩
  | 32 => ⟨S16x16x1024, .f32⟩
  | 33 => ⟨S1x1024, .f32⟩
  | 34 => ⟨S1024, .f32⟩
  | 35 => ⟨S16x16x1024, .f32⟩
  | 36 => ⟨S_, .f32⟩
  | 37 => ⟨S16x16, .f32⟩
  | 38 => ⟨S16x16x1, .f32⟩
  | 39 => ⟨S_, .f32⟩
  | 40 => ⟨S16x16x1, .f32⟩
  | 41 => ⟨S16x16x1, .f32⟩
  | 42 => ⟨S_, .f32⟩
  | 43 => ⟨S16x16x1, .f32⟩
  | 44 => ⟨S16x16x1, .f32⟩
  | 45 => ⟨S16x16x1, .f32⟩
  | 46 => ⟨S16x16x1024, .f32⟩
  | 47 => ⟨S16x16x1024, .f32⟩
  | 48 => ⟨S1x1x1024, .f32⟩
  | 49 => ⟨S16x16x1024, .f32⟩
  | 50 => ⟨S16x16x1024, .f32⟩
  | 51 => ⟨S1x1024x1024, .f32⟩
  | 52 => ⟨S1024x1024, .f32⟩
  | 53 => ⟨S16x16x1024, .f32⟩
  | 54 => ⟨S16x16x1024, .f32⟩
  | 55 => ⟨S16x16x1024, .f32⟩
  | 56 => ⟨S_, .f32⟩
  | 57 => ⟨S16x16x1024, .f32⟩
  | 58 => ⟨S16x16x1024, .f32⟩
  | 59 => ⟨S_, .f32⟩
  | 60 => ⟨S16x16x1024, .f32⟩
  | 61 => ⟨S16x16x1024, .f32⟩
  | 62 => ⟨S1x16x16x256, .f32⟩
  | 63 => ⟨S16x16x256, .f32⟩
  | 64 => ⟨S1x256x1024, .f32⟩
  | 65 => ⟨S256x1024, .f32⟩
  | 66 => ⟨S16x16x1024, .f32⟩
  | 67 => ⟨S16x16x1024, .f32⟩
  | 68 => ⟨S16x16x1024, .f32⟩
  | 69 => ⟨S1x16x15x1024, .f32⟩
  | _ => ⟨S16x16x1024, .f32⟩

abbrev hbmTy (i : Nat) : BufTy := match i / 128 with
  | 0 => hbmTy0_0 i
  | 1 => hbmTy0_1 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_call0_call0_cst : Ref sig .tc := ⟨.hbm, 39, rfl⟩
abbrev main_call0_call0_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_5 : Ref sig .tc := ⟨.hbm, 64, rfl⟩
abbrev main_v41 : Ref sig .tc := ⟨.hbm, 65, rfl⟩
abbrev main_v42 : Ref sig .tc := ⟨.hbm, 66, rfl⟩
abbrev main_c_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_7 : Ref sig .tc := ⟨.hbm, 79, rfl⟩
abbrev main_v54 : Ref sig .tc := ⟨.hbm, 80, rfl⟩
abbrev main_v55 : Ref sig .tc := ⟨.hbm, 81, rfl⟩
abbrev main_c_8 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_9 : Ref sig .tc := ⟨.hbm, 94, rfl⟩
abbrev main_v67 : Ref sig .tc := ⟨.hbm, 95, rfl⟩
abbrev main_v68 : Ref sig .tc := ⟨.hbm, 96, rfl⟩
abbrev main_c_10 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_11 : Ref sig .tc := ⟨.hbm, 126, rfl⟩
abbrev main_v97 : Ref sig .tc := ⟨.hbm, 127, rfl⟩
abbrev main_v98 : Ref sig .tc := ⟨.hbm, 128, rfl⟩
abbrev main_cst_12 : Ref sig .tc := ⟨.hbm, 129, rfl⟩
abbrev main_v99 : Ref sig .tc := ⟨.hbm, 130, rfl⟩
abbrev main_v100 : Ref sig .tc := ⟨.hbm, 131, rfl⟩
abbrev main_cst_13 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_call1_v0 : Ref sig .tc := ⟨.hbm, 144, rfl⟩
abbrev main_call1_v1 : Ref sig .tc := ⟨.hbm, 145, rfl⟩
abbrev main_call1_cst : Ref sig .tc := ⟨.hbm, 146, rfl⟩
abbrev main_call1_v2 : Ref sig .tc := ⟨.hbm, 147, rfl⟩
abbrev main_call1_v3 : Ref sig .tc := ⟨.hbm, 148, rfl⟩
abbrev main_call1_cst_0 : Ref sig .tc := ⟨.hbm, 149, rfl⟩
abbrev main_call1_v4 : Ref sig .tc := ⟨.hbm, 150, rfl⟩
abbrev main_call1_v5 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_14 : Ref sig .tc := ⟨.hbm, 164, rfl⟩
abbrev main_v124 : Ref sig .tc := ⟨.hbm, 165, rfl⟩
abbrev main_v125 : Ref sig .tc := ⟨.hbm, 166, rfl⟩
abbrev main_cst_15 : Ref sig .tc := ⟨.hbm, 167, rfl⟩
abbrev main_v126 : Ref sig .tc := ⟨.hbm, 168, rfl⟩
abbrev main_v127 : Ref sig .tc := ⟨.hbm, 169, rfl⟩
abbrev main_cst_16 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_17 : Ref sig .tc := ⟨.hbm, 184, rfl⟩
abbrev main_v141 : Ref sig .tc := ⟨.hbm, 185, rfl⟩
abbrev main_v142 : Ref sig .tc := ⟨.hbm, 186, rfl⟩
abbrev main_cst_18 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩

abbrev nD : Nat := 1
abbrev τ : Topo := Topo.v7x

variable {F : FTy → Type} [FloatOps F]
-- ==== Proof.Vec.lean ====
/-
  The gated linear attention kernel's body as named array functions of its input blocks: one set of functions for
  either half (256 rows) of a tile, one for either of its four heads. The generated body cuts the same operations into
  differently shaped pieces for each half and head; `Words*.lean` shows the run's words are these.
-/
module

public import proofs.«01_k».proof.Proof.Gen.KernelIdeal.Value

@[expose] public section

noncomputable section

namespace Cert.KernelIdeal.Gla

open Cert.KernelIdeal Cert.KernelIdeal.Gen Idealize.ShloMosaic Idealize.ShloMosaic.TcCoe Idealize.SL.Sem

variable {F : FTy → Type} [FloatOps F]

/-- The half's rows of the layer's input block. -/
def hV (x1 : Vec F S1x512x1024 .f32) : Fin 2 → Vec F S1x256x1024 .f32
  | 0 => View.ld x1 (Rect.unit ![0, 0, 0] S1x256x1024.size inb_S1x512x1024_S1x256x1024_0_0_0)
  | 1 => View.ld x1 (Rect.unit ![0, 256, 0] S1x256x1024.size inb_S1x512x1024_S1x256x1024_0_256_0)

/-- The half's rows of the per-layer embedding block. -/
def pV (x2 : Vec F S1x1x512x256 .f32) : Fin 2 → Vec F S1x1x256x256 .f32
  | 0 => View.ld x2 (Rect.unit ![0, 0, 0, 0] S1x1x256x256.size inb_S1x1x512x256_S1x1x256x256_0_0_0_0)
  | 1 => View.ld x2 (Rect.unit ![0, 0, 256, 0] S1x1x256x256.size inb_S1x1x512x256_S1x1x256x256_0_0_256_0)

/-- The half's rows of the attention's output block. -/
def obV (xo : Vec F S1x512x1024 .bf16) : Fin 2 → Vec F S1x256x1024 .bf16
  | 0 => View.ld xo (Rect.unit ![0, 0, 0] S1x256x1024.size inb_S1x512x1024_S1x256x1024_0_0_0)
  | 1 => View.ld xo (Rect.unit ![0, 256, 0] S1x256x1024.size inb_S1x512x1024_S1x256x1024_0_256_0)

/-- The mixer's norm weights: row 0 of the packed vectors. -/
def nmV (x3 : Vec F S1x8x1024 .f32) : Vec F S1x1x1024 .f32 :=
  View.ld x3 (Rect.unit ![0, 0, 0] S1x1x1024.size inb_S1x8x1024_S1x1x1024_0_0_0)

/-- The feed-forward norm weights: row 1 of the packed vectors. -/
def nfV (x3 : Vec F S1x8x1024 .f32) : Vec F S1x1x1024 .f32 :=
  View.ld x3 (Rect.unit ![0, 1, 0] S1x1x1024.size inb_S1x8x1024_S1x1x1024_0_1_0)

/-- The embedding gate's norm weights: row 2 of the packed vectors. -/
def npV (x3 : Vec F S1x8x1024 .f32) : Vec F S1x1x1024 .f32 :=
  View.ld x3 (Rect.unit ![0, 2, 0] S1x1x1024.size inb_S1x8x1024_S1x1x1024_0_2_0)

/-- The gate bias: row 3 of the packed vectors. -/
def biasV (x3 : Vec F S1x8x1024 .f32) : Vec F S1x1x512 .f32 :=
  View.ld x3 (Rect.unit ![0, 3, 0] S1x1x512.size inb_S1x8x1024_S1x1x512_0_3_0)

/-- The attention output's norm weights: row 4 of the packed vectors. -/
def gnV (x3 : Vec F S1x8x1024 .f32) : Vec F S1x1x256 .f32 :=
  View.ld x3 (Rect.unit ![0, 4, 0] S1x1x256.size inb_S1x8x1024_S1x1x256_0_4_0)

/-- The final norm weights: row 5 of the packed vectors. -/
def nzV (x3 : Vec F S1x8x1024 .f32) : Vec F S1x1x1024 .f32 :=
  View.ld x3 (Rect.unit ![0, 5, 0] S1x1x1024.size inb_S1x8x1024_S1x1x1024_0_5_0)

/-- Columns 0 to 511 of the input projection. -/
def wqV (x4 : Vec F S1x1024x3088 .bf16) : Vec F S1x1024x512 .bf16 :=
  View.ld x4 (Rect.unit ![0, 0, 0] S1x1024x512.size inb_S1x1024x3088_S1x1024x512_0_0_0)

/-- Columns 512 to 1023 of the input projection. -/
def wkV (x4 : Vec F S1x1024x3088 .bf16) : Vec F S1x1024x512 .bf16 :=
  View.ld x4 (Rect.unit ![0, 0, 512] S1x1024x512.size inb_S1x1024x3088_S1x1024x512_0_0_512)

/-- Columns 1024 to 1535 of the input projection. -/
def wv0V (x4 : Vec F S1x1024x3088 .bf16) : Vec F S1x1024x512 .bf16 :=
  View.ld x4 (Rect.unit ![0, 0, 1024] S1x1024x512.size inb_S1x1024x3088_S1x1024x512_0_0_1024)

/-- Columns 1536 to 2047 of the input projection. -/
def wv1V (x4 : Vec F S1x1024x3088 .bf16) : Vec F S1x1024x512 .bf16 :=
  View.ld x4 (Rect.unit ![0, 0, 1536] S1x1024x512.size inb_S1x1024x3088_S1x1024x512_0_0_1536)

/-- Columns 2048 to 2559 of the input projection. -/
def wg0V (x4 : Vec F S1x1024x3088 .bf16) : Vec F S1x1024x512 .bf16 :=
  View.ld x4 (Rect.unit ![0, 0, 2048] S1x1024x512.size inb_S1x1024x3088_S1x1024x512_0_0_2048)

/-- Columns 2560 to 3071 of the input projection. -/
def wg1V (x4 : Vec F S1x1024x3088 .bf16) : Vec F S1x1024x512 .bf16 :=
  View.ld x4 (Rect.unit ![0, 0, 2560] S1x1024x512.size inb_S1x1024x3088_S1x1024x512_0_0_2560)

/-- The normalised rows. -/
def xnV (x1 : Vec F S1x512x1024 .f32) (x3 : Vec F S1x8x1024 .f32) (s : Fin 2) : FVec F S256x1024 .bf16 :=
  k0_pay6 (hV x1 s) (nmV x3)

/-- The log decays summed from the start of each row's chunk. -/
def cumV (x1 : Vec F S1x512x1024 .f32) (x3 : Vec F S1x8x1024 .f32) (x5 : Vec F S1x1024x128 .bf16) (x6 : Vec F S1x128x512 .bf16) (s : Fin 2) : FVec F S256x512 .f32 :=
  k0_pay11 (k0_pay8 (hV x1 s) (nmV x3) (View.ld x5 (Rect.unit ![0, 0, 0] S1x1024x128.size inb_S1x1024x128_S1x1024x128_0_0_0)) (View.ld x6 (Rect.unit ![0, 0, 0] S1x128x512.size inb_S1x128x512_S1x128x512_0_0_0))) (biasV x3)

/-- The decayed queries. -/
def qdV (x1 : Vec F S1x512x1024 .f32) (x3 : Vec F S1x8x1024 .f32) (x4 : Vec F S1x1024x3088 .bf16) (x5 : Vec F S1x1024x128 .bf16) (x6 : Vec F S1x128x512 .bf16) (s : Fin 2) : FVec F S256x512 .bf16 :=
  k0_pay18 (k0_pay7 (hV x1 s) (nmV x3) (wqV x4)) (cumV x1 x3 x5 x6 s)

/-- The keys with the decay up to their row taken off. -/
def kiV (x1 : Vec F S1x512x1024 .f32) (x3 : Vec F S1x8x1024 .f32) (x4 : Vec F S1x1024x3088 .bf16) (x5 : Vec F S1x1024x128 .bf16) (x6 : Vec F S1x128x512 .bf16) (s : Fin 2) : FVec F S256x512 .bf16 :=
  k0_pay19 (k0_pay9 (xnV x1 x3 s) (wkV x4)) (cumV x1 x3 x5 x6 s)

/-- The keys decayed to the end of their chunk. -/
def keV (x1 : Vec F S1x512x1024 .f32) (x3 : Vec F S1x8x1024 .f32) (x4 : Vec F S1x1024x3088 .bf16) (x5 : Vec F S1x1024x128 .bf16) (x6 : Vec F S1x128x512 .bf16) (s : Fin 2) : FVec F S256x512 .bf16 :=
  k0_pay20 (k0_pay9 (xnV x1 x3 s) (wkV x4)) (cumV x1 x3 x5 x6 s)

/-- The values. -/
def vV (x1 : Vec F S1x512x1024 .f32) (x3 : Vec F S1x8x1024 .f32) (x4 : Vec F S1x1024x3088 .bf16) (s : Fin 2) : FVec F S256x1024 .bf16 :=
  k0_pay13 (xnV x1 x3 s) (k0_pay12 (xnV x1 x3 s) (wv0V x4)) (wv1V x4)

/-- The output gate. -/
def gateV (x1 : Vec F S1x512x1024 .f32) (x3 : Vec F S1x8x1024 .f32) (x4 : Vec F S1x1024x3088 .bf16) (s : Fin 2) : FVec F S256x1024 .f32 :=
  k0_pay25 (xnV x1 x3 s) (wg0V x4) (wg1V x4)

/-- A whole chunk's decay, chunk by chunk. -/
def endV (b : FVec F S256x512 .f32) : Fin 4 → FVec F S1x512 .f32
  | 0 => k0_pay21 b
  | 1 => k0_pay22 b
  | 2 => k0_pay23 b
  | 3 => k0_pay24 b

/-- A head's 128 columns. -/
def sl128 (x : FVec F S256x512 .bf16) : Fin 4 → FVec F S256x128 .bf16
  | 0 => extractStridedSlice S256x128 ![0, 0] x slices_S256x512_o0_0_S256x128
  | 1 => extractStridedSlice S256x128 ![0, 128] x slices_S256x512_o0_128_S256x128
  | 2 => extractStridedSlice S256x128 ![0, 256] x slices_S256x512_o0_256_S256x128
  | 3 => extractStridedSlice S256x128 ![0, 384] x slices_S256x512_o0_384_S256x128

/-- A head's 128 columns of a single row. -/
def sl1 (x : FVec F S1x512 .f32) : Fin 4 → FVec F S1x128 .f32
  | 0 => extractStridedSlice S1x128 ![0, 0] x slices_S1x512_o0_0_S1x128
  | 1 => extractStridedSlice S1x128 ![0, 128] x slices_S1x512_o0_128_S1x128
  | 2 => extractStridedSlice S1x128 ![0, 256] x slices_S1x512_o0_256_S1x128
  | 3 => extractStridedSlice S1x128 ![0, 384] x slices_S1x512_o0_384_S1x128

/-- A head's 256 columns. -/
def sl256 {t : FTy} (x : FVec F S256x1024 t) : Fin 4 → FVec F S256x256 t
  | 0 => extractStridedSlice S256x256 ![0, 0] x slices_S256x1024_o0_0_S256x256
  | 1 => extractStridedSlice S256x256 ![0, 256] x slices_S256x1024_o0_256_S256x256
  | 2 => extractStridedSlice S256x256 ![0, 512] x slices_S256x1024_o0_512_S256x256
  | 3 => extractStridedSlice S256x256 ![0, 768] x slices_S256x1024_o0_768_S256x256

/-- A chunk's 128 rows of the stacked state increments. -/
def slD (x : FVec F S512x256 .f32) : Fin 4 → FVec F S128x256 .f32
  | 0 => extractStridedSlice S128x256 ![0, 0] x slices_S512x256_o0_0_S128x256
  | 1 => extractStridedSlice S128x256 ![128, 0] x slices_S512x256_o128_0_S128x256
  | 2 => extractStridedSlice S128x256 ![256, 0] x slices_S512x256_o256_0_S128x256
  | 3 => extractStridedSlice S128x256 ![384, 0] x slices_S512x256_o384_0_S128x256

/-- The rows of one chunk, the others zero. -/
def maskV (w : BitVec 32) (x : FVec F S256x128 .bf16) : FVec F S256x128 .bf16 :=
  select (cmpi .eq k0_pay28 (broadcast S256x128 w)) x (broadcast S256x128 (Scalar.ofBits .bf16 0x0000#16))

/-- The four chunks side by side. -/
def spreadV (x : FVec F S256x128 .bf16) : FVec F S256x512 .bf16 :=
  concatenate S256x512 1 [⟨S256x128, maskV 0#32 x⟩, ⟨S256x128, maskV 64#32 x⟩, ⟨S256x128, maskV 128#32 x⟩, ⟨S256x128, maskV 192#32 x⟩] concatenates_S256x128_S256x128_S256x128_S256x128_S256x512_d1

/-- The four chunks' state increments, stacked. -/
def deltaV (ke : FVec F S256x128 .bf16) (v : FVec F S256x256 .bf16) : FVec F S512x256 .f32 :=
  matmul dot_S256x512_S256x256_S512x256_0_0_1_1_n_n none (spreadV ke) v (constant S512x256 .f32 0x00000000#32)

/-- The state after one chunk: the decay spread along the diagonal and summed back, times the state, plus the increment. -/
def stepV (e : FVec F S1x128 .f32) (S d : FVec F S128x256 .f32) : FVec F S128x256 .f32 :=
  addf (mulf (broadcastTo S128x256 (shapeCast S128x1 (multiReduction .add [1] S128 (mulf k0_pay26 (broadcastTo S128x128 e broadcasts_S1x128_S128x128)) 0x00000000#32 reduces_S128x128_S128 (.inl rfl) rfl) shapeCasts_S128_S128x1) broadcasts_S128x1_S128x256) S) d

/-- The state after the first `n` chunks of a half. -/
def chainV (e : Fin 4 → FVec F S1x128 .f32) (S : FVec F S128x256 .f32) (D : FVec F S512x256 .f32) : Fin 5 → FVec F S128x256 .f32
  | 0 => S
  | 1 => stepV (e 0) S (slD D 0)
  | 2 => stepV (e 1) (stepV (e 0) S (slD D 0)) (slD D 1)
  | 3 => stepV (e 2) (stepV (e 1) (stepV (e 0) S (slD D 0)) (slD D 1)) (slD D 2)
  | 4 => stepV (e 3) (stepV (e 2) (stepV (e 1) (stepV (e 0) S (slD D 0)) (slD D 1)) (slD D 2)) (slD D 3)

/-- A head's scores against the values inside each chunk. -/
def intraV (qd ki : FVec F S256x128 .bf16) (v : FVec F S256x256 .bf16) : FVec F S256x256 .f32 :=
  matmul dot_S256x256_S256x256_S256x256_1_0_0_1_n_n none (truncf .bf16 (select k0_pay10 (matmul dot_S256x128_S256x128_S256x256_1_1_0_0_n_n none qd ki (constant S256x256 .f32 0x00000000#32)) (broadcast S256x256 (Scalar.ofBits .f32 0x00000000#32))) bitsLt_bf16_f32) v (constant S256x256 .f32 0x00000000#32)

/-- A head's decayed queries against the state its chunk starts from. -/
def interV (qd : FVec F S256x128 .bf16) (T : Fin 5 → FVec F S128x256 .f32) : FVec F S256x256 .f32 :=
  matmul dot_S256x512_S512x256_S256x256_1_0_0_1_n_n none (spreadV qd)
    (concatenate S512x256 0 [⟨S128x256, truncf .bf16 (T 0) bitsLt_bf16_f32⟩, ⟨S128x256, truncf .bf16 (T 1) bitsLt_bf16_f32⟩, ⟨S128x256, truncf .bf16 (T 2) bitsLt_bf16_f32⟩, ⟨S128x256, truncf .bf16 (T 3) bitsLt_bf16_f32⟩] concatenates_S128x256_S128x256_S128x256_S128x256_S512x256_d0)
    (constant S256x256 .f32 0x00000000#32)

/-- A head's output normalised, weighted and gated. -/
def outV (o : FVec F S256x256 .f32) (gn : FVec F S1x256 .f32) (g : FVec F S256x256 .f32) : FVec F S256x256 .f32 :=
  mulf (mulf (mulf o (broadcastTo S256x256 (rsqrt (addf (divf (shapeCast S256x1 (multiReduction .add [1] S256 (mulf o o) 0x00000000#32 reduces_S256x256_S256 (.inl rfl) rfl) shapeCasts_S256_S256x1) (broadcast S256x1 (Scalar.ofBits .f32 0x43800000#32))) (broadcast S256x1 (Scalar.ofBits .f32 0x358637BD#32)))) broadcasts_S256x1_S256x256)) (broadcastTo S256x256 gn broadcasts_S1x256_S256x256)) g

/-- A half's states of head `h`, from the state the half starts from. -/
def statesV (x1 : Vec F S1x512x1024 .f32) (x3 : Vec F S1x8x1024 .f32) (x4 : Vec F S1x1024x3088 .bf16) (x5 : Vec F S1x1024x128 .bf16) (x6 : Vec F S1x128x512 .bf16) (s : Fin 2) (h : Fin 4) (S : FVec F S128x256 .f32) : Fin 5 → FVec F S128x256 .f32 :=
  chainV (fun n => sl1 (endV (cumV x1 x3 x5 x6 s) n) h) S (deltaV (sl128 (keV x1 x3 x4 x5 x6 s) h) (sl256 (vV x1 x3 x4 s) h))

/-- A half's output of head `h`, from the state the half starts from. -/
def headV (x1 : Vec F S1x512x1024 .f32) (x3 : Vec F S1x8x1024 .f32) (x4 : Vec F S1x1024x3088 .bf16) (x5 : Vec F S1x1024x128 .bf16) (x6 : Vec F S1x128x512 .bf16) (s : Fin 2) (h : Fin 4) (S : FVec F S128x256 .f32) : FVec F S256x256 .f32 :=
  outV (addf (intraV (sl128 (qdV x1 x3 x4 x5 x6 s) h) (sl128 (kiV x1 x3 x4 x5 x6 s) h) (sl256 (vV x1 x3 x4 s) h)) (interV (sl128 (qdV x1 x3 x4 x5 x6 s) h) (statesV x1 x3 x4 x5 x6 s h S)))
    (k0_pay27 (gnV x3)) (sl256 (gateV x1 x3 x4 s) h)

/-- … as the piece stored to the attention's output block. -/
def pieceV (x1 : Vec F S1x512x1024 .f32) (x3 : Vec F S1x8x1024 .f32) (x4 : Vec F S1x1024x3088 .bf16) (x5 : Vec F S1x1024x128 .bf16) (x6 : Vec F S1x128x512 .bf16) (s : Fin 2) (h : Fin 4) (S : FVec F S128x256 .f32) : FVec F S1x256x256 .bf16 :=
  shapeCast S1x256x256 (shapeCast S1x256x256 (truncf .bf16 (headV x1 x3 x4 x5 x6 s h S) bitsLt_bf16_f32) shapeCasts_S256x256_S1x256x256) shapeCasts_S1x256x256_S1x256x256

/-- Head `h` of a state block. -/
def inV (x0 : Vec F S1x1x4x128x256 .f32) : Fin 4 → FVec F S128x256 .f32
  | 0 => shapeCast S128x256 (View.ld x0 (Rect.unit ![0, 0, 0, 0, 0] S1x1x1x128x256.size inb_S1x1x4x128x256_S1x1x1x128x256_0_0_0_0_0)) shapeCasts_S1x1x1x128x256_S128x256
  | 1 => shapeCast S128x256 (View.ld x0 (Rect.unit ![0, 0, 1, 0, 0] S1x1x1x128x256.size inb_S1x1x4x128x256_S1x1x1x128x256_0_0_1_0_0)) shapeCasts_S1x1x1x128x256_S128x256
  | 2 => shapeCast S128x256 (View.ld x0 (Rect.unit ![0, 0, 2, 0, 0] S1x1x1x128x256.size inb_S1x1x4x128x256_S1x1x1x128x256_0_0_2_0_0)) shapeCasts_S1x1x1x128x256_S128x256
  | 3 => shapeCast S128x256 (View.ld x0 (Rect.unit ![0, 0, 3, 0, 0] S1x1x1x128x256.size inb_S1x1x4x128x256_S1x1x1x128x256_0_0_3_0_0)) shapeCasts_S1x1x1x128x256_S128x256

/-- The rows normalised: over the root of their mean square, times the weights. -/
def rmsV (x : FVec F S256x1024 .f32) (w : Vec F S1x1x1024 .f32) : FVec F S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024)) (broadcastTo S256x1024 (shapeCast S1x1024 w shapeCasts_S1x1x1024_S1x1024) broadcasts_S1x1024_S256x1024)

/-- The rows with the attention's projected output added. -/
def h2V (x1 : Vec F S1x512x1024 .f32) (x7 : Vec F S1x1024x1024 .bf16) (ob : Vec F S1x256x1024 .bf16) (s : Fin 2) : FVec F S256x1024 .f32 :=
  k0_pay104 (k0_pay102 (hV x1 s)) (k0_pay103 ob) (View.ld x7 (Rect.unit ![0, 0, 0] S1x1024x1024.size inb_S1x1024x1024_S1x1024x1024_0_0_0))

/-- One of the eleven column blocks of the feed-forward layer. -/
def ffn1 (xf : FVec F S256x1024 .bf16) (wg wu : Vec F S1x1024x256 .bf16) (wd : Vec F S1x256x1024 .bf16) : FVec F S256x1024 .f32 :=
  matmul dot_S256x256_S256x1024_S256x1024_1_0_0_1_n_n none
    (truncf .bf16 (mulf (mulf (k0_pay116 xf wg) (logistic (k0_pay116 xf wg))) (k0_pay116 xf wu)) bitsLt_bf16_f32)
    (shapeCast S256x1024 wd shapeCasts_S1x256x1024_S256x1024) (constant S256x1024 .f32 0x00000000#32)

/-- The gate's columns of a block. -/
def gcol (x8 : Vec F S1x1024x2816 .bf16) : Fin 11 → Vec F S1x1024x256 .bf16
  | 0 => View.ld x8 (Rect.unit ![0, 0, 0] S1x1024x256.size inb_S1x1024x2816_S1x1024x256_0_0_0)
  | 1 => View.ld x8 (Rect.unit ![0, 0, 256] S1x1024x256.size inb_S1x1024x2816_S1x1024x256_0_0_256)
  | 2 => View.ld x8 (Rect.unit ![0, 0, 512] S1x1024x256.size inb_S1x1024x2816_S1x1024x256_0_0_512)
  | 3 => View.ld x8 (Rect.unit ![0, 0, 768] S1x1024x256.size inb_S1x1024x2816_S1x1024x256_0_0_768)
  | 4 => View.ld x8 (Rect.unit ![0, 0, 1024] S1x1024x256.size inb_S1x1024x2816_S1x1024x256_0_0_1024)
  | 5 => View.ld x8 (Rect.unit ![0, 0, 1280] S1x1024x256.size inb_S1x1024x2816_S1x1024x256_0_0_1280)
  | 6 => View.ld x8 (Rect.unit ![0, 0, 1536] S1x1024x256.size inb_S1x1024x2816_S1x1024x256_0_0_1536)
  | 7 => View.ld x8 (Rect.unit ![0, 0, 1792] S1x1024x256.size inb_S1x1024x2816_S1x1024x256_0_0_1792)
  | 8 => View.ld x8 (Rect.unit ![0, 0, 2048] S1x1024x256.size inb_S1x1024x2816_S1x1024x256_0_0_2048)
  | 9 => View.ld x8 (Rect.unit ![0, 0, 2304] S1x1024x256.size inb_S1x1024x2816_S1x1024x256_0_0_2304)
  | 10 => View.ld x8 (Rect.unit ![0, 0, 2560] S1x1024x256.size inb_S1x1024x2816_S1x1024x256_0_0_2560)

/-- The down projection's rows of a block. -/
def drow (x10 : Vec F S1x2816x1024 .bf16) : Fin 11 → Vec F S1x256x1024 .bf16
  | 0 => View.ld x10 (Rect.unit ![0, 0, 0] S1x256x1024.size inb_S1x2816x1024_S1x256x1024_0_0_0)
  | 1 => View.ld x10 (Rect.unit ![0, 256, 0] S1x256x1024.size inb_S1x2816x1024_S1x256x1024_0_256_0)
  | 2 => View.ld x10 (Rect.unit ![0, 512, 0] S1x256x1024.size inb_S1x2816x1024_S1x256x1024_0_512_0)
  | 3 => View.ld x10 (Rect.unit ![0, 768, 0] S1x256x1024.size inb_S1x2816x1024_S1x256x1024_0_768_0)
  | 4 => View.ld x10 (Rect.unit ![0, 1024, 0] S1x256x1024.size inb_S1x2816x1024_S1x256x1024_0_1024_0)
  | 5 => View.ld x10 (Rect.unit ![0, 1280, 0] S1x256x1024.size inb_S1x2816x1024_S1x256x1024_0_1280_0)
  | 6 => View.ld x10 (Rect.unit ![0, 1536, 0] S1x256x1024.size inb_S1x2816x1024_S1x256x1024_0_1536_0)
  | 7 => View.ld x10 (Rect.unit ![0, 1792, 0] S1x256x1024.size inb_S1x2816x1024_S1x256x1024_0_1792_0)
  | 8 => View.ld x10 (Rect.unit ![0, 2048, 0] S1x256x1024.size inb_S1x2816x1024_S1x256x1024_0_2048_0)
  | 9 => View.ld x10 (Rect.unit ![0, 2304, 0] S1x256x1024.size inb_S1x2816x1024_S1x256x1024_0_2304_0)
  | 10 => View.ld x10 (Rect.unit ![0, 2560, 0] S1x256x1024.size inb_S1x2816x1024_S1x256x1024_0_2560_0)

/-- A column block, by number. -/
def ffnC (x8 x9 : Vec F S1x1024x2816 .bf16) (x10 : Vec F S1x2816x1024 .bf16) (xf : FVec F S256x1024 .bf16) (n : Fin 11) : FVec F S256x1024 .f32 :=
  ffn1 xf (gcol x8 n) (gcol x9 n) (drow x10 n)

/-- The feed-forward layer: its eleven column blocks added first to last. -/
def ffnV (x8 x9 : Vec F S1x1024x2816 .bf16) (x10 : Vec F S1x2816x1024 .bf16) (xf : FVec F S256x1024 .bf16) : FVec F S256x1024 .f32 :=
  addf (addf (addf (addf (addf (addf (addf (addf (addf (addf (ffnC x8 x9 x10 xf 0) (ffnC x8 x9 x10 xf 1)) (ffnC x8 x9 x10 xf 2)) (ffnC x8 x9 x10 xf 3)) (ffnC x8 x9 x10 xf 4)) (ffnC x8 x9 x10 xf 5)) (ffnC x8 x9 x10 xf 6)) (ffnC x8 x9 x10 xf 7)) (ffnC x8 x9 x10 xf 8)) (ffnC x8 x9 x10 xf 9)) (ffnC x8 x9 x10 xf 10)

/-- The rows after the feed-forward layer. -/
def h3V (x3 : Vec F S1x8x1024 .f32) (x8 x9 : Vec F S1x1024x2816 .bf16) (x10 : Vec F S1x2816x1024 .bf16) (h2 : FVec F S256x1024 .f32) : FVec F S256x1024 .f32 :=
  addf h2 (ffnV x8 x9 x10 (truncf .bf16 (rmsV h2 (nfV x3)) bitsLt_bf16_f32))

/-- The embedding gate. -/
def pleV (x3 : Vec F S1x8x1024 .f32) (x11 : Vec F S1x1024x1024 .bf16) (h3 : FVec F S256x1024 .f32) : FVec F S256x1024 .f32 :=
  logistic (matmul dot_S256x1024_S1024x1024_S256x1024_1_0_0_1_n_n none (truncf .bf16 (rmsV h3 (npV x3)) bitsLt_bf16_f32) (shapeCast S1024x1024 (View.ld x11 (Rect.unit ![0, 0, 0] S1x1024x1024.size inb_S1x1024x1024_S1x1024x1024_0_0_0)) shapeCasts_S1x1024x1024_S1024x1024) (constant S256x1024 .f32 0x00000000#32))

/-- The rows with the gated embedding added. -/
def h4V (x2 : Vec F S1x1x512x256 .f32) (x3 : Vec F S1x8x1024 .f32) (x11 : Vec F S1x1024x1024 .bf16) (x12 : Vec F S1x256x1024 .bf16) (h3 : FVec F S256x1024 .f32) (s : Fin 2) : FVec F S256x1024 .f32 :=
  addf h3 (mulf (pleV x3 x11 h3) (matmul dot_S256x256_S256x1024_S256x1024_1_0_0_1_n_n none (truncf .bf16 (shapeCast S256x256 (shapeCast S1x256x256 (pV x2 s) shapeCasts_S1x1x256x256_S1x256x256) shapeCasts_S1x256x256_S256x256) bitsLt_bf16_f32) (shapeCast S256x1024 (View.ld x12 (Rect.unit ![0, 0, 0] S1x256x1024.size inb_S1x256x1024_S1x256x1024_0_0_0)) shapeCasts_S1x256x1024_S256x1024) (constant S256x1024 .f32 0x00000000#32)))

/-- A half's result rows, from the attention's output rows. -/
def yV (x1 : Vec F S1x512x1024 .f32) (x2 : Vec F S1x1x512x256 .f32) (x3 : Vec F S1x8x1024 .f32) (x7 : Vec F S1x1024x1024 .bf16) (x8 x9 : Vec F S1x1024x2816 .bf16) (x10 : Vec F S1x2816x1024 .bf16) (x11 : Vec F S1x1024x1024 .bf16) (x12 : Vec F S1x256x1024 .bf16) (ob : Vec F S1x256x1024 .bf16) (s : Fin 2) : FVec F S1x256x1024 .f32 :=
  shapeCast S1x256x1024 (rmsV (h4V x2 x3 x11 x12 (h3V x3 x8 x9 x10 (h2V x1 x7 ob s)) s) (nzV x3)) shapeCasts_S256x1024_S1x256x1024

end Cert.KernelIdeal.Gla
-- ==== Proof.Spec.lean ====
/-
  The layer as plain sums over the extended reals, token by token: the normalised row and its projections, the gated
  linear attention's recurrence over chunks of 64 tokens, and the rest of the layer. Both programs are shown to compute
  these functions.
-/
module

public import Idealize.ShloMosaic.Lib.Pointwise

@[expose] public section

noncomputable section

namespace Cert.Gla

open Idealize.ShloMosaic

/-- A row over the root of its mean square (`cN` is the row's length), times the weights. -/
def rms {n : ℕ} (cN : EReal) (x w : Fin n → EReal) (j : Fin n) : EReal :=
  x j * Ideal.rsqrt (Ideal.div (∑ i, x i * x i) cN + Ideal.ofBits .f32 0x358637BD#32) * w j

/-- A row times a matrix. -/
def lin {a b : ℕ} (x : Fin a → EReal) (w : Fin a → Fin b → EReal) (j : Fin b) : EReal := ∑ i, x i * w i j

/-- The gate function `z / (1 + e^{-z})`. -/
def silu (z : EReal) : EReal := z * Ideal.logistic z

/-- A sixteenth of the logarithm of the logistic function. -/
def logDecay (z : EReal) : EReal :=
  (min z 0 - Ideal.log1p (Ideal.exp (0 - max z (-z)))) * Ideal.ofBits .f32 0x3D800000#32

/-- The layer's weights. -/
structure Wts where
  nm : Fin 1024 → EReal
  win : Fin 1024 → Fin 3088 → EReal
  gu : Fin 16 → Fin 512 → EReal
  bias : Fin 512 → EReal
  gn : Fin 256 → EReal
  wo : Fin 1024 → Fin 1024 → EReal
  nf : Fin 1024 → EReal
  wg : Fin 1024 → Fin 2816 → EReal
  wu : Fin 1024 → Fin 2816 → EReal
  wd : Fin 2816 → Fin 1024 → EReal
  np : Fin 1024 → EReal
  wpg : Fin 1024 → Fin 1024 → EReal
  wpp : Fin 256 → Fin 1024 → EReal
  nz : Fin 1024 → EReal

variable (W : Wts)

/-- The normalised row. -/
def xnR (x : Fin 1024 → EReal) : Fin 1024 → EReal := rms (Ideal.ofBits .f32 0x44800000#32) x W.nm

/-- A column of the projected row. -/
def projR (x : Fin 1024 → EReal) (c : Fin 3088) : EReal := ∑ i, xnR W x i * W.win i c

/-- The scaled queries. -/
def qR (x : Fin 1024 → EReal) (c : Fin 512) : EReal :=
  projR W x ⟨c, by omega⟩ * Ideal.ofBits .f32 0x3DB504F3#32

/-- The keys. -/
def kR (x : Fin 1024 → EReal) (c : Fin 512) : EReal := projR W x ⟨512 + c, by omega⟩

/-- The values. -/
def vR (x : Fin 1024 → EReal) (c : Fin 1024) : EReal := projR W x ⟨1024 + c, by omega⟩

/-- The output gate. -/
def gR (x : Fin 1024 → EReal) (c : Fin 1024) : EReal := silu (projR W x ⟨2048 + c, by omega⟩)

/-- The log decays. -/
def laR (x : Fin 1024 → EReal) (c : Fin 512) : EReal :=
  logDecay ((∑ r : Fin 16, projR W x ⟨3072 + r, by omega⟩ * W.gu r c) + W.bias c)

/-- A head's column of 128. -/
def c128 (h : Fin 4) (j : Fin 128) : Fin 512 := ⟨128 * h + j, by omega⟩

/-- A head's column of 256. -/
def c256 (h : Fin 4) (d : Fin 256) : Fin 1024 := ⟨256 * h + d, by omega⟩

section Recurrence

variable (q k la : ℕ → Fin 128 → EReal) (v : ℕ → Fin 256 → EReal)

/-- The log decays of chunk `n` summed from its start up to row `i`. -/
def cum (n i : ℕ) (j : Fin 128) : EReal := ∑ s : Fin 64, if (s : ℕ) ≤ i then la (64 * n + s) j else 0

/-- The state after `n` chunks: decayed over the chunk, plus the chunk's keys, decayed to its end, against its values. -/
def ST : ℕ → Fin 128 → Fin 256 → EReal
  | 0, _, _ => 0
  | n + 1, j, d => Ideal.exp (cum la n 63 j) * ST n j d
      + ∑ s : Fin 64, (k (64 * n + s) j * Ideal.exp (cum la n 63 j - cum la n s j)) * v (64 * n + s) d

/-- Row `i` of chunk `n`'s output: the decayed scores inside the chunk, and the state the chunk starts from. -/
def OT (n i : ℕ) (d : Fin 256) : EReal :=
  (∑ s : Fin 64, (if (s : ℕ) ≤ i then ∑ j, (q (64 * n + i) j * Ideal.exp (cum la n i j)) * (k (64 * n + s) j * Ideal.exp (0 - cum la n s j)) else 0) * v (64 * n + s) d)
    + ∑ j, (q (64 * n + i) j * Ideal.exp (cum la n i j)) * ST k la v n j d

end Recurrence

/-- Head `h`'s queries, keys, log decays and values of a sequence of rows. -/
def qT (H : ℕ → Fin 1024 → EReal) (h : Fin 4) (t : ℕ) (j : Fin 128) : EReal := qR W (H t) (c128 h j)
def kT (H : ℕ → Fin 1024 → EReal) (h : Fin 4) (t : ℕ) (j : Fin 128) : EReal := kR W (H t) (c128 h j)
def laT (H : ℕ → Fin 1024 → EReal) (h : Fin 4) (t : ℕ) (j : Fin 128) : EReal := laR W (H t) (c128 h j)
def vT (H : ℕ → Fin 1024 → EReal) (h : Fin 4) (t : ℕ) (d : Fin 256) : EReal := vR W (H t) (c256 h d)

/-- Head `h`'s state after `n` chunks. -/
def stT (H : ℕ → Fin 1024 → EReal) (h : Fin 4) : ℕ → Fin 128 → Fin 256 → EReal :=
  ST (kT W H h) (laT W H h) (vT W H h)

/-- Head `h`'s output at row `i` of chunk `n`. -/
def oT (H : ℕ → Fin 1024 → EReal) (h : Fin 4) (n i : ℕ) : Fin 256 → EReal :=
  OT (qT W H h) (kT W H h) (laT W H h) (vT W H h) n i

/-- The attention's output, normalised head by head and gated. -/
def attT (H : ℕ → Fin 1024 → EReal) (n i : ℕ) (c : Fin 1024) : EReal :=
  rms (Ideal.ofBits .f32 0x43800000#32) (oT W H ⟨c / 256, by omega⟩ n i) W.gn ⟨c % 256, by omega⟩ * gR W (H (64 * n + i)) c

/-- The row after the mixer. -/
def h2R (x a : Fin 1024 → EReal) (c : Fin 1024) : EReal := x c + ∑ i, a i * W.wo i c

/-- The feed-forward layer's hidden row. -/
def ffR (x : Fin 1024 → EReal) (c : Fin 2816) : EReal :=
  silu (∑ i, rms (Ideal.ofBits .f32 0x44800000#32) x W.nf i * W.wg i c) * ∑ i, rms (Ideal.ofBits .f32 0x44800000#32) x W.nf i * W.wu i c

/-- The row after the feed-forward layer. -/
def h3R (x : Fin 1024 → EReal) (c : Fin 1024) : EReal := x c + ∑ i, ffR W x i * W.wd i c

/-- The row after the gated per-layer embedding. -/
def h4R (x : Fin 1024 → EReal) (p : Fin 256 → EReal) (c : Fin 1024) : EReal :=
  x c + Ideal.logistic (∑ i, rms (Ideal.ofBits .f32 0x44800000#32) x W.np i * W.wpg i c) * ∑ i, p i * W.wpp i c

/-- The result row of the layer and the final norm, from the row and its attention output. -/
def yR (x a : Fin 1024 → EReal) (p : Fin 256 → EReal) : Fin 1024 → EReal :=
  rms (Ideal.ofBits .f32 0x44800000#32) (h4R W (h3R W (h2R W x a)) p) W.nz

/-- The layer's result at token `t`: the whole sequence through the attention, the token's row through the rest. -/
def outT (H : ℕ → Fin 1024 → EReal) (P : ℕ → Fin 256 → EReal) (t : ℕ) : Fin 1024 → EReal :=
  yR W (H t) (attT W H (t / 64) (t % 64)) (P t)

/-- The layer's weights, from the stacked argument arrays: layer 1 of the two norms and of the feed-forward and embedding
weights, the attention's own weights. -/
def wOf (a2 a3 a4 : (⟨2, ![2, 1024]⟩ : Shape).Idx → EReal) (a5 : (⟨1, ![1024]⟩ : Shape).Idx → EReal)
    (a6 : (⟨3, ![1, 1024, 3088]⟩ : Shape).Idx → EReal) (a7 : (⟨3, ![1, 16, 512]⟩ : Shape).Idx → EReal)
    (a8 : (⟨2, ![1, 512]⟩ : Shape).Idx → EReal) (a9 : (⟨2, ![1, 256]⟩ : Shape).Idx → EReal)
    (a10 : (⟨3, ![1, 1024, 1024]⟩ : Shape).Idx → EReal) (a11 a12 : (⟨3, ![2, 1024, 2816]⟩ : Shape).Idx → EReal)
    (a13 : (⟨3, ![2, 2816, 1024]⟩ : Shape).Idx → EReal) (a14 : (⟨3, ![2, 256, 1024]⟩ : Shape).Idx → EReal)
    (a15 : (⟨3, ![2, 1024, 1024]⟩ : Shape).Idx → EReal) : Wts where
  nm c := a2 (ix2 1 c)
  win i c := a6 (ix3 0 i c)
  gu r c := a7 (ix3 0 r c)
  bias c := a8 (ix2 0 c)
  gn c := a9 (ix2 0 c)
  wo i c := a10 (ix3 0 i c)
  nf c := a3 (ix2 1 c)
  wg i c := a11 (ix3 1 i c)
  wu i c := a12 (ix3 1 i c)
  wd i c := a13 (ix3 1 i c)
  np c := a4 (ix2 1 c)
  wpg i c := a15 (ix3 1 i c)
  wpp i c := a14 (ix3 1 i c)
  nz c := a5 (ix1 c)

/-- A batch's rows as a sequence. -/
def hOf (a0 : (⟨3, ![4, 4096, 1024]⟩ : Shape).Idx → EReal) (b : Fin 4) (t : ℕ) (c : Fin 1024) : EReal :=
  a0 (ix3 b ⟨t % 4096, by omega⟩ c)

/-- A batch's rows of the per-layer embedding, layer 1. -/
def pOf (a1 : (⟨4, ![2, 4, 4096, 256]⟩ : Shape).Idx → EReal) (b : Fin 4) (t : ℕ) (c : Fin 256) : EReal :=
  a1 (ix4 1 b ⟨t % 4096, by omega⟩ c)

end Cert.Gla
-- ==== Proof.Scal.lean ====
/-
  Scalar facts over the extended reals: the log decay is never `⊤`, so a masked sum of decays plus the masked sum of
  each decay less itself is the masked sum; and the host's spelling of the log decay is the kernel's.
-/
module

public import proofs.«01_k».proof.Proof.Spec

@[expose] public section

noncomputable section

namespace Cert.Gla

open Idealize.ShloMosaic

theorem sixteenth : Ideal.ofBits .f32 0x3D800000#32 = ((1 / 16 : ℝ) : EReal) := by
  simp [Ideal.ofBits, Ideal.ieee, -EReal.coe_mul]
  norm_num

theorem sixteen : Ideal.ofBits .f32 0x41800000#32 = ((16 : ℝ) : EReal) := by
  simp [Ideal.ofBits, Ideal.ieee, -EReal.coe_mul]
  norm_num

/-- The correction term of the log decay is a non-negative real. -/
theorem log_term (x : EReal) (hx : x ≤ 0) : ∃ l : ℝ, 0 ≤ l ∧ Ideal.log1p (Ideal.exp x) = l := by
  induction x using EReal.rec with
  | bot =>
    refine ⟨0, le_refl _, ?_⟩
    show Ideal.log (1 + 0) = _
    rw [add_zero]
    show (if (1 : ℝ) ≤ 0 then ⊥ else (Real.log 1 : EReal)) = _
    rw [if_neg (by norm_num), Real.log_one]
  | top => simp at hx
  | coe r =>
    refine ⟨Real.log (1 + Real.exp r), Real.log_nonneg (by have := Real.exp_pos r; linarith), ?_⟩
    have e : (1 : EReal) + (Real.exp r : EReal) = ((1 + Real.exp r : ℝ) : EReal) := by norm_cast
    have p : ¬ (1 + Real.exp r ≤ 0) := by have := Real.exp_pos r; linarith
    show Ideal.log (1 + (Real.exp r : EReal)) = _
    rw [e]
    show (if 1 + Real.exp r ≤ 0 then ⊥ else (Real.log (1 + Real.exp r) : EReal)) = _
    rw [if_neg p]

theorem neg_abs_le (z : EReal) : 0 - max z (-z) ≤ 0 := by
  have h : 0 ≤ max z (-z) := by
    rcases le_total 0 z with h | h
    · exact le_max_of_le_left h
    · exact le_max_of_le_right (by simpa using EReal.neg_le_neg_iff.mpr h)
  rw [zero_sub]
  simpa using EReal.neg_le_neg_iff.mpr h

theorem logDecay_ne_top (z : EReal) : logDecay z ≠ ⊤ := by
  obtain ⟨l, hl, e⟩ := log_term _ (neg_abs_le z)
  unfold logDecay
  rw [e, sixteenth]
  have h : min z 0 ≤ 0 := min_le_right _ _
  generalize min z 0 = y at h
  induction y using EReal.rec with
  | bot =>
    rw [show (⊥ : EReal) - (l : EReal) = ⊥ from rfl, EReal.bot_mul_coe_of_pos (by norm_num)]
    exact bot_ne_top
  | top => simp at h
  | coe r => exact_mod_cast EReal.coe_ne_top ((r - l) * (1 / 16))

/-- A masked sum plus the masked sum of each term less itself is the masked sum, no term being `⊤`. -/
theorem sum_masked {n : ℕ} (a : Fin n → EReal) (ha : ∀ i, a i ≠ ⊤) (P : Fin n → Prop) [DecidablePred P] :
    (∑ i, if P i then a i else 0) + (∑ i, if P i then a i - a i else 0) = ∑ i, if P i then a i else 0 := by
  by_cases h : ∀ i, P i → a i ≠ ⊥
  · rw [Finset.sum_eq_zero (f := fun i => if P i then a i - a i else 0), add_zero]
    intro i _
    split_ifs with p
    · exact EReal.sub_self (ha i) (h i p)
    · rfl
  · push Not at h
    obtain ⟨i, p, e⟩ := h
    have z : (∑ i, if P i then a i else 0) = ⊥ := by
      rw [← Finset.add_sum_erase _ _ (Finset.mem_univ i), if_pos p, e, EReal.bot_add]
    rw [z, EReal.bot_add]

/-- The host's spelling of the log decay. -/
theorem logDecay_host (z : EReal) :
    Ideal.div (-(max (-z) 0 + Ideal.log1p (Ideal.exp (-(max (-z) (-(-z))))))) (Ideal.ofBits .f32 0x41800000#32) = logDecay z := by
  unfold logDecay
  rw [sixteen, sixteenth, neg_neg, max_comm (-z) z, ← zero_sub (max z (-z))]
  obtain ⟨l, hl, e⟩ := log_term _ (neg_abs_le z)
  rw [e]
  have h1 : -(max (-z) 0 + (l : EReal)) = min z 0 - l := by
    rw [EReal.neg_add (Or.inr (EReal.coe_ne_top l)) (Or.inr (EReal.coe_ne_bot l))]
    have h2 : -max (-z) 0 = min z 0 := by
      rcases le_total 0 z with h | h
      · rw [max_eq_right (by simpa using EReal.neg_le_neg_iff.mpr h), min_eq_right h, neg_zero]
      · rw [max_eq_left (by simpa using EReal.neg_le_neg_iff.mpr h), min_eq_left h, neg_neg]
    rw [h2]
  rw [h1]
  have h3 : ((16 : ℝ) : EReal) ≠ 0 := by norm_num
  unfold Ideal.div
  rw [if_neg h3, ← EReal.coe_inv]
  norm_num

end Cert.Gla
-- ==== Proof.Pay.lean ====
/-
  The array functions of a half, read at an index over the extended reals: each is the layer's plain function of the
  half's rows.
-/
module

public import proofs.«01_k».proof.Proof.Vec
public import proofs.«01_k».proof.Proof.Scal

@[expose] public section

set_option maxRecDepth 16384

noncomputable section

namespace Cert.KernelIdeal.Gla

open Cert.KernelIdeal Cert.KernelIdeal.Gen Cert.Gla Idealize.ShloMosaic Idealize.ShloMosaic.TcCoe Idealize.SL.Sem

/-- What the kernel's weight blocks hold of the layer's weights. -/
structure KW (W : Wts) (x3 : Vec Ideal S1x8x1024 .f32) (x4 : Vec Ideal S1x1024x3088 .bf16) (x5 : Vec Ideal S1x1024x128 .bf16) (x6 : Vec Ideal S1x128x512 .bf16) (x7 : Vec Ideal S1x1024x1024 .bf16) (x8 x9 : Vec Ideal S1x1024x2816 .bf16) (x10 : Vec Ideal S1x2816x1024 .bf16) (x11 : Vec Ideal S1x1024x1024 .bf16) (x12 : Vec Ideal S1x256x1024 .bf16) : Prop where
  nm : ∀ c : Fin 1024, x3 (ix3 0 0 c) = W.nm c
  nf : ∀ c : Fin 1024, x3 (ix3 0 1 c) = W.nf c
  np : ∀ c : Fin 1024, x3 (ix3 0 2 c) = W.np c
  bias : ∀ c : Fin 512, x3 (ix3 0 3 ⟨c, by omega⟩) = W.bias c
  gn : ∀ c : Fin 256, x3 (ix3 0 4 ⟨c, by omega⟩) = W.gn c
  nz : ∀ c : Fin 1024, x3 (ix3 0 5 c) = W.nz c
  win : ∀ (i : Fin 1024) (c : Fin 3088), x4 (ix3 0 i c) = W.win i c
  wgr : ∀ (i : Fin 1024) (r : Fin 128), x5 (ix3 0 i r) = if h : (r : ℕ) < 16 then W.win i ⟨3072 + r, by omega⟩ else 0
  wgu : ∀ (r : Fin 128) (c : Fin 512), x6 (ix3 0 r c) = if h : (r : ℕ) < 16 then W.gu ⟨r, h⟩ c else 0
  wo : ∀ i c : Fin 1024, x7 (ix3 0 i c) = W.wo i c
  wg : ∀ (i : Fin 1024) (c : Fin 2816), x8 (ix3 0 i c) = W.wg i c
  wu : ∀ (i : Fin 1024) (c : Fin 2816), x9 (ix3 0 i c) = W.wu i c
  wd : ∀ (i : Fin 2816) (c : Fin 1024), x10 (ix3 0 i c) = W.wd i c
  wpg : ∀ i c : Fin 1024, x11 (ix3 0 i c) = W.wpg i c
  wpp : ∀ (i : Fin 256) (c : Fin 1024), x12 (ix3 0 i c) = W.wpp i c

/-- Row `r` of half `s` of the layer's input block. -/
def rowV (x1 : Vec Ideal S1x512x1024 .f32) (s : Fin 2) (r : Fin 256) (c : Fin 1024) : EReal :=
  x1 (ix3 0 ⟨256 * s + r, by omega⟩ c)

variable {W : Wts} {x3 : Vec Ideal S1x8x1024 .f32} {x4 : Vec Ideal S1x1024x3088 .bf16} {x5 : Vec Ideal S1x1024x128 .bf16} {x6 : Vec Ideal S1x128x512 .bf16} {x7 : Vec Ideal S1x1024x1024 .bf16} {x8 x9 : Vec Ideal S1x1024x2816 .bf16} {x10 : Vec Ideal S1x2816x1024 .bf16} {x11 : Vec Ideal S1x1024x1024 .bf16} {x12 : Vec Ideal S1x256x1024 .bf16}

theorem hV_at (x1 : Vec Ideal S1x512x1024 .f32) (s : Fin 2) (r : Fin 256) (c : Fin 1024) :
    hV x1 s (ix3 0 r c) = rowV x1 s r c := by
  match s with
  | 0 => pointwise [hV, rowV]; try simp
  | 1 => pointwise [hV, rowV]; try simp

theorem nm_at (K : KW W x3 x4 x5 x6 x7 x8 x9 x10 x11 x12) (c : Fin 1024) : nmV x3 (ix3 0 0 c) = W.nm c := by
  rw [← K.nm]; pointwise [nmV]; try rfl

theorem nf_at (K : KW W x3 x4 x5 x6 x7 x8 x9 x10 x11 x12) (c : Fin 1024) : nfV x3 (ix3 0 0 c) = W.nf c := by
  rw [← K.nf]; pointwise [nfV]; try rfl

theorem np_at (K : KW W x3 x4 x5 x6 x7 x8 x9 x10 x11 x12) (c : Fin 1024) : npV x3 (ix3 0 0 c) = W.np c := by
  rw [← K.np]; pointwise [npV]; try rfl

theorem nz_at (K : KW W x3 x4 x5 x6 x7 x8 x9 x10 x11 x12) (c : Fin 1024) : nzV x3 (ix3 0 0 c) = W.nz c := by
  rw [← K.nz]; pointwise [nzV]; try rfl

theorem bias_at (K : KW W x3 x4 x5 x6 x7 x8 x9 x10 x11 x12) (c : Fin 512) : biasV x3 (ix3 0 0 c) = W.bias c := by
  rw [← K.bias]; pointwise [biasV]; try simp

theorem gn_at (K : KW W x3 x4 x5 x6 x7 x8 x9 x10 x11 x12) (c : Fin 256) : gnV x3 (ix3 0 0 c) = W.gn c := by
  rw [← K.gn]; pointwise [gnV]; try simp

/-- The normalised rows. -/
theorem p6_at (K : KW W x3 x4 x5 x6 x7 x8 x9 x10 x11 x12) (x1 : Vec Ideal S1x512x1024 .f32) (s : Fin 2) (r : Fin 256) (c : Fin 1024) :
    k0_pay6 (hV x1 s) (nmV x3) (ix2 r c) = xnR W (rowV x1 s r) c := by
  pointwise [k0_pay6, k0_pay5, hV_at, nm_at K, xnR, rms]

theorem xn_at (K : KW W x3 x4 x5 x6 x7 x8 x9 x10 x11 x12) (x1 : Vec Ideal S1x512x1024 .f32) (s : Fin 2) (r : Fin 256) (c : Fin 1024) :
    xnV x1 x3 s (ix2 r c) = xnR W (rowV x1 s r) c := p6_at K x1 s r c

/-- The queries. -/
theorem q_at (K : KW W x3 x4 x5 x6 x7 x8 x9 x10 x11 x12) (x1 : Vec Ideal S1x512x1024 .f32) (s : Fin 2) (r : Fin 256) (c : Fin 512) :
    k0_pay7 (hV x1 s) (nmV x3) (wqV x4) (ix2 r c) = qR W (rowV x1 s r) c := by
  pointwise [k0_pay7, p6_at K, wqV, K.win, qR, projR]

/-- The keys. -/
theorem k_at (K : KW W x3 x4 x5 x6 x7 x8 x9 x10 x11 x12) (x1 : Vec Ideal S1x512x1024 .f32) (s : Fin 2) (r : Fin 256) (c : Fin 512) :
    k0_pay9 (xnV x1 x3 s) (wkV x4) (ix2 r c) = kR W (rowV x1 s r) c := by
  pointwise [k0_pay9, xn_at K, wkV, K.win, kR, projR]

/-- The values. -/
theorem v_at (K : KW W x3 x4 x5 x6 x7 x8 x9 x10 x11 x12) (x1 : Vec Ideal S1x512x1024 .f32) (s : Fin 2) (r : Fin 256) (c : Fin 1024) :
    vV x1 x3 x4 s (ix2 r c) = vR W (rowV x1 s r) c := by
  by_cases hc : (c : ℕ) < 512
  · pointwise [vV, k0_pay12, k0_pay13, xn_at K, wv0V, wv1V, K.win, vR, projR, hc]
  · have e : 1536 + ((c : ℕ) - 512) = 1024 + c := by omega
    pointwise [vV, k0_pay12, k0_pay13, xn_at K, wv0V, wv1V, K.win, vR, projR, hc]
    simp only [e]

/-- The gate. -/
theorem g_at (K : KW W x3 x4 x5 x6 x7 x8 x9 x10 x11 x12) (x1 : Vec Ideal S1x512x1024 .f32) (s : Fin 2) (r : Fin 256) (c : Fin 1024) :
    gateV x1 x3 x4 s (ix2 r c) = gR W (rowV x1 s r) c := by
  by_cases hc : (c : ℕ) < 512
  · pointwise [gateV, k0_pay25, xn_at K, wg0V, wg1V, K.win, gR, silu, projR, hc]
  · have e : 2560 + ((c : ℕ) - 512) = 2048 + c := by omega
    pointwise [gateV, k0_pay25, xn_at K, wg0V, wg1V, K.win, gR, silu, projR, hc]
    simp only [e]

/-- A sum whose terms vanish from the sixteenth on. -/
theorem sum_16 (f : Fin 128 → EReal) (hf : ∀ r : Fin 128, 16 ≤ (r : ℕ) → f r = 0) :
    ∑ r, f r = ∑ a : Fin 16, f ⟨a, by omega⟩ := by
  have e : ∑ r, f r = ∑ r : Fin (16 + 112), f r := rfl
  rw [e, Fin.sum_univ_add]
  have z : ∑ i : Fin 112, f (Fin.natAdd 16 i) = 0 :=
    Finset.sum_eq_zero fun i _ => hf _ (by show 16 ≤ 16 + (i : ℕ); omega)
  exact (congrArg _ z).trans (add_zero _)

/-- The decay's pre-activation, less its bias. -/
theorem gu_at (K : KW W x3 x4 x5 x6 x7 x8 x9 x10 x11 x12) (x1 : Vec Ideal S1x512x1024 .f32) (s : Fin 2) (r : Fin 256) (c : Fin 512) :
    k0_pay8 (hV x1 s) (nmV x3) (View.ld x5 (Rect.unit ![0, 0, 0] S1x1024x128.size inb_S1x1024x128_S1x1024x128_0_0_0)) (View.ld x6 (Rect.unit ![0, 0, 0] S1x128x512.size inb_S1x128x512_S1x128x512_0_0_0)) (ix2 r c)
      = ∑ a : Fin 16, projR W (rowV x1 s r) ⟨3072 + a, by omega⟩ * W.gu a c := by
  pointwise [k0_pay8, p6_at K, projR]
  refine (sum_16 _ fun a ha => ?_).trans (Finset.sum_congr rfl fun a _ => ?_)
  · refine (congrArg₂ (· * ·) rfl ((K.wgu a c).trans (dif_neg (by omega)))).trans (mul_zero _)
  · refine congrArg₂ (· * ·) (Finset.sum_congr rfl fun i _ => congrArg₂ (· * ·) rfl ?_) ?_
    · exact (K.wgr i _).trans (dif_pos a.isLt)
    · exact (K.wgu _ c).trans (dif_pos a.isLt)

theorem word_chunk : ∀ r : Fin 256, IntOp.andi (BitVec.ofNat 32 (r : ℕ)) 4294967232#32 = BitVec.ofNat 32 ((r : ℕ) / 64 * 64) := by
  decide +kernel

/-- A bit from a decision. -/
theorem ofBool_dec (P : Prop) [Decidable P] : BitVec.ofBool (decide P) = if P then 1#1 else 0#1 := by
  by_cases h : P <;> simp [h]

/-- The mask of a half: the same chunk, and not after the row. -/
theorem mask_at (r c : Fin 256) : k0_pay10 (ix2 r c) = if (c : ℕ) / 64 = r / 64 ∧ (c : ℕ) ≤ r then 1#1 else 0#1 := by
  pointwise [k0_pay10]
  rw [word_chunk, word_chunk, WordCmp.cmpi_eq_ofNat (by omega) (by omega), WordCmp.cmpi_sle_ofNat (by omega) (by omega), ofBool_dec, ofBool_dec]
  have e1 : ((r : ℕ) / 64 * 64 = (c : ℕ) / 64 * 64) ↔ (c : ℕ) / 64 = r / 64 := by omega
  by_cases h1 : (c : ℕ) / 64 = r / 64 <;> by_cases h2 : (c : ℕ) ≤ r <;> simp only [e1, h1, h2, if_true, if_false, and_self, and_true, true_and, and_false, false_and] <;> rfl

/-- A sum over a half's rows restricted to one chunk's. -/
theorem sum_chunk (f : Fin 256 → EReal) (n : Fin 4) (P : ℕ → Prop) [DecidablePred P] :
    (∑ r : Fin 256, if (r : ℕ) / 64 = n ∧ P (r % 64) then f r else 0)
      = ∑ s : Fin 64, if P s then f ⟨64 * n + s, by omega⟩ else 0 := by
  rw [Fin.sum_univ_tiles 4 64 rfl]
  rw [Finset.sum_eq_single n]
  · refine Finset.sum_congr rfl fun s _ => ?_
    have e1 : ((n : ℕ) * 64 + s) / 64 = n := by omega
    have e2 : ((n : ℕ) * 64 + s) % 64 = s := by omega
    simp only [e1, e2, true_and]
    have e3 : (n : ℕ) * 64 + s = 64 * n + s := by omega
    simp only [e3]
  · intro j _ hj
    refine Finset.sum_eq_zero fun s _ => if_neg ?_
    rintro ⟨h, _⟩
    refine hj (Fin.ext ?_)
    simp only at h
    omega
  · intro h; exact absurd (Finset.mem_univ _) h

/-- A mask's bit as a number, times a value. -/
theorem bit_mul (P : Prop) [Decidable P] (x : EReal) :
    (FloatOps.sitofp (F := Ideal) .f32 (BitVec.setWidth 32 (if P then 1#1 else 0#1)) : EReal) * x = if P then x else 0 := by
  split_ifs
  · have e : (FloatOps.sitofp (F := Ideal) .f32 (BitVec.setWidth 32 1#1) : EReal) = 1 := by
      show ((((BitVec.setWidth 32 1#1).toInt : ℤ) : ℝ) : EReal) = 1
      have : (BitVec.setWidth 32 1#1).toInt = 1 := by decide
      rw [this]; norm_num
    rw [e, one_mul]
  · have e : (FloatOps.sitofp (F := Ideal) .f32 (BitVec.setWidth 32 0#1) : EReal) = 0 := by
      show ((((BitVec.setWidth 32 0#1).toInt : ℤ) : ℝ) : EReal) = 0
      have : (BitVec.setWidth 32 0#1).toInt = 0 := by decide
      rw [this]; norm_num
    rw [e, zero_mul]

/-- The summed log decays. -/
theorem cum_at (K : KW W x3 x4 x5 x6 x7 x8 x9 x10 x11 x12) (x1 : Vec Ideal S1x512x1024 .f32) (s : Fin 2) (r : Fin 256) (c : Fin 512) :
    cumV x1 x3 x5 x6 s (ix2 r c) = ∑ a : Fin 64, if (a : ℕ) ≤ r % 64 then laR W (rowV x1 s ⟨64 * (r / 64) + a, by omega⟩) c else 0 := by
  pointwise [cumV, k0_pay11, mask_at, gu_at K, bias_at K]
  simp only [bit_mul]
  refine (sum_masked (fun x : Fin 256 => laR W (rowV x1 s x) c) (fun x => logDecay_ne_top _) fun x : Fin 256 => (x : ℕ) / 64 = r / 64 ∧ (x : ℕ) ≤ r).trans ?_
  refine Eq.trans (Finset.sum_congr rfl fun x _ => if_congr ?_ rfl rfl) (sum_chunk (fun x : Fin 256 => laR W (rowV x1 s x) c) ⟨r / 64, by omega⟩ fun a => a ≤ r % 64)
  show _ ↔ (x : ℕ) / 64 = r / 64 ∧ (x : ℕ) % 64 ≤ r % 64
  omega

end Cert.KernelIdeal.Gla
-- ==== Proof.HeadAt.lean ====
/-
  A half's array functions of one head, read at an index over the extended reals.
-/
module

public import proofs.«01_k».proof.Proof.Pay

@[expose] public section

set_option maxRecDepth 16384

noncomputable section

namespace Cert.KernelIdeal.Gla

open Cert.KernelIdeal Cert.KernelIdeal.Gen Cert.Gla Idealize.ShloMosaic Idealize.ShloMosaic.TcCoe Idealize.SL.Sem

/-- A chunk's rows. -/
theorem mask_rows (w : BitVec 32) (n : ℕ) (hn : n < 4) (hw : w = BitVec.ofNat 32 (n * 64)) (x : FVec Ideal S256x128 .bf16) (r : Fin 256) (j : Fin 128) :
    maskV w x (ix2 r j) = if (r : ℕ) / 64 = n then x (ix2 r j) else 0 := by
  pointwise [maskV, k0_pay28]
  rw [word_chunk, hw, WordCmp.cmpi_eq_ofNat (by omega) (by omega), ofBool_dec]
  by_cases h : (r : ℕ) / 64 = n
  · rw [if_pos h, if_pos (by omega)]; rfl
  · rw [if_neg h, if_neg (by omega)]; rfl

theorem mask0 (x : FVec Ideal S256x128 .bf16) (r : Fin 256) (j : Fin 128) :
    maskV 0#32 x (ix2 r j) = if (r : ℕ) / 64 = 0 then x (ix2 r j) else 0 := mask_rows _ 0 (by omega) rfl x r j

theorem mask1 (x : FVec Ideal S256x128 .bf16) (r : Fin 256) (j : Fin 128) :
    maskV 64#32 x (ix2 r j) = if (r : ℕ) / 64 = 1 then x (ix2 r j) else 0 := mask_rows _ 1 (by omega) rfl x r j

theorem mask2 (x : FVec Ideal S256x128 .bf16) (r : Fin 256) (j : Fin 128) :
    maskV 128#32 x (ix2 r j) = if (r : ℕ) / 64 = 2 then x (ix2 r j) else 0 := mask_rows _ 2 (by omega) rfl x r j

theorem mask3 (x : FVec Ideal S256x128 .bf16) (r : Fin 256) (j : Fin 128) :
    maskV 192#32 x (ix2 r j) = if (r : ℕ) / 64 = 3 then x (ix2 r j) else 0 := mask_rows _ 3 (by omega) rfl x r j

/-- The chunks side by side, read in one chunk's columns. -/
theorem spread_at (x : FVec Ideal S256x128 .bf16) (r : Fin 256) (n : Fin 4) (j : Fin 128) :
    spreadV x (ix2 r ⟨128 * n + j, by omega⟩) = if (r : ℕ) / 64 = n then x (ix2 r j) else 0 := by
  match n with
  | 0 =>
    pointwise [spreadV]
    exact mask0 x r j
  | 1 =>
    pointwise [spreadV]
    exact mask1 x r j
  | 2 =>
    have e : ∀ p, (⟨256 + (j : ℕ) - 128 - 128, p⟩ : Fin 128) = j := fun p => Fin.ext (by show 256 + (j : ℕ) - 128 - 128 = j; omega)
    pointwise [spreadV]
    rw [dif_neg (show ¬ (256 + (j : ℕ) < 128) by omega), dif_neg (show ¬ (256 + (j : ℕ) - 128 < 128) by omega), dif_pos (show 256 + (j : ℕ) - 128 - 128 < 128 by omega), e]
    exact mask2 x r j
  | 3 =>
    have e : ∀ p, (⟨384 + (j : ℕ) - 128 - 128 - 128, p⟩ : Fin 128) = j := fun p => Fin.ext (by show 384 + (j : ℕ) - 128 - 128 - 128 = j; omega)
    pointwise [spreadV]
    rw [dif_neg (show ¬ (384 + (j : ℕ) < 128) by omega), dif_neg (show ¬ (384 + (j : ℕ) - 128 < 128) by omega), dif_neg (show ¬ (384 + (j : ℕ) - 128 - 128 < 128) by omega), e]
    exact mask3 x r j

/-- A chunk's state increment: its keys against its values. -/
theorem delta_at (ke : FVec Ideal S256x128 .bf16) (v : FVec Ideal S256x256 .bf16) (n : Fin 4) (j : Fin 128) (d : Fin 256) :
    slD (deltaV ke v) n (ix2 j d) = ∑ a : Fin 64, ke (ix2 ⟨64 * n + a, by omega⟩ j) * v (ix2 ⟨64 * n + a, by omega⟩ d) := by
  have key : slD (deltaV ke v) n (ix2 j d) = ∑ r : Fin 256, if (r : ℕ) / 64 = n ∧ True then ke (ix2 r j) * v (ix2 r d) else 0 := by
    have fin : (∑ r : Fin 256, spreadV ke (ix2 r ⟨128 * n + j, by omega⟩) * v (ix2 r d)) = ∑ r : Fin 256, if (r : ℕ) / 64 = n ∧ True then ke (ix2 r j) * v (ix2 r d) else 0 := by
      refine Finset.sum_congr rfl fun r _ => ?_
      rw [spread_at]
      by_cases h : (r : ℕ) / 64 = n
      · rw [if_pos h, if_pos ⟨h, trivial⟩]
      · rw [if_neg h, if_neg fun h' => h h'.1, zero_mul]
    rw [← fin]
    match n with
    | 0 => pointwise [slD, deltaV]; try simp
    | 1 => pointwise [slD, deltaV]; try simp
    | 2 => pointwise [slD, deltaV]; try simp
    | 3 => pointwise [slD, deltaV]; try simp
  rw [key, sum_chunk (fun r => ke (ix2 r j) * v (ix2 r d)) n fun _ => True]
  simp

/-- The identity matrix's entries. -/
theorem eye_at (a b : Fin 128) : (k0_pay26 (F := Ideal)) (ix2 a b) = if a = b then (1 : EReal) else 0 := by
  pointwise [k0_pay26]
  rw [WordCmp.cmpi_eq_ofNat (by omega) (by omega), ofBool_dec]
  refine (mul_one _).symm.trans ((bit_mul _ 1).trans (if_congr ?_ rfl rfl))
  exact Fin.ext_iff.symm

/-- One chunk's step. -/
theorem step_at (e : FVec Ideal S1x128 .f32) (S d : FVec Ideal S128x256 .f32) (j : Fin 128) (c : Fin 256) :
    stepV e S d (ix2 j c) = e (ix2 0 j) * S (ix2 j c) + d (ix2 j c) := by
  pointwise [stepV, eye_at]
  have h : (∑ x : Fin 128, (if j = x then (1 : EReal) else 0) * e (ix2 0 x)) = e (ix2 0 j) := by
    rw [Finset.sum_eq_single j (fun x _ hx => by rw [if_neg fun h => hx h.symm, zero_mul]) fun h => absurd (Finset.mem_univ _) h, if_pos rfl, one_mul]
  rw [h]

/-- The values against the masked scores. -/
theorem intra_at (qd ki : FVec Ideal S256x128 .bf16) (v : FVec Ideal S256x256 .bf16) (r d : Fin 256) :
    intraV qd ki v (ix2 r d) = ∑ a : Fin 64, (if (a : ℕ) ≤ r % 64 then ∑ j : Fin 128, qd (ix2 r j) * ki (ix2 ⟨64 * (r / 64) + a, by omega⟩ j) else 0) * v (ix2 ⟨64 * (r / 64) + a, by omega⟩ d) := by
  pointwise [intraV, mask_at]
  refine (Finset.sum_congr rfl fun x _ => ?_).trans
    ((sum_chunk (fun x => (∑ j, qd (ix2 r j) * ki (ix2 x j)) * v (ix2 x d)) ⟨r / 64, by omega⟩ fun a => a ≤ r % 64).trans (Finset.sum_congr rfl fun a _ => ?_))
  · have e : ((x : ℕ) / 64 = r / 64 ∧ (x : ℕ) ≤ r) ↔ ((x : ℕ) / 64 = r / 64 ∧ (x : ℕ) % 64 ≤ r % 64) := by omega
    by_cases h : (x : ℕ) / 64 = r / 64 ∧ (x : ℕ) ≤ r
    · rw [if_pos h]; exact (if_pos (e.mp h)).symm
    · rw [if_neg h]; exact (if_neg fun h' => h (e.mpr h')).symm
  · by_cases h : (a : ℕ) ≤ r % 64
    · rw [if_pos h, if_pos h]
    · rw [if_neg h, if_neg h, zero_mul]

/-- The chunks' starting states, stacked. -/
def stackV {F : FTy → Type} [FloatOps F] (T : Fin 5 → FVec F S128x256 .f32) : FVec F S512x256 .bf16 :=
  concatenate S512x256 0 [⟨S128x256, truncf .bf16 (T 0) bitsLt_bf16_f32⟩, ⟨S128x256, truncf .bf16 (T 1) bitsLt_bf16_f32⟩, ⟨S128x256, truncf .bf16 (T 2) bitsLt_bf16_f32⟩, ⟨S128x256, truncf .bf16 (T 3) bitsLt_bf16_f32⟩] concatenates_S128x256_S128x256_S128x256_S128x256_S512x256_d0

theorem stack_at (T : Fin 5 → FVec Ideal S128x256 .f32) (n : Fin 4) (j : Fin 128) (d : Fin 256) :
    stackV T (ix2 ⟨128 * n + j, by omega⟩ d) = T ⟨n, by omega⟩ (ix2 j d) := by
  match n with
  | 0 =>
    pointwise [stackV]
  | 1 =>
    pointwise [stackV]
  | 2 =>
    have e : ∀ p, (⟨256 + (j : ℕ) - 128 - 128, p⟩ : Fin 128) = j := fun p => Fin.ext (by show 256 + (j : ℕ) - 128 - 128 = j; omega)
    pointwise [stackV]
    rw [dif_neg (show ¬ (256 + (j : ℕ) < 128) by omega), dif_neg (show ¬ (256 + (j : ℕ) - 128 < 128) by omega), dif_pos (show 256 + (j : ℕ) - 128 - 128 < 128 by omega), e]
  | 3 =>
    have e : ∀ p, (⟨384 + (j : ℕ) - 128 - 128 - 128, p⟩ : Fin 128) = j := fun p => Fin.ext (by show 384 + (j : ℕ) - 128 - 128 - 128 = j; omega)
    pointwise [stackV]
    rw [dif_neg (show ¬ (384 + (j : ℕ) < 128) by omega), dif_neg (show ¬ (384 + (j : ℕ) - 128 < 128) by omega), dif_neg (show ¬ (384 + (j : ℕ) - 128 - 128 < 128) by omega), e]

/-- The decayed queries against their chunk's state. -/
theorem inter_at (qd : FVec Ideal S256x128 .bf16) (T : Fin 5 → FVec Ideal S128x256 .f32) (r d : Fin 256) :
    interV qd T (ix2 r d) = ∑ j : Fin 128, qd (ix2 r j) * T ⟨r / 64, by omega⟩ (ix2 j d) := by
  have e : interV qd T = matmul dot_S256x512_S512x256_S256x256_1_0_0_1_n_n none (spreadV qd) (stackV T) (constant S256x256 .f32 0x00000000#32) := rfl
  rw [e]
  pointwise []
  rw [Fin.sum_univ_tiles 4 128 rfl, Finset.sum_eq_single (⟨r / 64, by omega⟩ : Fin 4)]
  · refine Finset.sum_congr rfl fun j _ => ?_
    have e1 : ∀ p, (⟨(r : ℕ) / 64 * 128 + j, p⟩ : Fin 512) = ⟨128 * ((⟨r / 64, by omega⟩ : Fin 4) : ℕ) + j, by show 128 * ((r : ℕ) / 64) + j < 512; omega⟩ :=
      fun p => Fin.ext (by show (r : ℕ) / 64 * 128 + j = 128 * (r / 64) + j; omega)
    rw [e1, spread_at, stack_at, if_pos rfl]
  · intro n _ hn
    refine Finset.sum_eq_zero fun j _ => ?_
    have e1 : ∀ p, (⟨(n : ℕ) * 128 + j, p⟩ : Fin 512) = ⟨128 * (n : ℕ) + j, by omega⟩ := fun p => Fin.ext (by show (n : ℕ) * 128 + j = 128 * n + j; omega)
    rw [e1, spread_at, if_neg fun h => hn (Fin.ext h.symm), zero_mul]
  · intro h; exact absurd (Finset.mem_univ _) h

/-- The normalised and gated output. -/
theorem out_at (o : FVec Ideal S256x256 .f32) (gn : FVec Ideal S1x256 .f32) (g : FVec Ideal S256x256 .f32) (r d : Fin 256) :
    outV o gn g (ix2 r d) = rms (Ideal.ofBits .f32 0x43800000#32) (fun i => o (ix2 r i)) (fun i => gn (ix2 0 i)) d * g (ix2 r d) := by
  pointwise [outV, rms]

end Cert.KernelIdeal.Gla
-- ==== Proof.HalfAt.lean ====
/-
  A half's array functions at a run of 256 tokens: its states and its outputs are the recurrence's.
-/
module

public import proofs.«01_k».proof.Proof.HeadAt

@[expose] public section

set_option maxRecDepth 16384

noncomputable section

namespace Cert.KernelIdeal.Gla

open Cert.KernelIdeal Cert.KernelIdeal.Gen Cert.Gla Idealize.ShloMosaic Idealize.ShloMosaic.TcCoe Idealize.SL.Sem

variable {W : Wts} {x3 : Vec Ideal S1x8x1024 .f32} {x4 : Vec Ideal S1x1024x3088 .bf16} {x5 : Vec Ideal S1x1024x128 .bf16} {x6 : Vec Ideal S1x128x512 .bf16} {x7 : Vec Ideal S1x1024x1024 .bf16} {x8 x9 : Vec Ideal S1x1024x2816 .bf16} {x10 : Vec Ideal S1x2816x1024 .bf16} {x11 : Vec Ideal S1x1024x1024 .bf16} {x12 : Vec Ideal S1x256x1024 .bf16}

theorem sl128_at (x : FVec Ideal S256x512 .bf16) (h : Fin 4) (r : Fin 256) (j : Fin 128) : sl128 x h (ix2 r j) = x (ix2 r (c128 h j)) := by
  match h with
  | 0 => pointwise [sl128, c128]; try simp
  | 1 => pointwise [sl128, c128]; try simp
  | 2 => pointwise [sl128, c128]; try simp
  | 3 => pointwise [sl128, c128]; try simp

theorem sl1_at (x : FVec Ideal S1x512 .f32) (h : Fin 4) (j : Fin 128) : sl1 x h (ix2 0 j) = x (ix2 0 (c128 h j)) := by
  match h with
  | 0 => pointwise [sl1, c128]; try simp
  | 1 => pointwise [sl1, c128]; try simp
  | 2 => pointwise [sl1, c128]; try simp
  | 3 => pointwise [sl1, c128]; try simp

theorem sl256_at {t : FTy} (x : FVec Ideal S256x1024 t) (h : Fin 4) (r d : Fin 256) : sl256 x h (ix2 r d) = x (ix2 r (c256 h d)) := by
  match h with
  | 0 => pointwise [sl256, c256]; try simp
  | 1 => pointwise [sl256, c256]; try simp
  | 2 => pointwise [sl256, c256]; try simp
  | 3 => pointwise [sl256, c256]; try simp

/-- A chunk's whole decay. -/
theorem end_at (b : FVec Ideal S256x512 .f32) (n : Fin 4) (c : Fin 512) : endV b n (ix2 0 c) = Ideal.exp (b (ix2 ⟨64 * n + 63, by omega⟩ c)) := by
  match n with
  | 0 => pointwise [endV, k0_pay21, k0_pay14]; try simp
  | 1 => pointwise [endV, k0_pay22, k0_pay15]; try simp
  | 2 => pointwise [endV, k0_pay23, k0_pay16]; try simp
  | 3 => pointwise [endV, k0_pay24, k0_pay17]; try simp

/-- The keys decayed to their chunk's end. -/
theorem ke_at (k b : FVec Ideal S256x512 .f32) (r : Fin 256) (c : Fin 512) :
    k0_pay20 k b (ix2 r c) = k (ix2 r c) * Ideal.exp (b (ix2 ⟨64 * (r / 64) + 63, by omega⟩ c) - b (ix2 r c)) := by
  pointwise [k0_pay20, k0_pay14, k0_pay15, k0_pay16, k0_pay17]
  refine congrArg₂ (· * ·) rfl (congrArg Ideal.exp (congrArg₂ (· - ·) ?_ rfl))
  split_ifs
  all_goals exact congrArg (fun u => b (ix2 u c)) (Fin.ext (by simp; omega))

theorem chain_succ {F : FTy → Type} [FloatOps F] (e : Fin 4 → FVec F S1x128 .f32) (S : FVec F S128x256 .f32) (D : FVec F S512x256 .f32) (n : Fin 4) :
    chainV e S D ⟨n + 1, by omega⟩ = stepV (e n) (chainV e S D ⟨n, by omega⟩) (slD D n) := by
  match n with
  | 0 => rfl
  | 1 => rfl
  | 2 => rfl
  | 3 => rfl

section Run

variable (K : KW W x3 x4 x5 x6 x7 x8 x9 x10 x11 x12) (x1 : Vec Ideal S1x512x1024 .f32) (s : Fin 2) (H : ℕ → Fin 1024 → EReal) (n0 : ℕ) (hH : ∀ r : Fin 256, rowV x1 s r = H (64 * n0 + r))

include K hH

theorem cum_run (h : Fin 4) (r : Fin 256) (j : Fin 128) : cumV x1 x3 x5 x6 s (ix2 r (c128 h j)) = cum (laT W H h) (n0 + r / 64) (r % 64) j := by
  rw [cum_at K]
  refine Finset.sum_congr rfl fun a _ => if_congr Iff.rfl ?_ rfl
  rw [hH]
  show laR W (H (64 * n0 + (64 * ((r : ℕ) / 64) + a))) _ = laR W (H (64 * (n0 + r / 64) + a)) _
  rw [show 64 * n0 + (64 * ((r : ℕ) / 64) + a) = 64 * (n0 + r / 64) + a by omega]

theorem qd_run (h : Fin 4) (r : Fin 256) (j : Fin 128) :
    sl128 (qdV x1 x3 x4 x5 x6 s) h (ix2 r j) = qT W H h (64 * n0 + r) j * Ideal.exp (cum (laT W H h) (n0 + r / 64) (r % 64) j) := by
  rw [sl128_at, ← cum_run K x1 s H n0 hH, qT, ← hH, ← q_at K]
  pointwise [qdV, k0_pay18]

theorem ki_run (h : Fin 4) (r : Fin 256) (j : Fin 128) :
    sl128 (kiV x1 x3 x4 x5 x6 s) h (ix2 r j) = kT W H h (64 * n0 + r) j * Ideal.exp (0 - cum (laT W H h) (n0 + r / 64) (r % 64) j) := by
  rw [sl128_at, ← cum_run K x1 s H n0 hH, kT, ← hH, ← k_at K]
  pointwise [kiV, k0_pay19]

theorem ke_run (h : Fin 4) (r : Fin 256) (j : Fin 128) :
    sl128 (keV x1 x3 x4 x5 x6 s) h (ix2 r j) = kT W H h (64 * n0 + r) j * Ideal.exp (cum (laT W H h) (n0 + r / 64) 63 j - cum (laT W H h) (n0 + r / 64) (r % 64) j) := by
  have e := cum_run K x1 s H n0 hH h ⟨64 * (r / 64) + 63, by omega⟩ j
  have e1 : (64 * ((r : ℕ) / 64) + 63) / 64 = r / 64 := by omega
  have e2 : (64 * ((r : ℕ) / 64) + 63) % 64 = 63 := by omega
  simp only [e1, e2] at e
  rw [sl128_at, keV, ke_at, e, cum_run K x1 s H n0 hH, k_at K, hH]
  rfl

theorem v_run (h : Fin 4) (r d : Fin 256) : sl256 (vV x1 x3 x4 s) h (ix2 r d) = vT W H h (64 * n0 + r) d := by
  rw [sl256_at, v_at K, hH]; rfl

/-- The half's states are the recurrence's. -/
theorem states_run (h : Fin 4) (S : FVec Ideal S128x256 .f32) (hS : ∀ j d, S (ix2 j d) = stT W H h n0 j d) (n : Fin 5) (j : Fin 128) (d : Fin 256) :
    statesV x1 x3 x4 x5 x6 s h S n (ix2 j d) = stT W H h (n0 + n) j d := by
  have key : ∀ n : ℕ, (hn : n < 5) → ∀ j d, statesV x1 x3 x4 x5 x6 s h S ⟨n, hn⟩ (ix2 j d) = stT W H h (n0 + n) j d := by
    intro n
    induction n with
    | zero => intro _ j d; exact hS j d
    | succ n ih =>
      intro hn j d
      have hn4 : n < 4 := by omega
      unfold statesV at ih ⊢
      rw [chain_succ _ _ _ ⟨n, hn4⟩, step_at, ih, delta_at, sl1_at, end_at]
      have e := cum_run K x1 s H n0 hH h ⟨64 * n + 63, by omega⟩ j
      have e1 : (64 * n + 63) / 64 = n := by omega
      have e2 : (64 * n + 63) % 64 = 63 := by omega
      simp only [e1, e2] at e
      rw [e]
      show _ = Ideal.exp (cum (laT W H h) (n0 + n) 63 j) * stT W H h (n0 + n) j d + _
      refine congrArg₂ (· + ·) rfl (Finset.sum_congr rfl fun a _ => ?_)
      rw [ke_run K x1 s H n0 hH, v_run K x1 s H n0 hH]
      have f1 : (64 * n + (a : ℕ)) / 64 = n := by omega
      have f2 : (64 * n + (a : ℕ)) % 64 = a := by omega
      have f3 : 64 * n0 + (64 * n + (a : ℕ)) = 64 * (n0 + n) + a := by omega
      simp only [f1, f2, f3]
      rfl
  exact key n n.isLt j d

/-- The half's outputs are the recurrence's, normalised and gated. -/
theorem head_run (h : Fin 4) (S : FVec Ideal S128x256 .f32) (hS : ∀ j d, S (ix2 j d) = stT W H h n0 j d) (r d : Fin 256) :
    headV x1 x3 x4 x5 x6 s h S (ix2 r d) = attT W H (n0 + r / 64) (r % 64) (c256 h d) := by
  unfold headV
  rw [out_at, sl256_at, g_at K, hH]
  have e0 : 64 * n0 + (r : ℕ) = 64 * (n0 + r / 64) + r % 64 := by omega
  have e1 : ∀ p, (⟨(c256 h d : ℕ) / 256, p⟩ : Fin 4) = h := fun p => Fin.ext (by show (256 * (h : ℕ) + d) / 256 = h; omega)
  have e2 : ∀ p, (⟨(c256 h d : ℕ) % 256, p⟩ : Fin 256) = d := fun p => Fin.ext (by show (256 * (h : ℕ) + d) % 256 = d; omega)
  unfold attT
  rw [e1, e2, e0]
  have o : (fun i => addf (intraV (sl128 (qdV x1 x3 x4 x5 x6 s) h) (sl128 (kiV x1 x3 x4 x5 x6 s) h) (sl256 (vV x1 x3 x4 s) h)) (interV (sl128 (qdV x1 x3 x4 x5 x6 s) h) (statesV x1 x3 x4 x5 x6 s h S)) (ix2 r i))
      = oT W H h (n0 + r / 64) (r % 64) := by
    funext i
    have a : ∀ x y : FVec Ideal S256x256 .f32, addf x y (ix2 r i) = x (ix2 r i) + y (ix2 r i) := fun x y => rfl
    rw [a, intra_at, inter_at]
    refine congrArg₂ (· + ·) (Finset.sum_congr rfl fun b _ => ?_) (Finset.sum_congr rfl fun j _ => ?_)
    · rw [v_run K x1 s H n0 hH]
      have f1 : (64 * ((r : ℕ) / 64) + (b : ℕ)) / 64 = r / 64 := by omega
      have f2 : (64 * ((r : ℕ) / 64) + (b : ℕ)) % 64 = b := by omega
      have f3 : 64 * n0 + (64 * ((r : ℕ) / 64) + (b : ℕ)) = 64 * (n0 + r / 64) + b := by omega
      simp only [f3]
      refine congrArg₂ (· * ·) (if_congr Iff.rfl (Finset.sum_congr rfl fun j _ => ?_) rfl) rfl
      rw [qd_run K x1 s H n0 hH, ki_run K x1 s H n0 hH]
      simp only [f1, f2, f3, e0]
    · rw [qd_run K x1 s H n0 hH, states_run K x1 s H n0 hH h S hS, e0]
      rfl
  have g : (fun i => k0_pay27 (gnV x3) (ix2 0 i)) = W.gn := by
    funext i
    pointwise [k0_pay27, gn_at K]
  rw [o, g]

end Run

end Cert.KernelIdeal.Gla
-- ==== Proof.TailAt.lean ====
/-
  The rest of the layer on a half's rows, read at an index: the layer's plain functions of each row.
-/
module

public import proofs.«01_k».proof.Proof.Pay

@[expose] public section

set_option maxRecDepth 16384

noncomputable section

namespace Cert.KernelIdeal.Gla

open Cert.KernelIdeal Cert.KernelIdeal.Gen Cert.Gla Idealize.ShloMosaic Idealize.ShloMosaic.TcCoe Idealize.SL.Sem

variable {W : Wts} {x3 : Vec Ideal S1x8x1024 .f32} {x4 : Vec Ideal S1x1024x3088 .bf16} {x5 : Vec Ideal S1x1024x128 .bf16} {x6 : Vec Ideal S1x128x512 .bf16} {x7 : Vec Ideal S1x1024x1024 .bf16} {x8 x9 : Vec Ideal S1x1024x2816 .bf16} {x10 : Vec Ideal S1x2816x1024 .bf16} {x11 : Vec Ideal S1x1024x1024 .bf16} {x12 : Vec Ideal S1x256x1024 .bf16}

/-- Row `r` of half `s` of the per-layer embedding block. -/
def prowV (x2 : Vec Ideal S1x1x512x256 .f32) (s : Fin 2) (r : Fin 256) (c : Fin 256) : EReal :=
  x2 (ix4 0 0 ⟨256 * s + r, by omega⟩ c)

theorem pV_at (x2 : Vec Ideal S1x1x512x256 .f32) (s : Fin 2) (r : Fin 256) (c : Fin 256) :
    pV x2 s (ix4 0 0 r c) = prowV x2 s r c := by
  match s with
  | 0 => pointwise [pV, prowV]; try simp
  | 1 => pointwise [pV, prowV]; try simp

/-- The normalisation of a half's rows. -/
theorem rms_at (x : FVec Ideal S256x1024 .f32) (w : Vec Ideal S1x1x1024 .f32) (r : Fin 256) (c : Fin 1024) :
    rmsV x w (ix2 r c) = rms (Ideal.ofBits .f32 0x44800000#32) (fun i => x (ix2 r i)) (fun i => w (ix3 0 0 i)) c := by
  pointwise [rmsV, rms]

theorem h2_at (K : KW W x3 x4 x5 x6 x7 x8 x9 x10 x11 x12) (x1 : Vec Ideal S1x512x1024 .f32) (ob : Vec Ideal S1x256x1024 .bf16) (s : Fin 2) (r : Fin 256) (c : Fin 1024) :
    h2V x1 x7 ob s (ix2 r c) = h2R W (rowV x1 s r) (fun i => ob (ix3 0 r i)) c := by
  pointwise [h2V, k0_pay102, k0_pay103, k0_pay104, hV_at, h2R, K.wo]

/-- The gate's and the up projection's columns. -/
theorem gcol_at (x : Vec Ideal S1x1024x2816 .bf16) (n : Fin 11) (i : Fin 1024) (j : Fin 256) :
    gcol x n (ix3 0 i j) = x (ix3 0 i ⟨n * 256 + j, by omega⟩) := by
  match n with
  | 0 => pointwise [gcol]; try simp
  | 1 => pointwise [gcol]; try simp
  | 2 => pointwise [gcol]; try simp
  | 3 => pointwise [gcol]; try simp
  | 4 => pointwise [gcol]; try simp
  | 5 => pointwise [gcol]; try simp
  | 6 => pointwise [gcol]; try simp
  | 7 => pointwise [gcol]; try simp
  | 8 => pointwise [gcol]; try simp
  | 9 => pointwise [gcol]; try simp
  | 10 => pointwise [gcol]; try simp

theorem drow_at (x : Vec Ideal S1x2816x1024 .bf16) (n : Fin 11) (j : Fin 256) (c : Fin 1024) :
    drow x n (ix3 0 j c) = x (ix3 0 ⟨n * 256 + j, by omega⟩ c) := by
  match n with
  | 0 => pointwise [drow]; try simp
  | 1 => pointwise [drow]; try simp
  | 2 => pointwise [drow]; try simp
  | 3 => pointwise [drow]; try simp
  | 4 => pointwise [drow]; try simp
  | 5 => pointwise [drow]; try simp
  | 6 => pointwise [drow]; try simp
  | 7 => pointwise [drow]; try simp
  | 8 => pointwise [drow]; try simp
  | 9 => pointwise [drow]; try simp
  | 10 => pointwise [drow]; try simp

/-- One column block of the feed-forward layer. -/
theorem ffnC_at (K : KW W x3 x4 x5 x6 x7 x8 x9 x10 x11 x12) (xf : FVec Ideal S256x1024 .bf16) (n : Fin 11) (r : Fin 256) (c : Fin 1024) :
    ffnC x8 x9 x10 xf n (ix2 r c) = ∑ j : Fin 256, (silu (∑ i, xf (ix2 r i) * W.wg i ⟨n * 256 + j, by omega⟩) * ∑ i, xf (ix2 r i) * W.wu i ⟨n * 256 + j, by omega⟩) * W.wd ⟨n * 256 + j, by omega⟩ c := by
  pointwise [ffnC, ffn1, k0_pay116, gcol_at, drow_at, silu, K.wg, K.wu, K.wd]

/-- Eleven terms added first to last. -/
theorem sum_11 (f : Fin 11 → EReal) :
    ∑ n, f n = f 0 + f 1 + f 2 + f 3 + f 4 + f 5 + f 6 + f 7 + f 8 + f 9 + f 10 := by
  simp only [Fin.sum_univ_castSucc, Fin.sum_univ_zero, zero_add]
  rfl

/-- The feed-forward layer. -/
theorem ffn_at (K : KW W x3 x4 x5 x6 x7 x8 x9 x10 x11 x12) (xf : FVec Ideal S256x1024 .bf16) (r : Fin 256) (c : Fin 1024) :
    ffnV x8 x9 x10 xf (ix2 r c) = ∑ j : Fin 2816, (silu (∑ i, xf (ix2 r i) * W.wg i j) * ∑ i, xf (ix2 r i) * W.wu i j) * W.wd j c := by
  rw [Fin.sum_univ_tiles 11 256 rfl]
  refine ((sum_11 fun n => ffnC x8 x9 x10 xf n (ix2 r c)).symm : ffnV x8 x9 x10 xf (ix2 r c) = _).trans (Finset.sum_congr rfl fun n _ => ?_)
  exact ffnC_at K xf n r c

theorem h3_at (K : KW W x3 x4 x5 x6 x7 x8 x9 x10 x11 x12) (h2 : FVec Ideal S256x1024 .f32) (r : Fin 256) (c : Fin 1024) :
    h3V x3 x8 x9 x10 h2 (ix2 r c) = h3R W (fun i => h2 (ix2 r i)) c := by
  have a : h3V x3 x8 x9 x10 h2 (ix2 r c) = h2 (ix2 r c) + ffnV x8 x9 x10 (truncf .bf16 (rmsV h2 (nfV x3)) bitsLt_bf16_f32) (ix2 r c) := rfl
  have b : ∀ i, truncf (F := Ideal) .bf16 (rmsV h2 (nfV x3)) bitsLt_bf16_f32 (ix2 r i) = rms (Ideal.ofBits .f32 0x44800000#32) (fun i => h2 (ix2 r i)) W.nf i := by
    intro i
    refine (rms_at h2 (nfV x3) r i).trans ?_
    simp only [nf_at K]
  rw [a, ffn_at K]
  simp only [b]
  rfl

theorem h4_at (K : KW W x3 x4 x5 x6 x7 x8 x9 x10 x11 x12) (x2 : Vec Ideal S1x1x512x256 .f32) (h3 : FVec Ideal S256x1024 .f32) (s : Fin 2) (r : Fin 256) (c : Fin 1024) :
    h4V x2 x3 x11 x12 h3 s (ix2 r c) = h4R W (fun i => h3 (ix2 r i)) (prowV x2 s r) c := by
  pointwise [h4V, pleV, pV_at, h4R, rms_at, np_at K, K.wpg, K.wpp]

/-- A half's result rows. -/
theorem y_at (K : KW W x3 x4 x5 x6 x7 x8 x9 x10 x11 x12) (x1 : Vec Ideal S1x512x1024 .f32) (x2 : Vec Ideal S1x1x512x256 .f32) (ob : Vec Ideal S1x256x1024 .bf16) (s : Fin 2) (r : Fin 256) (c : Fin 1024) :
    yV x1 x2 x3 x7 x8 x9 x10 x11 x12 ob s (ix3 0 r c) = yR W (rowV x1 s r) (fun i => ob (ix3 0 r i)) (prowV x2 s r) c := by
  pointwise [yV, rms_at, nz_at K, h4_at K, h3_at K, h2_at K]
  rfl

end Cert.KernelIdeal.Gla
-- ==== Proof.Blocks.lean ====
/-
  A tile's two result blocks as arrays of its input blocks: the attention's output is assembled from the two halves' four
  head pieces each, the result rows from the two halves, the state block from the four heads.
-/
module

public import proofs.«01_k».proof.Proof.Vec
public import Idealize.ShloMosaic.Lib.Pipeline.ValueKit
public import Idealize.ShloMosaic.Lib.Pipeline.ReadBack

@[expose] public section

set_option maxRecDepth 16384

noncomputable section

namespace Cert.KernelIdeal.Gla

open Cert.KernelIdeal Cert.KernelIdeal.Gen Idealize.ShloMosaic Idealize.ShloMosaic.TcCoe Idealize.SL.Sem

variable {F : FTy → Type} [FloatOps F]

/-- The state a half starts from: the tile's, or what the first half leaves. -/
def startV (x1 : Vec F S1x512x1024 .f32) (x3 : Vec F S1x8x1024 .f32) (x4 : Vec F S1x1024x3088 .bf16) (x5 : Vec F S1x1024x128 .bf16) (x6 : Vec F S1x128x512 .bf16) (xs : Vec F S1x1x4x128x256 .f32) (h : Fin 4) : Fin 2 → FVec F S128x256 .f32
  | 0 => inV xs h
  | 1 => statesV x1 x3 x4 x5 x6 0 h (inV xs h) 4

/-- The tile's attention output. -/
def obFull (x1 : Vec F S1x512x1024 .f32) (x3 : Vec F S1x8x1024 .f32) (x4 : Vec F S1x1024x3088 .bf16) (x5 : Vec F S1x1024x128 .bf16) (x6 : Vec F S1x128x512 .bf16) (xs : Vec F S1x1x4x128x256 .f32) : Vec F S1x512x1024 .bf16 :=
  fun y => pieceV x1 x3 x4 x5 x6 ⟨(y 1 : ℕ) / 256, by have h : (y 1 : ℕ) < 512 := (y 1).isLt; omega⟩ ⟨(y 2 : ℕ) / 256, by have h : (y 2 : ℕ) < 1024 := (y 2).isLt; omega⟩
    (startV x1 x3 x4 x5 x6 xs ⟨(y 2 : ℕ) / 256, by have h : (y 2 : ℕ) < 1024 := (y 2).isLt; omega⟩ ⟨(y 1 : ℕ) / 256, by have h : (y 1 : ℕ) < 512 := (y 1).isLt; omega⟩)
    (ValueIdx.ix3 0 ⟨(y 1 : ℕ) % 256, by omega⟩ ⟨(y 2 : ℕ) % 256, by omega⟩)

/-- The tile's result rows. -/
def yFull (x1 : Vec F S1x512x1024 .f32) (x2 : Vec F S1x1x512x256 .f32) (x3 : Vec F S1x8x1024 .f32) (x4 : Vec F S1x1024x3088 .bf16) (x5 : Vec F S1x1024x128 .bf16) (x6 : Vec F S1x128x512 .bf16) (x7 : Vec F S1x1024x1024 .bf16) (x8 x9 : Vec F S1x1024x2816 .bf16) (x10 : Vec F S1x2816x1024 .bf16) (x11 : Vec F S1x1024x1024 .bf16) (x12 : Vec F S1x256x1024 .bf16) (xs : Vec F S1x1x4x128x256 .f32) : Vec F S1x512x1024 .f32 :=
  fun y => yV x1 x2 x3 x7 x8 x9 x10 x11 x12 (obV (obFull x1 x3 x4 x5 x6 xs) ⟨(y 1 : ℕ) / 256, by have h : (y 1 : ℕ) < 512 := (y 1).isLt; omega⟩) ⟨(y 1 : ℕ) / 256, by have h : (y 1 : ℕ) < 512 := (y 1).isLt; omega⟩
    (ValueIdx.ix3 0 ⟨(y 1 : ℕ) % 256, by omega⟩ (y 2))

/-- The tile's final states. -/
def sFull (x1 : Vec F S1x512x1024 .f32) (x3 : Vec F S1x8x1024 .f32) (x4 : Vec F S1x1024x3088 .bf16) (x5 : Vec F S1x1024x128 .bf16) (x6 : Vec F S1x128x512 .bf16) (xs : Vec F S1x1x4x128x256 .f32) : Vec F S1x1x4x128x256 .f32 :=
  fun y => statesV x1 x3 x4 x5 x6 1 (y 2) (startV x1 x3 x4 x5 x6 xs (y 2) 1) 4 (ValueIdx.ix2 (y 3) (y 4))

/-- A head piece holds the tile's attention output where it is stored. -/
theorem piece_emb (x1 : Vec F S1x512x1024 .f32) (x3 : Vec F S1x8x1024 .f32) (x4 : Vec F S1x1024x3088 .bf16) (x5 : Vec F S1x1024x128 .bf16) (x6 : Vec F S1x128x512 .bf16) (xs : Vec F S1x1x4x128x256 .f32)
    (s : Fin 2) (h : Fin 4) (x : S1x256x256.Idx) (y : S1x512x1024.Idx) (h1 : (y 1 : ℕ) = 256 * s + x 1) (h2 : (y 2 : ℕ) = 256 * h + x 2) :
    pieceV x1 x3 x4 x5 x6 s h (startV x1 x3 x4 x5 x6 xs h s) x = obFull x1 x3 x4 x5 x6 xs y := by
  have a1 : (x 1 : ℕ) < 256 := (x 1).isLt
  have a2 : (x 2 : ℕ) < 256 := (x 2).isLt
  have e1 : ∀ p, (⟨(y 1 : ℕ) / 256, p⟩ : Fin 2) = s := fun p => Fin.ext (by show (y 1 : ℕ) / 256 = s; omega)
  have e2 : ∀ p, (⟨(y 2 : ℕ) / 256, p⟩ : Fin 4) = h := fun p => Fin.ext (by show (y 2 : ℕ) / 256 = h; omega)
  simp only [obFull, e1, e2]
  refine congrArg _ (funext fun a => ?_)
  match a with
  | 0 => exact Fin.ext (by have h0 : (x 0 : ℕ) < 1 := (x 0).isLt; show (x 0 : ℕ) = 0; omega)
  | 1 => exact Fin.ext (by show (x 1 : ℕ) = (y 1 : ℕ) % 256; omega)
  | 2 => exact Fin.ext (by show (x 2 : ℕ) = (y 2 : ℕ) % 256; omega)

/-- Reading the first half back after its four pieces. -/
theorem ob_first (v : View sig .tc .vmem S1x512x1024 .bf16) (x1 : Vec F S1x512x1024 .f32) (x3 : Vec F S1x8x1024 .f32) (x4 : Vec F S1x1024x3088 .bf16) (x5 : Vec F S1x1024x128 .bf16) (x6 : Vec F S1x128x512 .bf16) (xs : Vec F S1x1x4x128x256 .f32) :
    v.readCov (⟨Rect.unit ![0, 0, 768] S1x256x256.size inb_S1x512x1024_S1x256x256_0_0_768, pieceV x1 x3 x4 x5 x6 0 3 (startV x1 x3 x4 x5 x6 xs 3 0)⟩ :: ⟨Rect.unit ![0, 0, 512] S1x256x256.size inb_S1x512x1024_S1x256x256_0_0_512, pieceV x1 x3 x4 x5 x6 0 2 (startV x1 x3 x4 x5 x6 xs 2 0)⟩ :: ⟨Rect.unit ![0, 0, 256] S1x256x256.size inb_S1x512x1024_S1x256x256_0_0_256, pieceV x1 x3 x4 x5 x6 0 1 (startV x1 x3 x4 x5 x6 xs 1 0)⟩ :: ⟨Rect.unit ![0, 0, 0] S1x256x256.size inb_S1x512x1024_S1x256x256_0_0_0, pieceV x1 x3 x4 x5 x6 0 0 (startV x1 x3 x4 x5 x6 xs 0 0)⟩ :: [])
      (Rect.unit ![0, 0, 0] S1x256x1024.size inb_S1x512x1024_S1x256x1024_0_0_0 : Rect S1x512x1024).toLoadRect
    = obV (obFull x1 x3 x4 x5 x6 xs) 0 := by
  rw [View.readCov_eq_canon']
  funext j
  refine View.canon_append_of_piecesOf (obFull x1 x3 x4 x5 x6 xs) [] [_, _, _, _] (And.intro (fun x => ?_) (And.intro (fun x => ?_) (And.intro (fun x => ?_) (And.intro (fun x => ?_) trivial)))) _ ?_
  iterate 4
    · refine piece_emb x1 x3 x4 x5 x6 xs _ _ x _ ?_ ?_ <;> rw [Rect.emb_apply] <;> simp
  have j0 : (j 0 : ℕ) < 1 := (j 0).isLt
  have j1 : (j 1 : ℕ) < 256 := (j 1).isLt
  have j2 : (j 2 : ℕ) < 1024 := (j 2).isLt
  have hq : (j 2 : ℕ) < 256 ∨ (256 ≤ (j 2 : ℕ) ∧ (j 2 : ℕ) < 512) ∨ (512 ≤ (j 2 : ℕ) ∧ (j 2 : ℕ) < 768) ∨ 768 ≤ (j 2 : ℕ) := by omega
  have c0 : ((LoadRect.idx (Rect.unit ![0, 0, 0] S1x256x1024.size inb_S1x512x1024_S1x256x1024_0_0_0 : Rect S1x512x1024).toLoadRect j) 0 : ℕ) = 0 + 1 * j 0 := rfl
  have c1 : ((LoadRect.idx (Rect.unit ![0, 0, 0] S1x256x1024.size inb_S1x512x1024_S1x256x1024_0_0_0 : Rect S1x512x1024).toLoadRect j) 1 : ℕ) = 0 + 1 * j 1 := rfl
  have c2 : ((LoadRect.idx (Rect.unit ![0, 0, 0] S1x256x1024.size inb_S1x512x1024_S1x256x1024_0_0_0 : Rect S1x512x1024).toLoadRect j) 2 : ℕ) = 0 + 1 * j 2 := rfl
  rcases hq with q | q | q | q
  · refine ⟨_, .tail _ (.tail _ (.tail _ (.head _))), ?_⟩
    refine (Rect.mem_set_unit (inb := inb_S1x512x1024_S1x256x256_0_0_0)).mpr fun a => ?_
    match a with
    | 0 => exact ⟨by show 0 ≤ _; omega, by rw [c0]; show _ < 0 + 1; omega⟩
    | 1 => exact ⟨by rw [c1]; show 0 ≤ _; omega, by rw [c1]; show _ < 0 + 256; omega⟩
    | 2 => exact ⟨by rw [c2]; show 0 ≤ _; omega, by rw [c2]; show _ < 0 + 256; omega⟩
  · refine ⟨_, .tail _ (.tail _ (.head _)), ?_⟩
    refine (Rect.mem_set_unit (inb := inb_S1x512x1024_S1x256x256_0_0_256)).mpr fun a => ?_
    match a with
    | 0 => exact ⟨by show 0 ≤ _; omega, by rw [c0]; show _ < 0 + 1; omega⟩
    | 1 => exact ⟨by rw [c1]; show 0 ≤ _; omega, by rw [c1]; show _ < 0 + 256; omega⟩
    | 2 => exact ⟨by rw [c2]; show 256 ≤ _; omega, by rw [c2]; show _ < 256 + 256; omega⟩
  · refine ⟨_, .tail _ (.head _), ?_⟩
    refine (Rect.mem_set_unit (inb := inb_S1x512x1024_S1x256x256_0_0_512)).mpr fun a => ?_
    match a with
    | 0 => exact ⟨by show 0 ≤ _; omega, by rw [c0]; show _ < 0 + 1; omega⟩
    | 1 => exact ⟨by rw [c1]; show 0 ≤ _; omega, by rw [c1]; show _ < 0 + 256; omega⟩
    | 2 => exact ⟨by rw [c2]; show 512 ≤ _; omega, by rw [c2]; show _ < 512 + 256; omega⟩
  · refine ⟨_, .head _, ?_⟩
    refine (Rect.mem_set_unit (inb := inb_S1x512x1024_S1x256x256_0_0_768)).mpr fun a => ?_
    match a with
    | 0 => exact ⟨by show 0 ≤ _; omega, by rw [c0]; show _ < 0 + 1; omega⟩
    | 1 => exact ⟨by rw [c1]; show 0 ≤ _; omega, by rw [c1]; show _ < 0 + 256; omega⟩
    | 2 => exact ⟨by rw [c2]; show 768 ≤ _; omega, by rw [c2]; show _ < 768 + 256; omega⟩

/-- Reading the second half back after its four pieces, whatever was stored before. -/
theorem ob_second (v : View sig .tc .vmem S1x512x1024 .bf16) (x1 : Vec F S1x512x1024 .f32) (x3 : Vec F S1x8x1024 .f32) (x4 : Vec F S1x1024x3088 .bf16) (x5 : Vec F S1x1024x128 .bf16) (x6 : Vec F S1x128x512 .bf16) (xs : Vec F S1x1x4x128x256 .f32) (L : List (View.Piece (Elt F) S1x512x1024 .bf16)) :
    v.readCov (⟨Rect.unit ![0, 256, 768] S1x256x256.size inb_S1x512x1024_S1x256x256_0_256_768, pieceV x1 x3 x4 x5 x6 1 3 (startV x1 x3 x4 x5 x6 xs 3 1)⟩ :: ⟨Rect.unit ![0, 256, 512] S1x256x256.size inb_S1x512x1024_S1x256x256_0_256_512, pieceV x1 x3 x4 x5 x6 1 2 (startV x1 x3 x4 x5 x6 xs 2 1)⟩ :: ⟨Rect.unit ![0, 256, 256] S1x256x256.size inb_S1x512x1024_S1x256x256_0_256_256, pieceV x1 x3 x4 x5 x6 1 1 (startV x1 x3 x4 x5 x6 xs 1 1)⟩ :: ⟨Rect.unit ![0, 256, 0] S1x256x256.size inb_S1x512x1024_S1x256x256_0_256_0, pieceV x1 x3 x4 x5 x6 1 0 (startV x1 x3 x4 x5 x6 xs 0 1)⟩ :: L)
      (Rect.unit ![0, 256, 0] S1x256x1024.size inb_S1x512x1024_S1x256x1024_0_256_0 : Rect S1x512x1024).toLoadRect
    = obV (obFull x1 x3 x4 x5 x6 xs) 1 := by
  rw [View.readCov_eq_canon']
  funext j
  refine View.canon_append_of_piecesOf (obFull x1 x3 x4 x5 x6 xs) L [_, _, _, _] (And.intro (fun x => ?_) (And.intro (fun x => ?_) (And.intro (fun x => ?_) (And.intro (fun x => ?_) trivial)))) _ ?_
  iterate 4
    · refine piece_emb x1 x3 x4 x5 x6 xs _ _ x _ ?_ ?_ <;> rw [Rect.emb_apply] <;> simp
  have j0 : (j 0 : ℕ) < 1 := (j 0).isLt
  have j1 : (j 1 : ℕ) < 256 := (j 1).isLt
  have j2 : (j 2 : ℕ) < 1024 := (j 2).isLt
  have hq : (j 2 : ℕ) < 256 ∨ (256 ≤ (j 2 : ℕ) ∧ (j 2 : ℕ) < 512) ∨ (512 ≤ (j 2 : ℕ) ∧ (j 2 : ℕ) < 768) ∨ 768 ≤ (j 2 : ℕ) := by omega
  have c0 : ((LoadRect.idx (Rect.unit ![0, 256, 0] S1x256x1024.size inb_S1x512x1024_S1x256x1024_0_256_0 : Rect S1x512x1024).toLoadRect j) 0 : ℕ) = 0 + 1 * j 0 := rfl
  have c1 : ((LoadRect.idx (Rect.unit ![0, 256, 0] S1x256x1024.size inb_S1x512x1024_S1x256x1024_0_256_0 : Rect S1x512x1024).toLoadRect j) 1 : ℕ) = 256 + 1 * j 1 := rfl
  have c2 : ((LoadRect.idx (Rect.unit ![0, 256, 0] S1x256x1024.size inb_S1x512x1024_S1x256x1024_0_256_0 : Rect S1x512x1024).toLoadRect j) 2 : ℕ) = 0 + 1 * j 2 := rfl
  rcases hq with q | q | q | q
  · refine ⟨_, .tail _ (.tail _ (.tail _ (.head _))), ?_⟩
    refine (Rect.mem_set_unit (inb := inb_S1x512x1024_S1x256x256_0_256_0)).mpr fun a => ?_
    match a with
    | 0 => exact ⟨by show 0 ≤ _; omega, by rw [c0]; show _ < 0 + 1; omega⟩
    | 1 => exact ⟨by rw [c1]; show 256 ≤ _; omega, by rw [c1]; show _ < 256 + 256; omega⟩
    | 2 => exact ⟨by rw [c2]; show 0 ≤ _; omega, by rw [c2]; show _ < 0 + 256; omega⟩
  · refine ⟨_, .tail _ (.tail _ (.head _)), ?_⟩
    refine (Rect.mem_set_unit (inb := inb_S1x512x1024_S1x256x256_0_256_256)).mpr fun a => ?_
    match a with
    | 0 => exact ⟨by show 0 ≤ _; omega, by rw [c0]; show _ < 0 + 1; omega⟩
    | 1 => exact ⟨by rw [c1]; show 256 ≤ _; omega, by rw [c1]; show _ < 256 + 256; omega⟩
    | 2 => exact ⟨by rw [c2]; show 256 ≤ _; omega, by rw [c2]; show _ < 256 + 256; omega⟩
  · refine ⟨_, .tail _ (.head _), ?_⟩
    refine (Rect.mem_set_unit (inb := inb_S1x512x1024_S1x256x256_0_256_512)).mpr fun a => ?_
    match a with
    | 0 => exact ⟨by show 0 ≤ _; omega, by rw [c0]; show _ < 0 + 1; omega⟩
    | 1 => exact ⟨by rw [c1]; show 256 ≤ _; omega, by rw [c1]; show _ < 256 + 256; omega⟩
    | 2 => exact ⟨by rw [c2]; show 512 ≤ _; omega, by rw [c2]; show _ < 512 + 256; omega⟩
  · refine ⟨_, .head _, ?_⟩
    refine (Rect.mem_set_unit (inb := inb_S1x512x1024_S1x256x256_0_256_768)).mpr fun a => ?_
    match a with
    | 0 => exact ⟨by show 0 ≤ _; omega, by rw [c0]; show _ < 0 + 1; omega⟩
    | 1 => exact ⟨by rw [c1]; show 256 ≤ _; omega, by rw [c1]; show _ < 256 + 256; omega⟩
    | 2 => exact ⟨by rw [c2]; show 768 ≤ _; omega, by rw [c2]; show _ < 768 + 256; omega⟩

/-- The two halves' stores leave the tile's result rows. -/
theorem rows_canon (x1 : Vec F S1x512x1024 .f32) (x2 : Vec F S1x1x512x256 .f32) (x3 : Vec F S1x8x1024 .f32) (x4 : Vec F S1x1024x3088 .bf16) (x5 : Vec F S1x1024x128 .bf16) (x6 : Vec F S1x128x512 .bf16) (x7 : Vec F S1x1024x1024 .bf16) (x8 x9 : Vec F S1x1024x2816 .bf16) (x10 : Vec F S1x2816x1024 .bf16) (x11 : Vec F S1x1024x1024 .bf16) (x12 : Vec F S1x256x1024 .bf16) (xs : Vec F S1x1x4x128x256 .f32) :
    View.canon [(⟨Rect.unit ![0, 256, 0] S1x256x1024.size inb_S1x512x1024_S1x256x1024_0_256_0, yV x1 x2 x3 x7 x8 x9 x10 x11 x12 (obV (obFull x1 x3 x4 x5 x6 xs) 1) 1⟩ : View.Piece (Elt F) S1x512x1024 .f32), ⟨Rect.unit ![0, 0, 0] S1x256x1024.size inb_S1x512x1024_S1x256x1024_0_0_0, yV x1 x2 x3 x7 x8 x9 x10 x11 x12 (obV (obFull x1 x3 x4 x5 x6 xs) 0) 0⟩]
      = yFull x1 x2 x3 x4 x5 x6 x7 x8 x9 x10 x11 x12 xs := by
  funext y
  canon_tiles x h
  case piece0 =>
    have e1 : ∀ p, (⟨(y 1 : ℕ) / 256, p⟩ : Fin 2) = 1 := fun p => Fin.ext (by show (y 1 : ℕ) / 256 = 1; omega)
    simp only [yFull, e1]
    refine congrArg _ (funext fun a => ?_)
    match a with
    | 0 => exact Fin.ext (by show (x 0 : ℕ) = 0; omega)
    | 1 => exact Fin.ext (by show (x 1 : ℕ) = (y 1 : ℕ) % 256; omega)
    | 2 => exact Fin.ext (by show (x 2 : ℕ) = (y 2 : ℕ); omega)
  case piece1 =>
    have e1 : ∀ p, (⟨(y 1 : ℕ) / 256, p⟩ : Fin 2) = 0 := fun p => Fin.ext (by show (y 1 : ℕ) / 256 = 0; omega)
    simp only [yFull, e1]
    refine congrArg _ (funext fun a => ?_)
    match a with
    | 0 => exact Fin.ext (by show (x 0 : ℕ) = 0; omega)
    | 1 => exact Fin.ext (by show (x 1 : ℕ) = (y 1 : ℕ) % 256; omega)
    | 2 => exact Fin.ext (by show (x 2 : ℕ) = (y 2 : ℕ); omega)

/-- A head's state, stored, is the tile's final state there. -/
theorem state_emb (x1 : Vec F S1x512x1024 .f32) (x3 : Vec F S1x8x1024 .f32) (x4 : Vec F S1x1024x3088 .bf16) (x5 : Vec F S1x1024x128 .bf16) (x6 : Vec F S1x128x512 .bf16) (xs : Vec F S1x1x4x128x256 .f32) (h : Fin 4) (x : S1x1x1x128x256.Idx) (y : S1x1x4x128x256.Idx) (h2 : (y 2 : ℕ) = h + x 2) (h3 : (y 3 : ℕ) = 0 + 1 * x 3) (h4 : (y 4 : ℕ) = 0 + 1 * x 4) :
    shapeCast S1x1x1x128x256 (statesV x1 x3 x4 x5 x6 1 h (startV x1 x3 x4 x5 x6 xs h 1) 4) shapeCasts_S128x256_S1x1x1x128x256 x = sFull x1 x3 x4 x5 x6 xs y := by
  have a0 : (x 0 : ℕ) < 1 := (x 0).isLt
  have a1 : (x 1 : ℕ) < 1 := (x 1).isLt
  have a2 : (x 2 : ℕ) < 1 := (x 2).isLt
  have e : y 2 = h := Fin.ext (by omega)
  unfold sFull
  rw [e]
  refine shapeCast_apply _ _ _ _ ?_
  rw [Shape.rowMajor_val_two, Shape.rowMajor_val_five]
  show (y 3 : ℕ) * 256 + (y 4 : ℕ) = ((((x 0 : ℕ) * 1 + (x 1 : ℕ)) * 1 + (x 2 : ℕ)) * 128 + (x 3 : ℕ)) * 256 + (x 4 : ℕ)
  omega

/-- The four heads' stores leave the tile's final states. -/
theorem states_canon (x1 : Vec F S1x512x1024 .f32) (x3 : Vec F S1x8x1024 .f32) (x4 : Vec F S1x1024x3088 .bf16) (x5 : Vec F S1x1024x128 .bf16) (x6 : Vec F S1x128x512 .bf16) (xs : Vec F S1x1x4x128x256 .f32) (L : List (View.Piece (Elt F) S1x1x4x128x256 .f32)) :
    View.canon ((⟨Rect.unit ![0, 0, 3, 0, 0] S1x1x1x128x256.size inb_S1x1x4x128x256_S1x1x1x128x256_0_0_3_0_0, shapeCast S1x1x1x128x256 (statesV x1 x3 x4 x5 x6 1 3 (startV x1 x3 x4 x5 x6 xs 3 1) 4) shapeCasts_S128x256_S1x1x1x128x256⟩ : View.Piece (Elt F) S1x1x4x128x256 .f32) :: ⟨Rect.unit ![0, 0, 2, 0, 0] S1x1x1x128x256.size inb_S1x1x4x128x256_S1x1x1x128x256_0_0_2_0_0, shapeCast S1x1x1x128x256 (statesV x1 x3 x4 x5 x6 1 2 (startV x1 x3 x4 x5 x6 xs 2 1) 4) shapeCasts_S128x256_S1x1x1x128x256⟩ :: ⟨Rect.unit ![0, 0, 1, 0, 0] S1x1x1x128x256.size inb_S1x1x4x128x256_S1x1x1x128x256_0_0_1_0_0, shapeCast S1x1x1x128x256 (statesV x1 x3 x4 x5 x6 1 1 (startV x1 x3 x4 x5 x6 xs 1 1) 4) shapeCasts_S128x256_S1x1x1x128x256⟩ :: ⟨Rect.unit ![0, 0, 0, 0, 0] S1x1x1x128x256.size inb_S1x1x4x128x256_S1x1x1x128x256_0_0_0_0_0, shapeCast S1x1x1x128x256 (statesV x1 x3 x4 x5 x6 1 0 (startV x1 x3 x4 x5 x6 xs 0 1) 4) shapeCasts_S128x256_S1x1x1x128x256⟩ :: L)
      = sFull x1 x3 x4 x5 x6 xs := by
  funext y
  refine View.canon_append_of_piecesOf (sFull x1 x3 x4 x5 x6 xs) L [_, _, _, _] (And.intro (fun x => ?_) (And.intro (fun x => ?_) (And.intro (fun x => ?_) (And.intro (fun x => ?_) trivial)))) _ ?_
  iterate 4
    · refine state_emb x1 x3 x4 x5 x6 xs _ x _ ?_ ?_ ?_ <;> rw [Rect.emb_apply] <;> simp
  have y0 : (y 0 : ℕ) < 1 := (y 0).isLt
  have y1 : (y 1 : ℕ) < 1 := (y 1).isLt
  have y2 : (y 2 : ℕ) < 4 := (y 2).isLt
  have y3 : (y 3 : ℕ) < 128 := (y 3).isLt
  have y4 : (y 4 : ℕ) < 256 := (y 4).isLt
  have hq : (y 2 : ℕ) = 0 ∨ (y 2 : ℕ) = 1 ∨ (y 2 : ℕ) = 2 ∨ (y 2 : ℕ) = 3 := by omega
  rcases hq with q | q | q | q
  · refine ⟨_, .tail _ (.tail _ (.tail _ (.head _))), ?_⟩
    refine (Rect.mem_set_unit (inb := inb_S1x1x4x128x256_S1x1x1x128x256_0_0_0_0_0)).mpr fun a => ?_
    match a with
    | 0 => exact ⟨by show 0 ≤ _; omega, by show _ < 0 + 1; omega⟩
    | 1 => exact ⟨by show 0 ≤ _; omega, by show _ < 0 + 1; omega⟩
    | 2 => exact ⟨by show 0 ≤ _; omega, by show _ < 0 + 1; omega⟩
    | 3 => exact ⟨by show 0 ≤ _; omega, by show _ < 0 + 128; omega⟩
    | 4 => exact ⟨by show 0 ≤ _; omega, by show _ < 0 + 256; omega⟩
  · refine ⟨_, .tail _ (.tail _ (.head _)), ?_⟩
    refine (Rect.mem_set_unit (inb := inb_S1x1x4x128x256_S1x1x1x128x256_0_0_1_0_0)).mpr fun a => ?_
    match a with
    | 0 => exact ⟨by show 0 ≤ _; omega, by show _ < 0 + 1; omega⟩
    | 1 => exact ⟨by show 0 ≤ _; omega, by show _ < 0 + 1; omega⟩
    | 2 => exact ⟨by show 1 ≤ _; omega, by show _ < 1 + 1; omega⟩
    | 3 => exact ⟨by show 0 ≤ _; omega, by show _ < 0 + 128; omega⟩
    | 4 => exact ⟨by show 0 ≤ _; omega, by show _ < 0 + 256; omega⟩
  · refine ⟨_, .tail _ (.head _), ?_⟩
    refine (Rect.mem_set_unit (inb := inb_S1x1x4x128x256_S1x1x1x128x256_0_0_2_0_0)).mpr fun a => ?_
    match a with
    | 0 => exact ⟨by show 0 ≤ _; omega, by show _ < 0 + 1; omega⟩
    | 1 => exact ⟨by show 0 ≤ _; omega, by show _ < 0 + 1; omega⟩
    | 2 => exact ⟨by show 2 ≤ _; omega, by show _ < 2 + 1; omega⟩
    | 3 => exact ⟨by show 0 ≤ _; omega, by show _ < 0 + 128; omega⟩
    | 4 => exact ⟨by show 0 ≤ _; omega, by show _ < 0 + 256; omega⟩
  · refine ⟨_, .head _, ?_⟩
    refine (Rect.mem_set_unit (inb := inb_S1x1x4x128x256_S1x1x1x128x256_0_0_3_0_0)).mpr fun a => ?_
    match a with
    | 0 => exact ⟨by show 0 ≤ _; omega, by show _ < 0 + 1; omega⟩
    | 1 => exact ⟨by show 0 ≤ _; omega, by show _ < 0 + 1; omega⟩
    | 2 => exact ⟨by show 3 ≤ _; omega, by show _ < 3 + 1; omega⟩
    | 3 => exact ⟨by show 0 ≤ _; omega, by show _ < 0 + 128; omega⟩
    | 4 => exact ⟨by show 0 ≤ _; omega, by show _ < 0 + 256; omega⟩

end Cert.KernelIdeal.Gla
-- ==== Proof.TileAt.lean ====
/-
  A tile at its run of 512 tokens: the state block it leaves is the recurrence's, and its result rows are the layer's.
-/
module

public import proofs.«01_k».proof.Proof.HalfAt
public import proofs.«01_k».proof.Proof.TailAt
public import proofs.«01_k».proof.Proof.Blocks

@[expose] public section

set_option maxRecDepth 16384

noncomputable section

namespace Cert.KernelIdeal.Gla

open Cert.KernelIdeal Cert.KernelIdeal.Gen Cert.Gla Idealize.ShloMosaic Idealize.ShloMosaic.TcCoe Idealize.SL.Sem

variable {W : Wts} {x3 : Vec Ideal S1x8x1024 .f32} {x4 : Vec Ideal S1x1024x3088 .bf16} {x5 : Vec Ideal S1x1024x128 .bf16} {x6 : Vec Ideal S1x128x512 .bf16} {x7 : Vec Ideal S1x1024x1024 .bf16} {x8 x9 : Vec Ideal S1x1024x2816 .bf16} {x10 : Vec Ideal S1x2816x1024 .bf16} {x11 : Vec Ideal S1x1024x1024 .bf16} {x12 : Vec Ideal S1x256x1024 .bf16}

section Tile

variable (K : KW W x3 x4 x5 x6 x7 x8 x9 x10 x11 x12) (x1 : Vec Ideal S1x512x1024 .f32) (x2 : Vec Ideal S1x1x512x256 .f32) (xs : Vec Ideal S1x1x4x128x256 .f32) (H : ℕ → Fin 1024 → EReal) (P : ℕ → Fin 256 → EReal) (n0 : ℕ)
  (hH : ∀ (u : Fin 512) (c : Fin 1024), x1 (ix3 0 u c) = H (64 * n0 + u) c)
  (hP : ∀ (u : Fin 512) (c : Fin 256), x2 (ix4 0 0 u c) = P (64 * n0 + u) c)
  (hS : ∀ (h : Fin 4) (j : Fin 128) (d : Fin 256), xs (ix5 0 0 h j d) = stT W H h n0 j d)

include hH in
theorem half_rows (s : Fin 2) (r : Fin 256) : rowV x1 s r = H (64 * (n0 + 4 * s) + r) := by
  funext c
  rw [rowV, hH]
  exact congrArg (fun t => H t c) (show 64 * n0 + (256 * (s : ℕ) + r) = 64 * (n0 + 4 * s) + r by omega)

/-- A head of a state block. -/
theorem inV_at (h : Fin 4) (j : Fin 128) (d : Fin 256) : inV xs h (ix2 j d) = xs (ix5 0 0 h j d) := by
  match h with
  | 0 => pointwise [inV]; try rfl
  | 1 => pointwise [inV]; try rfl
  | 2 => pointwise [inV]; try rfl
  | 3 => pointwise [inV]; try rfl

include K hH hS

theorem start_at (h : Fin 4) (s : Fin 2) (j : Fin 128) (d : Fin 256) :
    startV x1 x3 x4 x5 x6 xs h s (ix2 j d) = stT W H h (n0 + 4 * s) j d := by
  match s with
  | 0 => exact (inV_at xs h j d).trans (hS h j d)
  | 1 => exact states_run K x1 0 H n0 (half_rows x1 H n0 hH 0) h (inV xs h) (fun j d => (inV_at xs h j d).trans (hS h j d)) 4 j d

/-- The state block a tile leaves. -/
theorem tile_state (h : Fin 4) (j : Fin 128) (d : Fin 256) :
    sFull x1 x3 x4 x5 x6 xs (ix5 0 0 h j d) = stT W H h (n0 + 8) j d :=
  states_run K x1 1 H (n0 + 4) (half_rows x1 H n0 hH 1) h _ (start_at K x1 xs H n0 hH hS h 1) 4 j d

/-- The tile's attention output. -/
theorem tile_att (s : Fin 2) (r : Fin 256) (c : Fin 1024) :
    obV (obFull x1 x3 x4 x5 x6 xs) s (ix3 0 r c) = attT W H (n0 + 4 * s + r / 64) (r % 64) c := by
  have a : obV (obFull x1 x3 x4 x5 x6 xs) s (ix3 0 r c) = obFull x1 x3 x4 x5 x6 xs (ix3 0 ⟨256 * s + r, by omega⟩ c) := by
    generalize obFull x1 x3 x4 x5 x6 xs = ob
    match s with
    | 0 => pointwise [obV]; try simp
    | 1 => pointwise [obV]; try simp
  have b : ∀ (s : Fin 2) (h : Fin 4) (S : FVec Ideal S128x256 .f32) (r d : Fin 256), pieceV x1 x3 x4 x5 x6 s h S (ix3 0 r d) = headV x1 x3 x4 x5 x6 s h S (ix2 r d) := by
    intro s h S r d
    pointwise [pieceV]
  have e1 : ∀ p, (⟨(256 * (s : ℕ) + r) / 256, p⟩ : Fin 2) = s := fun p => Fin.ext (by show (256 * (s : ℕ) + r) / 256 = s; omega)
  have e2 : ∀ p, (⟨(256 * (s : ℕ) + r) % 256, p⟩ : Fin 256) = r := fun p => Fin.ext (by show (256 * (s : ℕ) + r) % 256 = r; omega)
  have e3 : c256 ⟨(c : ℕ) / 256, by omega⟩ ⟨(c : ℕ) % 256, by omega⟩ = c := Fin.ext (by show 256 * ((c : ℕ) / 256) + (c : ℕ) % 256 = c; omega)
  have key : ∀ (s' : Fin 2) (r' : Fin 256), s' = s → r' = r →
      pieceV x1 x3 x4 x5 x6 s' ⟨(c : ℕ) / 256, by omega⟩ (startV x1 x3 x4 x5 x6 xs ⟨(c : ℕ) / 256, by omega⟩ s') (ix3 0 r' ⟨(c : ℕ) % 256, by omega⟩) = attT W H (n0 + 4 * s + r / 64) (r % 64) c := by
    rintro _ _ rfl rfl
    rw [b, head_run K x1 _ H _ (half_rows x1 H n0 hH _) _ _ (start_at K x1 xs H n0 hH hS _ _), e3]
  exact a.trans (key _ _ (e1 (by omega)) (e2 (by omega)))

include hP in
/-- The tile's result rows. -/
theorem tile_y (u : Fin 512) (c : Fin 1024) :
    yFull x1 x2 x3 x4 x5 x6 x7 x8 x9 x10 x11 x12 xs (ix3 0 u c) = outT W H P (64 * n0 + u) c := by
  show yV x1 x2 x3 x7 x8 x9 x10 x11 x12 (obV (obFull x1 x3 x4 x5 x6 xs) ⟨(u : ℕ) / 256, _⟩) ⟨(u : ℕ) / 256, _⟩ (ix3 0 ⟨(u : ℕ) % 256, _⟩ c) = _
  rw [y_at K, half_rows x1 H n0 hH]
  have t : 64 * (n0 + 4 * ((u : ℕ) / 256)) + (u : ℕ) % 256 = 64 * n0 + u := by omega
  have p : prowV x2 ⟨(u : ℕ) / 256, by omega⟩ ⟨(u : ℕ) % 256, by omega⟩ = P (64 * n0 + u) := by
    funext i
    rw [← hP]
    exact congrArg (fun w => x2 (ix4 0 0 w i)) (Fin.ext (by show 256 * ((u : ℕ) / 256) + (u : ℕ) % 256 = u; omega))
  have a : (fun i => obV (obFull x1 x3 x4 x5 x6 xs) ⟨(u : ℕ) / 256, by omega⟩ (ix3 0 ⟨(u : ℕ) % 256, by omega⟩ i)) = attT W H ((64 * n0 + u) / 64) ((64 * n0 + u) % 64) := by
    funext i
    rw [tile_att K x1 xs H n0 hH hS]
    show attT W H (n0 + 4 * ((u : ℕ) / 256) + (u : ℕ) % 256 / 64) ((u : ℕ) % 256 % 64) i = _
    rw [show n0 + 4 * ((u : ℕ) / 256) + (u : ℕ) % 256 / 64 = (64 * n0 + u) / 64 by omega, show (u : ℕ) % 256 % 64 = (64 * n0 + u) % 64 by omega]
  rw [p, a]
  show yR W (H (64 * (n0 + 4 * ((u : ℕ) / 256)) + (u : ℕ) % 256)) _ _ c = _
  rw [t]
  rfl

end Tile

end Cert.KernelIdeal.Gla
-- ==== Proof.Entry.lean ====
/-
  The blocks of a grid point as entries of the argument arrays: the input rows, the embeddings, the starting state, and the
  weights the host packs, pads and casts.
-/
module

public import proofs.«01_k».proof.Proof.TileAt
public import Idealize.ShloMosaic.Lib.Pipeline.ValueKit
public import Idealize.ShloMosaic.Lib.StableHlo.ReadAt

@[expose] public section

set_option maxRecDepth 16384
set_option maxHeartbeats 4000000

noncomputable section

namespace Cert.KernelIdeal.Gla

open Cert.KernelIdeal Cert.KernelIdeal.Gen Cert.Gla Idealize.ShloMosaic Idealize.ShloMosaic.TcCoe Idealize.SL.Sem

variable (m : (ℓ : Loc nD τ sig) → Buf (Elt Ideal) ℓ)

/-- The windows' block indices. -/
theorem idx : ∀ t : Fin cfg0.N,
    win0_0.index t = ![0, t.val / 8, 0, 0, 0] ∧ win0_1.index t = ![t.val / 8, t.val % 8, 0] ∧ win0_2.index t = ![1, t.val / 8, t.val % 8, 0]
    ∧ win0_3.index t = ![0, 0, 0] ∧ win0_4.index t = ![0, 0, 0] ∧ win0_5.index t = ![0, 0, 0] ∧ win0_6.index t = ![0, 0, 0] ∧ win0_7.index t = ![0, 0, 0]
    ∧ win0_8.index t = ![1, 0, 0] ∧ win0_9.index t = ![1, 0, 0] ∧ win0_10.index t = ![1, 0, 0] ∧ win0_11.index t = ![1, 0, 0] ∧ win0_12.index t = ![1, 0, 0]
    ∧ win0_13.index t = ![t.val / 8, t.val % 8, 0] ∧ win0_14.index t = ![0, t.val / 8, 0, 0, 0] ∧ t.val < 32 :=
  (by decide +kernel : ∀ t : Fin grid0.N, _)

/-- The batch of a grid point. -/
def bN (n : ℕ) : Fin 4 := ⟨n / 8 % 4, by omega⟩

/-- The layer's weights, from the kernel's arguments. -/
def kW (c : Dev nD) : Wts :=
  wOf (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13))
    (m ((c : Thread nD τ).loc main_arg14)) (m ((c : Thread nD τ).loc main_arg15))

theorem blk1 (c : Dev nD) (t : Fin cfg0.N) (u : Fin 512) (i : Fin 1024) :
    iblk m c 1 t (ix3 0 u i) = hOf (m ((c : Thread nD τ).loc main_arg0)) (bN t.val) (64 * (8 * (t.val % 8)) + u) i := by
  have h := (idx t).2.2.2.2.2.2.2.2.2.2.2.2.2.2.2
  unfold hOf bN
  blk_ext [iblk, V, idx t]

theorem blk2 (c : Dev nD) (t : Fin cfg0.N) (u : Fin 512) (i : Fin 256) :
    iblk m c 2 t (ix4 0 0 u i) = pOf (m ((c : Thread nD τ).loc main_arg1)) (bN t.val) (64 * (8 * (t.val % 8)) + u) i := by
  have h := (idx t).2.2.2.2.2.2.2.2.2.2.2.2.2.2.2
  unfold pOf bN
  blk_ext [iblk, V, idx t]

/-- The starting state is zero. -/
theorem host_v37 (c : Dev nD) (i : S1x4x4x128x256.Idx) : V m c main_v37 i = (0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at

theorem host_v36 (c : Dev nD) (i : Fin 1024) (j : Fin 1024) : V m c main_v36 (ix3 0 i j) = (kW m c).wo i j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at

theorem host_v30 (c : Dev nD) (i : Fin 1024) (j : Fin 3088) : V m c main_v30 (ix3 0 i j) = (kW m c).win i j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at

theorem host_v25 (c : Dev nD) (i : Fin 1024) (j : Fin 2816) : V m c main_v25 (ix3 1 i j) = (kW m c).wg i j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at

theorem host_v26 (c : Dev nD) (i : Fin 1024) (j : Fin 2816) : V m c main_v26 (ix3 1 i j) = (kW m c).wu i j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at

theorem host_v27 (c : Dev nD) (i : Fin 2816) (j : Fin 1024) : V m c main_v27 (ix3 1 i j) = (kW m c).wd i j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at

theorem host_v28 (c : Dev nD) (i : Fin 1024) (j : Fin 1024) : V m c main_v28 (ix3 1 i j) = (kW m c).wpg i j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at

theorem host_v29 (c : Dev nD) (i : Fin 256) (j : Fin 1024) : V m c main_v29 (ix3 1 i j) = (kW m c).wpp i j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at

/-- The low-rank gate's input columns, padded with zeros. -/
theorem host_v33 (c : Dev nD) (i : Fin 1024) (r : Fin 128) : V m c main_v33 (ix3 0 i r) = if h : (r : ℕ) < 16 then (kW m c).win i ⟨3072 + r, by omega⟩ else 0 := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at
  have e : (FloatOps.sitofp (F := Ideal) FTy.bf16 (0#32 : BitVec 32)) = (0 : EReal) := by simp [FloatOps.sitofp]
  rw [e]

/-- The low-rank gate's output rows, padded with zeros. -/
theorem host_v35 (c : Dev nD) (r : Fin 128) (j : Fin 512) : V m c main_v35 (ix3 0 r j) = if h : (r : ℕ) < 16 then (kW m c).gu ⟨r, h⟩ j else 0 := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at
  have e : (FloatOps.sitofp (F := Ideal) FTy.bf16 (0#32 : BitVec 32)) = (0 : EReal) := by simp [FloatOps.sitofp]
  rw [e]

theorem row_nm (c : Dev nD) (j : Fin 1024) : V m c main_v24 (ix3 0 0 j) = (kW m c).nm j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at
  after_reads_at

theorem row_nf (c : Dev nD) (j : Fin 1024) : V m c main_v24 (ix3 0 1 j) = (kW m c).nf j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at
  after_reads_at

theorem row_np (c : Dev nD) (j : Fin 1024) : V m c main_v24 (ix3 0 2 j) = (kW m c).np j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at
  after_reads_at

theorem row_bias (c : Dev nD) (j : Fin 512) : V m c main_v24 (ix3 0 3 ⟨j, by omega⟩) = (kW m c).bias j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at
  after_reads_at

theorem row_gn (c : Dev nD) (j : Fin 256) : V m c main_v24 (ix3 0 4 ⟨j, by omega⟩) = (kW m c).gn j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at
  after_reads_at

theorem row_nz (c : Dev nD) (j : Fin 1024) : V m c main_v24 (ix3 0 5 j) = (kW m c).nz j := by
  unfold kW wOf
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil]
  after_reads_at
  after_reads_at

theorem blk0 (c : Dev nD) (t : Fin cfg0.N) (h : Fin 4) (j : Fin 128) (d : Fin 256) :
    iblk m c 0 t (ix5 0 0 h j d) = (0 : EReal) := by
  refine Eq.trans ?_ (host_v37 m c (ix5 0 ⟨t.val / 8, by have := (idx t).2.2.2.2.2.2.2.2.2.2.2.2.2.2.2; omega⟩ h j d))
  blk_ext [iblk, idx t]

theorem blk3 (c : Dev nD) (t : Fin cfg0.N) (i : Fin 8) (j : Fin 1024) : iblk m c 3 t (ix3 0 i j) = V m c main_v24 (ix3 0 i j) := by
  blk_ext [iblk, idx t]

theorem blk4 (c : Dev nD) (t : Fin cfg0.N) (i : Fin 1024) (j : Fin 3088) : iblk m c 4 t (ix3 0 i j) = V m c main_v30 (ix3 0 i j) := by
  blk_ext [iblk, idx t]

theorem blk5 (c : Dev nD) (t : Fin cfg0.N) (i : Fin 1024) (j : Fin 128) : iblk m c 5 t (ix3 0 i j) = V m c main_v33 (ix3 0 i j) := by
  blk_ext [iblk, idx t]

theorem blk6 (c : Dev nD) (t : Fin cfg0.N) (i : Fin 128) (j : Fin 512) : iblk m c 6 t (ix3 0 i j) = V m c main_v35 (ix3 0 i j) := by
  blk_ext [iblk, idx t]

theorem blk7 (c : Dev nD) (t : Fin cfg0.N) (i : Fin 1024) (j : Fin 1024) : iblk m c 7 t (ix3 0 i j) = V m c main_v36 (ix3 0 i j) := by
  blk_ext [iblk, idx t]

theorem blk8 (c : Dev nD) (t : Fin cfg0.N) (i : Fin 1024) (j : Fin 2816) : iblk m c 8 t (ix3 0 i j) = V m c main_v25 (ix3 1 i j) := by
  blk_ext [iblk, idx t]

theorem blk9 (c : Dev nD) (t : Fin cfg0.N) (i : Fin 1024) (j : Fin 2816) : iblk m c 9 t (ix3 0 i j) = V m c main_v26 (ix3 1 i j) := by
  blk_ext [iblk, idx t]

theorem blk10 (c : Dev nD) (t : Fin cfg0.N) (i : Fin 2816) (j : Fin 1024) : iblk m c 10 t (ix3 0 i j) = V m c main_v27 (ix3 1 i j) := by
  blk_ext [iblk, idx t]

theorem blk11 (c : Dev nD) (t : Fin cfg0.N) (i : Fin 1024) (j : Fin 1024) : iblk m c 11 t (ix3 0 i j) = V m c main_v28 (ix3 1 i j) := by
  blk_ext [iblk, idx t]

theorem blk12 (c : Dev nD) (t : Fin cfg0.N) (i : Fin 256) (j : Fin 1024) : iblk m c 12 t (ix3 0 i j) = V m c main_v29 (ix3 1 i j) := by
  blk_ext [iblk, idx t]

/-- The weight blocks of every point are the layer's weights. -/
theorem kw (c : Dev nD) (t : Fin cfg0.N) :
    KW (kW m c) (iblk m c 3 t) (iblk m c 4 t) (iblk m c 5 t) (iblk m c 6 t) (iblk m c 7 t) (iblk m c 8 t) (iblk m c 9 t) (iblk m c 10 t) (iblk m c 11 t) (iblk m c 12 t) where
  nm j := (blk3 m c t 0 j).trans (row_nm m c j)
  nf j := (blk3 m c t 1 j).trans (row_nf m c j)
  np j := (blk3 m c t 2 j).trans (row_np m c j)
  bias j := (blk3 m c t 3 _).trans (row_bias m c j)
  gn j := (blk3 m c t 4 _).trans (row_gn m c j)
  nz j := (blk3 m c t 5 j).trans (row_nz m c j)
  win i j := (blk4 m c t i j).trans (host_v30 m c i j)
  wgr i j := (blk5 m c t i j).trans (host_v33 m c i j)
  wgu i j := (blk6 m c t i j).trans (host_v35 m c i j)
  wo i j := (blk7 m c t i j).trans (host_v36 m c i j)
  wg i j := (blk8 m c t i j).trans (host_v25 m c i j)
  wu i j := (blk9 m c t i j).trans (host_v26 m c i j)
  wd i j := (blk10 m c t i j).trans (host_v27 m c i j)
  wpg i j := (blk11 m c t i j).trans (host_v28 m c i j)
  wpp i j := (blk12 m c t i j).trans (host_v29 m c i j)

end Cert.KernelIdeal.Gla
-- ==== Proof.WordsA.lean ====
/-
  Case A of the run (a batch's first tile): each of its words is the named array function of the input blocks.
-/
module

public import proofs.«01_k».proof.Proof.Vec
public import Idealize.ShloMosaic.Lib.Pipeline.ValueKit
public import Idealize.ShloMosaic.Lib.Pipeline.ReadBack

@[expose] public section

set_option maxRecDepth 16384
set_option maxHeartbeats 2000000

noncomputable section

namespace Cert.KernelIdeal.Gla.CaseA

open Cert.KernelIdeal Cert.KernelIdeal.Gen Cert.KernelIdeal.Gla Idealize.ShloMosaic Idealize.ShloMosaic.TcCoe Idealize.SL.Sem

variable {F : FTy → Type} [FloatOps F]

/-- The state block just copied, read back: head 0 of the state the launch starts from. -/
theorem v154_eq (c : Dev nD) (arg2 : Memref sig .tc .vmem S1x1x4x128x256 .f32) (harg2 : arg2.IsWhole) (arg16 : Memref sig .tc .vmem S1x1x4x128x256 .f32) (x0 : Vec F S1x1x4x128x256 .f32) :
    kernelRun0_A.sl.v154 c arg2 harg2 arg16 x0 = View.ld x0 (Rect.unit ![0, 0, 0, 0, 0] S1x1x1x128x256.size inb_S1x1x4x128x256_S1x1x1x128x256_0_0_0_0_0) := by
  refine funext fun a => ?_
  have h5 : ∀ x : Vec F S1x1x4x128x256 .f32, k0_pay5 x = x := fun x => by
    simp only [k0_pay5]
    first | exact shapeCast_shapeCast _ _ _ | (rw [shapeCast_self, shapeCast_self])
  show arg16.view.readCov [_] _ a = _
  rw [View.readCov_fill _ _ _ _ _ (by decide), h5, View.readAt_eq_ld, Memref.IsWhole.read_unread, View.ld_unit_zero (by decide)]

/-- The state block just copied, read back: head 1 of the state the launch starts from. -/
theorem v262_eq (c : Dev nD) (arg2 : Memref sig .tc .vmem S1x1x4x128x256 .f32) (harg2 : arg2.IsWhole) (arg16 : Memref sig .tc .vmem S1x1x4x128x256 .f32) (x0 : Vec F S1x1x4x128x256 .f32) :
    kernelRun0_A.sl.v262 c arg2 harg2 arg16 x0 = View.ld x0 (Rect.unit ![0, 0, 1, 0, 0] S1x1x1x128x256.size inb_S1x1x4x128x256_S1x1x1x128x256_0_0_1_0_0) := by
  refine funext fun a => ?_
  have h5 : ∀ x : Vec F S1x1x4x128x256 .f32, k0_pay5 x = x := fun x => by
    simp only [k0_pay5]
    first | exact shapeCast_shapeCast _ _ _ | (rw [shapeCast_self, shapeCast_self])
  show arg16.view.readCov [_] _ a = _
  rw [View.readCov_fill _ _ _ _ _ (by decide), h5, View.readAt_eq_ld, Memref.IsWhole.read_unread, View.ld_unit_zero (by decide)]

/-- The state block just copied, read back: head 2 of the state the launch starts from. -/
theorem v370_eq (c : Dev nD) (arg2 : Memref sig .tc .vmem S1x1x4x128x256 .f32) (harg2 : arg2.IsWhole) (arg16 : Memref sig .tc .vmem S1x1x4x128x256 .f32) (x0 : Vec F S1x1x4x128x256 .f32) :
    kernelRun0_A.sl.v370 c arg2 harg2 arg16 x0 = View.ld x0 (Rect.unit ![0, 0, 2, 0, 0] S1x1x1x128x256.size inb_S1x1x4x128x256_S1x1x1x128x256_0_0_2_0_0) := by
  refine funext fun a => ?_
  have h5 : ∀ x : Vec F S1x1x4x128x256 .f32, k0_pay5 x = x := fun x => by
    simp only [k0_pay5]
    first | exact shapeCast_shapeCast _ _ _ | (rw [shapeCast_self, shapeCast_self])
  show arg16.view.readCov [_] _ a = _
  rw [View.readCov_fill _ _ _ _ _ (by decide), h5, View.readAt_eq_ld, Memref.IsWhole.read_unread, View.ld_unit_zero (by decide)]

/-- The state block just copied, read back: head 3 of the state the launch starts from. -/
theorem v478_eq (c : Dev nD) (arg2 : Memref sig .tc .vmem S1x1x4x128x256 .f32) (harg2 : arg2.IsWhole) (arg16 : Memref sig .tc .vmem S1x1x4x128x256 .f32) (x0 : Vec F S1x1x4x128x256 .f32) :
    kernelRun0_A.sl.v478 c arg2 harg2 arg16 x0 = View.ld x0 (Rect.unit ![0, 0, 3, 0, 0] S1x1x1x128x256.size inb_S1x1x4x128x256_S1x1x1x128x256_0_0_3_0_0) := by
  refine funext fun a => ?_
  have h5 : ∀ x : Vec F S1x1x4x128x256 .f32, k0_pay5 x = x := fun x => by
    simp only [k0_pay5]
    first | exact shapeCast_shapeCast _ _ _ | (rw [shapeCast_self, shapeCast_self])
  show arg16.view.readCov [_] _ a = _
  rw [View.readCov_fill _ _ _ _ _ (by decide), h5, View.readAt_eq_ld, Memref.IsWhole.read_unread, View.ld_unit_zero (by decide)]

/-- A word of the first half. -/
theorem r_eq (c : Dev nD) (arg3 : Memref sig .tc .vmem S1x512x1024 .f32) (harg3 : arg3.IsWhole) (arg5 : Memref sig .tc .vmem S1x8x1024 .f32) (harg5 : arg5.IsWhole) (x1 : Vec F S1x512x1024 .f32) (x3 : Vec F S1x8x1024 .f32) :
    kernelRun0_A.sl.r c arg3 harg3 arg5 harg5 x1 x3 = xnV x1 x3 0 := by
  simp only [kernelRun0_A.sl.r, View.readAt_eq_ld, Memref.IsWhole.read_unread]
  rfl

/-- A word of the first half. -/
theorem r_4_eq (c : Dev nD) (arg3 : Memref sig .tc .vmem S1x512x1024 .f32) (harg3 : arg3.IsWhole) (arg5 : Memref sig .tc .vmem S1x8x1024 .f32) (harg5 : arg5.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x5 : Vec F S1x1024x128 .bf16) (x6 : Vec F S1x128x512 .bf16) :
    kernelRun0_A.sl.r_4 c arg3 harg3 arg5 harg5 arg7 harg7 arg8 harg8 x1 x3 x5 x6 = cumV x1 x3 x5 x6 0 := by
  simp only [kernelRun0_A.sl.r_4, kernelRun0_A.sl.r_2, View.readAt_eq_ld, Memref.IsWhole.read_unread]
  rfl

/-- A word of the first half. -/
theorem r_6_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (x1 : Vec F S1x512x1024 .f32) (x3 : Vec F S1x8x1024 .f32) (x4 : Vec F S1x1024x3088 .bf16) :
    kernelRun0_A.sl.r_6 c arg3 harg3 arg5 harg5 arg6 harg6 x1 x3 x4 = vV x1 x3 x4 0 := by
  simp only [kernelRun0_A.sl.r_6, kernelRun0_A.sl.r_5, r_eq, View.readAt_eq_ld, Memref.IsWhole.read_unread]
  rfl

/-- A word of the first half. -/
theorem r_7_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_7 c arg3 harg3 arg5 harg5 arg6 harg6 arg7 harg7 arg8 harg8 x1 x3 x4 x5 x6 = qdV x1 x3 x4 x5 x6 0 := by
  simp only [kernelRun0_A.sl.r_7, kernelRun0_A.sl.r_1, r_4_eq, View.readAt_eq_ld, Memref.IsWhole.read_unread]
  rfl

/-- A word of the first half. -/
theorem r_8_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_8 c arg3 harg3 arg5 harg5 arg6 harg6 arg7 harg7 arg8 harg8 x1 x3 x4 x5 x6 = kiV x1 x3 x4 x5 x6 0 := by
  simp only [kernelRun0_A.sl.r_8, kernelRun0_A.sl.r_3, r_4_eq, r_eq, View.readAt_eq_ld, Memref.IsWhole.read_unread]
  rfl

/-- A word of the first half. -/
theorem r_9_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_9 c arg3 harg3 arg5 harg5 arg6 harg6 arg7 harg7 arg8 harg8 x1 x3 x4 x5 x6 = keV x1 x3 x4 x5 x6 0 := by
  simp only [kernelRun0_A.sl.r_9, kernelRun0_A.sl.r_3, r_4_eq, r_eq, View.readAt_eq_ld, Memref.IsWhole.read_unread]
  rfl

/-- A word of the first half. -/
theorem r_10_eq (c : Dev nD) (arg3 : Memref sig .tc .vmem S1x512x1024 .f32) (harg3 : arg3.IsWhole) (arg5 : Memref sig .tc .vmem S1x8x1024 .f32) (harg5 : arg5.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x5 : Vec F S1x1024x128 .bf16) (x6 : Vec F S1x128x512 .bf16) :
    kernelRun0_A.sl.r_10 c arg3 harg3 arg5 harg5 arg7 harg7 arg8 harg8 x1 x3 x5 x6 = endV (cumV x1 x3 x5 x6 0) 0 := by
  simp only [kernelRun0_A.sl.r_10, r_4_eq, View.readAt_eq_ld, Memref.IsWhole.read_unread]
  rfl

/-- A word of the first half. -/
theorem r_11_eq (c : Dev nD) (arg3 : Memref sig .tc .vmem S1x512x1024 .f32) (harg3 : arg3.IsWhole) (arg5 : Memref sig .tc .vmem S1x8x1024 .f32) (harg5 : arg5.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x5 : Vec F S1x1024x128 .bf16) (x6 : Vec F S1x128x512 .bf16) :
    kernelRun0_A.sl.r_11 c arg3 harg3 arg5 harg5 arg7 harg7 arg8 harg8 x1 x3 x5 x6 = endV (cumV x1 x3 x5 x6 0) 1 := by
  simp only [kernelRun0_A.sl.r_11, r_4_eq, View.readAt_eq_ld, Memref.IsWhole.read_unread]
  rfl

/-- A word of the first half. -/
theorem r_12_eq (c : Dev nD) (arg3 : Memref sig .tc .vmem S1x512x1024 .f32) (harg3 : arg3.IsWhole) (arg5 : Memref sig .tc .vmem S1x8x1024 .f32) (harg5 : arg5.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x5 : Vec F S1x1024x128 .bf16) (x6 : Vec F S1x128x512 .bf16) :
    kernelRun0_A.sl.r_12 c arg3 harg3 arg5 harg5 arg7 harg7 arg8 harg8 x1 x3 x5 x6 = endV (cumV x1 x3 x5 x6 0) 2 := by
  simp only [kernelRun0_A.sl.r_12, r_4_eq, View.readAt_eq_ld, Memref.IsWhole.read_unread]
  rfl

/-- A word of the first half. -/
theorem r_13_eq (c : Dev nD) (arg3 : Memref sig .tc .vmem S1x512x1024 .f32) (harg3 : arg3.IsWhole) (arg5 : Memref sig .tc .vmem S1x8x1024 .f32) (harg5 : arg5.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x5 : Vec F S1x1024x128 .bf16) (x6 : Vec F S1x128x512 .bf16) :
    kernelRun0_A.sl.r_13 c arg3 harg3 arg5 harg5 arg7 harg7 arg8 harg8 x1 x3 x5 x6 = endV (cumV x1 x3 x5 x6 0) 3 := by
  simp only [kernelRun0_A.sl.r_13, r_4_eq, View.readAt_eq_ld, Memref.IsWhole.read_unread]
  rfl

/-- A word of the first half. -/
theorem r_14_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (x1 : Vec F S1x512x1024 .f32) (x3 : Vec F S1x8x1024 .f32) (x4 : Vec F S1x1024x3088 .bf16) :
    kernelRun0_A.sl.r_14 c arg3 harg3 arg5 harg5 arg6 harg6 x1 x3 x4 = gateV x1 x3 x4 0 := by
  simp only [kernelRun0_A.sl.r_14, r_eq, View.readAt_eq_ld, Memref.IsWhole.read_unread]
  rfl

/-- A word of the first half. -/
theorem r_15_eq (c : Dev nD) (arg5 : Memref sig .tc .vmem S1x8x1024 .f32) (harg5 : arg5.IsWhole) (x3 : Vec F S1x8x1024 .f32) :
    kernelRun0_A.sl.r_15 c arg5 harg5 x3 = k0_pay27 (gnV x3) := by
  simp only [kernelRun0_A.sl.r_15, View.readAt_eq_ld, Memref.IsWhole.read_unread]
  rfl

/-- Head 0, the state after the first half. -/
theorem r_25_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_25 c arg2 harg2 arg3 harg3 arg5 harg5 arg6 harg6 arg7 harg7 arg8 harg8 arg16 x0 x1 x3 x4 x5 x6 = statesV x1 x3 x4 x5 x6 0 0 (inV x0 0) 4 := by
  simp only [kernelRun0_A.sl.r_25, kernelRun0_A.sl.r_18, kernelRun0_A.sl.r_19, kernelRun0_A.sl.r_21, r_10_eq, r_11_eq, r_12_eq, r_13_eq, r_6_eq, r_9_eq, v154_eq, View.readAt_eq_ld, Memref.IsWhole.read_unread]
  rfl

/-- Head 1, the state after the first half. -/
theorem r_42_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_42 c arg2 harg2 arg3 harg3 arg5 harg5 arg6 harg6 arg7 harg7 arg8 harg8 arg16 x0 x1 x3 x4 x5 x6 = statesV x1 x3 x4 x5 x6 0 1 (inV x0 1) 4 := by
  simp only [kernelRun0_A.sl.r_42, kernelRun0_A.sl.r_35, kernelRun0_A.sl.r_30, kernelRun0_A.sl.r_32, kernelRun0_A.sl.r_33, kernelRun0_A.sl.r_34, kernelRun0_A.sl.r_39, kernelRun0_A.sl.r_41, r_10_eq, r_11_eq, r_12_eq, r_13_eq, r_6_eq, r_9_eq, v262_eq, View.readAt_eq_ld, Memref.IsWhole.read_unread]
  rfl

/-- Head 2, the state after the first half. -/
theorem r_50_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_50 c arg2 harg2 arg3 harg3 arg5 harg5 arg6 harg6 arg7 harg7 arg8 harg8 arg16 x0 x1 x3 x4 x5 x6 = statesV x1 x3 x4 x5 x6 0 2 (inV x0 2) 4 := by
  simp only [kernelRun0_A.sl.r_50, kernelRun0_A.sl.r_45, kernelRun0_A.sl.r_47, kernelRun0_A.sl.r_49, r_10_eq, r_11_eq, r_12_eq, r_13_eq, r_6_eq, r_9_eq, v370_eq, View.readAt_eq_ld, Memref.IsWhole.read_unread]
  rfl

/-- Head 3, the state after the first half. -/
theorem r_64_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_64 c arg2 harg2 arg3 harg3 arg5 harg5 arg6 harg6 arg7 harg7 arg8 harg8 arg16 x0 x1 x3 x4 x5 x6 = statesV x1 x3 x4 x5 x6 0 3 (inV x0 3) 4 := by
  simp only [kernelRun0_A.sl.r_64, kernelRun0_A.sl.r_54, kernelRun0_A.sl.r_56, kernelRun0_A.sl.r_57, kernelRun0_A.sl.r_58, kernelRun0_A.sl.r_59, r_10_eq, r_11_eq, r_12_eq, r_13_eq, r_6_eq, r_9_eq, v478_eq, View.readAt_eq_ld, Memref.IsWhole.read_unread]
  rfl

/-- A word of the second half. -/
theorem r_69_eq (c : Dev nD) (arg3 : Memref sig .tc .vmem S1x512x1024 .f32) (harg3 : arg3.IsWhole) (arg5 : Memref sig .tc .vmem S1x8x1024 .f32) (harg5 : arg5.IsWhole) (x1 : Vec F S1x512x1024 .f32) (x3 : Vec F S1x8x1024 .f32) :
    kernelRun0_A.sl.r_69 c arg3 harg3 arg5 harg5 x1 x3 = xnV x1 x3 1 := by
  simp only [kernelRun0_A.sl.r_69, View.readAt_eq_ld, Memref.IsWhole.read_unread]
  rfl

/-- A word of the second half. -/
theorem r_82_eq (c : Dev nD) (arg3 : Memref sig .tc .vmem S1x512x1024 .f32) (harg3 : arg3.IsWhole) (arg5 : Memref sig .tc .vmem S1x8x1024 .f32) (harg5 : arg5.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x5 : Vec F S1x1024x128 .bf16) (x6 : Vec F S1x128x512 .bf16) :
    kernelRun0_A.sl.r_82 c arg3 harg3 arg5 harg5 arg7 harg7 arg8 harg8 x1 x3 x5 x6 = cumV x1 x3 x5 x6 1 := by
  simp only [kernelRun0_A.sl.r_82, kernelRun0_A.sl.r_75, kernelRun0_A.sl.r_70, kernelRun0_A.sl.r_76, View.readAt_eq_ld, Memref.IsWhole.read_unread]
  rfl

/-- A word of the second half. -/
theorem r_88_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (x1 : Vec F S1x512x1024 .f32) (x3 : Vec F S1x8x1024 .f32) (x4 : Vec F S1x1024x3088 .bf16) :
    kernelRun0_A.sl.r_88 c arg3 harg3 arg5 harg5 arg6 harg6 x1 x3 x4 = vV x1 x3 x4 1 := by
  simp only [kernelRun0_A.sl.r_88, kernelRun0_A.sl.r_83, r_69_eq, View.readAt_eq_ld, Memref.IsWhole.read_unread]
  rfl

/-- A word of the second half. -/
theorem r_92_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_92 c arg3 harg3 arg5 harg5 arg6 harg6 arg7 harg7 arg8 harg8 x1 x3 x4 x5 x6 = qdV x1 x3 x4 x5 x6 1 := by
  simp only [kernelRun0_A.sl.r_92, kernelRun0_A.sl.r_71, r_82_eq, View.readAt_eq_ld, Memref.IsWhole.read_unread]
  rfl

/-- A word of the second half. -/
theorem r_93_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_93 c arg3 harg3 arg5 harg5 arg6 harg6 arg7 harg7 arg8 harg8 x1 x3 x4 x5 x6 = kiV x1 x3 x4 x5 x6 1 := by
  simp only [kernelRun0_A.sl.r_93, kernelRun0_A.sl.r_77, r_69_eq, r_82_eq, View.readAt_eq_ld, Memref.IsWhole.read_unread]
  rfl

/-- A word of the second half. -/
theorem r_94_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_94 c arg3 harg3 arg5 harg5 arg6 harg6 arg7 harg7 arg8 harg8 x1 x3 x4 x5 x6 = keV x1 x3 x4 x5 x6 1 := by
  simp only [kernelRun0_A.sl.r_94, kernelRun0_A.sl.r_77, kernelRun0_A.sl.r_89, kernelRun0_A.sl.r_90, kernelRun0_A.sl.r_91, r_69_eq, r_82_eq, View.readAt_eq_ld, Memref.IsWhole.read_unread]
  rfl

/-- A word of the second half. -/
theorem r_107_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (x1 : Vec F S1x512x1024 .f32) (x3 : Vec F S1x8x1024 .f32) (x4 : Vec F S1x1024x3088 .bf16) :
    kernelRun0_A.sl.r_107 c arg3 harg3 arg5 harg5 arg6 harg6 x1 x3 x4 = gateV x1 x3 x4 1 := by
  simp only [kernelRun0_A.sl.r_107, kernelRun0_A.sl.r_99, r_69_eq, View.readAt_eq_ld, Memref.IsWhole.read_unread]
  rfl

/-- A word of the second half. -/
theorem r_108_eq (c : Dev nD) (arg5 : Memref sig .tc .vmem S1x8x1024 .f32) (harg5 : arg5.IsWhole) (x3 : Vec F S1x8x1024 .f32) :
    kernelRun0_A.sl.r_108 c arg5 harg5 x3 = k0_pay27 (gnV x3) := by
  simp only [kernelRun0_A.sl.r_108, View.readAt_eq_ld, Memref.IsWhole.read_unread]
  rfl

/-- Head 0, the state after the second half. -/
theorem r_122_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_122 c arg2 harg2 arg3 harg3 arg5 harg5 arg6 harg6 arg7 harg7 arg8 harg8 arg16 x0 x1 x3 x4 x5 x6 = statesV x1 x3 x4 x5 x6 1 0 (statesV x1 x3 x4 x5 x6 0 0 (inV x0 0) 4) 4 := by
  simp only [kernelRun0_A.sl.r_122, kernelRun0_A.sl.r_96, kernelRun0_A.sl.r_90, kernelRun0_A.sl.r_97, kernelRun0_A.sl.r_91, kernelRun0_A.sl.r_98, kernelRun0_A.sl.r_113, kernelRun0_A.sl.r_110, kernelRun0_A.sl.r_118, kernelRun0_A.sl.r_95, kernelRun0_A.sl.r_89, r_25_eq, r_82_eq, r_88_eq, r_94_eq, View.readAt_eq_ld, Memref.IsWhole.read_unread]
  rfl

/-- Head 1, the state after the second half. -/
theorem r_142_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_142 c arg2 harg2 arg3 harg3 arg5 harg5 arg6 harg6 arg7 harg7 arg8 harg8 arg16 x0 x1 x3 x4 x5 x6 = statesV x1 x3 x4 x5 x6 1 1 (statesV x1 x3 x4 x5 x6 0 1 (inV x0 1) 4) 4 := by
  simp only [kernelRun0_A.sl.r_142, kernelRun0_A.sl.r_95, kernelRun0_A.sl.r_89, kernelRun0_A.sl.r_96, kernelRun0_A.sl.r_90, kernelRun0_A.sl.r_97, kernelRun0_A.sl.r_91, kernelRun0_A.sl.r_98, kernelRun0_A.sl.r_133, r_42_eq, r_82_eq, r_88_eq, r_94_eq, View.readAt_eq_ld, Memref.IsWhole.read_unread]
  rfl

/-- Head 2, the state after the second half. -/
theorem r_159_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_159 c arg2 harg2 arg3 harg3 arg5 harg5 arg6 harg6 arg7 harg7 arg8 harg8 arg16 x0 x1 x3 x4 x5 x6 = statesV x1 x3 x4 x5 x6 1 2 (statesV x1 x3 x4 x5 x6 0 2 (inV x0 2) 4) 4 := by
  simp only [kernelRun0_A.sl.r_159, kernelRun0_A.sl.r_157, kernelRun0_A.sl.r_95, kernelRun0_A.sl.r_89, kernelRun0_A.sl.r_96, kernelRun0_A.sl.r_90, kernelRun0_A.sl.r_97, kernelRun0_A.sl.r_91, kernelRun0_A.sl.r_98, kernelRun0_A.sl.r_149, kernelRun0_A.sl.r_158, r_50_eq, r_82_eq, r_88_eq, r_94_eq, View.readAt_eq_ld, Memref.IsWhole.read_unread]
  rfl

/-- Head 3, the state after the second half. -/
theorem r_174_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) :
    kernelRun0_A.sl.r_174 c arg2 harg2 arg3 harg3 arg5 harg5 arg6 harg6 arg7 harg7 arg8 harg8 arg16 x0 x1 x3 x4 x5 x6 = statesV x1 x3 x4 x5 x6 1 3 (statesV x1 x3 x4 x5 x6 0 3 (inV x0 3) 4) 4 := by
  simp only [kernelRun0_A.sl.r_174, kernelRun0_A.sl.r_172, kernelRun0_A.sl.r_95, kernelRun0_A.sl.r_89, kernelRun0_A.sl.r_96, kernelRun0_A.sl.r_90, kernelRun0_A.sl.r_97, kernelRun0_A.sl.r_91, kernelRun0_A.sl.r_98, kernelRun0_A.sl.r_163, kernelRun0_A.sl.r_173, r_64_eq, r_82_eq, r_88_eq, r_94_eq, View.readAt_eq_ld, Memref.IsWhole.read_unread]
  rfl

/-- The first half's four pieces of the attention's output. -/
theorem HS0_4_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) :
    kernelRun0_A.sl.HS0_4 c arg2 harg2 arg3 harg3 arg5 harg5 arg6 harg6 arg7 harg7 arg8 harg8 arg16 x0 x1 x3 x4 x5 x6 = [⟨Rect.unit ![0, 0, 768] S1x256x256.size inb_S1x512x1024_S1x256x256_0_0_768, pieceV x1 x3 x4 x5 x6 0 3 (inV x0 3)⟩, ⟨Rect.unit ![0, 0, 512] S1x256x256.size inb_S1x512x1024_S1x256x256_0_0_512, pieceV x1 x3 x4 x5 x6 0 2 (inV x0 2)⟩, ⟨Rect.unit ![0, 0, 256] S1x256x256.size inb_S1x512x1024_S1x256x256_0_0_256, pieceV x1 x3 x4 x5 x6 0 1 (inV x0 1)⟩, ⟨Rect.unit ![0, 0, 0] S1x256x256.size inb_S1x512x1024_S1x256x256_0_0_0, pieceV x1 x3 x4 x5 x6 0 0 (inV x0 0)⟩] := by
  simp only [kernelRun0_A.sl.HS0_4, kernelRun0_A.sl.r_53, kernelRun0_A.sl.r_55, kernelRun0_A.sl.r_60, kernelRun0_A.sl.r_61, kernelRun0_A.sl.r_54, kernelRun0_A.sl.r_56, kernelRun0_A.sl.r_57, kernelRun0_A.sl.r_58, kernelRun0_A.sl.r_59, kernelRun0_A.sl.r_62, kernelRun0_A.sl.r_63, kernelRun0_A.sl.r_65, kernelRun0_A.sl.r_51, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_52, kernelRun0_A.sl.r_29, kernelRun0_A.sl.r_31, kernelRun0_A.sl.r_36, kernelRun0_A.sl.r_37, kernelRun0_A.sl.r_30, kernelRun0_A.sl.r_32, kernelRun0_A.sl.r_33, kernelRun0_A.sl.r_34, kernelRun0_A.sl.r_38, kernelRun0_A.sl.r_40, kernelRun0_A.sl.r_16, kernelRun0_A.sl.r_17, kernelRun0_A.sl.r_20, kernelRun0_A.sl.r_22, kernelRun0_A.sl.r_18, kernelRun0_A.sl.r_19, kernelRun0_A.sl.r_21, kernelRun0_A.sl.r_23, kernelRun0_A.sl.r_24, kernelRun0_A.sl.r_26, kernelRun0_A.sl.r_27, kernelRun0_A.sl.r_28, r_10_eq, r_11_eq, r_12_eq, r_14_eq, r_15_eq, r_6_eq, r_7_eq, r_8_eq, r_9_eq, v154_eq, v262_eq, v370_eq, v478_eq, View.readAt_eq_ld, Memref.IsWhole.read_unread]
  rfl

/-- Both halves' pieces of the attention's output. -/
theorem HS0_8_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) :
    kernelRun0_A.sl.HS0_8 c arg2 harg2 arg3 harg3 arg5 harg5 arg6 harg6 arg7 harg7 arg8 harg8 arg16 x0 x1 x3 x4 x5 x6 = [⟨Rect.unit ![0, 256, 768] S1x256x256.size inb_S1x512x1024_S1x256x256_0_256_768, pieceV x1 x3 x4 x5 x6 1 3 (statesV x1 x3 x4 x5 x6 0 3 (inV x0 3) 4)⟩, ⟨Rect.unit ![0, 256, 512] S1x256x256.size inb_S1x512x1024_S1x256x256_0_256_512, pieceV x1 x3 x4 x5 x6 1 2 (statesV x1 x3 x4 x5 x6 0 2 (inV x0 2) 4)⟩, ⟨Rect.unit ![0, 256, 256] S1x256x256.size inb_S1x512x1024_S1x256x256_0_256_256, pieceV x1 x3 x4 x5 x6 1 1 (statesV x1 x3 x4 x5 x6 0 1 (inV x0 1) 4)⟩, ⟨Rect.unit ![0, 256, 0] S1x256x256.size inb_S1x512x1024_S1x256x256_0_256_0, pieceV x1 x3 x4 x5 x6 1 0 (statesV x1 x3 x4 x5 x6 0 0 (inV x0 0) 4)⟩, ⟨Rect.unit ![0, 0, 768] S1x256x256.size inb_S1x512x1024_S1x256x256_0_0_768, pieceV x1 x3 x4 x5 x6 0 3 (inV x0 3)⟩, ⟨Rect.unit ![0, 0, 512] S1x256x256.size inb_S1x512x1024_S1x256x256_0_0_512, pieceV x1 x3 x4 x5 x6 0 2 (inV x0 2)⟩, ⟨Rect.unit ![0, 0, 256] S1x256x256.size inb_S1x512x1024_S1x256x256_0_0_256, pieceV x1 x3 x4 x5 x6 0 1 (inV x0 1)⟩, ⟨Rect.unit ![0, 0, 0] S1x256x256.size inb_S1x512x1024_S1x256x256_0_0_0, pieceV x1 x3 x4 x5 x6 0 0 (inV x0 0)⟩] := by
  simp only [kernelRun0_A.sl.HS0_8, kernelRun0_A.sl.r_161, kernelRun0_A.sl.r_162, kernelRun0_A.sl.r_168, kernelRun0_A.sl.r_169, kernelRun0_A.sl.r_95, kernelRun0_A.sl.r_89, kernelRun0_A.sl.r_163, kernelRun0_A.sl.r_170, kernelRun0_A.sl.r_96, kernelRun0_A.sl.r_90, kernelRun0_A.sl.r_171, kernelRun0_A.sl.r_97, kernelRun0_A.sl.r_91, kernelRun0_A.sl.r_147, kernelRun0_A.sl.r_148, kernelRun0_A.sl.r_153, kernelRun0_A.sl.r_154, kernelRun0_A.sl.r_149, kernelRun0_A.sl.r_155, kernelRun0_A.sl.r_156, kernelRun0_A.sl.r_131, kernelRun0_A.sl.r_132, kernelRun0_A.sl.r_138, kernelRun0_A.sl.r_139, kernelRun0_A.sl.r_133, kernelRun0_A.sl.r_140, kernelRun0_A.sl.r_141, kernelRun0_A.sl.r_143, kernelRun0_A.sl.r_109, kernelRun0_A.sl.r_112, kernelRun0_A.sl.r_110, kernelRun0_A.sl.r_111, kernelRun0_A.sl.r_117, kernelRun0_A.sl.r_119, kernelRun0_A.sl.r_113, kernelRun0_A.sl.r_118, kernelRun0_A.sl.r_120, kernelRun0_A.sl.r_121, kernelRun0_A.sl.r_123, kernelRun0_A.sl.r_124, kernelRun0_A.sl.r_125, HS0_4_eq, r_107_eq, r_108_eq, r_25_eq, r_42_eq, r_50_eq, r_64_eq, r_82_eq, r_88_eq, r_92_eq, r_93_eq, r_94_eq, View.readAt_eq_ld, Memref.IsWhole.read_unread]
  rfl

-- the attention output as it is read back stays a word here
/-- The first half after the attention. -/
theorem r_68_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg16 : Memref sig .tc .vmem S1x1x4x128x256 .f32) (arg17 : Memref sig .tc .vmem S1x512x1024 .bf16) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) (x7 : Vec F S1x1024x1024 .bf16) :
    kernelRun0_A.sl.r_68 c arg2 harg2 arg3 harg3 arg5 harg5 arg6 harg6 arg7 harg7 arg8 harg8 arg9 harg9 arg16 arg17 x0 x1 x3 x4 x5 x6 x7 = (h2V x1 x7 (kernelRun0_A.sl.v561 c arg2 harg2 arg3 harg3 arg5 harg5 arg6 harg6 arg7 harg7 arg8 harg8 arg16 arg17 x0 x1 x3 x4 x5 x6) 0) := by
  simp only [kernelRun0_A.sl.r_68, kernelRun0_A.sl.r_66, kernelRun0_A.sl.r_67, View.readAt_eq_ld, Memref.IsWhole.read_unread]
  rfl

/-- … normalised. -/
theorem r_74_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg16 : Memref sig .tc .vmem S1x1x4x128x256 .f32) (arg17 : Memref sig .tc .vmem S1x512x1024 .bf16) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) (x7 : Vec F S1x1024x1024 .bf16) :
    kernelRun0_A.sl.r_74 c arg2 harg2 arg3 harg3 arg5 harg5 arg6 harg6 arg7 harg7 arg8 harg8 arg9 harg9 arg16 arg17 x0 x1 x3 x4 x5 x6 x7 = truncf .bf16 (rmsV (h2V x1 x7 (kernelRun0_A.sl.v561 c arg2 harg2 arg3 harg3 arg5 harg5 arg6 harg6 arg7 harg7 arg8 harg8 arg16 arg17 x0 x1 x3 x4 x5 x6) 0) (nfV x3)) bitsLt_bf16_f32 := by
  simp only [kernelRun0_A.sl.r_74, kernelRun0_A.sl.r_72, kernelRun0_A.sl.r_73, kernelRun0_A.sl.r_66, kernelRun0_A.sl.r_67, r_68_eq, View.readAt_eq_ld, Memref.IsWhole.read_unread]
  rfl

/-- The first half after the feed-forward layer. -/
theorem r_164_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg16 : Memref sig .tc .vmem S1x1x4x128x256 .f32) (arg17 : Memref sig .tc .vmem S1x512x1024 .bf16) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) :
    kernelRun0_A.sl.r_164 c arg2 harg2 arg3 harg3 arg5 harg5 arg6 harg6 arg7 harg7 arg8 harg8 arg9 harg9 arg10 harg10 arg11 harg11 arg12 harg12 arg16 arg17 x0 x1 x3 x4 x5 x6 x7 x8 x9 x10 = h3V x3 x8 x9 x10 (h2V x1 x7 (kernelRun0_A.sl.v561 c arg2 harg2 arg3 harg3 arg5 harg5 arg6 harg6 arg7 harg7 arg8 harg8 arg16 arg17 x0 x1 x3 x4 x5 x6) 0) := by
  simp only [kernelRun0_A.sl.r_164, kernelRun0_A.sl.r_152, kernelRun0_A.sl.r_144, kernelRun0_A.sl.r_145, kernelRun0_A.sl.r_146, kernelRun0_A.sl.r_134, kernelRun0_A.sl.r_135, kernelRun0_A.sl.r_137, kernelRun0_A.sl.r_130, kernelRun0_A.sl.r_116, kernelRun0_A.sl.r_104, kernelRun0_A.sl.r_105, kernelRun0_A.sl.r_106, kernelRun0_A.sl.r_87, kernelRun0_A.sl.r_79, kernelRun0_A.sl.r_80, kernelRun0_A.sl.r_81, kernelRun0_A.sl.r_78, kernelRun0_A.sl.r_72, kernelRun0_A.sl.r_73, kernelRun0_A.sl.r_66, kernelRun0_A.sl.r_67, kernelRun0_A.sl.r_84, kernelRun0_A.sl.r_100, kernelRun0_A.sl.r_101, kernelRun0_A.sl.r_102, kernelRun0_A.sl.r_85, kernelRun0_A.sl.r_86, kernelRun0_A.sl.r_103, kernelRun0_A.sl.cst_305, kernelRun0_A.sl.r_128, kernelRun0_A.sl.r_114, kernelRun0_A.sl.r_115, kernelRun0_A.sl.r_129, kernelRun0_A.sl.r_136, kernelRun0_A.sl.r_126, kernelRun0_A.sl.r_127, kernelRun0_A.sl.r_160, kernelRun0_A.sl.r_150, kernelRun0_A.sl.r_151, r_68_eq, r_74_eq, View.readAt_eq_ld, Memref.IsWhole.read_unread]
  rfl

/-- The first half's embedding gate. -/
theorem r_167_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg13 : Memref sig .tc .vmem S1x1024x1024 .bf16) (harg13 : arg13.IsWhole) (arg16 : Memref sig .tc .vmem S1x1x4x128x256 .f32) (arg17 : Memref sig .tc .vmem S1x512x1024 .bf16) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (x11 : Vec F S1x1024x1024 .bf16) :
    kernelRun0_A.sl.r_167 c arg2 harg2 arg3 harg3 arg5 harg5 arg6 harg6 arg7 harg7 arg8 harg8 arg9 harg9 arg10 harg10 arg11 harg11 arg12 harg12 arg13 harg13 arg16 arg17 x0 x1 x3 x4 x5 x6 x7 x8 x9 x10 x11 = pleV x3 x11 (h3V x3 x8 x9 x10 (h2V x1 x7 (kernelRun0_A.sl.v561 c arg2 harg2 arg3 harg3 arg5 harg5 arg6 harg6 arg7 harg7 arg8 harg8 arg16 arg17 x0 x1 x3 x4 x5 x6) 0)) := by
  simp only [kernelRun0_A.sl.r_167, kernelRun0_A.sl.r_165, kernelRun0_A.sl.r_166, kernelRun0_A.sl.r_152, kernelRun0_A.sl.r_144, kernelRun0_A.sl.r_145, kernelRun0_A.sl.r_146, kernelRun0_A.sl.r_134, kernelRun0_A.sl.r_135, kernelRun0_A.sl.r_137, kernelRun0_A.sl.r_130, kernelRun0_A.sl.r_116, kernelRun0_A.sl.r_104, kernelRun0_A.sl.r_105, kernelRun0_A.sl.r_106, kernelRun0_A.sl.r_87, kernelRun0_A.sl.r_79, kernelRun0_A.sl.r_80, kernelRun0_A.sl.r_81, kernelRun0_A.sl.r_78, kernelRun0_A.sl.r_72, kernelRun0_A.sl.r_73, kernelRun0_A.sl.r_66, kernelRun0_A.sl.r_67, kernelRun0_A.sl.r_84, kernelRun0_A.sl.r_100, kernelRun0_A.sl.r_101, kernelRun0_A.sl.r_102, kernelRun0_A.sl.r_85, kernelRun0_A.sl.r_86, kernelRun0_A.sl.r_103, kernelRun0_A.sl.cst_305, kernelRun0_A.sl.r_128, kernelRun0_A.sl.r_114, kernelRun0_A.sl.r_115, kernelRun0_A.sl.r_129, kernelRun0_A.sl.r_136, kernelRun0_A.sl.r_126, kernelRun0_A.sl.r_127, kernelRun0_A.sl.r_160, kernelRun0_A.sl.r_150, kernelRun0_A.sl.r_151, r_164_eq, r_68_eq, r_74_eq, View.readAt_eq_ld, Memref.IsWhole.read_unread]
  rfl

/-- The second half after the attention. -/
theorem r_175_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg16 : Memref sig .tc .vmem S1x1x4x128x256 .f32) (arg17 : Memref sig .tc .vmem S1x512x1024 .bf16) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) (x7 : Vec F S1x1024x1024 .bf16) :
    kernelRun0_A.sl.r_175 c arg2 harg2 arg3 harg3 arg5 harg5 arg6 harg6 arg7 harg7 arg8 harg8 arg9 harg9 arg16 arg17 x0 x1 x3 x4 x5 x6 x7 = (h2V x1 x7 (kernelRun0_A.sl.v1330 c arg2 harg2 arg3 harg3 arg5 harg5 arg6 harg6 arg7 harg7 arg8 harg8 arg16 arg17 x0 x1 x3 x4 x5 x6) 1) := by
  simp only [kernelRun0_A.sl.r_175, View.readAt_eq_ld, Memref.IsWhole.read_unread]
  rfl

/-- … normalised. -/
theorem r_176_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg16 : Memref sig .tc .vmem S1x1x4x128x256 .f32) (arg17 : Memref sig .tc .vmem S1x512x1024 .bf16) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) (x7 : Vec F S1x1024x1024 .bf16) :
    kernelRun0_A.sl.r_176 c arg2 harg2 arg3 harg3 arg5 harg5 arg6 harg6 arg7 harg7 arg8 harg8 arg9 harg9 arg16 arg17 x0 x1 x3 x4 x5 x6 x7 = truncf .bf16 (rmsV (h2V x1 x7 (kernelRun0_A.sl.v1330 c arg2 harg2 arg3 harg3 arg5 harg5 arg6 harg6 arg7 harg7 arg8 harg8 arg16 arg17 x0 x1 x3 x4 x5 x6) 1) (nfV x3)) bitsLt_bf16_f32 := by
  simp only [kernelRun0_A.sl.r_176, r_175_eq, View.readAt_eq_ld, Memref.IsWhole.read_unread]
  rfl

/-- The second half before the final norm. -/
theorem r_195_eq (c : Dev nD) (arg2 : Memref sig .tc .vmem S1x1x4x128x256 .f32) (harg2 : arg2.IsWhole) (arg3 : Memref sig .tc .vmem S1x512x1024 .f32) (harg3 : arg3.IsWhole) (arg4 : Memref sig .tc .vmem S1x1x512x256 .f32) (harg4 : arg4.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg13 : Memref sig .tc .vmem S1x1024x1024 .bf16) (harg13 : arg13.IsWhole) (arg14 : Memref sig .tc .vmem S1x256x1024 .bf16) (harg14 : arg14.IsWhole) (arg16 : Memref sig .tc .vmem S1x1x4x128x256 .f32) (arg17 : Memref sig .tc .vmem S1x512x1024 .bf16) (x0 : Vec F S1x1x4x128x256 .f32) (x1 : Vec F S1x512x1024 .f32) (x2 : Vec F S1x1x512x256 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (x11 : Vec F S1x1024x1024 .bf16) (x12 : Vec F S1x256x1024 .bf16) :
    kernelRun0_A.sl.r_195 c arg2 harg2 arg3 harg3 arg4 harg4 arg5 harg5 arg6 harg6 arg7 harg7 arg8 harg8 arg9 harg9 arg10 harg10 arg11 harg11 arg12 harg12 arg13 harg13 arg14 harg14 arg16 arg17 x0 x1 x2 x3 x4 x5 x6 x7 x8 x9 x10 x11 x12 = h4V x2 x3 x11 x12 (h3V x3 x8 x9 x10 (h2V x1 x7 (kernelRun0_A.sl.v1330 c arg2 harg2 arg3 harg3 arg5 harg5 arg6 harg6 arg7 harg7 arg8 harg8 arg16 arg17 x0 x1 x3 x4 x5 x6) 1)) 1 := by
  simp only [kernelRun0_A.sl.r_195, kernelRun0_A.sl.r_192, kernelRun0_A.sl.r_189, kernelRun0_A.sl.r_190, kernelRun0_A.sl.r_191, kernelRun0_A.sl.r_185, kernelRun0_A.sl.r_180, kernelRun0_A.sl.r_181, kernelRun0_A.sl.r_182, kernelRun0_A.sl.r_177, kernelRun0_A.sl.r_178, kernelRun0_A.sl.r_179, kernelRun0_A.sl.r_183, kernelRun0_A.sl.r_184, kernelRun0_A.sl.r_186, kernelRun0_A.sl.r_187, kernelRun0_A.sl.r_188, kernelRun0_A.sl.r_193, kernelRun0_A.sl.r_194, r_175_eq, r_176_eq, View.readAt_eq_ld, Memref.IsWhole.read_unread]
  rfl

end Cert.KernelIdeal.Gla.CaseA
-- ==== Proof.OutA.lean ====
/-
  Case A of the run (a batch's first tile): its two result blocks are the named arrays of the input blocks.
-/
module

public import proofs.«01_k».proof.Proof.WordsA
public import proofs.«01_k».proof.Proof.Blocks
public import Idealize.ShloMosaic.Lib.Pipeline.ValueKit
public import Idealize.ShloMosaic.Lib.Pipeline.ReadBack

@[expose] public section

set_option maxRecDepth 16384
set_option maxHeartbeats 2000000

noncomputable section

namespace Cert.KernelIdeal.Gla.CaseA

open Cert.KernelIdeal Cert.KernelIdeal.Gen Cert.KernelIdeal.Gla Idealize.ShloMosaic Idealize.ShloMosaic.TcCoe Idealize.SL.Sem

variable {F : FTy → Type} [FloatOps F]

/-- The first half's attention output, read back. -/
theorem v561_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (arg17 : Memref sig .tc .vmem S1x512x1024 .bf16) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) :
    kernelRun0_A.sl.v561 c arg2 harg2 arg3 harg3 arg5 harg5 arg6 harg6 arg7 harg7 arg8 harg8 arg16 arg17 x0 x1 x3 x4 x5 x6 = obV (obFull x1 x3 x4 x5 x6 x0) 0 := by
  refine funext fun a => ?_
  simp only [kernelRun0_A.sl.v561, HS0_4_eq]
  exact congrFun (ob_first arg17.view x1 x3 x4 x5 x6 x0) a

/-- The second half's attention output, read back. -/
theorem v1330_eq (c : Dev nD) (arg2 : Memref sig .tc .vmem S1x1x4x128x256 .f32) (harg2 : arg2.IsWhole) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (arg17 : Memref sig .tc .vmem S1x512x1024 .bf16) (x0 : Vec F S1x1x4x128x256 .f32) (x1 : Vec F S1x512x1024 .f32) (x3 : Vec F S1x8x1024 .f32) (x4 : Vec F S1x1024x3088 .bf16) (x5 : Vec F S1x1024x128 .bf16) (x6 : Vec F S1x128x512 .bf16) :
    kernelRun0_A.sl.v1330 c arg2 harg2 arg3 harg3 arg5 harg5 arg6 harg6 arg7 harg7 arg8 harg8 arg16 arg17 x0 x1 x3 x4 x5 x6 = obV (obFull x1 x3 x4 x5 x6 x0) 1 := by
  refine funext fun a => ?_
  simp only [kernelRun0_A.sl.v1330, HS0_8_eq]
  exact congrFun (ob_second arg17.view x1 x3 x4 x5 x6 x0 _) a

/-- The two stores of the result rows. -/
theorem pieces13 (c : Dev nD) (i : grid0.Coords) (arg2 : Memref sig .tc .vmem S1x1x4x128x256 .f32) (harg2 : arg2.IsWhole) (arg3 : Memref sig .tc .vmem S1x512x1024 .f32) (harg3 : arg3.IsWhole) (arg4 : Memref sig .tc .vmem S1x1x512x256 .f32) (harg4 : arg4.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg13 : Memref sig .tc .vmem S1x1024x1024 .bf16) (harg13 : arg13.IsWhole) (arg14 : Memref sig .tc .vmem S1x256x1024 .bf16) (harg14 : arg14.IsWhole) (arg15 : Memref sig .tc .vmem S1x512x1024 .f32) (harg15 : arg15.IsWhole) (arg16 : Memref sig .tc .vmem S1x1x4x128x256 .f32) (harg16 : arg16.IsWhole) (arg17 : Memref sig .tc .vmem S1x512x1024 .bf16) (harg17 : arg17.IsWhole) (hc0 : cond0_0 i) (x0 : Vec F S1x1x4x128x256 .f32) (x1 : Vec F S1x512x1024 .f32) (x2 : Vec F S1x1x512x256 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (x11 : Vec F S1x1024x1024 .bf16) (x12 : Vec F S1x256x1024 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12).1 = [⟨Rect.unit ![0, 256, 0] S1x256x1024.size inb_S1x512x1024_S1x256x1024_0_256_0, yV x1 x2 x3 x7 x8 x9 x10 x11 x12 (obV (obFull x1 x3 x4 x5 x6 x0) 1) 1⟩, ⟨Rect.unit ![0, 0, 0] S1x256x1024.size inb_S1x512x1024_S1x256x1024_0_0_0, yV x1 x2 x3 x7 x8 x9 x10 x11 x12 (obV (obFull x1 x3 x4 x5 x6 x0) 0) 0⟩] := by
  show [(⟨Rect.unit ![0, 256, 0] S1x256x1024.size inb_S1x512x1024_S1x256x1024_0_256_0, k0_pay258 (kernelRun0_A.sl.r_195 c arg2 harg2 arg3 harg3 arg4 harg4 arg5 harg5 arg6 harg6 arg7 harg7 arg8 harg8 arg9 harg9 arg10 harg10 arg11 harg11 arg12 harg12 arg13 harg13 arg14 harg14 arg16 arg17 x0 x1 x2 x3 x4 x5 x6 x7 x8 x9 x10 x11 x12) (kernelRun0_A.sl.r_196 c arg5 harg5 x3) (kernelRun0_A.sl.r_197 c arg2 harg2 arg3 harg3 arg4 harg4 arg5 harg5 arg6 harg6 arg7 harg7 arg8 harg8 arg9 harg9 arg10 harg10 arg11 harg11 arg12 harg12 arg13 harg13 arg14 harg14 arg16 arg17 x0 x1 x2 x3 x4 x5 x6 x7 x8 x9 x10 x11 x12) kernelRun0_A.sl.cst_707⟩ : View.Piece (Elt F) S1x512x1024 .f32),
    ⟨Rect.unit ![0, 0, 0] S1x256x1024.size inb_S1x512x1024_S1x256x1024_0_0_0, k0_pay235 (kernelRun0_A.sl.r_164 c arg2 harg2 arg3 harg3 arg5 harg5 arg6 harg6 arg7 harg7 arg8 harg8 arg9 harg9 arg10 harg10 arg11 harg11 arg12 harg12 arg16 arg17 x0 x1 x3 x4 x5 x6 x7 x8 x9 x10) (kernelRun0_A.sl.r_167 c arg2 harg2 arg3 harg3 arg5 harg5 arg6 harg6 arg7 harg7 arg8 harg8 arg9 harg9 arg10 harg10 arg11 harg11 arg12 harg12 arg13 harg13 arg16 arg17 x0 x1 x3 x4 x5 x6 x7 x8 x9 x10 x11) (View.readAt (Elt F) arg4.view (Rect.unit ![0, 0, 0, 0] S1x1x256x256.size inb_S1x1x512x256_S1x1x256x256_0_0_0_0 : Rect S1x1x512x256).toLoadRect (harg4.unread x2)) (View.readAt (Elt F) arg14.view (Rect.unit ![0, 0, 0] S1x256x1024.size inb_S1x256x1024_S1x256x1024_0_0_0 : Rect S1x256x1024).toLoadRect (harg14.unread x12)) (View.readAt (Elt F) arg5.view (Rect.unit ![0, 5, 0] S1x1x1024.size inb_S1x8x1024_S1x1x1024_0_5_0 : Rect S1x8x1024).toLoadRect (harg5.unread x3))⟩] = _
  simp only [r_195_eq, r_164_eq, r_167_eq, kernelRun0_A.sl.r_196, kernelRun0_A.sl.r_197, kernelRun0_A.sl.cst_707, r_175_eq, kernelRun0_A.sl.r_192, kernelRun0_A.sl.r_193, kernelRun0_A.sl.r_194, kernelRun0_A.sl.r_189, kernelRun0_A.sl.r_190, kernelRun0_A.sl.r_191, kernelRun0_A.sl.r_185, kernelRun0_A.sl.r_186, kernelRun0_A.sl.r_187, kernelRun0_A.sl.r_188, kernelRun0_A.sl.r_180, kernelRun0_A.sl.r_181, kernelRun0_A.sl.r_182, kernelRun0_A.sl.r_183, kernelRun0_A.sl.r_184, kernelRun0_A.sl.r_177, kernelRun0_A.sl.r_178, kernelRun0_A.sl.r_179, r_176_eq, v1330_eq, v561_eq, View.readAt_eq_ld, Memref.IsWhole.read_unread]
  rfl

/-- The four stores of the state block, over the copy of the starting state. -/
theorem pieces14 (c : Dev nD) (i : grid0.Coords) (arg2 : Memref sig .tc .vmem S1x1x4x128x256 .f32) (harg2 : arg2.IsWhole) (arg3 : Memref sig .tc .vmem S1x512x1024 .f32) (harg3 : arg3.IsWhole) (arg4 : Memref sig .tc .vmem S1x1x512x256 .f32) (harg4 : arg4.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg13 : Memref sig .tc .vmem S1x1024x1024 .bf16) (harg13 : arg13.IsWhole) (arg14 : Memref sig .tc .vmem S1x256x1024 .bf16) (harg14 : arg14.IsWhole) (arg15 : Memref sig .tc .vmem S1x512x1024 .f32) (harg15 : arg15.IsWhole) (arg16 : Memref sig .tc .vmem S1x1x4x128x256 .f32) (harg16 : arg16.IsWhole) (arg17 : Memref sig .tc .vmem S1x512x1024 .bf16) (harg17 : arg17.IsWhole) (hc0 : cond0_0 i) (x0 : Vec F S1x1x4x128x256 .f32) (x1 : Vec F S1x512x1024 .f32) (x2 : Vec F S1x1x512x256 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (x11 : Vec F S1x1024x1024 .bf16) (x12 : Vec F S1x256x1024 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12).2.1 = ⟨Rect.unit ![0, 0, 3, 0, 0] S1x1x1x128x256.size inb_S1x1x4x128x256_S1x1x1x128x256_0_0_3_0_0, shapeCast S1x1x1x128x256 (statesV x1 x3 x4 x5 x6 1 3 (startV x1 x3 x4 x5 x6 x0 3 1) 4) shapeCasts_S128x256_S1x1x1x128x256⟩ :: ⟨Rect.unit ![0, 0, 2, 0, 0] S1x1x1x128x256.size inb_S1x1x4x128x256_S1x1x1x128x256_0_0_2_0_0, shapeCast S1x1x1x128x256 (statesV x1 x3 x4 x5 x6 1 2 (startV x1 x3 x4 x5 x6 x0 2 1) 4) shapeCasts_S128x256_S1x1x1x128x256⟩ :: ⟨Rect.unit ![0, 0, 1, 0, 0] S1x1x1x128x256.size inb_S1x1x4x128x256_S1x1x1x128x256_0_0_1_0_0, shapeCast S1x1x1x128x256 (statesV x1 x3 x4 x5 x6 1 1 (startV x1 x3 x4 x5 x6 x0 1 1) 4) shapeCasts_S128x256_S1x1x1x128x256⟩ :: ⟨Rect.unit ![0, 0, 0, 0, 0] S1x1x1x128x256.size inb_S1x1x4x128x256_S1x1x1x128x256_0_0_0_0_0, shapeCast S1x1x1x128x256 (statesV x1 x3 x4 x5 x6 1 0 (startV x1 x3 x4 x5 x6 x0 0 1) 4) shapeCasts_S128x256_S1x1x1x128x256⟩ :: (kernelRun0_A.sl.H14_1 c arg2 harg2 x0) := by
  show (⟨Rect.unit ![0, 0, 3, 0, 0] S1x1x1x128x256.size inb_S1x1x4x128x256_S1x1x1x128x256_0_0_3_0_0, k0_pay4 (kernelRun0_A.sl.r_174 c arg2 harg2 arg3 harg3 arg5 harg5 arg6 harg6 arg7 harg7 arg8 harg8 arg16 x0 x1 x3 x4 x5 x6)⟩ : View.Piece (Elt F) S1x1x4x128x256 .f32) :: ⟨Rect.unit ![0, 0, 2, 0, 0] S1x1x1x128x256.size inb_S1x1x4x128x256_S1x1x1x128x256_0_0_2_0_0, k0_pay3 (kernelRun0_A.sl.r_159 c arg2 harg2 arg3 harg3 arg5 harg5 arg6 harg6 arg7 harg7 arg8 harg8 arg16 x0 x1 x3 x4 x5 x6)⟩ :: ⟨Rect.unit ![0, 0, 1, 0, 0] S1x1x1x128x256.size inb_S1x1x4x128x256_S1x1x1x128x256_0_0_1_0_0, k0_pay2 (kernelRun0_A.sl.r_142 c arg2 harg2 arg3 harg3 arg5 harg5 arg6 harg6 arg7 harg7 arg8 harg8 arg16 x0 x1 x3 x4 x5 x6)⟩ :: ⟨Rect.unit ![0, 0, 0, 0, 0] S1x1x1x128x256.size inb_S1x1x4x128x256_S1x1x1x128x256_0_0_0_0_0, k0_pay1 (kernelRun0_A.sl.r_122 c arg2 harg2 arg3 harg3 arg5 harg5 arg6 harg6 arg7 harg7 arg8 harg8 arg16 x0 x1 x3 x4 x5 x6)⟩ :: (kernelRun0_A.sl.H14_1 c arg2 harg2 x0) = _
  simp only [r_122_eq, r_142_eq, r_159_eq, r_174_eq]
  rfl

/-- The tile's result rows. -/
theorem out13_eq (c : Dev nD) (i : grid0.Coords) (arg2 : Memref sig .tc .vmem S1x1x4x128x256 .f32) (harg2 : arg2.IsWhole) (arg3 : Memref sig .tc .vmem S1x512x1024 .f32) (harg3 : arg3.IsWhole) (arg4 : Memref sig .tc .vmem S1x1x512x256 .f32) (harg4 : arg4.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg13 : Memref sig .tc .vmem S1x1024x1024 .bf16) (harg13 : arg13.IsWhole) (arg14 : Memref sig .tc .vmem S1x256x1024 .bf16) (harg14 : arg14.IsWhole) (arg15 : Memref sig .tc .vmem S1x512x1024 .f32) (harg15 : arg15.IsWhole) (arg16 : Memref sig .tc .vmem S1x1x4x128x256 .f32) (harg16 : arg16.IsWhole) (arg17 : Memref sig .tc .vmem S1x512x1024 .bf16) (harg17 : arg17.IsWhole) (hc0 : cond0_0 i) (x0 : Vec F S1x1x4x128x256 .f32) (x1 : Vec F S1x512x1024 .f32) (x2 : Vec F S1x1x512x256 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (x11 : Vec F S1x1024x1024 .bf16) (x12 : Vec F S1x256x1024 .bf16) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = yFull x1 x2 x3 x4 x5 x6 x7 x8 x9 x10 x11 x12 x0 := by
  unfold out0_A_13
  rw [pieces13, View.read_writes_junk_eq_canon]
  exact rows_canon _ _ _ _ _ _ _ _ _ _ _ _ _

/-- The tile's final states. -/
theorem out14_eq (c : Dev nD) (i : grid0.Coords) (arg2 : Memref sig .tc .vmem S1x1x4x128x256 .f32) (harg2 : arg2.IsWhole) (arg3 : Memref sig .tc .vmem S1x512x1024 .f32) (harg3 : arg3.IsWhole) (arg4 : Memref sig .tc .vmem S1x1x512x256 .f32) (harg4 : arg4.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg13 : Memref sig .tc .vmem S1x1024x1024 .bf16) (harg13 : arg13.IsWhole) (arg14 : Memref sig .tc .vmem S1x256x1024 .bf16) (harg14 : arg14.IsWhole) (arg15 : Memref sig .tc .vmem S1x512x1024 .f32) (harg15 : arg15.IsWhole) (arg16 : Memref sig .tc .vmem S1x1x4x128x256 .f32) (harg16 : arg16.IsWhole) (arg17 : Memref sig .tc .vmem S1x512x1024 .bf16) (harg17 : arg17.IsWhole) (hc0 : cond0_0 i) (x0 : Vec F S1x1x4x128x256 .f32) (x1 : Vec F S1x512x1024 .f32) (x2 : Vec F S1x1x512x256 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (x11 : Vec F S1x1024x1024 .bf16) (x12 : Vec F S1x256x1024 .bf16) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = sFull x1 x3 x4 x5 x6 x0 := by
  unfold out0_A_14
  rw [pieces14, View.read_writes_junk_eq_canon]
  exact states_canon _ _ _ _ _ _ _

end Cert.KernelIdeal.Gla.CaseA
-- ==== Proof.WordsB.lean ====
/-
  Case B of the run (a later tile): each of its words is the named array function of the input blocks.
-/
module

public import proofs.«01_k».proof.Proof.Vec
public import Idealize.ShloMosaic.Lib.Pipeline.ValueKit
public import Idealize.ShloMosaic.Lib.Pipeline.ReadBack

@[expose] public section

set_option maxRecDepth 16384
set_option maxHeartbeats 2000000

noncomputable section

namespace Cert.KernelIdeal.Gla.CaseB

open Cert.KernelIdeal Cert.KernelIdeal.Gen Cert.KernelIdeal.Gla Idealize.ShloMosaic Idealize.ShloMosaic.TcCoe Idealize.SL.Sem

variable {F : FTy → Type} [FloatOps F]

/-- A word of the first half. -/
theorem r_eq (c : Dev nD) (arg3 : Memref sig .tc .vmem S1x512x1024 .f32) (harg3 : arg3.IsWhole) (arg5 : Memref sig .tc .vmem S1x8x1024 .f32) (harg5 : arg5.IsWhole) (x1 : Vec F S1x512x1024 .f32) (x3 : Vec F S1x8x1024 .f32) :
    kernelRun0_B.sl.r c arg3 harg3 arg5 harg5 x1 x3 = xnV x1 x3 0 := by
  simp only [kernelRun0_B.sl.r, View.readAt_eq_ld, Memref.IsWhole.read_unread]
  rfl

/-- A word of the first half. -/
theorem r_4_eq (c : Dev nD) (arg3 : Memref sig .tc .vmem S1x512x1024 .f32) (harg3 : arg3.IsWhole) (arg5 : Memref sig .tc .vmem S1x8x1024 .f32) (harg5 : arg5.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x5 : Vec F S1x1024x128 .bf16) (x6 : Vec F S1x128x512 .bf16) :
    kernelRun0_B.sl.r_4 c arg3 harg3 arg5 harg5 arg7 harg7 arg8 harg8 x1 x3 x5 x6 = cumV x1 x3 x5 x6 0 := by
  simp only [kernelRun0_B.sl.r_4, kernelRun0_B.sl.r_2, View.readAt_eq_ld, Memref.IsWhole.read_unread]
  rfl

/-- A word of the first half. -/
theorem r_6_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (x1 : Vec F S1x512x1024 .f32) (x3 : Vec F S1x8x1024 .f32) (x4 : Vec F S1x1024x3088 .bf16) :
    kernelRun0_B.sl.r_6 c arg3 harg3 arg5 harg5 arg6 harg6 x1 x3 x4 = vV x1 x3 x4 0 := by
  simp only [kernelRun0_B.sl.r_6, kernelRun0_B.sl.r_5, r_eq, View.readAt_eq_ld, Memref.IsWhole.read_unread]
  rfl

/-- A word of the first half. -/
theorem r_7_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x4 : Vec F S1x1024x3088 .bf16) (x5 : Vec F S1x1024x128 .bf16) (x6 : Vec F S1x128x512 .bf16) :
    kernelRun0_B.sl.r_7 c arg3 harg3 arg5 harg5 arg6 harg6 arg7 harg7 arg8 harg8 x1 x3 x4 x5 x6 = qdV x1 x3 x4 x5 x6 0 := by
  simp only [kernelRun0_B.sl.r_7, kernelRun0_B.sl.r_1, r_4_eq, View.readAt_eq_ld, Memref.IsWhole.read_unread]
  rfl

/-- A word of the first half. -/
theorem r_8_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x4 : Vec F S1x1024x3088 .bf16) (x5 : Vec F S1x1024x128 .bf16) (x6 : Vec F S1x128x512 .bf16) :
    kernelRun0_B.sl.r_8 c arg3 harg3 arg5 harg5 arg6 harg6 arg7 harg7 arg8 harg8 x1 x3 x4 x5 x6 = kiV x1 x3 x4 x5 x6 0 := by
  simp only [kernelRun0_B.sl.r_8, kernelRun0_B.sl.r_3, r_4_eq, r_eq, View.readAt_eq_ld, Memref.IsWhole.read_unread]
  rfl

/-- A word of the first half. -/
theorem r_9_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x4 : Vec F S1x1024x3088 .bf16) (x5 : Vec F S1x1024x128 .bf16) (x6 : Vec F S1x128x512 .bf16) :
    kernelRun0_B.sl.r_9 c arg3 harg3 arg5 harg5 arg6 harg6 arg7 harg7 arg8 harg8 x1 x3 x4 x5 x6 = keV x1 x3 x4 x5 x6 0 := by
  simp only [kernelRun0_B.sl.r_9, kernelRun0_B.sl.r_3, r_4_eq, r_eq, View.readAt_eq_ld, Memref.IsWhole.read_unread]
  rfl

/-- A word of the first half. -/
theorem r_10_eq (c : Dev nD) (arg3 : Memref sig .tc .vmem S1x512x1024 .f32) (harg3 : arg3.IsWhole) (arg5 : Memref sig .tc .vmem S1x8x1024 .f32) (harg5 : arg5.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x5 : Vec F S1x1024x128 .bf16) (x6 : Vec F S1x128x512 .bf16) :
    kernelRun0_B.sl.r_10 c arg3 harg3 arg5 harg5 arg7 harg7 arg8 harg8 x1 x3 x5 x6 = endV (cumV x1 x3 x5 x6 0) 0 := by
  simp only [kernelRun0_B.sl.r_10, r_4_eq, View.readAt_eq_ld, Memref.IsWhole.read_unread]
  rfl

/-- A word of the first half. -/
theorem r_11_eq (c : Dev nD) (arg3 : Memref sig .tc .vmem S1x512x1024 .f32) (harg3 : arg3.IsWhole) (arg5 : Memref sig .tc .vmem S1x8x1024 .f32) (harg5 : arg5.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x5 : Vec F S1x1024x128 .bf16) (x6 : Vec F S1x128x512 .bf16) :
    kernelRun0_B.sl.r_11 c arg3 harg3 arg5 harg5 arg7 harg7 arg8 harg8 x1 x3 x5 x6 = endV (cumV x1 x3 x5 x6 0) 1 := by
  simp only [kernelRun0_B.sl.r_11, r_4_eq, View.readAt_eq_ld, Memref.IsWhole.read_unread]
  rfl

/-- A word of the first half. -/
theorem r_12_eq (c : Dev nD) (arg3 : Memref sig .tc .vmem S1x512x1024 .f32) (harg3 : arg3.IsWhole) (arg5 : Memref sig .tc .vmem S1x8x1024 .f32) (harg5 : arg5.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x5 : Vec F S1x1024x128 .bf16) (x6 : Vec F S1x128x512 .bf16) :
    kernelRun0_B.sl.r_12 c arg3 harg3 arg5 harg5 arg7 harg7 arg8 harg8 x1 x3 x5 x6 = endV (cumV x1 x3 x5 x6 0) 2 := by
  simp only [kernelRun0_B.sl.r_12, r_4_eq, View.readAt_eq_ld, Memref.IsWhole.read_unread]
  rfl

/-- A word of the first half. -/
theorem r_13_eq (c : Dev nD) (arg3 : Memref sig .tc .vmem S1x512x1024 .f32) (harg3 : arg3.IsWhole) (arg5 : Memref sig .tc .vmem S1x8x1024 .f32) (harg5 : arg5.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x5 : Vec F S1x1024x128 .bf16) (x6 : Vec F S1x128x512 .bf16) :
    kernelRun0_B.sl.r_13 c arg3 harg3 arg5 harg5 arg7 harg7 arg8 harg8 x1 x3 x5 x6 = endV (cumV x1 x3 x5 x6 0) 3 := by
  simp only [kernelRun0_B.sl.r_13, r_4_eq, View.readAt_eq_ld, Memref.IsWhole.read_unread]
  rfl

/-- A word of the first half. -/
theorem r_14_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (x1 : Vec F S1x512x1024 .f32) (x3 : Vec F S1x8x1024 .f32) (x4 : Vec F S1x1024x3088 .bf16) :
    kernelRun0_B.sl.r_14 c arg3 harg3 arg5 harg5 arg6 harg6 x1 x3 x4 = gateV x1 x3 x4 0 := by
  simp only [kernelRun0_B.sl.r_14, r_eq, View.readAt_eq_ld, Memref.IsWhole.read_unread]
  rfl

/-- A word of the first half. -/
theorem r_15_eq (c : Dev nD) (arg5 : Memref sig .tc .vmem S1x8x1024 .f32) (harg5 : arg5.IsWhole) (x3 : Vec F S1x8x1024 .f32) :
    kernelRun0_B.sl.r_15 c arg5 harg5 x3 = k0_pay27 (gnV x3) := by
  simp only [kernelRun0_B.sl.r_15, View.readAt_eq_ld, Memref.IsWhole.read_unread]
  rfl

/-- Head 0, the state after the first half. -/
theorem r_25_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (harg16 : arg16.IsWhole) (x1 : Vec F S1x512x1024 .f32) (x3 : Vec F S1x8x1024 .f32) (x4 : Vec F S1x1024x3088 .bf16) (x5 : Vec F S1x1024x128 .bf16) (x6 : Vec F S1x128x512 .bf16) (xo14 : Vec F S1x1x4x128x256 .f32) :
    kernelRun0_B.sl.r_25 c arg3 harg3 arg5 harg5 arg6 harg6 arg7 harg7 arg8 harg8 arg16 harg16 x1 x3 x4 x5 x6 xo14 = statesV x1 x3 x4 x5 x6 0 0 (inV xo14 0) 4 := by
  simp only [kernelRun0_B.sl.r_25, kernelRun0_B.sl.r_18, kernelRun0_B.sl.r_19, kernelRun0_B.sl.r_21, r_10_eq, r_11_eq, r_12_eq, r_13_eq, r_6_eq, r_9_eq, View.readAt_eq_ld, Memref.IsWhole.read_unread]
  rfl

/-- Head 1, the state after the first half. -/
theorem r_42_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (harg16 : arg16.IsWhole) (x1 : Vec F S1x512x1024 .f32) (x3 : Vec F S1x8x1024 .f32) (x4 : Vec F S1x1024x3088 .bf16) (x5 : Vec F S1x1024x128 .bf16) (x6 : Vec F S1x128x512 .bf16) (xo14 : Vec F S1x1x4x128x256 .f32) :
    kernelRun0_B.sl.r_42 c arg3 harg3 arg5 harg5 arg6 harg6 arg7 harg7 arg8 harg8 arg16 harg16 x1 x3 x4 x5 x6 xo14 = statesV x1 x3 x4 x5 x6 0 1 (inV xo14 1) 4 := by
  simp only [kernelRun0_B.sl.r_42, kernelRun0_B.sl.r_35, kernelRun0_B.sl.r_30, kernelRun0_B.sl.r_32, kernelRun0_B.sl.r_33, kernelRun0_B.sl.r_34, kernelRun0_B.sl.r_39, kernelRun0_B.sl.r_41, r_10_eq, r_11_eq, r_12_eq, r_13_eq, r_6_eq, r_9_eq, View.readAt_eq_ld, Memref.IsWhole.read_unread]
  rfl

/-- Head 2, the state after the first half. -/
theorem r_50_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (harg16 : arg16.IsWhole) (x1 : Vec F S1x512x1024 .f32) (x3 : Vec F S1x8x1024 .f32) (x4 : Vec F S1x1024x3088 .bf16) (x5 : Vec F S1x1024x128 .bf16) (x6 : Vec F S1x128x512 .bf16) (xo14 : Vec F S1x1x4x128x256 .f32) :
    kernelRun0_B.sl.r_50 c arg3 harg3 arg5 harg5 arg6 harg6 arg7 harg7 arg8 harg8 arg16 harg16 x1 x3 x4 x5 x6 xo14 = statesV x1 x3 x4 x5 x6 0 2 (inV xo14 2) 4 := by
  simp only [kernelRun0_B.sl.r_50, kernelRun0_B.sl.r_45, kernelRun0_B.sl.r_47, kernelRun0_B.sl.r_49, r_10_eq, r_11_eq, r_12_eq, r_13_eq, r_6_eq, r_9_eq, View.readAt_eq_ld, Memref.IsWhole.read_unread]
  rfl

/-- Head 3, the state after the first half. -/
theorem r_64_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (harg16 : arg16.IsWhole) (x1 : Vec F S1x512x1024 .f32) (x3 : Vec F S1x8x1024 .f32) (x4 : Vec F S1x1024x3088 .bf16) (x5 : Vec F S1x1024x128 .bf16) (x6 : Vec F S1x128x512 .bf16) (xo14 : Vec F S1x1x4x128x256 .f32) :
    kernelRun0_B.sl.r_64 c arg3 harg3 arg5 harg5 arg6 harg6 arg7 harg7 arg8 harg8 arg16 harg16 x1 x3 x4 x5 x6 xo14 = statesV x1 x3 x4 x5 x6 0 3 (inV xo14 3) 4 := by
  simp only [kernelRun0_B.sl.r_64, kernelRun0_B.sl.r_54, kernelRun0_B.sl.r_56, kernelRun0_B.sl.r_57, kernelRun0_B.sl.r_58, kernelRun0_B.sl.r_59, r_10_eq, r_11_eq, r_12_eq, r_13_eq, r_6_eq, r_9_eq, View.readAt_eq_ld, Memref.IsWhole.read_unread]
  rfl

/-- A word of the second half. -/
theorem r_69_eq (c : Dev nD) (arg3 : Memref sig .tc .vmem S1x512x1024 .f32) (harg3 : arg3.IsWhole) (arg5 : Memref sig .tc .vmem S1x8x1024 .f32) (harg5 : arg5.IsWhole) (x1 : Vec F S1x512x1024 .f32) (x3 : Vec F S1x8x1024 .f32) :
    kernelRun0_B.sl.r_69 c arg3 harg3 arg5 harg5 x1 x3 = xnV x1 x3 1 := by
  simp only [kernelRun0_B.sl.r_69, View.readAt_eq_ld, Memref.IsWhole.read_unread]
  rfl

/-- A word of the second half. -/
theorem r_82_eq (c : Dev nD) (arg3 : Memref sig .tc .vmem S1x512x1024 .f32) (harg3 : arg3.IsWhole) (arg5 : Memref sig .tc .vmem S1x8x1024 .f32) (harg5 : arg5.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x5 : Vec F S1x1024x128 .bf16) (x6 : Vec F S1x128x512 .bf16) :
    kernelRun0_B.sl.r_82 c arg3 harg3 arg5 harg5 arg7 harg7 arg8 harg8 x1 x3 x5 x6 = cumV x1 x3 x5 x6 1 := by
  simp only [kernelRun0_B.sl.r_82, kernelRun0_B.sl.r_75, kernelRun0_B.sl.r_70, kernelRun0_B.sl.r_76, View.readAt_eq_ld, Memref.IsWhole.read_unread]
  rfl

/-- A word of the second half. -/
theorem r_88_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (x1 : Vec F S1x512x1024 .f32) (x3 : Vec F S1x8x1024 .f32) (x4 : Vec F S1x1024x3088 .bf16) :
    kernelRun0_B.sl.r_88 c arg3 harg3 arg5 harg5 arg6 harg6 x1 x3 x4 = vV x1 x3 x4 1 := by
  simp only [kernelRun0_B.sl.r_88, kernelRun0_B.sl.r_83, r_69_eq, View.readAt_eq_ld, Memref.IsWhole.read_unread]
  rfl

/-- A word of the second half. -/
theorem r_92_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x4 : Vec F S1x1024x3088 .bf16) (x5 : Vec F S1x1024x128 .bf16) (x6 : Vec F S1x128x512 .bf16) :
    kernelRun0_B.sl.r_92 c arg3 harg3 arg5 harg5 arg6 harg6 arg7 harg7 arg8 harg8 x1 x3 x4 x5 x6 = qdV x1 x3 x4 x5 x6 1 := by
  simp only [kernelRun0_B.sl.r_92, kernelRun0_B.sl.r_71, r_82_eq, View.readAt_eq_ld, Memref.IsWhole.read_unread]
  rfl

/-- A word of the second half. -/
theorem r_93_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x4 : Vec F S1x1024x3088 .bf16) (x5 : Vec F S1x1024x128 .bf16) (x6 : Vec F S1x128x512 .bf16) :
    kernelRun0_B.sl.r_93 c arg3 harg3 arg5 harg5 arg6 harg6 arg7 harg7 arg8 harg8 x1 x3 x4 x5 x6 = kiV x1 x3 x4 x5 x6 1 := by
  simp only [kernelRun0_B.sl.r_93, kernelRun0_B.sl.r_77, r_69_eq, r_82_eq, View.readAt_eq_ld, Memref.IsWhole.read_unread]
  rfl

/-- A word of the second half. -/
theorem r_94_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (x1 : Vec F S1x512x1024 .f32) (x3 : Vec F S1x8x1024 .f32) (x4 : Vec F S1x1024x3088 .bf16) (x5 : Vec F S1x1024x128 .bf16) (x6 : Vec F S1x128x512 .bf16) :
    kernelRun0_B.sl.r_94 c arg3 harg3 arg5 harg5 arg6 harg6 arg7 harg7 arg8 harg8 x1 x3 x4 x5 x6 = keV x1 x3 x4 x5 x6 1 := by
  simp only [kernelRun0_B.sl.r_94, kernelRun0_B.sl.r_77, kernelRun0_B.sl.r_89, kernelRun0_B.sl.r_90, kernelRun0_B.sl.r_91, r_69_eq, r_82_eq, View.readAt_eq_ld, Memref.IsWhole.read_unread]
  rfl

/-- A word of the second half. -/
theorem r_107_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (x1 : Vec F S1x512x1024 .f32) (x3 : Vec F S1x8x1024 .f32) (x4 : Vec F S1x1024x3088 .bf16) :
    kernelRun0_B.sl.r_107 c arg3 harg3 arg5 harg5 arg6 harg6 x1 x3 x4 = gateV x1 x3 x4 1 := by
  simp only [kernelRun0_B.sl.r_107, kernelRun0_B.sl.r_99, r_69_eq, View.readAt_eq_ld, Memref.IsWhole.read_unread]
  rfl

/-- A word of the second half. -/
theorem r_108_eq (c : Dev nD) (arg5 : Memref sig .tc .vmem S1x8x1024 .f32) (harg5 : arg5.IsWhole) (x3 : Vec F S1x8x1024 .f32) :
    kernelRun0_B.sl.r_108 c arg5 harg5 x3 = k0_pay27 (gnV x3) := by
  simp only [kernelRun0_B.sl.r_108, View.readAt_eq_ld, Memref.IsWhole.read_unread]
  rfl

/-- Head 0, the state after the second half. -/
theorem r_122_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (harg16 : arg16.IsWhole) (x1 : Vec F S1x512x1024 .f32) (x3 : Vec F S1x8x1024 .f32) (x4 : Vec F S1x1024x3088 .bf16) (x5 : Vec F S1x1024x128 .bf16) (x6 : Vec F S1x128x512 .bf16) (xo14 : Vec F S1x1x4x128x256 .f32) :
    kernelRun0_B.sl.r_122 c arg3 harg3 arg5 harg5 arg6 harg6 arg7 harg7 arg8 harg8 arg16 harg16 x1 x3 x4 x5 x6 xo14 = statesV x1 x3 x4 x5 x6 1 0 (statesV x1 x3 x4 x5 x6 0 0 (inV xo14 0) 4) 4 := by
  simp only [kernelRun0_B.sl.r_122, kernelRun0_B.sl.r_96, kernelRun0_B.sl.r_90, kernelRun0_B.sl.r_97, kernelRun0_B.sl.r_91, kernelRun0_B.sl.r_98, kernelRun0_B.sl.r_113, kernelRun0_B.sl.r_110, kernelRun0_B.sl.r_118, kernelRun0_B.sl.r_95, kernelRun0_B.sl.r_89, r_25_eq, r_82_eq, r_88_eq, r_94_eq, View.readAt_eq_ld, Memref.IsWhole.read_unread]
  rfl

/-- Head 1, the state after the second half. -/
theorem r_142_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (harg16 : arg16.IsWhole) (x1 : Vec F S1x512x1024 .f32) (x3 : Vec F S1x8x1024 .f32) (x4 : Vec F S1x1024x3088 .bf16) (x5 : Vec F S1x1024x128 .bf16) (x6 : Vec F S1x128x512 .bf16) (xo14 : Vec F S1x1x4x128x256 .f32) :
    kernelRun0_B.sl.r_142 c arg3 harg3 arg5 harg5 arg6 harg6 arg7 harg7 arg8 harg8 arg16 harg16 x1 x3 x4 x5 x6 xo14 = statesV x1 x3 x4 x5 x6 1 1 (statesV x1 x3 x4 x5 x6 0 1 (inV xo14 1) 4) 4 := by
  simp only [kernelRun0_B.sl.r_142, kernelRun0_B.sl.r_95, kernelRun0_B.sl.r_89, kernelRun0_B.sl.r_96, kernelRun0_B.sl.r_90, kernelRun0_B.sl.r_97, kernelRun0_B.sl.r_91, kernelRun0_B.sl.r_98, kernelRun0_B.sl.r_133, r_42_eq, r_82_eq, r_88_eq, r_94_eq, View.readAt_eq_ld, Memref.IsWhole.read_unread]
  rfl

/-- Head 2, the state after the second half. -/
theorem r_159_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (harg16 : arg16.IsWhole) (x1 : Vec F S1x512x1024 .f32) (x3 : Vec F S1x8x1024 .f32) (x4 : Vec F S1x1024x3088 .bf16) (x5 : Vec F S1x1024x128 .bf16) (x6 : Vec F S1x128x512 .bf16) (xo14 : Vec F S1x1x4x128x256 .f32) :
    kernelRun0_B.sl.r_159 c arg3 harg3 arg5 harg5 arg6 harg6 arg7 harg7 arg8 harg8 arg16 harg16 x1 x3 x4 x5 x6 xo14 = statesV x1 x3 x4 x5 x6 1 2 (statesV x1 x3 x4 x5 x6 0 2 (inV xo14 2) 4) 4 := by
  simp only [kernelRun0_B.sl.r_159, kernelRun0_B.sl.r_157, kernelRun0_B.sl.r_95, kernelRun0_B.sl.r_89, kernelRun0_B.sl.r_96, kernelRun0_B.sl.r_90, kernelRun0_B.sl.r_97, kernelRun0_B.sl.r_91, kernelRun0_B.sl.r_98, kernelRun0_B.sl.r_149, kernelRun0_B.sl.r_158, r_50_eq, r_82_eq, r_88_eq, r_94_eq, View.readAt_eq_ld, Memref.IsWhole.read_unread]
  rfl

/-- Head 3, the state after the second half. -/
theorem r_174_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (harg16 : arg16.IsWhole) (x1 : Vec F S1x512x1024 .f32) (x3 : Vec F S1x8x1024 .f32) (x4 : Vec F S1x1024x3088 .bf16) (x5 : Vec F S1x1024x128 .bf16) (x6 : Vec F S1x128x512 .bf16) (xo14 : Vec F S1x1x4x128x256 .f32) :
    kernelRun0_B.sl.r_174 c arg3 harg3 arg5 harg5 arg6 harg6 arg7 harg7 arg8 harg8 arg16 harg16 x1 x3 x4 x5 x6 xo14 = statesV x1 x3 x4 x5 x6 1 3 (statesV x1 x3 x4 x5 x6 0 3 (inV xo14 3) 4) 4 := by
  simp only [kernelRun0_B.sl.r_174, kernelRun0_B.sl.r_172, kernelRun0_B.sl.r_95, kernelRun0_B.sl.r_89, kernelRun0_B.sl.r_96, kernelRun0_B.sl.r_90, kernelRun0_B.sl.r_97, kernelRun0_B.sl.r_91, kernelRun0_B.sl.r_98, kernelRun0_B.sl.r_163, kernelRun0_B.sl.r_173, r_64_eq, r_82_eq, r_88_eq, r_94_eq, View.readAt_eq_ld, Memref.IsWhole.read_unread]
  rfl

/-- The first half's four pieces of the attention's output. -/
theorem HS0_4_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (harg16 : arg16.IsWhole) (x1 : Vec F S1x512x1024 .f32) (x3 : Vec F S1x8x1024 .f32) (x4 : Vec F S1x1024x3088 .bf16) (x5 : Vec F S1x1024x128 .bf16) (x6 : Vec F S1x128x512 .bf16) (xo14 : Vec F S1x1x4x128x256 .f32) :
    kernelRun0_B.sl.HS0_4 c arg3 harg3 arg5 harg5 arg6 harg6 arg7 harg7 arg8 harg8 arg16 harg16 x1 x3 x4 x5 x6 xo14 = [⟨Rect.unit ![0, 0, 768] S1x256x256.size inb_S1x512x1024_S1x256x256_0_0_768, pieceV x1 x3 x4 x5 x6 0 3 (inV xo14 3)⟩, ⟨Rect.unit ![0, 0, 512] S1x256x256.size inb_S1x512x1024_S1x256x256_0_0_512, pieceV x1 x3 x4 x5 x6 0 2 (inV xo14 2)⟩, ⟨Rect.unit ![0, 0, 256] S1x256x256.size inb_S1x512x1024_S1x256x256_0_0_256, pieceV x1 x3 x4 x5 x6 0 1 (inV xo14 1)⟩, ⟨Rect.unit ![0, 0, 0] S1x256x256.size inb_S1x512x1024_S1x256x256_0_0_0, pieceV x1 x3 x4 x5 x6 0 0 (inV xo14 0)⟩] := by
  simp only [kernelRun0_B.sl.HS0_4, kernelRun0_B.sl.r_53, kernelRun0_B.sl.r_55, kernelRun0_B.sl.r_60, kernelRun0_B.sl.r_61, kernelRun0_B.sl.r_54, kernelRun0_B.sl.r_56, kernelRun0_B.sl.r_57, kernelRun0_B.sl.r_58, kernelRun0_B.sl.r_59, kernelRun0_B.sl.r_62, kernelRun0_B.sl.r_63, kernelRun0_B.sl.r_65, kernelRun0_B.sl.r_51, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_52, kernelRun0_B.sl.r_29, kernelRun0_B.sl.r_31, kernelRun0_B.sl.r_36, kernelRun0_B.sl.r_37, kernelRun0_B.sl.r_30, kernelRun0_B.sl.r_32, kernelRun0_B.sl.r_33, kernelRun0_B.sl.r_34, kernelRun0_B.sl.r_38, kernelRun0_B.sl.r_40, kernelRun0_B.sl.r_16, kernelRun0_B.sl.r_17, kernelRun0_B.sl.r_20, kernelRun0_B.sl.r_22, kernelRun0_B.sl.r_18, kernelRun0_B.sl.r_19, kernelRun0_B.sl.r_21, kernelRun0_B.sl.r_23, kernelRun0_B.sl.r_24, kernelRun0_B.sl.r_26, kernelRun0_B.sl.r_27, kernelRun0_B.sl.r_28, r_10_eq, r_11_eq, r_12_eq, r_14_eq, r_15_eq, r_6_eq, r_7_eq, r_8_eq, r_9_eq, View.readAt_eq_ld, Memref.IsWhole.read_unread]
  rfl

/-- Both halves' pieces of the attention's output. -/
theorem HS0_8_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (harg16 : arg16.IsWhole) (x1 : Vec F S1x512x1024 .f32) (x3 : Vec F S1x8x1024 .f32) (x4 : Vec F S1x1024x3088 .bf16) (x5 : Vec F S1x1024x128 .bf16) (x6 : Vec F S1x128x512 .bf16) (xo14 : Vec F S1x1x4x128x256 .f32) :
    kernelRun0_B.sl.HS0_8 c arg3 harg3 arg5 harg5 arg6 harg6 arg7 harg7 arg8 harg8 arg16 harg16 x1 x3 x4 x5 x6 xo14 = [⟨Rect.unit ![0, 256, 768] S1x256x256.size inb_S1x512x1024_S1x256x256_0_256_768, pieceV x1 x3 x4 x5 x6 1 3 (statesV x1 x3 x4 x5 x6 0 3 (inV xo14 3) 4)⟩, ⟨Rect.unit ![0, 256, 512] S1x256x256.size inb_S1x512x1024_S1x256x256_0_256_512, pieceV x1 x3 x4 x5 x6 1 2 (statesV x1 x3 x4 x5 x6 0 2 (inV xo14 2) 4)⟩, ⟨Rect.unit ![0, 256, 256] S1x256x256.size inb_S1x512x1024_S1x256x256_0_256_256, pieceV x1 x3 x4 x5 x6 1 1 (statesV x1 x3 x4 x5 x6 0 1 (inV xo14 1) 4)⟩, ⟨Rect.unit ![0, 256, 0] S1x256x256.size inb_S1x512x1024_S1x256x256_0_256_0, pieceV x1 x3 x4 x5 x6 1 0 (statesV x1 x3 x4 x5 x6 0 0 (inV xo14 0) 4)⟩, ⟨Rect.unit ![0, 0, 768] S1x256x256.size inb_S1x512x1024_S1x256x256_0_0_768, pieceV x1 x3 x4 x5 x6 0 3 (inV xo14 3)⟩, ⟨Rect.unit ![0, 0, 512] S1x256x256.size inb_S1x512x1024_S1x256x256_0_0_512, pieceV x1 x3 x4 x5 x6 0 2 (inV xo14 2)⟩, ⟨Rect.unit ![0, 0, 256] S1x256x256.size inb_S1x512x1024_S1x256x256_0_0_256, pieceV x1 x3 x4 x5 x6 0 1 (inV xo14 1)⟩, ⟨Rect.unit ![0, 0, 0] S1x256x256.size inb_S1x512x1024_S1x256x256_0_0_0, pieceV x1 x3 x4 x5 x6 0 0 (inV xo14 0)⟩] := by
  simp only [kernelRun0_B.sl.HS0_8, kernelRun0_B.sl.r_161, kernelRun0_B.sl.r_162, kernelRun0_B.sl.r_168, kernelRun0_B.sl.r_169, kernelRun0_B.sl.r_95, kernelRun0_B.sl.r_89, kernelRun0_B.sl.r_163, kernelRun0_B.sl.r_170, kernelRun0_B.sl.r_96, kernelRun0_B.sl.r_90, kernelRun0_B.sl.r_171, kernelRun0_B.sl.r_97, kernelRun0_B.sl.r_91, kernelRun0_B.sl.r_147, kernelRun0_B.sl.r_148, kernelRun0_B.sl.r_153, kernelRun0_B.sl.r_154, kernelRun0_B.sl.r_149, kernelRun0_B.sl.r_155, kernelRun0_B.sl.r_156, kernelRun0_B.sl.r_131, kernelRun0_B.sl.r_132, kernelRun0_B.sl.r_138, kernelRun0_B.sl.r_139, kernelRun0_B.sl.r_133, kernelRun0_B.sl.r_140, kernelRun0_B.sl.r_141, kernelRun0_B.sl.r_143, kernelRun0_B.sl.r_109, kernelRun0_B.sl.r_112, kernelRun0_B.sl.r_110, kernelRun0_B.sl.r_111, kernelRun0_B.sl.r_117, kernelRun0_B.sl.r_119, kernelRun0_B.sl.r_113, kernelRun0_B.sl.r_118, kernelRun0_B.sl.r_120, kernelRun0_B.sl.r_121, kernelRun0_B.sl.r_123, kernelRun0_B.sl.r_124, kernelRun0_B.sl.r_125, HS0_4_eq, r_107_eq, r_108_eq, r_25_eq, r_42_eq, r_50_eq, r_64_eq, r_82_eq, r_88_eq, r_92_eq, r_93_eq, r_94_eq, View.readAt_eq_ld, Memref.IsWhole.read_unread]
  rfl

-- the attention output as it is read back stays a word here
/-- The first half after the attention. -/
theorem r_68_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg16 : Memref sig .tc .vmem S1x1x4x128x256 .f32) (harg16 : arg16.IsWhole) (arg17 : Memref sig .tc .vmem S1x512x1024 .bf16) (x1 : Vec F S1x512x1024 .f32) (x3 : Vec F S1x8x1024 .f32) (x4 : Vec F S1x1024x3088 .bf16) (x5 : Vec F S1x1024x128 .bf16) (x6 : Vec F S1x128x512 .bf16) (x7 : Vec F S1x1024x1024 .bf16) (xo14 : Vec F S1x1x4x128x256 .f32) :
    kernelRun0_B.sl.r_68 c arg3 harg3 arg5 harg5 arg6 harg6 arg7 harg7 arg8 harg8 arg9 harg9 arg16 harg16 arg17 x1 x3 x4 x5 x6 x7 xo14 = (h2V x1 x7 (kernelRun0_B.sl.v561 c arg3 harg3 arg5 harg5 arg6 harg6 arg7 harg7 arg8 harg8 arg16 harg16 arg17 x1 x3 x4 x5 x6 xo14) 0) := by
  simp only [kernelRun0_B.sl.r_68, kernelRun0_B.sl.r_66, kernelRun0_B.sl.r_67, View.readAt_eq_ld, Memref.IsWhole.read_unread]
  rfl

/-- … normalised. -/
theorem r_74_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg16 : Memref sig .tc .vmem S1x1x4x128x256 .f32) (harg16 : arg16.IsWhole) (arg17 : Memref sig .tc .vmem S1x512x1024 .bf16) (x1 : Vec F S1x512x1024 .f32) (x3 : Vec F S1x8x1024 .f32) (x4 : Vec F S1x1024x3088 .bf16) (x5 : Vec F S1x1024x128 .bf16) (x6 : Vec F S1x128x512 .bf16) (x7 : Vec F S1x1024x1024 .bf16) (xo14 : Vec F S1x1x4x128x256 .f32) :
    kernelRun0_B.sl.r_74 c arg3 harg3 arg5 harg5 arg6 harg6 arg7 harg7 arg8 harg8 arg9 harg9 arg16 harg16 arg17 x1 x3 x4 x5 x6 x7 xo14 = truncf .bf16 (rmsV (h2V x1 x7 (kernelRun0_B.sl.v561 c arg3 harg3 arg5 harg5 arg6 harg6 arg7 harg7 arg8 harg8 arg16 harg16 arg17 x1 x3 x4 x5 x6 xo14) 0) (nfV x3)) bitsLt_bf16_f32 := by
  simp only [kernelRun0_B.sl.r_74, kernelRun0_B.sl.r_72, kernelRun0_B.sl.r_73, kernelRun0_B.sl.r_66, kernelRun0_B.sl.r_67, r_68_eq, View.readAt_eq_ld, Memref.IsWhole.read_unread]
  rfl

/-- The first half after the feed-forward layer. -/
theorem r_164_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg16 : Memref sig .tc .vmem S1x1x4x128x256 .f32) (harg16 : arg16.IsWhole) (arg17 : Memref sig .tc .vmem S1x512x1024 .bf16) (x1 : Vec F S1x512x1024 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (xo14 : Vec F S1x1x4x128x256 .f32) :
    kernelRun0_B.sl.r_164 c arg3 harg3 arg5 harg5 arg6 harg6 arg7 harg7 arg8 harg8 arg9 harg9 arg10 harg10 arg11 harg11 arg12 harg12 arg16 harg16 arg17 x1 x3 x4 x5 x6 x7 x8 x9 x10 xo14 = h3V x3 x8 x9 x10 (h2V x1 x7 (kernelRun0_B.sl.v561 c arg3 harg3 arg5 harg5 arg6 harg6 arg7 harg7 arg8 harg8 arg16 harg16 arg17 x1 x3 x4 x5 x6 xo14) 0) := by
  simp only [kernelRun0_B.sl.r_164, kernelRun0_B.sl.r_152, kernelRun0_B.sl.r_144, kernelRun0_B.sl.r_145, kernelRun0_B.sl.r_146, kernelRun0_B.sl.r_134, kernelRun0_B.sl.r_135, kernelRun0_B.sl.r_137, kernelRun0_B.sl.r_130, kernelRun0_B.sl.r_116, kernelRun0_B.sl.r_104, kernelRun0_B.sl.r_105, kernelRun0_B.sl.r_106, kernelRun0_B.sl.r_87, kernelRun0_B.sl.r_79, kernelRun0_B.sl.r_80, kernelRun0_B.sl.r_81, kernelRun0_B.sl.r_78, kernelRun0_B.sl.r_72, kernelRun0_B.sl.r_73, kernelRun0_B.sl.r_66, kernelRun0_B.sl.r_67, kernelRun0_B.sl.r_84, kernelRun0_B.sl.r_100, kernelRun0_B.sl.r_101, kernelRun0_B.sl.r_102, kernelRun0_B.sl.r_85, kernelRun0_B.sl.r_86, kernelRun0_B.sl.r_103, kernelRun0_B.sl.cst_305, kernelRun0_B.sl.r_128, kernelRun0_B.sl.r_114, kernelRun0_B.sl.r_115, kernelRun0_B.sl.r_129, kernelRun0_B.sl.r_136, kernelRun0_B.sl.r_126, kernelRun0_B.sl.r_127, kernelRun0_B.sl.r_160, kernelRun0_B.sl.r_150, kernelRun0_B.sl.r_151, r_68_eq, r_74_eq, View.readAt_eq_ld, Memref.IsWhole.read_unread]
  rfl

/-- The first half's embedding gate. -/
theorem r_167_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg13 : Memref sig .tc .vmem S1x1024x1024 .bf16) (harg13 : arg13.IsWhole) (arg16 : Memref sig .tc .vmem S1x1x4x128x256 .f32) (harg16 : arg16.IsWhole) (arg17 : Memref sig .tc .vmem S1x512x1024 .bf16) (x1 : Vec F S1x512x1024 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (x11 : Vec F S1x1024x1024 .bf16) (xo14 : Vec F S1x1x4x128x256 .f32) :
    kernelRun0_B.sl.r_167 c arg3 harg3 arg5 harg5 arg6 harg6 arg7 harg7 arg8 harg8 arg9 harg9 arg10 harg10 arg11 harg11 arg12 harg12 arg13 harg13 arg16 harg16 arg17 x1 x3 x4 x5 x6 x7 x8 x9 x10 x11 xo14 = pleV x3 x11 (h3V x3 x8 x9 x10 (h2V x1 x7 (kernelRun0_B.sl.v561 c arg3 harg3 arg5 harg5 arg6 harg6 arg7 harg7 arg8 harg8 arg16 harg16 arg17 x1 x3 x4 x5 x6 xo14) 0)) := by
  simp only [kernelRun0_B.sl.r_167, kernelRun0_B.sl.r_165, kernelRun0_B.sl.r_166, kernelRun0_B.sl.r_152, kernelRun0_B.sl.r_144, kernelRun0_B.sl.r_145, kernelRun0_B.sl.r_146, kernelRun0_B.sl.r_134, kernelRun0_B.sl.r_135, kernelRun0_B.sl.r_137, kernelRun0_B.sl.r_130, kernelRun0_B.sl.r_116, kernelRun0_B.sl.r_104, kernelRun0_B.sl.r_105, kernelRun0_B.sl.r_106, kernelRun0_B.sl.r_87, kernelRun0_B.sl.r_79, kernelRun0_B.sl.r_80, kernelRun0_B.sl.r_81, kernelRun0_B.sl.r_78, kernelRun0_B.sl.r_72, kernelRun0_B.sl.r_73, kernelRun0_B.sl.r_66, kernelRun0_B.sl.r_67, kernelRun0_B.sl.r_84, kernelRun0_B.sl.r_100, kernelRun0_B.sl.r_101, kernelRun0_B.sl.r_102, kernelRun0_B.sl.r_85, kernelRun0_B.sl.r_86, kernelRun0_B.sl.r_103, kernelRun0_B.sl.cst_305, kernelRun0_B.sl.r_128, kernelRun0_B.sl.r_114, kernelRun0_B.sl.r_115, kernelRun0_B.sl.r_129, kernelRun0_B.sl.r_136, kernelRun0_B.sl.r_126, kernelRun0_B.sl.r_127, kernelRun0_B.sl.r_160, kernelRun0_B.sl.r_150, kernelRun0_B.sl.r_151, r_164_eq, r_68_eq, r_74_eq, View.readAt_eq_ld, Memref.IsWhole.read_unread]
  rfl

/-- The second half after the attention. -/
theorem r_175_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg16 : Memref sig .tc .vmem S1x1x4x128x256 .f32) (harg16 : arg16.IsWhole) (arg17 : Memref sig .tc .vmem S1x512x1024 .bf16) (x1 : Vec F S1x512x1024 .f32) (x3 : Vec F S1x8x1024 .f32) (x4 : Vec F S1x1024x3088 .bf16) (x5 : Vec F S1x1024x128 .bf16) (x6 : Vec F S1x128x512 .bf16) (x7 : Vec F S1x1024x1024 .bf16) (xo14 : Vec F S1x1x4x128x256 .f32) :
    kernelRun0_B.sl.r_175 c arg3 harg3 arg5 harg5 arg6 harg6 arg7 harg7 arg8 harg8 arg9 harg9 arg16 harg16 arg17 x1 x3 x4 x5 x6 x7 xo14 = (h2V x1 x7 (kernelRun0_B.sl.v1330 c arg3 harg3 arg5 harg5 arg6 harg6 arg7 harg7 arg8 harg8 arg16 harg16 arg17 x1 x3 x4 x5 x6 xo14) 1) := by
  simp only [kernelRun0_B.sl.r_175, View.readAt_eq_ld, Memref.IsWhole.read_unread]
  rfl

/-- … normalised. -/
theorem r_176_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg16 : Memref sig .tc .vmem S1x1x4x128x256 .f32) (harg16 : arg16.IsWhole) (arg17 : Memref sig .tc .vmem S1x512x1024 .bf16) (x1 : Vec F S1x512x1024 .f32) (x3 : Vec F S1x8x1024 .f32) (x4 : Vec F S1x1024x3088 .bf16) (x5 : Vec F S1x1024x128 .bf16) (x6 : Vec F S1x128x512 .bf16) (x7 : Vec F S1x1024x1024 .bf16) (xo14 : Vec F S1x1x4x128x256 .f32) :
    kernelRun0_B.sl.r_176 c arg3 harg3 arg5 harg5 arg6 harg6 arg7 harg7 arg8 harg8 arg9 harg9 arg16 harg16 arg17 x1 x3 x4 x5 x6 x7 xo14 = truncf .bf16 (rmsV (h2V x1 x7 (kernelRun0_B.sl.v1330 c arg3 harg3 arg5 harg5 arg6 harg6 arg7 harg7 arg8 harg8 arg16 harg16 arg17 x1 x3 x4 x5 x6 xo14) 1) (nfV x3)) bitsLt_bf16_f32 := by
  simp only [kernelRun0_B.sl.r_176, r_175_eq, View.readAt_eq_ld, Memref.IsWhole.read_unread]
  rfl

/-- The second half before the final norm. -/
theorem r_195_eq (c : Dev nD) (arg3 : Memref sig .tc .vmem S1x512x1024 .f32) (harg3 : arg3.IsWhole) (arg4 : Memref sig .tc .vmem S1x1x512x256 .f32) (harg4 : arg4.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg13 : Memref sig .tc .vmem S1x1024x1024 .bf16) (harg13 : arg13.IsWhole) (arg14 : Memref sig .tc .vmem S1x256x1024 .bf16) (harg14 : arg14.IsWhole) (arg16 : Memref sig .tc .vmem S1x1x4x128x256 .f32) (harg16 : arg16.IsWhole) (arg17 : Memref sig .tc .vmem S1x512x1024 .bf16) (x1 : Vec F S1x512x1024 .f32) (x2 : Vec F S1x1x512x256 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (x11 : Vec F S1x1024x1024 .bf16) (x12 : Vec F S1x256x1024 .bf16) (xo14 : Vec F S1x1x4x128x256 .f32) :
    kernelRun0_B.sl.r_195 c arg3 harg3 arg4 harg4 arg5 harg5 arg6 harg6 arg7 harg7 arg8 harg8 arg9 harg9 arg10 harg10 arg11 harg11 arg12 harg12 arg13 harg13 arg14 harg14 arg16 harg16 arg17 x1 x2 x3 x4 x5 x6 x7 x8 x9 x10 x11 x12 xo14 = h4V x2 x3 x11 x12 (h3V x3 x8 x9 x10 (h2V x1 x7 (kernelRun0_B.sl.v1330 c arg3 harg3 arg5 harg5 arg6 harg6 arg7 harg7 arg8 harg8 arg16 harg16 arg17 x1 x3 x4 x5 x6 xo14) 1)) 1 := by
  simp only [kernelRun0_B.sl.r_195, kernelRun0_B.sl.r_192, kernelRun0_B.sl.r_189, kernelRun0_B.sl.r_190, kernelRun0_B.sl.r_191, kernelRun0_B.sl.r_185, kernelRun0_B.sl.r_180, kernelRun0_B.sl.r_181, kernelRun0_B.sl.r_182, kernelRun0_B.sl.r_177, kernelRun0_B.sl.r_178, kernelRun0_B.sl.r_179, kernelRun0_B.sl.r_183, kernelRun0_B.sl.r_184, kernelRun0_B.sl.r_186, kernelRun0_B.sl.r_187, kernelRun0_B.sl.r_188, kernelRun0_B.sl.r_193, kernelRun0_B.sl.r_194, r_175_eq, r_176_eq, View.readAt_eq_ld, Memref.IsWhole.read_unread]
  rfl

end Cert.KernelIdeal.Gla.CaseB
-- ==== Proof.OutB.lean ====
/-
  Case B of the run (a later tile): its two result blocks are the named arrays of the input blocks.
-/
module

public import proofs.«01_k».proof.Proof.WordsB
public import proofs.«01_k».proof.Proof.Blocks
public import Idealize.ShloMosaic.Lib.Pipeline.ValueKit
public import Idealize.ShloMosaic.Lib.Pipeline.ReadBack

@[expose] public section

set_option maxRecDepth 16384
set_option maxHeartbeats 2000000

noncomputable section

namespace Cert.KernelIdeal.Gla.CaseB

open Cert.KernelIdeal Cert.KernelIdeal.Gen Cert.KernelIdeal.Gla Idealize.ShloMosaic Idealize.ShloMosaic.TcCoe Idealize.SL.Sem

variable {F : FTy → Type} [FloatOps F]

/-- The first half's attention output, read back. -/
theorem v561_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (harg16 : arg16.IsWhole) (arg17 : Memref sig .tc .vmem S1x512x1024 .bf16) (x1 : Vec F S1x512x1024 .f32) (x3 : Vec F S1x8x1024 .f32) (x4 : Vec F S1x1024x3088 .bf16) (x5 : Vec F S1x1024x128 .bf16) (x6 : Vec F S1x128x512 .bf16) (xo14 : Vec F S1x1x4x128x256 .f32) :
    kernelRun0_B.sl.v561 c arg3 harg3 arg5 harg5 arg6 harg6 arg7 harg7 arg8 harg8 arg16 harg16 arg17 x1 x3 x4 x5 x6 xo14 = obV (obFull x1 x3 x4 x5 x6 xo14) 0 := by
  refine funext fun a => ?_
  simp only [kernelRun0_B.sl.v561, HS0_4_eq]
  exact congrFun (ob_first arg17.view x1 x3 x4 x5 x6 xo14) a

/-- The second half's attention output, read back. -/
theorem v1330_eq (c : Dev nD) (arg3 : Memref sig .tc .vmem S1x512x1024 .f32) (harg3 : arg3.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg16 : Memref sig .tc .vmem S1x1x4x128x256 .f32) (harg16 : arg16.IsWhole) (arg17 : Memref sig .tc .vmem S1x512x1024 .bf16) (x1 : Vec F S1x512x1024 .f32) (x3 : Vec F S1x8x1024 .f32) (x4 : Vec F S1x1024x3088 .bf16) (x5 : Vec F S1x1024x128 .bf16) (x6 : Vec F S1x128x512 .bf16) (xo14 : Vec F S1x1x4x128x256 .f32) :
    kernelRun0_B.sl.v1330 c arg3 harg3 arg5 harg5 arg6 harg6 arg7 harg7 arg8 harg8 arg16 harg16 arg17 x1 x3 x4 x5 x6 xo14 = obV (obFull x1 x3 x4 x5 x6 xo14) 1 := by
  refine funext fun a => ?_
  simp only [kernelRun0_B.sl.v1330, HS0_8_eq]
  exact congrFun (ob_second arg17.view x1 x3 x4 x5 x6 xo14 _) a

/-- The two stores of the result rows. -/
theorem pieces13 (c : Dev nD) (i : grid0.Coords) (arg2 : Memref sig .tc .vmem S1x1x4x128x256 .f32) (harg2 : arg2.IsWhole) (arg3 : Memref sig .tc .vmem S1x512x1024 .f32) (harg3 : arg3.IsWhole) (arg4 : Memref sig .tc .vmem S1x1x512x256 .f32) (harg4 : arg4.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg13 : Memref sig .tc .vmem S1x1024x1024 .bf16) (harg13 : arg13.IsWhole) (arg14 : Memref sig .tc .vmem S1x256x1024 .bf16) (harg14 : arg14.IsWhole) (arg15 : Memref sig .tc .vmem S1x512x1024 .f32) (harg15 : arg15.IsWhole) (arg16 : Memref sig .tc .vmem S1x1x4x128x256 .f32) (harg16 : arg16.IsWhole) (arg17 : Memref sig .tc .vmem S1x512x1024 .bf16) (harg17 : arg17.IsWhole) (hc0 : ¬cond0_0 i) (x0 : Vec F S1x1x4x128x256 .f32) (x1 : Vec F S1x512x1024 .f32) (x2 : Vec F S1x1x512x256 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (x11 : Vec F S1x1024x1024 .bf16) (x12 : Vec F S1x256x1024 .bf16) (xo14 : Vec F S1x1x4x128x256 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xo14).1 = [⟨Rect.unit ![0, 256, 0] S1x256x1024.size inb_S1x512x1024_S1x256x1024_0_256_0, yV x1 x2 x3 x7 x8 x9 x10 x11 x12 (obV (obFull x1 x3 x4 x5 x6 xo14) 1) 1⟩, ⟨Rect.unit ![0, 0, 0] S1x256x1024.size inb_S1x512x1024_S1x256x1024_0_0_0, yV x1 x2 x3 x7 x8 x9 x10 x11 x12 (obV (obFull x1 x3 x4 x5 x6 xo14) 0) 0⟩] := by
  show [(⟨Rect.unit ![0, 256, 0] S1x256x1024.size inb_S1x512x1024_S1x256x1024_0_256_0, k0_pay258 (kernelRun0_B.sl.r_195 c arg3 harg3 arg4 harg4 arg5 harg5 arg6 harg6 arg7 harg7 arg8 harg8 arg9 harg9 arg10 harg10 arg11 harg11 arg12 harg12 arg13 harg13 arg14 harg14 arg16 harg16 arg17 x1 x2 x3 x4 x5 x6 x7 x8 x9 x10 x11 x12 xo14) (kernelRun0_B.sl.r_196 c arg5 harg5 x3) (kernelRun0_B.sl.r_197 c arg3 harg3 arg4 harg4 arg5 harg5 arg6 harg6 arg7 harg7 arg8 harg8 arg9 harg9 arg10 harg10 arg11 harg11 arg12 harg12 arg13 harg13 arg14 harg14 arg16 harg16 arg17 x1 x2 x3 x4 x5 x6 x7 x8 x9 x10 x11 x12 xo14) kernelRun0_B.sl.cst_707⟩ : View.Piece (Elt F) S1x512x1024 .f32),
    ⟨Rect.unit ![0, 0, 0] S1x256x1024.size inb_S1x512x1024_S1x256x1024_0_0_0, k0_pay235 (kernelRun0_B.sl.r_164 c arg3 harg3 arg5 harg5 arg6 harg6 arg7 harg7 arg8 harg8 arg9 harg9 arg10 harg10 arg11 harg11 arg12 harg12 arg16 harg16 arg17 x1 x3 x4 x5 x6 x7 x8 x9 x10 xo14) (kernelRun0_B.sl.r_167 c arg3 harg3 arg5 harg5 arg6 harg6 arg7 harg7 arg8 harg8 arg9 harg9 arg10 harg10 arg11 harg11 arg12 harg12 arg13 harg13 arg16 harg16 arg17 x1 x3 x4 x5 x6 x7 x8 x9 x10 x11 xo14) (View.readAt (Elt F) arg4.view (Rect.unit ![0, 0, 0, 0] S1x1x256x256.size inb_S1x1x512x256_S1x1x256x256_0_0_0_0 : Rect S1x1x512x256).toLoadRect (harg4.unread x2)) (View.readAt (Elt F) arg14.view (Rect.unit ![0, 0, 0] S1x256x1024.size inb_S1x256x1024_S1x256x1024_0_0_0 : Rect S1x256x1024).toLoadRect (harg14.unread x12)) (View.readAt (Elt F) arg5.view (Rect.unit ![0, 5, 0] S1x1x1024.size inb_S1x8x1024_S1x1x1024_0_5_0 : Rect S1x8x1024).toLoadRect (harg5.unread x3))⟩] = _
  simp only [r_195_eq, r_164_eq, r_167_eq, kernelRun0_B.sl.r_196, kernelRun0_B.sl.r_197, kernelRun0_B.sl.cst_707, r_175_eq, kernelRun0_B.sl.r_192, kernelRun0_B.sl.r_193, kernelRun0_B.sl.r_194, kernelRun0_B.sl.r_189, kernelRun0_B.sl.r_190, kernelRun0_B.sl.r_191, kernelRun0_B.sl.r_185, kernelRun0_B.sl.r_186, kernelRun0_B.sl.r_187, kernelRun0_B.sl.r_188, kernelRun0_B.sl.r_180, kernelRun0_B.sl.r_181, kernelRun0_B.sl.r_182, kernelRun0_B.sl.r_183, kernelRun0_B.sl.r_184, kernelRun0_B.sl.r_177, kernelRun0_B.sl.r_178, kernelRun0_B.sl.r_179, r_176_eq, v1330_eq, v561_eq, View.readAt_eq_ld, Memref.IsWhole.read_unread]
  rfl

/-- The four stores of the state block. -/
theorem pieces14 (c : Dev nD) (i : grid0.Coords) (arg2 : Memref sig .tc .vmem S1x1x4x128x256 .f32) (harg2 : arg2.IsWhole) (arg3 : Memref sig .tc .vmem S1x512x1024 .f32) (harg3 : arg3.IsWhole) (arg4 : Memref sig .tc .vmem S1x1x512x256 .f32) (harg4 : arg4.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg13 : Memref sig .tc .vmem S1x1024x1024 .bf16) (harg13 : arg13.IsWhole) (arg14 : Memref sig .tc .vmem S1x256x1024 .bf16) (harg14 : arg14.IsWhole) (arg15 : Memref sig .tc .vmem S1x512x1024 .f32) (harg15 : arg15.IsWhole) (arg16 : Memref sig .tc .vmem S1x1x4x128x256 .f32) (harg16 : arg16.IsWhole) (arg17 : Memref sig .tc .vmem S1x512x1024 .bf16) (harg17 : arg17.IsWhole) (hc0 : ¬cond0_0 i) (x0 : Vec F S1x1x4x128x256 .f32) (x1 : Vec F S1x512x1024 .f32) (x2 : Vec F S1x1x512x256 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (x11 : Vec F S1x1024x1024 .bf16) (x12 : Vec F S1x256x1024 .bf16) (xo14 : Vec F S1x1x4x128x256 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xo14).2.1 = ⟨Rect.unit ![0, 0, 3, 0, 0] S1x1x1x128x256.size inb_S1x1x4x128x256_S1x1x1x128x256_0_0_3_0_0, shapeCast S1x1x1x128x256 (statesV x1 x3 x4 x5 x6 1 3 (startV x1 x3 x4 x5 x6 xo14 3 1) 4) shapeCasts_S128x256_S1x1x1x128x256⟩ :: ⟨Rect.unit ![0, 0, 2, 0, 0] S1x1x1x128x256.size inb_S1x1x4x128x256_S1x1x1x128x256_0_0_2_0_0, shapeCast S1x1x1x128x256 (statesV x1 x3 x4 x5 x6 1 2 (startV x1 x3 x4 x5 x6 xo14 2 1) 4) shapeCasts_S128x256_S1x1x1x128x256⟩ :: ⟨Rect.unit ![0, 0, 1, 0, 0] S1x1x1x128x256.size inb_S1x1x4x128x256_S1x1x1x128x256_0_0_1_0_0, shapeCast S1x1x1x128x256 (statesV x1 x3 x4 x5 x6 1 1 (startV x1 x3 x4 x5 x6 xo14 1 1) 4) shapeCasts_S128x256_S1x1x1x128x256⟩ :: ⟨Rect.unit ![0, 0, 0, 0, 0] S1x1x1x128x256.size inb_S1x1x4x128x256_S1x1x1x128x256_0_0_0_0_0, shapeCast S1x1x1x128x256 (statesV x1 x3 x4 x5 x6 1 0 (startV x1 x3 x4 x5 x6 xo14 0 1) 4) shapeCasts_S128x256_S1x1x1x128x256⟩ :: [] := by
  show (⟨Rect.unit ![0, 0, 3, 0, 0] S1x1x1x128x256.size inb_S1x1x4x128x256_S1x1x1x128x256_0_0_3_0_0, k0_pay4 (kernelRun0_B.sl.r_174 c arg3 harg3 arg5 harg5 arg6 harg6 arg7 harg7 arg8 harg8 arg16 harg16 x1 x3 x4 x5 x6 xo14)⟩ : View.Piece (Elt F) S1x1x4x128x256 .f32) :: ⟨Rect.unit ![0, 0, 2, 0, 0] S1x1x1x128x256.size inb_S1x1x4x128x256_S1x1x1x128x256_0_0_2_0_0, k0_pay3 (kernelRun0_B.sl.r_159 c arg3 harg3 arg5 harg5 arg6 harg6 arg7 harg7 arg8 harg8 arg16 harg16 x1 x3 x4 x5 x6 xo14)⟩ :: ⟨Rect.unit ![0, 0, 1, 0, 0] S1x1x1x128x256.size inb_S1x1x4x128x256_S1x1x1x128x256_0_0_1_0_0, k0_pay2 (kernelRun0_B.sl.r_142 c arg3 harg3 arg5 harg5 arg6 harg6 arg7 harg7 arg8 harg8 arg16 harg16 x1 x3 x4 x5 x6 xo14)⟩ :: ⟨Rect.unit ![0, 0, 0, 0, 0] S1x1x1x128x256.size inb_S1x1x4x128x256_S1x1x1x128x256_0_0_0_0_0, k0_pay1 (kernelRun0_B.sl.r_122 c arg3 harg3 arg5 harg5 arg6 harg6 arg7 harg7 arg8 harg8 arg16 harg16 x1 x3 x4 x5 x6 xo14)⟩ :: [] = _
  simp only [r_122_eq, r_142_eq, r_159_eq, r_174_eq]
  rfl

/-- The tile's result rows. -/
theorem out13_eq (c : Dev nD) (i : grid0.Coords) (arg2 : Memref sig .tc .vmem S1x1x4x128x256 .f32) (harg2 : arg2.IsWhole) (arg3 : Memref sig .tc .vmem S1x512x1024 .f32) (harg3 : arg3.IsWhole) (arg4 : Memref sig .tc .vmem S1x1x512x256 .f32) (harg4 : arg4.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg13 : Memref sig .tc .vmem S1x1024x1024 .bf16) (harg13 : arg13.IsWhole) (arg14 : Memref sig .tc .vmem S1x256x1024 .bf16) (harg14 : arg14.IsWhole) (arg15 : Memref sig .tc .vmem S1x512x1024 .f32) (harg15 : arg15.IsWhole) (arg16 : Memref sig .tc .vmem S1x1x4x128x256 .f32) (harg16 : arg16.IsWhole) (arg17 : Memref sig .tc .vmem S1x512x1024 .bf16) (harg17 : arg17.IsWhole) (hc0 : ¬cond0_0 i) (x0 : Vec F S1x1x4x128x256 .f32) (x1 : Vec F S1x512x1024 .f32) (x2 : Vec F S1x1x512x256 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (x11 : Vec F S1x1024x1024 .bf16) (x12 : Vec F S1x256x1024 .bf16) (xo14 : Vec F S1x1x4x128x256 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xo14 = yFull x1 x2 x3 x4 x5 x6 x7 x8 x9 x10 x11 x12 xo14 := by
  unfold out0_B_13
  rw [pieces13, View.read_writes_junk_eq_canon]
  exact rows_canon _ _ _ _ _ _ _ _ _ _ _ _ _

/-- The tile's final states. -/
theorem out14_eq (c : Dev nD) (i : grid0.Coords) (arg2 : Memref sig .tc .vmem S1x1x4x128x256 .f32) (harg2 : arg2.IsWhole) (arg3 : Memref sig .tc .vmem S1x512x1024 .f32) (harg3 : arg3.IsWhole) (arg4 : Memref sig .tc .vmem S1x1x512x256 .f32) (harg4 : arg4.IsWhole) (arg5 : Memref sig .tc .vmem S1x8x1024 .f32) (harg5 : arg5.IsWhole) (arg6 : Memref sig .tc .vmem S1x1024x3088 .bf16) (harg6 : arg6.IsWhole) (arg7 : Memref sig .tc .vmem S1x1024x128 .bf16) (harg7 : arg7.IsWhole) (arg8 : Memref sig .tc .vmem S1x128x512 .bf16) (harg8 : arg8.IsWhole) (arg9 : Memref sig .tc .vmem S1x1024x1024 .bf16) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x2816x1024 .bf16) (harg12 : arg12.IsWhole) (arg13 : Memref sig .tc .vmem S1x1024x1024 .bf16) (harg13 : arg13.IsWhole) (arg14 : Memref sig .tc .vmem S1x256x1024 .bf16) (harg14 : arg14.IsWhole) (arg15 : Memref sig .tc .vmem S1x512x1024 .f32) (harg15 : arg15.IsWhole) (arg16 : Memref sig .tc .vmem S1x1x4x128x256 .f32) (harg16 : arg16.IsWhole) (arg17 : Memref sig .tc .vmem S1x512x1024 .bf16) (harg17 : arg17.IsWhole) (hc0 : ¬cond0_0 i) (x0 : Vec F S1x1x4x128x256 .f32) (x1 : Vec F S1x512x1024 .f32) (x2 : Vec F S1x1x512x256 .f32) (x3 : Vec F S1x8x1024 .f32) (x4 : Vec F S1x1024x3088 .bf16) (x5 : Vec F S1x1024x128 .bf16) (x6 : Vec F S1x128x512 .bf16) (x7 : Vec F S1x1024x1024 .bf16) (x8 : Vec F S1x1024x2816 .bf16) (x9 : Vec F S1x1024x2816 .bf16) (x10 : Vec F S1x2816x1024 .bf16) (x11 : Vec F S1x1024x1024 .bf16) (x12 : Vec F S1x256x1024 .bf16) (xo14 : Vec F S1x1x4x128x256 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xo14 = sFull x1 x3 x4 x5 x6 xo14 := by
  unfold out0_B_14
  rw [pieces14, View.read_writes_junk_eq_canon]
  exact states_canon _ _ _ _ _ _ _

end Cert.KernelIdeal.Gla.CaseB
-- ==== Proof.Grid.lean ====
/-
  The grid: point `8 b + i` carries batch `b`'s state from chunk `8 i` to chunk `8 i + 8` and writes that tile's rows; so the
  two result arrays are the layer's outputs and its last state.
-/
module

public import proofs.«01_k».proof.Proof.Entry
public import proofs.«01_k».proof.Proof.OutA
public import proofs.«01_k».proof.Proof.OutB

@[expose] public section

set_option maxRecDepth 16384
set_option maxHeartbeats 1000000

noncomputable section

namespace Cert.KernelIdeal.Gla

open Cert.KernelIdeal Cert.KernelIdeal.Gen Cert.Gla Idealize.ShloMosaic Idealize.ShloMosaic.TcCoe Idealize.SL.Sem

variable (m : (ℓ : Loc nD τ sig) → Buf (Elt Ideal) ℓ)

/-- Batch `b`'s input rows. -/
def kH (c : Dev nD) (b : Fin 4) : ℕ → Fin 1024 → EReal := hOf (m ((c : Thread nD τ).loc main_arg0)) b

/-- Batch `b`'s embedding rows. -/
def kP (c : Dev nD) (b : Fin 4) : ℕ → Fin 256 → EReal := pOf (m ((c : Thread nD τ).loc main_arg1)) b

theorem stT_zero (W : Wts) (H : ℕ → Fin 1024 → EReal) (h : Fin 4) (j : Fin 128) (d : Fin 256) : stT W H h 0 j d = 0 := rfl

theorem bN_pred {n : ℕ} (h : ¬ n % 8 = 0) : bN (n - 1) = bN n := Fin.ext (by unfold bN; simp only; omega)

/-- What a point leaves in the state's window. -/
theorem grid_state (c : Dev nD) : ∀ (n : ℕ) (hn : n < cfg0.N) (h : Fin 4) (j : Fin 128) (d : Fin 256),
    (outsAt0 m c n hn).2 (ix5 0 0 h j d) = stT (kW m c) (kH m c (bN n)) h (8 * (n % 8) + 8) j d := by
  intro n
  induction n using Nat.strong_induction_on with
  | _ n ih =>
    intro hn h j d
    by_cases h0 : n % 8 = 0
    · have e := congrFun (congrArg Prod.snd (outsAt0_A m c ⟨n, hn⟩ h0)) (ix5 0 0 h j d)
      refine e.trans ?_
      simp only [CaseA.out14_eq]
      exact tile_state (kw m c ⟨n, hn⟩) _ _ _ (8 * (n % 8)) (fun u i => blk1 m c ⟨n, hn⟩ u i)
        (fun h j d => (blk0 m c ⟨n, hn⟩ h j d).trans (by rw [h0]; rfl)) h j d
    · have e := congrFun (congrArg Prod.snd (outsAt0_B m c ⟨n, hn⟩ h0)) (ix5 0 0 h j d)
      refine e.trans ?_
      simp only [CaseB.out14_eq]
      refine tile_state (kw m c ⟨n, hn⟩) _ _ _ (8 * (n % 8)) (fun u i => blk1 m c ⟨n, hn⟩ u i)
        (fun h j d => (ih (n - 1) (by omega) _ h j d).trans ?_) h j d
      rw [bN_pred h0, show 8 * ((n - 1) % 8) + 8 = 8 * (n % 8) by omega]
      rfl

/-- What a point leaves in the output's window. -/
theorem grid_y (c : Dev nD) (n : ℕ) (hn : n < cfg0.N) (u : Fin 512) (i : Fin 1024) :
    (outsAt0 m c n hn).1 (ix3 0 u i) = outT (kW m c) (kH m c (bN n)) (kP m c (bN n)) (64 * (8 * (n % 8)) + u) i := by
  by_cases h0 : n % 8 = 0
  · have e := congrFun (congrArg Prod.fst (outsAt0_A m c ⟨n, hn⟩ h0)) (ix3 0 u i)
    refine e.trans ?_
    simp only [CaseA.out13_eq]
    exact tile_y (kw m c ⟨n, hn⟩) _ _ _ _ _ (8 * (n % 8)) (fun u i => blk1 m c ⟨n, hn⟩ u i) (fun u i => blk2 m c ⟨n, hn⟩ u i)
      (fun h j d => (blk0 m c ⟨n, hn⟩ h j d).trans (by rw [h0]; rfl)) u i
  · have e := congrFun (congrArg Prod.fst (outsAt0_B m c ⟨n, hn⟩ h0)) (ix3 0 u i)
    refine e.trans ?_
    simp only [CaseB.out13_eq]
    refine tile_y (kw m c ⟨n, hn⟩) _ _ _ _ _ (8 * (n % 8)) (fun u i => blk1 m c ⟨n, hn⟩ u i) (fun u i => blk2 m c ⟨n, hn⟩ u i)
      (fun h j d => (grid_state m c (n - 1) _ h j d).trans ?_) u i
    rw [bN_pred h0, show 8 * ((n - 1) % 8) + 8 = 8 * (n % 8) by omega]
    rfl

theorem out_congr (W : Wts) (c : Dev nD) {b b' : Fin 4} {t t' : ℕ} {i i' : Fin 1024} (hb : b' = b) (ht : t' = t) (hi : i' = i) :
    outT W (kH m c b) (kP m c b) t i = outT W (kH m c b') (kP m c b') t' i' := by
  subst hb ht hi; rfl

theorem st_congr (W : Wts) (c : Dev nD) {b b' h h' : Fin 4} {n n' : ℕ} {j j' : Fin 128} {d d' : Fin 256} (hb : b' = b) (hh : h' = h) (hn : n' = n)
    (hj : j' = j) (hd : d' = d) : stT W (kH m c b) h n j d = stT W (kH m c b') h' n' j' d' := by
  subst hb hh hn hj hd; rfl

/-- The output array. -/
theorem final_y (c : Dev nD) : (dats m 0 c).arrAt 13 cfg0.N
    = fun i : S4x4096x1024.Idx => outT (kW m c) (kH m c (i 0)) (kP m c (i 0)) (i 1).val (i 2) := by
  refine (dats m 0 c).arrAt_eq_of_covers 13 _ (by decide +kernel) fun t hf y => ?_
  have h32 := (idx t).2.2.2.2.2.2.2.2.2.2.2.2.2.2.2
  have y0 : (y 0 : ℕ) < 1 := (y 0).isLt
  have y1 : (y 1 : ℕ) < 512 := (y 1).isLt
  have y2 : (y 2 : ℕ) < 1024 := (y 2).isLt
  have ey : y = (ix3 0 ⟨(y 1 : ℕ), y1⟩ ⟨(y 2 : ℕ), y2⟩ : S1x512x1024.Idx) := by
    funext a; match a with
    | 0 => exact Fin.ext (by have := y0; show (y 0 : ℕ) = 0; omega)
    | 1 => rfl
    | 2 => rfl
  have key := grid_y m c t.val t.isLt ⟨(y 1 : ℕ), y1⟩ ⟨(y 2 : ℕ), y2⟩
  rw [← ey] at key
  refine (congrFun (after0_13 m c t) y).trans (key.trans ?_)
  refine out_congr m _ c (Fin.ext ?_) ?_ (Fin.ext ?_)
  · blk_simp [idx t]; simp only [bN]; omega
  · blk_simp [idx t]; dsimp only; omega
  · blk_simp [idx t]

theorem flush14 : ∀ t : Fin cfg0.N, (cfg0.win 14).flush t = true → t.val % 8 = 7 :=
  (by decide +kernel : ∀ t : Fin grid0.N, _)

/-- The state array. -/
theorem final_s (c : Dev nD) : (dats m 0 c).arrAt 14 cfg0.N
    = fun i : S1x4x4x128x256.Idx => stT (kW m c) (kH m c (i 1)) (i 2) 64 (i 3) (i 4) := by
  refine (dats m 0 c).arrAt_eq_of_covers 14 _ (by decide +kernel) fun t hf y => ?_
  have h32 := (idx t).2.2.2.2.2.2.2.2.2.2.2.2.2.2.2
  have y0 : (y 0 : ℕ) < 1 := (y 0).isLt
  have y1 : (y 1 : ℕ) < 1 := (y 1).isLt
  have y2 : (y 2 : ℕ) < 4 := (y 2).isLt
  have y3 : (y 3 : ℕ) < 128 := (y 3).isLt
  have y4 : (y 4 : ℕ) < 256 := (y 4).isLt
  have ey : y = (ix5 0 0 ⟨(y 2 : ℕ), y2⟩ ⟨(y 3 : ℕ), y3⟩ ⟨(y 4 : ℕ), y4⟩ : S1x1x4x128x256.Idx) := by
    funext a; match a with
    | 0 => exact Fin.ext (by have := y0; show (y 0 : ℕ) = 0; omega)
    | 1 => exact Fin.ext (by have := y1; show (y 1 : ℕ) = 0; omega)
    | 2 => rfl
    | 3 => rfl
    | 4 => rfl
  have key := grid_state m c t.val t.isLt ⟨(y 2 : ℕ), y2⟩ ⟨(y 3 : ℕ), y3⟩ ⟨(y 4 : ℕ), y4⟩
  rw [← ey] at key
  have h7 := flush14 t hf
  refine (congrFun (after0_14 m c t) y).trans (key.trans ?_)
  refine st_congr m _ c (Fin.ext ?_) (Fin.ext ?_) (by omega) (Fin.ext ?_) (Fin.ext ?_)
  · blk_simp [idx t]; simp only [bN]; omega
  · blk_simp [idx t]
  · blk_simp [idx t]
  · blk_simp [idx t]

end Cert.KernelIdeal.Gla
-- ==== Proof.RefStep.lean ====
/-
  One trip of the reference's loop: the block it cuts, the running sums of the log decays, the next state and the block of outputs.
-/
module

public import proofs.«01_k».proof.Proof.Spec
public import proofs.«01_k».proof.Proof.Scal
public import proofs.«01_k».proof.Proof.Gen.ReferenceIdeal.Run
public import Idealize.ShloMosaic.Lib.Pointwise
public import Idealize.ShloMosaic.Lib.DynamicIndex
public import Idealize.ShloMosaic.Lib.WordCmp
public import Idealize.ShloMosaic.Lib.Pipeline.ValueKit

@[expose] public section

set_option maxRecDepth 16384
set_option maxHeartbeats 1000000

noncomputable section

namespace Cert.ReferenceIdeal.Gla

open Cert.ReferenceIdeal Cert.ReferenceIdeal.Gen Cert.ReferenceIdeal.Value Cert.Gla Idealize.ShloMosaic Idealize.ShloMosaic.TcCoe Idealize.SL.Sem

/-- A left fold of sums over the positions is the sum. -/
theorem fold_sum (N : ℕ) (g : Fin N → EReal) : (List.finRange N).foldl (fun r n => r + g n) 0 = ∑ n, g n := by
  rw [Fin.sum_univ_def, List.sum_eq_foldl, List.foldl_map]

/-- A window of 1 × 64 × 1 × 1 has the 64 positions of its second axis. -/
theorem sum_window (g : (⟨4, ![1, 64, 1, 1]⟩ : Shape).Idx → EReal) : ∑ p, g p = ∑ s : Fin 64, g (ix4 0 s 0 0) := by
  symm
  refine Fintype.sum_bijective (fun s : Fin 64 => (ix4 0 s 0 0 : (⟨4, ![1, 64, 1, 1]⟩ : Shape).Idx)) ⟨fun a b e => congrFun e 1, fun p => ⟨p 1, ?_⟩⟩ _ _ (fun _ => rfl)
  funext a
  match a with
  | 0 => exact Fin.ext (by have : (p 0 : ℕ) < 1 := (p 0).isLt; show 0 = (p 0 : ℕ); omega)
  | 1 => rfl
  | 2 => exact Fin.ext (by have : (p 2 : ℕ) < 1 := (p 2).isLt; show 0 = (p 2 : ℕ); omega)
  | 3 => exact Fin.ext (by have : (p 3 : ℕ) < 1 := (p 3).isLt; show 0 = (p 3 : ℕ); omega)

/-- The host's running sum along the second axis. -/
theorem cumsum_at (x : FVec Ideal S4x64x4x128 .f32) (init : FVec Ideal S_ .f32) (hi : init (Shape.Idx.first h_S_) = (0 : EReal))
    (h : S4x64x4x128.ReduceWindows ![1, 64, 1, 1] ![1, 1, 1, 1] ![0, 63, 0, 0] ![0, 0, 0, 0] S4x64x4x128) (b : Fin 4) (i : Fin 64) (k : Fin 4) (j : Fin 128) :
    Host.reduceWindowAdd ![1, 64, 1, 1] ![1, 1, 1, 1] ![0, 63, 0, 0] ![0, 0, 0, 0] x init h h_S_ (ix4 b i k j)
      = ∑ s : Fin 64, if (s : ℕ) ≤ i then x (ix4 b s k j) else 0 := by
  change (List.finRange _).foldl _ (init (Shape.Idx.first h_S_)) = _
  rw [hi]
  refine (fold_sum _ _).trans ?_
  refine (Equiv.sum_comp (⟨4, ![1, 64, 1, 1]⟩ : Shape).rowMajor.symm (fun p => @dite EReal (∀ a : Fin 4, (![0, 63, 0, 0] : Fin 4 → ℕ) a ≤ ((ix4 b i k j : S4x64x4x128.Idx) a : ℕ) * (![1, 1, 1, 1] : Fin 4 → ℕ) a + (p a : ℕ)
      ∧ ((ix4 b i k j : S4x64x4x128.Idx) a : ℕ) * (![1, 1, 1, 1] : Fin 4 → ℕ) a + (p a : ℕ) - (![0, 63, 0, 0] : Fin 4 → ℕ) a < S4x64x4x128.size a) (Nat.decidableForallFin _) (fun hin => x (fun a => ⟨_, (hin a).2⟩)) (fun _ => 0))).trans ?_
  rw [sum_window]
  refine Fintype.sum_equiv (Equiv.addRight (⟨((i : ℕ) + 1) % 64, by omega⟩ : Fin 64)) _ _ fun s => ?_
  have e : ((Equiv.addRight (⟨((i : ℕ) + 1) % 64, by omega⟩ : Fin 64) s : Fin 64) : ℕ) = (s + (i + 1)) % 64 := by
    simp [Fin.val_add]
  have hs := s.isLt
  have hi' := i.isLt
  rw [e]
  by_cases hc : 63 ≤ (i : ℕ) + s
  · rw [if_pos (by omega), dif_pos]
    · refine congrArg x (funext fun a => ?_)
      match a with
      | 0 => exact Fin.ext (by show (b : ℕ) * 1 + 0 - 0 = b; omega)
      | 1 => exact Fin.ext (by rw [show ((ix4 b (Equiv.addRight (⟨((i : ℕ) + 1) % 64, by omega⟩ : Fin 64) s) k j : S4x64x4x128.Idx) 1 : ℕ) = (s + (i + 1)) % 64 from e]; show (i : ℕ) * 1 + s - 63 = _; omega)
      | 2 => exact Fin.ext (by show (k : ℕ) * 1 + 0 - 0 = k; omega)
      | 3 => exact Fin.ext (by show (j : ℕ) * 1 + 0 - 0 = j; omega)
    · intro a
      match a with
      | 0 => exact ⟨Nat.zero_le _, by show (b : ℕ) * 1 + 0 - 0 < 4; omega⟩
      | 1 => exact ⟨by show 63 ≤ (i : ℕ) * 1 + s; omega, by show (i : ℕ) * 1 + s - 63 < 64; omega⟩
      | 2 => exact ⟨Nat.zero_le _, by show (k : ℕ) * 1 + 0 - 0 < 4; omega⟩
      | 3 => exact ⟨Nat.zero_le _, by show (j : ℕ) * 1 + 0 - 0 < 128; omega⟩
  · rw [if_neg (by omega), dif_neg]
    intro hin
    have := (hin 1).1
    change 63 ≤ (i : ℕ) * 1 + (s : ℕ) at this
    omega

/-- The starts of the loop's block reads, at trip `n`. -/
theorem start_eq (ctr : IVec S_ 32) (n : Fin 64) (hc : ctr = fun _ => BitVec.ofNat 32 n) (a : Fin 5) :
    ((![ctr, constantI S_ 32 0#32, constantI S_ 32 0#32, constantI S_ 32 0#32, constantI S_ 32 0#32] : Fin 5 → IVec S_ 32) a (Shape.Idx.first h_S_)).toInt
      = ((![(n : ℕ), 0, 0, 0, 0] : Fin 5 → ℕ) a : ℤ) := by
  subst hc
  match a with
  | 0 => exact WordCmp.toInt_ofNat_of_lt (by omega)
  | 1 => rfl
  | 2 => rfl
  | 3 => rfl
  | 4 => rfl

/-- The loop's block of 128-column heads at trip `n`. -/
theorem cut128 (x : FVec Ideal S64x4x64x4x128 .f32) (ctr : IVec S_ 32) (n : Fin 64) (hc : ctr = fun _ => BitVec.ofNat 32 n) (b : Fin 4) (i : Fin 64) (h : Fin 4) (j : Fin 128) :
    shapeCast S4x64x4x128 (Host.dynamicSlice S1x4x64x4x128 x (fun k => (((![ctr, constantI S_ 32 0#32, constantI S_ 32 0#32, constantI S_ 32 0#32, constantI S_ 32 0#32] : Fin 5 → IVec S_ 32)) k (Shape.Idx.first h_S_)).toInt) sliceFits_S64x4x64x4x128_S1x4x64x4x128) shapeCasts_S1x4x64x4x128_S4x64x4x128 (ix4 b i h j)
      = x (ix5 n b i h j) := by
  rw [Host.dynamicSlice_eq_extractStridedSlice S1x4x64x4x128 x _ ![(n : ℕ), 0, 0, 0, 0] _ ⟨rfl, fun a => by
    match a with
    | 0 => show (n : ℕ) + 1 ≤ 64; omega
    | 1 => exact le_refl _
    | 2 => exact le_refl _
    | 3 => exact le_refl _
    | 4 => exact le_refl _⟩ (start_eq ctr n hc)]
  pointwise

/-- The loop's block of 256-column heads at trip `n`. -/
theorem cut256 (x : FVec Ideal S64x4x64x4x256 .f32) (ctr : IVec S_ 32) (n : Fin 64) (hc : ctr = fun _ => BitVec.ofNat 32 n) (b : Fin 4) (i : Fin 64) (h : Fin 4) (j : Fin 256) :
    shapeCast S4x64x4x256 (Host.dynamicSlice S1x4x64x4x256 x (fun k => (((![ctr, constantI S_ 32 0#32, constantI S_ 32 0#32, constantI S_ 32 0#32, constantI S_ 32 0#32] : Fin 5 → IVec S_ 32)) k (Shape.Idx.first h_S_)).toInt) sliceFits_S64x4x64x4x256_S1x4x64x4x256) shapeCasts_S1x4x64x4x256_S4x64x4x256 (ix4 b i h j)
      = x (ix5 n b i h j) := by
  rw [Host.dynamicSlice_eq_extractStridedSlice S1x4x64x4x256 x _ ![(n : ℕ), 0, 0, 0, 0] _ ⟨rfl, fun a => by
    match a with
    | 0 => show (n : ℕ) + 1 ≤ 64; omega
    | 1 => exact le_refl _
    | 2 => exact le_refl _
    | 3 => exact le_refl _
    | 4 => exact le_refl _⟩ (start_eq ctr n hc)]
  pointwise

/-- The loop's write of its block of outputs at trip `n`. -/
theorem put256 (x : FVec Ideal S64x4x64x4x256 .f32) (X : FVec Ideal S4x64x4x256 .f32) (ctr : IVec S_ 32) (n : Fin 64) (hc : ctr = fun _ => BitVec.ofNat 32 n) (r : Fin 64) (b : Fin 4) (i : Fin 64) (h : Fin 4) (j : Fin 256) :
    Host.dynamicUpdateSlice x (broadcastInDim S1x4x64x4x256 ![1, 2, 3, 4] bcast_S4x64x4x256_S1x4x64x4x256_1_2_3_4 X) (fun k => (((![ctr, constantI S_ 32 0#32, constantI S_ 32 0#32, constantI S_ 32 0#32, constantI S_ 32 0#32] : Fin 5 → IVec S_ 32)) k (Shape.Idx.first h_S_)).toInt) updateFits_S64x4x64x4x256_S1x4x64x4x256 (ix5 r b i h j)
      = if r = n then X (ix4 b i h j) else x (ix5 r b i h j) := by
  refine (congrFun (Host.dynamicUpdateSlice_eq_updateSlice x _ _ updateFits_S64x4x64x4x256_S1x4x64x4x256 ![(n : ℕ), 0, 0, 0, 0] (fun a => ?_) ⟨rfl, fun a => by
    match a with
    | 0 => show (n : ℕ) + 1 ≤ 64; omega
    | 1 => exact le_refl _
    | 2 => exact le_refl _
    | 3 => exact le_refl _
    | 4 => exact le_refl _⟩) _).trans ?_
  · rw [start_eq _ n hc]
    match a with
    | 0 => show (min (max ((n : ℕ) : ℤ) 0) ((64 - 1 : ℕ) : ℤ)).toNat = n; omega
    | 1 => rfl
    | 2 => rfl
    | 3 => rfl
    | 4 => rfl
  · by_cases hr : r = n
    · subst hr
      pointwise
      exact dif_pos ⟨le_refl _, Nat.lt_succ_self _⟩
    · rw [if_neg hr]
      pointwise
      exact dif_neg (fun hh => hr (Fin.ext (by omega)))

/-- The row block's scores, the state and the outputs of a trip, from its cut blocks. -/
def scoresV (kb qd cm : FVec Ideal S4x64x4x128 .f32) (mask : IVec S64x64 1) : FVec Ideal S4x4x64x64 .f32 :=
  select (broadcastInDim S4x4x64x64 ![2, 3] bcast_S64x64_S4x4x64x64_2_3 mask) (Host.dotGeneral dot_S4x64x4x128_S4x64x4x128_S4x4x64x64_3_3_1_1_02_02 none qd (mulf kb (Host.exp (Host.negf cm)))) (broadcastInDim S4x4x64x64 ![] bcast_S_S4x4x64x64 (id (constant S_ .f32 0x00000000#32)))

theorem scores_at (kb qd cm : FVec Ideal S4x64x4x128 .f32) (mask : IVec S64x64 1) (hm : ∀ i s : Fin 64, mask (ix2 i s) = BitVec.ofBool (decide ((s : ℕ) ≤ i))) (b h : Fin 4) (i s : Fin 64) :
    scoresV kb qd cm mask (ix4 b h i s) = if (s : ℕ) ≤ i then ∑ j, qd (ix4 b i h j) * (kb (ix4 b s h j) * Ideal.exp (0 - cm (ix4 b s h j))) else 0 := by
  pointwise [scoresV, hm, id]
  simp only [zero_sub]

def outV (kb qd cm : FVec Ideal S4x64x4x128 .f32) (vb : FVec Ideal S4x64x4x256 .f32) (mask : IVec S64x64 1) (S : FVec Ideal S4x4x128x256 .f32) : FVec Ideal S4x64x4x256 .f32 :=
  addf (transpose S4x64x4x256 [0, 3, 1, 2] (Host.dotGeneral dot_S4x64x4x256_S4x4x64x64_S4x4x256x64_1_3_3_2_02_01 none vb (scoresV kb qd cm mask)) transposes_S4x4x256x64_S4x64x4x256_0_3_1_2) (transpose S4x64x4x256 [0, 3, 1, 2] (Host.dotGeneral dot_S4x4x128x256_S4x64x4x128_S4x4x256x64_2_3_3_1_01_02 none S qd) transposes_S4x4x256x64_S4x64x4x256_0_3_1_2)

theorem outV_at (kb qd cm : FVec Ideal S4x64x4x128 .f32) (vb : FVec Ideal S4x64x4x256 .f32) (mask : IVec S64x64 1) (S : FVec Ideal S4x4x128x256 .f32) (b h : Fin 4) (i : Fin 64) (d : Fin 256) :
    outV kb qd cm vb mask S (ix4 b i h d) = (∑ s : Fin 64, vb (ix4 b s h d) * scoresV kb qd cm mask (ix4 b h i s)) + ∑ j, S (ix4 b h j d) * qd (ix4 b i h j) := by
  pointwise [outV]

def stateV (kb cm : FVec Ideal S4x64x4x128 .f32) (vb : FVec Ideal S4x64x4x256 .f32) (L : FVec Ideal S4x4x128 .f32) (S : FVec Ideal S4x4x128x256 .f32) : FVec Ideal S4x4x128x256 .f32 :=
  addf (mulf (broadcastInDim S4x4x128x256 ![0, 1, 2, 3] bcast_S4x4x128x1_S4x4x128x256_0_1_2_3 (broadcastInDim S4x4x128x1 ![0, 1, 2] bcast_S4x4x128_S4x4x128x1_0_1_2 (Host.exp L))) S) (Host.dotGeneral dot_S4x64x4x128_S4x64x4x256_S4x4x128x256_1_1_3_3_02_02 none (mulf kb (Host.exp (subf (broadcastInDim S4x64x4x128 ![0, 1, 2, 3] bcast_S4x1x4x128_S4x64x4x128_0_1_2_3 (broadcastInDim S4x1x4x128 ![0, 2, 3] bcast_S4x4x128_S4x1x4x128_0_2_3 L)) cm))) vb)

theorem stateV_at (kb cm : FVec Ideal S4x64x4x128 .f32) (vb : FVec Ideal S4x64x4x256 .f32) (L : FVec Ideal S4x4x128 .f32) (S : FVec Ideal S4x4x128x256 .f32) (b h : Fin 4) (j : Fin 128) (d : Fin 256) :
    stateV kb cm vb L S (ix4 b h j d) = Ideal.exp (L (ix3 b h j)) * S (ix4 b h j d)
      + ∑ s : Fin 64, (kb (ix4 b s h j) * Ideal.exp (L (ix3 b h j) - cm (ix4 b s h j))) * vb (ix4 b s h d) := by
  pointwise [stateV]

section Trip

variable (V0 : Valuation τ sig (Elt Ideal)) (n : Fin 64) (hc : V0 (Proc.devRef .tc main_v49_5) = fun _ => BitVec.ofNat 32 n)
variable (q k la : Fin 4 → Fin 4 → ℕ → Fin 128 → EReal) (v : Fin 4 → Fin 4 → ℕ → Fin 256 → EReal)
variable (hq : ∀ (b : Fin 4) (i : Fin 64) (h : Fin 4) (j : _), (V0 (Proc.devRef .tc main_v49_0) : FVec Ideal S64x4x64x4x128 .f32) (ix5 n b i h j) = q b h (64 * n + i) j)
variable (hk : ∀ (b : Fin 4) (i : Fin 64) (h : Fin 4) (j : _), (V0 (Proc.devRef .tc main_v49_1) : FVec Ideal S64x4x64x4x128 .f32) (ix5 n b i h j) = k b h (64 * n + i) j)
variable (hv : ∀ (b : Fin 4) (i : Fin 64) (h : Fin 4) (j : _), (V0 (Proc.devRef .tc main_v49_2) : FVec Ideal S64x4x64x4x256 .f32) (ix5 n b i h j) = v b h (64 * n + i) j)
variable (hla : ∀ (b : Fin 4) (i : Fin 64) (h : Fin 4) (j : _), (V0 (Proc.devRef .tc main_v49_3) : FVec Ideal S64x4x64x4x128 .f32) (ix5 n b i h j) = la b h (64 * n + i) j)
variable (hm : ∀ i s : Fin 64, (V0 (Proc.devRef .tc main_v49_4) : IVec S64x64 1) (ix2 i s) = BitVec.ofBool (decide ((s : ℕ) ≤ i)))
variable (hS : ∀ b h j d, (V0 (Proc.devRef .tc main_v49_6) : FVec Ideal S4x4x128x256 .f32) (ix4 b h j d) = ST (k b h) (la b h) (v b h) n j d)

include hc

include hk in
theorem k_at (b : Fin 4) (i : Fin 64) (h : Fin 4) (j : Fin 128) : res_main_while0b_v145 V0 (ix4 b i h j) = k b h (64 * n + i) j :=
  (cut128 _ _ n hc b i h j).trans (hk b i h j)

include hv in
theorem v_at (b : Fin 4) (i : Fin 64) (h : Fin 4) (j : Fin 256) : res_main_while0b_v146 V0 (ix4 b i h j) = v b h (64 * n + i) j :=
  (cut256 _ _ n hc b i h j).trans (hv b i h j)

include hla in
theorem cum_at (b : Fin 4) (i : Fin 64) (h : Fin 4) (j : Fin 128) : res_main_while0b_v148 V0 (ix4 b i h j) = cum (la b h) n i j := by
  unfold res_main_while0b_v148
  refine (cumsum_at _ _ ?_ _ b i h j).trans ?_
  · pointwise
  · refine Finset.sum_congr rfl fun s _ => ?_
    exact if_congr Iff.rfl ((cut128 _ _ n hc b s h j).trans (hla b s h j)) rfl

include hla in
theorem last_at (b h : Fin 4) (j : Fin 128) : res_main_while0b_v162 V0 (ix3 b h j) = cum (la b h) n 63 j := by
  refine Eq.trans ?_ (cum_at V0 n hc la hla b 63 h j)
  pointwise [res_main_while0b_v162]

include hla hq in
theorem qd_at (b : Fin 4) (i : Fin 64) (h : Fin 4) (j : Fin 128) : res_main_while0b_v150 V0 (ix4 b i h j) = q b h (64 * n + i) j * Ideal.exp (cum (la b h) n i j) := by
  exact congrArg₂ (fun x y : EReal => x * Ideal.exp y) ((cut128 _ _ n hc b i h j).trans (hq b i h j)) (cum_at V0 n hc la hla b i h j)

include hk hv hla hS in
/-- The next state. -/
theorem state_at (b h : Fin 4) (j : Fin 128) (d : Fin 256) :
    (step_main_v49_6 V0 : FVec Ideal S4x4x128x256 .f32) (ix4 b h j d) = ST (k b h) (la b h) (v b h) (n + 1) j d := by
  refine (stateV_at (res_main_while0b_v145 V0) (res_main_while0b_v148 V0) (res_main_while0b_v146 V0) (res_main_while0b_v162 V0) (V0 (Proc.devRef .tc main_v49_6)) b h j d).trans ?_
  simp only [k_at V0 n hc k hk, v_at V0 n hc v hv, cum_at V0 n hc la hla, last_at V0 n hc la hla, hS]
  rfl

include hq hk hv hla hS hm in
/-- The trip's block of outputs. -/
theorem block_at (b h : Fin 4) (i : Fin 64) (d : Fin 256) :
    outV (res_main_while0b_v145 V0) (res_main_while0b_v150 V0) (res_main_while0b_v148 V0) (res_main_while0b_v146 V0) (V0 (Proc.devRef .tc main_v49_4)) (V0 (Proc.devRef .tc main_v49_6)) (ix4 b i h d)
      = OT (q b h) (k b h) (la b h) (v b h) n i d := by
  refine (outV_at _ _ _ _ _ _ b h i d).trans ?_
  simp only [scores_at _ _ _ _ hm, k_at V0 n hc k hk, v_at V0 n hc v hv, cum_at V0 n hc la hla, qd_at V0 n hc q la hq hla, hS, OT]
  refine congrArg₂ (· + ·) (Finset.sum_congr rfl fun s _ => mul_comm _ _) (Finset.sum_congr rfl fun s _ => mul_comm _ _)

include hq hk hv hla hS hm in
/-- The stacked outputs after the trip. -/
theorem stacked_at (r : Fin 64) (b h : Fin 4) (i : Fin 64) (d : Fin 256) :
    (step_main_v49_7 V0 : FVec Ideal S64x4x64x4x256 .f32) (ix5 r b i h d)
      = if r = n then OT (q b h) (k b h) (la b h) (v b h) n i d else (V0 (Proc.devRef .tc main_v49_7) : FVec Ideal S64x4x64x4x256 .f32) (ix5 r b i h d) := by
  rw [← block_at V0 n hc q k la v hq hk hv hla hm hS b h i d]
  unfold step_main_v49_7
  generalize hX : (addf (transpose S4x64x4x256 [0, 3, 1, 2] _ transposes_S4x4x256x64_S4x64x4x256_0_3_1_2) _ : FVec Ideal S4x64x4x256 .f32) = X
  have e : outV (res_main_while0b_v145 V0) (res_main_while0b_v150 V0) (res_main_while0b_v148 V0) (res_main_while0b_v146 V0) (V0 (Proc.devRef .tc main_v49_4)) (V0 (Proc.devRef .tc main_v49_6)) = X := hX
  rw [e]
  exact put256 _ X _ n hc r b i h d

end Trip

end Cert.ReferenceIdeal.Gla
-- ==== Proof.RefLoop.lean ====
/-
  The reference's loop after `k` trips: the state after `k` chunks, and the outputs of the chunks before.
-/
module

public import proofs.«01_k».proof.Proof.RefStep

@[expose] public section

set_option maxRecDepth 16384
set_option maxHeartbeats 1000000

noncomputable section

namespace Cert.ReferenceIdeal.Gla

open Cert.ReferenceIdeal Cert.ReferenceIdeal.Gen Cert.ReferenceIdeal.Value Cert.Gla Idealize.ShloMosaic Idealize.ShloMosaic.TcCoe Idealize.SL.Sem

/-- The loop's carried arrays after `k` trips. -/
structure Inv (q k la : Fin 4 → Fin 4 → ℕ → Fin 128 → EReal) (v : Fin 4 → Fin 4 → ℕ → Fin 256 → EReal) (V0 : Valuation τ sig (Elt Ideal)) (n : ℕ) : Prop where
  ctr : V0 (Proc.devRef .tc main_v49_5) = fun _ => BitVec.ofNat 32 n
  fq : ∀ (r : Fin 64) (b : Fin 4) (i : Fin 64) (h : Fin 4) (j : Fin 128), (V0 (Proc.devRef .tc main_v49_0) : FVec Ideal S64x4x64x4x128 .f32) (ix5 r b i h j) = q b h (64 * r + i) j
  fk : ∀ (r : Fin 64) (b : Fin 4) (i : Fin 64) (h : Fin 4) (j : Fin 128), (V0 (Proc.devRef .tc main_v49_1) : FVec Ideal S64x4x64x4x128 .f32) (ix5 r b i h j) = k b h (64 * r + i) j
  fv : ∀ (r : Fin 64) (b : Fin 4) (i : Fin 64) (h : Fin 4) (j : Fin 256), (V0 (Proc.devRef .tc main_v49_2) : FVec Ideal S64x4x64x4x256 .f32) (ix5 r b i h j) = v b h (64 * r + i) j
  fla : ∀ (r : Fin 64) (b : Fin 4) (i : Fin 64) (h : Fin 4) (j : Fin 128), (V0 (Proc.devRef .tc main_v49_3) : FVec Ideal S64x4x64x4x128 .f32) (ix5 r b i h j) = la b h (64 * r + i) j
  mask : ∀ i s : Fin 64, (V0 (Proc.devRef .tc main_v49_4) : IVec S64x64 1) (ix2 i s) = BitVec.ofBool (decide ((s : ℕ) ≤ i))
  S : ∀ (b h : Fin 4) (j : Fin 128) (d : Fin 256), (V0 (Proc.devRef .tc main_v49_6) : FVec Ideal S4x4x128x256 .f32) (ix4 b h j d) = Cert.Gla.ST (k b h) (la b h) (v b h) n j d
  out : ∀ (r : Fin 64), (r : ℕ) < n → ∀ (b h : Fin 4) (i : Fin 64) (d : Fin 256), (V0 (Proc.devRef .tc main_v49_7) : FVec Ideal S64x4x64x4x256 .f32) (ix5 r b i h d) = Cert.Gla.OT (q b h) (k b h) (la b h) (v b h) r i d

variable {q k la : Fin 4 → Fin 4 → ℕ → Fin 128 → EReal} {v : Fin 4 → Fin 4 → ℕ → Fin 256 → EReal}

theorem Inv.step {V0 : Valuation τ sig (Elt Ideal)} {n : ℕ} (hn : n < 64) (I : Inv q k la v V0 n) : Inv q k la v (STEP V0) (n + 1) where
  ctr := by
    rw [STEP_main_v49_5]
    refine funext fun a => ?_
    have e : step_main_v49_5 V0 a = IntOp.addi ((V0 (Proc.devRef .tc main_v49_5) : IVec S_ 32) a) 1#32 := rfl
    rw [e, I.ctr]
    exact (BitVec.ofNat_add n 1).symm
  fq r b i h j := by rw [STEP_main_v49_0]; exact I.fq r b i h j
  fk r b i h j := by rw [STEP_main_v49_1]; exact I.fk r b i h j
  fv r b i h j := by rw [STEP_main_v49_2]; exact I.fv r b i h j
  fla r b i h j := by rw [STEP_main_v49_3]; exact I.fla r b i h j
  mask i s := by rw [STEP_main_v49_4]; exact I.mask i s
  S b h j d := by
    rw [STEP_main_v49_6]
    exact state_at V0 ⟨n, hn⟩ I.ctr k la v (I.fk ⟨n, hn⟩) (I.fv ⟨n, hn⟩) (I.fla ⟨n, hn⟩) I.S b h j d
  out r hr b h i d := by
    rw [STEP_main_v49_7]
    refine (stacked_at V0 ⟨n, hn⟩ I.ctr q k la v (I.fq ⟨n, hn⟩) (I.fk ⟨n, hn⟩) (I.fv ⟨n, hn⟩) (I.fla ⟨n, hn⟩) I.mask I.S r b h i d).trans ?_
    by_cases e : r = ⟨n, hn⟩
    · rw [if_pos e, e]
    · rw [if_neg e]
      exact I.out r (by have : (r : ℕ) ≠ n := fun h => e (Fin.ext h); omega) b h i d

theorem Inv.iter {V0 : Valuation τ sig (Elt Ideal)} (I : Inv q k la v V0 0) : ∀ n, n ≤ 64 → Inv q k la v (STEP^[n] V0) n
  | 0, _ => I
  | n + 1, h => by
    rw [Function.iterate_succ_apply']
    exact (Inv.iter I n (by omega)).step (by omega)

end Cert.ReferenceIdeal.Gla
-- ==== Proof.RefPre.lean ====
/-
  What the reference's host operations before the loop leave at the loop's entry: the projections of the normalised rows,
  cut into chunks of 64 tokens.
-/
module

public import proofs.«01_k».proof.Proof.RefLoop
public import proofs.«01_k».proof.Proof.Scal
public import Idealize.ShloMosaic.Lib.StableHlo.ReadAt

@[expose] public section

set_option maxRecDepth 16384
set_option maxHeartbeats 4000000

noncomputable section

namespace Cert.ReferenceIdeal.Gla

open Cert.ReferenceIdeal Cert.ReferenceIdeal.Gen Cert.ReferenceIdeal.Value Cert.Gla Idealize.ShloMosaic Idealize.ShloMosaic.StableHlo Idealize.ShloMosaic.TcCoe Idealize.SL.Sem

/-- The weights among the buffers' contents. -/
def wV (V : Valuation τ sig (Elt Ideal)) : Wts :=
  wOf (V (Proc.devRef .tc main_arg2)) (V (Proc.devRef .tc main_arg3)) (V (Proc.devRef .tc main_arg4)) (V (Proc.devRef .tc main_arg5))
    (V (Proc.devRef .tc main_arg6)) (V (Proc.devRef .tc main_arg7)) (V (Proc.devRef .tc main_arg8)) (V (Proc.devRef .tc main_arg9))
    (V (Proc.devRef .tc main_arg10)) (V (Proc.devRef .tc main_arg11)) (V (Proc.devRef .tc main_arg12)) (V (Proc.devRef .tc main_arg13))
    (V (Proc.devRef .tc main_arg14)) (V (Proc.devRef .tc main_arg15))

/-- The row of token `t` of batch `b`. -/
def xV (V : Valuation τ sig (Elt Ideal)) (b : Fin 4) (t : Fin 4096) (c : Fin 1024) : EReal :=
  (V (Proc.devRef .tc main_arg0) : FVec Ideal S4x4096x1024 .f32) (ix3 b t c)

variable (V : Valuation τ sig (Elt Ideal))

theorem proj_at (b : Fin 4) (t : Fin 4096) (c : Fin 3088) :
    (after hostOps0 V (Proc.devRef .tc main_v16) : FVec Ideal S4x4096x3088 .f32) (ix3 b t c) = projR (wV V) (xV V b t) c := by
  unfold projR xnR rms wV wOf xV
  after_reads_at

theorem gate_at (b : Fin 4) (t : Fin 4096) (c : Fin 512) :
    (after hostOps0 V (Proc.devRef .tc main_v27) : FVec Ideal S4x4096x512 .f32) (ix3 b t c)
      = (∑ r : Fin 16, projR (wV V) (xV V b t) ⟨3072 + r, by omega⟩ * (wV V).gu r c) + (wV V).bias c := by
  unfold projR xnR rms wV wOf xV
  after_reads_at

theorem logsig_at (b : Fin 4) (t : Fin 4096) (c : Fin 512) (z : EReal)
    (hz : (V (Proc.devRef .tc main_v27) : FVec Ideal S4x4096x512 .f32) (ix3 b t c) = z) :
    (after hostOps0_2 (after hostOps0_1 V) (Proc.devRef .tc main_v30) : FVec Ideal S4x4096x512 .f32) (ix3 b t c) = logDecay z := by
  rw [← logDecay_host]
  after_reads_at
  rw [hz, if_neg (not_not_intro rfl)]
  rfl

/-- Row `i` of a chunk sees the rows up to itself. -/
theorem mask_word (i s : Fin 64) :
    Scalar.select (IntOp.cmpi CmpIPredicate.sge (IntOp.addi (BitVec.ofNat 32 ↑i) 0#32) (BitVec.ofNat 32 ↑s)) 1#1 0#1 =
      BitVec.ofBool (decide (↑s ≤ (↑i : ℕ))) := by
  revert i s
  decide +kernel

theorem mask_entry (i s : Fin 64) :
    (afterL preI V (Proc.devRef .tc main_v49_4) : IVec S64x64 1) (ix2 i s) = BitVec.ofBool (decide ((s : ℕ) ≤ i)) := by
  simp only [preI, afterL_cons, afterL_nil]
  after_reads_at
  exact mask_word i s

theorem carry_0 (W : Valuation τ sig (Elt Ideal)) : after hostOps0_4 W (Proc.devRef .tc main_v49_0) = after hostOps0_4 W (Proc.devRef .tc main_v41) := by
  after_reads_simp
  rfl

theorem carry_1 (W : Valuation τ sig (Elt Ideal)) : after hostOps0_4 W (Proc.devRef .tc main_v49_1) = after hostOps0_4 W (Proc.devRef .tc main_v43) := by
  after_reads_simp
  rfl

theorem carry_2 (W : Valuation τ sig (Elt Ideal)) : after hostOps0_4 W (Proc.devRef .tc main_v49_2) = after hostOps0_4 W (Proc.devRef .tc main_v45) := by
  after_reads_simp
  rfl

theorem carry_3 (W : Valuation τ sig (Elt Ideal)) : after hostOps0_4 W (Proc.devRef .tc main_v49_3) = after hostOps0_4 W (Proc.devRef .tc main_v47) := by
  after_reads_simp
  rfl

theorem carry_6 (W : Valuation τ sig (Elt Ideal)) : after hostOps0_4 W (Proc.devRef .tc main_v49_6) = after hostOps0_4 W (Proc.devRef .tc main_v37) := by
  after_reads_simp
  rfl

theorem q_entry (r : Fin 64) (b : Fin 4) (i : Fin 64) (h : Fin 4) (j : Fin 128) :
    (afterL preI V (Proc.devRef .tc main_v49_0) : FVec Ideal S64x4x64x4x128 .f32) (ix5 r b i h j)
      = qR (wV V) (xV V b ⟨64 * r + i, by omega⟩) (c128 h j) := by
  unfold qR projR xnR rms wV wOf xV c128
  simp only [preI, afterL_cons, afterL_nil]
  rw [carry_0]
  after_reads_at
  simp only [mul_comm (64 : ℕ), mul_comm (128 : ℕ), mul_comm (256 : ℕ)]

theorem k_entry (r : Fin 64) (b : Fin 4) (i : Fin 64) (h : Fin 4) (j : Fin 128) :
    (afterL preI V (Proc.devRef .tc main_v49_1) : FVec Ideal S64x4x64x4x128 .f32) (ix5 r b i h j)
      = kR (wV V) (xV V b ⟨64 * r + i, by omega⟩) (c128 h j) := by
  unfold kR projR xnR rms wV wOf xV c128
  simp only [preI, afterL_cons, afterL_nil]
  rw [carry_1]
  after_reads_at
  simp only [mul_comm (64 : ℕ), mul_comm (128 : ℕ), mul_comm (256 : ℕ)]

theorem v_entry (r : Fin 64) (b : Fin 4) (i : Fin 64) (h : Fin 4) (d : Fin 256) :
    (afterL preI V (Proc.devRef .tc main_v49_2) : FVec Ideal S64x4x64x4x256 .f32) (ix5 r b i h d)
      = vR (wV V) (xV V b ⟨64 * r + i, by omega⟩) (c256 h d) := by
  unfold vR projR xnR rms wV wOf xV c256
  simp only [preI, afterL_cons, afterL_nil]
  rw [carry_2]
  after_reads_at
  simp only [mul_comm (64 : ℕ), mul_comm (128 : ℕ), mul_comm (256 : ℕ)]

theorem la_entry (r : Fin 64) (b : Fin 4) (i : Fin 64) (h : Fin 4) (j : Fin 128) :
    (afterL preI V (Proc.devRef .tc main_v49_3) : FVec Ideal S64x4x64x4x128 .f32) (ix5 r b i h j)
      = laR (wV V) (xV V b ⟨64 * r + i, by omega⟩) (c128 h j) := by
  unfold laR
  rw [← gate_at, ← logsig_at (after hostOps0 V) b _ _ _ rfl]
  simp only [preI, afterL_cons, afterL_nil]
  rw [carry_3]
  generalize after hostOps0_1 (after hostOps0 V) = V2
  unfold c128
  after_reads_at
  simp only [mul_comm (64 : ℕ), mul_comm (128 : ℕ), mul_comm (256 : ℕ)]

theorem s_entry (b h : Fin 4) (j : Fin 128) (d : Fin 256) :
    (afterL preI V (Proc.devRef .tc main_v49_6) : FVec Ideal S4x4x128x256 .f32) (ix4 b h j d) = (0 : EReal) := by
  simp only [preI, afterL_cons, afterL_nil]
  rw [carry_6]
  after_reads_at

theorem ctr_entry : (afterL preI V (Proc.devRef .tc main_v49_5) : IVec S_ 32) = fun _ => 0#32 := by
  funext a
  simp only [preI, afterL_cons, afterL_nil]
  after_reads_simp
  rfl

/-- The gate's columns, which the loop passes by. -/
theorem g_entry (b : Fin 4) (t : Fin 4096) (c : Fin 1024) :
    (afterL preI V (Proc.devRef .tc main_v20) : FVec Ideal S4x4096x1024 .f32) (ix3 b t c)
      = projR (wV V) (xV V b t) ⟨2048 + c, by omega⟩ := by
  unfold projR xnR rms wV wOf xV
  simp only [preI, afterL_cons, afterL_nil]
  after_reads_at

/-- Batch `b`'s rows as a sequence. -/
def hV (V : Valuation τ sig (Elt Ideal)) (b : Fin 4) : ℕ → Fin 1024 → EReal := hOf (V (Proc.devRef .tc main_arg0)) b

/-- Batch `b`'s embedding rows as a sequence. -/
def pV (V : Valuation τ sig (Elt Ideal)) (b : Fin 4) : ℕ → Fin 256 → EReal := pOf (V (Proc.devRef .tc main_arg1)) b

theorem hV_eq (b : Fin 4) (t : ℕ) (h : t < 4096) : hV V b t = xV V b ⟨t, h⟩ := by
  funext c
  unfold hV hOf xV
  have e : (⟨t % 4096, Nat.mod_lt _ (by norm_num)⟩ : Fin 4096) = ⟨t, h⟩ := Fin.ext (Nat.mod_eq_of_lt h)
  exact congrArg (fun z => (V (Proc.devRef .tc main_arg0) : FVec Ideal S4x4096x1024 .f32) (ix3 b z c)) e

theorem entry_inv : Inv (fun b h => qT (wV V) (hV V b) h) (fun b h => kT (wV V) (hV V b) h) (fun b h => laT (wV V) (hV V b) h)
    (fun b h => vT (wV V) (hV V b) h) (afterL preI V) 0 where
  ctr := ctr_entry V
  fq r b i h j := by unfold qT; rw [hV_eq V b _ (by omega)]; exact q_entry V r b i h j
  fk r b i h j := by unfold kT; rw [hV_eq V b _ (by omega)]; exact k_entry V r b i h j
  fv r b i h j := by unfold vT; rw [hV_eq V b _ (by omega)]; exact v_entry V r b i h j
  fla r b i h j := by unfold laT; rw [hV_eq V b _ (by omega)]; exact la_entry V r b i h j
  mask i s := mask_entry V i s
  S b h j d := s_entry V b h j d
  out r hr := absurd hr (Nat.not_lt_zero _)

/-- Equal carried arrays carry the same invariant. -/
theorem Inv.agree {q k la : Fin 4 → Fin 4 → ℕ → Fin 128 → EReal} {v : Fin 4 → Fin 4 → ℕ → Fin 256 → EReal}
    {V V' : Valuation τ sig (Elt Ideal)} {n : ℕ} (h : Agree V V') (I : Inv q k la v V' n) : Inv q k la v V n where
  ctr := (h main_v49_5 (by decide)).trans I.ctr
  fq r b i g j := (congrFun (h main_v49_0 (by decide)) _).trans (I.fq r b i g j)
  fk r b i g j := (congrFun (h main_v49_1 (by decide)) _).trans (I.fk r b i g j)
  fv r b i g j := (congrFun (h main_v49_2 (by decide)) _).trans (I.fv r b i g j)
  fla r b i g j := (congrFun (h main_v49_3 (by decide)) _).trans (I.fla r b i g j)
  mask i s := (congrFun (h main_v49_4 (by decide)) _).trans (I.mask i s)
  S b g j d := (congrFun (h main_v49_6 (by decide)) _).trans (I.S b g j d)
  out r hr b g i d := (congrFun (h main_v49_7 (by decide)) _).trans (I.out r hr b g i d)

/-- What the loop's operations write. -/
abbrev loopW : List (Ref sig .tc) :=
  condOps_W ++ while0Ops0_W ++ while0Ops0_1_W ++ while0Ops0_2_W ++ while0Ops0_3_W ++ while0Ops0_4_W ++ while0Ops0_5_W ++ while0Ops0_6_W
    ++ while0Ops0_7_W ++ while0Ops0_8_W ++ while0Ops0_9_W

theorem trip_keeps (r : Ref sig .tc) (h : r ∉ loopW) : afterL bodyI (after condOps V) (Proc.devRef .tc r) = V (Proc.devRef .tc r) := by
  simp only [loopW, List.mem_append, not_or] at h
  obtain ⟨⟨⟨⟨⟨⟨⟨⟨⟨⟨hc, h0⟩, h1⟩, h2⟩, h3⟩, h4⟩, h5⟩, h6⟩, h7⟩, h8⟩, h9⟩ := h
  simp only [bodyI, afterL_cons, afterL_nil]
  rw [after_of_writes_sub while0Ops0_9 _ while0Ops0_9_writes h9, after_of_writes_sub while0Ops0_8 _ while0Ops0_8_writes h8,
    after_of_writes_sub while0Ops0_7 _ while0Ops0_7_writes h7, after_of_writes_sub while0Ops0_6 _ while0Ops0_6_writes h6,
    after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

/-- What the loop does not write passes it by. -/
theorem loop_keeps (W : Dev nD → Valuation τ sig (Elt Ideal)) (c : Dev nD) (r : Ref sig .tc) (h : r ∉ loopW) :
    ∀ n, atTrip condOps bodyI W n c (Proc.devRef .tc r) = W c (Proc.devRef .tc r)
  | 0 => rfl
  | n + 1 => by rw [atTrip_succ, trip_keeps _ r h]; exact loop_keeps W c r h n

/-- What the operations before the loop write. -/
abbrev preW : List (Ref sig .tc) := hostOps0_W ++ hostOps0_1_W ++ hostOps0_2_W ++ hostOps0_3_W ++ hostOps0_4_W

theorem pre_keeps (r : Ref sig .tc) (h : r ∉ preW) : afterL preI V (Proc.devRef .tc r) = V (Proc.devRef .tc r) := by
  simp only [preW, List.mem_append, not_or] at h
  obtain ⟨⟨⟨⟨h0, h1⟩, h2⟩, h3⟩, h4⟩ := h
  simp only [preI, afterL_cons, afterL_nil]
  rw [after_of_writes_sub hostOps0_4 _ hostOps0_4_writes h4,
    after_of_writes_sub hostOps0_3 _ hostOps0_3_writes h3, after_of_writes_sub hostOps0_2 _ hostOps0_2_writes h2,
    after_of_writes_sub hostOps0_1 _ hostOps0_1_writes h1, after_of_writes_sub hostOps0 _ hostOps0_writes h0]

end Cert.ReferenceIdeal.Gla
-- ==== Proof.RefPost.lean ====
/-
  What the reference's host operations after the loop compute from the loop's outputs: the head-by-head norm and the
  gate, the feed-forward layer, the gated embedding and the final norm.
-/
module

public import proofs.«01_k».proof.Proof.RefPre

@[expose] public section

set_option maxRecDepth 16384
set_option maxHeartbeats 4000000

noncomputable section

namespace Cert.ReferenceIdeal.Gla

open Cert.ReferenceIdeal Cert.ReferenceIdeal.Gen Cert.ReferenceIdeal.Value Cert.Gla Idealize.ShloMosaic Idealize.ShloMosaic.StableHlo Idealize.ShloMosaic.TcCoe Idealize.SL.Sem

variable (V : Valuation τ sig (Elt Ideal))

/-- The logistic function as the host computes it. -/
theorem logistic_host (z : EReal) :
    Ideal.div (Ideal.ofBits .f32 0x3F800000#32) (Ideal.ofBits .f32 0x3F800000#32 + Ideal.exp (-z)) = Ideal.logistic z := by
  have e : Ideal.ofBits .f32 0x3F800000#32 = ((1 : ℝ) : EReal) := by
    simp [Ideal.ofBits, Ideal.ieee, -EReal.coe_mul, -EReal.coe_one]
    norm_num
  rw [e]
  rfl

theorem norm_at (b : Fin 4) (t : Fin 4096) (c : Fin 1024) :
    (after hostOps0_5 V (Proc.devRef .tc main_v66) : FVec Ideal S4x4096x1024 .f32) (ix3 b t c)
      = rms (Ideal.ofBits .f32 0x43800000#32)
          (fun d : Fin 256 => (V (Proc.devRef .tc main_v49_7) : FVec Ideal S64x4x64x4x256 .f32) (ix5 ⟨t / 64, by omega⟩ b ⟨t % 64, by omega⟩ ⟨c / 256, by omega⟩ d))
          (wV V).gn ⟨c % 256, by omega⟩ := by
  unfold rms wV wOf
  after_reads_at

theorem gsilu_at (b : Fin 4) (t : Fin 4096) (c : Fin 1024) :
    (after hostOps0_6 V (Proc.devRef .tc main_v67) : FVec Ideal S4x4096x1024 .f32) (ix3 b t c)
      = silu ((V (Proc.devRef .tc main_v20) : FVec Ideal S4x4096x1024 .f32) (ix3 b t c)) := by
  unfold silu
  rw [← logistic_host]
  after_reads_at

theorem h2_at (b : Fin 4) (t : Fin 4096) (c : Fin 1024) (A G : Fin 1024 → EReal)
    (hA : ∀ j, (V (Proc.devRef .tc main_v66) : FVec Ideal S4x4096x1024 .f32) (ix3 b t j) = A j)
    (hG : ∀ j, (V (Proc.devRef .tc main_v67) : FVec Ideal S4x4096x1024 .f32) (ix3 b t j) = G j) :
    (after hostOps0_7 V (Proc.devRef .tc main_v71) : FVec Ideal S4x4096x1024 .f32) (ix3 b t c)
      = h2R (wV V) (xV V b t) (fun j => A j * G j) c := by
  unfold h2R wV wOf xV
  after_reads_at
  simp only [hA, hG]

theorem nf_at (b : Fin 4) (t : Fin 4096) (c : Fin 1024) (X : Fin 1024 → EReal)
    (hX : ∀ j, (after hostOps0_7 V (Proc.devRef .tc main_v71) : FVec Ideal S4x4096x1024 .f32) (ix3 b t j) = X j) :
    (after hostOps0_7 V (Proc.devRef .tc main_v86) : FVec Ideal S4x4096x1024 .f32) (ix3 b t c)
      = rms (Ideal.ofBits .f32 0x44800000#32) X (wV V).nf c := by
  have e : X = fun j => (after hostOps0_7 V (Proc.devRef .tc main_v71) : FVec Ideal S4x4096x1024 .f32) (ix3 b t j) := funext fun j => (hX j).symm
  rw [e]
  unfold rms wV wOf
  after_reads_at

theorem wg_at (b : Fin 4) (t : Fin 4096) (c : Fin 2816) (X : Fin 1024 → EReal)
    (hX : ∀ j, (after hostOps0_7 V (Proc.devRef .tc main_v86) : FVec Ideal S4x4096x1024 .f32) (ix3 b t j) = X j) :
    (after hostOps0_7 V (Proc.devRef .tc main_v89) : FVec Ideal S4x4096x2816 .f32) (ix3 b t c)
      = ∑ i, X i * (wV V).wg i c := by
  have e : X = fun j => (after hostOps0_7 V (Proc.devRef .tc main_v86) : FVec Ideal S4x4096x1024 .f32) (ix3 b t j) := funext fun j => (hX j).symm
  rw [e]
  unfold wV wOf
  after_reads_at

theorem fsilu_at (b : Fin 4) (t : Fin 4096) (c : Fin 2816) :
    (after hostOps0_8 V (Proc.devRef .tc main_v90) : FVec Ideal S4x4096x2816 .f32) (ix3 b t c)
      = silu ((V (Proc.devRef .tc main_v89) : FVec Ideal S4x4096x2816 .f32) (ix3 b t c)) := by
  unfold silu
  rw [← logistic_host]
  after_reads_at

/-- The feed-forward layer's second half. -/
abbrev opsA : List (HloOp τ sig (Elt Ideal)) := hostOps0_9.take 8
/-- The gated embedding. -/
abbrev opsB : List (HloOp τ sig (Elt Ideal)) := (hostOps0_9.drop 8).take 36
/-- The final norm. -/
abbrev opsC : List (HloOp τ sig (Elt Ideal)) := hostOps0_9.drop 44

theorem ops_cut : after hostOps0_9 V = after opsC (after opsB (after opsA V)) := by
  rw [← after_append, ← after_append]
  rfl

theorem h3_at (b : Fin 4) (t : Fin 4096) (c : Fin 1024) (X : Fin 1024 → EReal) (N : Fin 1024 → EReal) (G : Fin 2816 → EReal)
    (hX : ∀ j, (V (Proc.devRef .tc main_v71) : FVec Ideal S4x4096x1024 .f32) (ix3 b t j) = X j)
    (hN : ∀ j, (V (Proc.devRef .tc main_v86) : FVec Ideal S4x4096x1024 .f32) (ix3 b t j) = N j)
    (hG : ∀ j, (V (Proc.devRef .tc main_v90) : FVec Ideal S4x4096x2816 .f32) (ix3 b t j) = G j) :
    (after opsA V (Proc.devRef .tc main_v98) : FVec Ideal S4x4096x1024 .f32) (ix3 b t c)
      = X c + ∑ i, (G i * ∑ j, N j * (wV V).wu j i) * (wV V).wd i c := by
  unfold wV wOf
  simp only [opsA, hostOps0_9, List.take_succ_cons, List.take_zero]
  after_reads_at
  simp only [hX, hN, hG]

theorem h4_at (b : Fin 4) (t : Fin 4096) (c : Fin 1024) (X : Fin 1024 → EReal)
    (hX : ∀ j, (V (Proc.devRef .tc main_v98) : FVec Ideal S4x4096x1024 .f32) (ix3 b t j) = X j) :
    (after opsB V (Proc.devRef .tc main_v129) : FVec Ideal S4x4096x1024 .f32) (ix3 b t c)
      = h4R (wV V) X (fun j => (V (Proc.devRef .tc main_arg1) : FVec Ideal S2x4x4096x256 .f32) (ix4 1 b t j)) c := by
  have e : X = fun j => (V (Proc.devRef .tc main_v98) : FVec Ideal S4x4096x1024 .f32) (ix3 b t j) := funext fun j => (hX j).symm
  rw [e]
  unfold h4R rms wV wOf
  rw [← logistic_host]
  simp only [opsB, hostOps0_9, List.take_succ_cons, List.take_zero, List.drop_succ_cons, List.drop_zero]
  after_reads_at

theorem y_at (b : Fin 4) (t : Fin 4096) (c : Fin 1024) (X : Fin 1024 → EReal)
    (hX : ∀ j, (V (Proc.devRef .tc main_v129) : FVec Ideal S4x4096x1024 .f32) (ix3 b t j) = X j) :
    (after opsC V (Proc.devRef .tc main_v142) : FVec Ideal S4x4096x1024 .f32) (ix3 b t c)
      = rms (Ideal.ofBits .f32 0x44800000#32) X (wV V).nz c := by
  have e : X = fun j => (V (Proc.devRef .tc main_v129) : FVec Ideal S4x4096x1024 .f32) (ix3 b t j) := funext fun j => (hX j).symm
  rw [e]
  unfold rms wV wOf
  simp only [opsC, hostOps0_9, List.drop_succ_cons, List.drop_zero]
  after_reads_at

theorem s_at (z : Fin 1) (b h : Fin 4) (j : Fin 128) (d : Fin 256) :
    (afterL postI V (Proc.devRef .tc main_v143) : FVec Ideal S1x4x4x128x256 .f32) (ix5 z b h j d)
      = (V (Proc.devRef .tc main_v49_6) : FVec Ideal S4x4x128x256 .f32) (ix4 b h j d) := by
  simp only [postI, afterL_cons, afterL_nil]
  after_reads_at

/-- What `hostOps0_5` writes. -/
abbrev hostOps0_5_out : List (Ref sig .tc) := [main_v50, main_v51, main_v52, main_cst_7, main_v53, main_v54, main_cst_8, main_v55, main_v56, main_cst_9, main_v57, main_v58, main_v59, main_v60, main_v61, main_v62, main_v63, main_v64, main_v65, main_v66]
theorem hostOps0_5_keeps (r : Ref sig .tc) (h : r ∉ hostOps0_5_out) : after hostOps0_5 V (Proc.devRef .tc r) = V (Proc.devRef .tc r) :=
  after_of_writes_sub hostOps0_5 _ (forall_writes_sub_of_map rfl) h

/-- What `hostOps0_6` writes. -/
abbrev hostOps0_6_out : List (Ref sig .tc) := [main_call9_v0, main_call9_v1, main_call9_cst, main_call9_v2, main_call9_v3, main_call9_cst_0, main_call9_v4, main_call9_v5, main_v67]
theorem hostOps0_6_keeps (r : Ref sig .tc) (h : r ∉ hostOps0_6_out) : after hostOps0_6 V (Proc.devRef .tc r) = V (Proc.devRef .tc r) :=
  after_of_writes_sub hostOps0_6 _ (forall_writes_sub_of_map rfl) h

/-- What `hostOps0_7` writes. -/
abbrev hostOps0_7_out : List (Ref sig .tc) := [main_v68, main_v69, main_v70, main_v71, main_v72, main_v73, main_v74, main_cst_10, main_v75, main_v76, main_cst_11, main_v77, main_v78, main_cst_12, main_v79, main_v80, main_v81, main_v82, main_v83, main_v84, main_v85, main_v86, main_v87, main_v88, main_v89]
theorem hostOps0_7_keeps (r : Ref sig .tc) (h : r ∉ hostOps0_7_out) : after hostOps0_7 V (Proc.devRef .tc r) = V (Proc.devRef .tc r) :=
  after_of_writes_sub hostOps0_7 _ (forall_writes_sub_of_map rfl) h

/-- What `hostOps0_8` writes. -/
abbrev hostOps0_8_out : List (Ref sig .tc) := [main_call10_v0, main_call10_v1, main_call10_cst, main_call10_v2, main_call10_v3, main_call10_cst_0, main_call10_v4, main_call10_v5, main_v90]
theorem hostOps0_8_keeps (r : Ref sig .tc) (h : r ∉ hostOps0_8_out) : after hostOps0_8 V (Proc.devRef .tc r) = V (Proc.devRef .tc r) :=
  after_of_writes_sub hostOps0_8 _ (forall_writes_sub_of_map rfl) h

/-- What `opsA` writes. -/
abbrev opsA_out : List (Ref sig .tc) := [main_v91, main_v92, main_v93, main_v94, main_v95, main_v96, main_v97, main_v98]
theorem opsA_keeps (r : Ref sig .tc) (h : r ∉ opsA_out) : after opsA V (Proc.devRef .tc r) = V (Proc.devRef .tc r) :=
  after_of_writes_sub opsA _ (forall_writes_sub_of_map rfl) h

/-- What `opsB` writes. -/
abbrev opsB_out : List (Ref sig .tc) := [main_v99, main_v100, main_v101, main_cst_13, main_v102, main_v103, main_cst_14, main_v104, main_v105, main_cst_15, main_v106, main_v107, main_v108, main_v109, main_v110, main_v111, main_v112, main_v113, main_v114, main_v115, main_v116, main_v117, main_v118, main_cst_16, main_v119, main_v120, main_cst_17, main_v121, main_v122, main_v123, main_v124, main_v125, main_v126, main_v127, main_v128, main_v129]
theorem opsB_keeps (r : Ref sig .tc) (h : r ∉ opsB_out) : after opsB V (Proc.devRef .tc r) = V (Proc.devRef .tc r) :=
  after_of_writes_sub opsB _ (forall_writes_sub_of_map rfl) h

/-- What `opsC` writes. -/
abbrev opsC_out : List (Ref sig .tc) := [main_v130, main_cst_18, main_v131, main_v132, main_cst_19, main_v133, main_v134, main_cst_20, main_v135, main_v136, main_v137, main_v138, main_v139, main_v140, main_v141, main_v142, main_v143]
theorem opsC_keeps (r : Ref sig .tc) (h : r ∉ opsC_out) : after opsC V (Proc.devRef .tc r) = V (Proc.devRef .tc r) :=
  after_of_writes_sub opsC _ (forall_writes_sub_of_map rfl) h

/-- The arguments. -/
abbrev argRefs : List (Ref sig .tc) := [main_arg0, main_arg1, main_arg2, main_arg3, main_arg4, main_arg5, main_arg6, main_arg7, main_arg8,
  main_arg9, main_arg10, main_arg11, main_arg12, main_arg13, main_arg14, main_arg15]

/-- Unchanged arguments give the same weights and rows. -/
theorem arg_keeps {W : Valuation τ sig (Elt Ideal)}
    (h : ∀ r ∈ argRefs, W (Proc.devRef .tc r) = V (Proc.devRef .tc r)) : wV W = wV V ∧ xV W = xV V := by
  refine ⟨?_, ?_⟩
  · unfold wV
    rw [h main_arg2 (by decide), h main_arg3 (by decide), h main_arg4 (by decide), h main_arg5 (by decide), h main_arg6 (by decide),
      h main_arg7 (by decide), h main_arg8 (by decide), h main_arg9 (by decide), h main_arg10 (by decide), h main_arg11 (by decide),
      h main_arg12 (by decide), h main_arg13 (by decide), h main_arg14 (by decide), h main_arg15 (by decide)]
  · funext b t c
    unfold xV
    rw [h main_arg0 (by decide)]

/-- The reference's result row from the loop's outputs `O` and the gate's columns `G`. -/
theorem post_y (b : Fin 4) (t : Fin 4096) (c : Fin 1024) (O : Fin 4 → Fin 256 → EReal) (G : Fin 1024 → EReal)
    (hO : ∀ h d, (V (Proc.devRef .tc main_v49_7) : FVec Ideal S64x4x64x4x256 .f32) (ix5 ⟨t / 64, by omega⟩ b ⟨t % 64, by omega⟩ h d) = O h d)
    (hG : ∀ j, (V (Proc.devRef .tc main_v20) : FVec Ideal S4x4096x1024 .f32) (ix3 b t j) = G j) :
    (afterL postI V (Proc.devRef .tc main_v142) : FVec Ideal S4x4096x1024 .f32) (ix3 b t c)
      = yR (wV V) (xV V b t)
          (fun j => rms (Ideal.ofBits .f32 0x43800000#32) (O ⟨j / 256, by omega⟩) (wV V).gn ⟨j % 256, by omega⟩ * silu (G j))
          (fun j => (V (Proc.devRef .tc main_arg1) : FVec Ideal S2x4x4096x256 .f32) (ix4 1 b t j)) c := by
  simp only [postI, afterL_cons, afterL_nil]
  rw [ops_cut]
  set V5 := after hostOps0_5 V with e5
  set V6 := after hostOps0_6 V5 with e6
  set V7 := after hostOps0_7 V6 with e7
  set V8 := after hostOps0_8 V7 with e8
  set V9 := after opsA V8 with e9
  set V10 := after opsB V9 with e10
  have k5 : ∀ r ∈ argRefs, V5 (Proc.devRef .tc r) = V (Proc.devRef .tc r) := fun r h =>
    hostOps0_5_keeps V r ((by decide : ∀ r ∈ argRefs, r ∉ hostOps0_5_out) r h)
  have k6 : ∀ r ∈ argRefs, V6 (Proc.devRef .tc r) = V (Proc.devRef .tc r) := fun r h =>
    (hostOps0_6_keeps V5 r ((by decide : ∀ r ∈ argRefs, r ∉ hostOps0_6_out) r h)).trans (k5 r h)
  have k7 : ∀ r ∈ argRefs, V7 (Proc.devRef .tc r) = V (Proc.devRef .tc r) := fun r h =>
    (hostOps0_7_keeps V6 r ((by decide : ∀ r ∈ argRefs, r ∉ hostOps0_7_out) r h)).trans (k6 r h)
  have k8 : ∀ r ∈ argRefs, V8 (Proc.devRef .tc r) = V (Proc.devRef .tc r) := fun r h =>
    (hostOps0_8_keeps V7 r ((by decide : ∀ r ∈ argRefs, r ∉ hostOps0_8_out) r h)).trans (k7 r h)
  have k9 : ∀ r ∈ argRefs, V9 (Proc.devRef .tc r) = V (Proc.devRef .tc r) := fun r h =>
    (opsA_keeps V8 r ((by decide : ∀ r ∈ argRefs, r ∉ opsA_out) r h)).trans (k8 r h)
  have k10 : ∀ r ∈ argRefs, V10 (Proc.devRef .tc r) = V (Proc.devRef .tc r) := fun r h =>
    (opsB_keeps V9 r ((by decide : ∀ r ∈ argRefs, r ∉ opsB_out) r h)).trans (k9 r h)
  -- the normalised heads and the gate
  have hA : ∀ j, (V6 (Proc.devRef .tc main_v66) : FVec Ideal S4x4096x1024 .f32) (ix3 b t j)
      = rms (Ideal.ofBits .f32 0x43800000#32) (O ⟨j / 256, by omega⟩) (wV V).gn ⟨j % 256, by omega⟩ := fun j => by
    rw [e6, hostOps0_6_keeps V5 main_v66 (by decide), e5, norm_at]
    exact congrArg (fun z => rms _ z _ _) (funext fun d => hO _ d)
  have hS : ∀ j, (V6 (Proc.devRef .tc main_v67) : FVec Ideal S4x4096x1024 .f32) (ix3 b t j) = silu (G j) := fun j => by
    rw [e6, gsilu_at, e5, hostOps0_5_keeps V main_v20 (by decide)]
    exact congrArg silu (hG j)
  -- the row after the mixer
  have h2 := fun j => h2_at V6 b t j _ _ hA hS
  rw [(arg_keeps V k6).1, (arg_keeps V k6).2] at h2
  have hN := fun j => nf_at V6 b t j _ h2
  have hW := fun j => wg_at V6 b t j _ hN
  rw [(arg_keeps V k6).1] at hN hW
  -- the feed-forward layer
  have hX8 : ∀ j, (V8 (Proc.devRef .tc main_v71) : FVec Ideal S4x4096x1024 .f32) (ix3 b t j) = _ := fun j =>
    (congrFun (hostOps0_8_keeps V7 main_v71 (by decide)) _).trans (h2 j)
  have hN8 : ∀ j, (V8 (Proc.devRef .tc main_v86) : FVec Ideal S4x4096x1024 .f32) (ix3 b t j) = _ := fun j =>
    (congrFun (hostOps0_8_keeps V7 main_v86 (by decide)) _).trans (hN j)
  have hG8 : ∀ j, (V8 (Proc.devRef .tc main_v90) : FVec Ideal S4x4096x2816 .f32) (ix3 b t j) = _ := fun j =>
    (fsilu_at V7 b t j).trans (congrArg silu (hW j))
  have h3 := fun j => h3_at V8 b t j _ _ _ hX8 hN8 hG8
  rw [(arg_keeps V k8).1] at h3
  -- the embedding and the final norm
  have h4 := fun j => h4_at V9 b t j _ h3
  rw [(arg_keeps V k9).1, k9 main_arg1 (by decide)] at h4
  have hy := y_at V10 b t c _ h4
  rw [(arg_keeps V k10).1] at hy
  exact hy

end Cert.ReferenceIdeal.Gla
-- ==== Proof.RefFinal.lean ====
/-
  The reference's results and arguments at the end of a run.
-/
module

public import proofs.«01_k».proof.Proof.RefPost

@[expose] public section

set_option maxRecDepth 16384
set_option maxHeartbeats 4000000

noncomputable section

namespace Cert.ReferenceIdeal.Gla

open Cert.ReferenceIdeal Cert.ReferenceIdeal.Gen Cert.ReferenceIdeal.Value Cert.Gla Idealize.ShloMosaic Idealize.ShloMosaic.StableHlo Idealize.ShloMosaic.TcCoe Idealize.SL.Sem

variable (m : (ℓ : Loc nD τ sig) → Buf (Elt Ideal) ℓ) (c : Dev nD)

/-- The contents after the loop. -/
def loopEnd : Valuation τ sig (Elt Ideal) := after condOps (atTrip condOps bodyI (entryContents preI m) 64 c)

theorem end_inv : Inv (fun b h => qT (wV (launchContents m c)) (hV (launchContents m c) b) h)
    (fun b h => kT (wV (launchContents m c)) (hV (launchContents m c) b) h)
    (fun b h => laT (wV (launchContents m c)) (hV (launchContents m c) b) h)
    (fun b h => vT (wV (launchContents m c)) (hV (launchContents m c) b) h) (loopEnd m c) 64 :=
  ((Inv.iter (entry_inv (launchContents m c)) 64 le_rfl).agree (atK_agree m c 64)).agree (cond_keeps _)

/-- What neither the loop nor the operations before it write is as launched. -/
theorem end_keeps (r : Ref sig .tc) (hl : r ∉ loopW) (hp : r ∉ preW) :
    loopEnd m c (Proc.devRef .tc r) = launchContents m c (Proc.devRef .tc r) := by
  unfold loopEnd
  rw [after_of_writes_sub condOps _ condOps_writes (fun h => hl (by simp only [loopW, List.mem_append]; tauto)), loop_keeps _ c r hl]
  exact pre_keeps _ r hp

theorem end_gate (b : Fin 4) (t : Fin 4096) (j : Fin 1024) :
    (loopEnd m c (Proc.devRef .tc main_v20) : FVec Ideal S4x4096x1024 .f32) (ix3 b t j)
      = projR (wV (launchContents m c)) (xV (launchContents m c) b t) ⟨2048 + j, by omega⟩ := by
  have e : loopEnd m c (Proc.devRef .tc main_v20) = entryContents preI m c (Proc.devRef .tc main_v20) := by
    unfold loopEnd
    rw [after_of_writes_sub condOps _ condOps_writes (by decide)]
    exact loop_keeps _ c main_v20 (by decide) 64
  rw [e]
  exact g_entry _ b t j

theorem end_args : ∀ r ∈ argRefs, loopEnd m c (Proc.devRef .tc r) = launchContents m c (Proc.devRef .tc r) := fun r h =>
  end_keeps m c r ((by decide : ∀ r ∈ argRefs, r ∉ loopW) r h) ((by decide : ∀ r ∈ argRefs, r ∉ preW) r h)

theorem final_eq : finalContents condOps preI bodyI postI 64 m c = afterL postI (loopEnd m c) := rfl

theorem ref_y (b : Fin 4) (t : Fin 4096) (j : Fin 1024) :
    (finalContents condOps preI bodyI postI 64 m c (Proc.devRef .tc main_v142) : FVec Ideal S4x4096x1024 .f32) (ix3 b t j)
      = outT (wV (launchContents m c)) (hV (launchContents m c) b) (pV (launchContents m c) b) t j := by
  rw [final_eq]
  have h := post_y (loopEnd m c) b t j _ _
    (fun h d => (end_inv m c).out ⟨t / 64, by omega⟩ (by show (t : ℕ) / 64 < 64; omega) b h ⟨t % 64, by omega⟩ d)
    (fun j => end_gate m c b t j)
  rw [(arg_keeps _ (end_args m c)).1, (arg_keeps _ (end_args m c)).2, end_args m c main_arg1 (by decide)] at h
  rw [h]
  have ep : (fun j => (launchContents m c (Proc.devRef .tc main_arg1) : FVec Ideal S2x4x4096x256 .f32) (ix4 1 b t j))
      = pV (launchContents m c) b t := by
    funext j
    unfold pV pOf
    have e : (⟨(t : ℕ) % 4096, Nat.mod_lt _ (by norm_num)⟩ : Fin 4096) = t := Fin.ext (Nat.mod_eq_of_lt t.isLt)
    exact (congrArg (fun z => (launchContents m c (Proc.devRef .tc main_arg1) : FVec Ideal S2x4x4096x256 .f32) (ix4 1 b z j)) e).symm
  rw [ep, ← hV_eq _ b t t.isLt]
  unfold outT attT gR oT
  rw [Nat.div_add_mod]

theorem ref_s (z : Fin 1) (b h : Fin 4) (j : Fin 128) (d : Fin 256) :
    (finalContents condOps preI bodyI postI 64 m c (Proc.devRef .tc main_v143) : FVec Ideal S1x4x4x128x256 .f32) (ix5 z b h j d)
      = stT (wV (launchContents m c)) (hV (launchContents m c) b) h 64 j d := by
  rw [final_eq, s_at]
  exact (end_inv m c).S b h j d

/-- The arguments are as launched. -/
theorem ref_args (r : Ref sig .tc) (h : r ∈ argRefs) :
    finalContents condOps preI bodyI postI 64 m c (Proc.devRef .tc r) = m ((c.tc : Thread nD τ).loc r) := by
  rw [final_eq]
  simp only [postI, afterL_cons, afterL_nil]
  rw [ops_cut, opsC_keeps _ r ((by decide : ∀ r ∈ argRefs, r ∉ opsC_out) r h), opsB_keeps _ r ((by decide : ∀ r ∈ argRefs, r ∉ opsB_out) r h),
    opsA_keeps _ r ((by decide : ∀ r ∈ argRefs, r ∉ opsA_out) r h), hostOps0_8_keeps _ r ((by decide : ∀ r ∈ argRefs, r ∉ hostOps0_8_out) r h),
    hostOps0_7_keeps _ r ((by decide : ∀ r ∈ argRefs, r ∉ hostOps0_7_out) r h), hostOps0_6_keeps _ r ((by decide : ∀ r ∈ argRefs, r ∉ hostOps0_6_out) r h),
    hostOps0_5_keeps _ r ((by decide : ∀ r ∈ argRefs, r ∉ hostOps0_5_out) r h)]
  exact end_args m c r h

variable (ρ : Dev nD → PrngReg)

/-- A run leaves each argument as launched. -/
theorem run_args : θ_run (defs (F := Ideal)) (onTc (τ := τ) (main (F := Ideal))) ⟨m, fun _ => 0, ρ⟩
    (fun r => (∀ (c : Dev nD) (b : Ref sig .tc), (Proc.devRef .tc b : DevRef τ sig).isScoped = false →
        r.2.mem ((c.tc : Thread nD τ).loc b) = finalContents condOps preI bodyI postI 64 m c (Proc.devRef .tc b))
      ∧ ∀ (c : Dev nD) (b : Ref sig .tc), b ∈ argRefs → r.2.mem ((c.tc : Thread nD τ).loc b) = m ((c.tc : Thread nD τ).loc b)) :=
  (θ_run _ _ _).mono (fun r h => ⟨h, fun c b hb =>
    (h c b ((by decide : ∀ b ∈ argRefs, (Proc.devRef .tc b : DevRef τ sig).isScoped = false) b hb)).trans (ref_args m c b hb)⟩) (run_fold m ρ)

end Cert.ReferenceIdeal.Gla
-- ==== Proof.PoolVec.lean ====
/-
  The pooling kernel's body as named array functions of its input blocks: one set of functions for any of a tile's four
  quarters of 256 rows, one for any of its four windows. `PoolWords*.lean` shows the run's words are these.
-/
module

public import proofs.«01_k».proof.Proof.Gen.Kernel2Ideal.Value
public import Idealize.ShloMosaic.Lib.Pipeline.ValueKit
public import Idealize.ShloMosaic.Lib.Pipeline.ReadBack
public import Idealize.ShloMosaic.Lib.WritesUnit

@[expose] public section

noncomputable section

namespace Cert.Kernel2Ideal.Pool

open Cert.Kernel2Ideal Cert.Kernel2Ideal.Gen Idealize.ShloMosaic Idealize.ShloMosaic.TcCoe Idealize.SL.Sem

variable {F : FTy → Type} [FloatOps F]

/-- A quarter's rows of the input block. -/
def xV (x0 : Vec F S1x1024x1024 .f32) : Fin 4 → Vec F S1x256x1024 .f32
  | 0 => View.ld x0 (Rect.unit ![0, 0, 0] S1x256x1024.size inb_S1x1024x1024_S1x256x1024_0_0_0)
  | 1 => View.ld x0 (Rect.unit ![0, 256, 0] S1x256x1024.size inb_S1x1024x1024_S1x256x1024_0_256_0)
  | 2 => View.ld x0 (Rect.unit ![0, 512, 0] S1x256x1024.size inb_S1x1024x1024_S1x256x1024_0_512_0)
  | 3 => View.ld x0 (Rect.unit ![0, 768, 0] S1x256x1024.size inb_S1x1024x1024_S1x256x1024_0_768_0)

/-- A quarter's rows of the per-layer embedding block. -/
def pV (x1 : Vec F S1x1x1024x256 .f32) : Fin 4 → Vec F S1x1x256x256 .f32
  | 0 => View.ld x1 (Rect.unit ![0, 0, 0, 0] S1x1x256x256.size inb_S1x1x1024x256_S1x1x256x256_0_0_0_0)
  | 1 => View.ld x1 (Rect.unit ![0, 0, 256, 0] S1x1x256x256.size inb_S1x1x1024x256_S1x1x256x256_0_0_256_0)
  | 2 => View.ld x1 (Rect.unit ![0, 0, 512, 0] S1x1x256x256.size inb_S1x1x1024x256_S1x1x256x256_0_0_512_0)
  | 3 => View.ld x1 (Rect.unit ![0, 0, 768, 0] S1x1x256x256.size inb_S1x1x1024x256_S1x1x256x256_0_0_768_0)

/-- The mixer's norm weights: row 0 of the packed vectors. -/
def nmV (x3 : Vec F S1x8x1024 .f32) : Vec F S1x1x1024 .f32 :=
  View.ld x3 (Rect.unit ![0, 0, 0] S1x1x1024.size inb_S1x8x1024_S1x1x1024_0_0_0)

/-- The feed-forward norm weights: row 1. -/
def nfV (x3 : Vec F S1x8x1024 .f32) : Vec F S1x1x1024 .f32 :=
  View.ld x3 (Rect.unit ![0, 1, 0] S1x1x1024.size inb_S1x8x1024_S1x1x1024_0_1_0)

/-- The embedding gate's norm weights: row 2. -/
def npV (x3 : Vec F S1x8x1024 .f32) : Vec F S1x1x1024 .f32 :=
  View.ld x3 (Rect.unit ![0, 2, 0] S1x1x1024.size inb_S1x8x1024_S1x1x1024_0_2_0)

/-- The mixer's bias: row 3. -/
def bpV (x3 : Vec F S1x8x1024 .f32) : Vec F S1x1x1024 .f32 :=
  View.ld x3 (Rect.unit ![0, 3, 0] S1x1x1024.size inb_S1x8x1024_S1x1x1024_0_3_0)

/-- The mixer's scale: row 4. -/
def scV (x3 : Vec F S1x8x1024 .f32) : Vec F S1x1x1024 .f32 :=
  View.ld x3 (Rect.unit ![0, 4, 0] S1x1x1024.size inb_S1x8x1024_S1x1x1024_0_4_0)

/-- A window's mixing matrix. -/
def wpV (x4 : Vec F S1x4x256x256 .bf16) : Fin 4 → Vec F S1x1x256x256 .bf16
  | 0 => View.ld x4 (Rect.unit ![0, 0, 0, 0] S1x1x256x256.size inb_S1x4x256x256_S1x1x256x256_0_0_0_0)
  | 1 => View.ld x4 (Rect.unit ![0, 1, 0, 0] S1x1x256x256.size inb_S1x4x256x256_S1x1x256x256_0_1_0_0)
  | 2 => View.ld x4 (Rect.unit ![0, 2, 0, 0] S1x1x256x256.size inb_S1x4x256x256_S1x1x256x256_0_2_0_0)
  | 3 => View.ld x4 (Rect.unit ![0, 3, 0, 0] S1x1x256x256.size inb_S1x4x256x256_S1x1x256x256_0_3_0_0)

/-- A quarter's normalised rows, as stored to the row buffer. -/
def xnV (x0 : Vec F S1x1024x1024 .f32) (x3 : Vec F S1x8x1024 .f32) (s : Fin 4) : FVec F S1x256x1024 .f32 :=
  k0_pay4 (xV x0 s) (nmV x3)

/-- The row buffer with the tile's normalised rows: sixteen rows from before the tile, then the tile's. -/
def bufG (Z : Vec F S1x1040x1024 .f32) (x0 : Vec F S1x1024x1024 .f32) (x3 : Vec F S1x8x1024 .f32) : Vec F S1x1040x1024 .f32 :=
  fun y => if (y 1 : ℕ) < 16 then Z y else
    xnV x0 x3 ⟨((y 1 : ℕ) - 16) / 256, by have h : (y 1 : ℕ) < 1040 := (y 1).isLt; omega⟩ (ValueIdx.ix3 0 ⟨((y 1 : ℕ) - 16) % 256, by omega⟩ (y 2))

/-- The row buffer's first rows at the start of a stream: a zero row, then the history. -/
def histV (x2 : Vec F S1x1x15x1024 .f32) : Vec F S1x1040x1024 .f32 :=
  fun y => if h : 1 ≤ (y 1 : ℕ) ∧ (y 1 : ℕ) < 16 then k0_pay2 x2 (ValueIdx.ix3 0 ⟨(y 1 : ℕ) - 1, by omega⟩ (y 2)) else Scalar.ofBits .f32 0x00000000#32

/-- The rows of the buffer that a quarter's window reads, the window's 256 columns. -/
def extV (B : Vec F S1x1040x1024 .f32) : Fin 4 → Fin 4 → Vec F S1x272x256 .f32
  | 0, 0 => View.ld B (Rect.unit ![0, 0, 0] S1x272x256.size inb_S1x1040x1024_S1x272x256_0_0_0)
  | 0, 1 => View.ld B (Rect.unit ![0, 0, 256] S1x272x256.size inb_S1x1040x1024_S1x272x256_0_0_256)
  | 0, 2 => View.ld B (Rect.unit ![0, 0, 512] S1x272x256.size inb_S1x1040x1024_S1x272x256_0_0_512)
  | 0, 3 => View.ld B (Rect.unit ![0, 0, 768] S1x272x256.size inb_S1x1040x1024_S1x272x256_0_0_768)
  | 1, 0 => View.ld B (Rect.unit ![0, 256, 0] S1x272x256.size inb_S1x1040x1024_S1x272x256_0_256_0)
  | 1, 1 => View.ld B (Rect.unit ![0, 256, 256] S1x272x256.size inb_S1x1040x1024_S1x272x256_0_256_256)
  | 1, 2 => View.ld B (Rect.unit ![0, 256, 512] S1x272x256.size inb_S1x1040x1024_S1x272x256_0_256_512)
  | 1, 3 => View.ld B (Rect.unit ![0, 256, 768] S1x272x256.size inb_S1x1040x1024_S1x272x256_0_256_768)
  | 2, 0 => View.ld B (Rect.unit ![0, 512, 0] S1x272x256.size inb_S1x1040x1024_S1x272x256_0_512_0)
  | 2, 1 => View.ld B (Rect.unit ![0, 512, 256] S1x272x256.size inb_S1x1040x1024_S1x272x256_0_512_256)
  | 2, 2 => View.ld B (Rect.unit ![0, 512, 512] S1x272x256.size inb_S1x1040x1024_S1x272x256_0_512_512)
  | 2, 3 => View.ld B (Rect.unit ![0, 512, 768] S1x272x256.size inb_S1x1040x1024_S1x272x256_0_512_768)
  | 3, 0 => View.ld B (Rect.unit ![0, 768, 0] S1x272x256.size inb_S1x1040x1024_S1x272x256_0_768_0)
  | 3, 1 => View.ld B (Rect.unit ![0, 768, 256] S1x272x256.size inb_S1x1040x1024_S1x272x256_0_768_256)
  | 3, 2 => View.ld B (Rect.unit ![0, 768, 512] S1x272x256.size inb_S1x1040x1024_S1x272x256_0_768_512)
  | 3, 3 => View.ld B (Rect.unit ![0, 768, 768] S1x272x256.size inb_S1x1040x1024_S1x272x256_0_768_768)

/-- The rows' positions in the stream, from the tile's first. -/
def posV (b : BitVec 32) (s : Fin 4) : IVec S256x1 32 :=
  addi (broadcast S256x1 (Scalar.addi b (match s with | 0 => 0#32 | 1 => 256#32 | 2 => 512#32 | 3 => 768#32))) (iota .tc S256x1 32 [0] iota_S256x1_d0_w32)

/-- A window's length. -/
def winW : Fin 4 → BitVec 32
  | 0 => 2#32
  | 1 => 4#32
  | 2 => 8#32
  | 3 => 16#32

/-- One over the number of rows that a window holds at each row. -/
def invV (b : BitVec 32) (s g : Fin 4) : FVec F S256x1 .f32 :=
  divf (broadcast S256x1 (Scalar.ofBits .f32 0x3F800000#32)) (sitofp .f32 (minsi (broadcast S256x1 (winW g)) (addi (posV b s) (broadcast S256x1 1#32))))

/-- The rows plus the rows `k` before them, around the end. -/
def twiceV (k : BitVec 32) (v : FVec F S272x256 .f32) : FVec F S272x256 .f32 :=
  addf v (dynamicRotate 0 k none v rotates_S272x256_d0)

/-- The sums over a window, by doubling. -/
def sumV (v : FVec F S272x256 .f32) : Fin 4 → FVec F S272x256 .f32
  | 0 => twiceV 1#32 v
  | 1 => twiceV 2#32 (twiceV 1#32 v)
  | 2 => twiceV 4#32 (twiceV 2#32 (twiceV 1#32 v))
  | 3 => twiceV 8#32 (twiceV 4#32 (twiceV 2#32 (twiceV 1#32 v)))

/-- A quarter's window means less the rows themselves. -/
def dV (b : BitVec 32) (s g : Fin 4) (e : Vec F S1x272x256 .f32) : FVec F S256x256 .bf16 :=
  shapeCast S256x256 (truncf .bf16 (subf
    (mulf (extractStridedSlice S256x256 ![16, 0] (sumV (shapeCast S272x256 e shapeCasts_S1x272x256_S272x256) g) slices_S272x256_o16_0_S256x256) (broadcastTo S256x256 (invV b s g) broadcasts_S256x1_S256x256))
    (extractStridedSlice S256x256 ![16, 0] (shapeCast S272x256 e shapeCasts_S1x272x256_S272x256) slices_S272x256_o16_0_S256x256)) bitsLt_bf16_f32) shapeCasts_S256x256_S256x256

/-- … times the window's matrix. -/
def mixV (x4 : Vec F S1x4x256x256 .bf16) (g : Fin 4) (d : FVec F S256x256 .bf16) : FVec F S256x256 .f32 :=
  matmul dot_S256x256_S256x256_S256x256_1_0_0_1_n_n none d (shapeCast S256x256 (wpV x4 g) shapeCasts_S1x1x256x256_S256x256) (constant S256x256 .f32 0x00000000#32)

/-- A quarter's rows after the mixer. -/
def h2V (b : BitVec 32) (B : Vec F S1x1040x1024 .f32) (x0 : Vec F S1x1024x1024 .f32) (x3 : Vec F S1x8x1024 .f32) (x4 : Vec F S1x4x256x256 .bf16) (s : Fin 4) : FVec F S256x1024 .f32 :=
  addf (shapeCast S256x1024 (xV x0 s) shapeCasts_S1x256x1024_S256x1024) (mulf (addf
    (concatenate S256x1024 1 [⟨S256x256, mixV x4 0 (dV b s 0 (extV B s 0))⟩, ⟨S256x256, mixV x4 1 (dV b s 1 (extV B s 1))⟩, ⟨S256x256, mixV x4 2 (dV b s 2 (extV B s 2))⟩, ⟨S256x256, mixV x4 3 (dV b s 3 (extV B s 3))⟩] concatenates_S256x256_S256x256_S256x256_S256x256_S256x1024_d1)
    (broadcastTo S256x1024 (shapeCast S1x1024 (bpV x3) shapeCasts_S1x1x1024_S1x1024) broadcasts_S1x1024_S256x1024))
    (broadcastTo S256x1024 (shapeCast S1x1024 (scV x3) shapeCasts_S1x1x1024_S1x1024) broadcasts_S1x1024_S256x1024))

/-- The rows normalised: over the root of their mean square, times the weights. -/
def rmsV (x : FVec F S256x1024 .f32) (w : Vec F S1x1x1024 .f32) : FVec F S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024)) (broadcastTo S256x1024 (shapeCast S1x1024 w shapeCasts_S1x1x1024_S1x1024) broadcasts_S1x1024_S256x1024)

/-- The rows times 256 columns. -/
def lin256V (xf : FVec F S256x1024 .bf16) (w : Vec F S1x1024x256 .bf16) : FVec F S256x256 .f32 :=
  matmul dot_S256x1024_S1024x256_S256x256_1_0_0_1_n_n none xf (shapeCast S1024x256 w shapeCasts_S1x1024x256_S1024x256) (constant S256x256 .f32 0x00000000#32)

/-- One of the eleven column blocks of the feed-forward layer. -/
def ffn1 (xf : FVec F S256x1024 .bf16) (wg wu : Vec F S1x1024x256 .bf16) (wd : Vec F S1x256x1024 .bf16) : FVec F S256x1024 .f32 :=
  matmul dot_S256x256_S256x1024_S256x1024_1_0_0_1_n_n none
    (truncf .bf16 (mulf (mulf (lin256V xf wg) (logistic (lin256V xf wg))) (lin256V xf wu)) bitsLt_bf16_f32)
    (shapeCast S256x1024 wd shapeCasts_S1x256x1024_S256x1024) (constant S256x1024 .f32 0x00000000#32)

/-- The gate's columns of a block. -/
def gcol (x5 : Vec F S1x1024x2816 .bf16) : Fin 11 → Vec F S1x1024x256 .bf16
  | 0 => View.ld x5 (Rect.unit ![0, 0, 0] S1x1024x256.size inb_S1x1024x2816_S1x1024x256_0_0_0)
  | 1 => View.ld x5 (Rect.unit ![0, 0, 256] S1x1024x256.size inb_S1x1024x2816_S1x1024x256_0_0_256)
  | 2 => View.ld x5 (Rect.unit ![0, 0, 512] S1x1024x256.size inb_S1x1024x2816_S1x1024x256_0_0_512)
  | 3 => View.ld x5 (Rect.unit ![0, 0, 768] S1x1024x256.size inb_S1x1024x2816_S1x1024x256_0_0_768)
  | 4 => View.ld x5 (Rect.unit ![0, 0, 1024] S1x1024x256.size inb_S1x1024x2816_S1x1024x256_0_0_1024)
  | 5 => View.ld x5 (Rect.unit ![0, 0, 1280] S1x1024x256.size inb_S1x1024x2816_S1x1024x256_0_0_1280)
  | 6 => View.ld x5 (Rect.unit ![0, 0, 1536] S1x1024x256.size inb_S1x1024x2816_S1x1024x256_0_0_1536)
  | 7 => View.ld x5 (Rect.unit ![0, 0, 1792] S1x1024x256.size inb_S1x1024x2816_S1x1024x256_0_0_1792)
  | 8 => View.ld x5 (Rect.unit ![0, 0, 2048] S1x1024x256.size inb_S1x1024x2816_S1x1024x256_0_0_2048)
  | 9 => View.ld x5 (Rect.unit ![0, 0, 2304] S1x1024x256.size inb_S1x1024x2816_S1x1024x256_0_0_2304)
  | 10 => View.ld x5 (Rect.unit ![0, 0, 2560] S1x1024x256.size inb_S1x1024x2816_S1x1024x256_0_0_2560)

/-- The down projection's rows of a block. -/
def drow (x7 : Vec F S1x2816x1024 .bf16) : Fin 11 → Vec F S1x256x1024 .bf16
  | 0 => View.ld x7 (Rect.unit ![0, 0, 0] S1x256x1024.size inb_S1x2816x1024_S1x256x1024_0_0_0)
  | 1 => View.ld x7 (Rect.unit ![0, 256, 0] S1x256x1024.size inb_S1x2816x1024_S1x256x1024_0_256_0)
  | 2 => View.ld x7 (Rect.unit ![0, 512, 0] S1x256x1024.size inb_S1x2816x1024_S1x256x1024_0_512_0)
  | 3 => View.ld x7 (Rect.unit ![0, 768, 0] S1x256x1024.size inb_S1x2816x1024_S1x256x1024_0_768_0)
  | 4 => View.ld x7 (Rect.unit ![0, 1024, 0] S1x256x1024.size inb_S1x2816x1024_S1x256x1024_0_1024_0)
  | 5 => View.ld x7 (Rect.unit ![0, 1280, 0] S1x256x1024.size inb_S1x2816x1024_S1x256x1024_0_1280_0)
  | 6 => View.ld x7 (Rect.unit ![0, 1536, 0] S1x256x1024.size inb_S1x2816x1024_S1x256x1024_0_1536_0)
  | 7 => View.ld x7 (Rect.unit ![0, 1792, 0] S1x256x1024.size inb_S1x2816x1024_S1x256x1024_0_1792_0)
  | 8 => View.ld x7 (Rect.unit ![0, 2048, 0] S1x256x1024.size inb_S1x2816x1024_S1x256x1024_0_2048_0)
  | 9 => View.ld x7 (Rect.unit ![0, 2304, 0] S1x256x1024.size inb_S1x2816x1024_S1x256x1024_0_2304_0)
  | 10 => View.ld x7 (Rect.unit ![0, 2560, 0] S1x256x1024.size inb_S1x2816x1024_S1x256x1024_0_2560_0)

/-- A column block, by number. -/
def ffnC (x5 x6 : Vec F S1x1024x2816 .bf16) (x7 : Vec F S1x2816x1024 .bf16) (xf : FVec F S256x1024 .bf16) (n : Fin 11) : FVec F S256x1024 .f32 :=
  ffn1 xf (gcol x5 n) (gcol x6 n) (drow x7 n)

/-- The feed-forward layer: its eleven column blocks added first to last. -/
def ffnV (x5 x6 : Vec F S1x1024x2816 .bf16) (x7 : Vec F S1x2816x1024 .bf16) (xf : FVec F S256x1024 .bf16) : FVec F S256x1024 .f32 :=
  addf (addf (addf (addf (addf (addf (addf (addf (addf (addf (ffnC x5 x6 x7 xf 0) (ffnC x5 x6 x7 xf 1)) (ffnC x5 x6 x7 xf 2)) (ffnC x5 x6 x7 xf 3)) (ffnC x5 x6 x7 xf 4)) (ffnC x5 x6 x7 xf 5)) (ffnC x5 x6 x7 xf 6)) (ffnC x5 x6 x7 xf 7)) (ffnC x5 x6 x7 xf 8)) (ffnC x5 x6 x7 xf 9)) (ffnC x5 x6 x7 xf 10)

/-- The rows after the feed-forward layer. -/
def h3V (x3 : Vec F S1x8x1024 .f32) (x5 x6 : Vec F S1x1024x2816 .bf16) (x7 : Vec F S1x2816x1024 .bf16) (h2 : FVec F S256x1024 .f32) : FVec F S256x1024 .f32 :=
  addf h2 (ffnV x5 x6 x7 (truncf .bf16 (rmsV h2 (nfV x3)) bitsLt_bf16_f32))

/-- The embedding gate. -/
def pleV (x3 : Vec F S1x8x1024 .f32) (x8 : Vec F S1x1024x1024 .bf16) (h3 : FVec F S256x1024 .f32) : FVec F S256x1024 .f32 :=
  logistic (matmul dot_S256x1024_S1024x1024_S256x1024_1_0_0_1_n_n none (truncf .bf16 (rmsV h3 (npV x3)) bitsLt_bf16_f32) (shapeCast S1024x1024 (View.ld x8 (Rect.unit ![0, 0, 0] S1x1024x1024.size inb_S1x1024x1024_S1x1024x1024_0_0_0)) shapeCasts_S1x1024x1024_S1024x1024) (constant S256x1024 .f32 0x00000000#32))

/-- The rows with the gated embedding added. -/
def h4V (x1 : Vec F S1x1x1024x256 .f32) (x3 : Vec F S1x8x1024 .f32) (x8 : Vec F S1x1024x1024 .bf16) (x9 : Vec F S1x256x1024 .bf16) (h3 : FVec F S256x1024 .f32) (s : Fin 4) : FVec F S256x1024 .f32 :=
  addf h3 (mulf (pleV x3 x8 h3) (matmul dot_S256x256_S256x1024_S256x1024_1_0_0_1_n_n none (truncf .bf16 (shapeCast S256x256 (shapeCast S1x256x256 (pV x1 s) shapeCasts_S1x1x256x256_S1x256x256) shapeCasts_S1x256x256_S256x256) bitsLt_bf16_f32) (shapeCast S256x1024 (View.ld x9 (Rect.unit ![0, 0, 0] S1x256x1024.size inb_S1x256x1024_S1x256x1024_0_0_0)) shapeCasts_S1x256x1024_S256x1024) (constant S256x1024 .f32 0x00000000#32)))

/-- A quarter's result rows. -/
def yV (b : BitVec 32) (B : Vec F S1x1040x1024 .f32) (x0 : Vec F S1x1024x1024 .f32) (x1 : Vec F S1x1x1024x256 .f32) (x3 : Vec F S1x8x1024 .f32) (x4 : Vec F S1x4x256x256 .bf16) (x5 x6 : Vec F S1x1024x2816 .bf16) (x7 : Vec F S1x2816x1024 .bf16) (x8 : Vec F S1x1024x1024 .bf16) (x9 : Vec F S1x256x1024 .bf16) (s : Fin 4) : FVec F S1x256x1024 .f32 :=
  shapeCast S1x256x1024 (h4V x1 x3 x8 x9 (h3V x3 x5 x6 x7 (h2V b B x0 x3 x4 s)) s) shapeCasts_S256x1024_S1x256x1024

end Cert.Kernel2Ideal.Pool
-- ==== Proof.PoolSpec.lean ====
/-
  The pooling layer as plain sums over the extended reals, frame by frame: the normalised rows with zero rows before the
  stream, the means over four windows less the row itself, the mixing matrices, and the rest of the layer. Both programs
  are shown to compute these functions.
-/
module

public import proofs.«01_k».proof.Proof.Spec

@[expose] public section

noncomputable section

namespace Cert.Pool

open Idealize.ShloMosaic Cert.Gla

/-- The layer's weights. -/
structure PWts where
  nm : Fin 1024 → EReal
  nf : Fin 1024 → EReal
  np : Fin 1024 → EReal
  bp : Fin 1024 → EReal
  sc : Fin 1024 → EReal
  wp : Fin 4 → Fin 256 → Fin 256 → EReal
  wg : Fin 1024 → Fin 2816 → EReal
  wu : Fin 1024 → Fin 2816 → EReal
  wd : Fin 2816 → Fin 1024 → EReal
  wpg : Fin 1024 → Fin 1024 → EReal
  wpp : Fin 256 → Fin 1024 → EReal

variable (W : PWts)

/-- Row `n` of the stream's normalised rows, sixteen zero rows first. -/
def padT (H : ℕ → Fin 1024 → EReal) (n : ℕ) (c : Fin 1024) : EReal :=
  if n < 16 then 0 else rms (Ideal.ofBits .f32 0x44800000#32) (H (n - 16)) W.nm c

/-- A window's length. -/
def win : Fin 4 → ℕ
  | 0 => 2
  | 1 => 4
  | 2 => 8
  | 3 => 16

/-- A sum over the window's length counted back from row `n`. -/
def sumT (f : ℕ → EReal) (g : Fin 4) (n : ℕ) : EReal := ∑ k : Fin (win g), f (n - k)

/-- The rows a window holds at frame `t`. -/
def cntT (g : Fin 4) (t : ℕ) : EReal := (((min (win g) (t + 1) : ℕ) : ℝ) : EReal)

/-- The mean over window `g` at frame `t`, less the row itself. -/
def devT (H : ℕ → Fin 1024 → EReal) (g : Fin 4) (t : ℕ) (c : Fin 1024) : EReal :=
  sumT (fun n => padT W H n c) g (t + 16) * Ideal.div 1 (cntT g t) - padT W H (t + 16) c

/-- The four windows' columns times their matrices. -/
def mixT (H : ℕ → Fin 1024 → EReal) (t : ℕ) (c : Fin 1024) : EReal :=
  ∑ i : Fin 256, devT W H ⟨c / 256, by omega⟩ t ⟨256 * ((c : ℕ) / 256) + i, by omega⟩ * W.wp ⟨c / 256, by omega⟩ i ⟨c % 256, by omega⟩

/-- The row after the mixer. -/
def h2T (H : ℕ → Fin 1024 → EReal) (t : ℕ) (c : Fin 1024) : EReal := H t c + (mixT W H t c + W.bp c) * W.sc c

/-- The feed-forward layer's hidden row. -/
def pffR (x : Fin 1024 → EReal) (c : Fin 2816) : EReal :=
  silu (∑ i, rms (Ideal.ofBits .f32 0x44800000#32) x W.nf i * W.wg i c) * ∑ i, rms (Ideal.ofBits .f32 0x44800000#32) x W.nf i * W.wu i c

/-- The row after the feed-forward layer. -/
def ph3R (x : Fin 1024 → EReal) (c : Fin 1024) : EReal := x c + ∑ i, pffR W x i * W.wd i c

/-- The row after the gated per-layer embedding. -/
def ph4R (x : Fin 1024 → EReal) (p : Fin 256 → EReal) (c : Fin 1024) : EReal :=
  x c + Ideal.logistic (∑ i, rms (Ideal.ofBits .f32 0x44800000#32) x W.np i * W.wpg i c) * ∑ i, p i * W.wpp i c

/-- The layer's result at frame `t`. -/
def poolT (H : ℕ → Fin 1024 → EReal) (P : ℕ → Fin 256 → EReal) (t : ℕ) : Fin 1024 → EReal :=
  ph4R W (ph3R W (h2T W H t)) (P t)

/-- The layer's weights, from the argument arrays: layer 0 of the stacked ones. -/
def pwOf (a2 a3 a4 : (⟨2, ![2, 1024]⟩ : Shape).Idx → EReal) (a5 : (⟨4, ![1, 4, 256, 256]⟩ : Shape).Idx → EReal)
    (a6 a7 : (⟨2, ![1, 1024]⟩ : Shape).Idx → EReal) (a8 a9 : (⟨3, ![2, 1024, 2816]⟩ : Shape).Idx → EReal)
    (a10 : (⟨3, ![2, 2816, 1024]⟩ : Shape).Idx → EReal) (a11 : (⟨3, ![2, 256, 1024]⟩ : Shape).Idx → EReal)
    (a12 : (⟨3, ![2, 1024, 1024]⟩ : Shape).Idx → EReal) : PWts where
  nm c := a2 (ix2 0 c)
  nf c := a3 (ix2 0 c)
  np c := a4 (ix2 0 c)
  bp c := a6 (ix2 0 c)
  sc c := a7 (ix2 0 c)
  wp g i c := a5 (ix4 0 g i c)
  wg i c := a8 (ix3 0 i c)
  wu i c := a9 (ix3 0 i c)
  wd i c := a10 (ix3 0 i c)
  wpg i c := a12 (ix3 0 i c)
  wpp i c := a11 (ix3 0 i c)

/-- A batch's rows of the per-layer embedding, layer 0. -/
def ppOf (a1 : (⟨4, ![2, 4, 4096, 256]⟩ : Shape).Idx → EReal) (b : Fin 4) (t : ℕ) (c : Fin 256) : EReal :=
  a1 (ix4 0 b ⟨t % 4096, by omega⟩ c)

/-- The doubling sums: window by window. -/
theorem sumT_0 (f : ℕ → EReal) (n : ℕ) : sumT f 0 n = f n + f (n - 1) := by
  show ∑ k : Fin 2, f (n - k) = _
  simp only [Fin.sum_univ_succ, Fin.sum_univ_zero, add_zero]; rfl

theorem sumT_1 (f : ℕ → EReal) (n : ℕ) : sumT f 1 n = sumT f 0 n + sumT f 0 (n - 2) := by
  show ∑ k : Fin (2 + 2), f (n - k) = (∑ k : Fin 2, f (n - k)) + ∑ k : Fin 2, f (n - 2 - k)
  rw [Fin.sum_univ_add]
  exact congrArg _ (Finset.sum_congr rfl fun k _ => congrArg f (by simp only [Fin.val_natAdd]; omega))

theorem sumT_2 (f : ℕ → EReal) (n : ℕ) : sumT f 2 n = sumT f 1 n + sumT f 1 (n - 4) := by
  show ∑ k : Fin (4 + 4), f (n - k) = (∑ k : Fin 4, f (n - k)) + ∑ k : Fin 4, f (n - 4 - k)
  rw [Fin.sum_univ_add]
  exact congrArg _ (Finset.sum_congr rfl fun k _ => congrArg f (by simp only [Fin.val_natAdd]; omega))

theorem sumT_3 (f : ℕ → EReal) (n : ℕ) : sumT f 3 n = sumT f 2 n + sumT f 2 (n - 8) := by
  show ∑ k : Fin (8 + 8), f (n - k) = (∑ k : Fin 8, f (n - k)) + ∑ k : Fin 8, f (n - 8 - k)
  rw [Fin.sum_univ_add]
  exact congrArg _ (Finset.sum_congr rfl fun k _ => congrArg f (by simp only [Fin.val_natAdd]; omega))

/-- A window's sum of rows that agree with another sequence's, from a later row on. -/
theorem sumT_shift (f e : ℕ → EReal) (g : Fin 4) (n m : ℕ) (h : ∀ k < 16, f (n - k) = e (m - k)) : sumT f g n = sumT e g m := by
  refine Finset.sum_congr rfl fun k _ => h k ?_
  have hw : win g ≤ 16 := by match g with | 0 => decide | 1 => decide | 2 => decide | 3 => decide
  have := k.isLt; omega

end Cert.Pool
-- ==== Proof.PoolAt.lean ====
/-
  The pooling kernel's array functions, read at an index over the extended reals: each is the layer's plain function of
  the tile's rows.
-/
module

public import proofs.«01_k».proof.Proof.PoolVec
public import proofs.«01_k».proof.Proof.PoolSpec
public import Idealize.ShloMosaic.Lib.KernelVsHost

@[expose] public section

set_option maxRecDepth 16384

noncomputable section

namespace Cert.Kernel2Ideal.Pool

open Cert.Kernel2Ideal Cert.Kernel2Ideal.Gen Cert.Gla Cert.Pool Idealize.ShloMosaic Idealize.ShloMosaic.TcCoe Idealize.SL.Sem

/-- What the kernel's weight blocks hold of the layer's weights. -/
structure PK (W : PWts) (x3 : Vec Ideal S1x8x1024 .f32) (x4 : Vec Ideal S1x4x256x256 .bf16) (x5 x6 : Vec Ideal S1x1024x2816 .bf16) (x7 : Vec Ideal S1x2816x1024 .bf16) (x8 : Vec Ideal S1x1024x1024 .bf16) (x9 : Vec Ideal S1x256x1024 .bf16) : Prop where
  nm : ∀ c : Fin 1024, x3 (ix3 0 0 c) = W.nm c
  nf : ∀ c : Fin 1024, x3 (ix3 0 1 c) = W.nf c
  np : ∀ c : Fin 1024, x3 (ix3 0 2 c) = W.np c
  bp : ∀ c : Fin 1024, x3 (ix3 0 3 c) = W.bp c
  sc : ∀ c : Fin 1024, x3 (ix3 0 4 c) = W.sc c
  wp : ∀ (g : Fin 4) (i c : Fin 256), x4 (ix4 0 g i c) = W.wp g i c
  wg : ∀ (i : Fin 1024) (c : Fin 2816), x5 (ix3 0 i c) = W.wg i c
  wu : ∀ (i : Fin 1024) (c : Fin 2816), x6 (ix3 0 i c) = W.wu i c
  wd : ∀ (i : Fin 2816) (c : Fin 1024), x7 (ix3 0 i c) = W.wd i c
  wpg : ∀ i c : Fin 1024, x8 (ix3 0 i c) = W.wpg i c
  wpp : ∀ (i : Fin 256) (c : Fin 1024), x9 (ix3 0 i c) = W.wpp i c

variable {W : PWts} {x3 : Vec Ideal S1x8x1024 .f32} {x4 : Vec Ideal S1x4x256x256 .bf16} {x5 x6 : Vec Ideal S1x1024x2816 .bf16} {x7 : Vec Ideal S1x2816x1024 .bf16} {x8 : Vec Ideal S1x1024x1024 .bf16} {x9 : Vec Ideal S1x256x1024 .bf16}

/-- Row `r` of quarter `s` of the layer's input block. -/
def rowV (x0 : Vec Ideal S1x1024x1024 .f32) (s : Fin 4) (r : Fin 256) (c : Fin 1024) : EReal :=
  x0 (ix3 0 ⟨256 * s + r, by omega⟩ c)

/-- Row `r` of quarter `s` of the per-layer embedding block. -/
def prowV (x1 : Vec Ideal S1x1x1024x256 .f32) (s : Fin 4) (r : Fin 256) (c : Fin 256) : EReal :=
  x1 (ix4 0 0 ⟨256 * s + r, by omega⟩ c)

theorem xV_at (x0 : Vec Ideal S1x1024x1024 .f32) (s : Fin 4) (r : Fin 256) (c : Fin 1024) :
    xV x0 s (ix3 0 r c) = rowV x0 s r c := by
  match s with
  | 0 => pointwise [xV, rowV]; try simp
  | 1 => pointwise [xV, rowV]; try simp
  | 2 => pointwise [xV, rowV]; try simp
  | 3 => pointwise [xV, rowV]; try simp

theorem pV_at (x1 : Vec Ideal S1x1x1024x256 .f32) (s : Fin 4) (r : Fin 256) (c : Fin 256) :
    pV x1 s (ix4 0 0 r c) = prowV x1 s r c := by
  match s with
  | 0 => pointwise [pV, prowV]; try simp
  | 1 => pointwise [pV, prowV]; try simp
  | 2 => pointwise [pV, prowV]; try simp
  | 3 => pointwise [pV, prowV]; try simp

theorem nm_at (K : PK W x3 x4 x5 x6 x7 x8 x9) (c : Fin 1024) : nmV x3 (ix3 0 0 c) = W.nm c := by
  rw [← K.nm]; pointwise [nmV]; try rfl

theorem nf_at (K : PK W x3 x4 x5 x6 x7 x8 x9) (c : Fin 1024) : nfV x3 (ix3 0 0 c) = W.nf c := by
  rw [← K.nf]; pointwise [nfV]; try rfl

theorem np_at (K : PK W x3 x4 x5 x6 x7 x8 x9) (c : Fin 1024) : npV x3 (ix3 0 0 c) = W.np c := by
  rw [← K.np]; pointwise [npV]; try rfl

theorem bp_at (K : PK W x3 x4 x5 x6 x7 x8 x9) (c : Fin 1024) : bpV x3 (ix3 0 0 c) = W.bp c := by
  rw [← K.bp]; pointwise [bpV]; try rfl

theorem sc_at (K : PK W x3 x4 x5 x6 x7 x8 x9) (c : Fin 1024) : scV x3 (ix3 0 0 c) = W.sc c := by
  rw [← K.sc]; pointwise [scV]; try rfl

theorem wp_at (K : PK W x3 x4 x5 x6 x7 x8 x9) (g : Fin 4) (i c : Fin 256) : wpV x4 g (ix4 0 0 i c) = W.wp g i c := by
  rw [← K.wp]
  match g with
  | 0 => pointwise [wpV]; try simp
  | 1 => pointwise [wpV]; try simp
  | 2 => pointwise [wpV]; try simp
  | 3 => pointwise [wpV]; try simp

/-- The normalised rows. -/
theorem xn_at (K : PK W x3 x4 x5 x6 x7 x8 x9) (x0 : Vec Ideal S1x1024x1024 .f32) (s : Fin 4) (r : Fin 256) (c : Fin 1024) :
    xnV x0 x3 s (ix3 0 r c) = rms (Ideal.ofBits .f32 0x44800000#32) (rowV x0 s r) W.nm c := by
  pointwise [xnV, k0_pay4, k0_pay3, xV_at, nm_at K, rms]

/-- A window's columns of the buffer's rows. -/
theorem ext_at (B : Vec Ideal S1x1040x1024 .f32) (s g : Fin 4) (e : Fin 272) (c : Fin 256) :
    extV B s g (ix3 0 e c) = B (ix3 0 ⟨256 * s + e, by omega⟩ ⟨256 * g + c, by omega⟩) := by
  match s, g with
  | 0, 0 => pointwise [extV]; try simp
  | 0, 1 => pointwise [extV]; try simp
  | 0, 2 => pointwise [extV]; try simp
  | 0, 3 => pointwise [extV]; try simp
  | 1, 0 => pointwise [extV]; try simp
  | 1, 1 => pointwise [extV]; try simp
  | 1, 2 => pointwise [extV]; try simp
  | 1, 3 => pointwise [extV]; try simp
  | 2, 0 => pointwise [extV]; try simp
  | 2, 1 => pointwise [extV]; try simp
  | 2, 2 => pointwise [extV]; try simp
  | 2, 3 => pointwise [extV]; try simp
  | 3, 0 => pointwise [extV]; try simp
  | 3, 1 => pointwise [extV]; try simp
  | 3, 2 => pointwise [extV]; try simp
  | 3, 3 => pointwise [extV]; try simp

/-- A column of a window's rows as a sequence. -/
def colN (v : FVec Ideal S272x256 .f32) (c : Fin 256) (n : ℕ) : EReal := v (ix2 ⟨n % 272, by omega⟩ c)

/-- A row plus the row `k` before it. -/
theorem twice_at (k : BitVec 32) (v : FVec Ideal S272x256 .f32) (n : ℕ) (c : Fin 256) (hk : k.toNat ≤ n) (hn : n < 272) :
    colN (twiceV k v) c n = colN v c n + colN v c (n - k.toNat) := by
  refine congrArg (colN v c n + ·) (dynamicRotate_apply (s := S272x256) 0 k v rotates_S272x256_d0 _ _ fun b => ?_)
  match b with
  | ⟨0, _⟩ =>
    show (n - k.toNat) % 272 = (n % 272 + 272 - k.toNat % 272) % 272
    omega
  | ⟨1, _⟩ => rfl

/-- The doubling sums are the window's. -/
theorem sum_at (v : FVec Ideal S272x256 .f32) (g : Fin 4) (n : ℕ) (c : Fin 256) (h0 : 15 ≤ n) (hn : n < 272) :
    colN (sumV v g) c n = sumT (colN v c) g n := by
  have e0 : ∀ m, 1 ≤ m → m < 272 → colN (twiceV 1#32 v) c m = sumT (colN v c) 0 m := fun m h1 h2 =>
    (twice_at 1#32 v m c h1 h2).trans (sumT_0 _ m).symm
  have e1 : ∀ m, 3 ≤ m → m < 272 → colN (twiceV 2#32 (twiceV 1#32 v)) c m = sumT (colN v c) 1 m := fun m h1 h2 =>
    (twice_at 2#32 _ m c (show 2 ≤ m by omega) h2).trans ((congrArg₂ (· + ·) (e0 m (by omega) h2) (e0 (m - 2) (by omega) (by omega))).trans (sumT_1 _ m).symm)
  have e2 : ∀ m, 7 ≤ m → m < 272 → colN (twiceV 4#32 (twiceV 2#32 (twiceV 1#32 v))) c m = sumT (colN v c) 2 m := fun m h1 h2 =>
    (twice_at 4#32 _ m c (show 4 ≤ m by omega) h2).trans ((congrArg₂ (· + ·) (e1 m (by omega) h2) (e1 (m - 4) (by omega) (by omega))).trans (sumT_2 _ m).symm)
  match g with
  | 0 => exact e0 n (by omega) hn
  | 1 => exact e1 n (by omega) hn
  | 2 => exact e2 n (by omega) hn
  | 3 => exact (twice_at 8#32 _ n c (show 8 ≤ n by omega) hn).trans ((congrArg₂ (· + ·) (e2 n (by omega) hn) (e2 (n - 8) (by omega) (by omega))).trans (sumT_3 _ n).symm)

theorem word_add (a b c : ℕ) : IntOp.addi (Scalar.addi (BitVec.ofNat 32 a) (BitVec.ofNat 32 b)) (BitVec.ofNat 32 c) = BitVec.ofNat 32 (a + b + c) := by
  show BitVec.ofNat 32 a + BitVec.ofNat 32 b + BitVec.ofNat 32 c = _
  rw [BitVec.ofNat_add, BitVec.ofNat_add]

theorem word_min (a b : ℕ) (ha : a < 2 ^ 31) (hb : b < 2 ^ 31) : IntOp.minsi (BitVec.ofNat 32 a) (BitVec.ofNat 32 b) = BitVec.ofNat 32 (min a b) := by
  have e1 : (BitVec.ofNat 32 a).toInt = a := WordCmp.toInt_ofNat_of_lt ha
  have e2 : (BitVec.ofNat 32 b).toInt = b := WordCmp.toInt_ofNat_of_lt hb
  unfold IntOp.minsi
  rw [BitVec.slt_eq_decide, e1, e2]
  by_cases h : a < b
  · have h' : (a : ℤ) < b := by omega
    have h2 : min a b = a := by omega
    simp [h, h2]
  · have h' : ¬(a : ℤ) < b := by omega
    have h2 : min a b = b := by omega
    simp [h, h2]

/-- A position of a quarter's row, its tile's first being `t0`. -/
theorem pos_at (t0 : ℕ) (s : Fin 4) (r : Fin 256) :
    posV (BitVec.ofNat 32 t0) s (ix2 r 0) = BitVec.ofNat 32 (t0 + 256 * s + r) := by
  match s with
  | 0 => pointwise [posV]; exact word_add t0 0 r
  | 1 => pointwise [posV]; exact word_add t0 256 r
  | 2 => pointwise [posV]; exact word_add t0 512 r
  | 3 => pointwise [posV]; exact word_add t0 768 r

theorem winW_eq (g : Fin 4) : winW g = BitVec.ofNat 32 (win g) := by
  match g with
  | 0 => rfl
  | 1 => rfl
  | 2 => rfl
  | 3 => rfl

theorem win_le (g : Fin 4) : win g ≤ 16 := by
  match g with | 0 => decide | 1 => decide | 2 => decide | 3 => decide

/-- One over a window's count of rows. -/
theorem inv_at (t0 : ℕ) (ht : t0 ≤ 3072) (s g : Fin 4) (r : Fin 256) :
    invV (F := Ideal) (BitVec.ofNat 32 t0) s g (ix2 r 0) = Ideal.div 1 (cntT g (t0 + 256 * s + r)) := by
  pointwise [invV]
  rw [pos_at t0]
  have hw := win_le g
  have e1 : IntOp.addi (BitVec.ofNat 32 (t0 + 256 * s + r)) 1#32 = BitVec.ofNat 32 (t0 + 256 * s + r + 1) :=
    (BitVec.ofNat_add (t0 + 256 * s + r) 1).symm
  rw [e1, winW_eq, word_min _ _ (by omega) (by omega)]
  refine congrArg (Ideal.div 1) ?_
  show (((BitVec.ofNat 32 (min (win g) (t0 + 256 * s + r + 1))).toInt : ℝ) : EReal) = _
  rw [WordCmp.toInt_ofNat_of_lt (by show min (win g) _ < 2 ^ 31; omega)]
  show (((min (win g) (t0 + 256 * s + r + 1) : ℕ) : ℤ) : ℝ) = ((((min (win g) (t0 + 256 * s + r + 1) : ℕ) : ℝ)) : EReal)
  simp only [Int.cast_natCast]

/-- A window's deviations on a quarter's rows, the buffer holding the padded rows from the tile's first on. -/
theorem d_at {H : ℕ → Fin 1024 → EReal} (B : Vec Ideal S1x1040x1024 .f32) (t0 : ℕ) (ht : t0 ≤ 3072)
    (hB : ∀ (n : Fin 1040) (c : Fin 1024), B (ix3 0 n c) = padT W H (t0 + n) c) (s g : Fin 4) (r i : Fin 256) :
    dV (BitVec.ofNat 32 t0) s g (extV B s g) (ix2 r i) = devT W H g (t0 + 256 * s + r) ⟨256 * g + i, by omega⟩ := by
  have hc : ∀ m < 272, colN (shapeCast S272x256 (extV B s g) shapeCasts_S1x272x256_S272x256) i m = padT W H (t0 + 256 * s + m) ⟨256 * g + i, by omega⟩ := by
    intro m hm
    unfold colN
    pointwise [ext_at]
    rw [hB]
    simp only [Nat.mod_eq_of_lt hm, Nat.add_assoc]
  have hs : ∀ (v : FVec Ideal S272x256 .f32) (h : 16 + (r : ℕ) < 272), sumV v g (ix2 ⟨16 + r, h⟩ i) = sumT (colN v i) g (16 + r) := by
    intro v h
    rw [← sum_at v g (16 + r) i (by omega) h]
    unfold colN
    simp only [Nat.mod_eq_of_lt h]
  have hx := hc (16 + r) (by omega)
  unfold colN at hx
  simp only [Nat.mod_eq_of_lt (show 16 + (r : ℕ) < 272 by omega)] at hx
  have he : extV B s g (ix3 0 ⟨16 + r, by omega⟩ i) = padT W H (t0 + 256 * s + (16 + r)) ⟨256 * g + i, by omega⟩ := by
    rw [← hx]
    pointwise []
  pointwise [dV]
  rw [hs, inv_at t0 ht, he, sumT_shift (colN (shapeCast S272x256 (extV B s g) shapeCasts_S1x272x256_S272x256) i) (fun n => padT W H n ⟨256 * g + i, by omega⟩) g (16 + r) (t0 + 256 * s + r + 16) fun k hk => ?_]
  · have e : t0 + 256 * s + (16 + r) = t0 + 256 * s + r + 16 := by omega
    rw [e]
    rfl
  · have e : t0 + 256 * s + (16 + r - k) = t0 + 256 * s + r + 16 - k := by omega
    rw [hc _ (by omega), e]

theorem mix_at (K : PK W x3 x4 x5 x6 x7 x8 x9) (g : Fin 4) (d : FVec Ideal S256x256 .bf16) (r c : Fin 256) :
    mixV x4 g d (ix2 r c) = ∑ i, d (ix2 r i) * W.wp g i c := by
  pointwise [mixV, wp_at K]

/-- The mixer's column `j` of window `g`. -/
theorem mixT_part (W : PWts) (H : ℕ → Fin 1024 → EReal) (t : ℕ) (g : Fin 4) (j : Fin 256) (c : Fin 1024) (hc : (c : ℕ) = 256 * g + j) :
    mixT W H t c = ∑ i : Fin 256, devT W H g t ⟨256 * g + i, by omega⟩ * W.wp g i j := by
  have e1 : (c : ℕ) / 256 = g := by omega
  have e2 : (c : ℕ) % 256 = j := by omega
  unfold mixT
  simp only [e1, e2]

theorem h2_at (K : PK W x3 x4 x5 x6 x7 x8 x9) {H : ℕ → Fin 1024 → EReal} (x0 : Vec Ideal S1x1024x1024 .f32) (B : Vec Ideal S1x1040x1024 .f32) (t0 : ℕ) (ht : t0 ≤ 3072)
    (hB : ∀ (n : Fin 1040) (c : Fin 1024), B (ix3 0 n c) = padT W H (t0 + n) c) (s : Fin 4) (r : Fin 256)
    (hx : ∀ c, rowV x0 s r c = H (t0 + 256 * s + r) c) (c : Fin 1024) :
    h2V (BitVec.ofNat 32 t0) B x0 x3 x4 s (ix2 r c) = h2T W H (t0 + 256 * s + r) c := by
  pointwise [h2V, xV_at, hx, bp_at K, sc_at K, mix_at K, h2T]
  refine congrArg (fun z => H (t0 + 256 * s + r) c + (z + W.bp c) * W.sc c) ?_
  by_cases h0 : (c : ℕ) < 256
  · refine (dif_pos h0).trans ?_
    rw [mixT_part W H _ 0 ⟨c, h0⟩ c (by simp)]
    exact Finset.sum_congr rfl fun i _ => congrArg (· * _) (d_at B t0 ht hB s 0 r i)
  refine (dif_neg h0).trans ?_
  by_cases h1 : (c : ℕ) - 256 < 256
  · refine (dif_pos h1).trans ?_
    rw [mixT_part W H _ 1 ⟨c - 256, h1⟩ c (by simp; omega)]
    exact Finset.sum_congr rfl fun i _ => congrArg (· * _) (d_at B t0 ht hB s 1 r i)
  refine (dif_neg h1).trans ?_
  by_cases h2 : (c : ℕ) - 256 - 256 < 256
  · refine (dif_pos h2).trans ?_
    rw [mixT_part W H _ 2 ⟨c - 256 - 256, h2⟩ c (by simp; omega)]
    exact Finset.sum_congr rfl fun i _ => congrArg (· * _) (d_at B t0 ht hB s 2 r i)
  refine (dif_neg h2).trans ?_
  rw [mixT_part W H _ 3 ⟨c - 256 - 256 - 256, by omega⟩ c (by simp; omega)]
  exact Finset.sum_congr rfl fun i _ => congrArg (· * _) (d_at B t0 ht hB s 3 r i)

/-- The normalisation of a quarter's rows. -/
theorem rms_at (x : FVec Ideal S256x1024 .f32) (w : Vec Ideal S1x1x1024 .f32) (r : Fin 256) (c : Fin 1024) :
    rmsV x w (ix2 r c) = rms (Ideal.ofBits .f32 0x44800000#32) (fun i => x (ix2 r i)) (fun i => w (ix3 0 0 i)) c := by
  pointwise [rmsV, rms]

/-- The gate's and the up projection's columns. -/
theorem gcol_at (x : Vec Ideal S1x1024x2816 .bf16) (n : Fin 11) (i : Fin 1024) (j : Fin 256) :
    gcol x n (ix3 0 i j) = x (ix3 0 i ⟨n * 256 + j, by omega⟩) := by
  match n with
  | 0 => pointwise [gcol]; try simp
  | 1 => pointwise [gcol]; try simp
  | 2 => pointwise [gcol]; try simp
  | 3 => pointwise [gcol]; try simp
  | 4 => pointwise [gcol]; try simp
  | 5 => pointwise [gcol]; try simp
  | 6 => pointwise [gcol]; try simp
  | 7 => pointwise [gcol]; try simp
  | 8 => pointwise [gcol]; try simp
  | 9 => pointwise [gcol]; try simp
  | 10 => pointwise [gcol]; try simp

theorem drow_at (x : Vec Ideal S1x2816x1024 .bf16) (n : Fin 11) (j : Fin 256) (c : Fin 1024) :
    drow x n (ix3 0 j c) = x (ix3 0 ⟨n * 256 + j, by omega⟩ c) := by
  match n with
  | 0 => pointwise [drow]; try simp
  | 1 => pointwise [drow]; try simp
  | 2 => pointwise [drow]; try simp
  | 3 => pointwise [drow]; try simp
  | 4 => pointwise [drow]; try simp
  | 5 => pointwise [drow]; try simp
  | 6 => pointwise [drow]; try simp
  | 7 => pointwise [drow]; try simp
  | 8 => pointwise [drow]; try simp
  | 9 => pointwise [drow]; try simp
  | 10 => pointwise [drow]; try simp

/-- One column block of the feed-forward layer. -/
theorem ffnC_at (K : PK W x3 x4 x5 x6 x7 x8 x9) (xf : FVec Ideal S256x1024 .bf16) (n : Fin 11) (r : Fin 256) (c : Fin 1024) :
    ffnC x5 x6 x7 xf n (ix2 r c) = ∑ j : Fin 256, (silu (∑ i, xf (ix2 r i) * W.wg i ⟨n * 256 + j, by omega⟩) * ∑ i, xf (ix2 r i) * W.wu i ⟨n * 256 + j, by omega⟩) * W.wd ⟨n * 256 + j, by omega⟩ c := by
  pointwise [ffnC, ffn1, lin256V, gcol_at, drow_at, silu, K.wg, K.wu, K.wd]

/-- Eleven terms added first to last. -/
theorem sum_11 (f : Fin 11 → EReal) :
    ∑ n, f n = f 0 + f 1 + f 2 + f 3 + f 4 + f 5 + f 6 + f 7 + f 8 + f 9 + f 10 := by
  simp only [Fin.sum_univ_castSucc, Fin.sum_univ_zero, zero_add]
  rfl

/-- The feed-forward layer. -/
theorem ffn_at (K : PK W x3 x4 x5 x6 x7 x8 x9) (xf : FVec Ideal S256x1024 .bf16) (r : Fin 256) (c : Fin 1024) :
    ffnV x5 x6 x7 xf (ix2 r c) = ∑ j : Fin 2816, (silu (∑ i, xf (ix2 r i) * W.wg i j) * ∑ i, xf (ix2 r i) * W.wu i j) * W.wd j c := by
  rw [Fin.sum_univ_tiles 11 256 rfl]
  refine ((sum_11 fun n => ffnC x5 x6 x7 xf n (ix2 r c)).symm : ffnV x5 x6 x7 xf (ix2 r c) = _).trans (Finset.sum_congr rfl fun n _ => ?_)
  exact ffnC_at K xf n r c

theorem h3_at (K : PK W x3 x4 x5 x6 x7 x8 x9) (h2 : FVec Ideal S256x1024 .f32) (r : Fin 256) (c : Fin 1024) :
    h3V x3 x5 x6 x7 h2 (ix2 r c) = ph3R W (fun i => h2 (ix2 r i)) c := by
  have a : h3V x3 x5 x6 x7 h2 (ix2 r c) = h2 (ix2 r c) + ffnV x5 x6 x7 (truncf .bf16 (rmsV h2 (nfV x3)) bitsLt_bf16_f32) (ix2 r c) := rfl
  have b : ∀ i, truncf (F := Ideal) .bf16 (rmsV h2 (nfV x3)) bitsLt_bf16_f32 (ix2 r i) = rms (Ideal.ofBits .f32 0x44800000#32) (fun i => h2 (ix2 r i)) W.nf i := by
    intro i
    refine (rms_at h2 (nfV x3) r i).trans ?_
    simp only [nf_at K]
  rw [a, ffn_at K]
  simp only [b]
  rfl

theorem h4_at (K : PK W x3 x4 x5 x6 x7 x8 x9) (x1 : Vec Ideal S1x1x1024x256 .f32) (h3 : FVec Ideal S256x1024 .f32) (s : Fin 4) (r : Fin 256) (c : Fin 1024) :
    h4V x1 x3 x8 x9 h3 s (ix2 r c) = ph4R W (fun i => h3 (ix2 r i)) (prowV x1 s r) c := by
  pointwise [h4V, pleV, pV_at, ph4R, rms_at, np_at K, K.wpg, K.wpp]

/-- A quarter's result rows. -/
theorem y_at (K : PK W x3 x4 x5 x6 x7 x8 x9) {H : ℕ → Fin 1024 → EReal} {P : ℕ → Fin 256 → EReal} (x0 : Vec Ideal S1x1024x1024 .f32) (x1 : Vec Ideal S1x1x1024x256 .f32) (B : Vec Ideal S1x1040x1024 .f32) (t0 : ℕ) (ht : t0 ≤ 3072)
    (hB : ∀ (n : Fin 1040) (c : Fin 1024), B (ix3 0 n c) = padT W H (t0 + n) c) (s : Fin 4) (r : Fin 256)
    (hx : ∀ c, rowV x0 s r c = H (t0 + 256 * s + r) c) (hp : ∀ c, prowV x1 s r c = P (t0 + 256 * s + r) c) (c : Fin 1024) :
    yV (BitVec.ofNat 32 t0) B x0 x1 x3 x4 x5 x6 x7 x8 x9 s (ix3 0 r c) = poolT W H P (t0 + 256 * s + r) c := by
  have ep : prowV x1 s r = P (t0 + 256 * s + r) := funext hp
  pointwise [yV, h4_at K, h3_at K, h2_at K x0 B t0 ht hB s r hx, ep]
  try rfl

/-- The row buffer's rows, from the tile's input rows and the sixteen rows before the tile. -/
theorem buf_at (K : PK W x3 x4 x5 x6 x7 x8 x9) {H : ℕ → Fin 1024 → EReal} (Z : Vec Ideal S1x1040x1024 .f32) (x0 : Vec Ideal S1x1024x1024 .f32) (t0 : ℕ)
    (hZ : ∀ (r : Fin 1040) (_ : (r : ℕ) < 16) (c : Fin 1024), Z (ix3 0 r c) = padT W H (t0 + r) c)
    (hx : ∀ (u : Fin 1024) (c : Fin 1024), x0 (ix3 0 u c) = H (t0 + u) c) (n : Fin 1040) (c : Fin 1024) :
    bufG Z x0 x3 (ix3 0 n c) = padT W H (t0 + n) c := by
  by_cases h : (n : ℕ) < 16
  · exact (if_pos h).trans (hZ n h c)
  · refine (if_neg h).trans ?_
    have hn := n.isLt
    refine (xn_at K x0 ⟨((n : ℕ) - 16) / 256, by omega⟩ ⟨((n : ℕ) - 16) % 256, by omega⟩ c).trans ?_
    unfold padT
    rw [if_neg (by omega)]
    have e : rowV x0 ⟨((n : ℕ) - 16) / 256, by omega⟩ ⟨((n : ℕ) - 16) % 256, by omega⟩ = H (t0 + n - 16) := by
      funext i
      refine (hx _ i).trans (congrFun (congrArg H ?_) i)
      simp only
      omega
    rw [e]

/-- The row buffer's first rows at the start of a stream without history. -/
theorem hist_at (x2 : Vec Ideal S1x1x15x1024 .f32) (h2 : ∀ (j : Fin 15) (c : Fin 1024), x2 (ix4 0 0 j c) = (0 : EReal)) (H : ℕ → Fin 1024 → EReal)
    (r : Fin 1040) (hr : (r : ℕ) < 16) (c : Fin 1024) : histV x2 (ix3 0 r c) = padT W H (0 + r) c := by
  have e : padT W H (0 + r) c = 0 := if_pos (by omega)
  rw [e]
  have z : (Scalar.ofBits (F := Ideal) .f32 0x00000000#32 : EReal) = 0 := by simp [Scalar.ofBits, FloatOps.ofBits]
  by_cases h : 1 ≤ (r : ℕ) ∧ (r : ℕ) < 16
  · refine (dif_pos h).trans ?_
    refine Eq.trans ?_ (h2 ⟨r - 1, by omega⟩ c)
    show k0_pay2 x2 (ix3 0 ⟨(r : ℕ) - 1, _⟩ c) = _
    pointwise [k0_pay2]
  · exact (dif_neg h).trans z

end Cert.Kernel2Ideal.Pool
-- ==== Proof.PoolEntry.lean ====
/-
  The blocks of a grid point of the pooling layer's call as entries of the argument arrays: the input rows, the embeddings,
  the history, and the weights the host packs and casts.
-/
module

public import proofs.«01_k».proof.Proof.PoolAt
public import Idealize.ShloMosaic.Lib.Pipeline.ValueKit
public import Idealize.ShloMosaic.Lib.StableHlo.ReadAt

@[expose] public section

set_option maxRecDepth 16384
set_option maxHeartbeats 4000000

noncomputable section

namespace Cert.Kernel2Ideal.Pool

open Cert.Kernel2Ideal Cert.Kernel2Ideal.Gen Cert.Gla Cert.Pool Idealize.ShloMosaic Idealize.ShloMosaic.TcCoe Idealize.SL.Sem

variable (m : (ℓ : Loc nD τ sig) → Buf (Elt Ideal) ℓ)

/-- The windows' block indices. -/
theorem idx : ∀ t : Fin cfg0.N,
    win0_0.index t = ![t.val / 4, t.val % 4, 0] ∧ win0_1.index t = ![0, t.val / 4, t.val % 4, 0] ∧ win0_2.index t = ![0, t.val / 4, 0, 0]
    ∧ win0_3.index t = ![0, 0, 0] ∧ win0_4.index t = ![0, 0, 0, 0] ∧ win0_5.index t = ![0, 0, 0] ∧ win0_6.index t = ![0, 0, 0] ∧ win0_7.index t = ![0, 0, 0]
    ∧ win0_8.index t = ![0, 0, 0] ∧ win0_9.index t = ![0, 0, 0]
    ∧ win0_10.index t = ![t.val / 4, t.val % 4, 0] ∧ win0_11.index t = ![0, t.val / 4, 0, 0] ∧ t.val < 16 :=
  (by decide +kernel : ∀ t : Fin grid0.N, _)

/-- The stream of a grid point. -/
def bN (n : ℕ) : Fin 4 := ⟨n / 4 % 4, by omega⟩

/-- The tile's first position. -/
theorem base : ∀ t : Fin cfg0.N, kernelRun0_A.sl.v4 (grid0.coords t) = BitVec.ofNat 32 (1024 * (t.val % 4)) :=
  (by decide +kernel : ∀ t : Fin grid0.N, _)

theorem baseB : ∀ t : Fin cfg0.N, kernelRun0_B.sl.v4 (grid0.coords t) = BitVec.ofNat 32 (1024 * (t.val % 4)) :=
  (by decide +kernel : ∀ t : Fin grid0.N, _)

/-- The layer's weights, from the kernel's arguments. -/
def kW (c : Dev nD) : PWts :=
  pwOf (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))

theorem blk0 (c : Dev nD) (t : Fin cfg0.N) (u : Fin 1024) (i : Fin 1024) :
    iblk m c 0 t (ix3 0 u i) = hOf (m ((c : Thread nD τ).loc main_arg0)) (bN t.val) (1024 * (t.val % 4) + u) i := by
  have h := (idx t).2.2.2.2.2.2.2.2.2.2.2.2
  unfold hOf bN
  blk_ext [iblk, V, idx t]

theorem blk1 (c : Dev nD) (t : Fin cfg0.N) (u : Fin 1024) (i : Fin 256) :
    iblk m c 1 t (ix4 0 0 u i) = ppOf (m ((c : Thread nD τ).loc main_arg1)) (bN t.val) (1024 * (t.val % 4) + u) i := by
  have h := (idx t).2.2.2.2.2.2.2.2.2.2.2.2
  unfold ppOf bN
  blk_ext [iblk, V, idx t]

/-- The history is zero. -/
theorem host_v30 (c : Dev nD) (i : S1x4x15x1024.Idx) : V m c main_v30 i = (0 : EReal) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem host_v24 (c : Dev nD) (g : Fin 4) (i j : Fin 256) : V m c main_v24 (ix4 0 g i j) = (kW m c).wp g i j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem host_v25 (c : Dev nD) (i : Fin 1024) (j : Fin 2816) : V m c main_v25 (ix3 0 i j) = (kW m c).wg i j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem host_v26 (c : Dev nD) (i : Fin 1024) (j : Fin 2816) : V m c main_v26 (ix3 0 i j) = (kW m c).wu i j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem host_v27 (c : Dev nD) (i : Fin 2816) (j : Fin 1024) : V m c main_v27 (ix3 0 i j) = (kW m c).wd i j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem host_v28 (c : Dev nD) (i j : Fin 1024) : V m c main_v28 (ix3 0 i j) = (kW m c).wpg i j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem host_v29 (c : Dev nD) (i : Fin 256) (j : Fin 1024) : V m c main_v29 (ix3 0 i j) = (kW m c).wpp i j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem row_nm (c : Dev nD) (j : Fin 1024) : V m c main_v23 (ix3 0 0 j) = (kW m c).nm j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  after_reads_at

theorem row_nf (c : Dev nD) (j : Fin 1024) : V m c main_v23 (ix3 0 1 j) = (kW m c).nf j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  after_reads_at

theorem row_np (c : Dev nD) (j : Fin 1024) : V m c main_v23 (ix3 0 2 j) = (kW m c).np j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  after_reads_at

theorem row_bp (c : Dev nD) (j : Fin 1024) : V m c main_v23 (ix3 0 3 j) = (kW m c).bp j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  after_reads_at

theorem row_sc (c : Dev nD) (j : Fin 1024) : V m c main_v23 (ix3 0 4 j) = (kW m c).sc j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  after_reads_at

theorem blk2 (c : Dev nD) (t : Fin cfg0.N) (j : Fin 15) (d : Fin 1024) :
    iblk m c 2 t (ix4 0 0 j d) = (0 : EReal) := by
  refine Eq.trans ?_ (host_v30 m c (ix4 0 ⟨t.val / 4, by have := (idx t).2.2.2.2.2.2.2.2.2.2.2.2; omega⟩ j d))
  blk_ext [iblk, idx t]

theorem blk3 (c : Dev nD) (t : Fin cfg0.N) (i : Fin 8) (j : Fin 1024) : iblk m c 3 t (ix3 0 i j) = V m c main_v23 (ix3 0 i j) := by
  blk_ext [iblk, idx t]

theorem blk4 (c : Dev nD) (t : Fin cfg0.N) (g : Fin 4) (i j : Fin 256) : iblk m c 4 t (ix4 0 g i j) = V m c main_v24 (ix4 0 g i j) := by
  blk_ext [iblk, idx t]

theorem blk5 (c : Dev nD) (t : Fin cfg0.N) (i : Fin 1024) (j : Fin 2816) : iblk m c 5 t (ix3 0 i j) = V m c main_v25 (ix3 0 i j) := by
  blk_ext [iblk, idx t]

theorem blk6 (c : Dev nD) (t : Fin cfg0.N) (i : Fin 1024) (j : Fin 2816) : iblk m c 6 t (ix3 0 i j) = V m c main_v26 (ix3 0 i j) := by
  blk_ext [iblk, idx t]

theorem blk7 (c : Dev nD) (t : Fin cfg0.N) (i : Fin 2816) (j : Fin 1024) : iblk m c 7 t (ix3 0 i j) = V m c main_v27 (ix3 0 i j) := by
  blk_ext [iblk, idx t]

theorem blk8 (c : Dev nD) (t : Fin cfg0.N) (i j : Fin 1024) : iblk m c 8 t (ix3 0 i j) = V m c main_v28 (ix3 0 i j) := by
  blk_ext [iblk, idx t]

theorem blk9 (c : Dev nD) (t : Fin cfg0.N) (i : Fin 256) (j : Fin 1024) : iblk m c 9 t (ix3 0 i j) = V m c main_v29 (ix3 0 i j) := by
  blk_ext [iblk, idx t]

/-- The weight blocks of every point are the layer's weights. -/
theorem pk (c : Dev nD) (t : Fin cfg0.N) :
    PK (kW m c) (iblk m c 3 t) (iblk m c 4 t) (iblk m c 5 t) (iblk m c 6 t) (iblk m c 7 t) (iblk m c 8 t) (iblk m c 9 t) where
  nm j := (blk3 m c t 0 j).trans (row_nm m c j)
  nf j := (blk3 m c t 1 j).trans (row_nf m c j)
  np j := (blk3 m c t 2 j).trans (row_np m c j)
  bp j := (blk3 m c t 3 j).trans (row_bp m c j)
  sc j := (blk3 m c t 4 j).trans (row_sc m c j)
  wp g i j := (blk4 m c t g i j).trans (host_v24 m c g i j)
  wg i j := (blk5 m c t i j).trans (host_v25 m c i j)
  wu i j := (blk6 m c t i j).trans (host_v26 m c i j)
  wd i j := (blk7 m c t i j).trans (host_v27 m c i j)
  wpg i j := (blk8 m c t i j).trans (host_v28 m c i j)
  wpp i j := (blk9 m c t i j).trans (host_v29 m c i j)

end Cert.Kernel2Ideal.Pool
-- ==== Proof.PoolBlocks.lean ====
/-
  What the pooling kernel reads back from its row buffer and what its stores leave: the buffer holds sixteen rows from
  before the tile and then the tile's normalised rows, a quarter at a time, and at the end its last sixteen rows are
  copied to the front.
-/
module

public import proofs.«01_k».proof.Proof.PoolVec

@[expose] public section

set_option maxRecDepth 16384

noncomputable section

namespace Cert.Kernel2Ideal.Pool

open Cert.Kernel2Ideal Cert.Kernel2Ideal.Gen Idealize.ShloMosaic Idealize.ShloMosaic.TcCoe Idealize.SL.Sem

variable {F : FTy → Type} [FloatOps F] (Z : Vec F S1x1040x1024 .f32) (x0 : Vec F S1x1024x1024 .f32) (x1 : Vec F S1x1x1024x256 .f32) (x2 : Vec F S1x1x15x1024 .f32) (x3 : Vec F S1x8x1024 .f32) (x4 : Vec F S1x4x256x256 .bf16) (x5 x6 : Vec F S1x1024x2816 .bf16) (x7 : Vec F S1x2816x1024 .bf16) (x8 : Vec F S1x1024x1024 .bf16) (x9 : Vec F S1x256x1024 .bf16)

/-- A quarter's stored rows are the buffer's rows there. -/
theorem xn_emb (s : Fin 4) (x : S1x256x1024.Idx) (y : S1x1040x1024.Idx) (h1 : (y 1 : ℕ) = 16 + 256 * s + x 1) (h2 : (y 2 : ℕ) = x 2) :
    xnV x0 x3 s x = bufG Z x0 x3 y := by
  have a0 : (x 0 : ℕ) < 1 := (x 0).isLt
  have a1 : (x 1 : ℕ) < 256 := (x 1).isLt
  have e1 : ∀ p, (⟨((y 1 : ℕ) - 16) / 256, p⟩ : Fin 4) = s := fun p => Fin.ext (by show ((y 1 : ℕ) - 16) / 256 = s; omega)
  have n : ¬ (y 1 : ℕ) < 16 := by omega
  simp only [bufG, if_neg n, e1]
  refine congrArg _ (funext fun a => ?_)
  match a with
  | 0 => exact Fin.ext (by show (x 0 : ℕ) = 0; omega)
  | 1 => exact Fin.ext (by show (x 1 : ℕ) = ((y 1 : ℕ) - 16) % 256; omega)
  | 2 => exact Fin.ext (by show (x 2 : ℕ) = (y 2 : ℕ); omega)

/-- A later quarter's windows, read after its own rows and the quarter's before it are stored. -/
theorem later_read (v : View sig .tc .vmem S1x1040x1024 .f32) (L : List (View.Piece (Elt F) S1x1040x1024 .f32)) (s s' : Fin 4) (p q o g : ℕ)
    (ip : ∀ a, (![0, p, 0] : Fin 3 → ℕ) a + S1x256x1024.size a ≤ S1x1040x1024.size a)
    (iq : ∀ a, (![0, q, 0] : Fin 3 → ℕ) a + S1x256x1024.size a ≤ S1x1040x1024.size a)
    (io : ∀ a, (![0, o, g] : Fin 3 → ℕ) a + S1x272x256.size a ≤ S1x1040x1024.size a)
    (hp : p = 16 + 256 * s) (hq : q = 16 + 256 * s') (ho : o + 16 = p) (hs : q + 256 = p) :
    v.readCov (⟨Rect.unit ![0, p, 0] S1x256x1024.size ip, xnV x0 x3 s⟩ :: ⟨Rect.unit ![0, q, 0] S1x256x1024.size iq, xnV x0 x3 s'⟩ :: L) (Rect.unit ![0, o, g] S1x272x256.size io : Rect S1x1040x1024).toLoadRect
      = View.ld (bufG Z x0 x3) (Rect.unit ![0, o, g] S1x272x256.size io) := by
  rw [View.readCov_eq_canon']
  funext j
  refine View.canon_append_of_piecesOf (bufG Z x0 x3) L [_, _] (And.intro (fun x => ?_) (And.intro (fun x => ?_) trivial)) _ ?_
  iterate 2
    · refine xn_emb Z x0 x3 _ x _ ?_ ?_ <;> rw [Rect.emb_apply] <;> simp <;> omega
  have j0 : (j 0 : ℕ) < 1 := (j 0).isLt
  have j1 : (j 1 : ℕ) < 272 := (j 1).isLt
  have c0 : ((LoadRect.idx (Rect.unit ![0, o, g] S1x272x256.size io : Rect S1x1040x1024).toLoadRect j) 0 : ℕ) = 0 + 1 * j 0 := rfl
  have c1 : ((LoadRect.idx (Rect.unit ![0, o, g] S1x272x256.size io : Rect S1x1040x1024).toLoadRect j) 1 : ℕ) = o + 1 * j 1 := rfl
  have c2 : ((LoadRect.idx (Rect.unit ![0, o, g] S1x272x256.size io : Rect S1x1040x1024).toLoadRect j) 2 : ℕ) < 1024 := Fin.isLt _
  rcases Nat.lt_or_ge (j 1 : ℕ) 16 with h | h
  · refine ⟨_, .tail _ (.head _), ?_⟩
    refine (Rect.mem_set_unit (inb := iq)).mpr fun a => ?_
    match a with
    | 0 => exact ⟨by show 0 ≤ _; omega, by rw [c0]; show _ < 0 + 1; omega⟩
    | 1 => exact ⟨by rw [c1]; show q ≤ _; omega, by rw [c1]; show _ < q + 256; omega⟩
    | 2 => exact ⟨by show 0 ≤ _; omega, by show _ < 0 + 1024; omega⟩
  · refine ⟨_, .head _, ?_⟩
    refine (Rect.mem_set_unit (inb := ip)).mpr fun a => ?_
    match a with
    | 0 => exact ⟨by show 0 ≤ _; omega, by rw [c0]; show _ < 0 + 1; omega⟩
    | 1 => exact ⟨by rw [c1]; show p ≤ _; omega, by rw [c1]; show _ < p + 256; omega⟩
    | 2 => exact ⟨by show 0 ≤ _; omega, by show _ < 0 + 1024; omega⟩

/-- The first quarter's windows on a later tile: the buffer still holds the rows from before the tile. -/
theorem first_read (m : Memref sig .tc .vmem S1x1040x1024 .f32) (hm : m.IsWhole) (g : ℕ)
    (ip : ∀ a, (![0, 16, 0] : Fin 3 → ℕ) a + S1x256x1024.size a ≤ S1x1040x1024.size a)
    (io : ∀ a, (![0, 0, g] : Fin 3 → ℕ) a + S1x272x256.size a ≤ S1x1040x1024.size a) :
    m.view.readAt (Elt F) (Rect.unit ![0, 0, g] S1x272x256.size io : Rect S1x1040x1024).toLoadRect
        (m.view.writes (Elt F) (hm.unread Z) [⟨Rect.unit ![0, 16, 0] S1x256x1024.size ip, xnV x0 x3 0⟩])
      = View.ld (bufG Z x0 x3) (Rect.unit ![0, 0, g] S1x272x256.size io) := by
  funext j
  have j0 : (j 0 : ℕ) < 1 := (j 0).isLt
  have j1 : (j 1 : ℕ) < 272 := (j 1).isLt
  show m.view.read (Elt F) (m.view.writes (Elt F) _ _) (LoadRect.idx (Rect.unit ![0, 0, g] S1x272x256.size io : Rect S1x1040x1024).toLoadRect j) = bufG Z x0 x3 (LoadRect.idx (Rect.unit ![0, 0, g] S1x272x256.size io : Rect S1x1040x1024).toLoadRect j)
  have c0 : ((LoadRect.idx (Rect.unit ![0, 0, g] S1x272x256.size io : Rect S1x1040x1024).toLoadRect j) 0 : ℕ) = 0 + 1 * j 0 := rfl
  have c1 : ((LoadRect.idx (Rect.unit ![0, 0, g] S1x272x256.size io : Rect S1x1040x1024).toLoadRect j) 1 : ℕ) = 0 + 1 * j 1 := rfl
  generalize LoadRect.idx (Rect.unit ![0, 0, g] S1x272x256.size io : Rect S1x1040x1024).toLoadRect j = y at c0 c1
  rcases Nat.lt_or_ge (j 1 : ℕ) 16 with h | h
  · rw [View.read_writes_cons_unit_of_not_mem _ _ ip _ [] y rfl 1 (Or.inl (by show (y 1 : ℕ) < 16; omega))]
    have n : (y 1 : ℕ) < 16 := by omega
    simp only [bufG, if_pos n]
    exact congrFun (hm.read_unread Z) y
  · have hx : ∃ x : S1x256x1024.Idx, ∀ a : Fin 3, (y a : ℕ) = (![0, 16, 0] : Fin 3 → ℕ) a + (x a : ℕ) :=
      ⟨(ValueIdx.ix3 0 ⟨(y 1 : ℕ) - 16, by omega⟩ (y 2) : S1x256x1024.Idx), fun a => by
        match a with
        | 0 => show (y 0 : ℕ) = 0 + 0; omega
        | 1 => show (y 1 : ℕ) = 16 + ((y 1 : ℕ) - 16); omega
        | 2 => show (y 2 : ℕ) = 0 + (y 2 : ℕ); omega⟩
    obtain ⟨x, hx⟩ := hx
    have h1 : (y 1 : ℕ) = 16 + (x 1 : ℕ) := hx 1
    have h2 : (y 2 : ℕ) = 0 + (x 2 : ℕ) := hx 2
    have e := View.read_writes_cons_unit_of_mem m.view (hm.unread Z) ip (xnV x0 x3 0) [] y x rfl hx
    exact e.trans (xn_emb Z x0 x3 0 x y (by rw [h1]; rfl) (by omega))

/-- The first quarter's windows on a stream's first tile: the zero row and the history are stored first. -/
theorem start_read (v : View sig .tc .vmem S1x1040x1024 .f32) (g : ℕ)
    (ip : ∀ a, (![0, 16, 0] : Fin 3 → ℕ) a + S1x256x1024.size a ≤ S1x1040x1024.size a)
    (ih : ∀ a, (![0, 1, 0] : Fin 3 → ℕ) a + S1x15x1024.size a ≤ S1x1040x1024.size a)
    (iz : ∀ a, (![0, 0, 0] : Fin 3 → ℕ) a + S1x1x1024.size a ≤ S1x1040x1024.size a)
    (io : ∀ a, (![0, 0, g] : Fin 3 → ℕ) a + S1x272x256.size a ≤ S1x1040x1024.size a) :
    v.readCov [⟨Rect.unit ![0, 16, 0] S1x256x1024.size ip, xnV x0 x3 0⟩, ⟨Rect.unit ![0, 1, 0] S1x15x1024.size ih, k0_pay2 x2⟩, ⟨Rect.unit ![0, 0, 0] S1x1x1024.size iz, k0_pay1⟩] (Rect.unit ![0, 0, g] S1x272x256.size io : Rect S1x1040x1024).toLoadRect
      = View.ld (bufG (histV x2) x0 x3) (Rect.unit ![0, 0, g] S1x272x256.size io) := by
  rw [View.readCov_eq_canon']
  funext j
  refine View.canon_append_of_piecesOf (bufG (histV x2) x0 x3) [] [_, _, _] (And.intro (fun x => ?_) (And.intro (fun x => ?_) (And.intro (fun x => ?_) trivial))) _ ?_
  · refine xn_emb (histV x2) x0 x3 _ x _ ?_ ?_ <;> rw [Rect.emb_apply] <;> simp
  · have a0 : (x 0 : ℕ) < 1 := (x 0).isLt
    have a1 : (x 1 : ℕ) < 15 := (x 1).isLt
    have c1 : ((Rect.unit ![0, 1, 0] S1x15x1024.size ih : Rect S1x1040x1024).emb x 1 : ℕ) = 1 + 1 * x 1 := rfl
    have c2 : ((Rect.unit ![0, 1, 0] S1x15x1024.size ih : Rect S1x1040x1024).emb x 2 : ℕ) = 0 + 1 * x 2 := rfl
    show k0_pay2 x2 x = bufG (histV x2) x0 x3 ((Rect.unit ![0, 1, 0] S1x15x1024.size ih : Rect S1x1040x1024).emb x)
    generalize (Rect.unit ![0, 1, 0] S1x15x1024.size ih : Rect S1x1040x1024).emb x = y at c1 c2
    have n : (y 1 : ℕ) < 16 := by omega
    have n' : 1 ≤ (y 1 : ℕ) ∧ (y 1 : ℕ) < 16 := by omega
    simp only [bufG, if_pos n, histV, dif_pos n']
    refine congrArg _ (funext fun a => ?_)
    match a with
    | 0 => exact Fin.ext (by show (x 0 : ℕ) = 0; omega)
    | 1 => exact Fin.ext (by show (x 1 : ℕ) = (y 1 : ℕ) - 1; omega)
    | 2 => exact Fin.ext (by show (x 2 : ℕ) = (y 2 : ℕ); omega)
  · have a1 : (x 1 : ℕ) < 1 := (x 1).isLt
    have c1 : ((Rect.unit ![0, 0, 0] S1x1x1024.size iz : Rect S1x1040x1024).emb x 1 : ℕ) = 0 + 1 * x 1 := rfl
    show k0_pay1 x = bufG (histV x2) x0 x3 ((Rect.unit ![0, 0, 0] S1x1x1024.size iz : Rect S1x1040x1024).emb x)
    generalize (Rect.unit ![0, 0, 0] S1x1x1024.size iz : Rect S1x1040x1024).emb x = y at c1
    have n : (y 1 : ℕ) < 16 := by omega
    have n' : ¬ (1 ≤ (y 1 : ℕ) ∧ (y 1 : ℕ) < 16) := by omega
    simp only [bufG, if_pos n, histV, dif_neg n']
    rfl
  have j0 : (j 0 : ℕ) < 1 := (j 0).isLt
  have j1 : (j 1 : ℕ) < 272 := (j 1).isLt
  have c0 : ((LoadRect.idx (Rect.unit ![0, 0, g] S1x272x256.size io : Rect S1x1040x1024).toLoadRect j) 0 : ℕ) = 0 + 1 * j 0 := rfl
  have c1 : ((LoadRect.idx (Rect.unit ![0, 0, g] S1x272x256.size io : Rect S1x1040x1024).toLoadRect j) 1 : ℕ) = 0 + 1 * j 1 := rfl
  have c2 : ((LoadRect.idx (Rect.unit ![0, 0, g] S1x272x256.size io : Rect S1x1040x1024).toLoadRect j) 2 : ℕ) < 1024 := Fin.isLt _
  have hq : (j 1 : ℕ) < 1 ∨ (1 ≤ (j 1 : ℕ) ∧ (j 1 : ℕ) < 16) ∨ 16 ≤ (j 1 : ℕ) := by omega
  rcases hq with h | h | h
  · refine ⟨_, .tail _ (.tail _ (.head _)), ?_⟩
    refine (Rect.mem_set_unit (inb := iz)).mpr fun a => ?_
    match a with
    | 0 => exact ⟨by show 0 ≤ _; omega, by rw [c0]; show _ < 0 + 1; omega⟩
    | 1 => exact ⟨by show 0 ≤ _; omega, by rw [c1]; show _ < 0 + 1; omega⟩
    | 2 => exact ⟨by show 0 ≤ _; omega, by show _ < 0 + 1024; omega⟩
  · refine ⟨_, .tail _ (.head _), ?_⟩
    refine (Rect.mem_set_unit (inb := ih)).mpr fun a => ?_
    match a with
    | 0 => exact ⟨by show 0 ≤ _; omega, by rw [c0]; show _ < 0 + 1; omega⟩
    | 1 => exact ⟨by rw [c1]; show 1 ≤ _; omega, by rw [c1]; show _ < 1 + 15; omega⟩
    | 2 => exact ⟨by show 0 ≤ _; omega, by show _ < 0 + 1024; omega⟩
  · refine ⟨_, .head _, ?_⟩
    refine (Rect.mem_set_unit (inb := ip)).mpr fun a => ?_
    match a with
    | 0 => exact ⟨by show 0 ≤ _; omega, by rw [c0]; show _ < 0 + 1; omega⟩
    | 1 => exact ⟨by rw [c1]; show 16 ≤ _; omega, by rw [c1]; show _ < 16 + 256; omega⟩
    | 2 => exact ⟨by show 0 ≤ _; omega, by show _ < 0 + 1024; omega⟩

/-- The buffer's last rows, read after the last quarter is stored. -/
theorem tail_read (v : View sig .tc .vmem S1x1040x1024 .f32) (L : List (View.Piece (Elt F) S1x1040x1024 .f32))
    (ip : ∀ a, (![0, 784, 0] : Fin 3 → ℕ) a + S1x256x1024.size a ≤ S1x1040x1024.size a)
    (B : LoadRect S1x1040x1024) (hB : ∀ j, 784 ≤ ((B.idx j) 1 : ℕ)) :
    v.readCov (⟨Rect.unit ![0, 784, 0] S1x256x1024.size ip, xnV x0 x3 3⟩ :: L) B = fun j => bufG Z x0 x3 (B.idx j) := by
  rw [View.readCov_eq_canon']
  funext j
  have b := hB j
  generalize B.idx j = y at b
  have y0 : (y 0 : ℕ) < 1 := (y 0).isLt
  have y1 : (y 1 : ℕ) < 1040 := (y 1).isLt
  have y2 : (y 2 : ℕ) < 1024 := (y 2).isLt
  refine View.canon_append_of_piecesOf (bufG Z x0 x3) L [_] (And.intro (fun x => ?_) trivial) y ⟨_, .head _, ?_⟩
  · refine xn_emb Z x0 x3 _ x _ ?_ ?_ <;> rw [Rect.emb_apply] <;> simp
  · refine (Rect.mem_set_unit (inb := ip)).mpr fun a => ?_
    match a with
    | 0 => exact ⟨by show 0 ≤ _; omega, by show _ < 0 + 1; omega⟩
    | 1 => exact ⟨by show 784 ≤ _; omega, by show _ < 784 + 256; omega⟩
    | 2 => exact ⟨by show 0 ≤ _; omega, by show _ < 0 + 1024; omega⟩

/-- The first sixteen rows after they are stored last. -/
theorem front_canon (L : List (View.Piece (Elt F) S1x1040x1024 .f32)) (w : Vec F S1x16x1024 .f32) (G : Vec F S1x1040x1024 .f32)
    (iz : ∀ a, (![0, 0, 0] : Fin 3 → ℕ) a + S1x16x1024.size a ≤ S1x1040x1024.size a)
    (hw : ∀ (r : Fin 16) (c : Fin 1024), w (ValueIdx.ix3 0 r c) = G (ValueIdx.ix3 0 ⟨1024 + r, by omega⟩ c)) (r : Fin 1040) (hr : (r : ℕ) < 16) (c : Fin 1024) :
    View.canon ((⟨Rect.unit ![0, 0, 0] S1x16x1024.size iz, w⟩ : View.Piece (Elt F) S1x1040x1024 .f32) :: L) (ValueIdx.ix3 0 r c)
      = G (ValueIdx.ix3 0 ⟨1024 + r, by omega⟩ c) := by
  refine (View.canon_append_of_piecesOf (fun y : S1x1040x1024.Idx => if h : (y 1 : ℕ) < 16 then G (ValueIdx.ix3 0 ⟨1024 + (y 1 : ℕ), by omega⟩ (y 2)) else G y) L [_] (And.intro (fun x => ?_) trivial) (ValueIdx.ix3 0 r c) ⟨_, .head _, ?_⟩).trans (dif_pos hr)
  · have a0 : (x 0 : ℕ) < 1 := (x 0).isLt
    have a1 : (x 1 : ℕ) < 16 := (x 1).isLt
    have c1 : ((Rect.unit ![0, 0, 0] S1x16x1024.size iz : Rect S1x1040x1024).emb x 1 : ℕ) = 0 + 1 * x 1 := rfl
    have c2 : ((Rect.unit ![0, 0, 0] S1x16x1024.size iz : Rect S1x1040x1024).emb x 2 : ℕ) = 0 + 1 * x 2 := rfl
    have ex : x = ValueIdx.ix3 0 (x 1) (x 2) := funext fun a => by
      match a with
      | 0 => exact Fin.ext (by show (x 0 : ℕ) = 0; omega)
      | 1 => rfl
      | 2 => rfl
    show w x = dite _ _ _
    rw [dif_pos (by rw [c1]; omega)]
    refine (congrArg w ex).trans ((hw (x 1) (x 2)).trans (congrArg G (funext fun a => ?_)))
    match a with
    | 0 => rfl
    | 1 => exact Fin.ext (by show 1024 + (x 1 : ℕ) = 1024 + (0 + 1 * (x 1 : ℕ)); omega)
    | 2 => exact Fin.ext (by show (x 2 : ℕ) = 0 + 1 * (x 2 : ℕ); omega)
  · refine (Rect.mem_set_unit (inb := iz)).mpr fun a => ?_
    match a with
    | 0 => exact ⟨by show 0 ≤ _; omega, by show 0 < 0 + 1; omega⟩
    | 1 => exact ⟨by show 0 ≤ _; omega, by show (r : ℕ) < 0 + 16; omega⟩
    | 2 => exact ⟨by show 0 ≤ _; omega, by show (c : ℕ) < 0 + 1024; omega⟩

/-- The tile's result rows. -/
def yFull (b : BitVec 32) (B : Vec F S1x1040x1024 .f32) : Vec F S1x1024x1024 .f32 :=
  fun y => yV b B x0 x1 x3 x4 x5 x6 x7 x8 x9 ⟨(y 1 : ℕ) / 256, by have h : (y 1 : ℕ) < 1024 := (y 1).isLt; omega⟩
    (ValueIdx.ix3 0 ⟨(y 1 : ℕ) % 256, by omega⟩ (y 2))

/-- The four quarters' stores leave the tile's result rows. -/
theorem rows_canon (b : BitVec 32) (B : Vec F S1x1040x1024 .f32) :
    View.canon [(⟨Rect.unit ![0, 768, 0] S1x256x1024.size inb_S1x1024x1024_S1x256x1024_0_768_0, yV b B x0 x1 x3 x4 x5 x6 x7 x8 x9 3⟩ : View.Piece (Elt F) S1x1024x1024 .f32), ⟨Rect.unit ![0, 512, 0] S1x256x1024.size inb_S1x1024x1024_S1x256x1024_0_512_0, yV b B x0 x1 x3 x4 x5 x6 x7 x8 x9 2⟩, ⟨Rect.unit ![0, 256, 0] S1x256x1024.size inb_S1x1024x1024_S1x256x1024_0_256_0, yV b B x0 x1 x3 x4 x5 x6 x7 x8 x9 1⟩, ⟨Rect.unit ![0, 0, 0] S1x256x1024.size inb_S1x1024x1024_S1x256x1024_0_0_0, yV b B x0 x1 x3 x4 x5 x6 x7 x8 x9 0⟩]
      = yFull x0 x1 x3 x4 x5 x6 x7 x8 x9 b B := by
  have piece : ∀ (s : Fin 4) (x : S1x256x1024.Idx) (y : S1x1024x1024.Idx), (y 1 : ℕ) = 256 * s + x 1 → (y 2 : ℕ) = x 2 → yV b B x0 x1 x3 x4 x5 x6 x7 x8 x9 s x = yFull x0 x1 x3 x4 x5 x6 x7 x8 x9 b B y := by
    intro s x y h1 h2
    have a0 : (x 0 : ℕ) < 1 := (x 0).isLt
    have a1 : (x 1 : ℕ) < 256 := (x 1).isLt
    have e1 : ∀ p, (⟨(y 1 : ℕ) / 256, p⟩ : Fin 4) = s := fun p => Fin.ext (by show (y 1 : ℕ) / 256 = s; omega)
    simp only [yFull, e1]
    refine congrArg _ (funext fun a => ?_)
    match a with
    | 0 => exact Fin.ext (by show (x 0 : ℕ) = 0; omega)
    | 1 => exact Fin.ext (by show (x 1 : ℕ) = (y 1 : ℕ) % 256; omega)
    | 2 => exact Fin.ext (by show (x 2 : ℕ) = (y 2 : ℕ); omega)
  funext y
  canon_tiles x h
  case piece0 => exact piece 3 x y (by show (y 1 : ℕ) = 256 * 3 + (x 1 : ℕ); omega) (by omega)
  case piece1 => exact piece 2 x y (by show (y 1 : ℕ) = 256 * 2 + (x 1 : ℕ); omega) (by omega)
  case piece2 => exact piece 1 x y (by show (y 1 : ℕ) = 256 * 1 + (x 1 : ℕ); omega) (by omega)
  case piece3 => exact piece 0 x y (by show (y 1 : ℕ) = 256 * 0 + (x 1 : ℕ); omega) (by omega)

end Cert.Kernel2Ideal.Pool
-- ==== Proof.PoolWordsA.lean ====
/-
  Case A of the run (a stream's first tile): its named intermediate values are the array functions of `PoolVec`.
-/
module

public import proofs.«01_k».proof.Proof.PoolBlocks

@[expose] public section

set_option maxRecDepth 16384
set_option maxHeartbeats 2000000

noncomputable section

namespace Cert.Kernel2Ideal.Pool.CaseA

open Cert.Kernel2Ideal Cert.Kernel2Ideal.Gen Cert.Kernel2Ideal.Pool Idealize.ShloMosaic Idealize.ShloMosaic.TcCoe Idealize.SL.Sem

variable {F : FTy → Type} [FloatOps F] (c : Dev nD) (i : grid0.Coords) (arg2 : Memref sig .tc .vmem S1x1024x1024 .f32) (harg2 : arg2.IsWhole) (arg3 : Memref sig .tc .vmem S1x1x1024x256 .f32) (harg3 : arg3.IsWhole) (arg4 : Memref sig .tc .vmem S1x1x15x1024 .f32) (harg4 : arg4.IsWhole) (arg5 : Memref sig .tc .vmem S1x8x1024 .f32) (harg5 : arg5.IsWhole) (arg6 : Memref sig .tc .vmem S1x4x256x256 .bf16) (harg6 : arg6.IsWhole) (arg7 : Memref sig .tc .vmem S1x1024x2816 .bf16) (harg7 : arg7.IsWhole) (arg8 : Memref sig .tc .vmem S1x1024x2816 .bf16) (harg8 : arg8.IsWhole) (arg9 : Memref sig .tc .vmem S1x2816x1024 .bf16) (harg9 : arg9.IsWhole) (arg10 : Memref sig .tc .vmem S1x1024x1024 .bf16) (harg10 : arg10.IsWhole) (arg11 : Memref sig .tc .vmem S1x256x1024 .bf16) (harg11 : arg11.IsWhole) (arg12 : Memref sig .tc .vmem S1x1024x1024 .f32) (harg12 : arg12.IsWhole) (arg13 : Memref sig .tc .vmem S1x1x15x1024 .f32) (harg13 : arg13.IsWhole) (arg14 : Memref sig .tc .vmem S1x1040x1024 .f32) (harg14 : arg14.IsWhole) (arg15 : Memref sig .tc .vmem S1024x1024 .bf16) (harg15 : arg15.IsWhole) (x0 : Vec F S1x1024x1024 .f32) (x1 : Vec F S1x1x1024x256 .f32) (x2 : Vec F S1x1x15x1024 .f32) (x3 : Vec F S1x8x1024 .f32) (x4 : Vec F S1x4x256x256 .bf16) (x5 : Vec F S1x1024x2816 .bf16) (x6 : Vec F S1x1024x2816 .bf16) (x7 : Vec F S1x2816x1024 .bf16) (x8 : Vec F S1x1024x1024 .bf16) (x9 : Vec F S1x256x1024 .bf16) (xs0 : Vec F S1x1040x1024 .f32)

/-- The first three stores of the row buffer: the zero row, the history, the first quarter. -/
theorem HS0_3_eq : kernelRun0_A.sl.HS0_3 c arg2 harg2 arg4 harg4 arg5 harg5 x0 x2 x3 = [⟨Rect.unit ![0, 16, 0] S1x256x1024.size inb_S1x1040x1024_S1x256x1024_0_16_0, xnV x0 x3 0⟩, ⟨Rect.unit ![0, 1, 0] S1x15x1024.size inb_S1x1040x1024_S1x15x1024_0_1_0, k0_pay2 x2⟩, ⟨Rect.unit ![0, 0, 0] S1x1x1024.size inb_S1x1040x1024_S1x1x1024_0_0_0, k0_pay1⟩] := by
  simp only [kernelRun0_A.sl.HS0_3, View.readAt_eq_ld arg2.view, View.readAt_eq_ld arg4.view, View.readAt_eq_ld arg5.view, Memref.IsWhole.read_unread]
  exact congrArg (fun z : Vec F S1x1x15x1024 .f32 => [(⟨Rect.unit ![0, 16, 0] S1x256x1024.size inb_S1x1040x1024_S1x256x1024_0_16_0, xnV x0 x3 0⟩ : View.Piece (Elt F) S1x1040x1024 .f32), ⟨Rect.unit ![0, 1, 0] S1x15x1024.size inb_S1x1040x1024_S1x15x1024_0_1_0, k0_pay2 z⟩, ⟨Rect.unit ![0, 0, 0] S1x1x1024.size inb_S1x1040x1024_S1x1x1024_0_0_0, k0_pay1⟩]) (View.ld_unit_zero (by decide) _ x2)

/-- Window 0 of the first quarter, read. -/
theorem v42_eq : kernelRun0_A.sl.v42 c arg2 harg2 arg4 harg4 arg5 harg5 arg14 x0 x2 x3 = extV (bufG (histV x2) x0 x3) 0 0 := by
  refine funext fun a => ?_
  simp only [kernelRun0_A.sl.v42, HS0_3_eq]
  exact congrFun (start_read x0 x2 x3 arg14.view 0 _ _ _ _) a

/-- … and its means less the rows, stored and read. -/
theorem v55_eq : kernelRun0_A.sl.v55 c i arg2 harg2 arg4 harg4 arg5 harg5 arg14 arg15 x0 x2 x3 = dV (kernelRun0_A.sl.v4 i) 0 0 (extV (bufG (histV x2) x0 x3) 0 0) := by
  refine funext fun a => ?_
  show arg15.view.readCov (⟨_, _⟩ :: _) _ a = _
  rw [View.readCov_cons_toLoadRect]
  simp only [kernelRun0_A.sl.v31, kernelRun0_A.sl.v4, kernelRun0_A.sl.v3, kernelRun0_A.sl.v32, v42_eq, View.readAt_eq_ld, Memref.IsWhole.read_unread]
  rfl

/-- Window 1 of the first quarter, read. -/
theorem v66_eq : kernelRun0_A.sl.v66 c arg2 harg2 arg4 harg4 arg5 harg5 arg14 x0 x2 x3 = extV (bufG (histV x2) x0 x3) 0 1 := by
  refine funext fun a => ?_
  simp only [kernelRun0_A.sl.v66, HS0_3_eq]
  exact congrFun (start_read x0 x2 x3 arg14.view 256 _ _ _ _) a

/-- … and its means less the rows, stored and read. -/
theorem v81_eq : kernelRun0_A.sl.v81 c i arg2 harg2 arg4 harg4 arg5 harg5 arg14 arg15 x0 x2 x3 = dV (kernelRun0_A.sl.v4 i) 0 1 (extV (bufG (histV x2) x0 x3) 0 1) := by
  refine funext fun a => ?_
  show arg15.view.readCov (⟨_, _⟩ :: _) _ a = _
  rw [View.readCov_cons_toLoadRect]
  simp only [kernelRun0_A.sl.r_3, kernelRun0_A.sl.v31, kernelRun0_A.sl.v4, kernelRun0_A.sl.v3, kernelRun0_A.sl.v32, kernelRun0_A.sl.r_4, kernelRun0_A.sl.r_5, v66_eq, View.readAt_eq_ld, Memref.IsWhole.read_unread]
  rfl

/-- Window 2 of the first quarter, read. -/
theorem v92_eq : kernelRun0_A.sl.v92 c arg2 harg2 arg4 harg4 arg5 harg5 arg14 x0 x2 x3 = extV (bufG (histV x2) x0 x3) 0 2 := by
  refine funext fun a => ?_
  simp only [kernelRun0_A.sl.v92, HS0_3_eq]
  exact congrFun (start_read x0 x2 x3 arg14.view 512 _ _ _ _) a

/-- … and its means less the rows, stored and read. -/
theorem v109_eq : kernelRun0_A.sl.v109 c i arg2 harg2 arg4 harg4 arg5 harg5 arg14 arg15 x0 x2 x3 = dV (kernelRun0_A.sl.v4 i) 0 2 (extV (bufG (histV x2) x0 x3) 0 2) := by
  refine funext fun a => ?_
  show arg15.view.readCov (⟨_, _⟩ :: _) _ a = _
  rw [View.readCov_cons_toLoadRect]
  simp only [kernelRun0_A.sl.r_7, kernelRun0_A.sl.r_1, kernelRun0_A.sl.v31, kernelRun0_A.sl.v4, kernelRun0_A.sl.v3, kernelRun0_A.sl.v32, v92_eq, View.readAt_eq_ld, Memref.IsWhole.read_unread]
  rfl

/-- Window 3 of the first quarter, read. -/
theorem v120_eq : kernelRun0_A.sl.v120 c arg2 harg2 arg4 harg4 arg5 harg5 arg14 x0 x2 x3 = extV (bufG (histV x2) x0 x3) 0 3 := by
  refine funext fun a => ?_
  simp only [kernelRun0_A.sl.v120, HS0_3_eq]
  exact congrFun (start_read x0 x2 x3 arg14.view 768 _ _ _ _) a

/-- … and its means less the rows, stored and read. -/
theorem v139_eq : kernelRun0_A.sl.v139 c i arg2 harg2 arg4 harg4 arg5 harg5 arg14 arg15 x0 x2 x3 = dV (kernelRun0_A.sl.v4 i) 0 3 (extV (bufG (histV x2) x0 x3) 0 3) := by
  refine funext fun a => ?_
  show arg15.view.readCov (⟨_, _⟩ :: _) _ a = _
  rw [View.readCov_cons_toLoadRect]
  simp only [kernelRun0_A.sl.r_1, kernelRun0_A.sl.v31, kernelRun0_A.sl.v4, kernelRun0_A.sl.v3, kernelRun0_A.sl.v32, v120_eq, View.readAt_eq_ld, Memref.IsWhole.read_unread]
  rfl

/-- Window 0 of the second quarter, read. -/
theorem v218_eq : kernelRun0_A.sl.v218 c arg2 harg2 arg4 harg4 arg5 harg5 arg14 x0 x2 x3 = extV (bufG (histV x2) x0 x3) 1 0 := by
  refine funext fun a => ?_
  simp only [kernelRun0_A.sl.v218, kernelRun0_A.sl.HS0_4, View.readAt_eq_ld arg2.view, View.readAt_eq_ld arg5.view, Memref.IsWhole.read_unread, HS0_3_eq]
  exact congrFun (later_read (histV x2) x0 x3 arg14.view _ 1 0 272 16 256 0 _ _ _ (by decide) (by decide) (by decide) (by decide)) a

/-- … and its means less the rows, stored and read. -/
theorem v231_eq : kernelRun0_A.sl.v231 c i arg2 harg2 arg4 harg4 arg5 harg5 arg14 arg15 x0 x2 x3 = dV (kernelRun0_A.sl.v4 i) 1 0 (extV (bufG (histV x2) x0 x3) 1 0) := by
  refine funext fun a => ?_
  show arg15.view.readCov (⟨_, _⟩ :: _) _ a = _
  rw [View.readCov_cons_toLoadRect]
  simp only [kernelRun0_A.sl.r_17, kernelRun0_A.sl.v4, kernelRun0_A.sl.v3, v218_eq (x2 := x2), View.readAt_eq_ld, Memref.IsWhole.read_unread]
  rfl

/-- Window 1 of the second quarter, read. -/
theorem v242_eq : kernelRun0_A.sl.v242 c arg2 harg2 arg4 harg4 arg5 harg5 arg14 x0 x2 x3 = extV (bufG (histV x2) x0 x3) 1 1 := by
  refine funext fun a => ?_
  simp only [kernelRun0_A.sl.v242, kernelRun0_A.sl.HS0_4, View.readAt_eq_ld arg2.view, View.readAt_eq_ld arg5.view, Memref.IsWhole.read_unread, HS0_3_eq]
  exact congrFun (later_read (histV x2) x0 x3 arg14.view _ 1 0 272 16 256 256 _ _ _ (by decide) (by decide) (by decide) (by decide)) a

/-- … and its means less the rows, stored and read. -/
theorem v257_eq : kernelRun0_A.sl.v257 c i arg2 harg2 arg4 harg4 arg5 harg5 arg14 arg15 x0 x2 x3 = dV (kernelRun0_A.sl.v4 i) 1 1 (extV (bufG (histV x2) x0 x3) 1 1) := by
  refine funext fun a => ?_
  show arg15.view.readCov (⟨_, _⟩ :: _) _ a = _
  rw [View.readCov_cons_toLoadRect]
  simp only [kernelRun0_A.sl.r_19, kernelRun0_A.sl.r_17, kernelRun0_A.sl.v4, kernelRun0_A.sl.v3, kernelRun0_A.sl.r_20, kernelRun0_A.sl.r_21, v242_eq (x2 := x2), View.readAt_eq_ld, Memref.IsWhole.read_unread]
  rfl

/-- Window 2 of the second quarter, read. -/
theorem v282_eq : kernelRun0_A.sl.v282 c arg2 harg2 arg4 harg4 arg5 harg5 arg14 x0 x2 x3 = extV (bufG (histV x2) x0 x3) 1 2 := by
  refine funext fun a => ?_
  simp only [kernelRun0_A.sl.v282, kernelRun0_A.sl.HS0_4, View.readAt_eq_ld arg2.view, View.readAt_eq_ld arg5.view, Memref.IsWhole.read_unread, HS0_3_eq]
  exact congrFun (later_read (histV x2) x0 x3 arg14.view _ 1 0 272 16 256 512 _ _ _ (by decide) (by decide) (by decide) (by decide)) a

/-- … and its means less the rows, stored and read. -/
theorem v299_eq : kernelRun0_A.sl.v299 c i arg2 harg2 arg4 harg4 arg5 harg5 arg14 arg15 x0 x2 x3 = dV (kernelRun0_A.sl.v4 i) 1 2 (extV (bufG (histV x2) x0 x3) 1 2) := by
  refine funext fun a => ?_
  show arg15.view.readCov (⟨_, _⟩ :: _) _ a = _
  rw [View.readCov_cons_toLoadRect]
  simp only [kernelRun0_A.sl.r_26, kernelRun0_A.sl.r_17, kernelRun0_A.sl.v4, kernelRun0_A.sl.v3, v282_eq (x2 := x2), View.readAt_eq_ld, Memref.IsWhole.read_unread]
  rfl

/-- Window 3 of the second quarter, read. -/
theorem v338_eq : kernelRun0_A.sl.v338 c arg2 harg2 arg4 harg4 arg5 harg5 arg14 x0 x2 x3 = extV (bufG (histV x2) x0 x3) 1 3 := by
  refine funext fun a => ?_
  simp only [kernelRun0_A.sl.v338, kernelRun0_A.sl.HS0_4, View.readAt_eq_ld arg2.view, View.readAt_eq_ld arg5.view, Memref.IsWhole.read_unread, HS0_3_eq]
  exact congrFun (later_read (histV x2) x0 x3 arg14.view _ 1 0 272 16 256 768 _ _ _ (by decide) (by decide) (by decide) (by decide)) a

/-- … and its means less the rows, stored and read. -/
theorem v357_eq : kernelRun0_A.sl.v357 c i arg2 harg2 arg4 harg4 arg5 harg5 arg14 arg15 x0 x2 x3 = dV (kernelRun0_A.sl.v4 i) 1 3 (extV (bufG (histV x2) x0 x3) 1 3) := by
  refine funext fun a => ?_
  show arg15.view.readCov (⟨_, _⟩ :: _) _ a = _
  rw [View.readCov_cons_toLoadRect]
  simp only [kernelRun0_A.sl.r_35, kernelRun0_A.sl.r_17, kernelRun0_A.sl.v4, kernelRun0_A.sl.v3, v338_eq (x2 := x2), View.readAt_eq_ld, Memref.IsWhole.read_unread]
  rfl

/-- Window 0 of the third quarter, read. -/
theorem v492_eq : kernelRun0_A.sl.v492 c arg2 harg2 arg4 harg4 arg5 harg5 arg14 x0 x2 x3 = extV (bufG (histV x2) x0 x3) 2 0 := by
  refine funext fun a => ?_
  simp only [kernelRun0_A.sl.v492, kernelRun0_A.sl.HS0_5, kernelRun0_A.sl.HS0_4, View.readAt_eq_ld arg2.view, View.readAt_eq_ld arg5.view, Memref.IsWhole.read_unread]
  exact congrFun (later_read (histV x2) x0 x3 arg14.view _ 2 1 528 272 512 0 _ _ _ (by decide) (by decide) (by decide) (by decide)) a

/-- … and its means less the rows, stored and read. -/
theorem v505_eq : kernelRun0_A.sl.v505 c i arg2 harg2 arg4 harg4 arg5 harg5 arg14 arg15 x0 x2 x3 = dV (kernelRun0_A.sl.v4 i) 2 0 (extV (bufG (histV x2) x0 x3) 2 0) := by
  refine funext fun a => ?_
  show arg15.view.readCov (⟨_, _⟩ :: _) _ a = _
  rw [View.readCov_cons_toLoadRect]
  simp only [kernelRun0_A.sl.r_54, kernelRun0_A.sl.v4, kernelRun0_A.sl.v3, v492_eq (x2 := x2), View.readAt_eq_ld, Memref.IsWhole.read_unread]
  rfl

/-- Window 1 of the third quarter, read. -/
theorem v530_eq : kernelRun0_A.sl.v530 c arg2 harg2 arg4 harg4 arg5 harg5 arg14 x0 x2 x3 = extV (bufG (histV x2) x0 x3) 2 1 := by
  refine funext fun a => ?_
  simp only [kernelRun0_A.sl.v530, kernelRun0_A.sl.HS0_5, kernelRun0_A.sl.HS0_4, View.readAt_eq_ld arg2.view, View.readAt_eq_ld arg5.view, Memref.IsWhole.read_unread]
  exact congrFun (later_read (histV x2) x0 x3 arg14.view _ 2 1 528 272 512 256 _ _ _ (by decide) (by decide) (by decide) (by decide)) a

/-- … and its means less the rows, stored and read. -/
theorem v545_eq : kernelRun0_A.sl.v545 c i arg2 harg2 arg4 harg4 arg5 harg5 arg14 arg15 x0 x2 x3 = dV (kernelRun0_A.sl.v4 i) 2 1 (extV (bufG (histV x2) x0 x3) 2 1) := by
  refine funext fun a => ?_
  show arg15.view.readCov (⟨_, _⟩ :: _) _ a = _
  rw [View.readCov_cons_toLoadRect]
  simp only [kernelRun0_A.sl.r_53, kernelRun0_A.sl.v4, kernelRun0_A.sl.v3, v530_eq (x2 := x2), View.readAt_eq_ld, Memref.IsWhole.read_unread]
  rfl

/-- Window 2 of the third quarter, read. -/
theorem v584_eq : kernelRun0_A.sl.v584 c arg2 harg2 arg4 harg4 arg5 harg5 arg14 x0 x2 x3 = extV (bufG (histV x2) x0 x3) 2 2 := by
  refine funext fun a => ?_
  simp only [kernelRun0_A.sl.v584, kernelRun0_A.sl.HS0_5, kernelRun0_A.sl.HS0_4, View.readAt_eq_ld arg2.view, View.readAt_eq_ld arg5.view, Memref.IsWhole.read_unread]
  exact congrFun (later_read (histV x2) x0 x3 arg14.view _ 2 1 528 272 512 512 _ _ _ (by decide) (by decide) (by decide) (by decide)) a

/-- … and its means less the rows, stored and read. -/
theorem v601_eq : kernelRun0_A.sl.v601 c i arg2 harg2 arg4 harg4 arg5 harg5 arg14 arg15 x0 x2 x3 = dV (kernelRun0_A.sl.v4 i) 2 2 (extV (bufG (histV x2) x0 x3) 2 2) := by
  refine funext fun a => ?_
  show arg15.view.readCov (⟨_, _⟩ :: _) _ a = _
  rw [View.readCov_cons_toLoadRect]
  simp only [kernelRun0_A.sl.r_69, kernelRun0_A.sl.r_53, kernelRun0_A.sl.v4, kernelRun0_A.sl.v3, kernelRun0_A.sl.r_70, kernelRun0_A.sl.r_71, v584_eq (x2 := x2), View.readAt_eq_ld, Memref.IsWhole.read_unread]
  rfl

/-- Window 3 of the third quarter, read. -/
theorem v648_eq : kernelRun0_A.sl.v648 c arg2 harg2 arg4 harg4 arg5 harg5 arg14 x0 x2 x3 = extV (bufG (histV x2) x0 x3) 2 3 := by
  refine funext fun a => ?_
  simp only [kernelRun0_A.sl.v648, kernelRun0_A.sl.HS0_5, kernelRun0_A.sl.HS0_4, View.readAt_eq_ld arg2.view, View.readAt_eq_ld arg5.view, Memref.IsWhole.read_unread]
  exact congrFun (later_read (histV x2) x0 x3 arg14.view _ 2 1 528 272 512 768 _ _ _ (by decide) (by decide) (by decide) (by decide)) a

/-- … and its means less the rows, stored and read. -/
theorem v667_eq : kernelRun0_A.sl.v667 c i arg2 harg2 arg4 harg4 arg5 harg5 arg14 arg15 x0 x2 x3 = dV (kernelRun0_A.sl.v4 i) 2 3 (extV (bufG (histV x2) x0 x3) 2 3) := by
  refine funext fun a => ?_
  show arg15.view.readCov (⟨_, _⟩ :: _) _ a = _
  rw [View.readCov_cons_toLoadRect]
  simp only [kernelRun0_A.sl.r_82, kernelRun0_A.sl.r_83, kernelRun0_A.sl.r_84, kernelRun0_A.sl.r_53, kernelRun0_A.sl.v4, kernelRun0_A.sl.v3, v648_eq (x2 := x2), View.readAt_eq_ld, Memref.IsWhole.read_unread]
  rfl

/-- Window 0 of the last quarter, read. -/
theorem v833_eq : kernelRun0_A.sl.v833 c arg2 harg2 arg4 harg4 arg5 harg5 arg14 x0 x2 x3 = extV (bufG (histV x2) x0 x3) 3 0 := by
  refine funext fun a => ?_
  simp only [kernelRun0_A.sl.v833, kernelRun0_A.sl.HS0_6, kernelRun0_A.sl.HS0_5, View.readAt_eq_ld arg2.view, View.readAt_eq_ld arg5.view, Memref.IsWhole.read_unread]
  exact congrFun (later_read (histV x2) x0 x3 arg14.view _ 3 2 784 528 768 0 _ _ _ (by decide) (by decide) (by decide) (by decide)) a

/-- … and its means less the rows, stored and read. -/
theorem v846_eq : kernelRun0_A.sl.v846 c i arg2 harg2 arg4 harg4 arg5 harg5 arg14 arg15 x0 x2 x3 = dV (kernelRun0_A.sl.v4 i) 3 0 (extV (bufG (histV x2) x0 x3) 3 0) := by
  refine funext fun a => ?_
  show arg15.view.readCov (⟨_, _⟩ :: _) _ a = _
  rw [View.readCov_cons_toLoadRect]
  simp only [kernelRun0_A.sl.r_105, kernelRun0_A.sl.v4, kernelRun0_A.sl.v3, v833_eq (x2 := x2), View.readAt_eq_ld, Memref.IsWhole.read_unread]
  rfl

/-- Window 1 of the last quarter, read. -/
theorem v871_eq : kernelRun0_A.sl.v871 c arg2 harg2 arg4 harg4 arg5 harg5 arg14 x0 x2 x3 = extV (bufG (histV x2) x0 x3) 3 1 := by
  refine funext fun a => ?_
  simp only [kernelRun0_A.sl.v871, kernelRun0_A.sl.HS0_6, kernelRun0_A.sl.HS0_5, View.readAt_eq_ld arg2.view, View.readAt_eq_ld arg5.view, Memref.IsWhole.read_unread]
  exact congrFun (later_read (histV x2) x0 x3 arg14.view _ 3 2 784 528 768 256 _ _ _ (by decide) (by decide) (by decide) (by decide)) a

/-- … and its means less the rows, stored and read. -/
theorem v886_eq : kernelRun0_A.sl.v886 c i arg2 harg2 arg4 harg4 arg5 harg5 arg14 arg15 x0 x2 x3 = dV (kernelRun0_A.sl.v4 i) 3 1 (extV (bufG (histV x2) x0 x3) 3 1) := by
  refine funext fun a => ?_
  show arg15.view.readCov (⟨_, _⟩ :: _) _ a = _
  rw [View.readCov_cons_toLoadRect]
  simp only [kernelRun0_A.sl.r_104, kernelRun0_A.sl.v4, kernelRun0_A.sl.v3, v871_eq (x2 := x2), View.readAt_eq_ld, Memref.IsWhole.read_unread]
  rfl

/-- Window 2 of the last quarter, read. -/
theorem v925_eq : kernelRun0_A.sl.v925 c arg2 harg2 arg4 harg4 arg5 harg5 arg14 x0 x2 x3 = extV (bufG (histV x2) x0 x3) 3 2 := by
  refine funext fun a => ?_
  simp only [kernelRun0_A.sl.v925, kernelRun0_A.sl.HS0_6, kernelRun0_A.sl.HS0_5, View.readAt_eq_ld arg2.view, View.readAt_eq_ld arg5.view, Memref.IsWhole.read_unread]
  exact congrFun (later_read (histV x2) x0 x3 arg14.view _ 3 2 784 528 768 512 _ _ _ (by decide) (by decide) (by decide) (by decide)) a

/-- … and its means less the rows, stored and read. -/
theorem v942_eq : kernelRun0_A.sl.v942 c i arg2 harg2 arg4 harg4 arg5 harg5 arg14 arg15 x0 x2 x3 = dV (kernelRun0_A.sl.v4 i) 3 2 (extV (bufG (histV x2) x0 x3) 3 2) := by
  refine funext fun a => ?_
  show arg15.view.readCov (⟨_, _⟩ :: _) _ a = _
  rw [View.readCov_cons_toLoadRect]
  simp only [kernelRun0_A.sl.r_118, kernelRun0_A.sl.r_104, kernelRun0_A.sl.v4, kernelRun0_A.sl.v3, kernelRun0_A.sl.r_119, kernelRun0_A.sl.r_120, v925_eq (x2 := x2), View.readAt_eq_ld, Memref.IsWhole.read_unread]
  rfl

/-- Window 3 of the last quarter, read. -/
theorem v989_eq : kernelRun0_A.sl.v989 c arg2 harg2 arg4 harg4 arg5 harg5 arg14 x0 x2 x3 = extV (bufG (histV x2) x0 x3) 3 3 := by
  refine funext fun a => ?_
  simp only [kernelRun0_A.sl.v989, kernelRun0_A.sl.HS0_6, kernelRun0_A.sl.HS0_5, View.readAt_eq_ld arg2.view, View.readAt_eq_ld arg5.view, Memref.IsWhole.read_unread]
  exact congrFun (later_read (histV x2) x0 x3 arg14.view _ 3 2 784 528 768 768 _ _ _ (by decide) (by decide) (by decide) (by decide)) a

/-- … and its means less the rows, stored and read. -/
theorem v1008_eq : kernelRun0_A.sl.v1008 c i arg2 harg2 arg4 harg4 arg5 harg5 arg14 arg15 x0 x2 x3 = dV (kernelRun0_A.sl.v4 i) 3 3 (extV (bufG (histV x2) x0 x3) 3 3) := by
  refine funext fun a => ?_
  show arg15.view.readCov (⟨_, _⟩ :: _) _ a = _
  rw [View.readCov_cons_toLoadRect]
  simp only [kernelRun0_A.sl.r_129, kernelRun0_A.sl.r_104, kernelRun0_A.sl.v4, kernelRun0_A.sl.v3, v989_eq (x2 := x2), View.readAt_eq_ld, Memref.IsWhole.read_unread]
  rfl

/-- The first quarter after the mixer. -/
theorem r_9_eq : kernelRun0_A.sl.r_9 c i arg2 harg2 arg4 harg4 arg5 harg5 arg6 harg6 arg14 arg15 x0 x2 x3 x4 = h2V (kernelRun0_A.sl.v4 i) (bufG (histV x2) x0 x3) x0 x3 x4 0 := by
  simp only [kernelRun0_A.sl.r_9, kernelRun0_A.sl.r, kernelRun0_A.sl.r_2, kernelRun0_A.sl.r_6, kernelRun0_A.sl.r_8, v109_eq, v139_eq, v55_eq, v81_eq, View.readAt_eq_ld, Memref.IsWhole.read_unread]
  rfl

/-- … normalised for the feed-forward layer. -/
theorem r_13_eq : kernelRun0_A.sl.r_13 c i arg2 harg2 arg4 harg4 arg5 harg5 arg6 harg6 arg14 arg15 x0 x2 x3 x4 = truncf .bf16 (rmsV (h2V (kernelRun0_A.sl.v4 i) (bufG (histV x2) x0 x3) x0 x3 x4 0) (nfV x3)) bitsLt_bf16_f32 := by
  simp only [kernelRun0_A.sl.r_13, kernelRun0_A.sl.r_11, kernelRun0_A.sl.r_12, kernelRun0_A.sl.r, kernelRun0_A.sl.r_2, kernelRun0_A.sl.r_6, kernelRun0_A.sl.r_8, r_9_eq, v109_eq, v139_eq, v55_eq, v81_eq, View.readAt_eq_ld, Memref.IsWhole.read_unread]
  rfl

/-- The second quarter after the mixer. -/
theorem r_39_eq : kernelRun0_A.sl.r_39 c i arg2 harg2 arg4 harg4 arg5 harg5 arg6 harg6 arg14 arg15 x0 x2 x3 x4 = h2V (kernelRun0_A.sl.v4 i) (bufG (histV x2) x0 x3) x0 x3 x4 1 := by
  simp only [kernelRun0_A.sl.r_39, kernelRun0_A.sl.r_10, kernelRun0_A.sl.r_18, kernelRun0_A.sl.r_22, kernelRun0_A.sl.r_27, v231_eq, v257_eq, v299_eq, v357_eq, View.readAt_eq_ld, Memref.IsWhole.read_unread]
  rfl

/-- … normalised for the feed-forward layer. -/
theorem r_49_eq : kernelRun0_A.sl.r_49 c i arg2 harg2 arg4 harg4 arg5 harg5 arg6 harg6 arg14 arg15 x0 x2 x3 x4 = truncf .bf16 (rmsV (h2V (kernelRun0_A.sl.v4 i) (bufG (histV x2) x0 x3) x0 x3 x4 1) (nfV x3)) bitsLt_bf16_f32 := by
  simp only [kernelRun0_A.sl.r_49, kernelRun0_A.sl.r_47, kernelRun0_A.sl.r_48, r_39_eq, View.readAt_eq_ld, Memref.IsWhole.read_unread]
  rfl

/-- The third quarter after the mixer. -/
theorem r_89_eq : kernelRun0_A.sl.r_89 c i arg2 harg2 arg4 harg4 arg5 harg5 arg6 harg6 arg14 arg15 x0 x2 x3 x4 = h2V (kernelRun0_A.sl.v4 i) (bufG (histV x2) x0 x3) x0 x3 x4 2 := by
  simp only [kernelRun0_A.sl.r_89, kernelRun0_A.sl.r_43, kernelRun0_A.sl.r_55, kernelRun0_A.sl.r_61, kernelRun0_A.sl.r_72, kernelRun0_A.sl.r_85, v505_eq, v545_eq, v601_eq, v667_eq, View.readAt_eq_ld, Memref.IsWhole.read_unread]
  rfl

/-- … normalised for the feed-forward layer. -/
theorem r_100_eq : kernelRun0_A.sl.r_100 c i arg2 harg2 arg4 harg4 arg5 harg5 arg6 harg6 arg14 arg15 x0 x2 x3 x4 = truncf .bf16 (rmsV (h2V (kernelRun0_A.sl.v4 i) (bufG (histV x2) x0 x3) x0 x3 x4 2) (nfV x3)) bitsLt_bf16_f32 := by
  simp only [kernelRun0_A.sl.r_100, kernelRun0_A.sl.r_98, kernelRun0_A.sl.r_99, r_89_eq, View.readAt_eq_ld, Memref.IsWhole.read_unread]
  rfl

/-- The last quarter after the mixer. -/
theorem r_136_eq : kernelRun0_A.sl.r_136 c i arg2 harg2 arg4 harg4 arg5 harg5 arg6 harg6 arg14 arg15 x0 x2 x3 x4 = h2V (kernelRun0_A.sl.v4 i) (bufG (histV x2) x0 x3) x0 x3 x4 3 := by
  simp only [kernelRun0_A.sl.r_136, kernelRun0_A.sl.r_93, kernelRun0_A.sl.r_106, kernelRun0_A.sl.r_110, kernelRun0_A.sl.r_121, kernelRun0_A.sl.r_130, v1008_eq, v846_eq, v886_eq, v942_eq, View.readAt_eq_ld, Memref.IsWhole.read_unread]
  rfl

/-- … normalised for the feed-forward layer. -/
theorem r_146_eq : kernelRun0_A.sl.r_146 c i arg2 harg2 arg4 harg4 arg5 harg5 arg6 harg6 arg14 arg15 x0 x2 x3 x4 = truncf .bf16 (rmsV (h2V (kernelRun0_A.sl.v4 i) (bufG (histV x2) x0 x3) x0 x3 x4 3) (nfV x3)) bitsLt_bf16_f32 := by
  simp only [kernelRun0_A.sl.r_146, r_136_eq, View.readAt_eq_ld, Memref.IsWhole.read_unread]
  rfl

/-- The first quarter after the feed-forward layer. -/
theorem r_86_eq : kernelRun0_A.sl.r_86 c i arg2 harg2 arg4 harg4 arg5 harg5 arg6 harg6 arg7 harg7 arg8 harg8 arg9 harg9 arg14 arg15 x0 x2 x3 x4 x5 x6 x7 = h3V x3 x5 x6 x7 (h2V (kernelRun0_A.sl.v4 i) (bufG (histV x2) x0 x3) x0 x3 x4 0) := by
  simp only [kernelRun0_A.sl.r_86, kernelRun0_A.sl.r_78, kernelRun0_A.sl.r_68, kernelRun0_A.sl.r_56, kernelRun0_A.sl.r_57, kernelRun0_A.sl.r_60, kernelRun0_A.sl.r_46, kernelRun0_A.sl.r_40, kernelRun0_A.sl.r_41, kernelRun0_A.sl.r_42, kernelRun0_A.sl.r_36, kernelRun0_A.sl.r_37, kernelRun0_A.sl.r_38, kernelRun0_A.sl.r_32, kernelRun0_A.sl.r_33, kernelRun0_A.sl.r_34, kernelRun0_A.sl.r_25, kernelRun0_A.sl.r_14, kernelRun0_A.sl.r_11, kernelRun0_A.sl.r_12, kernelRun0_A.sl.r, kernelRun0_A.sl.r_2, kernelRun0_A.sl.r_6, kernelRun0_A.sl.r_8, kernelRun0_A.sl.r_15, kernelRun0_A.sl.r_16, kernelRun0_A.sl.r_28, kernelRun0_A.sl.r_29, kernelRun0_A.sl.r_30, kernelRun0_A.sl.r_23, kernelRun0_A.sl.r_24, kernelRun0_A.sl.r_31, kernelRun0_A.sl.cst_193, kernelRun0_A.sl.r_58, kernelRun0_A.sl.r_44, kernelRun0_A.sl.r_45, kernelRun0_A.sl.r_59, kernelRun0_A.sl.r_76, kernelRun0_A.sl.r_66, kernelRun0_A.sl.r_67, kernelRun0_A.sl.r_77, r_13_eq, r_9_eq, v109_eq, v139_eq, v55_eq, v81_eq, View.readAt_eq_ld, Memref.IsWhole.read_unread]
  rfl

/-- … its embedding gate. -/
theorem r_87_eq : kernelRun0_A.sl.r_87 c i arg2 harg2 arg4 harg4 arg5 harg5 arg6 harg6 arg7 harg7 arg8 harg8 arg9 harg9 arg10 harg10 arg14 arg15 x0 x2 x3 x4 x5 x6 x7 x8 = pleV x3 x8 (h3V x3 x5 x6 x7 (h2V (kernelRun0_A.sl.v4 i) (bufG (histV x2) x0 x3) x0 x3 x4 0)) := by
  simp only [kernelRun0_A.sl.r_87, kernelRun0_A.sl.r_78, kernelRun0_A.sl.r_68, kernelRun0_A.sl.r_56, kernelRun0_A.sl.r_57, kernelRun0_A.sl.r_60, kernelRun0_A.sl.r_46, kernelRun0_A.sl.r_40, kernelRun0_A.sl.r_41, kernelRun0_A.sl.r_42, kernelRun0_A.sl.r_36, kernelRun0_A.sl.r_37, kernelRun0_A.sl.r_38, kernelRun0_A.sl.r_32, kernelRun0_A.sl.r_33, kernelRun0_A.sl.r_34, kernelRun0_A.sl.r_25, kernelRun0_A.sl.r_14, kernelRun0_A.sl.r_11, kernelRun0_A.sl.r_12, kernelRun0_A.sl.r, kernelRun0_A.sl.r_2, kernelRun0_A.sl.r_6, kernelRun0_A.sl.r_8, kernelRun0_A.sl.r_15, kernelRun0_A.sl.r_16, kernelRun0_A.sl.r_28, kernelRun0_A.sl.r_29, kernelRun0_A.sl.r_30, kernelRun0_A.sl.r_23, kernelRun0_A.sl.r_24, kernelRun0_A.sl.r_31, kernelRun0_A.sl.cst_193, kernelRun0_A.sl.r_58, kernelRun0_A.sl.r_44, kernelRun0_A.sl.r_45, kernelRun0_A.sl.r_59, kernelRun0_A.sl.r_76, kernelRun0_A.sl.r_66, kernelRun0_A.sl.r_67, kernelRun0_A.sl.r_77, r_13_eq, r_9_eq, v109_eq, v139_eq, v55_eq, v81_eq, View.readAt_eq_ld, Memref.IsWhole.read_unread]
  rfl

/-- The second quarter after the feed-forward layer. -/
theorem r_131_eq : kernelRun0_A.sl.r_131 c i arg2 harg2 arg4 harg4 arg5 harg5 arg6 harg6 arg7 harg7 arg8 harg8 arg9 harg9 arg14 arg15 x0 x2 x3 x4 x5 x6 x7 = h3V x3 x5 x6 x7 (h2V (kernelRun0_A.sl.v4 i) (bufG (histV x2) x0 x3) x0 x3 x4 1) := by
  simp only [kernelRun0_A.sl.r_131, kernelRun0_A.sl.r_125, kernelRun0_A.sl.r_115, kernelRun0_A.sl.r_116, kernelRun0_A.sl.r_117, kernelRun0_A.sl.r_107, kernelRun0_A.sl.r_108, kernelRun0_A.sl.r_109, kernelRun0_A.sl.r_95, kernelRun0_A.sl.r_96, kernelRun0_A.sl.r_97, kernelRun0_A.sl.r_90, kernelRun0_A.sl.r_91, kernelRun0_A.sl.r_92, kernelRun0_A.sl.r_79, kernelRun0_A.sl.r_80, kernelRun0_A.sl.r_81, kernelRun0_A.sl.r_73, kernelRun0_A.sl.r_74, kernelRun0_A.sl.r_75, kernelRun0_A.sl.r_62, kernelRun0_A.sl.r_64, kernelRun0_A.sl.r_63, kernelRun0_A.sl.cst_362, kernelRun0_A.sl.r_65, kernelRun0_A.sl.r_50, kernelRun0_A.sl.r_47, kernelRun0_A.sl.r_48, kernelRun0_A.sl.r_51, kernelRun0_A.sl.r_52, kernelRun0_A.sl.r_88, kernelRun0_A.sl.r_94, r_39_eq, r_49_eq, View.readAt_eq_ld, Memref.IsWhole.read_unread]
  rfl

/-- … its embedding gate. -/
theorem r_132_eq : kernelRun0_A.sl.r_132 c i arg2 harg2 arg4 harg4 arg5 harg5 arg6 harg6 arg7 harg7 arg8 harg8 arg9 harg9 arg10 harg10 arg14 arg15 x0 x2 x3 x4 x5 x6 x7 x8 = pleV x3 x8 (h3V x3 x5 x6 x7 (h2V (kernelRun0_A.sl.v4 i) (bufG (histV x2) x0 x3) x0 x3 x4 1)) := by
  simp only [kernelRun0_A.sl.r_132, kernelRun0_A.sl.r_125, kernelRun0_A.sl.r_115, kernelRun0_A.sl.r_116, kernelRun0_A.sl.r_117, kernelRun0_A.sl.r_107, kernelRun0_A.sl.r_108, kernelRun0_A.sl.r_109, kernelRun0_A.sl.r_95, kernelRun0_A.sl.r_96, kernelRun0_A.sl.r_97, kernelRun0_A.sl.r_90, kernelRun0_A.sl.r_91, kernelRun0_A.sl.r_92, kernelRun0_A.sl.r_79, kernelRun0_A.sl.r_80, kernelRun0_A.sl.r_81, kernelRun0_A.sl.r_73, kernelRun0_A.sl.r_74, kernelRun0_A.sl.r_75, kernelRun0_A.sl.r_62, kernelRun0_A.sl.r_64, kernelRun0_A.sl.r_63, kernelRun0_A.sl.cst_362, kernelRun0_A.sl.r_65, kernelRun0_A.sl.r_50, kernelRun0_A.sl.r_47, kernelRun0_A.sl.r_48, kernelRun0_A.sl.r_51, kernelRun0_A.sl.r_52, kernelRun0_A.sl.r_88, kernelRun0_A.sl.r_94, r_39_eq, r_49_eq, View.readAt_eq_ld, Memref.IsWhole.read_unread]
  rfl

/-- The third quarter after the feed-forward layer. -/
theorem r_164_eq : kernelRun0_A.sl.r_164 c i arg2 harg2 arg4 harg4 arg5 harg5 arg6 harg6 arg7 harg7 arg8 harg8 arg9 harg9 arg14 arg15 x0 x2 x3 x4 x5 x6 x7 = h3V x3 x5 x6 x7 (h2V (kernelRun0_A.sl.v4 i) (bufG (histV x2) x0 x3) x0 x3 x4 2) := by
  simp only [kernelRun0_A.sl.r_164, kernelRun0_A.sl.r_156, kernelRun0_A.sl.r_150, kernelRun0_A.sl.r_151, kernelRun0_A.sl.r_152, kernelRun0_A.sl.r_142, kernelRun0_A.sl.r_143, kernelRun0_A.sl.r_145, kernelRun0_A.sl.r_141, kernelRun0_A.sl.r_137, kernelRun0_A.sl.r_138, kernelRun0_A.sl.r_139, kernelRun0_A.sl.r_126, kernelRun0_A.sl.r_127, kernelRun0_A.sl.r_128, kernelRun0_A.sl.r_122, kernelRun0_A.sl.r_123, kernelRun0_A.sl.r_124, kernelRun0_A.sl.r_111, kernelRun0_A.sl.r_112, kernelRun0_A.sl.r_114, kernelRun0_A.sl.r_103, kernelRun0_A.sl.r_98, kernelRun0_A.sl.r_99, kernelRun0_A.sl.r_113, kernelRun0_A.sl.r_101, kernelRun0_A.sl.r_102, kernelRun0_A.sl.r_133, kernelRun0_A.sl.r_134, kernelRun0_A.sl.r_135, kernelRun0_A.sl.r_144, kernelRun0_A.sl.r_160, kernelRun0_A.sl.r_77, r_100_eq, r_89_eq, View.readAt_eq_ld, Memref.IsWhole.read_unread]
  rfl

/-- … its embedding gate. -/
theorem r_165_eq : kernelRun0_A.sl.r_165 c i arg2 harg2 arg4 harg4 arg5 harg5 arg6 harg6 arg7 harg7 arg8 harg8 arg9 harg9 arg10 harg10 arg14 arg15 x0 x2 x3 x4 x5 x6 x7 x8 = pleV x3 x8 (h3V x3 x5 x6 x7 (h2V (kernelRun0_A.sl.v4 i) (bufG (histV x2) x0 x3) x0 x3 x4 2)) := by
  simp only [kernelRun0_A.sl.r_165, kernelRun0_A.sl.r_156, kernelRun0_A.sl.r_150, kernelRun0_A.sl.r_151, kernelRun0_A.sl.r_152, kernelRun0_A.sl.r_142, kernelRun0_A.sl.r_143, kernelRun0_A.sl.r_145, kernelRun0_A.sl.r_141, kernelRun0_A.sl.r_137, kernelRun0_A.sl.r_138, kernelRun0_A.sl.r_139, kernelRun0_A.sl.r_126, kernelRun0_A.sl.r_127, kernelRun0_A.sl.r_128, kernelRun0_A.sl.r_122, kernelRun0_A.sl.r_123, kernelRun0_A.sl.r_124, kernelRun0_A.sl.r_111, kernelRun0_A.sl.r_112, kernelRun0_A.sl.r_114, kernelRun0_A.sl.r_103, kernelRun0_A.sl.r_98, kernelRun0_A.sl.r_99, kernelRun0_A.sl.r_113, kernelRun0_A.sl.r_101, kernelRun0_A.sl.r_102, kernelRun0_A.sl.r_133, kernelRun0_A.sl.r_134, kernelRun0_A.sl.r_135, kernelRun0_A.sl.r_144, kernelRun0_A.sl.r_160, kernelRun0_A.sl.r_77, r_100_eq, r_89_eq, View.readAt_eq_ld, Memref.IsWhole.read_unread]
  rfl

/-- The last quarter's result rows. -/
theorem r_178_eq : kernelRun0_A.sl.r_178 c i arg2 harg2 arg3 harg3 arg4 harg4 arg5 harg5 arg6 harg6 arg7 harg7 arg8 harg8 arg9 harg9 arg10 harg10 arg11 harg11 arg14 arg15 x0 x1 x2 x3 x4 x5 x6 x7 x8 x9 = yV (kernelRun0_A.sl.v4 i) (bufG (histV x2) x0 x3) x0 x1 x3 x4 x5 x6 x7 x8 x9 3 := by
  simp only [kernelRun0_A.sl.r_178, kernelRun0_A.sl.r_174, kernelRun0_A.sl.r_175, kernelRun0_A.sl.r_176, kernelRun0_A.sl.r_170, kernelRun0_A.sl.r_166, kernelRun0_A.sl.r_167, kernelRun0_A.sl.r_168, kernelRun0_A.sl.r_161, kernelRun0_A.sl.r_162, kernelRun0_A.sl.r_163, kernelRun0_A.sl.r_157, kernelRun0_A.sl.r_158, kernelRun0_A.sl.r_159, kernelRun0_A.sl.r_153, kernelRun0_A.sl.r_154, kernelRun0_A.sl.r_155, kernelRun0_A.sl.r_147, kernelRun0_A.sl.r_148, kernelRun0_A.sl.r_149, kernelRun0_A.sl.r_171, kernelRun0_A.sl.r_172, kernelRun0_A.sl.r_173, kernelRun0_A.sl.r_177, r_136_eq, r_146_eq, View.readAt_eq_ld, Memref.IsWhole.read_unread]
  rfl

end Cert.Kernel2Ideal.Pool.CaseA
-- ==== Proof.PoolWordsB.lean ====
/-
  Case B of the run (a later tile): its named intermediate values are the array functions of `PoolVec`.
-/
module

public import proofs.«01_k».proof.Proof.PoolBlocks

@[expose] public section

set_option maxRecDepth 16384
set_option maxHeartbeats 2000000

noncomputable section

namespace Cert.Kernel2Ideal.Pool.CaseB

open Cert.Kernel2Ideal Cert.Kernel2Ideal.Gen Cert.Kernel2Ideal.Pool Idealize.ShloMosaic Idealize.ShloMosaic.TcCoe Idealize.SL.Sem

variable {F : FTy → Type} [FloatOps F] (c : Dev nD) (i : grid0.Coords) (arg2 : Memref sig .tc .vmem S1x1024x1024 .f32) (harg2 : arg2.IsWhole) (arg3 : Memref sig .tc .vmem S1x1x1024x256 .f32) (harg3 : arg3.IsWhole) (arg4 : Memref sig .tc .vmem S1x1x15x1024 .f32) (harg4 : arg4.IsWhole) (arg5 : Memref sig .tc .vmem S1x8x1024 .f32) (harg5 : arg5.IsWhole) (arg6 : Memref sig .tc .vmem S1x4x256x256 .bf16) (harg6 : arg6.IsWhole) (arg7 : Memref sig .tc .vmem S1x1024x2816 .bf16) (harg7 : arg7.IsWhole) (arg8 : Memref sig .tc .vmem S1x1024x2816 .bf16) (harg8 : arg8.IsWhole) (arg9 : Memref sig .tc .vmem S1x2816x1024 .bf16) (harg9 : arg9.IsWhole) (arg10 : Memref sig .tc .vmem S1x1024x1024 .bf16) (harg10 : arg10.IsWhole) (arg11 : Memref sig .tc .vmem S1x256x1024 .bf16) (harg11 : arg11.IsWhole) (arg12 : Memref sig .tc .vmem S1x1024x1024 .f32) (harg12 : arg12.IsWhole) (arg13 : Memref sig .tc .vmem S1x1x15x1024 .f32) (harg13 : arg13.IsWhole) (arg14 : Memref sig .tc .vmem S1x1040x1024 .f32) (harg14 : arg14.IsWhole) (arg15 : Memref sig .tc .vmem S1024x1024 .bf16) (harg15 : arg15.IsWhole) (x0 : Vec F S1x1024x1024 .f32) (x1 : Vec F S1x1x1024x256 .f32) (x2 : Vec F S1x1x15x1024 .f32) (x3 : Vec F S1x8x1024 .f32) (x4 : Vec F S1x4x256x256 .bf16) (x5 : Vec F S1x1024x2816 .bf16) (x6 : Vec F S1x1024x2816 .bf16) (x7 : Vec F S1x2816x1024 .bf16) (x8 : Vec F S1x1024x1024 .bf16) (x9 : Vec F S1x256x1024 .bf16) (xs0 : Vec F S1x1040x1024 .f32)

/-- Window 0 of the first quarter, read. -/
theorem v42_eq : kernelRun0_B.sl.v42 c arg2 harg2 arg5 harg5 arg14 harg14 x0 x3 xs0 = extV (bufG xs0 x0 x3) 0 0 := by
  refine funext fun a => ?_
  simp only [kernelRun0_B.sl.v42, kernelRun0_B.sl.HS0_1, View.readAt_eq_ld arg2.view, View.readAt_eq_ld arg5.view, Memref.IsWhole.read_unread]
  exact congrFun (first_read xs0 x0 x3 arg14 harg14 0 _ _) a

/-- … and its means less the rows, stored and read. -/
theorem v55_eq : kernelRun0_B.sl.v55 c i arg2 harg2 arg5 harg5 arg14 harg14 arg15 x0 x3 xs0 = dV (kernelRun0_B.sl.v4 i) 0 0 (extV (bufG xs0 x0 x3) 0 0) := by
  refine funext fun a => ?_
  show arg15.view.readCov (⟨_, _⟩ :: _) _ a = _
  rw [View.readCov_cons_toLoadRect]
  simp only [kernelRun0_B.sl.v31, kernelRun0_B.sl.v4, kernelRun0_B.sl.v3, kernelRun0_B.sl.v32, v42_eq, View.readAt_eq_ld, Memref.IsWhole.read_unread]
  rfl

/-- Window 1 of the first quarter, read. -/
theorem v66_eq : kernelRun0_B.sl.v66 c arg2 harg2 arg5 harg5 arg14 harg14 x0 x3 xs0 = extV (bufG xs0 x0 x3) 0 1 := by
  refine funext fun a => ?_
  simp only [kernelRun0_B.sl.v66, kernelRun0_B.sl.HS0_1, View.readAt_eq_ld arg2.view, View.readAt_eq_ld arg5.view, Memref.IsWhole.read_unread]
  exact congrFun (first_read xs0 x0 x3 arg14 harg14 256 _ _) a

/-- … and its means less the rows, stored and read. -/
theorem v81_eq : kernelRun0_B.sl.v81 c i arg2 harg2 arg5 harg5 arg14 harg14 arg15 x0 x3 xs0 = dV (kernelRun0_B.sl.v4 i) 0 1 (extV (bufG xs0 x0 x3) 0 1) := by
  refine funext fun a => ?_
  show arg15.view.readCov (⟨_, _⟩ :: _) _ a = _
  rw [View.readCov_cons_toLoadRect]
  simp only [kernelRun0_B.sl.r_3, kernelRun0_B.sl.v31, kernelRun0_B.sl.v4, kernelRun0_B.sl.v3, kernelRun0_B.sl.v32, kernelRun0_B.sl.r_4, kernelRun0_B.sl.r_5, v66_eq, View.readAt_eq_ld, Memref.IsWhole.read_unread]
  rfl

/-- Window 2 of the first quarter, read. -/
theorem v92_eq : kernelRun0_B.sl.v92 c arg2 harg2 arg5 harg5 arg14 harg14 x0 x3 xs0 = extV (bufG xs0 x0 x3) 0 2 := by
  refine funext fun a => ?_
  simp only [kernelRun0_B.sl.v92, kernelRun0_B.sl.HS0_1, View.readAt_eq_ld arg2.view, View.readAt_eq_ld arg5.view, Memref.IsWhole.read_unread]
  exact congrFun (first_read xs0 x0 x3 arg14 harg14 512 _ _) a

/-- … and its means less the rows, stored and read. -/
theorem v109_eq : kernelRun0_B.sl.v109 c i arg2 harg2 arg5 harg5 arg14 harg14 arg15 x0 x3 xs0 = dV (kernelRun0_B.sl.v4 i) 0 2 (extV (bufG xs0 x0 x3) 0 2) := by
  refine funext fun a => ?_
  show arg15.view.readCov (⟨_, _⟩ :: _) _ a = _
  rw [View.readCov_cons_toLoadRect]
  simp only [kernelRun0_B.sl.r_7, kernelRun0_B.sl.r_1, kernelRun0_B.sl.v31, kernelRun0_B.sl.v4, kernelRun0_B.sl.v3, kernelRun0_B.sl.v32, v92_eq, View.readAt_eq_ld, Memref.IsWhole.read_unread]
  rfl

/-- Window 3 of the first quarter, read. -/
theorem v120_eq : kernelRun0_B.sl.v120 c arg2 harg2 arg5 harg5 arg14 harg14 x0 x3 xs0 = extV (bufG xs0 x0 x3) 0 3 := by
  refine funext fun a => ?_
  simp only [kernelRun0_B.sl.v120, kernelRun0_B.sl.HS0_1, View.readAt_eq_ld arg2.view, View.readAt_eq_ld arg5.view, Memref.IsWhole.read_unread]
  exact congrFun (first_read xs0 x0 x3 arg14 harg14 768 _ _) a

/-- … and its means less the rows, stored and read. -/
theorem v139_eq : kernelRun0_B.sl.v139 c i arg2 harg2 arg5 harg5 arg14 harg14 arg15 x0 x3 xs0 = dV (kernelRun0_B.sl.v4 i) 0 3 (extV (bufG xs0 x0 x3) 0 3) := by
  refine funext fun a => ?_
  show arg15.view.readCov (⟨_, _⟩ :: _) _ a = _
  rw [View.readCov_cons_toLoadRect]
  simp only [kernelRun0_B.sl.r_1, kernelRun0_B.sl.v31, kernelRun0_B.sl.v4, kernelRun0_B.sl.v3, kernelRun0_B.sl.v32, v120_eq, View.readAt_eq_ld, Memref.IsWhole.read_unread]
  rfl

/-- Window 0 of the second quarter, read. -/
theorem v218_eq : kernelRun0_B.sl.v218 c arg2 harg2 arg5 harg5 arg14 x0 x3 = extV (bufG xs0 x0 x3) 1 0 := by
  refine funext fun a => ?_
  simp only [kernelRun0_B.sl.v218, kernelRun0_B.sl.HS0_2, kernelRun0_B.sl.HS0_1, View.readAt_eq_ld arg2.view, View.readAt_eq_ld arg5.view, Memref.IsWhole.read_unread]
  exact congrFun (later_read xs0 x0 x3 arg14.view _ 1 0 272 16 256 0 _ _ _ (by decide) (by decide) (by decide) (by decide)) a

/-- … and its means less the rows, stored and read. -/
theorem v231_eq : kernelRun0_B.sl.v231 c i arg2 harg2 arg5 harg5 arg14 harg14 arg15 x0 x3 xs0 = dV (kernelRun0_B.sl.v4 i) 1 0 (extV (bufG xs0 x0 x3) 1 0) := by
  refine funext fun a => ?_
  show arg15.view.readCov (⟨_, _⟩ :: _) _ a = _
  rw [View.readCov_cons_toLoadRect]
  simp only [kernelRun0_B.sl.r_17, kernelRun0_B.sl.v4, kernelRun0_B.sl.v3, v218_eq (xs0 := xs0), View.readAt_eq_ld, Memref.IsWhole.read_unread]
  rfl

/-- Window 1 of the second quarter, read. -/
theorem v242_eq : kernelRun0_B.sl.v242 c arg2 harg2 arg5 harg5 arg14 x0 x3 = extV (bufG xs0 x0 x3) 1 1 := by
  refine funext fun a => ?_
  simp only [kernelRun0_B.sl.v242, kernelRun0_B.sl.HS0_2, kernelRun0_B.sl.HS0_1, View.readAt_eq_ld arg2.view, View.readAt_eq_ld arg5.view, Memref.IsWhole.read_unread]
  exact congrFun (later_read xs0 x0 x3 arg14.view _ 1 0 272 16 256 256 _ _ _ (by decide) (by decide) (by decide) (by decide)) a

/-- … and its means less the rows, stored and read. -/
theorem v257_eq : kernelRun0_B.sl.v257 c i arg2 harg2 arg5 harg5 arg14 harg14 arg15 x0 x3 xs0 = dV (kernelRun0_B.sl.v4 i) 1 1 (extV (bufG xs0 x0 x3) 1 1) := by
  refine funext fun a => ?_
  show arg15.view.readCov (⟨_, _⟩ :: _) _ a = _
  rw [View.readCov_cons_toLoadRect]
  simp only [kernelRun0_B.sl.r_19, kernelRun0_B.sl.r_17, kernelRun0_B.sl.v4, kernelRun0_B.sl.v3, kernelRun0_B.sl.r_20, kernelRun0_B.sl.r_21, v242_eq (xs0 := xs0), View.readAt_eq_ld, Memref.IsWhole.read_unread]
  rfl

/-- Window 2 of the second quarter, read. -/
theorem v282_eq : kernelRun0_B.sl.v282 c arg2 harg2 arg5 harg5 arg14 x0 x3 = extV (bufG xs0 x0 x3) 1 2 := by
  refine funext fun a => ?_
  simp only [kernelRun0_B.sl.v282, kernelRun0_B.sl.HS0_2, kernelRun0_B.sl.HS0_1, View.readAt_eq_ld arg2.view, View.readAt_eq_ld arg5.view, Memref.IsWhole.read_unread]
  exact congrFun (later_read xs0 x0 x3 arg14.view _ 1 0 272 16 256 512 _ _ _ (by decide) (by decide) (by decide) (by decide)) a

/-- … and its means less the rows, stored and read. -/
theorem v299_eq : kernelRun0_B.sl.v299 c i arg2 harg2 arg5 harg5 arg14 harg14 arg15 x0 x3 xs0 = dV (kernelRun0_B.sl.v4 i) 1 2 (extV (bufG xs0 x0 x3) 1 2) := by
  refine funext fun a => ?_
  show arg15.view.readCov (⟨_, _⟩ :: _) _ a = _
  rw [View.readCov_cons_toLoadRect]
  simp only [kernelRun0_B.sl.r_26, kernelRun0_B.sl.r_17, kernelRun0_B.sl.v4, kernelRun0_B.sl.v3, v282_eq (xs0 := xs0), View.readAt_eq_ld, Memref.IsWhole.read_unread]
  rfl

/-- Window 3 of the second quarter, read. -/
theorem v338_eq : kernelRun0_B.sl.v338 c arg2 harg2 arg5 harg5 arg14 x0 x3 = extV (bufG xs0 x0 x3) 1 3 := by
  refine funext fun a => ?_
  simp only [kernelRun0_B.sl.v338, kernelRun0_B.sl.HS0_2, kernelRun0_B.sl.HS0_1, View.readAt_eq_ld arg2.view, View.readAt_eq_ld arg5.view, Memref.IsWhole.read_unread]
  exact congrFun (later_read xs0 x0 x3 arg14.view _ 1 0 272 16 256 768 _ _ _ (by decide) (by decide) (by decide) (by decide)) a

/-- … and its means less the rows, stored and read. -/
theorem v357_eq : kernelRun0_B.sl.v357 c i arg2 harg2 arg5 harg5 arg14 harg14 arg15 x0 x3 xs0 = dV (kernelRun0_B.sl.v4 i) 1 3 (extV (bufG xs0 x0 x3) 1 3) := by
  refine funext fun a => ?_
  show arg15.view.readCov (⟨_, _⟩ :: _) _ a = _
  rw [View.readCov_cons_toLoadRect]
  simp only [kernelRun0_B.sl.r_35, kernelRun0_B.sl.r_17, kernelRun0_B.sl.v4, kernelRun0_B.sl.v3, v338_eq (xs0 := xs0), View.readAt_eq_ld, Memref.IsWhole.read_unread]
  rfl

/-- Window 0 of the third quarter, read. -/
theorem v492_eq : kernelRun0_B.sl.v492 c arg2 harg2 arg5 harg5 arg14 x0 x3 = extV (bufG xs0 x0 x3) 2 0 := by
  refine funext fun a => ?_
  simp only [kernelRun0_B.sl.v492, kernelRun0_B.sl.HS0_3, kernelRun0_B.sl.HS0_2, View.readAt_eq_ld arg2.view, View.readAt_eq_ld arg5.view, Memref.IsWhole.read_unread]
  exact congrFun (later_read xs0 x0 x3 arg14.view _ 2 1 528 272 512 0 _ _ _ (by decide) (by decide) (by decide) (by decide)) a

/-- … and its means less the rows, stored and read. -/
theorem v505_eq : kernelRun0_B.sl.v505 c i arg2 harg2 arg5 harg5 arg14 harg14 arg15 x0 x3 xs0 = dV (kernelRun0_B.sl.v4 i) 2 0 (extV (bufG xs0 x0 x3) 2 0) := by
  refine funext fun a => ?_
  show arg15.view.readCov (⟨_, _⟩ :: _) _ a = _
  rw [View.readCov_cons_toLoadRect]
  simp only [kernelRun0_B.sl.r_54, kernelRun0_B.sl.v4, kernelRun0_B.sl.v3, v492_eq (xs0 := xs0), View.readAt_eq_ld, Memref.IsWhole.read_unread]
  rfl

/-- Window 1 of the third quarter, read. -/
theorem v530_eq : kernelRun0_B.sl.v530 c arg2 harg2 arg5 harg5 arg14 x0 x3 = extV (bufG xs0 x0 x3) 2 1 := by
  refine funext fun a => ?_
  simp only [kernelRun0_B.sl.v530, kernelRun0_B.sl.HS0_3, kernelRun0_B.sl.HS0_2, View.readAt_eq_ld arg2.view, View.readAt_eq_ld arg5.view, Memref.IsWhole.read_unread]
  exact congrFun (later_read xs0 x0 x3 arg14.view _ 2 1 528 272 512 256 _ _ _ (by decide) (by decide) (by decide) (by decide)) a

/-- … and its means less the rows, stored and read. -/
theorem v545_eq : kernelRun0_B.sl.v545 c i arg2 harg2 arg5 harg5 arg14 harg14 arg15 x0 x3 xs0 = dV (kernelRun0_B.sl.v4 i) 2 1 (extV (bufG xs0 x0 x3) 2 1) := by
  refine funext fun a => ?_
  show arg15.view.readCov (⟨_, _⟩ :: _) _ a = _
  rw [View.readCov_cons_toLoadRect]
  simp only [kernelRun0_B.sl.r_53, kernelRun0_B.sl.v4, kernelRun0_B.sl.v3, v530_eq (xs0 := xs0), View.readAt_eq_ld, Memref.IsWhole.read_unread]
  rfl

/-- Window 2 of the third quarter, read. -/
theorem v584_eq : kernelRun0_B.sl.v584 c arg2 harg2 arg5 harg5 arg14 x0 x3 = extV (bufG xs0 x0 x3) 2 2 := by
  refine funext fun a => ?_
  simp only [kernelRun0_B.sl.v584, kernelRun0_B.sl.HS0_3, kernelRun0_B.sl.HS0_2, View.readAt_eq_ld arg2.view, View.readAt_eq_ld arg5.view, Memref.IsWhole.read_unread]
  exact congrFun (later_read xs0 x0 x3 arg14.view _ 2 1 528 272 512 512 _ _ _ (by decide) (by decide) (by decide) (by decide)) a

/-- … and its means less the rows, stored and read. -/
theorem v601_eq : kernelRun0_B.sl.v601 c i arg2 harg2 arg5 harg5 arg14 harg14 arg15 x0 x3 xs0 = dV (kernelRun0_B.sl.v4 i) 2 2 (extV (bufG xs0 x0 x3) 2 2) := by
  refine funext fun a => ?_
  show arg15.view.readCov (⟨_, _⟩ :: _) _ a = _
  rw [View.readCov_cons_toLoadRect]
  simp only [kernelRun0_B.sl.r_69, kernelRun0_B.sl.r_53, kernelRun0_B.sl.v4, kernelRun0_B.sl.v3, kernelRun0_B.sl.r_70, kernelRun0_B.sl.r_71, v584_eq (xs0 := xs0), View.readAt_eq_ld, Memref.IsWhole.read_unread]
  rfl

/-- Window 3 of the third quarter, read. -/
theorem v648_eq : kernelRun0_B.sl.v648 c arg2 harg2 arg5 harg5 arg14 x0 x3 = extV (bufG xs0 x0 x3) 2 3 := by
  refine funext fun a => ?_
  simp only [kernelRun0_B.sl.v648, kernelRun0_B.sl.HS0_3, kernelRun0_B.sl.HS0_2, View.readAt_eq_ld arg2.view, View.readAt_eq_ld arg5.view, Memref.IsWhole.read_unread]
  exact congrFun (later_read xs0 x0 x3 arg14.view _ 2 1 528 272 512 768 _ _ _ (by decide) (by decide) (by decide) (by decide)) a

/-- … and its means less the rows, stored and read. -/
theorem v667_eq : kernelRun0_B.sl.v667 c i arg2 harg2 arg5 harg5 arg14 harg14 arg15 x0 x3 xs0 = dV (kernelRun0_B.sl.v4 i) 2 3 (extV (bufG xs0 x0 x3) 2 3) := by
  refine funext fun a => ?_
  show arg15.view.readCov (⟨_, _⟩ :: _) _ a = _
  rw [View.readCov_cons_toLoadRect]
  simp only [kernelRun0_B.sl.r_82, kernelRun0_B.sl.r_83, kernelRun0_B.sl.r_84, kernelRun0_B.sl.r_53, kernelRun0_B.sl.v4, kernelRun0_B.sl.v3, v648_eq (xs0 := xs0), View.readAt_eq_ld, Memref.IsWhole.read_unread]
  rfl

/-- Window 0 of the last quarter, read. -/
theorem v833_eq : kernelRun0_B.sl.v833 c arg2 harg2 arg5 harg5 arg14 x0 x3 = extV (bufG xs0 x0 x3) 3 0 := by
  refine funext fun a => ?_
  simp only [kernelRun0_B.sl.v833, kernelRun0_B.sl.HS0_4, kernelRun0_B.sl.HS0_3, View.readAt_eq_ld arg2.view, View.readAt_eq_ld arg5.view, Memref.IsWhole.read_unread]
  exact congrFun (later_read xs0 x0 x3 arg14.view _ 3 2 784 528 768 0 _ _ _ (by decide) (by decide) (by decide) (by decide)) a

/-- … and its means less the rows, stored and read. -/
theorem v846_eq : kernelRun0_B.sl.v846 c i arg2 harg2 arg5 harg5 arg14 harg14 arg15 x0 x3 xs0 = dV (kernelRun0_B.sl.v4 i) 3 0 (extV (bufG xs0 x0 x3) 3 0) := by
  refine funext fun a => ?_
  show arg15.view.readCov (⟨_, _⟩ :: _) _ a = _
  rw [View.readCov_cons_toLoadRect]
  simp only [kernelRun0_B.sl.r_105, kernelRun0_B.sl.v4, kernelRun0_B.sl.v3, v833_eq (xs0 := xs0), View.readAt_eq_ld, Memref.IsWhole.read_unread]
  rfl

/-- Window 1 of the last quarter, read. -/
theorem v871_eq : kernelRun0_B.sl.v871 c arg2 harg2 arg5 harg5 arg14 x0 x3 = extV (bufG xs0 x0 x3) 3 1 := by
  refine funext fun a => ?_
  simp only [kernelRun0_B.sl.v871, kernelRun0_B.sl.HS0_4, kernelRun0_B.sl.HS0_3, View.readAt_eq_ld arg2.view, View.readAt_eq_ld arg5.view, Memref.IsWhole.read_unread]
  exact congrFun (later_read xs0 x0 x3 arg14.view _ 3 2 784 528 768 256 _ _ _ (by decide) (by decide) (by decide) (by decide)) a

/-- … and its means less the rows, stored and read. -/
theorem v886_eq : kernelRun0_B.sl.v886 c i arg2 harg2 arg5 harg5 arg14 harg14 arg15 x0 x3 xs0 = dV (kernelRun0_B.sl.v4 i) 3 1 (extV (bufG xs0 x0 x3) 3 1) := by
  refine funext fun a => ?_
  show arg15.view.readCov (⟨_, _⟩ :: _) _ a = _
  rw [View.readCov_cons_toLoadRect]
  simp only [kernelRun0_B.sl.r_104, kernelRun0_B.sl.v4, kernelRun0_B.sl.v3, v871_eq (xs0 := xs0), View.readAt_eq_ld, Memref.IsWhole.read_unread]
  rfl

/-- Window 2 of the last quarter, read. -/
theorem v925_eq : kernelRun0_B.sl.v925 c arg2 harg2 arg5 harg5 arg14 x0 x3 = extV (bufG xs0 x0 x3) 3 2 := by
  refine funext fun a => ?_
  simp only [kernelRun0_B.sl.v925, kernelRun0_B.sl.HS0_4, kernelRun0_B.sl.HS0_3, View.readAt_eq_ld arg2.view, View.readAt_eq_ld arg5.view, Memref.IsWhole.read_unread]
  exact congrFun (later_read xs0 x0 x3 arg14.view _ 3 2 784 528 768 512 _ _ _ (by decide) (by decide) (by decide) (by decide)) a

/-- … and its means less the rows, stored and read. -/
theorem v942_eq : kernelRun0_B.sl.v942 c i arg2 harg2 arg5 harg5 arg14 harg14 arg15 x0 x3 xs0 = dV (kernelRun0_B.sl.v4 i) 3 2 (extV (bufG xs0 x0 x3) 3 2) := by
  refine funext fun a => ?_
  show arg15.view.readCov (⟨_, _⟩ :: _) _ a = _
  rw [View.readCov_cons_toLoadRect]
  simp only [kernelRun0_B.sl.r_118, kernelRun0_B.sl.r_104, kernelRun0_B.sl.v4, kernelRun0_B.sl.v3, kernelRun0_B.sl.r_119, kernelRun0_B.sl.r_120, v925_eq (xs0 := xs0), View.readAt_eq_ld, Memref.IsWhole.read_unread]
  rfl

/-- Window 3 of the last quarter, read. -/
theorem v989_eq : kernelRun0_B.sl.v989 c arg2 harg2 arg5 harg5 arg14 x0 x3 = extV (bufG xs0 x0 x3) 3 3 := by
  refine funext fun a => ?_
  simp only [kernelRun0_B.sl.v989, kernelRun0_B.sl.HS0_4, kernelRun0_B.sl.HS0_3, View.readAt_eq_ld arg2.view, View.readAt_eq_ld arg5.view, Memref.IsWhole.read_unread]
  exact congrFun (later_read xs0 x0 x3 arg14.view _ 3 2 784 528 768 768 _ _ _ (by decide) (by decide) (by decide) (by decide)) a

/-- … and its means less the rows, stored and read. -/
theorem v1008_eq : kernelRun0_B.sl.v1008 c i arg2 harg2 arg5 harg5 arg14 harg14 arg15 x0 x3 xs0 = dV (kernelRun0_B.sl.v4 i) 3 3 (extV (bufG xs0 x0 x3) 3 3) := by
  refine funext fun a => ?_
  show arg15.view.readCov (⟨_, _⟩ :: _) _ a = _
  rw [View.readCov_cons_toLoadRect]
  simp only [kernelRun0_B.sl.r_129, kernelRun0_B.sl.r_104, kernelRun0_B.sl.v4, kernelRun0_B.sl.v3, v989_eq (xs0 := xs0), View.readAt_eq_ld, Memref.IsWhole.read_unread]
  rfl

/-- The first quarter after the mixer. -/
theorem r_9_eq : kernelRun0_B.sl.r_9 c i arg2 harg2 arg5 harg5 arg6 harg6 arg14 harg14 arg15 x0 x3 x4 xs0 = h2V (kernelRun0_B.sl.v4 i) (bufG xs0 x0 x3) x0 x3 x4 0 := by
  simp only [kernelRun0_B.sl.r_9, kernelRun0_B.sl.r, kernelRun0_B.sl.r_2, kernelRun0_B.sl.r_6, kernelRun0_B.sl.r_8, v109_eq, v139_eq, v55_eq, v81_eq, View.readAt_eq_ld, Memref.IsWhole.read_unread]
  rfl

/-- … normalised for the feed-forward layer. -/
theorem r_13_eq : kernelRun0_B.sl.r_13 c i arg2 harg2 arg5 harg5 arg6 harg6 arg14 harg14 arg15 x0 x3 x4 xs0 = truncf .bf16 (rmsV (h2V (kernelRun0_B.sl.v4 i) (bufG xs0 x0 x3) x0 x3 x4 0) (nfV x3)) bitsLt_bf16_f32 := by
  simp only [kernelRun0_B.sl.r_13, kernelRun0_B.sl.r_11, kernelRun0_B.sl.r_12, kernelRun0_B.sl.r, kernelRun0_B.sl.r_2, kernelRun0_B.sl.r_6, kernelRun0_B.sl.r_8, r_9_eq, v109_eq, v139_eq, v55_eq, v81_eq, View.readAt_eq_ld, Memref.IsWhole.read_unread]
  rfl

/-- The second quarter after the mixer. -/
theorem r_39_eq : kernelRun0_B.sl.r_39 c i arg2 harg2 arg5 harg5 arg6 harg6 arg14 harg14 arg15 x0 x3 x4 xs0 = h2V (kernelRun0_B.sl.v4 i) (bufG xs0 x0 x3) x0 x3 x4 1 := by
  simp only [kernelRun0_B.sl.r_39, kernelRun0_B.sl.r_10, kernelRun0_B.sl.r_18, kernelRun0_B.sl.r_22, kernelRun0_B.sl.r_27, v231_eq, v257_eq, v299_eq, v357_eq, View.readAt_eq_ld, Memref.IsWhole.read_unread]
  rfl

/-- … normalised for the feed-forward layer. -/
theorem r_49_eq : kernelRun0_B.sl.r_49 c i arg2 harg2 arg5 harg5 arg6 harg6 arg14 harg14 arg15 x0 x3 x4 xs0 = truncf .bf16 (rmsV (h2V (kernelRun0_B.sl.v4 i) (bufG xs0 x0 x3) x0 x3 x4 1) (nfV x3)) bitsLt_bf16_f32 := by
  simp only [kernelRun0_B.sl.r_49, kernelRun0_B.sl.r_47, kernelRun0_B.sl.r_48, r_39_eq, View.readAt_eq_ld, Memref.IsWhole.read_unread]
  rfl

/-- The third quarter after the mixer. -/
theorem r_89_eq : kernelRun0_B.sl.r_89 c i arg2 harg2 arg5 harg5 arg6 harg6 arg14 harg14 arg15 x0 x3 x4 xs0 = h2V (kernelRun0_B.sl.v4 i) (bufG xs0 x0 x3) x0 x3 x4 2 := by
  simp only [kernelRun0_B.sl.r_89, kernelRun0_B.sl.r_43, kernelRun0_B.sl.r_55, kernelRun0_B.sl.r_61, kernelRun0_B.sl.r_72, kernelRun0_B.sl.r_85, v505_eq, v545_eq, v601_eq, v667_eq, View.readAt_eq_ld, Memref.IsWhole.read_unread]
  rfl

/-- … normalised for the feed-forward layer. -/
theorem r_100_eq : kernelRun0_B.sl.r_100 c i arg2 harg2 arg5 harg5 arg6 harg6 arg14 harg14 arg15 x0 x3 x4 xs0 = truncf .bf16 (rmsV (h2V (kernelRun0_B.sl.v4 i) (bufG xs0 x0 x3) x0 x3 x4 2) (nfV x3)) bitsLt_bf16_f32 := by
  simp only [kernelRun0_B.sl.r_100, kernelRun0_B.sl.r_98, kernelRun0_B.sl.r_99, r_89_eq, View.readAt_eq_ld, Memref.IsWhole.read_unread]
  rfl

/-- The last quarter after the mixer. -/
theorem r_136_eq : kernelRun0_B.sl.r_136 c i arg2 harg2 arg5 harg5 arg6 harg6 arg14 harg14 arg15 x0 x3 x4 xs0 = h2V (kernelRun0_B.sl.v4 i) (bufG xs0 x0 x3) x0 x3 x4 3 := by
  simp only [kernelRun0_B.sl.r_136, kernelRun0_B.sl.r_93, kernelRun0_B.sl.r_106, kernelRun0_B.sl.r_110, kernelRun0_B.sl.r_121, kernelRun0_B.sl.r_130, v1008_eq, v846_eq, v886_eq, v942_eq, View.readAt_eq_ld, Memref.IsWhole.read_unread]
  rfl

/-- … normalised for the feed-forward layer. -/
theorem r_146_eq : kernelRun0_B.sl.r_146 c i arg2 harg2 arg5 harg5 arg6 harg6 arg14 harg14 arg15 x0 x3 x4 xs0 = truncf .bf16 (rmsV (h2V (kernelRun0_B.sl.v4 i) (bufG xs0 x0 x3) x0 x3 x4 3) (nfV x3)) bitsLt_bf16_f32 := by
  simp only [kernelRun0_B.sl.r_146, r_136_eq, View.readAt_eq_ld, Memref.IsWhole.read_unread]
  rfl

/-- The first quarter after the feed-forward layer. -/
theorem r_86_eq : kernelRun0_B.sl.r_86 c i arg2 harg2 arg5 harg5 arg6 harg6 arg7 harg7 arg8 harg8 arg9 harg9 arg14 harg14 arg15 x0 x3 x4 x5 x6 x7 xs0 = h3V x3 x5 x6 x7 (h2V (kernelRun0_B.sl.v4 i) (bufG xs0 x0 x3) x0 x3 x4 0) := by
  simp only [kernelRun0_B.sl.r_86, kernelRun0_B.sl.r_78, kernelRun0_B.sl.r_68, kernelRun0_B.sl.r_56, kernelRun0_B.sl.r_57, kernelRun0_B.sl.r_60, kernelRun0_B.sl.r_46, kernelRun0_B.sl.r_40, kernelRun0_B.sl.r_41, kernelRun0_B.sl.r_42, kernelRun0_B.sl.r_36, kernelRun0_B.sl.r_37, kernelRun0_B.sl.r_38, kernelRun0_B.sl.r_32, kernelRun0_B.sl.r_33, kernelRun0_B.sl.r_34, kernelRun0_B.sl.r_25, kernelRun0_B.sl.r_14, kernelRun0_B.sl.r_11, kernelRun0_B.sl.r_12, kernelRun0_B.sl.r, kernelRun0_B.sl.r_2, kernelRun0_B.sl.r_6, kernelRun0_B.sl.r_8, kernelRun0_B.sl.r_15, kernelRun0_B.sl.r_16, kernelRun0_B.sl.r_28, kernelRun0_B.sl.r_29, kernelRun0_B.sl.r_30, kernelRun0_B.sl.r_23, kernelRun0_B.sl.r_24, kernelRun0_B.sl.r_31, kernelRun0_B.sl.cst_193, kernelRun0_B.sl.r_58, kernelRun0_B.sl.r_44, kernelRun0_B.sl.r_45, kernelRun0_B.sl.r_59, kernelRun0_B.sl.r_76, kernelRun0_B.sl.r_66, kernelRun0_B.sl.r_67, kernelRun0_B.sl.r_77, r_13_eq, r_9_eq, v109_eq, v139_eq, v55_eq, v81_eq, View.readAt_eq_ld, Memref.IsWhole.read_unread]
  rfl

/-- … its embedding gate. -/
theorem r_87_eq : kernelRun0_B.sl.r_87 c i arg2 harg2 arg5 harg5 arg6 harg6 arg7 harg7 arg8 harg8 arg9 harg9 arg10 harg10 arg14 harg14 arg15 x0 x3 x4 x5 x6 x7 x8 xs0 = pleV x3 x8 (h3V x3 x5 x6 x7 (h2V (kernelRun0_B.sl.v4 i) (bufG xs0 x0 x3) x0 x3 x4 0)) := by
  simp only [kernelRun0_B.sl.r_87, kernelRun0_B.sl.r_78, kernelRun0_B.sl.r_68, kernelRun0_B.sl.r_56, kernelRun0_B.sl.r_57, kernelRun0_B.sl.r_60, kernelRun0_B.sl.r_46, kernelRun0_B.sl.r_40, kernelRun0_B.sl.r_41, kernelRun0_B.sl.r_42, kernelRun0_B.sl.r_36, kernelRun0_B.sl.r_37, kernelRun0_B.sl.r_38, kernelRun0_B.sl.r_32, kernelRun0_B.sl.r_33, kernelRun0_B.sl.r_34, kernelRun0_B.sl.r_25, kernelRun0_B.sl.r_14, kernelRun0_B.sl.r_11, kernelRun0_B.sl.r_12, kernelRun0_B.sl.r, kernelRun0_B.sl.r_2, kernelRun0_B.sl.r_6, kernelRun0_B.sl.r_8, kernelRun0_B.sl.r_15, kernelRun0_B.sl.r_16, kernelRun0_B.sl.r_28, kernelRun0_B.sl.r_29, kernelRun0_B.sl.r_30, kernelRun0_B.sl.r_23, kernelRun0_B.sl.r_24, kernelRun0_B.sl.r_31, kernelRun0_B.sl.cst_193, kernelRun0_B.sl.r_58, kernelRun0_B.sl.r_44, kernelRun0_B.sl.r_45, kernelRun0_B.sl.r_59, kernelRun0_B.sl.r_76, kernelRun0_B.sl.r_66, kernelRun0_B.sl.r_67, kernelRun0_B.sl.r_77, r_13_eq, r_9_eq, v109_eq, v139_eq, v55_eq, v81_eq, View.readAt_eq_ld, Memref.IsWhole.read_unread]
  rfl

/-- The second quarter after the feed-forward layer. -/
theorem r_131_eq : kernelRun0_B.sl.r_131 c i arg2 harg2 arg5 harg5 arg6 harg6 arg7 harg7 arg8 harg8 arg9 harg9 arg14 harg14 arg15 x0 x3 x4 x5 x6 x7 xs0 = h3V x3 x5 x6 x7 (h2V (kernelRun0_B.sl.v4 i) (bufG xs0 x0 x3) x0 x3 x4 1) := by
  simp only [kernelRun0_B.sl.r_131, kernelRun0_B.sl.r_125, kernelRun0_B.sl.r_115, kernelRun0_B.sl.r_116, kernelRun0_B.sl.r_117, kernelRun0_B.sl.r_107, kernelRun0_B.sl.r_108, kernelRun0_B.sl.r_109, kernelRun0_B.sl.r_95, kernelRun0_B.sl.r_96, kernelRun0_B.sl.r_97, kernelRun0_B.sl.r_90, kernelRun0_B.sl.r_91, kernelRun0_B.sl.r_92, kernelRun0_B.sl.r_79, kernelRun0_B.sl.r_80, kernelRun0_B.sl.r_81, kernelRun0_B.sl.r_73, kernelRun0_B.sl.r_74, kernelRun0_B.sl.r_75, kernelRun0_B.sl.r_62, kernelRun0_B.sl.r_64, kernelRun0_B.sl.r_63, kernelRun0_B.sl.cst_362, kernelRun0_B.sl.r_65, kernelRun0_B.sl.r_50, kernelRun0_B.sl.r_47, kernelRun0_B.sl.r_48, kernelRun0_B.sl.r_51, kernelRun0_B.sl.r_52, kernelRun0_B.sl.r_88, kernelRun0_B.sl.r_94, r_39_eq, r_49_eq, View.readAt_eq_ld, Memref.IsWhole.read_unread]
  rfl

/-- … its embedding gate. -/
theorem r_132_eq : kernelRun0_B.sl.r_132 c i arg2 harg2 arg5 harg5 arg6 harg6 arg7 harg7 arg8 harg8 arg9 harg9 arg10 harg10 arg14 harg14 arg15 x0 x3 x4 x5 x6 x7 x8 xs0 = pleV x3 x8 (h3V x3 x5 x6 x7 (h2V (kernelRun0_B.sl.v4 i) (bufG xs0 x0 x3) x0 x3 x4 1)) := by
  simp only [kernelRun0_B.sl.r_132, kernelRun0_B.sl.r_125, kernelRun0_B.sl.r_115, kernelRun0_B.sl.r_116, kernelRun0_B.sl.r_117, kernelRun0_B.sl.r_107, kernelRun0_B.sl.r_108, kernelRun0_B.sl.r_109, kernelRun0_B.sl.r_95, kernelRun0_B.sl.r_96, kernelRun0_B.sl.r_97, kernelRun0_B.sl.r_90, kernelRun0_B.sl.r_91, kernelRun0_B.sl.r_92, kernelRun0_B.sl.r_79, kernelRun0_B.sl.r_80, kernelRun0_B.sl.r_81, kernelRun0_B.sl.r_73, kernelRun0_B.sl.r_74, kernelRun0_B.sl.r_75, kernelRun0_B.sl.r_62, kernelRun0_B.sl.r_64, kernelRun0_B.sl.r_63, kernelRun0_B.sl.cst_362, kernelRun0_B.sl.r_65, kernelRun0_B.sl.r_50, kernelRun0_B.sl.r_47, kernelRun0_B.sl.r_48, kernelRun0_B.sl.r_51, kernelRun0_B.sl.r_52, kernelRun0_B.sl.r_88, kernelRun0_B.sl.r_94, r_39_eq, r_49_eq, View.readAt_eq_ld, Memref.IsWhole.read_unread]
  rfl

/-- The third quarter after the feed-forward layer. -/
theorem r_164_eq : kernelRun0_B.sl.r_164 c i arg2 harg2 arg5 harg5 arg6 harg6 arg7 harg7 arg8 harg8 arg9 harg9 arg14 harg14 arg15 x0 x3 x4 x5 x6 x7 xs0 = h3V x3 x5 x6 x7 (h2V (kernelRun0_B.sl.v4 i) (bufG xs0 x0 x3) x0 x3 x4 2) := by
  simp only [kernelRun0_B.sl.r_164, kernelRun0_B.sl.r_156, kernelRun0_B.sl.r_150, kernelRun0_B.sl.r_151, kernelRun0_B.sl.r_152, kernelRun0_B.sl.r_142, kernelRun0_B.sl.r_143, kernelRun0_B.sl.r_145, kernelRun0_B.sl.r_141, kernelRun0_B.sl.r_137, kernelRun0_B.sl.r_138, kernelRun0_B.sl.r_139, kernelRun0_B.sl.r_126, kernelRun0_B.sl.r_127, kernelRun0_B.sl.r_128, kernelRun0_B.sl.r_122, kernelRun0_B.sl.r_123, kernelRun0_B.sl.r_124, kernelRun0_B.sl.r_111, kernelRun0_B.sl.r_112, kernelRun0_B.sl.r_114, kernelRun0_B.sl.r_103, kernelRun0_B.sl.r_98, kernelRun0_B.sl.r_99, kernelRun0_B.sl.r_113, kernelRun0_B.sl.r_101, kernelRun0_B.sl.r_102, kernelRun0_B.sl.r_133, kernelRun0_B.sl.r_134, kernelRun0_B.sl.r_135, kernelRun0_B.sl.r_144, kernelRun0_B.sl.r_160, kernelRun0_B.sl.r_77, r_100_eq, r_89_eq, View.readAt_eq_ld, Memref.IsWhole.read_unread]
  rfl

/-- … its embedding gate. -/
theorem r_165_eq : kernelRun0_B.sl.r_165 c i arg2 harg2 arg5 harg5 arg6 harg6 arg7 harg7 arg8 harg8 arg9 harg9 arg10 harg10 arg14 harg14 arg15 x0 x3 x4 x5 x6 x7 x8 xs0 = pleV x3 x8 (h3V x3 x5 x6 x7 (h2V (kernelRun0_B.sl.v4 i) (bufG xs0 x0 x3) x0 x3 x4 2)) := by
  simp only [kernelRun0_B.sl.r_165, kernelRun0_B.sl.r_156, kernelRun0_B.sl.r_150, kernelRun0_B.sl.r_151, kernelRun0_B.sl.r_152, kernelRun0_B.sl.r_142, kernelRun0_B.sl.r_143, kernelRun0_B.sl.r_145, kernelRun0_B.sl.r_141, kernelRun0_B.sl.r_137, kernelRun0_B.sl.r_138, kernelRun0_B.sl.r_139, kernelRun0_B.sl.r_126, kernelRun0_B.sl.r_127, kernelRun0_B.sl.r_128, kernelRun0_B.sl.r_122, kernelRun0_B.sl.r_123, kernelRun0_B.sl.r_124, kernelRun0_B.sl.r_111, kernelRun0_B.sl.r_112, kernelRun0_B.sl.r_114, kernelRun0_B.sl.r_103, kernelRun0_B.sl.r_98, kernelRun0_B.sl.r_99, kernelRun0_B.sl.r_113, kernelRun0_B.sl.r_101, kernelRun0_B.sl.r_102, kernelRun0_B.sl.r_133, kernelRun0_B.sl.r_134, kernelRun0_B.sl.r_135, kernelRun0_B.sl.r_144, kernelRun0_B.sl.r_160, kernelRun0_B.sl.r_77, r_100_eq, r_89_eq, View.readAt_eq_ld, Memref.IsWhole.read_unread]
  rfl

/-- The last quarter's result rows. -/
theorem r_178_eq : kernelRun0_B.sl.r_178 c i arg2 harg2 arg3 harg3 arg5 harg5 arg6 harg6 arg7 harg7 arg8 harg8 arg9 harg9 arg10 harg10 arg11 harg11 arg14 harg14 arg15 x0 x1 x3 x4 x5 x6 x7 x8 x9 xs0 = yV (kernelRun0_B.sl.v4 i) (bufG xs0 x0 x3) x0 x1 x3 x4 x5 x6 x7 x8 x9 3 := by
  simp only [kernelRun0_B.sl.r_178, kernelRun0_B.sl.r_174, kernelRun0_B.sl.r_175, kernelRun0_B.sl.r_176, kernelRun0_B.sl.r_170, kernelRun0_B.sl.r_166, kernelRun0_B.sl.r_167, kernelRun0_B.sl.r_168, kernelRun0_B.sl.r_161, kernelRun0_B.sl.r_162, kernelRun0_B.sl.r_163, kernelRun0_B.sl.r_157, kernelRun0_B.sl.r_158, kernelRun0_B.sl.r_159, kernelRun0_B.sl.r_153, kernelRun0_B.sl.r_154, kernelRun0_B.sl.r_155, kernelRun0_B.sl.r_147, kernelRun0_B.sl.r_148, kernelRun0_B.sl.r_149, kernelRun0_B.sl.r_171, kernelRun0_B.sl.r_172, kernelRun0_B.sl.r_173, kernelRun0_B.sl.r_177, r_136_eq, r_146_eq, View.readAt_eq_ld, Memref.IsWhole.read_unread]
  rfl

end Cert.Kernel2Ideal.Pool.CaseB
-- ==== Proof.PoolOut.lean ====
/-
  What one tile of the pooling kernel leaves, in each of the three cases of the run: the result rows, the last sixteen rows
  copied to the front of the row buffer, and on a stream's last tile the state.
-/
module

public import proofs.«01_k».proof.Proof.PoolWordsA
public import proofs.«01_k».proof.Proof.PoolWordsB

@[expose] public section

set_option maxRecDepth 100000
set_option maxHeartbeats 2000000

noncomputable section

namespace Cert.Kernel2Ideal.Pool

open Cert.Kernel2Ideal Cert.Kernel2Ideal.Gen Idealize.ShloMosaic Idealize.ShloMosaic.TcCoe Idealize.SL.Sem

variable {F : FTy → Type} [FloatOps F] (c : Dev nD) (i : grid0.Coords) (arg2 : Memref sig .tc .vmem S1x1024x1024 .f32) (harg2 : arg2.IsWhole) (arg3 : Memref sig .tc .vmem S1x1x1024x256 .f32) (harg3 : arg3.IsWhole) (arg4 : Memref sig .tc .vmem S1x1x15x1024 .f32) (harg4 : arg4.IsWhole) (arg5 : Memref sig .tc .vmem S1x8x1024 .f32) (harg5 : arg5.IsWhole) (arg6 : Memref sig .tc .vmem S1x4x256x256 .bf16) (harg6 : arg6.IsWhole) (arg7 : Memref sig .tc .vmem S1x1024x2816 .bf16) (harg7 : arg7.IsWhole) (arg8 : Memref sig .tc .vmem S1x1024x2816 .bf16) (harg8 : arg8.IsWhole) (arg9 : Memref sig .tc .vmem S1x2816x1024 .bf16) (harg9 : arg9.IsWhole) (arg10 : Memref sig .tc .vmem S1x1024x1024 .bf16) (harg10 : arg10.IsWhole) (arg11 : Memref sig .tc .vmem S1x256x1024 .bf16) (harg11 : arg11.IsWhole) (arg12 : Memref sig .tc .vmem S1x1024x1024 .f32) (harg12 : arg12.IsWhole) (arg13 : Memref sig .tc .vmem S1x1x15x1024 .f32) (harg13 : arg13.IsWhole) (arg14 : Memref sig .tc .vmem S1x1040x1024 .f32) (harg14 : arg14.IsWhole) (arg15 : Memref sig .tc .vmem S1024x1024 .bf16) (harg15 : arg15.IsWhole) (x0 : Vec F S1x1024x1024 .f32) (x1 : Vec F S1x1x1024x256 .f32) (x2 : Vec F S1x1x15x1024 .f32) (x3 : Vec F S1x8x1024 .f32) (x4 : Vec F S1x4x256x256 .bf16) (x5 : Vec F S1x1024x2816 .bf16) (x6 : Vec F S1x1024x2816 .bf16) (x7 : Vec F S1x2816x1024 .bf16) (x8 : Vec F S1x1024x1024 .bf16) (x9 : Vec F S1x256x1024 .bf16) (xs0 : Vec F S1x1040x1024 .f32)

/-- The rows that the tile leaves at the front of the buffer. -/
theorem front_rows (B : Vec F S1x1040x1024 .f32) (iq : ∀ a, (![0, 1024, 0] : Fin 3 → ℕ) a + S1x16x1024.size a ≤ S1x1040x1024.size a) (r : Fin 16) (k : Fin 1024) :
    k0_pay211 (fun j : S1x16x1024.Idx => B ((Rect.unit ![0, 1024, 0] S1x16x1024.size iq : Rect S1x1040x1024).toLoadRect.idx j)) (ValueIdx.ix3 0 r k) = B (ValueIdx.ix3 0 ⟨1024 + r, by omega⟩ k) := by
  simp only [k0_pay211, shapeCast_self]
  refine congrArg B (funext fun a => ?_)
  match a with
  | 0 => rfl
  | 1 => exact Fin.ext (by show 1024 + 1 * (r : ℕ) = 1024 + r; omega)
  | 2 => exact Fin.ext (by show 0 + 1 * (k : ℕ) = k; omega)

namespace CaseA

/-- The four stores of the result rows. -/
theorem pieces10 (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1 = [(⟨Rect.unit ![0, 768, 0] S1x256x1024.size inb_S1x1024x1024_S1x256x1024_0_768_0, yV (kernelRun0_A.sl.v4 i) (bufG (histV x2) x0 x3) x0 x1 x3 x4 x5 x6 x7 x8 x9 3⟩ : View.Piece (Elt F) S1x1024x1024 .f32), ⟨Rect.unit ![0, 512, 0] S1x256x1024.size inb_S1x1024x1024_S1x256x1024_0_512_0, yV (kernelRun0_A.sl.v4 i) (bufG (histV x2) x0 x3) x0 x1 x3 x4 x5 x6 x7 x8 x9 2⟩, ⟨Rect.unit ![0, 256, 0] S1x256x1024.size inb_S1x1024x1024_S1x256x1024_0_256_0, yV (kernelRun0_A.sl.v4 i) (bufG (histV x2) x0 x3) x0 x1 x3 x4 x5 x6 x7 x8 x9 1⟩, ⟨Rect.unit ![0, 0, 0] S1x256x1024.size inb_S1x1024x1024_S1x256x1024_0_0_0, yV (kernelRun0_A.sl.v4 i) (bufG (histV x2) x0 x3) x0 x1 x3 x4 x5 x6 x7 x8 x9 0⟩] := by
  show [(⟨Rect.unit ![0, 768, 0] S1x256x1024.size inb_S1x1024x1024_S1x256x1024_0_768_0, kernelRun0_A.sl.r_178 c i arg2 harg2 arg3 harg3 arg4 harg4 arg5 harg5 arg6 harg6 arg7 harg7 arg8 harg8 arg9 harg9 arg10 harg10 arg11 harg11 arg14 arg15 x0 x1 x2 x3 x4 x5 x6 x7 x8 x9⟩ : View.Piece (Elt F) S1x1024x1024 .f32), ⟨Rect.unit ![0, 512, 0] S1x256x1024.size inb_S1x1024x1024_S1x256x1024_0_512_0, k0_pay200 (kernelRun0_A.sl.r_164 c i arg2 harg2 arg4 harg4 arg5 harg5 arg6 harg6 arg7 harg7 arg8 harg8 arg9 harg9 arg14 arg15 x0 x2 x3 x4 x5 x6 x7) (kernelRun0_A.sl.r_165 c i arg2 harg2 arg4 harg4 arg5 harg5 arg6 harg6 arg7 harg7 arg8 harg8 arg9 harg9 arg10 harg10 arg14 arg15 x0 x2 x3 x4 x5 x6 x7 x8) (kernelRun0_A.sl.r_169 c arg3 harg3 x1) (arg11.view.readAt (Elt F) (Rect.unit (s := S1x256x1024) ![0, 0, 0] S1x256x1024.size inb_S1x256x1024_S1x256x1024_0_0_0).toLoadRect (harg11.unread x9))⟩,
    ⟨Rect.unit ![0, 256, 0] S1x256x1024.size inb_S1x1024x1024_S1x256x1024_0_256_0, k0_pay170 (kernelRun0_A.sl.r_131 c i arg2 harg2 arg4 harg4 arg5 harg5 arg6 harg6 arg7 harg7 arg8 harg8 arg9 harg9 arg14 arg15 x0 x2 x3 x4 x5 x6 x7) (kernelRun0_A.sl.r_132 c i arg2 harg2 arg4 harg4 arg5 harg5 arg6 harg6 arg7 harg7 arg8 harg8 arg9 harg9 arg10 harg10 arg14 arg15 x0 x2 x3 x4 x5 x6 x7 x8) (kernelRun0_A.sl.r_140 c arg3 harg3 x1) (arg11.view.readAt (Elt F) (Rect.unit (s := S1x256x1024) ![0, 0, 0] S1x256x1024.size inb_S1x256x1024_S1x256x1024_0_0_0).toLoadRect (harg11.unread x9))⟩, ⟨Rect.unit ![0, 0, 0] S1x256x1024.size inb_S1x1024x1024_S1x256x1024_0_0_0, k0_pay112 (kernelRun0_A.sl.r_86 c i arg2 harg2 arg4 harg4 arg5 harg5 arg6 harg6 arg7 harg7 arg8 harg8 arg9 harg9 arg14 arg15 x0 x2 x3 x4 x5 x6 x7) (kernelRun0_A.sl.r_87 c i arg2 harg2 arg4 harg4 arg5 harg5 arg6 harg6 arg7 harg7 arg8 harg8 arg9 harg9 arg10 harg10 arg14 arg15 x0 x2 x3 x4 x5 x6 x7 x8) (arg3.view.readAt (Elt F) (Rect.unit (s := S1x1x1024x256) ![0, 0, 0, 0] S1x1x256x256.size inb_S1x1x1024x256_S1x1x256x256_0_0_0_0).toLoadRect (harg3.unread x1)) (arg11.view.readAt (Elt F) (Rect.unit (s := S1x256x1024) ![0, 0, 0] S1x256x1024.size inb_S1x256x1024_S1x256x1024_0_0_0).toLoadRect (harg11.unread x9))⟩] = _
  simp only [r_178_eq, r_164_eq, r_165_eq, r_131_eq, r_132_eq, r_86_eq, r_87_eq, kernelRun0_A.sl.r_169, kernelRun0_A.sl.r_140, View.readAt_eq_ld, Memref.IsWhole.read_unread]
  rfl

/-- The tile's result rows. -/
theorem out10_eq (hc0 : cond0_0 i) (hc1 : ¬cond0_1 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = yFull x0 x1 x3 x4 x5 x6 x7 x8 x9 (kernelRun0_A.sl.v4 i) (bufG (histV x2) x0 x3) := by
  unfold out0_A_10
  rw [pieces10, View.read_writes_junk_eq_canon]
  exact rows_canon x0 x1 x3 x4 x5 x6 x7 x8 x9 _ _

/-- The last quarter's store is the newest of the row buffer's before the final copy. -/
theorem last_store : ∃ L, kernelRun0_A.sl.HS0_6 c arg2 harg2 arg4 harg4 arg5 harg5 x0 x2 x3 = (⟨Rect.unit ![0, 784, 0] S1x256x1024.size inb_S1x1040x1024_S1x256x1024_0_784_0, xnV x0 x3 3⟩ : View.Piece (Elt F) S1x1040x1024 .f32) :: L := by
  simp only [kernelRun0_A.sl.HS0_6, View.readAt_eq_ld, Memref.IsWhole.read_unread]
  exact ⟨_, rfl⟩

/-- The rows left at the front of the buffer for the next tile. -/
theorem sout_eq (hc0 : cond0_0 i) (hc1 : ¬cond0_1 i) (r : Fin 1040) (hr : (r : ℕ) < 16) (k : Fin 1024) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ValueIdx.ix3 0 r k) = bufG (histV x2) x0 x3 (ValueIdx.ix3 0 ⟨1024 + r, by omega⟩ k) := by
  obtain ⟨L, e⟩ := last_store c arg2 harg2 arg4 harg4 arg5 harg5 x0 x2 x3
  have f : kernelRun0_A.sl.v1378 c arg2 harg2 arg4 harg4 arg5 harg5 arg14 x0 x2 x3 = fun j => bufG (histV x2) x0 x3 ((Rect.unit ![0, 1024, 0] S1x16x1024.size inb_S1x1040x1024_S1x16x1024_0_1024_0 : Rect S1x1040x1024).toLoadRect.idx j) := by
    refine funext fun a => ?_
    simp only [kernelRun0_A.sl.v1378, e]
    exact congrFun (tail_read (histV x2) x0 x3 arg14.view L _ _ fun j => by show 784 ≤ 1024 + 1 * (j 1 : ℕ); omega) a
  unfold sout0_A_0
  rw [View.read_writes_junk_eq_canon]
  refine front_canon _ (kernelRun0_A.sl.r_179 c arg2 harg2 arg4 harg4 arg5 harg5 arg14 x0 x2 x3) (bufG (histV x2) x0 x3) inb_S1x1040x1024_S1x16x1024_0_0_0 (fun r k => ?_) r hr k
  simp only [kernelRun0_A.sl.r_179, f]
  exact front_rows (bufG (histV x2) x0 x3) _ r k

end CaseA

namespace CaseB

/-- The four stores of the result rows. -/
theorem pieces10 (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0).1 = [(⟨Rect.unit ![0, 768, 0] S1x256x1024.size inb_S1x1024x1024_S1x256x1024_0_768_0, yV (kernelRun0_B.sl.v4 i) (bufG xs0 x0 x3) x0 x1 x3 x4 x5 x6 x7 x8 x9 3⟩ : View.Piece (Elt F) S1x1024x1024 .f32), ⟨Rect.unit ![0, 512, 0] S1x256x1024.size inb_S1x1024x1024_S1x256x1024_0_512_0, yV (kernelRun0_B.sl.v4 i) (bufG xs0 x0 x3) x0 x1 x3 x4 x5 x6 x7 x8 x9 2⟩, ⟨Rect.unit ![0, 256, 0] S1x256x1024.size inb_S1x1024x1024_S1x256x1024_0_256_0, yV (kernelRun0_B.sl.v4 i) (bufG xs0 x0 x3) x0 x1 x3 x4 x5 x6 x7 x8 x9 1⟩, ⟨Rect.unit ![0, 0, 0] S1x256x1024.size inb_S1x1024x1024_S1x256x1024_0_0_0, yV (kernelRun0_B.sl.v4 i) (bufG xs0 x0 x3) x0 x1 x3 x4 x5 x6 x7 x8 x9 0⟩] := by
  show [(⟨Rect.unit ![0, 768, 0] S1x256x1024.size inb_S1x1024x1024_S1x256x1024_0_768_0, kernelRun0_B.sl.r_178 c i arg2 harg2 arg3 harg3 arg5 harg5 arg6 harg6 arg7 harg7 arg8 harg8 arg9 harg9 arg10 harg10 arg11 harg11 arg14 harg14 arg15 x0 x1 x3 x4 x5 x6 x7 x8 x9 xs0⟩ : View.Piece (Elt F) S1x1024x1024 .f32), ⟨Rect.unit ![0, 512, 0] S1x256x1024.size inb_S1x1024x1024_S1x256x1024_0_512_0, k0_pay200 (kernelRun0_B.sl.r_164 c i arg2 harg2 arg5 harg5 arg6 harg6 arg7 harg7 arg8 harg8 arg9 harg9 arg14 harg14 arg15 x0 x3 x4 x5 x6 x7 xs0) (kernelRun0_B.sl.r_165 c i arg2 harg2 arg5 harg5 arg6 harg6 arg7 harg7 arg8 harg8 arg9 harg9 arg10 harg10 arg14 harg14 arg15 x0 x3 x4 x5 x6 x7 x8 xs0) (kernelRun0_B.sl.r_169 c arg3 harg3 x1) (arg11.view.readAt (Elt F) (Rect.unit (s := S1x256x1024) ![0, 0, 0] S1x256x1024.size inb_S1x256x1024_S1x256x1024_0_0_0).toLoadRect (harg11.unread x9))⟩,
    ⟨Rect.unit ![0, 256, 0] S1x256x1024.size inb_S1x1024x1024_S1x256x1024_0_256_0, k0_pay170 (kernelRun0_B.sl.r_131 c i arg2 harg2 arg5 harg5 arg6 harg6 arg7 harg7 arg8 harg8 arg9 harg9 arg14 harg14 arg15 x0 x3 x4 x5 x6 x7 xs0) (kernelRun0_B.sl.r_132 c i arg2 harg2 arg5 harg5 arg6 harg6 arg7 harg7 arg8 harg8 arg9 harg9 arg10 harg10 arg14 harg14 arg15 x0 x3 x4 x5 x6 x7 x8 xs0) (kernelRun0_B.sl.r_140 c arg3 harg3 x1) (arg11.view.readAt (Elt F) (Rect.unit (s := S1x256x1024) ![0, 0, 0] S1x256x1024.size inb_S1x256x1024_S1x256x1024_0_0_0).toLoadRect (harg11.unread x9))⟩, ⟨Rect.unit ![0, 0, 0] S1x256x1024.size inb_S1x1024x1024_S1x256x1024_0_0_0, k0_pay112 (kernelRun0_B.sl.r_86 c i arg2 harg2 arg5 harg5 arg6 harg6 arg7 harg7 arg8 harg8 arg9 harg9 arg14 harg14 arg15 x0 x3 x4 x5 x6 x7 xs0) (kernelRun0_B.sl.r_87 c i arg2 harg2 arg5 harg5 arg6 harg6 arg7 harg7 arg8 harg8 arg9 harg9 arg10 harg10 arg14 harg14 arg15 x0 x3 x4 x5 x6 x7 x8 xs0) (arg3.view.readAt (Elt F) (Rect.unit (s := S1x1x1024x256) ![0, 0, 0, 0] S1x1x256x256.size inb_S1x1x1024x256_S1x1x256x256_0_0_0_0).toLoadRect (harg3.unread x1)) (arg11.view.readAt (Elt F) (Rect.unit (s := S1x256x1024) ![0, 0, 0] S1x256x1024.size inb_S1x256x1024_S1x256x1024_0_0_0).toLoadRect (harg11.unread x9))⟩] = _
  simp only [r_178_eq, r_164_eq, r_165_eq, r_131_eq, r_132_eq, r_86_eq, r_87_eq, kernelRun0_B.sl.r_169, kernelRun0_B.sl.r_140, View.readAt_eq_ld, Memref.IsWhole.read_unread]
  rfl

/-- The tile's result rows. -/
theorem out10_eq (hc0 : ¬cond0_0 i) (hc1 : ¬cond0_1 i) : out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 = yFull x0 x1 x3 x4 x5 x6 x7 x8 x9 (kernelRun0_B.sl.v4 i) (bufG xs0 x0 x3) := by
  unfold out0_B_10
  rw [pieces10, View.read_writes_junk_eq_canon]
  exact rows_canon x0 x1 x3 x4 x5 x6 x7 x8 x9 _ _

/-- The last quarter's store is the newest of the row buffer's before the final copy. -/
theorem last_store : ∃ L, kernelRun0_B.sl.HS0_4 c arg2 harg2 arg5 harg5 x0 x3 = (⟨Rect.unit ![0, 784, 0] S1x256x1024.size inb_S1x1040x1024_S1x256x1024_0_784_0, xnV x0 x3 3⟩ : View.Piece (Elt F) S1x1040x1024 .f32) :: L := by
  simp only [kernelRun0_B.sl.HS0_4, View.readAt_eq_ld, Memref.IsWhole.read_unread]
  exact ⟨_, rfl⟩

/-- The rows left at the front of the buffer for the next tile. -/
theorem sout_eq (hc0 : ¬cond0_0 i) (hc1 : ¬cond0_1 i) (r : Fin 1040) (hr : (r : ℕ) < 16) (k : Fin 1024) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 (ValueIdx.ix3 0 r k) = bufG xs0 x0 x3 (ValueIdx.ix3 0 ⟨1024 + r, by omega⟩ k) := by
  obtain ⟨L, e⟩ := last_store c arg2 harg2 arg5 harg5 x0 x3
  have f : kernelRun0_B.sl.v1378 c arg2 harg2 arg5 harg5 arg14 x0 x3 = fun j => bufG xs0 x0 x3 ((Rect.unit ![0, 1024, 0] S1x16x1024.size inb_S1x1040x1024_S1x16x1024_0_1024_0 : Rect S1x1040x1024).toLoadRect.idx j) := by
    refine funext fun a => ?_
    simp only [kernelRun0_B.sl.v1378, e]
    exact congrFun (tail_read xs0 x0 x3 arg14.view L _ _ fun j => by show 784 ≤ 1024 + 1 * (j 1 : ℕ); omega) a
  unfold sout0_B_0
  rw [View.read_writes_junk_eq_canon]
  refine front_canon _ (kernelRun0_B.sl.r_179 c arg2 harg2 arg5 harg5 arg14 x0 x3) (bufG xs0 x0 x3) inb_S1x1040x1024_S1x16x1024_0_0_0 (fun r k => ?_) r hr k
  simp only [kernelRun0_B.sl.r_179, f]
  exact front_rows (bufG xs0 x0 x3) _ r k

end CaseB

namespace CaseC

/-- The last tile's stores of the result rows are a later tile's. -/
theorem pieces10 (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0).1 = [(⟨Rect.unit ![0, 768, 0] S1x256x1024.size inb_S1x1024x1024_S1x256x1024_0_768_0, yV (kernelRun0_B.sl.v4 i) (bufG xs0 x0 x3) x0 x1 x3 x4 x5 x6 x7 x8 x9 3⟩ : View.Piece (Elt F) S1x1024x1024 .f32), ⟨Rect.unit ![0, 512, 0] S1x256x1024.size inb_S1x1024x1024_S1x256x1024_0_512_0, yV (kernelRun0_B.sl.v4 i) (bufG xs0 x0 x3) x0 x1 x3 x4 x5 x6 x7 x8 x9 2⟩, ⟨Rect.unit ![0, 256, 0] S1x256x1024.size inb_S1x1024x1024_S1x256x1024_0_256_0, yV (kernelRun0_B.sl.v4 i) (bufG xs0 x0 x3) x0 x1 x3 x4 x5 x6 x7 x8 x9 1⟩, ⟨Rect.unit ![0, 0, 0] S1x256x1024.size inb_S1x1024x1024_S1x256x1024_0_0_0, yV (kernelRun0_B.sl.v4 i) (bufG xs0 x0 x3) x0 x1 x3 x4 x5 x6 x7 x8 x9 0⟩] := by
  show [(⟨Rect.unit ![0, 768, 0] S1x256x1024.size inb_S1x1024x1024_S1x256x1024_0_768_0, kernelRun0_B.sl.r_178 c i arg2 harg2 arg3 harg3 arg5 harg5 arg6 harg6 arg7 harg7 arg8 harg8 arg9 harg9 arg10 harg10 arg11 harg11 arg14 harg14 arg15 x0 x1 x3 x4 x5 x6 x7 x8 x9 xs0⟩ : View.Piece (Elt F) S1x1024x1024 .f32), ⟨Rect.unit ![0, 512, 0] S1x256x1024.size inb_S1x1024x1024_S1x256x1024_0_512_0, k0_pay200 (kernelRun0_B.sl.r_164 c i arg2 harg2 arg5 harg5 arg6 harg6 arg7 harg7 arg8 harg8 arg9 harg9 arg14 harg14 arg15 x0 x3 x4 x5 x6 x7 xs0) (kernelRun0_B.sl.r_165 c i arg2 harg2 arg5 harg5 arg6 harg6 arg7 harg7 arg8 harg8 arg9 harg9 arg10 harg10 arg14 harg14 arg15 x0 x3 x4 x5 x6 x7 x8 xs0) (kernelRun0_B.sl.r_169 c arg3 harg3 x1) (arg11.view.readAt (Elt F) (Rect.unit (s := S1x256x1024) ![0, 0, 0] S1x256x1024.size inb_S1x256x1024_S1x256x1024_0_0_0).toLoadRect (harg11.unread x9))⟩,
    ⟨Rect.unit ![0, 256, 0] S1x256x1024.size inb_S1x1024x1024_S1x256x1024_0_256_0, k0_pay170 (kernelRun0_B.sl.r_131 c i arg2 harg2 arg5 harg5 arg6 harg6 arg7 harg7 arg8 harg8 arg9 harg9 arg14 harg14 arg15 x0 x3 x4 x5 x6 x7 xs0) (kernelRun0_B.sl.r_132 c i arg2 harg2 arg5 harg5 arg6 harg6 arg7 harg7 arg8 harg8 arg9 harg9 arg10 harg10 arg14 harg14 arg15 x0 x3 x4 x5 x6 x7 x8 xs0) (kernelRun0_B.sl.r_140 c arg3 harg3 x1) (arg11.view.readAt (Elt F) (Rect.unit (s := S1x256x1024) ![0, 0, 0] S1x256x1024.size inb_S1x256x1024_S1x256x1024_0_0_0).toLoadRect (harg11.unread x9))⟩, ⟨Rect.unit ![0, 0, 0] S1x256x1024.size inb_S1x1024x1024_S1x256x1024_0_0_0, k0_pay112 (kernelRun0_B.sl.r_86 c i arg2 harg2 arg5 harg5 arg6 harg6 arg7 harg7 arg8 harg8 arg9 harg9 arg14 harg14 arg15 x0 x3 x4 x5 x6 x7 xs0) (kernelRun0_B.sl.r_87 c i arg2 harg2 arg5 harg5 arg6 harg6 arg7 harg7 arg8 harg8 arg9 harg9 arg10 harg10 arg14 harg14 arg15 x0 x3 x4 x5 x6 x7 x8 xs0) (arg3.view.readAt (Elt F) (Rect.unit (s := S1x1x1024x256) ![0, 0, 0, 0] S1x1x256x256.size inb_S1x1x1024x256_S1x1x256x256_0_0_0_0).toLoadRect (harg3.unread x1)) (arg11.view.readAt (Elt F) (Rect.unit (s := S1x256x1024) ![0, 0, 0] S1x256x1024.size inb_S1x256x1024_S1x256x1024_0_0_0).toLoadRect (harg11.unread x9))⟩] = _
  simp only [CaseB.r_178_eq, CaseB.r_164_eq, CaseB.r_165_eq, CaseB.r_131_eq, CaseB.r_132_eq, CaseB.r_86_eq, CaseB.r_87_eq, kernelRun0_B.sl.r_169, kernelRun0_B.sl.r_140, View.readAt_eq_ld, Memref.IsWhole.read_unread]
  rfl

/-- The tile's result rows. -/
theorem out10_eq (hc0 : ¬cond0_0 i) (hc1 : cond0_1 i) : out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 = yFull x0 x1 x3 x4 x5 x6 x7 x8 x9 (kernelRun0_B.sl.v4 i) (bufG xs0 x0 x3) := by
  unfold out0_C_10
  rw [pieces10, View.read_writes_junk_eq_canon]
  exact rows_canon x0 x1 x3 x4 x5 x6 x7 x8 x9 _ _

/-- The state: the buffer's last fifteen rows. -/
theorem out11_eq (hc0 : ¬cond0_0 i) (hc1 : cond0_1 i) (j : Fin 15) (k : Fin 1024) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 (ValueIdx.ix4 0 0 j k) = bufG xs0 x0 x3 (ValueIdx.ix3 0 ⟨1025 + j, by omega⟩ k) := by
  obtain ⟨L, e⟩ := CaseB.last_store c arg2 harg2 arg5 harg5 x0 x3
  have f : kernelRun0_C.sl.v1382 c arg2 harg2 arg5 harg5 arg14 x0 x3 = fun j => bufG xs0 x0 x3 ((Rect.unit ![0, 1025, 0] S1x15x1024.size inb_S1x1040x1024_S1x15x1024_0_1025_0 : Rect S1x1040x1024).toLoadRect.idx j) := by
    refine funext fun a => ?_
    show arg14.view.readCov (kernelRun0_B.sl.HS0_4 c arg2 harg2 arg5 harg5 x0 x3) _ a = _
    rw [e]
    exact congrFun (tail_read xs0 x0 x3 arg14.view L _ _ fun j => by show 784 ≤ 1025 + 1 * (j 1 : ℕ); omega) a
  unfold out0_C_11
  rw [View.read_writes_junk_eq_canon]
  have s : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0).2.1 = [(⟨Rect.unit ![0, 0, 0, 0] S1x1x15x1024.size inb_S1x1x15x1024_S1x1x15x1024_0_0_0_0, k0_pay210 (kernelRun0_C.sl.v1382 c arg2 harg2 arg5 harg5 arg14 x0 x3)⟩ : View.Piece (Elt F) S1x1x15x1024 .f32)] := rfl
  rw [s, View.canon_cons_unit_zero (by decide), f]
  simp only [k0_pay210]
  refine (shapeCast_apply _ _ (ValueIdx.ix4 0 0 j k) (ValueIdx.ix3 0 j k) ?_).trans (congrArg (bufG xs0 x0 x3) (funext fun a => ?_))
  · rw [Shape.rowMajor_val_three, Shape.rowMajor_val_four]
    show ((0 : ℕ) * 15 + (j : ℕ)) * 1024 + (k : ℕ) = ((0 * 1 + 0) * 15 + (j : ℕ)) * 1024 + (k : ℕ)
    omega
  · match a with
    | 0 => rfl
    | 1 => exact Fin.ext (by show 1025 + 1 * (j : ℕ) = 1025 + j; omega)
    | 2 => exact Fin.ext (by show 0 + 1 * (k : ℕ) = k; omega)

end CaseC

end Cert.Kernel2Ideal.Pool
-- ==== Proof.PoolGrid.lean ====
/-
  The grid of the pooling layer's call: point `4 b + i` finds the sixteen padded rows before its tile at the front of the
  row buffer and leaves the tile's last sixteen there; so the two result arrays are the layer's outputs and its last rows.
-/
module

public import proofs.«01_k».proof.Proof.PoolEntry
public import proofs.«01_k».proof.Proof.PoolOut

@[expose] public section

set_option maxRecDepth 16384
set_option maxHeartbeats 1000000

noncomputable section

namespace Cert.Kernel2Ideal.Pool

open Cert.Kernel2Ideal Cert.Kernel2Ideal.Gen Cert.Gla Cert.Pool Idealize.ShloMosaic Idealize.ShloMosaic.TcCoe Idealize.SL.Sem

variable (m : (ℓ : Loc nD τ sig) → Buf (Elt Ideal) ℓ)

theorem ix3_eq {a b c : ℕ} (i : Fin a) (j : Fin b) (k : Fin c) : (ix3 i j k) = ValueIdx.ix3 i j k := rfl
theorem ix4_eq {a b c d : ℕ} (i : Fin a) (j : Fin b) (k : Fin c) (l : Fin d) : (ix4 i j k l) = ValueIdx.ix4 i j k l := rfl

/-- Stream `b`'s input rows. -/
def kH (c : Dev nD) (b : Fin 4) : ℕ → Fin 1024 → EReal := hOf (m ((c : Thread nD τ).loc main_arg0)) b

/-- Stream `b`'s embedding rows. -/
def kP (c : Dev nD) (b : Fin 4) : ℕ → Fin 256 → EReal := ppOf (m ((c : Thread nD τ).loc main_arg1)) b

theorem bN_pred {n : ℕ} (h : ¬ n % 4 = 0) : bN (n - 1) = bN n := Fin.ext (by unfold bN; simp only; omega)

/-- A tile's result rows, from what its row buffer holds. -/
theorem tile_y {W : PWts} {x3 : Vec Ideal S1x8x1024 .f32} {x4 : Vec Ideal S1x4x256x256 .bf16} {x5 x6 : Vec Ideal S1x1024x2816 .bf16} {x7 : Vec Ideal S1x2816x1024 .bf16} {x8 : Vec Ideal S1x1024x1024 .bf16} {x9 : Vec Ideal S1x256x1024 .bf16} (K : PK W x3 x4 x5 x6 x7 x8 x9) {H : ℕ → Fin 1024 → EReal} {P : ℕ → Fin 256 → EReal}
    (x0 : Vec Ideal S1x1024x1024 .f32) (x1 : Vec Ideal S1x1x1024x256 .f32) (B : Vec Ideal S1x1040x1024 .f32) (t0 : ℕ) (ht : t0 ≤ 3072)
    (hB : ∀ (n : Fin 1040) (c : Fin 1024), B (ix3 0 n c) = padT W H (t0 + n) c)
    (hx : ∀ u c : Fin 1024, x0 (ix3 0 u c) = H (t0 + u) c) (hp : ∀ (u : Fin 1024) (c : Fin 256), x1 (ix4 0 0 u c) = P (t0 + u) c) (u c : Fin 1024) :
    yFull x0 x1 x3 x4 x5 x6 x7 x8 x9 (BitVec.ofNat 32 t0) B (ix3 0 u c) = poolT W H P (t0 + u) c := by
  have hu := u.isLt
  refine (y_at K (P := P) x0 x1 B t0 ht hB ⟨(u : ℕ) / 256, by omega⟩ ⟨(u : ℕ) % 256, by omega⟩ (fun c => (hx _ c).trans ?_) (fun c => (hp _ c).trans ?_) c).trans ?_
  · exact congrFun (congrArg H (by simp only; omega)) c
  · exact congrFun (congrArg P (by simp only; omega)) c
  · exact congrFun (congrArg (poolT W H P) (by simp only; omega)) c

/-- What a point before the stream's last leaves at the front of the row buffer. -/
theorem grid_rows (c : Dev nD) : ∀ (n : ℕ) (hn : n < cfg0.N) (_ : ¬ n % 4 = 3) (r : Fin 1040) (_ : (r : ℕ) < 16) (k : Fin 1024),
    (outsAt0 m c n hn).2.2 (ix3 0 r k) = padT (kW m c) (kH m c (bN n)) (1024 * (n % 4) + 1024 + r) k := by
  intro n
  induction n using Nat.strong_induction_on with
  | _ n ih =>
    intro hn h3 r hr k
    have ea : 1024 * (n % 4) + 1024 + (r : ℕ) = 1024 * (n % 4) + (1024 + r) := by omega
    rw [ea]
    by_cases h0 : n % 4 = 0
    · have e := congrFun (congrArg (fun z => z.2.2) (outsAt0_A m c ⟨n, hn⟩ h0 h3)) (ix3 0 r k)
      refine e.trans ?_
      dsimp only
      rw [ix3_eq, CaseA.sout_eq (hr := hr)]
      exact buf_at (pk m c ⟨n, hn⟩) _ _ (1024 * (n % 4)) (fun r hr k => by rw [h0]; exact hist_at _ (blk2 m c ⟨n, hn⟩) _ r hr k)
        (fun u i => blk0 m c ⟨n, hn⟩ u i) ⟨1024 + r, by omega⟩ k
    · have e := congrFun (congrArg (fun z => z.2.2) (outsAt0_B m c ⟨n, hn⟩ h0 h3)) (ix3 0 r k)
      refine e.trans ?_
      dsimp only
      rw [ix3_eq, CaseB.sout_eq (hr := hr)]
      refine buf_at (pk m c ⟨n, hn⟩) _ _ (1024 * (n % 4)) (fun r hr k => (ih (n - 1) (by omega) _ (by omega) r hr k).trans ?_)
        (fun u i => blk0 m c ⟨n, hn⟩ u i) ⟨1024 + r, by omega⟩ k
      rw [bN_pred h0, show 1024 * ((n - 1) % 4) + 1024 = 1024 * (n % 4) by omega]
      rfl

/-- The row buffer of a point after a stream's first. -/
theorem grid_buf (c : Dev nD) (n : ℕ) (hn : n < cfg0.N) (h0 : ¬ n % 4 = 0) (r : Fin 1040) (k : Fin 1024) :
    bufG (outsAt0 m c (n - 1) (Nat.lt_of_le_of_lt (Nat.sub_le _ _) hn)).2.2 (iblk m c 0 ⟨n, hn⟩) (iblk m c 3 ⟨n, hn⟩) (ix3 0 r k) = padT (kW m c) (kH m c (bN n)) (1024 * (n % 4) + r) k := by
  refine buf_at (pk m c ⟨n, hn⟩) _ _ (1024 * (n % 4)) (fun r hr k => (grid_rows m c (n - 1) _ (by omega) r hr k).trans ?_)
    (fun u i => blk0 m c ⟨n, hn⟩ u i) r k
  rw [bN_pred h0, show 1024 * ((n - 1) % 4) + 1024 = 1024 * (n % 4) by omega]
  rfl

/-- What a point leaves in the output's window. -/
theorem grid_y (c : Dev nD) (n : ℕ) (hn : n < cfg0.N) (u : Fin 1024) (i : Fin 1024) :
    (outsAt0 m c n hn).1 (ix3 0 u i) = poolT (kW m c) (kH m c (bN n)) (kP m c (bN n)) (1024 * (n % 4) + u) i := by
  by_cases h0 : n % 4 = 0
  · have e := congrFun (congrArg Prod.fst (outsAt0_A m c ⟨n, hn⟩ h0 (by simp only; omega))) (ix3 0 u i)
    refine e.trans ?_
    simp only [CaseA.out10_eq]
    rw [base]
    exact tile_y (pk m c ⟨n, hn⟩) _ _ _ (1024 * (n % 4)) (by omega)
      (fun r k => buf_at (pk m c ⟨n, hn⟩) _ _ (1024 * (n % 4)) (fun r hr k => by rw [h0]; exact hist_at _ (blk2 m c ⟨n, hn⟩) _ r hr k) (fun u i => blk0 m c ⟨n, hn⟩ u i) r k)
      (fun u i => blk0 m c ⟨n, hn⟩ u i) (fun u i => blk1 m c ⟨n, hn⟩ u i) u i
  · by_cases h3 : n % 4 = 3
    · have e := congrFun (congrArg Prod.fst (outsAt0_C m c ⟨n, hn⟩ h0 h3)) (ix3 0 u i)
      refine e.trans ?_
      simp only [CaseC.out10_eq]
      rw [baseB]
      exact tile_y (pk m c ⟨n, hn⟩) _ _ _ (1024 * (n % 4)) (by omega) (fun r k => grid_buf m c n hn h0 r k)
        (fun u i => blk0 m c ⟨n, hn⟩ u i) (fun u i => blk1 m c ⟨n, hn⟩ u i) u i
    · have e := congrFun (congrArg Prod.fst (outsAt0_B m c ⟨n, hn⟩ h0 h3)) (ix3 0 u i)
      refine e.trans ?_
      simp only [CaseB.out10_eq]
      rw [baseB]
      exact tile_y (pk m c ⟨n, hn⟩) _ _ _ (1024 * (n % 4)) (by omega) (fun r k => grid_buf m c n hn h0 r k)
        (fun u i => blk0 m c ⟨n, hn⟩ u i) (fun u i => blk1 m c ⟨n, hn⟩ u i) u i

/-- What a stream's last point leaves in the state's window. -/
theorem grid_state (c : Dev nD) (n : ℕ) (hn : n < cfg0.N) (h3 : n % 4 = 3) (j : Fin 15) (k : Fin 1024) :
    (outsAt0 m c n hn).2.1 (ix4 0 0 j k) = padT (kW m c) (kH m c (bN n)) (4097 + j) k := by
  have e := congrFun (congrArg (fun z => z.2.1) (outsAt0_C m c ⟨n, hn⟩ (by simp only; omega) h3)) (ix4 0 0 j k)
  refine e.trans ?_
  dsimp only
  rw [ix4_eq, CaseC.out11_eq]
  refine (grid_buf m c n hn (by omega) ⟨1025 + j, by omega⟩ k).trans ?_
  rw [h3]
  exact congrFun (congrArg (padT (kW m c) (kH m c (bN n))) (by simp only; omega)) k

theorem out_congr (W : PWts) (c : Dev nD) {b b' : Fin 4} {t t' : ℕ} {i i' : Fin 1024} (hb : b' = b) (ht : t' = t) (hi : i' = i) :
    poolT W (kH m c b) (kP m c b) t i = poolT W (kH m c b') (kP m c b') t' i' := by
  subst hb ht hi; rfl

theorem pad_congr (W : PWts) (c : Dev nD) {b b' : Fin 4} {t t' : ℕ} {i i' : Fin 1024} (hb : b' = b) (ht : t' = t) (hi : i' = i) :
    padT W (kH m c b) t i = padT W (kH m c b') t' i' := by
  subst hb ht hi; rfl

/-- The output array. -/
theorem final_y (c : Dev nD) : (dats m 0 c).arrAt 10 cfg0.N
    = fun i : S4x4096x1024.Idx => poolT (kW m c) (kH m c (i 0)) (kP m c (i 0)) (i 1).val (i 2) := by
  refine (dats m 0 c).arrAt_eq_of_covers 10 _ (by decide +kernel) fun t hf y => ?_
  have h16 := (idx t).2.2.2.2.2.2.2.2.2.2.2.2
  have y0 : (y 0 : ℕ) < 1 := (y 0).isLt
  have y1 : (y 1 : ℕ) < 1024 := (y 1).isLt
  have y2 : (y 2 : ℕ) < 1024 := (y 2).isLt
  have ey : y = (ix3 0 ⟨(y 1 : ℕ), y1⟩ ⟨(y 2 : ℕ), y2⟩ : S1x1024x1024.Idx) := by
    funext a; match a with
    | 0 => exact Fin.ext (by have := y0; show (y 0 : ℕ) = 0; omega)
    | 1 => rfl
    | 2 => rfl
  have key := grid_y m c t.val t.isLt ⟨(y 1 : ℕ), y1⟩ ⟨(y 2 : ℕ), y2⟩
  rw [← ey] at key
  refine (congrFun (after0_10 m c t) y).trans (key.trans ?_)
  refine out_congr m _ c (Fin.ext ?_) ?_ (Fin.ext ?_)
  · blk_simp [idx t]; simp only [bN]; omega
  · blk_simp [idx t]; dsimp only; omega
  · blk_simp [idx t]

theorem flush11 : ∀ t : Fin cfg0.N, (cfg0.win 11).flush t = true → t.val % 4 = 3 :=
  (by decide +kernel : ∀ t : Fin grid0.N, _)

/-- The state array. -/
theorem final_s (c : Dev nD) : (dats m 0 c).arrAt 11 cfg0.N
    = fun i : S1x4x15x1024.Idx => padT (kW m c) (kH m c (i 1)) (4097 + (i 2).val) (i 3) := by
  refine (dats m 0 c).arrAt_eq_of_covers 11 _ (by decide +kernel) fun t hf y => ?_
  have h16 := (idx t).2.2.2.2.2.2.2.2.2.2.2.2
  have y0 : (y 0 : ℕ) < 1 := (y 0).isLt
  have y1 : (y 1 : ℕ) < 1 := (y 1).isLt
  have y2 : (y 2 : ℕ) < 15 := (y 2).isLt
  have y3 : (y 3 : ℕ) < 1024 := (y 3).isLt
  have ey : y = (ix4 0 0 ⟨(y 2 : ℕ), y2⟩ ⟨(y 3 : ℕ), y3⟩ : S1x1x15x1024.Idx) := by
    funext a; match a with
    | 0 => exact Fin.ext (by have := y0; show (y 0 : ℕ) = 0; omega)
    | 1 => exact Fin.ext (by have := y1; show (y 1 : ℕ) = 0; omega)
    | 2 => rfl
    | 3 => rfl
  have key := grid_state m c t.val t.isLt (flush11 t hf) ⟨(y 2 : ℕ), y2⟩ ⟨(y 3 : ℕ), y3⟩
  rw [← ey] at key
  refine (congrFun (after0_11 m c t) y).trans (key.trans ?_)
  refine pad_congr m _ c (Fin.ext ?_) ?_ (Fin.ext ?_)
  · blk_simp [idx t]; simp only [bN]; omega
  · blk_simp [idx t]
  · blk_simp [idx t]

end Cert.Kernel2Ideal.Pool
-- ==== Proof.PoolReal.lean ====
/-
  What the pooling reference's running sums need of the reals: a normalised row is real when its gains are, and then a
  difference of two running sums is the sum over the window between them.
-/
module

public import proofs.«01_k».proof.Proof.PoolSpec

@[expose] public section

noncomputable section

namespace Cert.Pool

open Idealize.ShloMosaic Cert.Gla

theorem sq_nonneg' (x : EReal) : 0 ≤ x * x := by
  induction x with
  | bot => simp
  | top => simp
  | coe r => rw [← EReal.coe_mul]; exact_mod_cast mul_self_nonneg r

theorem sq_top {x : EReal} (h : ¬ ∃ r : ℝ, x = r) : x * x = ⊤ := by
  induction x with
  | bot => simp
  | top => simp
  | coe r => exact absurd ⟨r, rfl⟩ h

/-- The divisor of a row of 1024. -/
theorem bits_1024 : Ideal.ofBits .f32 0x44800000#32 = ((1024 : ℝ) : EReal) := by
  simp [Ideal.ofBits, Ideal.ieee, -EReal.coe_mul]
  norm_num

/-- The norm's offset is a positive real. -/
theorem bits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]
  norm_num

/-- A normalised row is real, whatever the row, when its gains are. -/
theorem rms_real {n : ℕ} (x w : Fin n → EReal) (j : Fin n) (hw : ∃ r : ℝ, w j = r) :
    ∃ r : ℝ, rms (Ideal.ofBits .f32 0x44800000#32) x w j = r := by
  obtain ⟨v, hv⟩ := hw
  obtain ⟨e, he, hb⟩ := bits_eps
  unfold rms
  rw [bits_1024, hb, hv, Ideal.div_coe (by norm_num)]
  have h0 : 0 ≤ ∑ i, x i * x i := Finset.sum_nonneg fun i _ => sq_nonneg' (x i)
  by_cases ht : ∑ i, x i * x i = ⊤
  · rw [ht, EReal.top_mul_coe_of_pos (by norm_num), EReal.top_add_coe, Ideal.rsqrt_top, mul_zero, zero_mul]
    exact ⟨0, rfl⟩
  · have hx : ∃ r : ℝ, x j = r := by
      by_contra hn
      refine ht (top_le_iff.mp ?_)
      rw [← sq_top hn]
      exact Finset.single_le_sum (f := fun i => x i * x i) (fun i _ => sq_nonneg' (x i)) (Finset.mem_univ j)
    obtain ⟨y, hy⟩ := hx
    have hs : ∃ s : ℝ, 0 ≤ s ∧ ∑ i, x i * x i = s := by
      generalize (∑ i, x i * x i) = S at h0 ht
      induction S with
      | bot => simp at h0
      | top => exact absurd rfl ht
      | coe s => exact ⟨s, by exact_mod_cast h0, rfl⟩
    obtain ⟨s, hs0, hs⟩ := hs
    have hp : 0 < s * (1 / 1024) + e := by positivity
    rw [hs, ← EReal.coe_mul, ← EReal.coe_add, Ideal.rsqrt_coe, if_neg (not_lt.mpr hp.le), if_neg hp.ne', hy, ← EReal.coe_mul, ← EReal.coe_mul]
    exact ⟨_, rfl⟩

/-- The zero rows and the normalised ones are real. -/
theorem padT_real (W : PWts) (hW : ∀ c, ∃ r : ℝ, W.nm c = r) (H : ℕ → Fin 1024 → EReal) (n : ℕ) (c : Fin 1024) : ∃ r : ℝ, padT W H n c = r := by
  unfold padT
  split_ifs
  · exact ⟨0, rfl⟩
  · exact rms_real _ _ _ (hW c)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem win_pos (g : Fin 4) : 0 < win g := by match g with | 0 => decide | 1 => decide | 2 => decide | 3 => decide

/-- The running sum of rows 1 to `m`. -/
def runT (f : ℕ → EReal) (m : ℕ) : EReal := ∑ n ∈ Finset.range m, f (n + 1)

/-- The difference of two running sums a window apart is the sum over the window. -/
theorem run_sub (f : ℕ → EReal) (hf : ∀ n, ∃ r : ℝ, f n = r) (g : Fin 4) (m : ℕ) (hm : win g ≤ m) :
    runT f m - runT f (m - win g) = sumT f g m := by
  choose r hr using hf
  unfold runT sumT
  simp only [hr]
  rw [← coe_sum, ← coe_sum, ← coe_sum, ← EReal.coe_sub]
  congr 1
  obtain ⟨a, rfl⟩ : ∃ a, m = a + win g := ⟨m - win g, by omega⟩
  rw [Nat.add_sub_cancel, Finset.sum_range_add, add_sub_cancel_left, ← Finset.sum_range_reflect, Finset.sum_range]
  exact Finset.sum_congr rfl fun k _ => congrArg r (by have := k.isLt; omega)

theorem cnt_pos (g : Fin 4) (t : ℕ) : (0 : ℝ) < ((min (win g) (t + 1) : ℕ) : ℝ) := by
  have := win_pos g
  exact_mod_cast (by omega : 0 < min (win g) (t + 1))

/-- Dividing by the count is multiplying by its inverse. -/
theorem div_cnt (x : EReal) (g : Fin 4) (t : ℕ) : Ideal.div x (cntT g t) = x * Ideal.div 1 (cntT g t) := by
  unfold cntT
  rw [Ideal.div_coe (cnt_pos g t).ne', Ideal.div_coe (cnt_pos g t).ne', one_mul]

end Cert.Pool
-- ==== Proof.PoolRef.lean ====
/-
  What the pooling reference computes, result by result, from its arguments: the normalised rows after fifteen zero rows,
  their running sums, the means over the four windows, and the rest of the layer.
-/
module

public import proofs.«01_k».proof.Proof.Gen.Reference2Ideal.Run
public import proofs.«01_k».proof.Proof.PoolReal
public import proofs.«01_k».proof.Proof.PoolAt
public import proofs.«01_k».proof.Proof.Scal
public import Idealize.ShloMosaic.Lib.StableHlo.ReadAt
public import Idealize.ShloMosaic.Lib.Pointwise

@[expose] public section

set_option maxRecDepth 16384
set_option maxHeartbeats 4000000

noncomputable section

namespace Cert.Reference2Ideal.Pool

open Cert.Reference2Ideal Cert.Reference2Ideal.Gen Cert.Reference2Ideal.Value Cert.Gla Cert.Pool Idealize.ShloMosaic Idealize.ShloMosaic.StableHlo Idealize.ShloMosaic.TcCoe Idealize.SL.Sem

variable (V : Valuation τ sig (Elt Ideal))

/-- The weights among the arguments. -/
def wV : PWts :=
  pwOf (V (Proc.devRef .tc main_arg2)) (V (Proc.devRef .tc main_arg3)) (V (Proc.devRef .tc main_arg4)) (V (Proc.devRef .tc main_arg5))
    (V (Proc.devRef .tc main_arg6)) (V (Proc.devRef .tc main_arg7)) (V (Proc.devRef .tc main_arg8)) (V (Proc.devRef .tc main_arg9))
    (V (Proc.devRef .tc main_arg10)) (V (Proc.devRef .tc main_arg11)) (V (Proc.devRef .tc main_arg12))

/-- Stream `b`'s input rows. -/
def hV (b : Fin 4) : ℕ → Fin 1024 → EReal := hOf (V (Proc.devRef .tc main_arg0)) b
/-- Stream `b`'s rows of the per-layer embedding. -/
def pV (b : Fin 4) : ℕ → Fin 256 → EReal := ppOf (V (Proc.devRef .tc main_arg1)) b

theorem hV_at (b : Fin 4) (t : Fin 4096) (c : Fin 1024) : (V (Proc.devRef .tc main_arg0) : FVec Ideal S4x4096x1024 .f32) (ix3 b t c) = hV V b t c := by
  unfold hV hOf
  exact congrArg (fun z => (V (Proc.devRef .tc main_arg0) : FVec Ideal S4x4096x1024 .f32) (ix3 b z c)) (Fin.ext (Nat.mod_eq_of_lt t.isLt).symm)

theorem pV_at (b : Fin 4) (t : Fin 4096) (c : Fin 256) : (V (Proc.devRef .tc main_arg1) : FVec Ideal S2x4x4096x256 .f32) (ix4 0 b t c) = pV V b t c := by
  unfold pV ppOf
  exact congrArg (fun z => (V (Proc.devRef .tc main_arg1) : FVec Ideal S2x4x4096x256 .f32) (ix4 0 b z c)) (Fin.ext (Nat.mod_eq_of_lt t.isLt).symm)

/-- Row `n` of the rows with fifteen zero rows first. -/
theorem full_at (b : Fin 4) (n : Fin 4111) (c : Fin 1024) :
    (res_main_v19 V : FVec Ideal S4x4111x1024 .f32) (ix3 b n c) = padT (wV V) (hV V b) (n + 1) c := by
  unfold padT rms
  by_cases h : (n : ℕ) < 15
  · rw [if_pos (by omega)]
    pointwise [res_main_v19]
    exact dif_pos h
  · have e : ∀ j, hV V b ((n : ℕ) + 1 - 16) j = (V (Proc.devRef .tc main_arg0) : FVec Ideal S4x4096x1024 .f32) (ix3 b ⟨(n : ℕ) - 15, by omega⟩ j) := fun j => by
      rw [show (n : ℕ) + 1 - 16 = (n : ℕ) - 15 by omega]
      exact (hV_at V b ⟨(n : ℕ) - 15, by omega⟩ j).symm
    rw [if_neg (by omega)]
    simp only [e]
    pointwise [res_main_v19]
    exact (dif_neg h).trans rfl

theorem state_at (b : Fin 4) (z : Fin 1) (j : Fin 15) (c : Fin 1024) :
    (broadcastInDim S1x4x15x1024 ![1, 2, 3] bcast_S4x15x1024_S1x4x15x1024_1_2_3 (extractStridedSlice S4x15x1024 ![0, 4096, 0] (res_main_v19 V) slices_S4x4111x1024_S4x15x1024_0_4096_0) : FVec Ideal S1x4x15x1024 .f32) (ix4 z b j c)
      = padT (wV V) (hV V b) (4097 + j) c := by
  refine Eq.trans ?_ ((full_at V b ⟨4096 + j, by omega⟩ c).trans (by rw [show 4096 + (j : ℕ) + 1 = 4097 + j by omega]))
  pointwise

/-- A left fold of sums over the positions is the sum. -/
theorem fold_sum (N : ℕ) (g : Fin N → EReal) : (List.finRange N).foldl (fun r n => r + g n) 0 = ∑ n, g n := by
  rw [Fin.sum_univ_def, List.sum_eq_foldl, List.foldl_map]

/-- A window of 1 × N + 1 × 1 has the positions of its second axis. -/
theorem sum_window (N : ℕ) (g : (⟨3, ![1, N + 1, 1]⟩ : Shape).Idx → EReal) : ∑ p, g p = ∑ s : Fin (N + 1), g (ix3 0 s 0) := by
  symm
  refine Fintype.sum_bijective (fun s : Fin (N + 1) => (ix3 0 s 0 : (⟨3, ![1, N + 1, 1]⟩ : Shape).Idx)) ⟨fun a b e => congrFun e 1, fun p => ⟨p 1, ?_⟩⟩ _ _ (fun _ => rfl)
  funext a
  match a with
  | 0 => exact Fin.ext (by have : (p 0 : ℕ) < 1 := (p 0).isLt; show 0 = (p 0 : ℕ); omega)
  | 1 => rfl
  | 2 => exact Fin.ext (by have : (p 2 : ℕ) < 1 := (p 2).isLt; show 0 = (p 2 : ℕ); omega)

/-- The host's running sum along the second axis. -/
theorem cumsum_at (B N : ℕ) (x : FVec Ideal (⟨3, ![B, N + 1, 1024]⟩ : Shape) .f32) (init : FVec Ideal S_ .f32) (hi : init (Shape.Idx.first h_S_) = (0 : EReal))
    (h : (⟨3, ![B, N + 1, 1024]⟩ : Shape).ReduceWindows ![1, N + 1, 1] ![1, 1, 1] ![0, N, 0] ![0, 0, 0] (⟨3, ![B, N + 1, 1024]⟩ : Shape)) (b : Fin B) (i : Fin (N + 1)) (k : Fin 1024) :
    Host.reduceWindowAdd ![1, N + 1, 1] ![1, 1, 1] ![0, N, 0] ![0, 0, 0] x init h h_S_ (ix3 b i k)
      = ∑ s : Fin (N + 1), if (s : ℕ) ≤ i then x (ix3 b s k) else 0 := by
  change (List.finRange _).foldl _ (init (Shape.Idx.first h_S_)) = _
  rw [hi]
  refine (fold_sum _ _).trans ?_
  refine (Equiv.sum_comp (⟨3, ![1, N + 1, 1]⟩ : Shape).rowMajor.symm (fun p => @dite EReal (∀ a : Fin 3, (![0, N, 0] : Fin 3 → ℕ) a ≤ ((ix3 b i k : (⟨3, ![B, N + 1, 1024]⟩ : Shape).Idx) a : ℕ) * (![1, 1, 1] : Fin 3 → ℕ) a + (p a : ℕ)
      ∧ ((ix3 b i k : (⟨3, ![B, N + 1, 1024]⟩ : Shape).Idx) a : ℕ) * (![1, 1, 1] : Fin 3 → ℕ) a + (p a : ℕ) - (![0, N, 0] : Fin 3 → ℕ) a < (⟨3, ![B, N + 1, 1024]⟩ : Shape).size a) (Nat.decidableForallFin _) (fun hin => x (fun a => ⟨_, (hin a).2⟩)) (fun _ => 0))).trans ?_
  rw [sum_window N]
  refine Fintype.sum_equiv (Equiv.addRight (⟨((i : ℕ) + 1) % (N + 1), Nat.mod_lt _ (Nat.succ_pos N)⟩ : Fin (N + 1))) _ _ fun s => ?_
  have e : ((Equiv.addRight (⟨((i : ℕ) + 1) % (N + 1), Nat.mod_lt _ (Nat.succ_pos N)⟩ : Fin (N + 1)) s : Fin (N + 1)) : ℕ) = (s + (i + 1)) % (N + 1) := by
    simp [Fin.val_add]
  have hs := s.isLt
  have hi' := i.isLt
  rw [e]
  by_cases hc : N ≤ (i : ℕ) + s
  · have hm : ((s : ℕ) + (i + 1)) % (N + 1) = i + s - N := by
      rw [Nat.mod_eq_sub_mod (by omega), Nat.mod_eq_of_lt (by omega)]; omega
    rw [if_pos (by omega), dif_pos]
    · refine congrArg x (funext fun a => ?_)
      match a with
      | 0 => exact Fin.ext (by show (b : ℕ) * 1 + 0 - 0 = b; omega)
      | 1 => exact Fin.ext (by rw [show ((ix3 b (Equiv.addRight (⟨((i : ℕ) + 1) % (N + 1), Nat.mod_lt _ (Nat.succ_pos N)⟩ : Fin (N + 1)) s) k : (⟨3, ![B, N + 1, 1024]⟩ : Shape).Idx) 1 : ℕ) = (s + (i + 1)) % (N + 1) from e]; show (i : ℕ) * 1 + s - N = _; omega)
      | 2 => exact Fin.ext (by show (k : ℕ) * 1 + 0 - 0 = k; omega)
    · intro a
      match a with
      | 0 => exact ⟨Nat.zero_le _, by show (b : ℕ) * 1 + 0 - 0 < B; omega⟩
      | 1 => exact ⟨by show N ≤ (i : ℕ) * 1 + s; omega, by show (i : ℕ) * 1 + s - N < N + 1; omega⟩
      | 2 => exact ⟨Nat.zero_le _, by show (k : ℕ) * 1 + 0 - 0 < 1024; omega⟩
  · have hm : ((s : ℕ) + (i + 1)) % (N + 1) = s + (i + 1) := Nat.mod_eq_of_lt (by omega)
    rw [if_neg (by omega), dif_neg]
    intro hin
    have := (hin 1).1
    change N ≤ (i : ℕ) * 1 + (s : ℕ) at this
    omega

/-- A sum over the first positions only. -/
theorem sum_le (N m : ℕ) (h0 : 0 < m) (hm : m ≤ N) (f : ℕ → EReal) : (∑ s : Fin N, if (s : ℕ) ≤ m - 1 then f s else 0) = ∑ n ∈ Finset.range m, f n := by
  rw [Fin.sum_univ_eq_sum_range (fun s => if s ≤ m - 1 then f s else 0) N, ← Finset.sum_filter]
  refine Finset.sum_congr (Finset.ext fun a => ?_) fun _ _ => rfl
  rw [Finset.mem_filter, Finset.mem_range, Finset.mem_range]
  omega

/-- The rows with fifteen zero rows first. -/
def fullV : S4x4111x1024.Idx → EReal := res_main_v19 V

/-- Row `m` of the running sums, a zero row first. -/
theorem run_at (b : Fin 4) (m : Fin 4112) (c : Fin 1024) :
    (res_main_v22 V : FVec Ideal S4x4112x1024 .f32) (ix3 b m c) = runT (fun n => padT (wV V) (hV V b) n c) m := by
  by_cases h : (m : ℕ) < 1
  · have e : runT (fun n => padT (wV V) (hV V b) n c) m = 0 := by
      rw [show (m : ℕ) = 0 by omega]; exact Finset.sum_range_zero _
    rw [e]
    pointwise [res_main_v22]
    exact dif_pos h
  · have e : runT (fun n => padT (wV V) (hV V b) n c) m = ∑ s : Fin (4110 + 1), if (s : ℕ) ≤ (m : ℕ) - 1 then fullV V (ix3 b s c) else 0 := by
      unfold runT
      have ef : ∀ s : Fin (4110 + 1), fullV V (ix3 b s c) = padT (wV V) (hV V b) (s + 1) c := fun s => full_at V b s c
      simp only [ef]
      exact (sum_le (4110 + 1) m (by omega) (by omega) (fun n => padT (wV V) (hV V b) (n + 1) c)).symm
    rw [e, ← cumsum_at 4 4110 (fullV V) (broadcastInDim S_ ![] bcast_S_S_ (constant S_ .f32 0x00000000#32)) (by pointwise) reduceWindows_S4x4111x1024_S4x4111x1024_w1s1p0_0_w4111s1p4110_0_w1s1p0_0 b ⟨(m : ℕ) - 1, by omega⟩ c]
    unfold fullV res_main_v22
    generalize Host.reduceWindowAdd ![1, 4111, 1] ![1, 1, 1] ![0, 4110, 0] ![0, 0, 0] (res_main_v19 V) _ _ _ = R
    pointwise
    exact dif_neg h

/-- The running sums, a zero row first. -/
def sumsV : S4x4112x1024.Idx → EReal := res_main_v22 V

/-- Window `g`'s mean less the row itself, over the layer's rows, given its count `C`. -/
def meanV (g : Fin 4) (b : Fin 4) (t : Fin 4096) (c : Fin 1024) : EReal :=
  Ideal.div (runT (fun n => padT (wV V) (hV V b) n c) (16 + t) - runT (fun n => padT (wV V) (hV V b) n c) (16 - win g + t))
    (cntT g t) - padT (wV V) (hV V b) (15 + t + 1) c

/-- The rows a window holds, as the program counts them. -/
theorem cnt_at (w : ℕ) (hw : w < 2 ^ 31) (t : Fin 4096) :
    (FloatOps.sitofp .f32 (IntOp.minsi (BitVec.ofNat 32 w) (IntOp.addi ((res_main_v25 V : IVec S4096 32) (ix1 t)) 1#32)) : Ideal .f32)
      = (((min w ((t : ℕ) + 1) : ℕ) : ℝ) : EReal) := by
  have e : IntOp.addi ((res_main_v25 V : IVec S4096 32) (ix1 t)) 1#32 = BitVec.ofNat 32 ((t : ℕ) + 1) := by
    pointwise [res_main_v25]
    show 0#32 + BitVec.ofNat 32 (t : ℕ) + 1#32 = _
    rw [BitVec.zero_add, BitVec.ofNat_add]
  rw [e, Cert.Kernel2Ideal.Pool.word_min _ _ hw (by omega)]
  have e2 : (BitVec.ofNat 32 (min w ((t : ℕ) + 1))).toInt = (min w ((t : ℕ) + 1) : ℕ) := WordCmp.toInt_ofNat_of_lt (by omega)
  show (((BitVec.ofNat 32 (min w ((t : ℕ) + 1))).toInt : ℝ) : EReal) = _
  rw [e2]
  rfl

theorem mean_of (g : Fin 4) (b : Fin 4) (t : Fin 4096) (c : Fin 1024) (w : BitVec 32) (hw : w = BitVec.ofNat 32 (win g)) (k : Fin 4112) (hk : (k : ℕ) = 16 - win g + t) :
    Ideal.div (sumsV V (ix3 b ⟨16 + t, by omega⟩ c) - sumsV V (ix3 b k c))
        (FloatOps.sitofp (F := Ideal) .f32 (IntOp.minsi w (IntOp.addi ((res_main_v25 V : IVec S4096 32) (ix1 t)) 1#32)))
        - fullV V (ix3 b ⟨15 + t, by omega⟩ c)
      = meanV V g b t c := by
  have hb : win g < 2 ^ 31 := by match g with | 0 => decide | 1 => decide | 2 => decide | 3 => decide
  unfold meanV
  rw [← hk, hw]
  exact congrArg₂ (fun x y : EReal => x - y) (congrArg₂ Ideal.div (congrArg₂ (fun x y : EReal => x - y) (run_at V b _ c) (run_at V b k c)) (cnt_at V _ hb t)) (full_at V b _ c)

theorem mix_at (b : Fin 4) (t : Fin 4096) (c : Fin 1024) :
    (res_main_v91 V : FVec Ideal S4x4096x1024 .f32) (ix3 b t c)
      = ((∑ i : Fin 256, meanV V ⟨c / 256, by omega⟩ b t ⟨256 * ((c : ℕ) / 256) + i, by omega⟩ * (wV V).wp ⟨c / 256, by omega⟩ i ⟨c % 256, by omega⟩) + (wV V).bp c) * (wV V).sc c := by
  pointwise [res_main_v91]
  refine congrArg (fun z : EReal => (z + (wV V).bp c) * (wV V).sc c) (Finset.sum_congr rfl fun x _ => ?_)
  refine (mul_comm (G := EReal) _ _).trans (congrArg (fun z : EReal => z * (wV V).wp ⟨c / 256, by omega⟩ x ⟨c % 256, by omega⟩) ?_)
  have hq : (c : ℕ) / 256 < 4 := by omega
  have key : ∀ (g : Fin 4) (j : Fin 1024), (c : ℕ) / 256 = g → (j : ℕ) = 256 * (g : ℕ) + x →
      meanV V g b t j = meanV V ⟨c / 256, by omega⟩ b t ⟨256 * ((c : ℕ) / 256) + x, by omega⟩ := fun g j hg hj => by
    rw [show g = ⟨(c : ℕ) / 256, hq⟩ from Fin.ext hg.symm, show j = ⟨256 * ((c : ℕ) / 256) + x, by omega⟩ from Fin.ext (by show (j : ℕ) = 256 * ((c : ℕ) / 256) + x; omega)]
  by_cases h0 : (c : ℕ) / 256 < 1
  · refine (dif_pos h0).trans ?_
    exact (mean_of V 0 b t ⟨x, by omega⟩ 2#32 rfl ⟨14 + t, by omega⟩ rfl).trans
      (key 0 _ (by show (c : ℕ) / 256 = 0; omega) (by show (((x : ℕ) : ℕ)) = 256 * 0 + x; omega))
  refine (dif_neg h0).trans ?_
  by_cases h1 : (c : ℕ) / 256 - 1 < 1
  · refine (dif_pos h1).trans ?_
    exact (mean_of V 1 b t ⟨256 + x, by omega⟩ 4#32 rfl ⟨12 + t, by omega⟩ rfl).trans
      (key 1 _ (by show (c : ℕ) / 256 = 1; omega) (by show ((256 + (x : ℕ) : ℕ)) = 256 * 1 + x; omega))
  refine (dif_neg h1).trans ?_
  by_cases h2 : (c : ℕ) / 256 - 1 - 1 < 1
  · refine (dif_pos h2).trans ?_
    exact (mean_of V 2 b t ⟨512 + x, by omega⟩ 8#32 rfl ⟨8 + t, by omega⟩ rfl).trans
      (key 2 _ (by show (c : ℕ) / 256 = 2; omega) (by show ((512 + (x : ℕ) : ℕ)) = 256 * 2 + x; omega))
  refine (dif_neg h2).trans ?_
  exact (mean_of V 3 b t ⟨768 + x, by omega⟩ 16#32 rfl ⟨t, by omega⟩ (by show (t : ℕ) = 16 - 16 + t; omega)).trans
    (key 3 _ (by show (c : ℕ) / 256 = 3; omega) (by show ((768 + (x : ℕ) : ℕ)) = 256 * 3 + x; omega))

theorem h2_at (b : Fin 4) (t : Fin 4096) (c : Fin 1024) (hW : ∀ c, ∃ r : ℝ, (wV V).nm c = r) :
    (res_main_v93 V : FVec Ideal S4x4096x1024 .f32) (ix3 b t c) = h2T (wV V) (hV V b) t c := by
  have hm : ∀ (g : Fin 4) (j : Fin 1024), meanV V g b t j = devT (wV V) (hV V b) g t j := fun g j => by
    have hw : win g ≤ 16 := by match g with | 0 => decide | 1 => decide | 2 => decide | 3 => decide
    unfold meanV devT
    rw [div_cnt, show 16 - win g + (t : ℕ) = 16 + t - win g by omega, run_sub _ (fun n => padT_real _ hW _ n j) g (16 + t) (by omega),
      Nat.add_comm 16 (t : ℕ), show 15 + (t : ℕ) + 1 = t + 16 by omega]
  have e := mix_at V b t c
  simp only [hm] at e
  exact congrArg₂ (fun x y : EReal => x + y) (hV_at V b t c) e

theorem n_at (b : Fin 4) (t : Fin 4096) (c : Fin 1024) (X : Fin 1024 → EReal)
    (hX : ∀ j, (res_main_v93 V : FVec Ideal S4x4096x1024 .f32) (ix3 b t j) = X j) :
    (res_main_v108 V : FVec Ideal S4x4096x1024 .f32) (ix3 b t c) = rms (Ideal.ofBits .f32 0x44800000#32) X (wV V).nf c := by
  unfold rms wV pwOf
  simp only [← hX]
  pointwise [res_main_v108]

theorem g_at (b : Fin 4) (t : Fin 4096) (c : Fin 2816) (X : Fin 1024 → EReal)
    (hX : ∀ j, (res_main_v93 V : FVec Ideal S4x4096x1024 .f32) (ix3 b t j) = X j) :
    (res_main_v111 V : FVec Ideal S4x4096x2816 .f32) (ix3 b t c) = ∑ i, rms (Ideal.ofBits .f32 0x44800000#32) X (wV V).nf i * (wV V).wg i c := by
  simp only [← n_at V b t _ X hX]
  unfold wV pwOf
  pointwise [res_main_v111]

theorem h3_at (b : Fin 4) (t : Fin 4096) (c : Fin 1024) (X : Fin 1024 → EReal)
    (hX : ∀ j, (res_main_v93 V : FVec Ideal S4x4096x1024 .f32) (ix3 b t j) = X j) :
    (res_main_v120 V : FVec Ideal S4x4096x1024 .f32) (ix3 b t c) = ph3R (wV V) X c := by
  unfold ph3R pffR silu
  simp only [← g_at V b t _ X hX]
  simp only [← n_at V b t _ X hX]
  rw [← hX]
  unfold wV pwOf
  pointwise [res_main_v120]
  rfl

/-- The result. -/
def outV : FVec Ideal S4x4096x1024 .f32 := val3 V (Proc.devRef .tc main_v151)

theorem y_at (b : Fin 4) (t : Fin 4096) (c : Fin 1024) (X : Fin 1024 → EReal)
    (hX : ∀ j, (res_main_v120 V : FVec Ideal S4x4096x1024 .f32) (ix3 b t j) = X j) :
    outV V (ix3 b t c) = ph4R (wV V) X (pV V b t) c := by
  unfold ph4R rms
  simp only [← hX, ← pV_at]
  unfold wV pwOf
  unfold outV
  rw [val3_main_v151]
  pointwise
  rfl

/-- The reference's result row. -/
theorem ref_y (hW : ∀ c, ∃ r : ℝ, (wV V).nm c = r) (b : Fin 4) (t : Fin 4096) (c : Fin 1024) :
    outV V (ix3 b t c) = poolT (wV V) (hV V b) (pV V b) t c :=
  y_at V b t c _ fun j => h3_at V b t j _ fun j => h2_at V b t j hW

end Cert.Reference2Ideal.Pool
-- ==== Proof.PoolClaim.lean ====
/-
  The pooling layer's claim: the kernel's results `Cert.Kernel2Ideal.Pool.final_y` and `final_s` and the reference's
  `Cert.Reference2Ideal.Pool.ref_y` and `state_at` are the same functions of the arguments (`Cert.Pool.poolT` and `padT`)
  when the first layer's gains are finite.
-/
module

public import proofs.«01_k».proof.Defs
public import proofs.«01_k».proof.Proof.Gen.Pre_gains_finite
public import proofs.«01_k».proof.Proof.PoolGrid
public import proofs.«01_k».proof.Proof.PoolRef
public import Idealize.ShloMosaic.Adequacy
public import Idealize.ShloMosaic.Init

@[expose] public section

noncomputable section

set_option maxRecDepth 16384
set_option maxHeartbeats 4000000

namespace Cert.Pool.Proof

open Idealize.ShloMosaic Idealize.ShloMosaic.StableHlo Idealize.ShloMosaic.TcCoe Idealize.SL.Sem

/-- The bound's bits are infinity. -/
theorem bits_inf : Ideal.ofBits .f32 0x7F800000#32 = (⊤ : EReal) := by
  simp [Ideal.ofBits, Ideal.ieee]

/-- An extended real below infinity in magnitude is real. -/
theorem real_of_abs (x : EReal) (h : BitVec.ofBool (decide (max x (-x) < Ideal.ofBits .f32 0x7F800000#32)) = 1#1) : ∃ r : ℝ, x = r := by
  rw [bits_inf] at h
  induction x with
  | bot => simp at h
  | top => simp at h
  | coe r => exact ⟨r, rfl⟩

/-- The precondition says that the first layer's gains are real. -/
theorem gains_real (m : (ℓ : Loc Cert.Kernel2Ideal.nD Cert.Kernel2Ideal.τ Cert.Kernel2Ideal.sig) → Buf (Elt Ideal) ℓ)
    (h : Cert.Pre_Kernel2Ideal_gains_finite m) (c : Dev Cert.Kernel2Ideal.nD) (j : Fin 1024) : ∃ r : ℝ, (Cert.Kernel2Ideal.Pool.kW m c).nm j = r := by
  have e := congrFun (h c) (ix1 j)
  revert e
  pointwise [Cert.Pre_gains_finite.fn]
  exact fun e => real_of_abs _ e

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)
  (c : Dev Cert.Kernel2Ideal.nD)

/-- Equal argument buffers give the same weights and rows. -/
theorem same_args
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (h9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
    (h10 : m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10))
    (h11 : m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11))
    (h12 : m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) :
    Cert.Reference2Ideal.Pool.wV (launchContents m' c) = Cert.Kernel2Ideal.Pool.kW m c
      ∧ (∀ b, Cert.Reference2Ideal.Pool.hV (launchContents m' c) b = Cert.Kernel2Ideal.Pool.kH m c b)
      ∧ ∀ b, Cert.Reference2Ideal.Pool.pV (launchContents m' c) b = Cert.Kernel2Ideal.Pool.kP m c b := by
  refine ⟨?_, fun b => congrArg (fun a => Cert.Gla.hOf a b) h0, fun b => congrArg (fun a => Cert.Pool.ppOf a b) h1⟩
  show Cert.Pool.pwOf (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) = _
  rw [h2, h3, h4, h5, h6, h7, h8, h9, h10, h11, h12]
  rfl

/-- The kernel and the reference end with equal results. -/
theorem same_results : Cert.algebraic_Kernel2Ideal_Reference2Ideal_pre_gains_finite := by
  intro m g m' g' pre agree
  refine ⟨_, _, Cert.Kernel2Ideal.Value.run_blocks m g, ?_⟩
  refine (θ_run _ _ _).mono (fun r h c => ?_) (Cert.Reference2Ideal.Value.run m' g')
  obtain ⟨h0, h1, h2, h3, h4, h5, h6, h7, h8, h9, h10, h11, h12⟩ := agree c
  obtain ⟨ew, eh, ep⟩ := same_args m m' c h0 h1 h2 h3 h4 h5 h6 h7 h8 h9 h10 h11 h12
  have hW : ∀ j, ∃ r : ℝ, (Cert.Reference2Ideal.Pool.wV (launchContents m' c)).nm j = r := fun j => by
    rw [ew]; exact gains_real m pre c j
  have same_y : ∀ (b : Fin 4) (t : Fin 4096) (j : Fin 1024),
      Cert.Pool.poolT (Cert.Reference2Ideal.Pool.wV (launchContents m' c)) (Cert.Reference2Ideal.Pool.hV (launchContents m' c) b)
          (Cert.Reference2Ideal.Pool.pV (launchContents m' c) b) t j
        = Cert.Pool.poolT (Cert.Kernel2Ideal.Pool.kW m c) (Cert.Kernel2Ideal.Pool.kH m c b) (Cert.Kernel2Ideal.Pool.kP m c b) t j := fun b t j => by
    rw [ew, eh, ep]
  have same_s : ∀ (b : Fin 4) (n : ℕ) (j : Fin 1024),
      Cert.Pool.padT (Cert.Reference2Ideal.Pool.wV (launchContents m' c)) (Cert.Reference2Ideal.Pool.hV (launchContents m' c) b) n j
        = Cert.Pool.padT (Cert.Kernel2Ideal.Pool.kW m c) (Cert.Kernel2Ideal.Pool.kH m c b) n j := fun b n j => by
    rw [ew, eh]
  refine ⟨(h c).1.trans ?_, (h c).2.1.trans ?_, (h c).2.2⟩
  · rw [← Cert.Reference2Ideal.Value.val3_main_v151]
    refine Eq.trans (funext fun i => ?_) (Cert.Kernel2Ideal.Pool.final_y m c).symm
    rw [show i = ix3 (i 0) (i 1) (i 2) from eq_ix3 i]
    refine (Cert.Reference2Ideal.Pool.ref_y (launchContents m' c) hW (i 0) (i 1) (i 2)).trans ?_
    exact same_y (i 0) (i 1) (i 2)
  · refine Eq.trans (funext fun i => ?_) (Cert.Kernel2Ideal.Pool.final_s m c).symm
    rw [show i = ix4 (i 0) (i 1) (i 2) (i 3) from eq_ix4 i]
    refine (Cert.Reference2Ideal.Pool.state_at (launchContents m' c) (i 1) (i 0) (i 2) (i 3)).trans ?_
    exact same_s (i 1) _ (i 3)

/-- The reference runs and leaves its arguments and counters as they were. -/
theorem frame_ref : Cert.quiescent_Reference2Ideal := fun m g _ =>
  (θ_run _ _ _).mono (fun r h => ⟨fun c => (h c).2.2, sem_eq_zero_of_no_sems (by decide) r.2⟩) (Cert.Reference2Ideal.Value.run m g)

end Cert.Pool.Proof

end
-- ==== Proof.SampVec.lean ====
/-
  The sample pooling call's body as named array functions of its input blocks: sixteen streams of sixteen rows, one set of
  functions for any stream and any of the four windows. `SampWords.lean` shows the run's words are these; after the mixer
  the words are those of the prompt call's quarters.
-/
module

public import proofs.«01_k».proof.Proof.PoolVec
public import proofs.«01_k».proof.Proof.Gen.Kernel3Ideal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Kernel3Ideal.Samp

open Cert.Kernel3Ideal Cert.Kernel3Ideal.Gen Idealize.ShloMosaic Idealize.ShloMosaic.TcCoe Idealize.SL.Sem
open Cert.Kernel2Ideal.Pool (nmV bpV scV wpV mixV h3V pleV winW)

variable {F : FTy → Type} [FloatOps F]

/-- The row buffer: for each stream a zero row, the fifteen rows of the history, the sixteen normalised rows. -/
def bufV (x0 : Vec F S16x16x1024 .f32) (x2 : Vec F S1x16x15x1024 .f32) (x3 : Vec F S1x8x1024 .f32) : Vec F S16x32x1024 .f32 :=
  fun y => if h : 16 ≤ (y 1 : ℕ) then k0_pay7 x0 (nmV x3) (ValueIdx.ix3 (y 0) ⟨(y 1 : ℕ) - 16, by have : (y 1 : ℕ) < 32 := (y 1).isLt; omega⟩ (y 2))
    else if h' : 1 ≤ (y 1 : ℕ) then k0_pay5 x2 (ValueIdx.ix3 (y 0) ⟨(y 1 : ℕ) - 1, by omega⟩ (y 2)) else Scalar.ofBits .f32 0x00000000#32

/-- A stream's rows, a window's 256 columns. -/
def extV (B : Vec F S16x32x1024 .f32) (g : Fin 4) (b : Fin 16) : Vec F S1x32x256 .f32 :=
  fun j => B (ValueIdx.ix3 b (j 1) ⟨256 * g + (j 2 : ℕ), by have : (j 2 : ℕ) < 256 := (j 2).isLt; omega⟩)

/-- One over the number of rows that a window holds at each row. -/
def invV (i : grid0.Coords) (g : Fin 4) : FVec F S16x1 .f32 :=
  divf (broadcast S16x1 (Scalar.ofBits .f32 0x3F800000#32)) (sitofp .f32 (minsi (broadcast S16x1 (winW g)) (addi (k0_pay8 i) (broadcast S16x1 1#32))))

/-- The rows plus the rows `k` before them, around the end. -/
def twiceV (k : BitVec 32) (v : FVec F S32x256 .f32) : FVec F S32x256 .f32 :=
  addf v (dynamicRotate 0 k none v rotates_S32x256_d0)

/-- The sums over a window, by doubling. -/
def sumV (v : FVec F S32x256 .f32) : Fin 4 → FVec F S32x256 .f32
  | 0 => twiceV 1#32 v
  | 1 => twiceV 2#32 (twiceV 1#32 v)
  | 2 => twiceV 4#32 (twiceV 2#32 (twiceV 1#32 v))
  | 3 => twiceV 8#32 (twiceV 4#32 (twiceV 2#32 (twiceV 1#32 v)))

/-- A stream's window means less the rows themselves. -/
def devV (i : grid0.Coords) (g : Fin 4) (e : Vec F S1x32x256 .f32) : FVec F S16x256 .bf16 :=
  shapeCast S16x256 (truncf .bf16 (subf
    (mulf (extractStridedSlice S16x256 ![16, 0] (sumV (shapeCast S32x256 e shapeCasts_S1x32x256_S32x256) g) slices_S32x256_o16_0_S16x256) (broadcastTo S16x256 (invV i g) broadcasts_S16x1_S16x256))
    (extractStridedSlice S16x256 ![16, 0] (shapeCast S32x256 e shapeCasts_S1x32x256_S32x256) slices_S32x256_o16_0_S16x256)) bitsLt_bf16_f32) shapeCasts_S16x256_S16x256

/-- All the streams' window means less the rows, one window's columns. -/
def dV (i : grid0.Coords) (B : Vec F S16x32x1024 .f32) (g : Fin 4) : FVec F S256x256 .bf16 :=
  fun j => devV i g (extV B g ⟨(j 0 : ℕ) / 16, by have : (j 0 : ℕ) < 256 := (j 0).isLt; omega⟩) (ValueIdx.ix2 ⟨(j 0 : ℕ) % 16, by omega⟩ (j 1))

/-- The rows after the mixer. -/
def h2V (i : grid0.Coords) (B : Vec F S16x32x1024 .f32) (x0 : Vec F S16x16x1024 .f32) (x3 : Vec F S1x8x1024 .f32) (x4 : Vec F S1x4x256x256 .bf16) : FVec F S256x1024 .f32 :=
  addf (shapeCast S256x1024 x0 shapeCasts_S16x16x1024_S256x1024) (mulf (addf
    (concatenate S256x1024 1 [⟨S256x256, mixV x4 0 (dV i B 0)⟩, ⟨S256x256, mixV x4 1 (dV i B 1)⟩, ⟨S256x256, mixV x4 2 (dV i B 2)⟩, ⟨S256x256, mixV x4 3 (dV i B 3)⟩] concatenates_S256x256_S256x256_S256x256_S256x256_S256x1024_d1)
    (broadcastTo S256x1024 (shapeCast S1x1024 (bpV x3) shapeCasts_S1x1x1024_S1x1024) broadcasts_S1x1024_S256x1024))
    (broadcastTo S256x1024 (shapeCast S1x1024 (scV x3) shapeCasts_S1x1x1024_S1x1024) broadcasts_S1x1024_S256x1024))

/-- The rows with the gated embedding added. -/
def h4V (x1 : Vec F S1x16x16x256 .f32) (x3 : Vec F S1x8x1024 .f32) (x8 : Vec F S1x1024x1024 .bf16) (x9 : Vec F S1x256x1024 .bf16) (h3 : FVec F S256x1024 .f32) : FVec F S256x1024 .f32 :=
  addf h3 (mulf (pleV x3 x8 h3) (matmul dot_S256x256_S256x1024_S256x1024_1_0_0_1_n_n none (truncf .bf16 (shapeCast S256x256 (shapeCast S16x16x256 x1 shapeCasts_S1x16x16x256_S16x16x256) shapeCasts_S16x16x256_S256x256) bitsLt_bf16_f32) (shapeCast S256x1024 (View.ld x9 (Rect.unit ![0, 0, 0] S1x256x1024.size inb_S1x256x1024_S1x256x1024_0_0_0)) shapeCasts_S1x256x1024_S256x1024) (constant S256x1024 .f32 0x00000000#32)))

/-- The result rows. -/
def yV (i : grid0.Coords) (B : Vec F S16x32x1024 .f32) (x0 : Vec F S16x16x1024 .f32) (x1 : Vec F S1x16x16x256 .f32) (x3 : Vec F S1x8x1024 .f32) (x4 : Vec F S1x4x256x256 .bf16) (x5 x6 : Vec F S1x1024x2816 .bf16) (x7 : Vec F S1x2816x1024 .bf16) (x8 : Vec F S1x1024x1024 .bf16) (x9 : Vec F S1x256x1024 .bf16) : FVec F S16x16x1024 .f32 :=
  shapeCast S16x16x1024 (h4V x1 x3 x8 x9 (h3V x3 x5 x6 x7 (h2V i B x0 x3 x4))) shapeCasts_S256x1024_S16x16x1024

/-- The state: each stream's last fifteen rows of the buffer. -/
def stateV (B : Vec F S16x32x1024 .f32) : Vec F S16x15x1024 .f32 :=
  fun j => B (ValueIdx.ix3 (j 0) ⟨17 + (j 1 : ℕ), by have : (j 1 : ℕ) < 15 := (j 1).isLt; omega⟩ (j 2))

/-- The three stores of the row buffer leave `bufV`. -/
theorem buf_canon (x0 : Vec F S16x16x1024 .f32) (x2 : Vec F S1x16x15x1024 .f32) (x3 : Vec F S1x8x1024 .f32)
    (ip : ∀ a, (![0, 16, 0] : Fin 3 → ℕ) a + S16x16x1024.size a ≤ S16x32x1024.size a)
    (ih : ∀ a, (![0, 1, 0] : Fin 3 → ℕ) a + S16x15x1024.size a ≤ S16x32x1024.size a)
    (iz : ∀ a, (![0, 0, 0] : Fin 3 → ℕ) a + S16x1x1024.size a ≤ S16x32x1024.size a) (y : S16x32x1024.Idx) :
    View.canon [(⟨Rect.unit ![0, 16, 0] S16x16x1024.size ip, k0_pay7 x0 (nmV x3)⟩ : View.Piece (Elt F) S16x32x1024 .f32), ⟨Rect.unit ![0, 1, 0] S16x15x1024.size ih, k0_pay5 x2⟩, ⟨Rect.unit ![0, 0, 0] S16x1x1024.size iz, k0_pay4⟩] y
      = bufV x0 x2 x3 y := by
  have y0 : (y 0 : ℕ) < 16 := (y 0).isLt
  have y1 : (y 1 : ℕ) < 32 := (y 1).isLt
  have y2 : (y 2 : ℕ) < 1024 := (y 2).isLt
  refine View.canon_append_of_piecesOf (bufV x0 x2 x3) [] [_, _, _] (And.intro (fun x => ?_) (And.intro (fun x => ?_) (And.intro (fun x => ?_) trivial))) _ ?_
  · have a1 : (x 1 : ℕ) < 16 := (x 1).isLt
    have c0 : ((Rect.unit ![0, 16, 0] S16x16x1024.size ip : Rect S16x32x1024).emb x 0 : ℕ) = 0 + 1 * x 0 := rfl
    have c1 : ((Rect.unit ![0, 16, 0] S16x16x1024.size ip : Rect S16x32x1024).emb x 1 : ℕ) = 16 + 1 * x 1 := rfl
    have c2 : ((Rect.unit ![0, 16, 0] S16x16x1024.size ip : Rect S16x32x1024).emb x 2 : ℕ) = 0 + 1 * x 2 := rfl
    show k0_pay7 x0 (nmV x3) x = bufV x0 x2 x3 ((Rect.unit ![0, 16, 0] S16x16x1024.size ip : Rect S16x32x1024).emb x)
    generalize (Rect.unit ![0, 16, 0] S16x16x1024.size ip : Rect S16x32x1024).emb x = z at c0 c1 c2
    have n : 16 ≤ (z 1 : ℕ) := by omega
    simp only [bufV, dif_pos n]
    refine congrArg _ (funext fun a => ?_)
    match a with
    | 0 => exact Fin.ext (by show (x 0 : ℕ) = (z 0 : ℕ); omega)
    | 1 => exact Fin.ext (by show (x 1 : ℕ) = (z 1 : ℕ) - 16; omega)
    | 2 => exact Fin.ext (by show (x 2 : ℕ) = (z 2 : ℕ); omega)
  · have a1 : (x 1 : ℕ) < 15 := (x 1).isLt
    have c0 : ((Rect.unit ![0, 1, 0] S16x15x1024.size ih : Rect S16x32x1024).emb x 0 : ℕ) = 0 + 1 * x 0 := rfl
    have c1 : ((Rect.unit ![0, 1, 0] S16x15x1024.size ih : Rect S16x32x1024).emb x 1 : ℕ) = 1 + 1 * x 1 := rfl
    have c2 : ((Rect.unit ![0, 1, 0] S16x15x1024.size ih : Rect S16x32x1024).emb x 2 : ℕ) = 0 + 1 * x 2 := rfl
    show k0_pay5 x2 x = bufV x0 x2 x3 ((Rect.unit ![0, 1, 0] S16x15x1024.size ih : Rect S16x32x1024).emb x)
    generalize (Rect.unit ![0, 1, 0] S16x15x1024.size ih : Rect S16x32x1024).emb x = z at c0 c1 c2
    have n : ¬ 16 ≤ (z 1 : ℕ) := by omega
    have n' : 1 ≤ (z 1 : ℕ) := by omega
    simp only [bufV, dif_neg n, dif_pos n']
    refine congrArg _ (funext fun a => ?_)
    match a with
    | 0 => exact Fin.ext (by show (x 0 : ℕ) = (z 0 : ℕ); omega)
    | 1 => exact Fin.ext (by show (x 1 : ℕ) = (z 1 : ℕ) - 1; omega)
    | 2 => exact Fin.ext (by show (x 2 : ℕ) = (z 2 : ℕ); omega)
  · have a1 : (x 1 : ℕ) < 1 := (x 1).isLt
    have c1 : ((Rect.unit ![0, 0, 0] S16x1x1024.size iz : Rect S16x32x1024).emb x 1 : ℕ) = 0 + 1 * x 1 := rfl
    show k0_pay4 x = bufV x0 x2 x3 ((Rect.unit ![0, 0, 0] S16x1x1024.size iz : Rect S16x32x1024).emb x)
    generalize (Rect.unit ![0, 0, 0] S16x1x1024.size iz : Rect S16x32x1024).emb x = z at c1
    have n : ¬ 16 ≤ (z 1 : ℕ) := by omega
    have n' : ¬ 1 ≤ (z 1 : ℕ) := by omega
    simp only [bufV, dif_neg n, dif_neg n']
    rfl
  have hq : (y 1 : ℕ) < 1 ∨ (1 ≤ (y 1 : ℕ) ∧ (y 1 : ℕ) < 16) ∨ 16 ≤ (y 1 : ℕ) := by omega
  rcases hq with h | h | h
  · refine ⟨_, .tail _ (.tail _ (.head _)), (Rect.mem_set_unit (inb := iz)).mpr fun a => ?_⟩
    match a with
    | 0 => exact ⟨by show 0 ≤ _; omega, by show _ < 0 + 16; omega⟩
    | 1 => exact ⟨by show 0 ≤ _; omega, by show _ < 0 + 1; omega⟩
    | 2 => exact ⟨by show 0 ≤ _; omega, by show _ < 0 + 1024; omega⟩
  · refine ⟨_, .tail _ (.head _), (Rect.mem_set_unit (inb := ih)).mpr fun a => ?_⟩
    match a with
    | 0 => exact ⟨by show 0 ≤ _; omega, by show _ < 0 + 16; omega⟩
    | 1 => exact ⟨by show 1 ≤ _; omega, by show _ < 1 + 15; omega⟩
    | 2 => exact ⟨by show 0 ≤ _; omega, by show _ < 0 + 1024; omega⟩
  · refine ⟨_, .head _, (Rect.mem_set_unit (inb := ip)).mpr fun a => ?_⟩
    match a with
    | 0 => exact ⟨by show 0 ≤ _; omega, by show _ < 0 + 16; omega⟩
    | 1 => exact ⟨by show 16 ≤ _; omega, by show _ < 16 + 16; omega⟩
    | 2 => exact ⟨by show 0 ≤ _; omega, by show _ < 0 + 1024; omega⟩

/-- All the streams' window means less the rows, all the columns. -/
def dAll (i : grid0.Coords) (B : Vec F S16x32x1024 .f32) : Vec F S256x1024 .bf16 :=
  fun y => dV i B ⟨(y 1 : ℕ) / 256, by have : (y 1 : ℕ) < 1024 := (y 1).isLt; omega⟩ (ValueIdx.ix2 (y 0) ⟨(y 1 : ℕ) % 256, by omega⟩)

/-- A stream's stored block of a window is the rows of `dAll` there. -/
theorem dev_emb (i : grid0.Coords) (B : Vec F S16x32x1024 .f32) (g : Fin 4) (b : Fin 16) (p q : ℕ) (hp : p = 16 * b) (hq : q = 256 * g)
    (inb : ∀ a, (![p, q] : Fin 2 → ℕ) a + S16x256.size a ≤ S256x1024.size a) (w : FVec F S16x256 .bf16) (hw : w = devV i g (extV B g b)) (x : S16x256.Idx) :
    w x = dAll i B ((Rect.unit ![p, q] S16x256.size inb : Rect S256x1024).emb x) := by
  have a0 : (x 0 : ℕ) < 16 := (x 0).isLt
  have a1 : (x 1 : ℕ) < 256 := (x 1).isLt
  have c0 : ((Rect.unit ![p, q] S16x256.size inb : Rect S256x1024).emb x 0 : ℕ) = p + 1 * x 0 := rfl
  have c1 : ((Rect.unit ![p, q] S16x256.size inb : Rect S256x1024).emb x 1 : ℕ) = q + 1 * x 1 := rfl
  generalize (Rect.unit ![p, q] S16x256.size inb : Rect S256x1024).emb x = z at c0 c1
  have eg : ∀ h, (⟨(z 1 : ℕ) / 256, h⟩ : Fin 4) = g := fun h => Fin.ext (by show (z 1 : ℕ) / 256 = g; omega)
  have eb : ∀ h, (⟨(z 0 : ℕ) / 16, h⟩ : Fin 16) = b := fun h => Fin.ext (by show (z 0 : ℕ) / 16 = b; omega)
  rw [dAll, eg, hw]
  show _ = devV i g (extV B g ⟨(z 0 : ℕ) / 16, _⟩) (ValueIdx.ix2 ⟨(z 0 : ℕ) % 16, _⟩ ⟨(z 1 : ℕ) % 256, _⟩)
  rw [eb]
  refine congrArg _ (funext fun a => ?_)
  match a with
  | 0 => exact Fin.ext (by show (x 0 : ℕ) = (z 0 : ℕ) % 16; omega)
  | 1 => exact Fin.ext (by show (x 1 : ℕ) = (z 1 : ℕ) % 256; omega)

/-- A stream's rows, 256 columns from `q`. -/
def extN (B : Vec F S16x32x1024 .f32) (p q : ℕ) (io : ∀ a, (![p, 0, q] : Fin 3 → ℕ) a + S1x32x256.size a ≤ S16x32x1024.size a) : Vec F S1x32x256 .f32 :=
  fun j => B (ValueIdx.ix3 ⟨p, by have : p + 1 ≤ 16 := io 0; omega⟩ (j 1) ⟨q + (j 2 : ℕ), by have : q + 256 ≤ 1024 := io 2; have : (j 2 : ℕ) < 256 := (j 2).isLt; omega⟩)

/-- The blocks lie in the buffer. -/
theorem dev_inb (g : Fin 4) (q : ℕ) (hq : q = 256 * g) (b : Fin 16) (p : ℕ) (hp : p = 16 * b) (a : Fin 2) : (![p, q] : Fin 2 → ℕ) a + S16x256.size a ≤ S256x1024.size a := by
  match a with
  | 0 => show p + 16 ≤ 256; omega
  | 1 => show q + 256 ≤ 1024; omega

/-- A window's columns, read after the sixteen streams' blocks of it are stored. -/
theorem dev_read (v : View sig .tc .vmem S256x1024 .bf16) (L : List (View.Piece (Elt F) S256x1024 .bf16)) (i : grid0.Coords) (B : Vec F S16x32x1024 .f32) (g : Fin 4) (q : ℕ) (hq : q = 256 * g)
    (inb : ∀ (b : Fin 16) (p : ℕ), p = 16 * b → ∀ a, (![p, q] : Fin 2 → ℕ) a + S16x256.size a ≤ S256x1024.size a)
    (io : ∀ a, (![0, q] : Fin 2 → ℕ) a + S256x256.size a ≤ S256x1024.size a)
    {w0 w1 w2 w3 w4 w5 w6 w7 w8 w9 w10 w11 w12 w13 w14 w15 : FVec F S16x256 .bf16}
    (h0 : w0 = devV i g (extV B g 0)) (h1 : w1 = devV i g (extV B g 1)) (h2 : w2 = devV i g (extV B g 2)) (h3 : w3 = devV i g (extV B g 3))
    (h4 : w4 = devV i g (extV B g 4)) (h5 : w5 = devV i g (extV B g 5)) (h6 : w6 = devV i g (extV B g 6)) (h7 : w7 = devV i g (extV B g 7))
    (h8 : w8 = devV i g (extV B g 8)) (h9 : w9 = devV i g (extV B g 9)) (h10 : w10 = devV i g (extV B g 10)) (h11 : w11 = devV i g (extV B g 11))
    (h12 : w12 = devV i g (extV B g 12)) (h13 : w13 = devV i g (extV B g 13)) (h14 : w14 = devV i g (extV B g 14)) (h15 : w15 = devV i g (extV B g 15)) :
    v.readCov (⟨Rect.unit ![240, q] S16x256.size (inb 15 _ rfl), w15⟩ :: ⟨Rect.unit ![224, q] S16x256.size (inb 14 _ rfl), w14⟩ :: ⟨Rect.unit ![208, q] S16x256.size (inb 13 _ rfl), w13⟩ :: ⟨Rect.unit ![192, q] S16x256.size (inb 12 _ rfl), w12⟩ :: ⟨Rect.unit ![176, q] S16x256.size (inb 11 _ rfl), w11⟩ :: ⟨Rect.unit ![160, q] S16x256.size (inb 10 _ rfl), w10⟩ :: ⟨Rect.unit ![144, q] S16x256.size (inb 9 _ rfl), w9⟩ :: ⟨Rect.unit ![128, q] S16x256.size (inb 8 _ rfl), w8⟩ :: ⟨Rect.unit ![112, q] S16x256.size (inb 7 _ rfl), w7⟩ :: ⟨Rect.unit ![96, q] S16x256.size (inb 6 _ rfl), w6⟩ :: ⟨Rect.unit ![80, q] S16x256.size (inb 5 _ rfl), w5⟩ :: ⟨Rect.unit ![64, q] S16x256.size (inb 4 _ rfl), w4⟩ :: ⟨Rect.unit ![48, q] S16x256.size (inb 3 _ rfl), w3⟩ :: ⟨Rect.unit ![32, q] S16x256.size (inb 2 _ rfl), w2⟩ :: ⟨Rect.unit ![16, q] S16x256.size (inb 1 _ rfl), w1⟩ :: ⟨Rect.unit ![0, q] S16x256.size (inb 0 _ rfl), w0⟩ :: L)
        (Rect.unit ![0, q] S256x256.size io : Rect S256x1024).toLoadRect = dV i B g := by
  rw [View.readCov_eq_canon']
  funext j
  have j0 : (j 0 : ℕ) < 256 := (j 0).isLt
  have j1 : (j 1 : ℕ) < 256 := (j 1).isLt
  have c0 : ((LoadRect.idx (Rect.unit ![0, q] S256x256.size io : Rect S256x1024).toLoadRect j) 0 : ℕ) = 0 + 1 * j 0 := rfl
  have c1 : ((LoadRect.idx (Rect.unit ![0, q] S256x256.size io : Rect S256x1024).toLoadRect j) 1 : ℕ) = q + 1 * j 1 := rfl
  show View.canon _ (LoadRect.idx (Rect.unit ![0, q] S256x256.size io : Rect S256x1024).toLoadRect j) = _
  generalize LoadRect.idx (Rect.unit ![0, q] S256x256.size io : Rect S256x1024).toLoadRect j = y at c0 c1
  have mem : ∀ (b : Fin 16) (p : ℕ) (hp : p = 16 * b), (y 0 : ℕ) / 16 = b → y ∈ (Rect.unit ![p, q] S16x256.size (inb b p hp) : Rect S256x1024).set := by
    intro b p hp hb
    refine (Rect.mem_set_unit (inb := inb b p hp)).mpr fun a => ?_
    match a with
    | 0 => exact ⟨by show p ≤ (y 0 : ℕ); omega, by show (y 0 : ℕ) < p + 16; omega⟩
    | 1 => exact ⟨by show q ≤ (y 1 : ℕ); omega, by show (y 1 : ℕ) < q + 256; omega⟩
  have emb := fun (b : Fin 16) (p : ℕ) (hp : p = 16 * b) => dev_emb i B g b p q hp hq (inb b p hp)
  refine (View.canon_append_of_piecesOf (dAll i B) L [_, _, _, _, _, _, _, _, _, _, _, _, _, _, _, _] ?_ y ?_).trans ?_
  · exact ⟨emb 15 _ rfl _ h15, emb 14 _ rfl _ h14, emb 13 _ rfl _ h13, emb 12 _ rfl _ h12, emb 11 _ rfl _ h11, emb 10 _ rfl _ h10, emb 9 _ rfl _ h9, emb 8 _ rfl _ h8, emb 7 _ rfl _ h7, emb 6 _ rfl _ h6, emb 5 _ rfl _ h5, emb 4 _ rfl _ h4, emb 3 _ rfl _ h3, emb 2 _ rfl _ h2, emb 1 _ rfl _ h1, emb 0 _ rfl _ h0, trivial⟩
  · have hb : (y 0 : ℕ) / 16 < 16 := by omega
    have m := fun (b : Fin 16) (e : (y 0 : ℕ) / 16 = b) => mem b _ rfl e
    clear mem emb
    generalize (y 0 : ℕ) / 16 = n at hb m
    interval_cases n
    exacts [⟨_, List.mem_of_getElem (i := 15) (h := by simp only [List.length_cons, List.length_nil]; decide) rfl, m 0 rfl⟩,
      ⟨_, List.mem_of_getElem (i := 14) (h := by simp only [List.length_cons, List.length_nil]; decide) rfl, m 1 rfl⟩,
      ⟨_, List.mem_of_getElem (i := 13) (h := by simp only [List.length_cons, List.length_nil]; decide) rfl, m 2 rfl⟩,
      ⟨_, List.mem_of_getElem (i := 12) (h := by simp only [List.length_cons, List.length_nil]; decide) rfl, m 3 rfl⟩,
      ⟨_, List.mem_of_getElem (i := 11) (h := by simp only [List.length_cons, List.length_nil]; decide) rfl, m 4 rfl⟩,
      ⟨_, List.mem_of_getElem (i := 10) (h := by simp only [List.length_cons, List.length_nil]; decide) rfl, m 5 rfl⟩,
      ⟨_, List.mem_of_getElem (i := 9) (h := by simp only [List.length_cons, List.length_nil]; decide) rfl, m 6 rfl⟩,
      ⟨_, List.mem_of_getElem (i := 8) (h := by simp only [List.length_cons, List.length_nil]; decide) rfl, m 7 rfl⟩,
      ⟨_, List.mem_of_getElem (i := 7) (h := by simp only [List.length_cons, List.length_nil]; decide) rfl, m 8 rfl⟩,
      ⟨_, List.mem_of_getElem (i := 6) (h := by simp only [List.length_cons, List.length_nil]; decide) rfl, m 9 rfl⟩,
      ⟨_, List.mem_of_getElem (i := 5) (h := by simp only [List.length_cons, List.length_nil]; decide) rfl, m 10 rfl⟩,
      ⟨_, List.mem_of_getElem (i := 4) (h := by simp only [List.length_cons, List.length_nil]; decide) rfl, m 11 rfl⟩,
      ⟨_, List.mem_of_getElem (i := 3) (h := by simp only [List.length_cons, List.length_nil]; decide) rfl, m 12 rfl⟩,
      ⟨_, List.mem_of_getElem (i := 2) (h := by simp only [List.length_cons, List.length_nil]; decide) rfl, m 13 rfl⟩,
      ⟨_, List.mem_of_getElem (i := 1) (h := by simp only [List.length_cons, List.length_nil]; decide) rfl, m 14 rfl⟩,
      ⟨_, List.mem_of_getElem (i := 0) (h := by simp only [List.length_cons, List.length_nil]; decide) rfl, m 15 rfl⟩]
  · have eg : ∀ h, (⟨(y 1 : ℕ) / 256, h⟩ : Fin 4) = g := fun h => Fin.ext (by show (y 1 : ℕ) / 256 = g; omega)
    rw [dAll, eg]
    refine congrArg _ (funext fun a => ?_)
    match a with
    | 0 => exact Fin.ext (by show (y 0 : ℕ) = (j 0 : ℕ); omega)
    | 1 => exact Fin.ext (by show (y 1 : ℕ) % 256 = (j 1 : ℕ); omega)

end Cert.Kernel3Ideal.Samp
-- ==== Proof.SampSpec.lean ====
/-
  The pooling layer on the sample batch as plain sums over the extended reals: each stream has fifteen history rows before
  its sixteen new ones and starts at frame 2048, so that every window is full. Both programs are shown to compute these
  functions.
-/
module

public import proofs.«01_k».proof.Proof.PoolReal

@[expose] public section

noncomputable section

namespace Cert.Pool

open Idealize.ShloMosaic Cert.Gla

variable (W : PWts)

/-- Row `n` of a stream: a zero row, the fifteen history rows `E`, then the new rows normalised. -/
def padS (E H : ℕ → Fin 1024 → EReal) (n : ℕ) (c : Fin 1024) : EReal :=
  if n < 1 then 0 else if n < 16 then E (n - 1) c else rms (Ideal.ofBits .f32 0x44800000#32) (H (n - 16)) W.nm c

/-- The mean over window `g` at new frame `t` of rows `f`, less the row itself. -/
def devS (f : ℕ → Fin 1024 → EReal) (g : Fin 4) (t : ℕ) (c : Fin 1024) : EReal :=
  sumT (fun n => f n c) g (t + 16) * Ideal.div 1 (cntT g (2048 + t)) - f (t + 16) c

/-- The four windows' columns times their matrices. -/
def mixS (f : ℕ → Fin 1024 → EReal) (t : ℕ) (c : Fin 1024) : EReal :=
  ∑ i : Fin 256, devS f ⟨c / 256, by omega⟩ t ⟨256 * ((c : ℕ) / 256) + i, by omega⟩ * W.wp ⟨c / 256, by omega⟩ i ⟨c % 256, by omega⟩

/-- The row after the mixer. -/
def h2S (f H : ℕ → Fin 1024 → EReal) (t : ℕ) (c : Fin 1024) : EReal := H t c + (mixS W f t c + W.bp c) * W.sc c

/-- The layer's result at new frame `t`. -/
def sampT (E H : ℕ → Fin 1024 → EReal) (P : ℕ → Fin 256 → EReal) (t : ℕ) : Fin 1024 → EReal :=
  ph4R W (ph3R W (h2S W (padS W E H) H t)) (P t)

/-- Stream `b`'s new rows. -/
def shOf (a0 : (⟨3, ![16, 16, 1024]⟩ : Shape).Idx → EReal) (b : Fin 16) (t : ℕ) (c : Fin 1024) : EReal :=
  a0 (ix3 b ⟨t % 16, by omega⟩ c)

/-- Stream `b`'s rows of the per-layer embedding, layer 0. -/
def spOf (a1 : (⟨4, ![2, 16, 16, 256]⟩ : Shape).Idx → EReal) (b : Fin 16) (t : ℕ) (c : Fin 256) : EReal :=
  a1 (ix4 0 b ⟨t % 16, by omega⟩ c)

/-- Stream `b`'s history rows. -/
def seOf (a2 : (⟨4, ![1, 16, 15, 1024]⟩ : Shape).Idx → EReal) (b : Fin 16) (j : ℕ) (c : Fin 1024) : EReal :=
  a2 (ix4 0 b ⟨j % 15, by omega⟩ c)

/-- A stream's rows are real when the gains and the history are. -/
theorem padS_real (hW : ∀ c, ∃ r : ℝ, W.nm c = r) (E H : ℕ → Fin 1024 → EReal) (hE : ∀ j c, ∃ r : ℝ, E j c = r) (n : ℕ) (c : Fin 1024) :
    ∃ r : ℝ, padS W E H n c = r := by
  unfold padS
  split_ifs
  · exact ⟨0, rfl⟩
  · exact hE _ _
  · exact rms_real _ _ _ (hW c)

/-- A column of window `g` after its matrix. -/
theorem mixS_part (f : ℕ → Fin 1024 → EReal) (t : ℕ) (g : Fin 4) (j : Fin 256) (c : Fin 1024) (hc : (c : ℕ) = 256 * g + j) :
    mixS W f t c = ∑ i : Fin 256, devS f g t ⟨256 * g + i, by omega⟩ * W.wp g i j := by
  have e1 : (c : ℕ) / 256 = g := by omega
  have e2 : (c : ℕ) % 256 = j := by omega
  unfold mixS
  simp only [e1, e2]

end Cert.Pool
-- ==== Proof.SampAt.lean ====
/-
  The sample pooling call's array functions, read at an index over the extended reals: each is the layer's plain function
  of a stream's rows. Row `16 b + t` of the joined rows is frame `t` of stream `b`.
-/
module

public import proofs.«01_k».proof.Proof.SampVec
public import proofs.«01_k».proof.Proof.SampSpec
public import proofs.«01_k».proof.Proof.PoolAt

@[expose] public section

set_option maxRecDepth 16384

noncomputable section

namespace Cert.Kernel3Ideal.Samp

open Cert.Kernel3Ideal Cert.Kernel3Ideal.Gen Cert.Gla Cert.Pool Idealize.ShloMosaic Idealize.ShloMosaic.TcCoe Idealize.SL.Sem
open Cert.Kernel2Ideal.Pool (PK nm_at nf_at np_at bp_at sc_at wp_at mix_at rms_at h3_at word_add word_min winW_eq win_le nmV bpV scV npV wpV mixV h3V pleV rmsV winW)

variable {W : PWts} {x3 : Vec Ideal S1x8x1024 .f32} {x4 : Vec Ideal S1x4x256x256 .bf16} {x5 x6 : Vec Ideal S1x1024x2816 .bf16} {x7 : Vec Ideal S1x2816x1024 .bf16} {x8 : Vec Ideal S1x1024x1024 .bf16} {x9 : Vec Ideal S1x256x1024 .bf16}

/-- Row `16 b + t` of the joined rows. -/
def rowN (b t : Fin 16) : Fin 256 := ⟨b * 16 + t, by omega⟩

theorem rowN_div (b t : Fin 16) (h : (rowN b t : ℕ) / 16 < 16) : (⟨(rowN b t : ℕ) / 16, h⟩ : Fin 16) = b :=
  Fin.ext (by simp only [rowN]; omega)

theorem rowN_mod (b t : Fin 16) (h : (rowN b t : ℕ) % 16 < 16) : (⟨(rowN b t : ℕ) % 16, h⟩ : Fin 16) = t :=
  Fin.ext (by simp only [rowN]; omega)

/-- The normalised rows. -/
theorem xn_at (K : PK W x3 x4 x5 x6 x7 x8 x9) (x0 : Vec Ideal S16x16x1024 .f32) (b t : Fin 16) (c : Fin 1024) :
    k0_pay7 x0 (nmV x3) (ix3 b t c) = rms (Ideal.ofBits .f32 0x44800000#32) (fun i => x0 (ix3 b t i)) W.nm c := by
  pointwise [k0_pay7, k0_pay6, nm_at K, rms]

/-- The row buffer. -/
theorem buf_at (K : PK W x3 x4 x5 x6 x7 x8 x9) {E H : ℕ → Fin 1024 → EReal} (x0 : Vec Ideal S16x16x1024 .f32) (x2 : Vec Ideal S1x16x15x1024 .f32) (b : Fin 16)
    (hx : ∀ (t : Fin 16) (c : Fin 1024), x0 (ix3 b t c) = H t c) (he : ∀ (j : Fin 15) (c : Fin 1024), x2 (ix4 0 b j c) = E j c) (n : Fin 32) (c : Fin 1024) :
    bufV x0 x2 x3 (ix3 b n c) = padS W E H n c := by
  unfold padS
  by_cases h : 16 ≤ (n : ℕ)
  · refine (dif_pos h).trans ((xn_at K x0 b ⟨n - 16, by omega⟩ c).trans ?_)
    rw [if_neg (by omega), if_neg (by omega)]
    simp only [hx]
  · refine (dif_neg h).trans ?_
    by_cases h' : 1 ≤ (n : ℕ)
    · refine (dif_pos h').trans ?_
      rw [if_neg (by omega), if_pos (by omega), ← he ⟨n - 1, by omega⟩ c]
      show k0_pay5 x2 (ix3 b ⟨(n : ℕ) - 1, _⟩ c) = _
      pointwise [k0_pay5]
    · refine (dif_neg h').trans ?_
      rw [if_pos (by omega)]
      simp [Scalar.ofBits, FloatOps.ofBits]

/-- A column of a window's rows as a sequence. -/
def colN (v : FVec Ideal S32x256 .f32) (c : Fin 256) (n : ℕ) : EReal := v (ix2 ⟨n % 32, by omega⟩ c)

/-- A row plus the row `k` before it. -/
theorem twice_at (k : BitVec 32) (v : FVec Ideal S32x256 .f32) (n : ℕ) (c : Fin 256) (hk : k.toNat ≤ n) (hn : n < 32) :
    colN (twiceV k v) c n = colN v c n + colN v c (n - k.toNat) := by
  refine congrArg (colN v c n + ·) (dynamicRotate_apply (s := S32x256) 0 k v rotates_S32x256_d0 _ _ fun b => ?_)
  match b with
  | ⟨0, _⟩ =>
    show (n - k.toNat) % 32 = (n % 32 + 32 - k.toNat % 32) % 32
    omega
  | ⟨1, _⟩ => rfl

/-- The doubling sums are the window's. -/
theorem sum_at (v : FVec Ideal S32x256 .f32) (g : Fin 4) (n : ℕ) (c : Fin 256) (h0 : 15 ≤ n) (hn : n < 32) :
    colN (sumV v g) c n = sumT (colN v c) g n := by
  have e0 : ∀ m, 1 ≤ m → m < 32 → colN (twiceV 1#32 v) c m = sumT (colN v c) 0 m := fun m h1 h2 =>
    (twice_at 1#32 v m c h1 h2).trans (sumT_0 _ m).symm
  have e1 : ∀ m, 3 ≤ m → m < 32 → colN (twiceV 2#32 (twiceV 1#32 v)) c m = sumT (colN v c) 1 m := fun m h1 h2 =>
    (twice_at 2#32 _ m c (show 2 ≤ m by omega) h2).trans ((congrArg₂ (· + ·) (e0 m (by omega) h2) (e0 (m - 2) (by omega) (by omega))).trans (sumT_1 _ m).symm)
  have e2 : ∀ m, 7 ≤ m → m < 32 → colN (twiceV 4#32 (twiceV 2#32 (twiceV 1#32 v))) c m = sumT (colN v c) 2 m := fun m h1 h2 =>
    (twice_at 4#32 _ m c (show 4 ≤ m by omega) h2).trans ((congrArg₂ (· + ·) (e1 m (by omega) h2) (e1 (m - 4) (by omega) (by omega))).trans (sumT_2 _ m).symm)
  match g with
  | 0 => exact e0 n (by omega) hn
  | 1 => exact e1 n (by omega) hn
  | 2 => exact e2 n (by omega) hn
  | 3 => exact (twice_at 8#32 _ n c (show 8 ≤ n by omega) hn).trans ((congrArg₂ (· + ·) (e2 n (by omega) hn) (e2 (n - 8) (by omega) (by omega))).trans (sumT_3 _ n).symm)

/-- A new row's frame number. -/
theorem pos_at (i : grid0.Coords) (t : Fin 16) : k0_pay8 i (ix2 t 0) = BitVec.ofNat 32 (2048 + t) := by
  pointwise [k0_pay8]
  exact word_add 2048 0 t

/-- One over a window's count of rows. -/
theorem inv_at (i : grid0.Coords) (g : Fin 4) (t : Fin 16) :
    invV (F := Ideal) i g (ix2 t 0) = Ideal.div 1 (cntT g (2048 + t)) := by
  pointwise [invV]
  rw [pos_at i]
  have hw := win_le g
  have e1 : IntOp.addi (BitVec.ofNat 32 (2048 + t)) 1#32 = BitVec.ofNat 32 (2048 + t + 1) :=
    (BitVec.ofNat_add (2048 + t) 1).symm
  rw [e1, winW_eq, word_min _ _ (by omega) (by omega)]
  refine congrArg (Ideal.div 1) ?_
  show (((BitVec.ofNat 32 (min (win g) (2048 + t + 1))).toInt : ℝ) : EReal) = _
  rw [WordCmp.toInt_ofNat_of_lt (by show min (win g) _ < 2 ^ 31; omega)]
  show (((min (win g) (2048 + t + 1) : ℕ) : ℤ) : ℝ) = ((((min (win g) (2048 + t + 1) : ℕ) : ℝ)) : EReal)
  simp only [Int.cast_natCast]

/-- A stream's deviations, the window's rows being `f`. -/
theorem dev_at (i : grid0.Coords) (g : Fin 4) (e : Vec Ideal S1x32x256 .f32) (f : ℕ → Fin 1024 → EReal)
    (hf : ∀ (n : Fin 32) (c : Fin 256), e (ix3 0 n c) = f n ⟨256 * g + c, by omega⟩) (t : Fin 16) (c : Fin 256) :
    devV i g e (ix2 t c) = devS f g t ⟨256 * g + c, by omega⟩ := by
  have hc : ∀ m < 32, colN (shapeCast S32x256 e shapeCasts_S1x32x256_S32x256) c m = f m ⟨256 * g + c, by omega⟩ := by
    intro m hm
    unfold colN
    pointwise [hf]
    simp only [Nat.mod_eq_of_lt hm]
  have hs : ∀ (v : FVec Ideal S32x256 .f32) (h : 16 + (t : ℕ) < 32), sumV v g (ix2 ⟨16 + t, h⟩ c) = sumT (colN v c) g (16 + t) := by
    intro v h
    rw [← sum_at v g (16 + t) c (by omega) h]
    unfold colN
    simp only [Nat.mod_eq_of_lt h]
  pointwise [devV]
  rw [hs, inv_at i, hf, sumT_shift (colN (shapeCast S32x256 e shapeCasts_S1x32x256_S32x256) c) (fun n => f n ⟨256 * g + c, by omega⟩) g (16 + t) (t + 16) fun k hk => ?_]
  · simp only [Nat.add_comm 16 (t : ℕ)]
    rfl
  · rw [hc _ (by omega), Nat.add_comm 16 (t : ℕ)]

/-- … of all the streams' rows. -/
theorem d_at (i : grid0.Coords) (B : Vec Ideal S16x32x1024 .f32) (b : Fin 16) (f : ℕ → Fin 1024 → EReal)
    (hB : ∀ (n : Fin 32) (c : Fin 1024), B (ix3 b n c) = f n c) (g : Fin 4) (t : Fin 16) (c : Fin 256) :
    dV i B g (ix2 (rowN b t) c) = devS f g t ⟨256 * g + c, by omega⟩ := by
  refine Eq.trans (b := devV i g (extV B g b) (ix2 t c)) ?_ (dev_at i g _ f (fun n c => hB n _) t c)
  exact congrArg₂ (fun b' t' => devV i g (extV B g b') (ix2 t' c)) (rowN_div b t (by omega)) (rowN_mod b t (by omega))

/-- The rows after the mixer. -/
theorem h2_at (K : PK W x3 x4 x5 x6 x7 x8 x9) (i : grid0.Coords) (x0 : Vec Ideal S16x16x1024 .f32) (B : Vec Ideal S16x32x1024 .f32) (b : Fin 16) {H : ℕ → Fin 1024 → EReal} (f : ℕ → Fin 1024 → EReal)
    (hB : ∀ (n : Fin 32) (c : Fin 1024), B (ix3 b n c) = f n c) (hx : ∀ (t : Fin 16) (c : Fin 1024), x0 (ix3 b t c) = H t c) (t : Fin 16) (c : Fin 1024) :
    h2V i B x0 x3 x4 (ix2 (rowN b t) c) = h2S W f H t c := by
  pointwise [h2V, rowN_div, rowN_mod, hx, bp_at K, sc_at K, mix_at K, h2S]
  refine congrArg (fun z => H t c + (z + W.bp c) * W.sc c) ?_
  by_cases h0 : (c : ℕ) < 256
  · refine (dif_pos h0).trans ?_
    rw [mixS_part W f _ 0 ⟨c, h0⟩ c (by simp)]
    exact Finset.sum_congr rfl fun k _ => congrArg (· * _) (d_at i B b f hB 0 t k)
  refine (dif_neg h0).trans ?_
  by_cases h1 : (c : ℕ) - 256 < 256
  · refine (dif_pos h1).trans ?_
    rw [mixS_part W f _ 1 ⟨c - 256, h1⟩ c (by simp; omega)]
    exact Finset.sum_congr rfl fun k _ => congrArg (· * _) (d_at i B b f hB 1 t k)
  refine (dif_neg h1).trans ?_
  by_cases h2 : (c : ℕ) - 256 - 256 < 256
  · refine (dif_pos h2).trans ?_
    rw [mixS_part W f _ 2 ⟨c - 256 - 256, h2⟩ c (by simp; omega)]
    exact Finset.sum_congr rfl fun k _ => congrArg (· * _) (d_at i B b f hB 2 t k)
  refine (dif_neg h2).trans ?_
  rw [mixS_part W f _ 3 ⟨c - 256 - 256 - 256, by omega⟩ c (by simp; omega)]
  exact Finset.sum_congr rfl fun k _ => congrArg (· * _) (d_at i B b f hB 3 t k)

theorem h4_at (K : PK W x3 x4 x5 x6 x7 x8 x9) (x1 : Vec Ideal S1x16x16x256 .f32) (h3 : FVec Ideal S256x1024 .f32) (b t : Fin 16) (c : Fin 1024) :
    h4V x1 x3 x8 x9 h3 (ix2 (rowN b t) c) = ph4R W (fun i => h3 (ix2 (rowN b t) i)) (fun i => x1 (ix4 0 b t i)) c := by
  pointwise [h4V, pleV, ph4R, rms_at, np_at K, K.wpg, K.wpp, rowN_div, rowN_mod]

/-- The result rows. -/
theorem y_at (K : PK W x3 x4 x5 x6 x7 x8 x9) (i : grid0.Coords) {E H : ℕ → Fin 1024 → EReal} {P : ℕ → Fin 256 → EReal} (x0 : Vec Ideal S16x16x1024 .f32) (x1 : Vec Ideal S1x16x16x256 .f32) (x2 : Vec Ideal S1x16x15x1024 .f32) (b : Fin 16)
    (hx : ∀ (t : Fin 16) (c : Fin 1024), x0 (ix3 b t c) = H t c) (hp : ∀ (t : Fin 16) (c : Fin 256), x1 (ix4 0 b t c) = P t c) (he : ∀ (j : Fin 15) (c : Fin 1024), x2 (ix4 0 b j c) = E j c) (t : Fin 16) (c : Fin 1024) :
    yV i (bufV x0 x2 x3) x0 x1 x3 x4 x5 x6 x7 x8 x9 (ix3 b t c) = sampT W E H P t c := by
  have s : yV i (bufV x0 x2 x3) x0 x1 x3 x4 x5 x6 x7 x8 x9 (ix3 b t c) = h4V x1 x3 x8 x9 (h3V x3 x5 x6 x7 (h2V i (bufV x0 x2 x3) x0 x3 x4)) (ix2 (rowN b t) c) := by
    unfold yV
    generalize h4V x1 x3 x8 x9 _ = z
    unfold rowN
    pointwise []
  rw [s, h4_at K]
  simp only [h3_at K, h2_at K i x0 _ b (padS W E H) (buf_at K x0 x2 b hx he) hx, hp]
  rfl

/-- The state rows. -/
theorem s_at (K : PK W x3 x4 x5 x6 x7 x8 x9) {E H : ℕ → Fin 1024 → EReal} (x0 : Vec Ideal S16x16x1024 .f32) (x2 : Vec Ideal S1x16x15x1024 .f32) (b : Fin 16)
    (hx : ∀ (t : Fin 16) (c : Fin 1024), x0 (ix3 b t c) = H t c) (he : ∀ (j : Fin 15) (c : Fin 1024), x2 (ix4 0 b j c) = E j c) (j : Fin 15) (c : Fin 1024) :
    shapeCast S1x16x15x1024 (stateV (bufV x0 x2 x3)) shapeCasts_S16x15x1024_S1x16x15x1024 (ix4 0 b j c) = padS W E H (17 + j) c := by
  refine Eq.trans ?_ (buf_at K x0 x2 b hx he ⟨17 + j, by omega⟩ c)
  pointwise [stateV]
  rfl

end Cert.Kernel3Ideal.Samp
-- ==== Proof.SampWords.lean ====
/-
  The run of the sample pooling call: its named intermediate values are the array functions of `SampVec`, and what it leaves
  in its two outputs.
-/
module

public import proofs.«01_k».proof.Proof.SampVec

@[expose] public section

set_option maxRecDepth 100000
set_option maxHeartbeats 2000000

noncomputable section

namespace Cert.Kernel3Ideal.Samp

open Cert.Kernel3Ideal Cert.Kernel3Ideal.Gen Idealize.ShloMosaic Idealize.ShloMosaic.TcCoe Idealize.SL.Sem
open Cert.Kernel2Ideal.Pool (nmV nfV bpV scV wpV mixV h3V pleV rmsV)

variable {F : FTy → Type} [FloatOps F] (c : Dev nD) (i : grid0.Coords) (arg2 : Memref sig .tc .vmem S16x16x1024 .f32) (harg2 : arg2.IsWhole) (arg3 : Memref sig .tc .vmem S1x16x16x256 .f32) (harg3 : arg3.IsWhole) (arg4 : Memref sig .tc .vmem S1x16x15x1024 .f32) (harg4 : arg4.IsWhole) (arg5 : Memref sig .tc .vmem S1x8x1024 .f32) (harg5 : arg5.IsWhole) (arg6 : Memref sig .tc .vmem S1x4x256x256 .bf16) (harg6 : arg6.IsWhole) (arg7 : Memref sig .tc .vmem S1x1024x2816 .bf16) (harg7 : arg7.IsWhole) (arg8 : Memref sig .tc .vmem S1x1024x2816 .bf16) (harg8 : arg8.IsWhole) (arg9 : Memref sig .tc .vmem S1x2816x1024 .bf16) (harg9 : arg9.IsWhole) (arg10 : Memref sig .tc .vmem S1x1024x1024 .bf16) (harg10 : arg10.IsWhole) (arg11 : Memref sig .tc .vmem S1x256x1024 .bf16) (harg11 : arg11.IsWhole) (arg12 : Memref sig .tc .vmem S16x16x1024 .f32) (harg12 : arg12.IsWhole) (arg13 : Memref sig .tc .vmem S1x16x15x1024 .f32) (harg13 : arg13.IsWhole) (arg14 : Memref sig .tc .vmem S16x32x1024 .f32) (harg14 : arg14.IsWhole) (arg15 : Memref sig .tc .vmem S256x1024 .bf16) (harg15 : arg15.IsWhole) (x0 : Vec F S16x16x1024 .f32) (x1 : Vec F S1x16x16x256 .f32) (x2 : Vec F S1x16x15x1024 .f32) (x3 : Vec F S1x8x1024 .f32) (x4 : Vec F S1x4x256x256 .bf16) (x5 : Vec F S1x1024x2816 .bf16) (x6 : Vec F S1x1024x2816 .bf16) (x7 : Vec F S1x2816x1024 .bf16) (x8 : Vec F S1x1024x1024 .bf16) (x9 : Vec F S1x256x1024 .bf16)

/-- The three stores of the row buffer. -/
theorem HS0_3_eq : kernelRun0_A.sl.HS0_3 c arg2 harg2 arg4 harg4 arg5 harg5 x0 x2 x3 = [(⟨Rect.unit ![0, 16, 0] S16x16x1024.size inb_S16x32x1024_S16x16x1024_0_16_0, k0_pay7 x0 (nmV x3)⟩ : View.Piece (Elt F) S16x32x1024 .f32), ⟨Rect.unit ![0, 1, 0] S16x15x1024.size inb_S16x32x1024_S16x15x1024_0_1_0, k0_pay5 x2⟩, ⟨Rect.unit ![0, 0, 0] S16x1x1024.size inb_S16x32x1024_S16x1x1024_0_0_0, k0_pay4⟩] := by
  simp only [kernelRun0_A.sl.HS0_3, View.readAt_eq_ld arg2.view, View.readAt_eq_ld arg4.view, View.readAt_eq_ld arg5.view, Memref.IsWhole.read_unread]
  exact congrArg₂ (fun (u : Vec F S16x16x1024 .f32) (z : Vec F S1x16x15x1024 .f32) => [(⟨Rect.unit ![0, 16, 0] S16x16x1024.size inb_S16x32x1024_S16x16x1024_0_16_0, k0_pay7 u (nmV x3)⟩ : View.Piece (Elt F) S16x32x1024 .f32), ⟨Rect.unit ![0, 1, 0] S16x15x1024.size inb_S16x32x1024_S16x15x1024_0_1_0, k0_pay5 z⟩, ⟨Rect.unit ![0, 0, 0] S16x1x1024.size inb_S16x32x1024_S16x1x1024_0_0_0, k0_pay4⟩]) (View.ld_unit_zero (by decide) _ x0) (View.ld_unit_zero (by decide) _ x2)

/-- What is read of the row buffer after the three stores. -/
theorem buf_read (R : LoadRect S16x32x1024) : arg14.view.readCov (kernelRun0_A.sl.HS0_3 c arg2 harg2 arg4 harg4 arg5 harg5 x0 x2 x3) R = fun j => bufV x0 x2 x3 (R.idx j) := by
  rw [HS0_3_eq, View.readCov_eq_canon']
  exact funext fun j => buf_canon x0 x2 x3 _ _ _ _

/-- … a stream's rows of a window. -/
theorem rows_read (p q : ℕ) (io : ∀ a, (![p, 0, q] : Fin 3 → ℕ) a + S1x32x256.size a ≤ S16x32x1024.size a) :
    arg14.view.readCov (kernelRun0_A.sl.HS0_3 c arg2 harg2 arg4 harg4 arg5 harg5 x0 x2 x3) (Rect.unit ![p, 0, q] ![1, 32, 256] io : Rect S16x32x1024).toLoadRect = extN (bufV x0 x2 x3) p q io := by
  rw [buf_read]
  refine funext fun j => congrArg (bufV x0 x2 x3) (funext fun a => ?_)
  have j0 : (j 0 : ℕ) < 1 := (j 0).isLt
  match a with
  | 0 => exact Fin.ext (by show p + 1 * (j 0 : ℕ) = p; omega)
  | 1 => exact Fin.ext (by show 0 + 1 * (j 1 : ℕ) = j 1; omega)
  | 2 => exact Fin.ext (by show q + 1 * (j 2 : ℕ) = q + (j 2 : ℕ); omega)

/-- Window 0's deviations, stored a stream at a time and read. -/
theorem v244_eq : kernelRun0_A.sl.v244 c i arg2 harg2 arg4 harg4 arg5 harg5 arg14 arg15 x0 x2 x3 = dV i (bufV x0 x2 x3) 0 := by
  refine dev_read arg15.view _ i (bufV x0 x2 x3) 0 0 rfl (dev_inb 0 _ rfl) _ ?_ ?_ ?_ ?_ ?_ ?_ ?_ ?_ ?_ ?_ ?_ ?_ ?_ ?_ ?_ ?_ <;>
    (simp only [kernelRun0_A.sl.v231, kernelRun0_A.sl.v218, kernelRun0_A.sl.v205, kernelRun0_A.sl.v192, kernelRun0_A.sl.v179, kernelRun0_A.sl.v166, kernelRun0_A.sl.v153, kernelRun0_A.sl.v140, kernelRun0_A.sl.v127, kernelRun0_A.sl.v114, kernelRun0_A.sl.v101, kernelRun0_A.sl.v88, kernelRun0_A.sl.v75, kernelRun0_A.sl.v62, kernelRun0_A.sl.v49, kernelRun0_A.sl.v36, rows_read]; rfl)

/-- Window 1's deviations, stored a stream at a time and read. -/
theorem v495_eq : kernelRun0_A.sl.v495 c i arg2 harg2 arg4 harg4 arg5 harg5 arg14 arg15 x0 x2 x3 = dV i (bufV x0 x2 x3) 1 := by
  refine dev_read arg15.view _ i (bufV x0 x2 x3) 1 256 rfl (dev_inb 1 _ rfl) _ ?_ ?_ ?_ ?_ ?_ ?_ ?_ ?_ ?_ ?_ ?_ ?_ ?_ ?_ ?_ ?_ <;>
    (simp only [kernelRun0_A.sl.r_2, kernelRun0_A.sl.v480, kernelRun0_A.sl.v465, kernelRun0_A.sl.r_10, kernelRun0_A.sl.v450, kernelRun0_A.sl.v435, kernelRun0_A.sl.r_9, kernelRun0_A.sl.v420, kernelRun0_A.sl.v405, kernelRun0_A.sl.v390, kernelRun0_A.sl.r_7, kernelRun0_A.sl.v375, kernelRun0_A.sl.r_8, kernelRun0_A.sl.v360, kernelRun0_A.sl.v345, kernelRun0_A.sl.v330, kernelRun0_A.sl.v315, kernelRun0_A.sl.r_4, kernelRun0_A.sl.v300, kernelRun0_A.sl.r_5, kernelRun0_A.sl.r_6, kernelRun0_A.sl.v285, kernelRun0_A.sl.v270, kernelRun0_A.sl.r_3, kernelRun0_A.sl.v255, rows_read]; rfl)

/-- Window 2's deviations, stored a stream at a time and read. -/
theorem v778_eq : kernelRun0_A.sl.v778 c i arg2 harg2 arg4 harg4 arg5 harg5 arg14 arg15 x0 x2 x3 = dV i (bufV x0 x2 x3) 2 := by
  refine dev_read arg15.view _ i (bufV x0 x2 x3) 2 512 rfl (dev_inb 2 _ rfl) _ ?_ ?_ ?_ ?_ ?_ ?_ ?_ ?_ ?_ ?_ ?_ ?_ ?_ ?_ ?_ ?_ <;>
    (simp only [kernelRun0_A.sl.r_20, kernelRun0_A.sl.r_12, kernelRun0_A.sl.v761, kernelRun0_A.sl.v744, kernelRun0_A.sl.r_18, kernelRun0_A.sl.v727, kernelRun0_A.sl.r_19, kernelRun0_A.sl.v710, kernelRun0_A.sl.v, kernelRun0_A.sl.v676, kernelRun0_A.sl.v659, kernelRun0_A.sl.r_17, kernelRun0_A.sl.v642, kernelRun0_A.sl.v625, kernelRun0_A.sl.r_15, kernelRun0_A.sl.v608, kernelRun0_A.sl.r_16, kernelRun0_A.sl.v591, kernelRun0_A.sl.r_14, kernelRun0_A.sl.v574, kernelRun0_A.sl.v557, kernelRun0_A.sl.v540, kernelRun0_A.sl.r_13, kernelRun0_A.sl.v523, kernelRun0_A.sl.v506, rows_read]; rfl)

/-- Window 3's deviations, stored a stream at a time and read. -/
theorem v1093_eq : kernelRun0_A.sl.v1093 c i arg2 harg2 arg4 harg4 arg5 harg5 arg14 arg15 x0 x2 x3 = dV i (bufV x0 x2 x3) 3 := by
  refine dev_read arg15.view _ i (bufV x0 x2 x3) 3 768 rfl (dev_inb 3 _ rfl) _ ?_ ?_ ?_ ?_ ?_ ?_ ?_ ?_ ?_ ?_ ?_ ?_ ?_ ?_ ?_ ?_ <;>
    (simp only [kernelRun0_A.sl.r_22, kernelRun0_A.sl.r_36, kernelRun0_A.sl.v1074, kernelRun0_A.sl.r_37, kernelRun0_A.sl.v1055, kernelRun0_A.sl.r_33, kernelRun0_A.sl.v1036, kernelRun0_A.sl.r_34, kernelRun0_A.sl.r_35, kernelRun0_A.sl.v1017, kernelRun0_A.sl.r_31, kernelRun0_A.sl.v998, kernelRun0_A.sl.r_32, kernelRun0_A.sl.v979, kernelRun0_A.sl.r_29, kernelRun0_A.sl.v960, kernelRun0_A.sl.r_30, kernelRun0_A.sl.v941, kernelRun0_A.sl.r_26, kernelRun0_A.sl.v922, kernelRun0_A.sl.r_27, kernelRun0_A.sl.r_28, kernelRun0_A.sl.v903, kernelRun0_A.sl.r_24, kernelRun0_A.sl.v884, kernelRun0_A.sl.r_25, kernelRun0_A.sl.v865, kernelRun0_A.sl.r_23, kernelRun0_A.sl.v846, kernelRun0_A.sl.v827, kernelRun0_A.sl.v808, kernelRun0_A.sl.v789, rows_read]; rfl)

/-- The input rows. -/
theorem r_eq : kernelRun0_A.sl.r c arg2 harg2 x0 = shapeCast S256x1024 x0 shapeCasts_S16x16x1024_S256x1024 := by
  simp only [kernelRun0_A.sl.r, View.readAt_eq_ld, Memref.IsWhole.read_unread]
  exact congrArg (fun z : Vec F S16x16x1024 .f32 => shapeCast S256x1024 z shapeCasts_S16x16x1024_S256x1024) (View.ld_unit_zero (by decide) _ x0)

/-- The rows after the mixer. -/
theorem r_38_eq : kernelRun0_A.sl.r_38 c i arg2 harg2 arg4 harg4 arg5 harg5 arg6 harg6 arg14 arg15 x0 x2 x3 x4 = h2V i (bufV x0 x2 x3) x0 x3 x4 := by
  simp only [kernelRun0_A.sl.r_38, kernelRun0_A.sl.r_1, kernelRun0_A.sl.r_11, kernelRun0_A.sl.r_21, r_eq, v244_eq, v495_eq, v778_eq, v1093_eq, View.readAt_eq_ld, Memref.IsWhole.read_unread]
  rfl

/-- … normalised for the feed-forward layer. -/
theorem r_39_eq : kernelRun0_A.sl.r_39 c i arg2 harg2 arg4 harg4 arg5 harg5 arg6 harg6 arg14 arg15 x0 x2 x3 x4 = truncf .bf16 (rmsV (h2V i (bufV x0 x2 x3) x0 x3 x4) (nfV x3)) bitsLt_bf16_f32 := by
  simp only [kernelRun0_A.sl.r_39, kernelRun0_A.sl.r_1, kernelRun0_A.sl.r_11, kernelRun0_A.sl.r_21, r_eq, v244_eq, v495_eq, v778_eq, v1093_eq, View.readAt_eq_ld, Memref.IsWhole.read_unread]
  rfl

/-- The rows after the feed-forward layer. -/
theorem r_58_eq : kernelRun0_A.sl.r_58 c i arg2 harg2 arg4 harg4 arg5 harg5 arg6 harg6 arg7 harg7 arg8 harg8 arg9 harg9 arg14 arg15 x0 x2 x3 x4 x5 x6 x7 = h3V x3 x5 x6 x7 (h2V i (bufV x0 x2 x3) x0 x3 x4) := by
  simp only [kernelRun0_A.sl.r_58, kernelRun0_A.sl.r_54, kernelRun0_A.sl.r_49, kernelRun0_A.sl.r_50, kernelRun0_A.sl.r_51, kernelRun0_A.sl.r_45, kernelRun0_A.sl.r_46, kernelRun0_A.sl.r_47, kernelRun0_A.sl.r_40, kernelRun0_A.sl.r_41, kernelRun0_A.sl.r_42, kernelRun0_A.sl.r_43, kernelRun0_A.sl.r_44, kernelRun0_A.sl.r_48, kernelRun0_A.sl.r_52, kernelRun0_A.sl.r_53, kernelRun0_A.sl.r_55, kernelRun0_A.sl.r_56, kernelRun0_A.sl.r_57, r_38_eq, r_39_eq, v244_eq, v495_eq, v778_eq, v1093_eq, View.readAt_eq_ld, Memref.IsWhole.read_unread]
  rfl

/-- … their embedding gate. -/
theorem r_61_eq : kernelRun0_A.sl.r_61 c i arg2 harg2 arg4 harg4 arg5 harg5 arg6 harg6 arg7 harg7 arg8 harg8 arg9 harg9 arg10 harg10 arg14 arg15 x0 x2 x3 x4 x5 x6 x7 x8 = pleV x3 x8 (h3V x3 x5 x6 x7 (h2V i (bufV x0 x2 x3) x0 x3 x4)) := by
  simp only [kernelRun0_A.sl.r_61, kernelRun0_A.sl.r_58, kernelRun0_A.sl.r_54, kernelRun0_A.sl.r_49, kernelRun0_A.sl.r_50, kernelRun0_A.sl.r_51, kernelRun0_A.sl.r_45, kernelRun0_A.sl.r_46, kernelRun0_A.sl.r_47, kernelRun0_A.sl.r_40, kernelRun0_A.sl.r_41, kernelRun0_A.sl.r_42, kernelRun0_A.sl.r_43, kernelRun0_A.sl.r_44, kernelRun0_A.sl.r_48, kernelRun0_A.sl.r_52, kernelRun0_A.sl.r_53, kernelRun0_A.sl.r_55, kernelRun0_A.sl.r_56, kernelRun0_A.sl.r_57, kernelRun0_A.sl.r_59, kernelRun0_A.sl.r_60, r_38_eq, r_39_eq, v244_eq, v495_eq, v778_eq, v1093_eq, View.readAt_eq_ld, Memref.IsWhole.read_unread]
  rfl

/-- The embedding rows. -/
theorem r_62_eq : kernelRun0_A.sl.r_62 c arg3 harg3 x1 = truncf .bf16 (shapeCast S256x256 (shapeCast S16x16x256 x1 shapeCasts_S1x16x16x256_S16x16x256) shapeCasts_S16x16x256_S256x256) bitsLt_bf16_f32 := by
  simp only [kernelRun0_A.sl.r_62, View.readAt_eq_ld, Memref.IsWhole.read_unread]
  exact congrArg (fun z : Vec F S1x16x16x256 .f32 => truncf .bf16 (shapeCast S256x256 (shapeCast S16x16x256 z shapeCasts_S1x16x16x256_S16x16x256) shapeCasts_S16x16x256_S256x256) bitsLt_bf16_f32) (View.ld_unit_zero (by decide) _ x1)

/-- The result block. -/
theorem out10_eq (hc0 : cond0_0 i) (hc1 : cond0_1 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = yV i (bufV x0 x2 x3) x0 x1 x3 x4 x5 x6 x7 x8 x9 := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1 = [(⟨Rect.unit ![0, 0, 0] S16x16x1024.size inb_S16x16x1024_S16x16x1024_0_0_0, k0_pay1 (kernelRun0_A.sl.r_58 c i arg2 harg2 arg4 harg4 arg5 harg5 arg6 harg6 arg7 harg7 arg8 harg8 arg9 harg9 arg14 arg15 x0 x2 x3 x4 x5 x6 x7) (kernelRun0_A.sl.r_61 c i arg2 harg2 arg4 harg4 arg5 harg5 arg6 harg6 arg7 harg7 arg8 harg8 arg9 harg9 arg10 harg10 arg14 arg15 x0 x2 x3 x4 x5 x6 x7 x8) (kernelRun0_A.sl.r_62 c arg3 harg3 x1) (kernelRun0_A.sl.r_63 c arg11 harg11 x9)⟩ : View.Piece (Elt F) S16x16x1024 .f32)] := rfl
  unfold out0_A_10
  rw [e, View.read_writes_junk_eq_canon, r_58_eq, r_61_eq, r_62_eq]
  simp only [kernelRun0_A.sl.r_63, View.readAt_eq_ld, Memref.IsWhole.read_unread]
  funext y
  canon_tiles x h
  case piece0 =>
    have e : x = y := funext fun a => by
      match a with
      | 0 => exact Fin.ext (by omega)
      | 1 => exact Fin.ext (by omega)
      | 2 => exact Fin.ext (by omega)
    subst e
    rfl

/-- The state block. -/
theorem out11_eq (hc0 : cond0_0 i) (hc1 : cond0_1 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = shapeCast S1x16x15x1024 (stateV (bufV x0 x2 x3)) shapeCasts_S16x15x1024_S1x16x15x1024 := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1 = [(⟨Rect.unit ![0, 0, 0, 0] S1x16x15x1024.size inb_S1x16x15x1024_S1x16x15x1024_0_0_0_0, k0_pay2 (kernelRun0_A.sl.v1313 c arg2 harg2 arg4 harg4 arg5 harg5 arg14 x0 x2 x3)⟩ : View.Piece (Elt F) S1x16x15x1024 .f32)] := rfl
  unfold out0_A_11
  rw [e, View.read_writes_junk_eq_canon]
  simp only [kernelRun0_A.sl.v1313, buf_read]
  funext y
  canon_tiles x h
  case piece0 =>
    have e : x = y := funext fun a => by
      match a with
      | 0 => exact Fin.ext (by omega)
      | 1 => exact Fin.ext (by omega)
      | 2 => exact Fin.ext (by omega)
      | 3 => exact Fin.ext (by omega)
    subst e
    refine congrFun (congrArg (fun z : Vec F S16x15x1024 .f32 => shapeCast S1x16x15x1024 z shapeCasts_S16x15x1024_S1x16x15x1024) (funext fun j => congrArg (bufV x0 x2 x3) (funext fun a => ?_))) x
    match a with
    | 0 => exact Fin.ext (by show 0 + 1 * (j 0 : ℕ) = j 0; omega)
    | 1 => exact Fin.ext (by show 17 + 1 * (j 1 : ℕ) = 17 + (j 1 : ℕ); omega)
    | 2 => exact Fin.ext (by show 0 + 1 * (j 2 : ℕ) = j 2; omega)

end Cert.Kernel3Ideal.Samp
-- ==== Proof.SampGrid.lean ====
/-
  The blocks of the sample pooling call's one grid point as the argument arrays: the input rows, the embeddings, the history,
  and the weights the host packs and casts. So the two result arrays are the layer's outputs and its last rows.
-/
module

public import proofs.«01_k».proof.Proof.SampAt
public import proofs.«01_k».proof.Proof.SampWords
public import Idealize.ShloMosaic.Lib.StableHlo.ReadAt

@[expose] public section

set_option maxRecDepth 16384
set_option maxHeartbeats 4000000

noncomputable section

namespace Cert.Kernel3Ideal.Samp

open Cert.Kernel3Ideal Cert.Kernel3Ideal.Gen Cert.Gla Cert.Pool Idealize.ShloMosaic Idealize.ShloMosaic.TcCoe Idealize.SL.Sem
open Cert.Kernel2Ideal.Pool (PK)

variable (m : (ℓ : Loc nD τ sig) → Buf (Elt Ideal) ℓ)

/-- The windows' block indices. -/
theorem idx : ∀ t : Fin cfg0.N,
    win0_0.index t = ![0, 0, 0] ∧ win0_1.index t = ![0, 0, 0, 0] ∧ win0_2.index t = ![0, 0, 0, 0]
    ∧ win0_3.index t = ![0, 0, 0] ∧ win0_4.index t = ![0, 0, 0, 0] ∧ win0_5.index t = ![0, 0, 0] ∧ win0_6.index t = ![0, 0, 0] ∧ win0_7.index t = ![0, 0, 0]
    ∧ win0_8.index t = ![0, 0, 0] ∧ win0_9.index t = ![0, 0, 0]
    ∧ win0_10.index t = ![0, 0, 0] ∧ win0_11.index t = ![0, 0, 0, 0] :=
  (by decide +kernel : ∀ t : Fin grid0.N, _)

/-- The layer's weights, from the kernel's arguments. -/
def kW (c : Dev nD) : PWts :=
  pwOf (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- Stream `b`'s input rows. -/
def kH (c : Dev nD) (b : Fin 16) : ℕ → Fin 1024 → EReal := shOf (m ((c : Thread nD τ).loc main_arg0)) b

/-- Stream `b`'s embedding rows. -/
def kP (c : Dev nD) (b : Fin 16) : ℕ → Fin 256 → EReal := spOf (m ((c : Thread nD τ).loc main_arg1)) b

/-- Stream `b`'s history rows. -/
def kE (c : Dev nD) (b : Fin 16) : ℕ → Fin 1024 → EReal := seOf (m ((c : Thread nD τ).loc main_arg2)) b

theorem blk0 (c : Dev nD) (t : Fin cfg0.N) (b u : Fin 16) (i : Fin 1024) : iblk m c 0 t (ix3 b u i) = kH m c b u i := by
  unfold kH shOf
  blk_ext [iblk, V, idx t]

theorem blk1 (c : Dev nD) (t : Fin cfg0.N) (b u : Fin 16) (i : Fin 256) : iblk m c 1 t (ix4 0 b u i) = kP m c b u i := by
  unfold kP spOf
  blk_ext [iblk, V, idx t]

theorem blk2 (c : Dev nD) (t : Fin cfg0.N) (b : Fin 16) (j : Fin 15) (i : Fin 1024) : iblk m c 2 t (ix4 0 b j i) = kE m c b j i := by
  unfold kE seOf
  blk_ext [iblk, V, idx t]

theorem host_v24 (c : Dev nD) (g : Fin 4) (i j : Fin 256) : V m c main_v24 (ix4 0 g i j) = (kW m c).wp g i j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem host_v25 (c : Dev nD) (i : Fin 1024) (j : Fin 2816) : V m c main_v25 (ix3 0 i j) = (kW m c).wg i j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem host_v26 (c : Dev nD) (i : Fin 1024) (j : Fin 2816) : V m c main_v26 (ix3 0 i j) = (kW m c).wu i j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem host_v27 (c : Dev nD) (i : Fin 2816) (j : Fin 1024) : V m c main_v27 (ix3 0 i j) = (kW m c).wd i j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem host_v28 (c : Dev nD) (i j : Fin 1024) : V m c main_v28 (ix3 0 i j) = (kW m c).wpg i j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem host_v29 (c : Dev nD) (i : Fin 256) (j : Fin 1024) : V m c main_v29 (ix3 0 i j) = (kW m c).wpp i j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

theorem row_nm (c : Dev nD) (j : Fin 1024) : V m c main_v23 (ix3 0 0 j) = (kW m c).nm j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  after_reads_at

theorem row_nf (c : Dev nD) (j : Fin 1024) : V m c main_v23 (ix3 0 1 j) = (kW m c).nf j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  after_reads_at

theorem row_np (c : Dev nD) (j : Fin 1024) : V m c main_v23 (ix3 0 2 j) = (kW m c).np j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  after_reads_at

theorem row_bp (c : Dev nD) (j : Fin 1024) : V m c main_v23 (ix3 0 3 j) = (kW m c).bp j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  after_reads_at

theorem row_sc (c : Dev nD) (j : Fin 1024) : V m c main_v23 (ix3 0 4 j) = (kW m c).sc j := by
  unfold kW pwOf
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  after_reads_at

theorem blk3 (c : Dev nD) (t : Fin cfg0.N) (i : Fin 8) (j : Fin 1024) : iblk m c 3 t (ix3 0 i j) = V m c main_v23 (ix3 0 i j) := by
  blk_ext [iblk, idx t]

theorem blk4 (c : Dev nD) (t : Fin cfg0.N) (g : Fin 4) (i j : Fin 256) : iblk m c 4 t (ix4 0 g i j) = V m c main_v24 (ix4 0 g i j) := by
  blk_ext [iblk, idx t]

theorem blk5 (c : Dev nD) (t : Fin cfg0.N) (i : Fin 1024) (j : Fin 2816) : iblk m c 5 t (ix3 0 i j) = V m c main_v25 (ix3 0 i j) := by
  blk_ext [iblk, idx t]

theorem blk6 (c : Dev nD) (t : Fin cfg0.N) (i : Fin 1024) (j : Fin 2816) : iblk m c 6 t (ix3 0 i j) = V m c main_v26 (ix3 0 i j) := by
  blk_ext [iblk, idx t]

theorem blk7 (c : Dev nD) (t : Fin cfg0.N) (i : Fin 2816) (j : Fin 1024) : iblk m c 7 t (ix3 0 i j) = V m c main_v27 (ix3 0 i j) := by
  blk_ext [iblk, idx t]

theorem blk8 (c : Dev nD) (t : Fin cfg0.N) (i j : Fin 1024) : iblk m c 8 t (ix3 0 i j) = V m c main_v28 (ix3 0 i j) := by
  blk_ext [iblk, idx t]

theorem blk9 (c : Dev nD) (t : Fin cfg0.N) (i : Fin 256) (j : Fin 1024) : iblk m c 9 t (ix3 0 i j) = V m c main_v29 (ix3 0 i j) := by
  blk_ext [iblk, idx t]

/-- The weight blocks of every point are the layer's weights. -/
theorem pk (c : Dev nD) (t : Fin cfg0.N) :
    PK (kW m c) (iblk m c 3 t) (iblk m c 4 t) (iblk m c 5 t) (iblk m c 6 t) (iblk m c 7 t) (iblk m c 8 t) (iblk m c 9 t) where
  nm j := (blk3 m c t 0 j).trans (row_nm m c j)
  nf j := (blk3 m c t 1 j).trans (row_nf m c j)
  np j := (blk3 m c t 2 j).trans (row_np m c j)
  bp j := (blk3 m c t 3 j).trans (row_bp m c j)
  sc j := (blk3 m c t 4 j).trans (row_sc m c j)
  wp g i j := (blk4 m c t g i j).trans (host_v24 m c g i j)
  wg i j := (blk5 m c t i j).trans (host_v25 m c i j)
  wu i j := (blk6 m c t i j).trans (host_v26 m c i j)
  wd i j := (blk7 m c t i j).trans (host_v27 m c i j)
  wpg i j := (blk8 m c t i j).trans (host_v28 m c i j)
  wpp i j := (blk9 m c t i j).trans (host_v29 m c i j)

/-- The result block of the point. -/
theorem grid_y (c : Dev nD) (t : Fin cfg0.N) (b u : Fin 16) (i : Fin 1024) :
    (outsAt0 m c t).1 (ix3 b u i) = sampT (kW m c) (kE m c b) (kH m c b) (kP m c b) u i := by
  refine Eq.trans ?_ (y_at (pk m c t) (grid0.coords t) (iblk m c 0 t) (iblk m c 1 t) (iblk m c 2 t) b (blk0 m c t b) (blk1 m c t b) (blk2 m c t b) u i)
  simp only [outsAt0]
  rw [out10_eq]

/-- The state block of the point. -/
theorem grid_s (c : Dev nD) (t : Fin cfg0.N) (b : Fin 16) (j : Fin 15) (i : Fin 1024) :
    (outsAt0 m c t).2 (ix4 0 b j i) = padS (kW m c) (kE m c b) (kH m c b) (17 + j) i := by
  refine Eq.trans ?_ (s_at (pk m c t) (iblk m c 0 t) (iblk m c 2 t) b (blk0 m c t b) (blk2 m c t b) j i)
  simp only [outsAt0]
  rw [out11_eq]

theorem out_congr (W : PWts) (c : Dev nD) {b b' : Fin 16} {t t' : ℕ} {i i' : Fin 1024} (hb : b' = b) (ht : t' = t) (hi : i' = i) :
    sampT W (kE m c b) (kH m c b) (kP m c b) t i = sampT W (kE m c b') (kH m c b') (kP m c b') t' i' := by
  subst hb ht hi; rfl

theorem pad_congr (W : PWts) (c : Dev nD) {b b' : Fin 16} {t t' : ℕ} {i i' : Fin 1024} (hb : b' = b) (ht : t' = t) (hi : i' = i) :
    padS W (kE m c b) (kH m c b) t i = padS W (kE m c b') (kH m c b') t' i' := by
  subst hb ht hi; rfl

/-- The output array. -/
theorem final_y (c : Dev nD) : (dats m 0 c).arrAt 10 cfg0.N
    = fun i : S16x16x1024.Idx => sampT (kW m c) (kE m c (i 0)) (kH m c (i 0)) (kP m c (i 0)) (i 1).val (i 2) := by
  refine (dats m 0 c).arrAt_eq_of_covers 10 _ (by decide +kernel) fun t hf y => ?_
  have y0 : (y 0 : ℕ) < 16 := (y 0).isLt
  have y1 : (y 1 : ℕ) < 16 := (y 1).isLt
  have y2 : (y 2 : ℕ) < 1024 := (y 2).isLt
  have ey : y = (ix3 ⟨(y 0 : ℕ), y0⟩ ⟨(y 1 : ℕ), y1⟩ ⟨(y 2 : ℕ), y2⟩ : S16x16x1024.Idx) := by
    funext a; match a with
    | 0 => rfl
    | 1 => rfl
    | 2 => rfl
  have key := grid_y m c t ⟨(y 0 : ℕ), y0⟩ ⟨(y 1 : ℕ), y1⟩ ⟨(y 2 : ℕ), y2⟩
  rw [← ey] at key
  refine (congrFun (after0_10 m c t) y).trans (key.trans ?_)
  refine out_congr m _ c (Fin.ext ?_) ?_ (Fin.ext ?_)
  · blk_simp [idx t]
  · blk_simp [idx t]
  · blk_simp [idx t]

/-- The state array. -/
theorem final_s (c : Dev nD) : (dats m 0 c).arrAt 11 cfg0.N
    = fun i : S1x16x15x1024.Idx => padS (kW m c) (kE m c (i 1)) (kH m c (i 1)) (17 + (i 2).val) (i 3) := by
  refine (dats m 0 c).arrAt_eq_of_covers 11 _ (by decide +kernel) fun t hf y => ?_
  have y0 : (y 0 : ℕ) < 1 := (y 0).isLt
  have y1 : (y 1 : ℕ) < 16 := (y 1).isLt
  have y2 : (y 2 : ℕ) < 15 := (y 2).isLt
  have y3 : (y 3 : ℕ) < 1024 := (y 3).isLt
  have ey : y = (ix4 0 ⟨(y 1 : ℕ), y1⟩ ⟨(y 2 : ℕ), y2⟩ ⟨(y 3 : ℕ), y3⟩ : S1x16x15x1024.Idx) := by
    funext a; match a with
    | 0 => exact Fin.ext (by have := y0; show (y 0 : ℕ) = 0; omega)
    | 1 => rfl
    | 2 => rfl
    | 3 => rfl
  have key := grid_s m c t ⟨(y 1 : ℕ), y1⟩ ⟨(y 2 : ℕ), y2⟩ ⟨(y 3 : ℕ), y3⟩
  rw [← ey] at key
  refine (congrFun (after0_11 m c t) y).trans (key.trans ?_)
  refine pad_congr m _ c (Fin.ext ?_) ?_ (Fin.ext ?_)
  · blk_simp [idx t]
  · blk_simp [idx t]
  · blk_simp [idx t]

end Cert.Kernel3Ideal.Samp
-- ==== Proof.SampRef.lean ====
/-
  What the pooling reference computes on the sample batch, result by result, from its arguments: the history rows and the
  normalised new ones, their running sums, the means over the four windows, and the rest of the layer.
-/
module

public import proofs.«01_k».proof.Proof.Gen.Reference3Ideal.Run
public import proofs.«01_k».proof.Proof.PoolRef
public import proofs.«01_k».proof.Proof.SampSpec

@[expose] public section

set_option maxRecDepth 16384
set_option maxHeartbeats 4000000

noncomputable section

namespace Cert.Reference3Ideal.Samp

open Cert.Reference3Ideal Cert.Reference3Ideal.Gen Cert.Reference3Ideal.Value Cert.Gla Cert.Pool Idealize.ShloMosaic Idealize.ShloMosaic.StableHlo Idealize.ShloMosaic.TcCoe Idealize.SL.Sem

variable (V : Valuation τ sig (Elt Ideal))

/-- The weights among the arguments. -/
def wV : PWts :=
  pwOf (V (Proc.devRef .tc main_arg3)) (V (Proc.devRef .tc main_arg4)) (V (Proc.devRef .tc main_arg5)) (V (Proc.devRef .tc main_arg6))
    (V (Proc.devRef .tc main_arg7)) (V (Proc.devRef .tc main_arg8)) (V (Proc.devRef .tc main_arg9)) (V (Proc.devRef .tc main_arg10))
    (V (Proc.devRef .tc main_arg11)) (V (Proc.devRef .tc main_arg12)) (V (Proc.devRef .tc main_arg13))

/-- Stream `b`'s input rows. -/
def hV (b : Fin 16) : ℕ → Fin 1024 → EReal := shOf (V (Proc.devRef .tc main_arg0)) b
/-- Stream `b`'s rows of the per-layer embedding. -/
def pV (b : Fin 16) : ℕ → Fin 256 → EReal := spOf (V (Proc.devRef .tc main_arg1)) b

theorem hV_at (b : Fin 16) (t : Fin 16) (c : Fin 1024) : (V (Proc.devRef .tc main_arg0) : FVec Ideal S16x16x1024 .f32) (ix3 b t c) = hV V b t c := by
  unfold hV shOf
  exact congrArg (fun z => (V (Proc.devRef .tc main_arg0) : FVec Ideal S16x16x1024 .f32) (ix3 b z c)) (Fin.ext (Nat.mod_eq_of_lt t.isLt).symm)

theorem pV_at (b : Fin 16) (t : Fin 16) (c : Fin 256) : (V (Proc.devRef .tc main_arg1) : FVec Ideal S2x16x16x256 .f32) (ix4 0 b t c) = pV V b t c := by
  unfold pV spOf
  exact congrArg (fun z => (V (Proc.devRef .tc main_arg1) : FVec Ideal S2x16x16x256 .f32) (ix4 0 b z c)) (Fin.ext (Nat.mod_eq_of_lt t.isLt).symm)

/-- Stream `b`'s history rows. -/
def eV (b : Fin 16) : ℕ → Fin 1024 → EReal := seOf (V (Proc.devRef .tc main_arg2)) b

/-- Row `n` of the history rows and the normalised new ones. -/
theorem full_at (b : Fin 16) (n : Fin 31) (c : Fin 1024) :
    (res_main_v19 V : FVec Ideal S16x31x1024 .f32) (ix3 b n c) = padS (wV V) (eV V b) (hV V b) (n + 1) c := by
  unfold padS rms
  rw [if_neg (by omega)]
  by_cases h : (n : ℕ) < 15
  · have e : eV V b ((n : ℕ) + 1 - 1) c = (V (Proc.devRef .tc main_arg2) : FVec Ideal S1x16x15x1024 .f32) (ix4 0 b ⟨n, h⟩ c) :=
      congrArg (fun z => (V (Proc.devRef .tc main_arg2) : FVec Ideal S1x16x15x1024 .f32) (ix4 0 b z c)) (Fin.ext (Nat.mod_eq_of_lt h))
    rw [if_pos (by omega), e]
    pointwise [res_main_v19]
    exact dif_pos h
  · have e : ∀ j, hV V b ((n : ℕ) + 1 - 16) j = (V (Proc.devRef .tc main_arg0) : FVec Ideal S16x16x1024 .f32) (ix3 b ⟨(n : ℕ) - 15, by omega⟩ j) := fun j => by
      rw [show (n : ℕ) + 1 - 16 = (n : ℕ) - 15 by omega]
      exact (hV_at V b ⟨(n : ℕ) - 15, by omega⟩ j).symm
    rw [if_neg (by omega)]
    simp only [e]
    pointwise [res_main_v19]
    exact (dif_neg h).trans rfl

theorem state_at (b : Fin 16) (z : Fin 1) (j : Fin 15) (c : Fin 1024) :
    (broadcastInDim S1x16x15x1024 ![1, 2, 3] bcast_S16x15x1024_S1x16x15x1024_1_2_3 (extractStridedSlice S16x15x1024 ![0, 16, 0] (res_main_v19 V) slices_S16x31x1024_S16x15x1024_0_16_0) : FVec Ideal S1x16x15x1024 .f32) (ix4 z b j c)
      = padS (wV V) (eV V b) (hV V b) (17 + j) c := by
  refine Eq.trans ?_ ((full_at V b ⟨16 + j, by omega⟩ c).trans (by rw [show 16 + (j : ℕ) + 1 = 17 + j by omega]))
  pointwise

/-- The history rows and the new ones. -/
def fullV : S16x31x1024.Idx → EReal := res_main_v19 V

/-- Row `m` of the running sums, a zero row first. -/
theorem run_at (b : Fin 16) (m : Fin 32) (c : Fin 1024) :
    (res_main_v22 V : FVec Ideal S16x32x1024 .f32) (ix3 b m c) = runT (fun n => padS (wV V) (eV V b) (hV V b) n c) m := by
  by_cases h : (m : ℕ) < 1
  · have e : runT (fun n => padS (wV V) (eV V b) (hV V b) n c) m = 0 := by
      rw [show (m : ℕ) = 0 by omega]; exact Finset.sum_range_zero _
    rw [e]
    pointwise [res_main_v22]
    exact dif_pos h
  · have e : runT (fun n => padS (wV V) (eV V b) (hV V b) n c) m = ∑ s : Fin (30 + 1), if (s : ℕ) ≤ (m : ℕ) - 1 then fullV V (ix3 b s c) else 0 := by
      unfold runT
      have ef : ∀ s : Fin (30 + 1), fullV V (ix3 b s c) = padS (wV V) (eV V b) (hV V b) (s + 1) c := fun s => full_at V b s c
      simp only [ef]
      exact (Cert.Reference2Ideal.Pool.sum_le (30 + 1) m (by omega) (by omega) (fun n => padS (wV V) (eV V b) (hV V b) (n + 1) c)).symm
    rw [e, ← Cert.Reference2Ideal.Pool.cumsum_at 16 30 (fullV V) (broadcastInDim S_ ![] bcast_S_S_ (constant S_ .f32 0x00000000#32)) (by pointwise) reduceWindows_S16x31x1024_S16x31x1024_w1s1p0_0_w31s1p30_0_w1s1p0_0 b ⟨(m : ℕ) - 1, by omega⟩ c]
    unfold fullV res_main_v22
    generalize Host.reduceWindowAdd ![1, 31, 1] ![1, 1, 1] ![0, 30, 0] ![0, 0, 0] (res_main_v19 V) _ _ _ = R
    pointwise
    exact dif_neg h

/-- The running sums, a zero row first. -/
def sumsV : S16x32x1024.Idx → EReal := res_main_v22 V

/-- Window `g`'s mean less the row itself, over the layer's rows, given its count `C`. -/
def meanV (g : Fin 4) (b : Fin 16) (t : Fin 16) (c : Fin 1024) : EReal :=
  Ideal.div (runT (fun n => padS (wV V) (eV V b) (hV V b) n c) (16 + t) - runT (fun n => padS (wV V) (eV V b) (hV V b) n c) (16 - win g + t))
    (cntT g (2048 + t)) - padS (wV V) (eV V b) (hV V b) (15 + t + 1) c

/-- The rows a window holds, as the program counts them. -/
theorem cnt_at (w : ℕ) (hw : w < 2 ^ 31) (t : Fin 16) :
    (FloatOps.sitofp .f32 (IntOp.minsi (BitVec.ofNat 32 w) (IntOp.addi ((res_main_v25 V : IVec S16 32) (ix1 t)) 1#32)) : Ideal .f32)
      = (((min w (2048 + (t : ℕ) + 1) : ℕ) : ℝ) : EReal) := by
  have e : IntOp.addi ((res_main_v25 V : IVec S16 32) (ix1 t)) 1#32 = BitVec.ofNat 32 (2048 + (t : ℕ) + 1) := by
    pointwise [res_main_v25]
    show 2048#32 + BitVec.ofNat 32 (t : ℕ) + 1#32 = _
    rw [BitVec.ofNat_add, BitVec.ofNat_add]
  rw [e, Cert.Kernel2Ideal.Pool.word_min _ _ hw (by omega)]
  have e2 : (BitVec.ofNat 32 (min w (2048 + (t : ℕ) + 1))).toInt = (min w (2048 + (t : ℕ) + 1) : ℕ) := WordCmp.toInt_ofNat_of_lt (by omega)
  show (((BitVec.ofNat 32 (min w (2048 + (t : ℕ) + 1))).toInt : ℝ) : EReal) = _
  rw [e2]
  rfl

theorem mean_of (g : Fin 4) (b : Fin 16) (t : Fin 16) (c : Fin 1024) (w : BitVec 32) (hw : w = BitVec.ofNat 32 (win g)) (k : Fin 32) (hk : (k : ℕ) = 16 - win g + t) :
    Ideal.div (sumsV V (ix3 b ⟨16 + t, by omega⟩ c) - sumsV V (ix3 b k c))
        (FloatOps.sitofp (F := Ideal) .f32 (IntOp.minsi w (IntOp.addi ((res_main_v25 V : IVec S16 32) (ix1 t)) 1#32)))
        - fullV V (ix3 b ⟨15 + t, by omega⟩ c)
      = meanV V g b t c := by
  have hb : win g < 2 ^ 31 := by match g with | 0 => decide | 1 => decide | 2 => decide | 3 => decide
  unfold meanV
  rw [← hk, hw]
  exact congrArg₂ (fun x y : EReal => x - y) (congrArg₂ Ideal.div (congrArg₂ (fun x y : EReal => x - y) (run_at V b _ c) (run_at V b k c)) (cnt_at V _ hb t)) (full_at V b _ c)

theorem mix_at (b : Fin 16) (t : Fin 16) (c : Fin 1024) :
    (res_main_v93 V : FVec Ideal S16x16x1024 .f32) (ix3 b t c)
      = hV V b t c + ((∑ i : Fin 256, meanV V ⟨c / 256, by omega⟩ b t ⟨256 * ((c : ℕ) / 256) + i, by omega⟩ * (wV V).wp ⟨c / 256, by omega⟩ i ⟨c % 256, by omega⟩) + (wV V).bp c) * (wV V).sc c := by
  pointwise [res_main_v93]
  refine congrArg₂ (fun x z : EReal => x + (z + (wV V).bp c) * (wV V).sc c) (hV_at V b t c) (Finset.sum_congr rfl fun x _ => ?_)
  refine (mul_comm (G := EReal) _ _).trans (congrArg (fun z : EReal => z * (wV V).wp ⟨c / 256, by omega⟩ x ⟨c % 256, by omega⟩) ?_)
  have hq : (c : ℕ) / 256 < 4 := by omega
  have key : ∀ (g : Fin 4) (j : Fin 1024), (c : ℕ) / 256 = g → (j : ℕ) = 256 * (g : ℕ) + x →
      meanV V g b t j = meanV V ⟨c / 256, by omega⟩ b t ⟨256 * ((c : ℕ) / 256) + x, by omega⟩ := fun g j hg hj => by
    rw [show g = ⟨(c : ℕ) / 256, hq⟩ from Fin.ext hg.symm, show j = ⟨256 * ((c : ℕ) / 256) + x, by omega⟩ from Fin.ext (by show (j : ℕ) = 256 * ((c : ℕ) / 256) + x; omega)]
  by_cases h0 : (c : ℕ) / 256 < 1
  · refine (dif_pos h0).trans ?_
    exact (mean_of V 0 b t ⟨x, by omega⟩ 2#32 rfl ⟨14 + t, by omega⟩ rfl).trans
      (key 0 _ (by show (c : ℕ) / 256 = 0; omega) (by show (((x : ℕ) : ℕ)) = 256 * 0 + x; omega))
  refine (dif_neg h0).trans ?_
  by_cases h1 : (c : ℕ) / 256 - 1 < 1
  · refine (dif_pos h1).trans ?_
    exact (mean_of V 1 b t ⟨256 + x, by omega⟩ 4#32 rfl ⟨12 + t, by omega⟩ rfl).trans
      (key 1 _ (by show (c : ℕ) / 256 = 1; omega) (by show ((256 + (x : ℕ) : ℕ)) = 256 * 1 + x; omega))
  refine (dif_neg h1).trans ?_
  by_cases h2 : (c : ℕ) / 256 - 1 - 1 < 1
  · refine (dif_pos h2).trans ?_
    exact (mean_of V 2 b t ⟨512 + x, by omega⟩ 8#32 rfl ⟨8 + t, by omega⟩ rfl).trans
      (key 2 _ (by show (c : ℕ) / 256 = 2; omega) (by show ((512 + (x : ℕ) : ℕ)) = 256 * 2 + x; omega))
  refine (dif_neg h2).trans ?_
  exact (mean_of V 3 b t ⟨768 + x, by omega⟩ 16#32 rfl ⟨t, by omega⟩ (by show (t : ℕ) = 16 - 16 + t; omega)).trans
    (key 3 _ (by show (c : ℕ) / 256 = 3; omega) (by show ((768 + (x : ℕ) : ℕ)) = 256 * 3 + x; omega))

theorem h2_at (b : Fin 16) (t : Fin 16) (c : Fin 1024) (hW : ∀ c, ∃ r : ℝ, (wV V).nm c = r) (hE : ∀ j c, ∃ r : ℝ, eV V b j c = r) :
    (res_main_v93 V : FVec Ideal S16x16x1024 .f32) (ix3 b t c) = h2S (wV V) (padS (wV V) (eV V b) (hV V b)) (hV V b) t c := by
  have hm : ∀ (g : Fin 4) (j : Fin 1024), meanV V g b t j = devS (padS (wV V) (eV V b) (hV V b)) g t j := fun g j => by
    have hw : win g ≤ 16 := by match g with | 0 => decide | 1 => decide | 2 => decide | 3 => decide
    unfold meanV devS
    rw [div_cnt, show 16 - win g + (t : ℕ) = 16 + t - win g by omega, run_sub _ (fun n => padS_real _ hW _ _ hE n j) g (16 + t) (by omega),
      Nat.add_comm 16 (t : ℕ), show 15 + (t : ℕ) + 1 = t + 16 by omega]
  have e := mix_at V b t c
  simp only [hm] at e
  exact e

theorem n_at (b : Fin 16) (t : Fin 16) (c : Fin 1024) (X : Fin 1024 → EReal)
    (hX : ∀ j, (res_main_v93 V : FVec Ideal S16x16x1024 .f32) (ix3 b t j) = X j) :
    (res_main_v108 V : FVec Ideal S16x16x1024 .f32) (ix3 b t c) = rms (Ideal.ofBits .f32 0x44800000#32) X (wV V).nf c := by
  unfold rms wV pwOf
  simp only [← hX]
  pointwise [res_main_v108]

theorem g_at (b : Fin 16) (t : Fin 16) (c : Fin 2816) (X : Fin 1024 → EReal)
    (hX : ∀ j, (res_main_v93 V : FVec Ideal S16x16x1024 .f32) (ix3 b t j) = X j) :
    (res_main_v111 V : FVec Ideal S16x16x2816 .f32) (ix3 b t c) = ∑ i, rms (Ideal.ofBits .f32 0x44800000#32) X (wV V).nf i * (wV V).wg i c := by
  simp only [← n_at V b t _ X hX]
  unfold wV pwOf
  pointwise [res_main_v111]

theorem h3_at (b : Fin 16) (t : Fin 16) (c : Fin 1024) (X : Fin 1024 → EReal)
    (hX : ∀ j, (res_main_v93 V : FVec Ideal S16x16x1024 .f32) (ix3 b t j) = X j) :
    (res_main_v120 V : FVec Ideal S16x16x1024 .f32) (ix3 b t c) = ph3R (wV V) X c := by
  unfold ph3R pffR silu
  simp only [← g_at V b t _ X hX]
  simp only [← n_at V b t _ X hX]
  rw [← hX]
  unfold wV pwOf
  pointwise [res_main_v120]
  rfl

/-- The result. -/
def outV : FVec Ideal S16x16x1024 .f32 := val3 V (Proc.devRef .tc main_v151)

theorem y_at (b : Fin 16) (t : Fin 16) (c : Fin 1024) (X : Fin 1024 → EReal)
    (hX : ∀ j, (res_main_v120 V : FVec Ideal S16x16x1024 .f32) (ix3 b t j) = X j) :
    outV V (ix3 b t c) = ph4R (wV V) X (pV V b t) c := by
  unfold ph4R rms
  simp only [← hX, ← pV_at]
  unfold wV pwOf
  unfold outV
  rw [val3_main_v151]
  pointwise
  rfl

/-- The reference's result row. -/
theorem ref_y (hW : ∀ c, ∃ r : ℝ, (wV V).nm c = r) (b : Fin 16) (hE : ∀ j c, ∃ r : ℝ, eV V b j c = r) (t : Fin 16) (c : Fin 1024) :
    outV V (ix3 b t c) = sampT (wV V) (eV V b) (hV V b) (pV V b) t c :=
  y_at V b t c _ fun j => h3_at V b t j _ fun j => h2_at V b t j hW hE

end Cert.Reference3Ideal.Samp
-- ==== Proof.SampClaim.lean ====
/-
  The sample pooling call's claim: the kernel's results `Cert.Kernel3Ideal.Samp.final_y` and `final_s` and the reference's
  `Cert.Reference3Ideal.Samp.ref_y` and `state_at` are the same functions of the arguments (`Cert.Pool.sampT` and `padS`)
  when the first layer's gains and the history are finite.
-/
module

public import proofs.«01_k».proof.Defs
public import proofs.«01_k».proof.Proof.Gen.Pre_gains_and_history_finite
public import proofs.«01_k».proof.Proof.SampGrid
public import proofs.«01_k».proof.Proof.SampRef
public import proofs.«01_k».proof.Proof.PoolClaim

@[expose] public section

noncomputable section

set_option maxRecDepth 16384
set_option maxHeartbeats 4000000

namespace Cert.Samp.Proof

open Idealize.ShloMosaic Idealize.ShloMosaic.StableHlo Idealize.ShloMosaic.TcCoe Idealize.SL.Sem

section

variable (m : (ℓ : Loc Cert.Kernel3Ideal.nD Cert.Kernel3Ideal.τ Cert.Kernel3Ideal.sig) → Buf (Elt Ideal) ℓ)
  (h : Cert.Pre_Kernel3Ideal_gains_and_history_finite m) (c : Dev Cert.Kernel3Ideal.nD)

include h

/-- The precondition says that the first layer's gains are real. -/
theorem gains_real (j : Fin 1024) : ∃ r : ℝ, (Cert.Kernel3Ideal.Samp.kW m c).nm j = r := by
  have e := congrFun (h c) (ix2 0 j)
  revert e
  pointwise [Cert.Pre_gains_and_history_finite.fn]
  exact fun e => Cert.Pool.Proof.real_of_abs _ e

/-- … and that the history is. -/
theorem history_real (b : Fin 16) (n : ℕ) (j : Fin 1024) : ∃ r : ℝ, Cert.Kernel3Ideal.Samp.kE m c b n j = r := by
  have e := congrFun (h c) (ix2 ⟨1 + (b * 15 + n % 15), by omega⟩ j)
  revert e
  pointwise [Cert.Pre_gains_and_history_finite.fn]
  intro e
  obtain ⟨r, hr⟩ := Cert.Pool.Proof.real_of_abs _ e
  have q : (⟨n % 15, by omega⟩ : Fin 15) = ⟨((b : ℕ) * 15 + n % 15) % 15, by omega⟩ := Fin.ext (by show n % 15 = _; simp only; omega)
  exact ⟨r, (congrArg (fun z : Fin 15 => m ((c : Thread Cert.Kernel3Ideal.nD Cert.Kernel3Ideal.τ).loc Cert.Kernel3Ideal.main_arg2) (ix4 0 b z j)) q).trans hr⟩

end

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)
  (c : Dev Cert.Kernel3Ideal.nD)

/-- Equal argument buffers give the same weights, rows and history. -/
theorem same_args
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    (h9 : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9))
    (h10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10))
    (h11 : m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11))
    (h12 : m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12))
    (h13 : m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) :
    Cert.Reference3Ideal.Samp.wV (launchContents m' c) = Cert.Kernel3Ideal.Samp.kW m c
      ∧ (∀ b, Cert.Reference3Ideal.Samp.hV (launchContents m' c) b = Cert.Kernel3Ideal.Samp.kH m c b)
      ∧ (∀ b, Cert.Reference3Ideal.Samp.pV (launchContents m' c) b = Cert.Kernel3Ideal.Samp.kP m c b)
      ∧ ∀ b, Cert.Reference3Ideal.Samp.eV (launchContents m' c) b = Cert.Kernel3Ideal.Samp.kE m c b := by
  refine ⟨?_, fun b => congrArg (fun a => Cert.Pool.shOf a b) h0, fun b => congrArg (fun a => Cert.Pool.spOf a b) h1, fun b => congrArg (fun a => Cert.Pool.seOf a b) h2⟩
  show Cert.Pool.pwOf (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) (m' ((c.tc : Thread Cert.Reference3Ideal.nD Cert.Reference3Ideal.τ).loc Cert.Reference3Ideal.main_arg13)) = _
  rw [h3, h4, h5, h6, h7, h8, h9, h10, h11, h12, h13]
  rfl

/-- The kernel and the reference end with equal results. -/
theorem same_results : Cert.algebraic_Kernel3Ideal_Reference3Ideal_pre_gains_and_history_finite := by
  intro m g m' g' pre agree
  refine ⟨_, _, Cert.Kernel3Ideal.Value.run_blocks m g, ?_⟩
  refine (θ_run _ _ _).mono (fun r h c => ?_) (Cert.Reference3Ideal.Value.run m' g')
  obtain ⟨h0, h1, h2, h3, h4, h5, h6, h7, h8, h9, h10, h11, h12, h13⟩ := agree c
  obtain ⟨ew, eh, ep, ee⟩ := same_args m m' c h0 h1 h2 h3 h4 h5 h6 h7 h8 h9 h10 h11 h12 h13
  have hW : ∀ j, ∃ r : ℝ, (Cert.Reference3Ideal.Samp.wV (launchContents m' c)).nm j = r := fun j => by
    rw [ew]; exact gains_real m pre c j
  have hE : ∀ (b : Fin 16) (n : ℕ) (j : Fin 1024), ∃ r : ℝ, Cert.Reference3Ideal.Samp.eV (launchContents m' c) b n j = r := fun b n j => by
    rw [ee]; exact history_real m pre c b n j
  have same_y : ∀ (b t : Fin 16) (j : Fin 1024),
      Cert.Pool.sampT (Cert.Reference3Ideal.Samp.wV (launchContents m' c)) (Cert.Reference3Ideal.Samp.eV (launchContents m' c) b)
          (Cert.Reference3Ideal.Samp.hV (launchContents m' c) b) (Cert.Reference3Ideal.Samp.pV (launchContents m' c) b) t j
        = Cert.Pool.sampT (Cert.Kernel3Ideal.Samp.kW m c) (Cert.Kernel3Ideal.Samp.kE m c b) (Cert.Kernel3Ideal.Samp.kH m c b) (Cert.Kernel3Ideal.Samp.kP m c b) t j := fun b t j => by
    rw [ew, eh, ep, ee]
  have same_s : ∀ (b : Fin 16) (n : ℕ) (j : Fin 1024),
      Cert.Pool.padS (Cert.Reference3Ideal.Samp.wV (launchContents m' c)) (Cert.Reference3Ideal.Samp.eV (launchContents m' c) b) (Cert.Reference3Ideal.Samp.hV (launchContents m' c) b) n j
        = Cert.Pool.padS (Cert.Kernel3Ideal.Samp.kW m c) (Cert.Kernel3Ideal.Samp.kE m c b) (Cert.Kernel3Ideal.Samp.kH m c b) n j := fun b n j => by
    rw [ew, eh, ee]
  refine ⟨(h c).1.trans ?_, (h c).2.1.trans ?_, (h c).2.2⟩
  · rw [← Cert.Reference3Ideal.Value.val3_main_v151]
    refine Eq.trans (funext fun i => ?_) (Cert.Kernel3Ideal.Samp.final_y m c).symm
    rw [show i = ix3 (i 0) (i 1) (i 2) from eq_ix3 i]
    refine (Cert.Reference3Ideal.Samp.ref_y (launchContents m' c) hW (i 0) (hE (i 0)) (i 1) (i 2)).trans ?_
    exact same_y (i 0) (i 1) (i 2)
  · refine Eq.trans (funext fun i => ?_) (Cert.Kernel3Ideal.Samp.final_s m c).symm
    rw [show i = ix4 (i 0) (i 1) (i 2) (i 3) from eq_ix4 i]
    refine (Cert.Reference3Ideal.Samp.state_at (launchContents m' c) (i 1) (i 0) (i 2) (i 3)).trans ?_
    exact same_s (i 1) _ (i 3)

/-- The reference runs and leaves its arguments and counters as they were. -/
theorem frame_ref : Cert.quiescent_Reference3Ideal := fun m g _ =>
  (θ_run _ _ _).mono (fun r h => ⟨fun c => (h c).2.2, sem_eq_zero_of_no_sems (by decide) r.2⟩) (Cert.Reference3Ideal.Value.run m g)

end Cert.Samp.Proof

end
-- ==== Proof.lean ====
/-
  `Cert.Claim`: the frames, and that each kernel and its reference end with the same results. The GLA layer's results are
  `Cert.KernelIdeal.Gla.final_y` and `final_s`, its reference's `Cert.ReferenceIdeal.Gla.ref_y` and `ref_s`: the same
  functions of the arguments (`Cert.Gla.outT` and `stT`). The pooling layer's are in `Cert.Pool.Proof.same_results`,
  those of its sample call in `Cert.Samp.Proof.same_results`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_gains_finite
public import proofs.«01_k».proof.Proof.Gen.Pre_gains_and_history_finite
public import proofs.«01_k».proof.Proof.Grid
public import proofs.«01_k».proof.Proof.RefFinal
public import proofs.«01_k».proof.Proof.PoolClaim
public import proofs.«01_k».proof.Proof.SampClaim
public import Idealize.ShloMosaic.Adequacy
public import Idealize.ShloMosaic.Init

@[expose] public section

noncomputable section

set_option maxRecDepth 16384
set_option maxHeartbeats 4000000

namespace Cert.Proof

open Idealize.ShloMosaic Idealize.ShloMosaic.StableHlo Idealize.ShloMosaic.TcCoe Idealize.SL.Sem

/-- The reference runs and leaves its arguments and counters as they were. -/
theorem frame_ref : Cert.quiescent_ReferenceIdeal := fun m g _ =>
  (θ_run _ _ _).mono (fun r h => ⟨fun c => by
      open Cert.ReferenceIdeal in
      exact ⟨h.2 c main_arg0 (by decide), h.2 c main_arg1 (by decide), h.2 c main_arg2 (by decide), h.2 c main_arg3 (by decide), h.2 c main_arg4 (by decide), h.2 c main_arg5 (by decide), h.2 c main_arg6 (by decide), h.2 c main_arg7 (by decide), h.2 c main_arg8 (by decide), h.2 c main_arg9 (by decide), h.2 c main_arg10 (by decide), h.2 c main_arg11 (by decide), h.2 c main_arg12 (by decide), h.2 c main_arg13 (by decide), h.2 c main_arg14 (by decide), h.2 c main_arg15 (by decide)⟩,
    sem_eq_zero_of_no_sems (by decide) r.2⟩)
    (Cert.ReferenceIdeal.Gla.run_args m g)

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Equal argument buffers give the same weights and sequences. -/
theorem same_args
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Gla.wV (launchContents m' c) = Cert.KernelIdeal.Gla.kW m c
      ∧ (∀ b, Cert.ReferenceIdeal.Gla.hV (launchContents m' c) b = Cert.KernelIdeal.Gla.kH m c b)
      ∧ ∀ b, Cert.ReferenceIdeal.Gla.pV (launchContents m' c) b = Cert.KernelIdeal.Gla.kP m c b := by
  refine ⟨?_, fun b => congrArg (fun a => Cert.Gla.hOf a b) h0, fun b => congrArg (fun a => Cert.Gla.pOf a b) h1⟩
  show Cert.Gla.wOf (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
  rw [h2, h3, h4, h5, h6, h7, h8, h9, h10, h11, h12, h13, h14, h15]
  rfl

end

/-- The kernel and the reference end with equal results. -/
theorem same_results : Cert.algebraic_KernelIdeal_ReferenceIdeal := by
  intro m g m' g' _ agree
  refine ⟨_, _, Cert.KernelIdeal.Value.run_blocks m g, ?_⟩
  refine (θ_run _ _ _).mono (fun r h c => ?_) (Cert.ReferenceIdeal.Gla.run_args m' g')
  obtain ⟨h0, h1, h2, h3, h4, h5, h6, h7, h8, h9, h10, h11, h12, h13, h14, h15⟩ := agree c
  obtain ⟨ew, eh, ep⟩ := same_args m m' c h0 h1 h2 h3 h4 h5 h6 h7 h8 h9 h10 h11 h12 h13 h14 h15
  have same_y : ∀ (b : Fin 4) (t : Fin 4096) (j : Fin 1024),
      Cert.Gla.outT (Cert.ReferenceIdeal.Gla.wV (launchContents m' c)) (Cert.ReferenceIdeal.Gla.hV (launchContents m' c) b)
          (Cert.ReferenceIdeal.Gla.pV (launchContents m' c) b) t j
        = Cert.Gla.outT (Cert.KernelIdeal.Gla.kW m c) (Cert.KernelIdeal.Gla.kH m c b) (Cert.KernelIdeal.Gla.kP m c b) t j := fun b t j => by
    rw [ew, eh, ep]
  have same_s : ∀ (b h : Fin 4) (j : Fin 128) (d : Fin 256),
      Cert.Gla.stT (Cert.ReferenceIdeal.Gla.wV (launchContents m' c)) (Cert.ReferenceIdeal.Gla.hV (launchContents m' c) b) h 64 j d
        = Cert.Gla.stT (Cert.KernelIdeal.Gla.kW m c) (Cert.KernelIdeal.Gla.kH m c b) h 64 j d := fun b h j d => by
    rw [ew, eh]
  refine ⟨(h.1 c Cert.ReferenceIdeal.main_v142 (by decide)).trans ?_, (h.1 c Cert.ReferenceIdeal.main_v143 (by decide)).trans ?_,
    h.2 c Cert.ReferenceIdeal.main_arg0 (by decide), h.2 c Cert.ReferenceIdeal.main_arg1 (by decide), h.2 c Cert.ReferenceIdeal.main_arg2 (by decide), h.2 c Cert.ReferenceIdeal.main_arg3 (by decide), h.2 c Cert.ReferenceIdeal.main_arg4 (by decide), h.2 c Cert.ReferenceIdeal.main_arg5 (by decide), h.2 c Cert.ReferenceIdeal.main_arg6 (by decide), h.2 c Cert.ReferenceIdeal.main_arg7 (by decide), h.2 c Cert.ReferenceIdeal.main_arg8 (by decide), h.2 c Cert.ReferenceIdeal.main_arg9 (by decide), h.2 c Cert.ReferenceIdeal.main_arg10 (by decide), h.2 c Cert.ReferenceIdeal.main_arg11 (by decide), h.2 c Cert.ReferenceIdeal.main_arg12 (by decide), h.2 c Cert.ReferenceIdeal.main_arg13 (by decide), h.2 c Cert.ReferenceIdeal.main_arg14 (by decide), h.2 c Cert.ReferenceIdeal.main_arg15 (by decide)⟩
  · refine Eq.trans (funext fun i => ?_) (Cert.KernelIdeal.Gla.final_y m c).symm
    rw [show i = ix3 (i 0) (i 1) (i 2) from eq_ix3 i]
    refine (Cert.ReferenceIdeal.Gla.ref_y m' c (i 0) (i 1) (i 2)).trans ?_
    exact same_y (i 0) (i 1) (i 2)
  · refine Eq.trans (funext fun i => ?_) (Cert.KernelIdeal.Gla.final_s m c).symm
    rw [show i = ix5 (i 0) (i 1) (i 2) (i 3) (i 4) from eq_ix5 i]
    refine (Cert.ReferenceIdeal.Gla.ref_s m' c (i 0) (i 1) (i 2) (i 3) (i 4)).trans ?_
    exact same_s (i 1) (i 2) (i 3) (i 4)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_gains_finite.Gen.facts, Cert.Pre_gains_and_history_finite.Gen.facts,
  fun m g _ => Cert.Kernel.Gen.frame m g, fun m g _ => Cert.KernelIdeal.Gen.frame m g, frame_ref,
  fun m g _ => Cert.Kernel2.Gen.frame m g, fun m g _ => Cert.Kernel2Ideal.Gen.frame m g, fun m g _ => Cert.Kernel2Ideal.Gen.frame m g,
  Cert.Pool.Proof.frame_ref, fun m g _ => Cert.Pool.Proof.frame_ref m g trivial,
  fun m g _ => Cert.Kernel3.Gen.frame m g, fun m g _ => Cert.Kernel3Ideal.Gen.frame m g, fun m g _ => Cert.Kernel3Ideal.Gen.frame m g,
  Cert.Samp.Proof.frame_ref, fun m g _ => Cert.Samp.Proof.frame_ref m g trivial,
  trivial, same_results, trivial, Cert.Pool.Proof.same_results,
  trivial, Cert.Samp.Proof.same_results⟩

end Cert.Proof

end
